-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_PoolA (m : (ℓ : Loc Cert.PoolA.nD Cert.PoolA.τ Cert.PoolA.sig) → Buf (Elt Bits) ℓ) : Prop :=
  True

def Pre_PoolAIdeal (m : (ℓ : Loc Cert.PoolAIdeal.nD Cert.PoolAIdeal.τ Cert.PoolAIdeal.sig) → Buf (Elt Ideal) ℓ) : Prop :=
  True

def Pre_PoolARefIdeal (m : (ℓ : Loc Cert.PoolARefIdeal.nD Cert.PoolARefIdeal.τ Cert.PoolARefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_all_finite [hPre_all_finite : Cert.Pre_all_finite.Facts] (m : (ℓ : Loc Cert.AttnIdeal.nD Cert.AttnIdeal.τ Cert.AttnIdeal.sig) → Buf (Elt Ideal) ℓ) : Prop :=
  ∀ c : Dev Cert.AttnIdeal.nD,
    (Cert.Pre_all_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_all_finite [hPre_all_finite : Cert.Pre_all_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_all_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_PoolB (m : (ℓ : Loc Cert.PoolB.nD Cert.PoolB.τ Cert.PoolB.sig) → Buf (Elt Bits) ℓ) : Prop :=
  True

def Pre_PoolBIdeal (m : (ℓ : Loc Cert.PoolBIdeal.nD Cert.PoolBIdeal.τ Cert.PoolBIdeal.sig) → Buf (Elt Ideal) ℓ) : Prop :=
  True

def Pre_PoolBIdeal_pool_finite [hPre_pool_finite : Cert.Pre_pool_finite.Facts] (m : (ℓ : Loc Cert.PoolBIdeal.nD Cert.PoolBIdeal.τ Cert.PoolBIdeal.sig) → Buf (Elt Ideal) ℓ) : Prop :=
  ∀ c : Dev Cert.PoolBIdeal.nD,
    (Cert.Pre_pool_finite.fn (F := Ideal) (m ((c.tc : Thread Cert.PoolBIdeal.nD Cert.PoolBIdeal.τ).loc Cert.PoolBIdeal.main_arg0)) (m ((c.tc : Thread Cert.PoolBIdeal.nD Cert.PoolBIdeal.τ).loc Cert.PoolBIdeal.main_arg1))) = (fun _ => 1#1)

def Pre_PoolBRefIdeal (m : (ℓ : Loc Cert.PoolBRefIdeal.nD Cert.PoolBRefIdeal.τ Cert.PoolBRefIdeal.sig) → Buf (Elt Ideal) ℓ) : Prop :=
  True

def Pre_PoolBRefIdeal_pool_finite [hPre_pool_finite : Cert.Pre_pool_finite.Facts] (m : (ℓ : Loc Cert.PoolBRefIdeal.nD Cert.PoolBRefIdeal.τ Cert.PoolBRefIdeal.sig) → Buf (Elt Ideal) ℓ) : Prop :=
  ∀ c : Dev Cert.PoolBRefIdeal.nD,
    (Cert.Pre_pool_finite.fn (F := Ideal) (m ((c.tc : Thread Cert.PoolBRefIdeal.nD Cert.PoolBRefIdeal.τ).loc Cert.PoolBRefIdeal.main_arg0)) (m ((c.tc : Thread Cert.PoolBRefIdeal.nD Cert.PoolBRefIdeal.τ).loc Cert.PoolBRefIdeal.main_arg1))) = (fun _ => 1#1)

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInRefIdeal (m : (ℓ : Loc Cert.NormInRefIdeal.nD Cert.NormInRefIdeal.τ Cert.NormInRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_AttnF (m : (ℓ : Loc Cert.AttnF.nD Cert.AttnF.τ Cert.AttnF.sig) → Buf (Elt Bits) ℓ) : Prop :=
  True

def Pre_AttnFIdeal (m : (ℓ : Loc Cert.AttnFIdeal.nD Cert.AttnFIdeal.τ Cert.AttnFIdeal.sig) → Buf (Elt Ideal) ℓ) : Prop :=
  True

def Pre_AttnFIdeal_attn_finite [hPre_attn_finite : Cert.Pre_attn_finite.Facts] (m : (ℓ : Loc Cert.AttnFIdeal.nD Cert.AttnFIdeal.τ Cert.AttnFIdeal.sig) → Buf (Elt Ideal) ℓ) : Prop :=
  ∀ c : Dev Cert.AttnFIdeal.nD,
    (Cert.Pre_attn_finite.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2))) = (fun _ => 1#1)

def Pre_AttnFRefIdeal (m : (ℓ : Loc Cert.AttnFRefIdeal.nD Cert.AttnFRefIdeal.τ Cert.AttnFRefIdeal.sig) → Buf (Elt Ideal) ℓ) : Prop :=
  True

def Pre_AttnFRefIdeal_attn_finite [hPre_attn_finite : Cert.Pre_attn_finite.Facts] (m : (ℓ : Loc Cert.AttnFRefIdeal.nD Cert.AttnFRefIdeal.τ Cert.AttnFRefIdeal.sig) → Buf (Elt Ideal) ℓ) : Prop :=
  ∀ c : Dev Cert.AttnFRefIdeal.nD,
    (Cert.Pre_attn_finite.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2))) = (fun _ => 1#1)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_PoolA [hPoolA : Cert.PoolA.Facts] : Prop :=
  ∀ (m : (ℓ : Loc Cert.PoolA.nD Cert.PoolA.τ Cert.PoolA.sig) → Buf (Elt Bits) ℓ) (g : Dev Cert.PoolA.nD → PrngReg), Pre_PoolA m →
    θ_run (Cert.PoolA.defs (F := Bits)) (onTc (τ := Cert.PoolA.τ) (Cert.PoolA.main (F := Bits))) ⟨m, fun _ => 0, g⟩ (fun r => (∀ c : Dev Cert.PoolA.nD,
      r.2.mem ((c.tc : Thread Cert.PoolA.nD Cert.PoolA.τ).loc Cert.PoolA.main_arg0) = m ((c.tc : Thread Cert.PoolA.nD Cert.PoolA.τ).loc Cert.PoolA.main_arg0)
      ∧ r.2.mem ((c.tc : Thread Cert.PoolA.nD Cert.PoolA.τ).loc Cert.PoolA.main_arg1) = m ((c.tc : Thread Cert.PoolA.nD Cert.PoolA.τ).loc Cert.PoolA.main_arg1)
      ∧ r.2.mem ((c.tc : Thread Cert.PoolA.nD Cert.PoolA.τ).loc Cert.PoolA.main_arg2) = m ((c.tc : Thread Cert.PoolA.nD Cert.PoolA.τ).loc Cert.PoolA.main_arg2)
      ∧ r.2.mem ((c.tc : Thread Cert.PoolA.nD Cert.PoolA.τ).loc Cert.PoolA.main_arg3) = m ((c.tc : Thread Cert.PoolA.nD Cert.PoolA.τ).loc Cert.PoolA.main_arg3))
      ∧ r.2.sem = fun _ => 0)

def quiescent_PoolAIdeal [hPoolAIdeal : Cert.PoolAIdeal.Facts] : Prop :=
  ∀ (m : (ℓ : Loc Cert.PoolAIdeal.nD Cert.PoolAIdeal.τ Cert.PoolAIdeal.sig) → Buf (Elt Ideal) ℓ) (g : Dev Cert.PoolAIdeal.nD → PrngReg), Pre_PoolAIdeal m →
    θ_run (Cert.PoolAIdeal.defs (F := Ideal)) (onTc (τ := Cert.PoolAIdeal.τ) (Cert.PoolAIdeal.main (F := Ideal))) ⟨m, fun _ => 0, g⟩ (fun r => (∀ c : Dev Cert.PoolAIdeal.nD,
      r.2.mem ((c.tc : Thread Cert.PoolAIdeal.nD Cert.PoolAIdeal.τ).loc Cert.PoolAIdeal.main_arg0) = m ((c.tc : Thread Cert.PoolAIdeal.nD Cert.PoolAIdeal.τ).loc Cert.PoolAIdeal.main_arg0)
      ∧ r.2.mem ((c.tc : Thread Cert.PoolAIdeal.nD Cert.PoolAIdeal.τ).loc Cert.PoolAIdeal.main_arg1) = m ((c.tc : Thread Cert.PoolAIdeal.nD Cert.PoolAIdeal.τ).loc Cert.PoolAIdeal.main_arg1)
      ∧ r.2.mem ((c.tc : Thread Cert.PoolAIdeal.nD Cert.PoolAIdeal.τ).loc Cert.PoolAIdeal.main_arg2) = m ((c.tc : Thread Cert.PoolAIdeal.nD Cert.PoolAIdeal.τ).loc Cert.PoolAIdeal.main_arg2)
      ∧ r.2.mem ((c.tc : Thread Cert.PoolAIdeal.nD Cert.PoolAIdeal.τ).loc Cert.PoolAIdeal.main_arg3) = m ((c.tc : Thread Cert.PoolAIdeal.nD Cert.PoolAIdeal.τ).loc Cert.PoolAIdeal.main_arg3))
      ∧ r.2.sem = fun _ => 0)

def quiescent_PoolARefIdeal [hPoolARefIdeal : Cert.PoolARefIdeal.Facts] : Prop :=
  ∀ (m : (ℓ : Loc Cert.PoolARefIdeal.nD Cert.PoolARefIdeal.τ Cert.PoolARefIdeal.sig) → Buf (Elt Ideal) ℓ) (g : Dev Cert.PoolARefIdeal.nD → PrngReg), Pre_PoolARefIdeal m →
    θ_run (Cert.PoolARefIdeal.defs (F := Ideal)) (onTc (τ := Cert.PoolARefIdeal.τ) (Cert.PoolARefIdeal.main (F := Ideal))) ⟨m, fun _ => 0, g⟩ (fun r => (∀ c : Dev Cert.PoolARefIdeal.nD,
      r.2.mem ((c.tc : Thread Cert.PoolARefIdeal.nD Cert.PoolARefIdeal.τ).loc Cert.PoolARefIdeal.main_arg0) = m ((c.tc : Thread Cert.PoolARefIdeal.nD Cert.PoolARefIdeal.τ).loc Cert.PoolARefIdeal.main_arg0)
      ∧ r.2.mem ((c.tc : Thread Cert.PoolARefIdeal.nD Cert.PoolARefIdeal.τ).loc Cert.PoolARefIdeal.main_arg1) = m ((c.tc : Thread Cert.PoolARefIdeal.nD Cert.PoolARefIdeal.τ).loc Cert.PoolARefIdeal.main_arg1)
      ∧ r.2.mem ((c.tc : Thread Cert.PoolARefIdeal.nD Cert.PoolARefIdeal.τ).loc Cert.PoolARefIdeal.main_arg2) = m ((c.tc : Thread Cert.PoolARefIdeal.nD Cert.PoolARefIdeal.τ).loc Cert.PoolARefIdeal.main_arg2)
      ∧ r.2.mem ((c.tc : Thread Cert.PoolARefIdeal.nD Cert.PoolARefIdeal.τ).loc Cert.PoolARefIdeal.main_arg3) = m ((c.tc : Thread Cert.PoolARefIdeal.nD Cert.PoolARefIdeal.τ).loc Cert.PoolARefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_all_finite [hAttnIdeal : Cert.AttnIdeal.Facts] [hPre_all_finite : Cert.Pre_all_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_all_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_all_finite [hAttnRefIdeal : Cert.AttnRefIdeal.Facts] [hPre_all_finite : Cert.Pre_all_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_all_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_PoolB [hPoolB : Cert.PoolB.Facts] : Prop :=
  ∀ (m : (ℓ : Loc Cert.PoolB.nD Cert.PoolB.τ Cert.PoolB.sig) → Buf (Elt Bits) ℓ) (g : Dev Cert.PoolB.nD → PrngReg), Pre_PoolB m →
    θ_run (Cert.PoolB.defs (F := Bits)) (onTc (τ := Cert.PoolB.τ) (Cert.PoolB.main (F := Bits))) ⟨m, fun _ => 0, g⟩ (fun r => (∀ c : Dev Cert.PoolB.nD,
      r.2.mem ((c.tc : Thread Cert.PoolB.nD Cert.PoolB.τ).loc Cert.PoolB.main_arg0) = m ((c.tc : Thread Cert.PoolB.nD Cert.PoolB.τ).loc Cert.PoolB.main_arg0)
      ∧ r.2.mem ((c.tc : Thread Cert.PoolB.nD Cert.PoolB.τ).loc Cert.PoolB.main_arg1) = m ((c.tc : Thread Cert.PoolB.nD Cert.PoolB.τ).loc Cert.PoolB.main_arg1))
      ∧ r.2.sem = fun _ => 0)

def quiescent_PoolBIdeal [hPoolBIdeal : Cert.PoolBIdeal.Facts] : Prop :=
  ∀ (m : (ℓ : Loc Cert.PoolBIdeal.nD Cert.PoolBIdeal.τ Cert.PoolBIdeal.sig) → Buf (Elt Ideal) ℓ) (g : Dev Cert.PoolBIdeal.nD → PrngReg), Pre_PoolBIdeal m →
    θ_run (Cert.PoolBIdeal.defs (F := Ideal)) (onTc (τ := Cert.PoolBIdeal.τ) (Cert.PoolBIdeal.main (F := Ideal))) ⟨m, fun _ => 0, g⟩ (fun r => (∀ c : Dev Cert.PoolBIdeal.nD,
      r.2.mem ((c.tc : Thread Cert.PoolBIdeal.nD Cert.PoolBIdeal.τ).loc Cert.PoolBIdeal.main_arg0) = m ((c.tc : Thread Cert.PoolBIdeal.nD Cert.PoolBIdeal.τ).loc Cert.PoolBIdeal.main_arg0)
      ∧ r.2.mem ((c.tc : Thread Cert.PoolBIdeal.nD Cert.PoolBIdeal.τ).loc Cert.PoolBIdeal.main_arg1) = m ((c.tc : Thread Cert.PoolBIdeal.nD Cert.PoolBIdeal.τ).loc Cert.PoolBIdeal.main_arg1))
      ∧ r.2.sem = fun _ => 0)

def quiescent_PoolBIdeal_pre_pool_finite [hPoolBIdeal : Cert.PoolBIdeal.Facts] [hPre_pool_finite : Cert.Pre_pool_finite.Facts] : Prop :=
  ∀ (m : (ℓ : Loc Cert.PoolBIdeal.nD Cert.PoolBIdeal.τ Cert.PoolBIdeal.sig) → Buf (Elt Ideal) ℓ) (g : Dev Cert.PoolBIdeal.nD → PrngReg), Pre_PoolBIdeal_pool_finite m →
    θ_run (Cert.PoolBIdeal.defs (F := Ideal)) (onTc (τ := Cert.PoolBIdeal.τ) (Cert.PoolBIdeal.main (F := Ideal))) ⟨m, fun _ => 0, g⟩ (fun r => (∀ c : Dev Cert.PoolBIdeal.nD,
      r.2.mem ((c.tc : Thread Cert.PoolBIdeal.nD Cert.PoolBIdeal.τ).loc Cert.PoolBIdeal.main_arg0) = m ((c.tc : Thread Cert.PoolBIdeal.nD Cert.PoolBIdeal.τ).loc Cert.PoolBIdeal.main_arg0)
      ∧ r.2.mem ((c.tc : Thread Cert.PoolBIdeal.nD Cert.PoolBIdeal.τ).loc Cert.PoolBIdeal.main_arg1) = m ((c.tc : Thread Cert.PoolBIdeal.nD Cert.PoolBIdeal.τ).loc Cert.PoolBIdeal.main_arg1))
      ∧ r.2.sem = fun _ => 0)

def quiescent_PoolBRefIdeal [hPoolBRefIdeal : Cert.PoolBRefIdeal.Facts] : Prop :=
  ∀ (m : (ℓ : Loc Cert.PoolBRefIdeal.nD Cert.PoolBRefIdeal.τ Cert.PoolBRefIdeal.sig) → Buf (Elt Ideal) ℓ) (g : Dev Cert.PoolBRefIdeal.nD → PrngReg), Pre_PoolBRefIdeal m →
    θ_run (Cert.PoolBRefIdeal.defs (F := Ideal)) (onTc (τ := Cert.PoolBRefIdeal.τ) (Cert.PoolBRefIdeal.main (F := Ideal))) ⟨m, fun _ => 0, g⟩ (fun r => (∀ c : Dev Cert.PoolBRefIdeal.nD,
      r.2.mem ((c.tc : Thread Cert.PoolBRefIdeal.nD Cert.PoolBRefIdeal.τ).loc Cert.PoolBRefIdeal.main_arg0) = m ((c.tc : Thread Cert.PoolBRefIdeal.nD Cert.PoolBRefIdeal.τ).loc Cert.PoolBRefIdeal.main_arg0)
      ∧ r.2.mem ((c.tc : Thread Cert.PoolBRefIdeal.nD Cert.PoolBRefIdeal.τ).loc Cert.PoolBRefIdeal.main_arg1) = m ((c.tc : Thread Cert.PoolBRefIdeal.nD Cert.PoolBRefIdeal.τ).loc Cert.PoolBRefIdeal.main_arg1))
      ∧ r.2.sem = fun _ => 0)

def quiescent_PoolBRefIdeal_pre_pool_finite [hPoolBRefIdeal : Cert.PoolBRefIdeal.Facts] [hPre_pool_finite : Cert.Pre_pool_finite.Facts] : Prop :=
  ∀ (m : (ℓ : Loc Cert.PoolBRefIdeal.nD Cert.PoolBRefIdeal.τ Cert.PoolBRefIdeal.sig) → Buf (Elt Ideal) ℓ) (g : Dev Cert.PoolBRefIdeal.nD → PrngReg), Pre_PoolBRefIdeal_pool_finite m →
    θ_run (Cert.PoolBRefIdeal.defs (F := Ideal)) (onTc (τ := Cert.PoolBRefIdeal.τ) (Cert.PoolBRefIdeal.main (F := Ideal))) ⟨m, fun _ => 0, g⟩ (fun r => (∀ c : Dev Cert.PoolBRefIdeal.nD,
      r.2.mem ((c.tc : Thread Cert.PoolBRefIdeal.nD Cert.PoolBRefIdeal.τ).loc Cert.PoolBRefIdeal.main_arg0) = m ((c.tc : Thread Cert.PoolBRefIdeal.nD Cert.PoolBRefIdeal.τ).loc Cert.PoolBRefIdeal.main_arg0)
      ∧ r.2.mem ((c.tc : Thread Cert.PoolBRefIdeal.nD Cert.PoolBRefIdeal.τ).loc Cert.PoolBRefIdeal.main_arg1) = m ((c.tc : Thread Cert.PoolBRefIdeal.nD Cert.PoolBRefIdeal.τ).loc Cert.PoolBRefIdeal.main_arg1))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2)
      ∧ r.2.mem ((c.tc : Thread Cert.NormIn.nD Cert.NormIn.τ).loc Cert.NormIn.main_arg3) = m ((c.tc : Thread Cert.NormIn.nD Cert.NormIn.τ).loc Cert.NormIn.main_arg3)
      ∧ r.2.mem ((c.tc : Thread Cert.NormIn.nD Cert.NormIn.τ).loc Cert.NormIn.main_arg4) = m ((c.tc : Thread Cert.NormIn.nD Cert.NormIn.τ).loc Cert.NormIn.main_arg4))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
      ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1)
      ∧ r.2.mem ((c.tc : Thread Cert.NormInRefIdeal.nD Cert.NormInRefIdeal.τ).loc Cert.NormInRefIdeal.main_arg2) = m ((c.tc : Thread Cert.NormInRefIdeal.nD Cert.NormInRefIdeal.τ).loc Cert.NormInRefIdeal.main_arg2)
      ∧ r.2.mem ((c.tc : Thread Cert.NormInRefIdeal.nD Cert.NormInRefIdeal.τ).loc Cert.NormInRefIdeal.main_arg3) = m ((c.tc : Thread Cert.NormInRefIdeal.nD Cert.NormInRefIdeal.τ).loc Cert.NormInRefIdeal.main_arg3)
      ∧ r.2.mem ((c.tc : Thread Cert.NormInRefIdeal.nD Cert.NormInRefIdeal.τ).loc Cert.NormInRefIdeal.main_arg4) = m ((c.tc : Thread Cert.NormInRefIdeal.nD Cert.NormInRefIdeal.τ).loc Cert.NormInRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2)
      ∧ r.2.mem ((c.tc : Thread Cert.Rope.nD Cert.Rope.τ).loc Cert.Rope.main_arg3) = m ((c.tc : Thread Cert.Rope.nD Cert.Rope.τ).loc Cert.Rope.main_arg3)
      ∧ r.2.mem ((c.tc : Thread Cert.Rope.nD Cert.Rope.τ).loc Cert.Rope.main_arg4) = m ((c.tc : Thread Cert.Rope.nD Cert.Rope.τ).loc Cert.Rope.main_arg4)
      ∧ r.2.mem ((c.tc : Thread Cert.Rope.nD Cert.Rope.τ).loc Cert.Rope.main_arg5) = m ((c.tc : Thread Cert.Rope.nD Cert.Rope.τ).loc Cert.Rope.main_arg5)
      ∧ r.2.mem ((c.tc : Thread Cert.Rope.nD Cert.Rope.τ).loc Cert.Rope.main_arg6) = m ((c.tc : Thread Cert.Rope.nD Cert.Rope.τ).loc Cert.Rope.main_arg6)
      ∧ r.2.mem ((c.tc : Thread Cert.Rope.nD Cert.Rope.τ).loc Cert.Rope.main_arg7) = m ((c.tc : Thread Cert.Rope.nD Cert.Rope.τ).loc Cert.Rope.main_arg7)
      ∧ r.2.mem ((c.tc : Thread Cert.Rope.nD Cert.Rope.τ).loc Cert.Rope.main_arg8) = m ((c.tc : Thread Cert.Rope.nD Cert.Rope.τ).loc Cert.Rope.main_arg8)
      ∧ r.2.mem ((c.tc : Thread Cert.Rope.nD Cert.Rope.τ).loc Cert.Rope.main_arg9) = m ((c.tc : Thread Cert.Rope.nD Cert.Rope.τ).loc Cert.Rope.main_arg9)
      ∧ r.2.mem ((c.tc : Thread Cert.Rope.nD Cert.Rope.τ).loc Cert.Rope.main_arg10) = m ((c.tc : Thread Cert.Rope.nD Cert.Rope.τ).loc Cert.Rope.main_arg10))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
      ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3)
      ∧ r.2.mem ((c.tc : Thread Cert.RopeIdeal.nD Cert.RopeIdeal.τ).loc Cert.RopeIdeal.main_arg4) = m ((c.tc : Thread Cert.RopeIdeal.nD Cert.RopeIdeal.τ).loc Cert.RopeIdeal.main_arg4)
      ∧ r.2.mem ((c.tc : Thread Cert.RopeIdeal.nD Cert.RopeIdeal.τ).loc Cert.RopeIdeal.main_arg5) = m ((c.tc : Thread Cert.RopeIdeal.nD Cert.RopeIdeal.τ).loc Cert.RopeIdeal.main_arg5)
      ∧ r.2.mem ((c.tc : Thread Cert.RopeIdeal.nD Cert.RopeIdeal.τ).loc Cert.RopeIdeal.main_arg6) = m ((c.tc : Thread Cert.RopeIdeal.nD Cert.RopeIdeal.τ).loc Cert.RopeIdeal.main_arg6)
      ∧ r.2.mem ((c.tc : Thread Cert.RopeIdeal.nD Cert.RopeIdeal.τ).loc Cert.RopeIdeal.main_arg7) = m ((c.tc : Thread Cert.RopeIdeal.nD Cert.RopeIdeal.τ).loc Cert.RopeIdeal.main_arg7)
      ∧ r.2.mem ((c.tc : Thread Cert.RopeIdeal.nD Cert.RopeIdeal.τ).loc Cert.RopeIdeal.main_arg8) = m ((c.tc : Thread Cert.RopeIdeal.nD Cert.RopeIdeal.τ).loc Cert.RopeIdeal.main_arg8)
      ∧ r.2.mem ((c.tc : Thread Cert.RopeIdeal.nD Cert.RopeIdeal.τ).loc Cert.RopeIdeal.main_arg9) = m ((c.tc : Thread Cert.RopeIdeal.nD Cert.RopeIdeal.τ).loc Cert.RopeIdeal.main_arg9)
      ∧ r.2.mem ((c.tc : Thread Cert.RopeIdeal.nD Cert.RopeIdeal.τ).loc Cert.RopeIdeal.main_arg10) = m ((c.tc : Thread Cert.RopeIdeal.nD Cert.RopeIdeal.τ).loc Cert.RopeIdeal.main_arg10))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1)
      ∧ r.2.mem ((c.tc : Thread Cert.RopeRefIdeal.nD Cert.RopeRefIdeal.τ).loc Cert.RopeRefIdeal.main_arg2) = m ((c.tc : Thread Cert.RopeRefIdeal.nD Cert.RopeRefIdeal.τ).loc Cert.RopeRefIdeal.main_arg2)
      ∧ r.2.mem ((c.tc : Thread Cert.RopeRefIdeal.nD Cert.RopeRefIdeal.τ).loc Cert.RopeRefIdeal.main_arg3) = m ((c.tc : Thread Cert.RopeRefIdeal.nD Cert.RopeRefIdeal.τ).loc Cert.RopeRefIdeal.main_arg3)
      ∧ r.2.mem ((c.tc : Thread Cert.RopeRefIdeal.nD Cert.RopeRefIdeal.τ).loc Cert.RopeRefIdeal.main_arg4) = m ((c.tc : Thread Cert.RopeRefIdeal.nD Cert.RopeRefIdeal.τ).loc Cert.RopeRefIdeal.main_arg4)
      ∧ r.2.mem ((c.tc : Thread Cert.RopeRefIdeal.nD Cert.RopeRefIdeal.τ).loc Cert.RopeRefIdeal.main_arg5) = m ((c.tc : Thread Cert.RopeRefIdeal.nD Cert.RopeRefIdeal.τ).loc Cert.RopeRefIdeal.main_arg5)
      ∧ r.2.mem ((c.tc : Thread Cert.RopeRefIdeal.nD Cert.RopeRefIdeal.τ).loc Cert.RopeRefIdeal.main_arg6) = m ((c.tc : Thread Cert.RopeRefIdeal.nD Cert.RopeRefIdeal.τ).loc Cert.RopeRefIdeal.main_arg6)
      ∧ r.2.mem ((c.tc : Thread Cert.RopeRefIdeal.nD Cert.RopeRefIdeal.τ).loc Cert.RopeRefIdeal.main_arg7) = m ((c.tc : Thread Cert.RopeRefIdeal.nD Cert.RopeRefIdeal.τ).loc Cert.RopeRefIdeal.main_arg7)
      ∧ r.2.mem ((c.tc : Thread Cert.RopeRefIdeal.nD Cert.RopeRefIdeal.τ).loc Cert.RopeRefIdeal.main_arg8) = m ((c.tc : Thread Cert.RopeRefIdeal.nD Cert.RopeRefIdeal.τ).loc Cert.RopeRefIdeal.main_arg8)
      ∧ r.2.mem ((c.tc : Thread Cert.RopeRefIdeal.nD Cert.RopeRefIdeal.τ).loc Cert.RopeRefIdeal.main_arg9) = m ((c.tc : Thread Cert.RopeRefIdeal.nD Cert.RopeRefIdeal.τ).loc Cert.RopeRefIdeal.main_arg9)
      ∧ r.2.mem ((c.tc : Thread Cert.RopeRefIdeal.nD Cert.RopeRefIdeal.τ).loc Cert.RopeRefIdeal.main_arg10) = m ((c.tc : Thread Cert.RopeRefIdeal.nD Cert.RopeRefIdeal.τ).loc Cert.RopeRefIdeal.main_arg10))
      ∧ r.2.sem = fun _ => 0)

def quiescent_AttnF [hAttnF : Cert.AttnF.Facts] : Prop :=
  ∀ (m : (ℓ : Loc Cert.AttnF.nD Cert.AttnF.τ Cert.AttnF.sig) → Buf (Elt Bits) ℓ) (g : Dev Cert.AttnF.nD → PrngReg), Pre_AttnF m →
    θ_run (Cert.AttnF.defs (F := Bits)) (onTc (τ := Cert.AttnF.τ) (Cert.AttnF.main (F := Bits))) ⟨m, fun _ => 0, g⟩ (fun r => (∀ c : Dev Cert.AttnF.nD,
      r.2.mem ((c.tc : Thread Cert.AttnF.nD Cert.AttnF.τ).loc Cert.AttnF.main_arg0) = m ((c.tc : Thread Cert.AttnF.nD Cert.AttnF.τ).loc Cert.AttnF.main_arg0)
      ∧ r.2.mem ((c.tc : Thread Cert.AttnF.nD Cert.AttnF.τ).loc Cert.AttnF.main_arg1) = m ((c.tc : Thread Cert.AttnF.nD Cert.AttnF.τ).loc Cert.AttnF.main_arg1)
      ∧ r.2.mem ((c.tc : Thread Cert.AttnF.nD Cert.AttnF.τ).loc Cert.AttnF.main_arg2) = m ((c.tc : Thread Cert.AttnF.nD Cert.AttnF.τ).loc Cert.AttnF.main_arg2))
      ∧ r.2.sem = fun _ => 0)

def quiescent_AttnFIdeal [hAttnFIdeal : Cert.AttnFIdeal.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
      ∧ r.2.sem = fun _ => 0)

def quiescent_AttnFIdeal_pre_attn_finite [hAttnFIdeal : Cert.AttnFIdeal.Facts] [hPre_attn_finite : Cert.Pre_attn_finite.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal_attn_finite m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
      ∧ r.2.sem = fun _ => 0)

def quiescent_AttnFRefIdeal [hAttnFRefIdeal : Cert.AttnFRefIdeal.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2))
      ∧ r.2.sem = fun _ => 0)

def quiescent_AttnFRefIdeal_pre_attn_finite [hAttnFRefIdeal : Cert.AttnFRefIdeal.Facts] [hPre_attn_finite : Cert.Pre_attn_finite.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal_attn_finite m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v22) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v19_0)) (v1 : (c : Dev Cert.MixIdeal.nD) → Buf (Elt Ideal) ((c.tc : Thread Cert.MixIdeal.nD Cert.MixIdeal.τ).loc Cert.MixIdeal.main_v19_1)) (v2 : (c : Dev Cert.MixIdeal.nD) → Buf (Elt Ideal) ((c.tc : Thread Cert.MixIdeal.nD Cert.MixIdeal.τ).loc Cert.MixIdeal.main_v19_2)) (v3 : (c : Dev Cert.MixIdeal.nD) → Buf (Elt Ideal) ((c.tc : Thread Cert.MixIdeal.nD Cert.MixIdeal.τ).loc Cert.MixIdeal.main_v19_3)) (v4 : (c : Dev Cert.MixIdeal.nD) → Buf (Elt Ideal) ((c.tc : Thread Cert.MixIdeal.nD Cert.MixIdeal.τ).loc Cert.MixIdeal.main_v19_4)) (v5 : (c : Dev Cert.MixIdeal.nD) → Buf (Elt Ideal) ((c.tc : Thread Cert.MixIdeal.nD Cert.MixIdeal.τ).loc Cert.MixIdeal.main_v19_5)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v19_0) = v0 c
          ∧ r.2.mem ((c.tc : Thread Cert.MixIdeal.nD Cert.MixIdeal.τ).loc Cert.MixIdeal.main_v19_1) = v1 c
          ∧ r.2.mem ((c.tc : Thread Cert.MixIdeal.nD Cert.MixIdeal.τ).loc Cert.MixIdeal.main_v19_2) = v2 c
          ∧ r.2.mem ((c.tc : Thread Cert.MixIdeal.nD Cert.MixIdeal.τ).loc Cert.MixIdeal.main_v19_3) = v3 c
          ∧ r.2.mem ((c.tc : Thread Cert.MixIdeal.nD Cert.MixIdeal.τ).loc Cert.MixIdeal.main_v19_4) = v4 c
          ∧ r.2.mem ((c.tc : Thread Cert.MixIdeal.nD Cert.MixIdeal.τ).loc Cert.MixIdeal.main_v19_5) = v5 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v55) = v0 c
          ∧ r.2.mem ((c.tc : Thread Cert.MixRefIdeal.nD Cert.MixRefIdeal.τ).loc Cert.MixRefIdeal.main_v56) = v1 c
          ∧ r.2.mem ((c.tc : Thread Cert.MixRefIdeal.nD Cert.MixRefIdeal.τ).loc Cert.MixRefIdeal.main_v46) = v2 c
          ∧ r.2.mem ((c.tc : Thread Cert.MixRefIdeal.nD Cert.MixRefIdeal.τ).loc Cert.MixRefIdeal.main_v50) = v3 c
          ∧ r.2.mem ((c.tc : Thread Cert.MixRefIdeal.nD Cert.MixRefIdeal.τ).loc Cert.MixRefIdeal.main_v49) = v4 c
          ∧ r.2.mem ((c.tc : Thread Cert.MixRefIdeal.nD Cert.MixRefIdeal.τ).loc Cert.MixRefIdeal.main_v48) = v5 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def preserves_PoolA_PoolAIdeal : Prop :=
  True

def algebraic_PoolAIdeal_PoolARefIdeal [hPoolAIdeal : Cert.PoolAIdeal.Facts] [hPoolARefIdeal : Cert.PoolARefIdeal.Facts] : Prop :=
  ∀ (m : (ℓ : Loc Cert.PoolAIdeal.nD Cert.PoolAIdeal.τ Cert.PoolAIdeal.sig) → Buf (Elt Ideal) ℓ) (g : Dev Cert.PoolAIdeal.nD → PrngReg)
    (m' : (ℓ : Loc Cert.PoolARefIdeal.nD Cert.PoolARefIdeal.τ Cert.PoolARefIdeal.sig) → Buf (Elt Ideal) ℓ) (g' : Dev Cert.PoolARefIdeal.nD → PrngReg), Pre_PoolAIdeal m →
    (∀ c : Dev Cert.PoolAIdeal.nD,
      m' ((c.tc : Thread Cert.PoolARefIdeal.nD Cert.PoolARefIdeal.τ).loc Cert.PoolARefIdeal.main_arg0) = m ((c.tc : Thread Cert.PoolAIdeal.nD Cert.PoolAIdeal.τ).loc Cert.PoolAIdeal.main_arg0)
      ∧ m' ((c.tc : Thread Cert.PoolARefIdeal.nD Cert.PoolARefIdeal.τ).loc Cert.PoolARefIdeal.main_arg1) = m ((c.tc : Thread Cert.PoolAIdeal.nD Cert.PoolAIdeal.τ).loc Cert.PoolAIdeal.main_arg1)
      ∧ m' ((c.tc : Thread Cert.PoolARefIdeal.nD Cert.PoolARefIdeal.τ).loc Cert.PoolARefIdeal.main_arg2) = m ((c.tc : Thread Cert.PoolAIdeal.nD Cert.PoolAIdeal.τ).loc Cert.PoolAIdeal.main_arg2)
      ∧ m' ((c.tc : Thread Cert.PoolARefIdeal.nD Cert.PoolARefIdeal.τ).loc Cert.PoolARefIdeal.main_arg3) = m ((c.tc : Thread Cert.PoolAIdeal.nD Cert.PoolAIdeal.τ).loc Cert.PoolAIdeal.main_arg3)) →
    ∃ (v0 : (c : Dev Cert.PoolAIdeal.nD) → Buf (Elt Ideal) ((c.tc : Thread Cert.PoolAIdeal.nD Cert.PoolAIdeal.τ).loc Cert.PoolAIdeal.main_v208_0)) (v1 : (c : Dev Cert.PoolAIdeal.nD) → Buf (Elt Ideal) ((c.tc : Thread Cert.PoolAIdeal.nD Cert.PoolAIdeal.τ).loc Cert.PoolAIdeal.main_v208_1)) (v2 : (c : Dev Cert.PoolAIdeal.nD) → Buf (Elt Ideal) ((c.tc : Thread Cert.PoolAIdeal.nD Cert.PoolAIdeal.τ).loc Cert.PoolAIdeal.main_v208_2)),
      θ_run (Cert.PoolAIdeal.defs (F := Ideal)) (onTc (τ := Cert.PoolAIdeal.τ) (Cert.PoolAIdeal.main (F := Ideal))) ⟨m, fun _ => 0, g⟩ (fun r => ∀ c : Dev Cert.PoolAIdeal.nD,
          r.2.mem ((c.tc : Thread Cert.PoolAIdeal.nD Cert.PoolAIdeal.τ).loc Cert.PoolAIdeal.main_v208_0) = v0 c
          ∧ r.2.mem ((c.tc : Thread Cert.PoolAIdeal.nD Cert.PoolAIdeal.τ).loc Cert.PoolAIdeal.main_v208_1) = v1 c
          ∧ r.2.mem ((c.tc : Thread Cert.PoolAIdeal.nD Cert.PoolAIdeal.τ).loc Cert.PoolAIdeal.main_v208_2) = v2 c
          ∧ r.2.mem ((c.tc : Thread Cert.PoolAIdeal.nD Cert.PoolAIdeal.τ).loc Cert.PoolAIdeal.main_arg0) = m ((c.tc : Thread Cert.PoolAIdeal.nD Cert.PoolAIdeal.τ).loc Cert.PoolAIdeal.main_arg0)
          ∧ r.2.mem ((c.tc : Thread Cert.PoolAIdeal.nD Cert.PoolAIdeal.τ).loc Cert.PoolAIdeal.main_arg1) = m ((c.tc : Thread Cert.PoolAIdeal.nD Cert.PoolAIdeal.τ).loc Cert.PoolAIdeal.main_arg1)
          ∧ r.2.mem ((c.tc : Thread Cert.PoolAIdeal.nD Cert.PoolAIdeal.τ).loc Cert.PoolAIdeal.main_arg2) = m ((c.tc : Thread Cert.PoolAIdeal.nD Cert.PoolAIdeal.τ).loc Cert.PoolAIdeal.main_arg2)
          ∧ r.2.mem ((c.tc : Thread Cert.PoolAIdeal.nD Cert.PoolAIdeal.τ).loc Cert.PoolAIdeal.main_arg3) = m ((c.tc : Thread Cert.PoolAIdeal.nD Cert.PoolAIdeal.τ).loc Cert.PoolAIdeal.main_arg3))
      ∧ θ_run (Cert.PoolARefIdeal.defs (F := Ideal)) (onTc (τ := Cert.PoolARefIdeal.τ) (Cert.PoolARefIdeal.main (F := Ideal))) ⟨m', fun _ => 0, g'⟩ (fun r => ∀ c : Dev Cert.PoolARefIdeal.nD,
          r.2.mem ((c.tc : Thread Cert.PoolARefIdeal.nD Cert.PoolARefIdeal.τ).loc Cert.PoolARefIdeal.main_v238) = v0 c
          ∧ r.2.mem ((c.tc : Thread Cert.PoolARefIdeal.nD Cert.PoolARefIdeal.τ).loc Cert.PoolARefIdeal.main_v221) = v1 c
          ∧ r.2.mem ((c.tc : Thread Cert.PoolARefIdeal.nD Cert.PoolARefIdeal.τ).loc Cert.PoolARefIdeal.main_v213) = v2 c
          ∧ r.2.mem ((c.tc : Thread Cert.PoolARefIdeal.nD Cert.PoolARefIdeal.τ).loc Cert.PoolARefIdeal.main_arg0) = m' ((c.tc : Thread Cert.PoolARefIdeal.nD Cert.PoolARefIdeal.τ).loc Cert.PoolARefIdeal.main_arg0)
          ∧ r.2.mem ((c.tc : Thread Cert.PoolARefIdeal.nD Cert.PoolARefIdeal.τ).loc Cert.PoolARefIdeal.main_arg1) = m' ((c.tc : Thread Cert.PoolARefIdeal.nD Cert.PoolARefIdeal.τ).loc Cert.PoolARefIdeal.main_arg1)
          ∧ r.2.mem ((c.tc : Thread Cert.PoolARefIdeal.nD Cert.PoolARefIdeal.τ).loc Cert.PoolARefIdeal.main_arg2) = m' ((c.tc : Thread Cert.PoolARefIdeal.nD Cert.PoolARefIdeal.τ).loc Cert.PoolARefIdeal.main_arg2)
          ∧ r.2.mem ((c.tc : Thread Cert.PoolARefIdeal.nD Cert.PoolARefIdeal.τ).loc Cert.PoolARefIdeal.main_arg3) = m' ((c.tc : Thread Cert.PoolARefIdeal.nD Cert.PoolARefIdeal.τ).loc Cert.PoolARefIdeal.main_arg3))

def preserves_Attn_AttnIdeal : Prop :=
  IdealRules.named_const.Statement Cert.AttnIdeal.κ "lane" .f32 0xF2FC6F7C#32 ⊥

def algebraic_AttnIdeal_AttnRefIdeal_pre_all_finite [hAttnIdeal : Cert.AttnIdeal.Facts] [hAttnRefIdeal : Cert.AttnRefIdeal.Facts] [hPre_all_finite : Cert.Pre_all_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_all_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v61_0)) (v1 : (c : Dev Cert.AttnIdeal.nD) → Buf (Elt Ideal) ((c.tc : Thread Cert.AttnIdeal.nD Cert.AttnIdeal.τ).loc Cert.AttnIdeal.main_v61_1)) (v2 : (c : Dev Cert.AttnIdeal.nD) → Buf (Elt Ideal) ((c.tc : Thread Cert.AttnIdeal.nD Cert.AttnIdeal.τ).loc Cert.AttnIdeal.main_v61_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v61_0) = v0 c
          ∧ r.2.mem ((c.tc : Thread Cert.AttnIdeal.nD Cert.AttnIdeal.τ).loc Cert.AttnIdeal.main_v61_1) = v1 c
          ∧ r.2.mem ((c.tc : Thread Cert.AttnIdeal.nD Cert.AttnIdeal.τ).loc Cert.AttnIdeal.main_v61_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v61) = v0 c
          ∧ r.2.mem ((c.tc : Thread Cert.AttnRefIdeal.nD Cert.AttnRefIdeal.τ).loc Cert.AttnRefIdeal.main_v63) = v1 c
          ∧ r.2.mem ((c.tc : Thread Cert.AttnRefIdeal.nD Cert.AttnRefIdeal.τ).loc Cert.AttnRefIdeal.main_v65) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_PoolB_PoolBIdeal : Prop :=
  True

def algebraic_PoolBIdeal_PoolBRefIdeal_pre_pool_finite [hPoolBIdeal : Cert.PoolBIdeal.Facts] [hPoolBRefIdeal : Cert.PoolBRefIdeal.Facts] [hPre_pool_finite : Cert.Pre_pool_finite.Facts] : Prop :=
  ∀ (m : (ℓ : Loc Cert.PoolBIdeal.nD Cert.PoolBIdeal.τ Cert.PoolBIdeal.sig) → Buf (Elt Ideal) ℓ) (g : Dev Cert.PoolBIdeal.nD → PrngReg)
    (m' : (ℓ : Loc Cert.PoolBRefIdeal.nD Cert.PoolBRefIdeal.τ Cert.PoolBRefIdeal.sig) → Buf (Elt Ideal) ℓ) (g' : Dev Cert.PoolBRefIdeal.nD → PrngReg), Pre_PoolBIdeal_pool_finite m →
    (∀ c : Dev Cert.PoolBIdeal.nD,
      m' ((c.tc : Thread Cert.PoolBRefIdeal.nD Cert.PoolBRefIdeal.τ).loc Cert.PoolBRefIdeal.main_arg0) = m ((c.tc : Thread Cert.PoolBIdeal.nD Cert.PoolBIdeal.τ).loc Cert.PoolBIdeal.main_arg0)
      ∧ m' ((c.tc : Thread Cert.PoolBRefIdeal.nD Cert.PoolBRefIdeal.τ).loc Cert.PoolBRefIdeal.main_arg1) = m ((c.tc : Thread Cert.PoolBIdeal.nD Cert.PoolBIdeal.τ).loc Cert.PoolBIdeal.main_arg1)) →
    ∃ (v0 : (c : Dev Cert.PoolBIdeal.nD) → Buf (Elt Ideal) ((c.tc : Thread Cert.PoolBIdeal.nD Cert.PoolBIdeal.τ).loc Cert.PoolBIdeal.main_v58)),
      θ_run (Cert.PoolBIdeal.defs (F := Ideal)) (onTc (τ := Cert.PoolBIdeal.τ) (Cert.PoolBIdeal.main (F := Ideal))) ⟨m, fun _ => 0, g⟩ (fun r => ∀ c : Dev Cert.PoolBIdeal.nD,
          r.2.mem ((c.tc : Thread Cert.PoolBIdeal.nD Cert.PoolBIdeal.τ).loc Cert.PoolBIdeal.main_v58) = v0 c
          ∧ r.2.mem ((c.tc : Thread Cert.PoolBIdeal.nD Cert.PoolBIdeal.τ).loc Cert.PoolBIdeal.main_arg0) = m ((c.tc : Thread Cert.PoolBIdeal.nD Cert.PoolBIdeal.τ).loc Cert.PoolBIdeal.main_arg0)
          ∧ r.2.mem ((c.tc : Thread Cert.PoolBIdeal.nD Cert.PoolBIdeal.τ).loc Cert.PoolBIdeal.main_arg1) = m ((c.tc : Thread Cert.PoolBIdeal.nD Cert.PoolBIdeal.τ).loc Cert.PoolBIdeal.main_arg1))
      ∧ θ_run (Cert.PoolBRefIdeal.defs (F := Ideal)) (onTc (τ := Cert.PoolBRefIdeal.τ) (Cert.PoolBRefIdeal.main (F := Ideal))) ⟨m', fun _ => 0, g'⟩ (fun r => ∀ c : Dev Cert.PoolBRefIdeal.nD,
          r.2.mem ((c.tc : Thread Cert.PoolBRefIdeal.nD Cert.PoolBRefIdeal.τ).loc Cert.PoolBRefIdeal.main_v274) = v0 c
          ∧ r.2.mem ((c.tc : Thread Cert.PoolBRefIdeal.nD Cert.PoolBRefIdeal.τ).loc Cert.PoolBRefIdeal.main_arg0) = m' ((c.tc : Thread Cert.PoolBRefIdeal.nD Cert.PoolBRefIdeal.τ).loc Cert.PoolBRefIdeal.main_arg0)
          ∧ r.2.mem ((c.tc : Thread Cert.PoolBRefIdeal.nD Cert.PoolBRefIdeal.τ).loc Cert.PoolBRefIdeal.main_arg1) = m' ((c.tc : Thread Cert.PoolBRefIdeal.nD Cert.PoolBRefIdeal.τ).loc Cert.PoolBRefIdeal.main_arg1))

def preserves_NormIn_NormInIdeal : Prop :=
  True

def algebraic_NormInIdeal_NormInRefIdeal [hNormInIdeal : Cert.NormInIdeal.Facts] [hNormInRefIdeal : Cert.NormInRefIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)
      ∧ m' ((c.tc : Thread Cert.NormInRefIdeal.nD Cert.NormInRefIdeal.τ).loc Cert.NormInRefIdeal.main_arg2) = m ((c.tc : Thread Cert.NormInIdeal.nD Cert.NormInIdeal.τ).loc Cert.NormInIdeal.main_arg2)
      ∧ m' ((c.tc : Thread Cert.NormInRefIdeal.nD Cert.NormInRefIdeal.τ).loc Cert.NormInRefIdeal.main_arg3) = m ((c.tc : Thread Cert.NormInIdeal.nD Cert.NormInIdeal.τ).loc Cert.NormInIdeal.main_arg3)
      ∧ m' ((c.tc : Thread Cert.NormInRefIdeal.nD Cert.NormInRefIdeal.τ).loc Cert.NormInRefIdeal.main_arg4) = m ((c.tc : Thread Cert.NormInIdeal.nD Cert.NormInIdeal.τ).loc Cert.NormInIdeal.main_arg4)) →
    ∃ (v0 : (c : Dev Cert.NormInIdeal.nD) → Buf (Elt Ideal) ((c.tc : Thread Cert.NormInIdeal.nD Cert.NormInIdeal.τ).loc Cert.NormInIdeal.main_v4_0)) (v1 : (c : Dev Cert.NormInIdeal.nD) → Buf (Elt Ideal) ((c.tc : Thread Cert.NormInIdeal.nD Cert.NormInIdeal.τ).loc Cert.NormInIdeal.main_v4_1)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v4_0) = v0 c
          ∧ r.2.mem ((c.tc : Thread Cert.NormInIdeal.nD Cert.NormInIdeal.τ).loc Cert.NormInIdeal.main_v4_1) = v1 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
          ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
          ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v36) = v0 c
          ∧ r.2.mem ((c.tc : Thread Cert.NormInRefIdeal.nD Cert.NormInRefIdeal.τ).loc Cert.NormInRefIdeal.main_v19) = v1 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1)
          ∧ r.2.mem ((c.tc : Thread Cert.NormInRefIdeal.nD Cert.NormInRefIdeal.τ).loc Cert.NormInRefIdeal.main_arg2) = m' ((c.tc : Thread Cert.NormInRefIdeal.nD Cert.NormInRefIdeal.τ).loc Cert.NormInRefIdeal.main_arg2)
          ∧ r.2.mem ((c.tc : Thread Cert.NormInRefIdeal.nD Cert.NormInRefIdeal.τ).loc Cert.NormInRefIdeal.main_arg3) = m' ((c.tc : Thread Cert.NormInRefIdeal.nD Cert.NormInRefIdeal.τ).loc Cert.NormInRefIdeal.main_arg3)
          ∧ r.2.mem ((c.tc : Thread Cert.NormInRefIdeal.nD Cert.NormInRefIdeal.τ).loc Cert.NormInRefIdeal.main_arg4) = m' ((c.tc : Thread Cert.NormInRefIdeal.nD Cert.NormInRefIdeal.τ).loc Cert.NormInRefIdeal.main_arg4))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v10_0)) (v1 : (c : Dev Cert.FfnIdeal.nD) → Buf (Elt Ideal) ((c.tc : Thread Cert.FfnIdeal.nD Cert.FfnIdeal.τ).loc Cert.FfnIdeal.main_v10_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10_0) = v0 c
          ∧ r.2.mem ((c.tc : Thread Cert.FfnIdeal.nD Cert.FfnIdeal.τ).loc Cert.FfnIdeal.main_v10_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v11) = v0 c
          ∧ r.2.mem ((c.tc : Thread Cert.FfnRefIdeal.nD Cert.FfnRefIdeal.τ).loc Cert.FfnRefIdeal.main_v14) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)
      ∧ m' ((c.tc : Thread Cert.NormRefIdeal.nD Cert.NormRefIdeal.τ).loc Cert.NormRefIdeal.main_arg6) = m ((c.tc : Thread Cert.NormIdeal.nD Cert.NormIdeal.τ).loc Cert.NormIdeal.main_arg6)) →
    ∃ (v0 : (c : Dev Cert.NormIdeal.nD) → Buf (Elt Ideal) ((c.tc : Thread Cert.NormIdeal.nD Cert.NormIdeal.τ).loc Cert.NormIdeal.main_v12_0)) (v1 : (c : Dev Cert.NormIdeal.nD) → Buf (Elt Ideal) ((c.tc : Thread Cert.NormIdeal.nD Cert.NormIdeal.τ).loc Cert.NormIdeal.main_v12_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v12_0) = v0 c
          ∧ r.2.mem ((c.tc : Thread Cert.NormIdeal.nD Cert.NormIdeal.τ).loc Cert.NormIdeal.main_v12_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v39) = v0 c
          ∧ r.2.mem ((c.tc : Thread Cert.NormRefIdeal.nD Cert.NormRefIdeal.τ).loc Cert.NormRefIdeal.main_v22) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6))

def preserves_Rope_RopeIdeal : Prop :=
  True

def preserves_AttnF_AttnFIdeal : Prop :=
  True

def algebraic_AttnFIdeal_AttnFRefIdeal_pre_attn_finite [hAttnFIdeal : Cert.AttnFIdeal.Facts] [hAttnFRefIdeal : Cert.AttnFRefIdeal.Facts] [hPre_attn_finite : Cert.Pre_attn_finite.Facts] : Prop :=
  ∀ (m : (ℓ : Loc Cert.AttnFIdeal.nD Cert.AttnFIdeal.τ Cert.AttnFIdeal.sig) → Buf (Elt Ideal) ℓ) (g : Dev Cert.AttnFIdeal.nD → PrngReg)
    (m' : (ℓ : Loc Cert.AttnFRefIdeal.nD Cert.AttnFRefIdeal.τ Cert.AttnFRefIdeal.sig) → Buf (Elt Ideal) ℓ) (g' : Dev Cert.AttnFRefIdeal.nD → PrngReg), Pre_AttnFIdeal_attn_finite m →
    (∀ c : Dev Cert.AttnFIdeal.nD,
      m' ((c.tc : Thread Cert.AttnFRefIdeal.nD Cert.AttnFRefIdeal.τ).loc Cert.AttnFRefIdeal.main_arg0) = m ((c.tc : Thread Cert.AttnFIdeal.nD Cert.AttnFIdeal.τ).loc Cert.AttnFIdeal.main_arg0)
      ∧ m' ((c.tc : Thread Cert.AttnFRefIdeal.nD Cert.AttnFRefIdeal.τ).loc Cert.AttnFRefIdeal.main_arg1) = m ((c.tc : Thread Cert.AttnFIdeal.nD Cert.AttnFIdeal.τ).loc Cert.AttnFIdeal.main_arg1)
      ∧ m' ((c.tc : Thread Cert.AttnFRefIdeal.nD Cert.AttnFRefIdeal.τ).loc Cert.AttnFRefIdeal.main_arg2) = m ((c.tc : Thread Cert.AttnFIdeal.nD Cert.AttnFIdeal.τ).loc Cert.AttnFIdeal.main_arg2)) →
    ∃ (v0 : (c : Dev Cert.AttnFIdeal.nD) → Buf (Elt Ideal) ((c.tc : Thread Cert.AttnFIdeal.nD Cert.AttnFIdeal.τ).loc Cert.AttnFIdeal.main_v20_0)) (v1 : (c : Dev Cert.AttnFIdeal.nD) → Buf (Elt Ideal) ((c.tc : Thread Cert.AttnFIdeal.nD Cert.AttnFIdeal.τ).loc Cert.AttnFIdeal.main_v20_1)),
      θ_run (Cert.AttnFIdeal.defs (F := Ideal)) (onTc (τ := Cert.AttnFIdeal.τ) (Cert.AttnFIdeal.main (F := Ideal))) ⟨m, fun _ => 0, g⟩ (fun r => ∀ c : Dev Cert.AttnFIdeal.nD,
          r.2.mem ((c.tc : Thread Cert.AttnFIdeal.nD Cert.AttnFIdeal.τ).loc Cert.AttnFIdeal.main_v20_0) = v0 c
          ∧ r.2.mem ((c.tc : Thread Cert.AttnFIdeal.nD Cert.AttnFIdeal.τ).loc Cert.AttnFIdeal.main_v20_1) = v1 c
          ∧ r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
          ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
          ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2))
      ∧ θ_run (Cert.AttnFRefIdeal.defs (F := Ideal)) (onTc (τ := Cert.AttnFRefIdeal.τ) (Cert.AttnFRefIdeal.main (F := Ideal))) ⟨m', fun _ => 0, g'⟩ (fun r => ∀ c : Dev Cert.AttnFRefIdeal.nD,
          r.2.mem ((c.tc : Thread Cert.AttnFRefIdeal.nD Cert.AttnFRefIdeal.τ).loc Cert.AttnFRefIdeal.main_v20) = v0 c
          ∧ r.2.mem ((c.tc : Thread Cert.AttnFRefIdeal.nD Cert.AttnFRefIdeal.τ).loc Cert.AttnFRefIdeal.main_v38) = v1 c
          ∧ r.2.mem ((c.tc : Thread Cert.AttnFRefIdeal.nD Cert.AttnFRefIdeal.τ).loc Cert.AttnFRefIdeal.main_arg0) = m' ((c.tc : Thread Cert.AttnFRefIdeal.nD Cert.AttnFRefIdeal.τ).loc Cert.AttnFRefIdeal.main_arg0)
          ∧ r.2.mem ((c.tc : Thread Cert.AttnFRefIdeal.nD Cert.AttnFRefIdeal.τ).loc Cert.AttnFRefIdeal.main_arg1) = m' ((c.tc : Thread Cert.AttnFRefIdeal.nD Cert.AttnFRefIdeal.τ).loc Cert.AttnFRefIdeal.main_arg1)
          ∧ r.2.mem ((c.tc : Thread Cert.AttnFRefIdeal.nD Cert.AttnFRefIdeal.τ).loc Cert.AttnFRefIdeal.main_arg2) = m' ((c.tc : Thread Cert.AttnFRefIdeal.nD Cert.AttnFRefIdeal.τ).loc Cert.AttnFRefIdeal.main_arg2))

def Claim : Prop :=
  ∃ (hLoss : Cert.Loss.Facts) (hLossIdeal : Cert.LossIdeal.Facts) (hLossRefIdeal : Cert.LossRefIdeal.Facts) (hMix : Cert.Mix.Facts) (hMixIdeal : Cert.MixIdeal.Facts) (hMixRefIdeal : Cert.MixRefIdeal.Facts) (hPoolA : Cert.PoolA.Facts) (hPoolAIdeal : Cert.PoolAIdeal.Facts) (hPoolARefIdeal : Cert.PoolARefIdeal.Facts) (hAttn : Cert.Attn.Facts) (hAttnIdeal : Cert.AttnIdeal.Facts) (hAttnRefIdeal : Cert.AttnRefIdeal.Facts) (hPoolB : Cert.PoolB.Facts) (hPoolBIdeal : Cert.PoolBIdeal.Facts) (hPoolBRefIdeal : Cert.PoolBRefIdeal.Facts) (hNormIn : Cert.NormIn.Facts) (hNormInIdeal : Cert.NormInIdeal.Facts) (hNormInRefIdeal : Cert.NormInRefIdeal.Facts) (hFfn : Cert.Ffn.Facts) (hFfnIdeal : Cert.FfnIdeal.Facts) (hFfnRefIdeal : Cert.FfnRefIdeal.Facts) (hNorm : Cert.Norm.Facts) (hNormIdeal : Cert.NormIdeal.Facts) (hNormRefIdeal : Cert.NormRefIdeal.Facts) (hRope : Cert.Rope.Facts) (hRopeIdeal : Cert.RopeIdeal.Facts) (hRopeRefIdeal : Cert.RopeRefIdeal.Facts) (hAttnF : Cert.AttnF.Facts) (hAttnFIdeal : Cert.AttnFIdeal.Facts) (hAttnFRefIdeal : Cert.AttnFRefIdeal.Facts) (hPre_all_finite : Cert.Pre_all_finite.Facts) (hPre_pool_finite : Cert.Pre_pool_finite.Facts) (hPre_ffn_finite : Cert.Pre_ffn_finite.Facts) (hPre_attn_finite : Cert.Pre_attn_finite.Facts),
    quiescent_Loss (hLoss := hLoss)
    ∧ quiescent_LossIdeal (hLossIdeal := hLossIdeal)
    ∧ quiescent_LossRefIdeal (hLossRefIdeal := hLossRefIdeal)
    ∧ quiescent_Mix (hMix := hMix)
    ∧ quiescent_MixIdeal (hMixIdeal := hMixIdeal)
    ∧ quiescent_MixRefIdeal (hMixRefIdeal := hMixRefIdeal)
    ∧ quiescent_PoolA (hPoolA := hPoolA)
    ∧ quiescent_PoolAIdeal (hPoolAIdeal := hPoolAIdeal)
    ∧ quiescent_PoolARefIdeal (hPoolARefIdeal := hPoolARefIdeal)
    ∧ quiescent_Attn (hAttn := hAttn)
    ∧ quiescent_AttnIdeal (hAttnIdeal := hAttnIdeal)
    ∧ quiescent_AttnIdeal_pre_all_finite (hAttnIdeal := hAttnIdeal) (hPre_all_finite := hPre_all_finite)
    ∧ quiescent_AttnRefIdeal (hAttnRefIdeal := hAttnRefIdeal)
    ∧ quiescent_AttnRefIdeal_pre_all_finite (hAttnRefIdeal := hAttnRefIdeal) (hPre_all_finite := hPre_all_finite)
    ∧ quiescent_PoolB (hPoolB := hPoolB)
    ∧ quiescent_PoolBIdeal (hPoolBIdeal := hPoolBIdeal)
    ∧ quiescent_PoolBIdeal_pre_pool_finite (hPoolBIdeal := hPoolBIdeal) (hPre_pool_finite := hPre_pool_finite)
    ∧ quiescent_PoolBRefIdeal (hPoolBRefIdeal := hPoolBRefIdeal)
    ∧ quiescent_PoolBRefIdeal_pre_pool_finite (hPoolBRefIdeal := hPoolBRefIdeal) (hPre_pool_finite := hPre_pool_finite)
    ∧ quiescent_NormIn (hNormIn := hNormIn)
    ∧ quiescent_NormInIdeal (hNormInIdeal := hNormInIdeal)
    ∧ quiescent_NormInRefIdeal (hNormInRefIdeal := hNormInRefIdeal)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Norm (hNorm := hNorm)
    ∧ quiescent_NormIdeal (hNormIdeal := hNormIdeal)
    ∧ quiescent_NormRefIdeal (hNormRefIdeal := hNormRefIdeal)
    ∧ quiescent_Rope (hRope := hRope)
    ∧ quiescent_RopeIdeal (hRopeIdeal := hRopeIdeal)
    ∧ quiescent_RopeRefIdeal (hRopeRefIdeal := hRopeRefIdeal)
    ∧ quiescent_AttnF (hAttnF := hAttnF)
    ∧ quiescent_AttnFIdeal (hAttnFIdeal := hAttnFIdeal)
    ∧ quiescent_AttnFIdeal_pre_attn_finite (hAttnFIdeal := hAttnFIdeal) (hPre_attn_finite := hPre_attn_finite)
    ∧ quiescent_AttnFRefIdeal (hAttnFRefIdeal := hAttnFRefIdeal)
    ∧ quiescent_AttnFRefIdeal_pre_attn_finite (hAttnFRefIdeal := hAttnFRefIdeal) (hPre_attn_finite := hPre_attn_finite)
    ∧ preserves_Loss_LossIdeal
    ∧ algebraic_LossIdeal_LossRefIdeal (hLossIdeal := hLossIdeal) (hLossRefIdeal := hLossRefIdeal)
    ∧ preserves_Mix_MixIdeal
    ∧ algebraic_MixIdeal_MixRefIdeal (hMixIdeal := hMixIdeal) (hMixRefIdeal := hMixRefIdeal)
    ∧ preserves_PoolA_PoolAIdeal
    ∧ algebraic_PoolAIdeal_PoolARefIdeal (hPoolAIdeal := hPoolAIdeal) (hPoolARefIdeal := hPoolARefIdeal)
    ∧ preserves_Attn_AttnIdeal
    ∧ algebraic_AttnIdeal_AttnRefIdeal_pre_all_finite (hAttnIdeal := hAttnIdeal) (hAttnRefIdeal := hAttnRefIdeal) (hPre_all_finite := hPre_all_finite)
    ∧ preserves_PoolB_PoolBIdeal
    ∧ algebraic_PoolBIdeal_PoolBRefIdeal_pre_pool_finite (hPoolBIdeal := hPoolBIdeal) (hPoolBRefIdeal := hPoolBRefIdeal) (hPre_pool_finite := hPre_pool_finite)
    ∧ preserves_NormIn_NormInIdeal
    ∧ algebraic_NormInIdeal_NormInRefIdeal (hNormInIdeal := hNormInIdeal) (hNormInRefIdeal := hNormInRefIdeal)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Norm_NormIdeal
    ∧ algebraic_NormIdeal_NormRefIdeal (hNormIdeal := hNormIdeal) (hNormRefIdeal := hNormRefIdeal)
    ∧ preserves_Rope_RopeIdeal
    ∧ preserves_AttnF_AttnFIdeal
    ∧ algebraic_AttnFIdeal_AttnFRefIdeal_pre_attn_finite (hAttnFIdeal := hAttnFIdeal) (hAttnFRefIdeal := hAttnFRefIdeal) (hPre_attn_finite := hPre_attn_finite)
-- ==== Pre_all_finite.lean ====
abbrev S8192x8x64 : Shape := ⟨3, ![8192, 8, 64]⟩
abbrev S8192x2x64 : Shape := ⟨3, ![8192, 2, 64]⟩
abbrev S8192x20x64 : Shape := ⟨3, ![8192, 20, 64]⟩
abbrev S_ : Shape := ⟨0, ![]⟩

class Facts : Prop where
  concatenates_S8192x8x64_S8192x2x64_S8192x2x64_S8192x8x64_S8192x20x64_d1 : Shape.Concatenates [S8192x8x64, S8192x2x64, S8192x2x64, S8192x8x64] S8192x20x64 1
  bcast_S_S8192x20x64 : S_.BroadcastsInDim S8192x20x64 (![] : Fin 0 → Fin S8192x20x64.rank)

variable [Facts]

def fn {F : FTy → Type} [FloatOps F] (main_arg0 : FVec F S8192x8x64 .f32) (main_arg1 : FVec F S8192x2x64 .f32) (main_arg2 : FVec F S8192x2x64 .f32) (main_arg3 : FVec F S8192x8x64 .f32) : IVec S8192x20x64 1 :=
  let main_v0 : FVec F S8192x20x64 .f32 := concatenate S8192x20x64 1 [⟨S8192x8x64, main_arg0⟩, ⟨S8192x2x64, main_arg1⟩, ⟨S8192x2x64, main_arg2⟩, ⟨S8192x8x64, main_arg3⟩] concatenates_S8192x8x64_S8192x2x64_S8192x2x64_S8192x8x64_S8192x20x64_d1
  let main_v1 : FVec F S8192x20x64 .f32 := Host.absf main_v0
  let main_cst : FVec F S_ .f32 := constant S_ .f32 0x7F800000#32
  let main_v2 : FVec F S8192x20x64 .f32 := broadcastInDim S8192x20x64 ![] bcast_S_S8192x20x64 main_cst
  let main_v3 : IVec S8192x20x64 1 := cmpf .olt main_v1 main_v2
  main_v3
-- ==== Pre_attn_finite.lean ====
abbrev S8192x8x64 : Shape := ⟨3, ![8192, 8, 64]⟩
abbrev S8192x2x64 : Shape := ⟨3, ![8192, 2, 64]⟩
abbrev S8192x10x64 : Shape := ⟨3, ![8192, 10, 64]⟩
abbrev S_ : Shape := ⟨0, ![]⟩

class Facts : Prop where
  concatenates_S8192x8x64_S8192x2x64_S8192x10x64_d1 : Shape.Concatenates [S8192x8x64, S8192x2x64] S8192x10x64 1
  bcast_S_S8192x10x64 : S_.BroadcastsInDim S8192x10x64 (![] : Fin 0 → Fin S8192x10x64.rank)

variable [Facts]

def fn {F : FTy → Type} [FloatOps F] (main_arg0 : FVec F S8192x8x64 .f32) (main_arg1 : FVec F S8192x2x64 .f32) (main_arg2 : FVec F S8192x2x64 .f32) : IVec S8192x10x64 1 :=
  let main_v0 : FVec F S8192x10x64 .f32 := (fun a b => concatenate S8192x10x64 1 [⟨S8192x8x64, a⟩, ⟨S8192x2x64, b⟩] concatenates_S8192x8x64_S8192x2x64_S8192x10x64_d1) main_arg0 main_arg1
  let main_v1 : FVec F S8192x10x64 .f32 := Host.absf main_v0
  let main_cst : FVec F S_ .f32 := constant S_ .f32 0x7F800000#32
  let main_v2 : FVec F S8192x10x64 .f32 := broadcastInDim S8192x10x64 ![] bcast_S_S8192x10x64 main_cst
  let main_v3 : IVec S8192x10x64 1 := cmpf .olt main_v1 main_v2
  main_v3
-- ==== Pre_ffn_finite.lean ====
abbrev S8192x1024 : Shape := ⟨2, ![8192, 1024]⟩
abbrev S1024x2816 : Shape := ⟨2, ![1024, 2816]⟩
abbrev S2816x1024 : Shape := ⟨2, ![2816, 1024]⟩
abbrev S22016x1024 : Shape := ⟨2, ![22016, 1024]⟩
abbrev S_ : Shape := ⟨0, ![]⟩

class Facts : Prop where
  transposes_S1024x2816_S2816x1024_1_0 : S1024x2816.Transposes [1, 0] S2816x1024
  concatenates_S8192x1024_S2816x1024_S2816x1024_S8192x1024_S22016x1024_d0 : Shape.Concatenates [S8192x1024, S2816x1024, S2816x1024, S8192x1024] S22016x1024 0
  bcast_S_S22016x1024 : S_.BroadcastsInDim S22016x1024 (![] : Fin 0 → Fin S22016x1024.rank)

variable [Facts]

def fn {F : FTy → Type} [FloatOps F] (main_arg0 : FVec F S8192x1024 .f32) (main_arg1 : FVec F S1024x2816 .f32) (main_arg2 : FVec F S1024x2816 .f32) (main_arg3 : FVec F S2816x1024 .f32) (main_arg4 : FVec F S8192x1024 .f32) : IVec S22016x1024 1 :=
  let main_v0 : FVec F S2816x1024 .f32 := (transpose S2816x1024 [1, 0] · transposes_S1024x2816_S2816x1024_1_0) main_arg2
  let main_v1 : FVec F S22016x1024 .f32 := concatenate S22016x1024 0 [⟨S8192x1024, main_arg0⟩, ⟨S2816x1024, main_v0⟩, ⟨S2816x1024, main_arg3⟩, ⟨S8192x1024, main_arg4⟩] concatenates_S8192x1024_S2816x1024_S2816x1024_S8192x1024_S22016x1024_d0
  let main_v2 : FVec F S22016x1024 .f32 := Host.absf main_v1
  let main_cst : FVec F S_ .f32 := constant S_ .f32 0x7F800000#32
  let main_v3 : FVec F S22016x1024 .f32 := broadcastInDim S22016x1024 ![] bcast_S_S22016x1024 main_cst
  let main_v4 : IVec S22016x1024 1 := cmpf .olt main_v2 main_v3
  main_v4
-- ==== Pre_pool_finite.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)

variable [Facts]

def fn {F : FTy → Type} [FloatOps F] (main_arg0 : FVec F S8192x512 .f32) (main_arg1 : FVec F S8192x512 .f32) : IVec S8192x512 1 :=
  let main_v0 : FVec F S8192x512 .f32 := Host.absf main_arg1
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  main_v2
-- ==== Loss.lean ====
abbrev S8192x1024 : Shape := ⟨2, ![8192, 1024]⟩
abbrev S1x1024 : Shape := ⟨2, ![1, 1024]⟩
abbrev S256x1024 : Shape := ⟨2, ![256, 1024]⟩
abbrev S1024 : Shape := ⟨1, ![1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_7 : BitVec 32 := 0#32
  let v13 : BitVec 1 := Scalar.cmpi .ne v12 c0_i32_7
  v13

def k0_cond2 (i : grid0.Coords) : BitVec 1 :=
  let arg0 : BitVec 32 := BitVec.ofNat 32 (i 0).val
  let c0_i32_8 : BitVec 32 := 0#32
  let v14 : BitVec 1 := Scalar.cmpi .sgt arg0 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S8192x1024 : Shape := ⟨2, ![8192, 1024]⟩
abbrev S_ : Shape := ⟨0, ![]⟩
abbrev S8192 : Shape := ⟨1, ![8192]⟩
abbrev S1024 : Shape := ⟨1, ![1024]⟩
abbrev S1x1024 : Shape := ⟨2, ![1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩
abbrev main_cst_8 : Ref sig .tc := ⟨.hbm, 30, rfl⟩
abbrev main_v19 : Ref sig .tc := ⟨.hbm, 31, rfl⟩
abbrev main_v20 : Ref sig .tc := ⟨.hbm, 32, rfl⟩
abbrev main_cst_9 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== Mix.lean ====
abbrev S8192x512 : Shape := ⟨2, ![8192, 512]⟩
abbrev S8192x256 : Shape := ⟨2, ![8192, 256]⟩
abbrev S8192x6656 : Shape := ⟨2, ![8192, 6656]⟩
abbrev S1x3072 : Shape := ⟨2, ![1, 3072]⟩
abbrev S512x1024 : Shape := ⟨2, ![512, 1024]⟩
abbrev S256x1024 : Shape := ⟨2, ![256, 1024]⟩
abbrev S1024x1024 : Shape := ⟨2, ![1024, 1024]⟩
abbrev S8192x1024 : Shape := ⟨2, ![8192, 1024]⟩
abbrev S512x4x256 : Shape := ⟨3, ![512, 4, 256]⟩
abbrev S4x512x256 : Shape := ⟨3, ![4, 512, 256]⟩
abbrev S256x4x256 : Shape := ⟨3, ![256, 4, 256]⟩
abbrev S4x256x256 : Shape := ⟨3, ![4, 256, 256]⟩
abbrev S4x256x1024 : Shape := ⟨3, ![4, 256, 1024]⟩
abbrev S1x8192x1024 : Shape := ⟨3, ![1, 8192, 1024]⟩
abbrev S3x8192x1024 : Shape := ⟨3, ![3, 8192, 1024]⟩
abbrev S3x256x1024 : Shape := ⟨3, ![3, 256, 1024]⟩
abbrev S256x512 : Shape := ⟨2, ![256, 512]⟩
abbrev S256x6656 : Shape := ⟨2, ![256, 6656]⟩
abbrev S256x256 : Shape := ⟨2, ![256, 256]⟩
abbrev S1x256x1024 : Shape := ⟨3, ![1, 256, 1024]⟩
abbrev S256x3584 : Shape := ⟨2, ![256, 3584]⟩
abbrev S1x512 : Shape := ⟨2, ![1, 512]⟩
abbrev S1x256x512 : Shape := ⟨3, ![1, 256, 512]⟩
abbrev S512 : Shape := ⟨1, ![512]⟩
abbrev S1x256x256 : Shape := ⟨3, ![1, 256, 256]⟩
abbrev S1x512x256 : Shape := ⟨3, ![1, 512, 256]⟩
abbrev S512x256 : Shape := ⟨2, ![512, 256]⟩

abbrev nBuf : Space → Nat
  | .hbm => 35
  | .vmem => 33
  | .smem => 0
  | _ => 0

abbrev bufTy : (tb : Table) → Fin (tcTables nBuf tb) → BufTy
  | .hbm, ⟨0, _⟩ => ⟨S8192x512, .f32⟩
  | .hbm, ⟨1, _⟩ => ⟨S8192x256, .f32⟩
  | .hbm, ⟨2, _⟩ => ⟨S8192x512, .f32⟩
  | .hbm, ⟨3, _⟩ => ⟨S8192x6656, .f32⟩
  | .hbm, ⟨4, _⟩ => ⟨S1x3072, .f32⟩
  | .hbm, ⟨5, _⟩ => ⟨S512x1024, .f32⟩
  | .hbm, ⟨6, _⟩ => ⟨S256x1024, .f32⟩
  | .hbm, ⟨7, _⟩ => ⟨S512x1024, .f32⟩
  | .hbm, ⟨8, _⟩ => ⟨S1024x1024, .f32⟩
  | .hbm, ⟨9, _⟩ => ⟨S8192x1024, .f32⟩
  | .hbm, ⟨10, _⟩ => ⟨S512x4x256, .f32⟩
  | .hbm, ⟨11, _⟩ => ⟨S4x512x256, .f32⟩
  | .hbm, ⟨12, _⟩ => ⟨S4x512x256, .bf16⟩
  | .hbm, ⟨13, _⟩ => ⟨S256x4x256, .f32⟩
  | .hbm, ⟨14, _⟩ => ⟨S4x256x256, .f32⟩
  | .hbm, ⟨15, _⟩ => ⟨S4x256x256, .bf16⟩
  | .hbm, ⟨16, _⟩ => ⟨S512x4x256, .f32⟩
  | .hbm, ⟨17, _⟩ => ⟨S4x512x256, .f32⟩
  | .hbm, ⟨18, _⟩ => ⟨S4x512x256, .bf16⟩
  | .hbm, ⟨19, _⟩ => ⟨S4x256x1024, .f32⟩
  | .hbm, ⟨20, _⟩ => ⟨S4x256x1024, .bf16⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1x8192x1024, .f32⟩
  | .hbm, ⟨25, _⟩ => ⟨S1x8192x1024, .f32⟩
  | .hbm, ⟨26, _⟩ => ⟨S1x8192x1024, .f32⟩
  | .hbm, ⟨27, _⟩ => ⟨S3x8192x1024, .f32⟩
  | .hbm, ⟨28, _⟩ => ⟨S3x8192x1024, .bf16⟩
  | .hbm, ⟨29, _⟩ => ⟨S3x8192x1024, .bf16⟩
  | .hbm, ⟨30, _⟩ => ⟨S8192x6656, .bf16⟩
  | .hbm, ⟨31, _⟩ => ⟨S1x3072, .f32⟩
  | .hbm, ⟨32, _⟩ => ⟨S8192x512, .f32⟩
  | .hbm, ⟨33, _⟩ => ⟨S8192x256, .f32⟩
  | .hbm, ⟨34, _⟩ => ⟨S8192x512, .f32⟩
  | .local _ .vmem, ⟨0, _⟩ => ⟨S256x1024, .f32⟩
  | .local _ .vmem, ⟨1, _⟩ => ⟨S256x1024, .f32⟩
  | .local _ .vmem, ⟨2, _⟩ => ⟨S3x256x1024, .bf16⟩
  | .local _ .vmem, ⟨3, _⟩ => ⟨S3x256x1024, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S1x3072, .f32⟩
  | .local _ .vmem, ⟨17, _⟩ => ⟨S4x512x256, .bf16⟩
  | .local _ .vmem, ⟨18, _⟩ => ⟨S4x256x256, .bf16⟩
  | .local _ .vmem, ⟨19, _⟩ => ⟨S4x512x256, .bf16⟩
  | .local _ .vmem, ⟨20, _⟩ => ⟨S4x256x1024, .bf16⟩
  | .local _ .vmem, ⟨21, _⟩ => ⟨S3x256x1024, .bf16⟩
  | .local _ .vmem, ⟨22, _⟩ => ⟨S3x256x1024, .bf16⟩
  | .local _ .vmem, ⟨23, _⟩ => ⟨S256x6656, .bf16⟩
  | .local _ .vmem, ⟨24, _⟩ => ⟨S256x6656, .bf16⟩
  | .local _ .vmem, ⟨25, _⟩ => ⟨S1x3072, .f32⟩
  | .local _ .vmem, ⟨26, _⟩ => ⟨S256x512, .f32⟩
  | .local _ .vmem, ⟨27, _⟩ => ⟨S256x512, .f32⟩
  | .local _ .vmem, ⟨28, _⟩ => ⟨S256x256, .f32⟩
  | .local _ .vmem, ⟨29, _⟩ => ⟨S256x256, .f32⟩
  | .local _ .vmem, ⟨30, _⟩ => ⟨S256x512, .f32⟩
  | .local _ .vmem, ⟨31, _⟩ => ⟨S256x512, .f32⟩
  | .local _ .vmem, ⟨32, _⟩ => ⟨S256x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v19_2 : Ref sig .tc := ⟨.hbm, 31, rfl⟩
abbrev main_v19_3 : Ref sig .tc := ⟨.hbm, 32, rfl⟩
abbrev main_v19_4 : Ref sig .tc := ⟨.hbm, 33, rfl⟩
abbrev main_v19_5 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v167 : BitVec 1 := Scalar.cmpi .eq arg0 c0_i32
  let v168 : BitVec 32 := Scalar.extui v167
  let c0_i32_107 : BitVec 32 := 0#32
  let v169 : BitVec 1 := Scalar.cmpi .ne v168 c0_i32_107
  v169

def k0_cond2 (i : grid0.Coords) : BitVec 1 :=
  let arg0 : BitVec 32 := BitVec.ofNat 32 (i 0).val
  let c0_i32_108 : BitVec 32 := 0#32
  let v170 : BitVec 1 := Scalar.cmpi .sgt arg0 c0_i32_108
  let v171 : BitVec 32 := Scalar.extui v170
  let c0_i32_109 : BitVec 32 := 0#32
  let v172 : BitVec 1 := Scalar.cmpi .ne v171 c0_i32_109
  v172

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_7 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x512x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x512x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S3x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x6656 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x3072 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MixRefIdeal.lean ====
abbrev S8192x512 : Shape := ⟨2, ![8192, 512]⟩
abbrev S8192x256 : Shape := ⟨2, ![8192, 256]⟩
abbrev S8192x6656 : Shape := ⟨2, ![8192, 6656]⟩
abbrev S1x3072 : Shape := ⟨2, ![1, 3072]⟩
abbrev S512x1024 : Shape := ⟨2, ![512, 1024]⟩
abbrev S256x1024 : Shape := ⟨2, ![256, 1024]⟩
abbrev S1024x1024 : Shape := ⟨2, ![1024, 1024]⟩
abbrev S8192x1024 : Shape := ⟨2, ![8192, 1024]⟩
abbrev S8192x3072 : Shape := ⟨2, ![8192, 3072]⟩
abbrev S_ : Shape := ⟨0, ![]⟩
abbrev S8192x3x1024 : Shape := ⟨3, ![8192, 3, 1024]⟩
abbrev S8192x1x1024 : Shape := ⟨3, ![8192, 1, 1024]⟩
abbrev S3072 : Shape := ⟨1, ![3072]⟩
abbrev S1x8192x1024 : Shape := ⟨3, ![1, 8192, 1024]⟩
abbrev S3x8192x1024 : Shape := ⟨3, ![3, 8192, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x256, .f32⟩
  | .hbm, ⟨2, _⟩ => ⟨S8192x512, .f32⟩
  | .hbm, ⟨3, _⟩ => ⟨S8192x6656, .f32⟩
  | .hbm, ⟨4, _⟩ => ⟨S1x3072, .f32⟩
  | .hbm, ⟨5, _⟩ => ⟨S512x1024, .f32⟩
  | .hbm, ⟨6, _⟩ => ⟨S256x1024, .f32⟩
  | .hbm, ⟨7, _⟩ => ⟨S512x1024, .f32⟩
  | .hbm, ⟨8, _⟩ => ⟨S1024x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x3072, .f32⟩
  | .hbm, ⟨14, _⟩ => ⟨S8192x3072, .f32⟩
  | .hbm, ⟨15, _⟩ => ⟨S8192x3072, .f32⟩
  | .hbm, ⟨16, _⟩ => ⟨S8192x3072, .f32⟩
  | .hbm, ⟨17, _⟩ => ⟨S8192x3072, .f32⟩
  | .hbm, ⟨18, _⟩ => ⟨S_, .f32⟩
  | .hbm, ⟨19, _⟩ => ⟨S8192x3072, .f32⟩
  | .hbm, ⟨20, _⟩ => ⟨S8192x3072, .f32⟩
  | .hbm, ⟨21, _⟩ => ⟨S_, .f32⟩
  | .hbm, ⟨22, _⟩ => ⟨S8192x3072, .f32⟩
  | .hbm, ⟨23, _⟩ => ⟨S8192x3072, .f32⟩
  | .hbm, ⟨24, _⟩ => ⟨S_, .f32⟩
  | .hbm, ⟨25, _⟩ => ⟨S8192x3072, .f32⟩
  | .hbm, ⟨26, _⟩ => ⟨S8192x3072, .f32⟩
  | .hbm, ⟨27, _⟩ => ⟨S8192x3072, .f32⟩
  | .hbm, ⟨28, _⟩ => ⟨S8192x3x1024, .f32⟩
  | .hbm, ⟨29, _⟩ => ⟨S8192x1x1024, .f32⟩
  | .hbm, ⟨30, _⟩ => ⟨S8192x1024, .f32⟩
  | .hbm, ⟨31, _⟩ => ⟨S8192x1024, .f32⟩
  | .hbm, ⟨32, _⟩ => ⟨S8192x1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1x1024, .f32⟩
  | .hbm, ⟨45, _⟩ => ⟨S_, .f32⟩
  | .hbm, ⟨46, _⟩ => ⟨S8192x3x1024, .f32⟩
  | .hbm, ⟨47, _⟩ => ⟨S8192x1024, .f32⟩
  | .hbm, ⟨48, _⟩ => ⟨S8192x1024, .f32⟩
  | .hbm, ⟨49, _⟩ => ⟨S8192x1x1024, .f32⟩
  | .hbm, ⟨50, _⟩ => ⟨S_, .f32⟩
  | .hbm, ⟨51, _⟩ => ⟨S8192x3x1024, .f32⟩
  | .hbm, ⟨52, _⟩ => ⟨S8192x3x1024, .f32⟩
  | .hbm, ⟨53, _⟩ => ⟨S8192x1024, .f32⟩
  | .hbm, ⟨54, _⟩ => ⟨S8192x1024, .f32⟩
  | .hbm, ⟨55, _⟩ => ⟨S8192x1x1024, .f32⟩
  | .hbm, ⟨56, _⟩ => ⟨S_, .f32⟩
  | .hbm, ⟨57, _⟩ => ⟨S8192x3x1024, .f32⟩
  | .hbm, ⟨58, _⟩ => ⟨S8192x3x1024, .f32⟩
  | .hbm, ⟨59, _⟩ => ⟨S8192x3072, .f32⟩
  | .hbm, ⟨60, _⟩ => ⟨S8192x3072, .f32⟩
  | .hbm, ⟨61, _⟩ => ⟨S_, .f32⟩
  | .hbm, ⟨62, _⟩ => ⟨S3072, .f32⟩
  | .hbm, ⟨63, _⟩ => ⟨S1x3072, .f32⟩
  | .hbm, ⟨64, _⟩ => ⟨S_, .f32⟩
  | .hbm, ⟨65, _⟩ => ⟨S8192x6656, .f32⟩
  | .hbm, ⟨66, _⟩ => ⟨S8192x512, .f32⟩
  | .hbm, ⟨67, _⟩ => ⟨S8192x256, .f32⟩
  | .hbm, ⟨68, _⟩ => ⟨S8192x512, .f32⟩
  | .hbm, ⟨69, _⟩ => ⟨S1x8192x1024, .f32⟩
  | .hbm, ⟨70, _⟩ => ⟨S1x8192x1024, .f32⟩
  | .hbm, ⟨71, _⟩ => ⟨S1x8192x1024, .f32⟩
  | .hbm, ⟨72, _⟩ => ⟨S3x8192x1024, .f32⟩
  | .hbm, ⟨73, _⟩ => ⟨S3x8192x1024, .bf16⟩
  | .hbm, ⟨74, _⟩ => ⟨S8192x6656, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== PoolA.lean ====
abbrev S8192x512 : Shape := ⟨2, ![8192, 512]⟩
abbrev S4x128x128 : Shape := ⟨3, ![4, 128, 128]⟩
abbrev S1x512 : Shape := ⟨2, ![1, 512]⟩
abbrev S8192x4x128 : Shape := ⟨3, ![8192, 4, 128]⟩
abbrev S_ : Shape := ⟨0, ![]⟩
abbrev S1x4x128 : Shape := ⟨3, ![1, 4, 128]⟩
abbrev S8193x4x128 : Shape := ⟨3, ![8193, 4, 128]⟩
abbrev S8192 : Shape := ⟨1, ![8192]⟩
abbrev S8192x1 : Shape := ⟨2, ![8192, 1]⟩
abbrev S8192x2 : Shape := ⟨2, ![8192, 2]⟩
abbrev S8192x128 : Shape := ⟨2, ![8192, 128]⟩
abbrev S8192x1x128 : Shape := ⟨3, ![8192, 1, 128]⟩
abbrev S256x512 : Shape := ⟨2, ![256, 512]⟩
abbrev S256x128 : Shape := ⟨2, ![256, 128]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S256x1 : Shape := ⟨2, ![256, 1]⟩

abbrev nBuf : Space → Nat
  | .hbm => 378
  | .vmem => 10
  | .smem => 0
  | _ => 0

abbrev hbmTy0_0 (i : Nat) : BufTy := match i % 128 with
  | 0 => ⟨S8192x512, .f32⟩
  | 1 => ⟨S4x128x128, .f32⟩
  | 2 => ⟨S1x512, .f32⟩
  | 3 => ⟨S8192x512, .f32⟩
  | 4 => ⟨S8192x4x128, .f32⟩
  | 5 => ⟨S_, .f32⟩
  | 6 => ⟨S1x4x128, .f32⟩
  | 7 => ⟨S_, .f32⟩
  | 8 => ⟨S_, .f32⟩
  | 9 => ⟨S8192x4x128, .f32⟩
  | 10 => ⟨S8193x4x128, .f32⟩
  | 11 => ⟨S8192, .i32⟩
  | 12 => ⟨S_, .i32⟩
  | 13 => ⟨S8192, .i32⟩
  | 14 => ⟨S8192, .i32⟩
  | 15 => ⟨S_, .i32⟩
  | 16 => ⟨S_, .i32⟩
  | 17 => ⟨S_, .i32⟩
  | 18 => ⟨S8192, .i32⟩
  | 19 => ⟨S8192, .i32⟩
  | 20 => ⟨S_, .i32⟩
  | 21 => ⟨S8192, .i32⟩
  | 22 => ⟨S8192, .i32⟩
  | 23 => ⟨S_, .i32⟩
  | 24 => ⟨S8192, .i32⟩
  | 25 => ⟨S8192, .i32⟩
  | 26 => ⟨S_, .i32⟩
  | 27 => ⟨S8192, .i32⟩
  | 28 => ⟨S8192, .i32⟩
  | 29 => ⟨S_, .i32⟩
  | 30 => ⟨S_, .i32⟩
  | 31 => ⟨S_, .i32⟩
  | 32 => ⟨S8192, .i32⟩
  | 33 => ⟨S8192, .i32⟩
  | 34 => ⟨S_, .i32⟩
  | 35 => ⟨S8192, .i32⟩
  | 36 => ⟨S8192, .i32⟩
  | 37 => ⟨S_, .i32⟩
  | 38 => ⟨S8192, .i32⟩
  | 39 => ⟨S8192, .i1⟩
  | 40 => ⟨S_, .i32⟩
  | 41 => ⟨S8192, .i32⟩
  | 42 => ⟨S8192, .i32⟩
  | 43 => ⟨S8192, .i32⟩
  | 44 => ⟨S_, .i32⟩
  | 45 => ⟨S8192, .i32⟩
  | 46 => ⟨S8192, .i32⟩
  | 47 => ⟨S8192x1, .i32⟩
  | 48 => ⟨S8192x1, .i32⟩
  | 49 => ⟨S8192x2, .i32⟩
  | 50 => ⟨S8192x128, .f32⟩
  | 51 => ⟨S_, .i32⟩
  | 52 => ⟨S8192, .i32⟩
  | 53 => ⟨S8192, .i1⟩
  | 54 => ⟨S_, .i32⟩
  | 55 => ⟨S8192, .i32⟩
  | 56 => ⟨S8192, .i32⟩
  | 57 => ⟨S8192, .i32⟩
  | 58 => ⟨S_, .i32⟩
  | 59 => ⟨S8192, .i32⟩
  | 60 => ⟨S8192, .i32⟩
  | 61 => ⟨S8192x1, .i32⟩
  | 62 => ⟨S8192x1, .i32⟩
  | 63 => ⟨S8192x2, .i32⟩
  | 64 => ⟨S8192x128, .f32⟩
  | 65 => ⟨S8192x128, .f32⟩
  | 66 => ⟨S8192, .i32⟩
  | 67 => ⟨S_, .i32⟩
  | 68 => ⟨S8192, .i32⟩
  | 69 => ⟨S8192, .i32⟩
  | 70 => ⟨S_, .i32⟩
  | 71 => ⟨S_, .i32⟩
  | 72 => ⟨S_, .i32⟩
  | 73 => ⟨S8192, .i32⟩
  | 74 => ⟨S8192, .i32⟩
  | 75 => ⟨S_, .i32⟩
  | 76 => ⟨S8192, .i32⟩
  | 77 => ⟨S8192, .i32⟩
  | 78 => ⟨S_, .i32⟩
  | 79 => ⟨S8192, .i32⟩
  | 80 => ⟨S8192, .i32⟩
  | 81 => ⟨S_, .i32⟩
  | 82 => ⟨S8192, .i32⟩
  | 83 => ⟨S8192, .i32⟩
  | 84 => ⟨S_, .i32⟩
  | 85 => ⟨S_, .i32⟩
  | 86 => ⟨S_, .i32⟩
  | 87 => ⟨S8192, .i32⟩
  | 88 => ⟨S8192, .i32⟩
  | 89 => ⟨S_, .i32⟩
  | 90 => ⟨S8192, .i32⟩
  | 91 => ⟨S8192, .i32⟩
  | 92 => ⟨S8192, .i32⟩
  | 93 => ⟨S8192, .f32⟩
  | 94 => ⟨S8192x1, .f32⟩
  | 95 => ⟨S8192, .i32⟩
  | 96 => ⟨S_, .i32⟩
  | 97 => ⟨S8192, .i32⟩
  | 98 => ⟨S8192, .i32⟩
  | 99 => ⟨S_, .i32⟩
  | 100 => ⟨S_, .i32⟩
  | 101 => ⟨S_, .i32⟩
  | 102 => ⟨S8192, .i32⟩
  | 103 => ⟨S8192, .i32⟩
  | 104 => ⟨S_, .i32⟩
  | 105 => ⟨S8192, .i32⟩
  | 106 => ⟨S8192, .i32⟩
  | 107 => ⟨S_, .i32⟩
  | 108 => ⟨S8192, .i32⟩
  | 109 => ⟨S8192, .i32⟩
  | 110 => ⟨S_, .i32⟩
  | 111 => ⟨S8192, .i32⟩
  | 112 => ⟨S8192, .i32⟩
  | 113 => ⟨S_, .i32⟩
  | 114 => ⟨S_, .i32⟩
  | 115 => ⟨S_, .i32⟩
  | 116 => ⟨S8192, .i32⟩
  | 117 => ⟨S8192, .i32⟩
  | 118 => ⟨S_, .i32⟩
  | 119 => ⟨S8192, .i32⟩
  | 120 => ⟨S8192, .i32⟩
  | 121 => ⟨S_, .i32⟩
  | 122 => ⟨S8192, .i32⟩
  | 123 => ⟨S8192, .i1⟩
  | 124 => ⟨S_, .i32⟩
  | 125 => ⟨S8192, .i32⟩
  | 126 => ⟨S8192, .i32⟩
  | 127 => ⟨S8192, .i32⟩
  | _ => ⟨S8192x512, .f32⟩

abbrev hbmTy0_1 (i : Nat) : BufTy := match i % 128 with
  | 0 => ⟨S_, .i32⟩
  | 1 => ⟨S8192, .i32⟩
  | 2 => ⟨S8192, .i32⟩
  | 3 => ⟨S8192x1, .i32⟩
  | 4 => ⟨S8192x1, .i32⟩
  | 5 => ⟨S8192x2, .i32⟩
  | 6 => ⟨S8192x128, .f32⟩
  | 7 => ⟨S_, .i32⟩
  | 8 => ⟨S8192, .i32⟩
  | 9 => ⟨S8192, .i1⟩
  | 10 => ⟨S_, .i32⟩
  | 11 => ⟨S8192, .i32⟩
  | 12 => ⟨S8192, .i32⟩
  | 13 => ⟨S8192, .i32⟩
  | 14 => ⟨S_, .i32⟩
  | 15 => ⟨S8192, .i32⟩
  | 16 => ⟨S8192, .i32⟩
  | 17 => ⟨S8192x1, .i32⟩
  | 18 => ⟨S8192x1, .i32⟩
  | 19 => ⟨S8192x2, .i32⟩
  | 20 => ⟨S8192x128, .f32⟩
  | 21 => ⟨S8192x128, .f32⟩
  | 22 => ⟨S8192, .i32⟩
  | 23 => ⟨S_, .i32⟩
  | 24 => ⟨S8192, .i32⟩
  | 25 => ⟨S8192, .i32⟩
  | 26 => ⟨S_, .i32⟩
  | 27 => ⟨S_, .i32⟩
  | 28 => ⟨S_, .i32⟩
  | 29 => ⟨S8192, .i32⟩
  | 30 => ⟨S8192, .i32⟩
  | 31 => ⟨S_, .i32⟩
  | 32 => ⟨S8192, .i32⟩
  | 33 => ⟨S8192, .i32⟩
  | 34 => ⟨S_, .i32⟩
  | 35 => ⟨S8192, .i32⟩
  | 36 => ⟨S8192, .i32⟩
  | 37 => ⟨S_, .i32⟩
  | 38 => ⟨S8192, .i32⟩
  | 39 => ⟨S8192, .i32⟩
  | 40 => ⟨S_, .i32⟩
  | 41 => ⟨S_, .i32⟩
  | 42 => ⟨S_, .i32⟩
  | 43 => ⟨S8192, .i32⟩
  | 44 => ⟨S8192, .i32⟩
  | 45 => ⟨S_, .i32⟩
  | 46 => ⟨S8192, .i32⟩
  | 47 => ⟨S8192, .i32⟩
  | 48 => ⟨S8192, .i32⟩
  | 49 => ⟨S8192, .f32⟩
  | 50 => ⟨S8192x1, .f32⟩
  | 51 => ⟨S8192, .i32⟩
  | 52 => ⟨S_, .i32⟩
  | 53 => ⟨S8192, .i32⟩
  | 54 => ⟨S8192, .i32⟩
  | 55 => ⟨S_, .i32⟩
  | 56 => ⟨S_, .i32⟩
  | 57 => ⟨S_, .i32⟩
  | 58 => ⟨S8192, .i32⟩
  | 59 => ⟨S8192, .i32⟩
  | 60 => ⟨S_, .i32⟩
  | 61 => ⟨S8192, .i32⟩
  | 62 => ⟨S8192, .i32⟩
  | 63 => ⟨S_, .i32⟩
  | 64 => ⟨S8192, .i32⟩
  | 65 => ⟨S8192, .i32⟩
  | 66 => ⟨S_, .i32⟩
  | 67 => ⟨S8192, .i32⟩
  | 68 => ⟨S8192, .i32⟩
  | 69 => ⟨S_, .i32⟩
  | 70 => ⟨S_, .i32⟩
  | 71 => ⟨S_, .i32⟩
  | 72 => ⟨S8192, .i32⟩
  | 73 => ⟨S8192, .i32⟩
  | 74 => ⟨S_, .i32⟩
  | 75 => ⟨S8192, .i32⟩
  | 76 => ⟨S8192, .i32⟩
  | 77 => ⟨S_, .i32⟩
  | 78 => ⟨S8192, .i32⟩
  | 79 => ⟨S8192, .i1⟩
  | 80 => ⟨S_, .i32⟩
  | 81 => ⟨S8192, .i32⟩
  | 82 => ⟨S8192, .i32⟩
  | 83 => ⟨S8192, .i32⟩
  | 84 => ⟨S_, .i32⟩
  | 85 => ⟨S8192, .i32⟩
  | 86 => ⟨S8192, .i32⟩
  | 87 => ⟨S8192x1, .i32⟩
  | 88 => ⟨S8192x1, .i32⟩
  | 89 => ⟨S8192x2, .i32⟩
  | 90 => ⟨S8192x128, .f32⟩
  | 91 => ⟨S_, .i32⟩
  | 92 => ⟨S8192, .i32⟩
  | 93 => ⟨S8192, .i1⟩
  | 94 => ⟨S_, .i32⟩
  | 95 => ⟨S8192, .i32⟩
  | 96 => ⟨S8192, .i32⟩
  | 97 => ⟨S8192, .i32⟩
  | 98 => ⟨S_, .i32⟩
  | 99 => ⟨S8192, .i32⟩
  | 100 => ⟨S8192, .i32⟩
  | 101 => ⟨S8192x1, .i32⟩
  | 102 => ⟨S8192x1, .i32⟩
  | 103 => ⟨S8192x2, .i32⟩
  | 104 => ⟨S8192x128, .f32⟩
  | 105 => ⟨S8192x128, .f32⟩
  | 106 => ⟨S8192, .i32⟩
  | 107 => ⟨S_, .i32⟩
  | 108 => ⟨S8192, .i32⟩
  | 109 => ⟨S8192, .i32⟩
  | 110 => ⟨S_, .i32⟩
  | 111 => ⟨S_, .i32⟩
  | 112 => ⟨S_, .i32⟩
  | 113 => ⟨S8192, .i32⟩
  | 114 => ⟨S8192, .i32⟩
  | 115 => ⟨S_, .i32⟩
  | 116 => ⟨S8192, .i32⟩
  | 117 => ⟨S8192, .i32⟩
  | 118 => ⟨S_, .i32⟩
  | 119 => ⟨S8192, .i32⟩
  | 120 => ⟨S8192, .i32⟩
  | 121 => ⟨S_, .i32⟩
  | 122 => ⟨S8192, .i32⟩
  | 123 => ⟨S8192, .i32⟩
  | 124 => ⟨S_, .i32⟩
  | 125 => ⟨S_, .i32⟩
  | 126 => ⟨S_, .i32⟩
  | 127 => ⟨S8192, .i32⟩
  | _ => ⟨S8192x512, .f32⟩

abbrev hbmTy0_2 (i : Nat) : BufTy := match i % 128 with
  | 0 => ⟨S8192, .i32⟩
  | 1 => ⟨S_, .i32⟩
  | 2 => ⟨S8192, .i32⟩
  | 3 => ⟨S8192, .i32⟩
  | 4 => ⟨S8192, .i32⟩
  | 5 => ⟨S8192, .f32⟩
  | 6 => ⟨S8192x1, .f32⟩
  | 7 => ⟨S8192, .i32⟩
  | 8 => ⟨S_, .i32⟩
  | 9 => ⟨S8192, .i32⟩
  | 10 => ⟨S8192, .i32⟩
  | 11 => ⟨S_, .i32⟩
  | 12 => ⟨S_, .i32⟩
  | 13 => ⟨S_, .i32⟩
  | 14 => ⟨S8192, .i32⟩
  | 15 => ⟨S8192, .i32⟩
  | 16 => ⟨S_, .i32⟩
  | 17 => ⟨S8192, .i32⟩
  | 18 => ⟨S8192, .i32⟩
  | 19 => ⟨S_, .i32⟩
  | 20 => ⟨S8192, .i32⟩
  | 21 => ⟨S8192, .i32⟩
  | 22 => ⟨S_, .i32⟩
  | 23 => ⟨S8192, .i32⟩
  | 24 => ⟨S8192, .i32⟩
  | 25 => ⟨S_, .i32⟩
  | 26 => ⟨S_, .i32⟩
  | 27 => ⟨S_, .i32⟩
  | 28 => ⟨S8192, .i32⟩
  | 29 => ⟨S8192, .i32⟩
  | 30 => ⟨S_, .i32⟩
  | 31 => ⟨S8192, .i32⟩
  | 32 => ⟨S8192, .i32⟩
  | 33 => ⟨S_, .i32⟩
  | 34 => ⟨S8192, .i32⟩
  | 35 => ⟨S8192, .i1⟩
  | 36 => ⟨S_, .i32⟩
  | 37 => ⟨S8192, .i32⟩
  | 38 => ⟨S8192, .i32⟩
  | 39 => ⟨S8192, .i32⟩
  | 40 => ⟨S_, .i32⟩
  | 41 => ⟨S8192, .i32⟩
  | 42 => ⟨S8192, .i32⟩
  | 43 => ⟨S8192x1, .i32⟩
  | 44 => ⟨S8192x1, .i32⟩
  | 45 => ⟨S8192x2, .i32⟩
  | 46 => ⟨S8192x128, .f32⟩
  | 47 => ⟨S_, .i32⟩
  | 48 => ⟨S8192, .i32⟩
  | 49 => ⟨S8192, .i1⟩
  | 50 => ⟨S_, .i32⟩
  | 51 => ⟨S8192, .i32⟩
  | 52 => ⟨S8192, .i32⟩
  | 53 => ⟨S8192, .i32⟩
  | 54 => ⟨S_, .i32⟩
  | 55 => ⟨S8192, .i32⟩
  | 56 => ⟨S8192, .i32⟩
  | 57 => ⟨S8192x1, .i32⟩
  | 58 => ⟨S8192x1, .i32⟩
  | 59 => ⟨S8192x2, .i32⟩
  | 60 => ⟨S8192x128, .f32⟩
  | 61 => ⟨S8192x128, .f32⟩
  | 62 => ⟨S8192, .i32⟩
  | 63 => ⟨S_, .i32⟩
  | 64 => ⟨S8192, .i32⟩
  | 65 => ⟨S8192, .i32⟩
  | 66 => ⟨S_, .i32⟩
  | 67 => ⟨S_, .i32⟩
  | 68 => ⟨S_, .i32⟩
  | 69 => ⟨S8192, .i32⟩
  | 70 => ⟨S8192, .i32⟩
  | 71 => ⟨S_, .i32⟩
  | 72 => ⟨S8192, .i32⟩
  | 73 => ⟨S8192, .i32⟩
  | 74 => ⟨S_, .i32⟩
  | 75 => ⟨S8192, .i32⟩
  | 76 => ⟨S8192, .i32⟩
  | 77 => ⟨S_, .i32⟩
  | 78 => ⟨S8192, .i32⟩
  | 79 => ⟨S8192, .i32⟩
  | 80 => ⟨S_, .i32⟩
  | 81 => ⟨S_, .i32⟩
  | 82 => ⟨S_, .i32⟩
  | 83 => ⟨S8192, .i32⟩
  | 84 => ⟨S8192, .i32⟩
  | 85 => ⟨S_, .i32⟩
  | 86 => ⟨S8192, .i32⟩
  | 87 => ⟨S8192, .i32⟩
  | 88 => ⟨S8192, .i32⟩
  | 89 => ⟨S8192, .f32⟩
  | 90 => ⟨S8192x1, .f32⟩
  | 91 => ⟨S8192x4x128, .f32⟩
  | 92 => ⟨S8192x128, .f32⟩
  | 93 => ⟨S8192x128, .f32⟩
  | 94 => ⟨S8192x1x128, .f32⟩
  | 95 => ⟨S8192x128, .f32⟩
  | 96 => ⟨S8192x128, .f32⟩
  | 97 => ⟨S8192x128, .f32⟩
  | 98 => ⟨S8192x128, .f32⟩
  | 99 => ⟨S8192x1x128, .f32⟩
  | 100 => ⟨S8192x128, .f32⟩
  | 101 => ⟨S8192x128, .f32⟩
  | 102 => ⟨S8192x128, .f32⟩
  | 103 => ⟨S8192x128, .f32⟩
  | 104 => ⟨S8192x1x128, .f32⟩
  | 105 => ⟨S8192x128, .f32⟩
  | 106 => ⟨S8192x128, .f32⟩
  | 107 => ⟨S8192x128, .f32⟩
  | 108 => ⟨S8192x128, .f32⟩
  | 109 => ⟨S8192x1x128, .f32⟩
  | 110 => ⟨S8192x128, .f32⟩
  | 111 => ⟨S8192x128, .f32⟩
  | 112 => ⟨S8192x1x128, .f32⟩
  | 113 => ⟨S8192x1x128, .f32⟩
  | 114 => ⟨S8192x1x128, .f32⟩
  | 115 => ⟨S8192x1x128, .f32⟩
  | 116 => ⟨S8192x4x128, .f32⟩
  | 117 => ⟨S8192x512, .f32⟩
  | 118 => ⟨S8192x512, .bf16⟩
  | 119 => ⟨S8192x512, .f32⟩
  | 120 => ⟨S4x128x128, .f32⟩
  | 121 => ⟨S1x512, .f32⟩
  | _ => ⟨S8192x512, .f32⟩

abbrev hbmTy (i : Nat) : BufTy := match i / 128 with
  | 0 => hbmTy0_0 i
  | 1 => hbmTy0_1 i
  | 2 => hbmTy0_2 i
  | _ => ⟨S8192x512, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x512, .bf16⟩
  | .local _ .vmem, ⟨3, _⟩ => ⟨S256x512, .bf16⟩
  | .local _ .vmem, ⟨4, _⟩ => ⟨S4x128x128, .f32⟩
  | .local _ .vmem, ⟨5, _⟩ => ⟨S1x512, .f32⟩
  | .local _ .vmem, ⟨6, _⟩ => ⟨S256x512, .f32⟩
  | .local _ .vmem, ⟨7, _⟩ => ⟨S256x512, .f32⟩
  | .local _ .vmem, ⟨8, _⟩ => ⟨S4x128x128, .f32⟩
  | .local _ .vmem, ⟨9, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_c_1 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v7 : Ref sig .tc := ⟨.hbm, 22, rfl⟩
abbrev main_c_2 : Ref sig .tc := ⟨.hbm, 23, rfl⟩
abbrev main_v8 : Ref sig .tc := ⟨.hbm, 24, rfl⟩
abbrev main_v9 : Ref sig .tc := ⟨.hbm, 25, rfl⟩
abbrev main_c_3 : Ref sig .tc := ⟨.hbm, 26, rfl⟩
abbrev main_v10 : Ref sig .tc := ⟨.hbm, 27, rfl⟩
abbrev main_v11 : Ref sig .tc := ⟨.hbm, 28, rfl⟩
abbrev main_c_4 : Ref sig .tc := ⟨.hbm, 29, rfl⟩
abbrev main_c_5 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v12 : Ref sig .tc := ⟨.hbm, 36, rfl⟩
abbrev main_c_6 : Ref sig .tc := ⟨.hbm, 37, rfl⟩
abbrev main_v13 : Ref sig .tc := ⟨.hbm, 38, rfl⟩
abbrev main_v14 : Ref sig .tc := ⟨.hbm, 39, rfl⟩
abbrev main_c_7 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_8 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_9 : Ref sig .tc := ⟨.hbm, 51, rfl⟩
abbrev main_v24 : Ref sig .tc := ⟨.hbm, 52, rfl⟩
abbrev main_v25 : Ref sig .tc := ⟨.hbm, 53, rfl⟩
abbrev main_c_10 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_11 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_12 : Ref sig .tc := ⟨.hbm, 67, rfl⟩
abbrev main_v37 : Ref sig .tc := ⟨.hbm, 68, rfl⟩
abbrev main_v38 : Ref sig .tc := ⟨.hbm, 69, rfl⟩
abbrev main_c_13 : Ref sig .tc := ⟨.hbm, 70, rfl⟩
abbrev main_c_14 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_v39 : Ref sig .tc := ⟨.hbm, 77, rfl⟩
abbrev main_c_15 : Ref sig .tc := ⟨.hbm, 78, rfl⟩
abbrev main_v40 : Ref sig .tc := ⟨.hbm, 79, rfl⟩
abbrev main_v41 : Ref sig .tc := ⟨.hbm, 80, rfl⟩
abbrev main_c_16 : Ref sig .tc := ⟨.hbm, 81, rfl⟩
abbrev main_v42 : Ref sig .tc := ⟨.hbm, 82, rfl⟩
abbrev main_v43 : Ref sig .tc := ⟨.hbm, 83, rfl⟩
abbrev main_c_17 : Ref sig .tc := ⟨.hbm, 84, rfl⟩
abbrev main_c_18 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_call4_v3 : Ref sig .tc := ⟨.hbm, 89, rfl⟩
abbrev main_call4_v4 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_c_19 : Ref sig .tc := ⟨.hbm, 96, rfl⟩
abbrev main_v49 : Ref sig .tc := ⟨.hbm, 97, rfl⟩
abbrev main_v50 : Ref sig .tc := ⟨.hbm, 98, rfl⟩
abbrev main_c_20 : Ref sig .tc := ⟨.hbm, 99, rfl⟩
abbrev main_c_21 : Ref sig .tc := ⟨.hbm, 100, rfl⟩
abbrev main_call5_v0 : Ref sig .tc := ⟨.hbm, 101, rfl⟩
abbrev main_call5_v1 : Ref sig .tc := ⟨.hbm, 102, rfl⟩
abbrev main_call5_v2 : Ref sig .tc := ⟨.hbm, 103, rfl⟩
abbrev main_call5_v3 : Ref sig .tc := ⟨.hbm, 104, rfl⟩
abbrev main_call5_v4 : Ref sig .tc := ⟨.hbm, 105, rfl⟩
abbrev main_v51 : Ref sig .tc := ⟨.hbm, 106, rfl⟩
abbrev main_c_22 : Ref sig .tc := ⟨.hbm, 107, rfl⟩
abbrev main_v52 : Ref sig .tc := ⟨.hbm, 108, rfl⟩
abbrev main_v53 : Ref sig .tc := ⟨.hbm, 109, rfl⟩
abbrev main_c_23 : Ref sig .tc := ⟨.hbm, 110, rfl⟩
abbrev main_v54 : Ref sig .tc := ⟨.hbm, 111, rfl⟩
abbrev main_v55 : Ref sig .tc := ⟨.hbm, 112, rfl⟩
abbrev main_c_24 : Ref sig .tc := ⟨.hbm, 113, rfl⟩
abbrev main_c_25 : Ref sig .tc := ⟨.hbm, 114, rfl⟩
abbrev main_call6_v0 : Ref sig .tc := ⟨.hbm, 115, rfl⟩
abbrev main_call6_v1 : Ref sig .tc := ⟨.hbm, 116, rfl⟩
abbrev main_call6_v2 : Ref sig .tc := ⟨.hbm, 117, rfl⟩
abbrev main_call6_v3 : Ref sig .tc := ⟨.hbm, 118, rfl⟩
abbrev main_call6_v4 : Ref sig .tc := ⟨.hbm, 119, rfl⟩
abbrev main_v56 : Ref sig .tc := ⟨.hbm, 120, rfl⟩
abbrev main_c_26 : Ref sig .tc := ⟨.hbm, 121, rfl⟩
abbrev main_v57 : Ref sig .tc := ⟨.hbm, 122, rfl⟩
abbrev main_v58 : Ref sig .tc := ⟨.hbm, 123, rfl⟩
abbrev main_c_27 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_c_28 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_c_29 : Ref sig .tc := ⟨.hbm, 135, rfl⟩
abbrev main_v68 : Ref sig .tc := ⟨.hbm, 136, rfl⟩
abbrev main_v69 : Ref sig .tc := ⟨.hbm, 137, rfl⟩
abbrev main_c_30 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_c_31 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_c_32 : Ref sig .tc := ⟨.hbm, 151, rfl⟩
abbrev main_v81 : Ref sig .tc := ⟨.hbm, 152, rfl⟩
abbrev main_v82 : Ref sig .tc := ⟨.hbm, 153, rfl⟩
abbrev main_c_33 : Ref sig .tc := ⟨.hbm, 154, rfl⟩
abbrev main_c_34 : Ref sig .tc := ⟨.hbm, 155, rfl⟩
abbrev main_call7_v0 : Ref sig .tc := ⟨.hbm, 156, rfl⟩
abbrev main_call7_v1 : Ref sig .tc := ⟨.hbm, 157, rfl⟩
abbrev main_call7_v2 : Ref sig .tc := ⟨.hbm, 158, rfl⟩
abbrev main_call7_v3 : Ref sig .tc := ⟨.hbm, 159, rfl⟩
abbrev main_call7_v4 : Ref sig .tc := ⟨.hbm, 160, rfl⟩
abbrev main_v83 : Ref sig .tc := ⟨.hbm, 161, rfl⟩
abbrev main_c_35 : Ref sig .tc := ⟨.hbm, 162, rfl⟩
abbrev main_v84 : Ref sig .tc := ⟨.hbm, 163, rfl⟩
abbrev main_v85 : Ref sig .tc := ⟨.hbm, 164, rfl⟩
abbrev main_c_36 : Ref sig .tc := ⟨.hbm, 165, rfl⟩
abbrev main_v86 : Ref sig .tc := ⟨.hbm, 166, rfl⟩
abbrev main_v87 : Ref sig .tc := ⟨.hbm, 167, rfl⟩
abbrev main_c_37 : Ref sig .tc := ⟨.hbm, 168, rfl⟩
abbrev main_c_38 : Ref sig .tc := ⟨.hbm, 169, rfl⟩
abbrev main_call8_v0 : Ref sig .tc := ⟨.hbm, 170, rfl⟩
abbrev main_call8_v1 : Ref sig .tc := ⟨.hbm, 171, rfl⟩
abbrev main_call8_v2 : Ref sig .tc := ⟨.hbm, 172, rfl⟩
abbrev main_call8_v3 : Ref sig .tc := ⟨.hbm, 173, rfl⟩
abbrev main_call8_v4 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_c_39 : Ref sig .tc := ⟨.hbm, 180, rfl⟩
abbrev main_v93 : Ref sig .tc := ⟨.hbm, 181, rfl⟩
abbrev main_v94 : Ref sig .tc := ⟨.hbm, 182, rfl⟩
abbrev main_c_40 : Ref sig .tc := ⟨.hbm, 183, rfl⟩
abbrev main_c_41 : Ref sig .tc := ⟨.hbm, 184, rfl⟩
abbrev main_call9_v0 : Ref sig .tc := ⟨.hbm, 185, rfl⟩
abbrev main_call9_v1 : Ref sig .tc := ⟨.hbm, 186, rfl⟩
abbrev main_call9_v2 : Ref sig .tc := ⟨.hbm, 187, rfl⟩
abbrev main_call9_v3 : Ref sig .tc := ⟨.hbm, 188, rfl⟩
abbrev main_call9_v4 : Ref sig .tc := ⟨.hbm, 189, rfl⟩
abbrev main_v95 : Ref sig .tc := ⟨.hbm, 190, rfl⟩
abbrev main_c_42 : Ref sig .tc := ⟨.hbm, 191, rfl⟩
abbrev main_v96 : Ref sig .tc := ⟨.hbm, 192, rfl⟩
abbrev main_v97 : Ref sig .tc := ⟨.hbm, 193, rfl⟩
abbrev main_c_43 : Ref sig .tc := ⟨.hbm, 194, rfl⟩
abbrev main_v98 : Ref sig .tc := ⟨.hbm, 195, rfl⟩
abbrev main_v99 : Ref sig .tc := ⟨.hbm, 196, rfl⟩
abbrev main_c_44 : Ref sig .tc := ⟨.hbm, 197, rfl⟩
abbrev main_c_45 : Ref sig .tc := ⟨.hbm, 198, rfl⟩
abbrev main_call10_v0 : Ref sig .tc := ⟨.hbm, 199, rfl⟩
abbrev main_call10_v1 : Ref sig .tc := ⟨.hbm, 200, rfl⟩
abbrev main_call10_v2 : Ref sig .tc := ⟨.hbm, 201, rfl⟩
abbrev main_call10_v3 : Ref sig .tc := ⟨.hbm, 202, rfl⟩
abbrev main_call10_v4 : Ref sig .tc := ⟨.hbm, 203, rfl⟩
abbrev main_v100 : Ref sig .tc := ⟨.hbm, 204, rfl⟩
abbrev main_c_46 : Ref sig .tc := ⟨.hbm, 205, rfl⟩
abbrev main_v101 : Ref sig .tc := ⟨.hbm, 206, rfl⟩
abbrev main_v102 : Ref sig .tc := ⟨.hbm, 207, rfl⟩
abbrev main_c_47 : Ref sig .tc := ⟨.hbm, 208, rfl⟩
abbrev main_v103 : Ref sig .tc := ⟨.hbm, 209, rfl⟩
abbrev main_v104 : Ref sig .tc := ⟨.hbm, 210, rfl⟩
abbrev main_v105 : Ref sig .tc := ⟨.hbm, 211, rfl⟩
abbrev main_c_48 : Ref sig .tc := ⟨.hbm, 212, rfl⟩
abbrev main_v106 : Ref sig .tc := ⟨.hbm, 213, rfl⟩
abbrev main_v107 : Ref sig .tc := ⟨.hbm, 214, rfl⟩
abbrev main_v108 : Ref sig .tc := ⟨.hbm, 215, rfl⟩
abbrev main_v109 : Ref sig .tc := ⟨.hbm, 216, rfl⟩
abbrev main_v110 : Ref sig .tc := ⟨.hbm, 217, rfl⟩
abbrev main_v111 : Ref sig .tc := ⟨.hbm, 218, rfl⟩
abbrev main_c_49 : Ref sig .tc := ⟨.hbm, 219, rfl⟩
abbrev main_v112 : Ref sig .tc := ⟨.hbm, 220, rfl⟩
abbrev main_v113 : Ref sig .tc := ⟨.hbm, 221, rfl⟩
abbrev main_c_50 : Ref sig .tc := ⟨.hbm, 222, rfl⟩
abbrev main_v114 : Ref sig .tc := ⟨.hbm, 223, rfl⟩
abbrev main_v115 : Ref sig .tc := ⟨.hbm, 224, rfl⟩
abbrev main_v116 : Ref sig .tc := ⟨.hbm, 225, rfl⟩
abbrev main_c_51 : Ref sig .tc := ⟨.hbm, 226, rfl⟩
abbrev main_v117 : Ref sig .tc := ⟨.hbm, 227, rfl⟩
abbrev main_v118 : Ref sig .tc := ⟨.hbm, 228, rfl⟩
abbrev main_v119 : Ref sig .tc := ⟨.hbm, 229, rfl⟩
abbrev main_v120 : Ref sig .tc := ⟨.hbm, 230, rfl⟩
abbrev main_v121 : Ref sig .tc := ⟨.hbm, 231, rfl⟩
abbrev main_v122 : Ref sig .tc := ⟨.hbm, 232, rfl⟩
abbrev main_v123 : Ref sig .tc := ⟨.hbm, 233, rfl⟩
abbrev main_v124 : Ref sig .tc := ⟨.hbm, 234, rfl⟩
abbrev main_c_52 : Ref sig .tc := ⟨.hbm, 235, rfl⟩
abbrev main_v125 : Ref sig .tc := ⟨.hbm, 236, rfl⟩
abbrev main_v126 : Ref sig .tc := ⟨.hbm, 237, rfl⟩
abbrev main_c_53 : Ref sig .tc := ⟨.hbm, 238, rfl⟩
abbrev main_c_54 : Ref sig .tc := ⟨.hbm, 239, rfl⟩
abbrev main_call11_v0 : Ref sig .tc := ⟨.hbm, 240, rfl⟩
abbrev main_call11_v1 : Ref sig .tc := ⟨.hbm, 241, rfl⟩
abbrev main_call11_v2 : Ref sig .tc := ⟨.hbm, 242, rfl⟩
abbrev main_call11_v3 : Ref sig .tc := ⟨.hbm, 243, rfl⟩
abbrev main_call11_v4 : Ref sig .tc := ⟨.hbm, 244, rfl⟩
abbrev main_v127 : Ref sig .tc := ⟨.hbm, 245, rfl⟩
abbrev main_c_55 : Ref sig .tc := ⟨.hbm, 246, rfl⟩
abbrev main_v128 : Ref sig .tc := ⟨.hbm, 247, rfl⟩
abbrev main_v129 : Ref sig .tc := ⟨.hbm, 248, rfl⟩
abbrev main_c_56 : Ref sig .tc := ⟨.hbm, 249, rfl⟩
abbrev main_v130 : Ref sig .tc := ⟨.hbm, 250, rfl⟩
abbrev main_v131 : Ref sig .tc := ⟨.hbm, 251, rfl⟩
abbrev main_c_57 : Ref sig .tc := ⟨.hbm, 252, rfl⟩
abbrev main_c_58 : Ref sig .tc := ⟨.hbm, 253, rfl⟩
abbrev main_call12_v0 : Ref sig .tc := ⟨.hbm, 254, rfl⟩
abbrev main_call12_v1 : Ref sig .tc := ⟨.hbm, 255, rfl⟩
abbrev main_call12_v2 : Ref sig .tc := ⟨.hbm, 256, rfl⟩
abbrev main_call12_v3 : Ref sig .tc := ⟨.hbm, 257, rfl⟩
abbrev main_call12_v4 : Ref sig .tc := ⟨.hbm, 258, rfl⟩
abbrev main_v132 : Ref sig .tc := ⟨.hbm, 259, rfl⟩
abbrev main_v133 : Ref sig .tc := ⟨.hbm, 260, rfl⟩
abbrev main_v134 : Ref sig .tc := ⟨.hbm, 261, rfl⟩
abbrev main_v135 : Ref sig .tc := ⟨.hbm, 262, rfl⟩
abbrev main_v136 : Ref sig .tc := ⟨.hbm, 263, rfl⟩
abbrev main_c_59 : Ref sig .tc := ⟨.hbm, 264, rfl⟩
abbrev main_v137 : Ref sig .tc := ⟨.hbm, 265, rfl⟩
abbrev main_v138 : Ref sig .tc := ⟨.hbm, 266, rfl⟩
abbrev main_c_60 : Ref sig .tc := ⟨.hbm, 267, rfl⟩
abbrev main_c_61 : Ref sig .tc := ⟨.hbm, 268, rfl⟩
abbrev main_call13_v0 : Ref sig .tc := ⟨.hbm, 269, rfl⟩
abbrev main_call13_v1 : Ref sig .tc := ⟨.hbm, 270, rfl⟩
abbrev main_call13_v2 : Ref sig .tc := ⟨.hbm, 271, rfl⟩
abbrev main_call13_v3 : Ref sig .tc := ⟨.hbm, 272, rfl⟩
abbrev main_call13_v4 : Ref sig .tc := ⟨.hbm, 273, rfl⟩
abbrev main_v139 : Ref sig .tc := ⟨.hbm, 274, rfl⟩
abbrev main_c_62 : Ref sig .tc := ⟨.hbm, 275, rfl⟩
abbrev main_v140 : Ref sig .tc := ⟨.hbm, 276, rfl⟩
abbrev main_v141 : Ref sig .tc := ⟨.hbm, 277, rfl⟩
abbrev main_c_63 : Ref sig .tc := ⟨.hbm, 278, rfl⟩
abbrev main_v142 : Ref sig .tc := ⟨.hbm, 279, rfl⟩
abbrev main_v143 : Ref sig .tc := ⟨.hbm, 280, rfl⟩
abbrev main_c_64 : Ref sig .tc := ⟨.hbm, 281, rfl⟩
abbrev main_c_65 : Ref sig .tc := ⟨.hbm, 282, rfl⟩
abbrev main_call14_v0 : Ref sig .tc := ⟨.hbm, 283, rfl⟩
abbrev main_call14_v1 : Ref sig .tc := ⟨.hbm, 284, rfl⟩
abbrev main_call14_v2 : Ref sig .tc := ⟨.hbm, 285, rfl⟩
abbrev main_call14_v3 : Ref sig .tc := ⟨.hbm, 286, rfl⟩
abbrev main_call14_v4 : Ref sig .tc := ⟨.hbm, 287, rfl⟩
abbrev main_v144 : Ref sig .tc := ⟨.hbm, 288, rfl⟩
abbrev main_c_66 : Ref sig .tc := ⟨.hbm, 289, rfl⟩
abbrev main_v145 : Ref sig .tc := ⟨.hbm, 290, rfl⟩
abbrev main_v146 : Ref sig .tc := ⟨.hbm, 291, rfl⟩
abbrev main_c_67 : Ref sig .tc := ⟨.hbm, 292, rfl⟩
abbrev main_v147 : Ref sig .tc := ⟨.hbm, 293, rfl⟩
abbrev main_v148 : Ref sig .tc := ⟨.hbm, 294, rfl⟩
abbrev main_v149 : Ref sig .tc := ⟨.hbm, 295, rfl⟩
abbrev main_c_68 : Ref sig .tc := ⟨.hbm, 296, rfl⟩
abbrev main_v150 : Ref sig .tc := ⟨.hbm, 297, rfl⟩
abbrev main_v151 : Ref sig .tc := ⟨.hbm, 298, rfl⟩
abbrev main_v152 : Ref sig .tc := ⟨.hbm, 299, rfl⟩
abbrev main_v153 : Ref sig .tc := ⟨.hbm, 300, rfl⟩
abbrev main_v154 : Ref sig .tc := ⟨.hbm, 301, rfl⟩
abbrev main_v155 : Ref sig .tc := ⟨.hbm, 302, rfl⟩
abbrev main_c_69 : Ref sig .tc := ⟨.hbm, 303, rfl⟩
abbrev main_v156 : Ref sig .tc := ⟨.hbm, 304, rfl⟩
abbrev main_v157 : Ref sig .tc := ⟨.hbm, 305, rfl⟩
abbrev main_c_70 : Ref sig .tc := ⟨.hbm, 306, rfl⟩
abbrev main_v158 : Ref sig .tc := ⟨.hbm, 307, rfl⟩
abbrev main_v159 : Ref sig .tc := ⟨.hbm, 308, rfl⟩
abbrev main_v160 : Ref sig .tc := ⟨.hbm, 309, rfl⟩
abbrev main_c_71 : Ref sig .tc := ⟨.hbm, 310, rfl⟩
abbrev main_v161 : Ref sig .tc := ⟨.hbm, 311, rfl⟩
abbrev main_v162 : Ref sig .tc := ⟨.hbm, 312, rfl⟩
abbrev main_v163 : Ref sig .tc := ⟨.hbm, 313, rfl⟩
abbrev main_v164 : Ref sig .tc := ⟨.hbm, 314, rfl⟩
abbrev main_v165 : Ref sig .tc := ⟨.hbm, 315, rfl⟩
abbrev main_v166 : Ref sig .tc := ⟨.hbm, 316, rfl⟩
abbrev main_v167 : Ref sig .tc := ⟨.hbm, 317, rfl⟩
abbrev main_v168 : Ref sig .tc := ⟨.hbm, 318, rfl⟩
abbrev main_c_72 : Ref sig .tc := ⟨.hbm, 319, rfl⟩
abbrev main_v169 : Ref sig .tc := ⟨.hbm, 320, rfl⟩
abbrev main_v170 : Ref sig .tc := ⟨.hbm, 321, rfl⟩
abbrev main_c_73 : Ref sig .tc := ⟨.hbm, 322, rfl⟩
abbrev main_c_74 : Ref sig .tc := ⟨.hbm, 323, rfl⟩
abbrev main_call15_v0 : Ref sig .tc := ⟨.hbm, 324, rfl⟩
abbrev main_call15_v1 : Ref sig .tc := ⟨.hbm, 325, rfl⟩
abbrev main_call15_v2 : Ref sig .tc := ⟨.hbm, 326, rfl⟩
abbrev main_call15_v3 : Ref sig .tc := ⟨.hbm, 327, rfl⟩
abbrev main_call15_v4 : Ref sig .tc := ⟨.hbm, 328, rfl⟩
abbrev main_v171 : Ref sig .tc := ⟨.hbm, 329, rfl⟩
abbrev main_c_75 : Ref sig .tc := ⟨.hbm, 330, rfl⟩
abbrev main_v172 : Ref sig .tc := ⟨.hbm, 331, rfl⟩
abbrev main_v173 : Ref sig .tc := ⟨.hbm, 332, rfl⟩
abbrev main_c_76 : Ref sig .tc := ⟨.hbm, 333, rfl⟩
abbrev main_v174 : Ref sig .tc := ⟨.hbm, 334, rfl⟩
abbrev main_v175 : Ref sig .tc := ⟨.hbm, 335, rfl⟩
abbrev main_c_77 : Ref sig .tc := ⟨.hbm, 336, rfl⟩
abbrev main_c_78 : Ref sig .tc := ⟨.hbm, 337, rfl⟩
abbrev main_call16_v0 : Ref sig .tc := ⟨.hbm, 338, rfl⟩
abbrev main_call16_v1 : Ref sig .tc := ⟨.hbm, 339, rfl⟩
abbrev main_call16_v2 : Ref sig .tc := ⟨.hbm, 340, rfl⟩
abbrev main_call16_v3 : Ref sig .tc := ⟨.hbm, 341, rfl⟩
abbrev main_call16_v4 : Ref sig .tc := ⟨.hbm, 342, rfl⟩
abbrev main_v176 : Ref sig .tc := ⟨.hbm, 343, rfl⟩
abbrev main_v177 : Ref sig .tc := ⟨.hbm, 344, rfl⟩
abbrev main_v178 : Ref sig .tc := ⟨.hbm, 345, rfl⟩
abbrev main_v179 : Ref sig .tc := ⟨.hbm, 346, rfl⟩
abbrev main_v180 : Ref sig .tc := ⟨.hbm, 347, rfl⟩
abbrev main_v181 : Ref sig .tc := ⟨.hbm, 348, rfl⟩
abbrev main_v182 : Ref sig .tc := ⟨.hbm, 349, rfl⟩
abbrev main_v183 : Ref sig .tc := ⟨.hbm, 350, rfl⟩
abbrev main_v184 : Ref sig .tc := ⟨.hbm, 351, rfl⟩
abbrev main_v185 : Ref sig .tc := ⟨.hbm, 352, rfl⟩
abbrev main_v186 : Ref sig .tc := ⟨.hbm, 353, rfl⟩
abbrev main_v187 : Ref sig .tc := ⟨.hbm, 354, rfl⟩
abbrev main_v188 : Ref sig .tc := ⟨.hbm, 355, rfl⟩
abbrev main_v189 : Ref sig .tc := ⟨.hbm, 356, rfl⟩
abbrev main_v190 : Ref sig .tc := ⟨.hbm, 357, rfl⟩
abbrev main_v191 : Ref sig .tc := ⟨.hbm, 358, rfl⟩
abbrev main_v192 : Ref sig .tc := ⟨.hbm, 359, rfl⟩
abbrev main_v193 : Ref sig .tc := ⟨.hbm, 360, rfl⟩
abbrev main_v194 : Ref sig .tc := ⟨.hbm, 361, rfl⟩
abbrev main_v195 : Ref sig .tc := ⟨.hbm, 362, rfl⟩
abbrev main_v196 : Ref sig .tc := ⟨.hbm, 363, rfl⟩
abbrev main_v197 : Ref sig .tc := ⟨.hbm, 364, rfl⟩
abbrev main_v198 : Ref sig .tc := ⟨.hbm, 365, rfl⟩
abbrev main_v199 : Ref sig .tc := ⟨.hbm, 366, rfl⟩
abbrev main_v200 : Ref sig .tc := ⟨.hbm, 367, rfl⟩
abbrev main_v201 : Ref sig .tc := ⟨.hbm, 368, rfl⟩
abbrev main_v202 : Ref sig .tc := ⟨.hbm, 369, rfl⟩
abbrev main_v203 : Ref sig .tc := ⟨.hbm, 370, rfl⟩
abbrev main_v204 : Ref sig .tc := ⟨.hbm, 371, rfl⟩
abbrev main_v205 : Ref sig .tc := ⟨.hbm, 372, rfl⟩
abbrev main_v206 : Ref sig .tc := ⟨.hbm, 373, rfl⟩
abbrev main_v207 : Ref sig .tc := ⟨.hbm, 374, rfl⟩
abbrev main_v208_0 : Ref sig .tc := ⟨.hbm, 375, rfl⟩
abbrev main_v208_1 : Ref sig .tc := ⟨.hbm, 376, rfl⟩
abbrev main_v208_2 : Ref sig .tc := ⟨.hbm, 377, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_16 : BitVec 32 := 0#32
  let v39 : BitVec 1 := Scalar.cmpi .eq arg0 c0_i32_16
  let v40 : BitVec 32 := Scalar.extui v39
  let c0_i32_17 : BitVec 32 := 0#32
  let v41 : BitVec 1 := Scalar.cmpi .ne v40 c0_i32_17
  v41

def k0_cond2 (i : grid0.Coords) : BitVec 1 :=
  let arg0 : BitVec 32 := BitVec.ofNat 32 (i 0).val
  let c0_i32_18 : BitVec 32 := 0#32
  let v42 : BitVec 1 := Scalar.cmpi .sgt arg0 c0_i32_18
  let v43 : BitVec 32 := Scalar.extui v42
  let c0_i32_19 : BitVec 32 := 0#32
  let v44 : BitVec 1 := Scalar.cmpi .ne v43 c0_i32_19
  v44

def k0_cond3 (i : grid0.Coords) : BitVec 1 :=
  let arg0 : BitVec 32 := BitVec.ofNat 32 (i 0).val
  let c0_i32_40 : BitVec 32 := 0#32
  let v84 : BitVec 1 := Scalar.cmpi .eq arg0 c0_i32_40
  let v85 : BitVec 32 := Scalar.extui v84
  let c0_i32_41 : BitVec 32 := 0#32
  let v86 : BitVec 1 := Scalar.cmpi .ne v85 c0_i32_41
  v86

def k0_cond4 (i : grid0.Coords) : BitVec 1 :=
  let arg0 : BitVec 32 := BitVec.ofNat 32 (i 0).val
  let c0_i32_42 : BitVec 32 := 0#32
  let v87 : BitVec 1 := Scalar.cmpi .sgt arg0 c0_i32_42
  let v88 : BitVec 32 := Scalar.extui v87
  let c0_i32_43 : BitVec 32 := 0#32
  let v89 : BitVec 1 := Scalar.cmpi .ne v88 c0_i32_43
  v89

def k0_cond5 (i : grid0.Coords) : BitVec 1 :=
  let arg0 : BitVec 32 := BitVec.ofNat 32 (i 0).val
  let c0_i32_64 : BitVec 32 := 0#32
  let v129 : BitVec 1 := Scalar.cmpi .eq arg0 c0_i32_64
  let v130 : BitVec 32 := Scalar.extui v129
  let c0_i32_65 : BitVec 32 := 0#32
  let v131 : BitVec 1 := Scalar.cmpi .ne v130 c0_i32_65
  v131

def k0_cond6 (i : grid0.Coords) : BitVec 1 :=
  let arg0 : BitVec 32 := BitVec.ofNat 32 (i 0).val
  let c0_i32_66 : BitVec 32 := 0#32
  let v132 : BitVec 1 := Scalar.cmpi .sgt arg0 c0_i32_66
  let v133 : BitVec 32 := Scalar.extui v132
  let c0_i32_67 : BitVec 32 := 0#32
  let v134 : BitVec 1 := Scalar.cmpi .ne v133 c0_i32_67
  v134

def k0_cond7 (i : grid0.Coords) : BitVec 1 :=
  let arg0 : BitVec 32 := BitVec.ofNat 32 (i 0).val
  let c0_i32_88 : BitVec 32 := 0#32
  let v174 : BitVec 1 := Scalar.cmpi .eq arg0 c0_i32_88
  let v175 : BitVec 32 := Scalar.extui v174
  let c0_i32_89 : BitVec 32 := 0#32
  let v176 : BitVec 1 := Scalar.cmpi .ne v175 c0_i32_89
  v176

def k0_cond8 (i : grid0.Coords) : BitVec 1 :=
  let arg0 : BitVec 32 := BitVec.ofNat 32 (i 0).val
  let c0_i32_90 : BitVec 32 := 0#32
  let v177 : BitVec 1 := Scalar.cmpi .sgt arg0 c0_i32_90
  let v178 : BitVec 32 := Scalar.extui v177
  let c0_i32_91 : BitVec 32 := 0#32
  let v179 : BitVec 1 := Scalar.cmpi .ne v178 c0_i32_91
  v179

def k0_cond9 (i : grid0.Coords) : BitVec 1 :=
  let arg0 : BitVec 32 := BitVec.ofNat 32 (i 0).val
  let c0_i32_92 : BitVec 32 := 0#32
  let v181 : BitVec 1 := Scalar.cmpi .eq arg0 c0_i32_92
  let v182 : BitVec 32 := Scalar.extui v181
  let c0_i32_93 : BitVec 32 := 0#32
  let v183 : BitVec 1 := Scalar.cmpi .ne v182 c0_i32_93
  v183

def k0_cond10 (i : grid0.Coords) : BitVec 1 :=
  let arg0 : BitVec 32 := BitVec.ofNat 32 (i 0).val
  let c0_i32_94 : BitVec 32 := 0#32
  let v184 : BitVec 1 := Scalar.cmpi .sgt arg0 c0_i32_94
  let v185 : BitVec 32 := Scalar.extui v184
  let c0_i32_95 : BitVec 32 := 0#32
  let v186 : BitVec 1 := Scalar.cmpi .ne v185 c0_i32_95
  v186

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PoolARefIdeal.lean ====
abbrev S8192x512 : Shape := ⟨2, ![8192, 512]⟩
abbrev S4x128x128 : Shape := ⟨3, ![4, 128, 128]⟩
abbrev S1x512 : Shape := ⟨2, ![1, 512]⟩
abbrev S8192x4x128 : Shape := ⟨3, ![8192, 4, 128]⟩
abbrev S_ : Shape := ⟨0, ![]⟩
abbrev S1x4x128 : Shape := ⟨3, ![1, 4, 128]⟩
abbrev S8193x4x128 : Shape := ⟨3, ![8193, 4, 128]⟩
abbrev S8192 : Shape := ⟨1, ![8192]⟩
abbrev S8192x1 : Shape := ⟨2, ![8192, 1]⟩
abbrev S8192x2 : Shape := ⟨2, ![8192, 2]⟩
abbrev S8192x128 : Shape := ⟨2, ![8192, 128]⟩
abbrev S8192x1x128 : Shape := ⟨3, ![8192, 1, 128]⟩
abbrev S4x128x8192 : Shape := ⟨3, ![4, 128, 8192]⟩
abbrev S512 : Shape := ⟨1, ![512]⟩
abbrev S4x8192x128 : Shape := ⟨3, ![4, 8192, 128]⟩

abbrev nBuf : Space → Nat
  | .hbm => 407
  | .vmem => 0
  | .smem => 0
  | _ => 0

abbrev hbmTy0_0 (i : Nat) : BufTy := match i % 128 with
  | 0 => ⟨S8192x512, .f32⟩
  | 1 => ⟨S4x128x128, .f32⟩
  | 2 => ⟨S1x512, .f32⟩
  | 3 => ⟨S8192x512, .f32⟩
  | 4 => ⟨S8192x4x128, .f32⟩
  | 5 => ⟨S_, .f32⟩
  | 6 => ⟨S1x4x128, .f32⟩
  | 7 => ⟨S_, .f32⟩
  | 8 => ⟨S_, .f32⟩
  | 9 => ⟨S8192x4x128, .f32⟩
  | 10 => ⟨S8193x4x128, .f32⟩
  | 11 => ⟨S8192, .i32⟩
  | 12 => ⟨S_, .i32⟩
  | 13 => ⟨S8192, .i32⟩
  | 14 => ⟨S8192, .i32⟩
  | 15 => ⟨S_, .i32⟩
  | 16 => ⟨S_, .i32⟩
  | 17 => ⟨S_, .i32⟩
  | 18 => ⟨S8192, .i32⟩
  | 19 => ⟨S8192, .i32⟩
  | 20 => ⟨S_, .i32⟩
  | 21 => ⟨S8192, .i32⟩
  | 22 => ⟨S8192, .i32⟩
  | 23 => ⟨S_, .i32⟩
  | 24 => ⟨S8192, .i32⟩
  | 25 => ⟨S8192, .i32⟩
  | 26 => ⟨S_, .i32⟩
  | 27 => ⟨S8192, .i32⟩
  | 28 => ⟨S8192, .i32⟩
  | 29 => ⟨S_, .i32⟩
  | 30 => ⟨S_, .i32⟩
  | 31 => ⟨S_, .i32⟩
  | 32 => ⟨S8192, .i32⟩
  | 33 => ⟨S8192, .i32⟩
  | 34 => ⟨S_, .i32⟩
  | 35 => ⟨S8192, .i32⟩
  | 36 => ⟨S8192, .i32⟩
  | 37 => ⟨S_, .i32⟩
  | 38 => ⟨S8192, .i32⟩
  | 39 => ⟨S8192, .i1⟩
  | 40 => ⟨S_, .i32⟩
  | 41 => ⟨S8192, .i32⟩
  | 42 => ⟨S8192, .i32⟩
  | 43 => ⟨S8192, .i32⟩
  | 44 => ⟨S_, .i32⟩
  | 45 => ⟨S8192, .i32⟩
  | 46 => ⟨S8192, .i32⟩
  | 47 => ⟨S8192x1, .i32⟩
  | 48 => ⟨S8192x1, .i32⟩
  | 49 => ⟨S8192x2, .i32⟩
  | 50 => ⟨S8192x128, .f32⟩
  | 51 => ⟨S_, .i32⟩
  | 52 => ⟨S8192, .i32⟩
  | 53 => ⟨S8192, .i1⟩
  | 54 => ⟨S_, .i32⟩
  | 55 => ⟨S8192, .i32⟩
  | 56 => ⟨S8192, .i32⟩
  | 57 => ⟨S8192, .i32⟩
  | 58 => ⟨S_, .i32⟩
  | 59 => ⟨S8192, .i32⟩
  | 60 => ⟨S8192, .i32⟩
  | 61 => ⟨S8192x1, .i32⟩
  | 62 => ⟨S8192x1, .i32⟩
  | 63 => ⟨S8192x2, .i32⟩
  | 64 => ⟨S8192x128, .f32⟩
  | 65 => ⟨S8192x128, .f32⟩
  | 66 => ⟨S8192, .i32⟩
  | 67 => ⟨S_, .i32⟩
  | 68 => ⟨S8192, .i32⟩
  | 69 => ⟨S8192, .i32⟩
  | 70 => ⟨S_, .i32⟩
  | 71 => ⟨S_, .i32⟩
  | 72 => ⟨S_, .i32⟩
  | 73 => ⟨S8192, .i32⟩
  | 74 => ⟨S8192, .i32⟩
  | 75 => ⟨S_, .i32⟩
  | 76 => ⟨S8192, .i32⟩
  | 77 => ⟨S8192, .i32⟩
  | 78 => ⟨S_, .i32⟩
  | 79 => ⟨S8192, .i32⟩
  | 80 => ⟨S8192, .i32⟩
  | 81 => ⟨S_, .i32⟩
  | 82 => ⟨S8192, .i32⟩
  | 83 => ⟨S8192, .i32⟩
  | 84 => ⟨S_, .i32⟩
  | 85 => ⟨S_, .i32⟩
  | 86 => ⟨S_, .i32⟩
  | 87 => ⟨S8192, .i32⟩
  | 88 => ⟨S8192, .i32⟩
  | 89 => ⟨S_, .i32⟩
  | 90 => ⟨S8192, .i32⟩
  | 91 => ⟨S8192, .i32⟩
  | 92 => ⟨S8192, .i32⟩
  | 93 => ⟨S8192, .f32⟩
  | 94 => ⟨S8192x1, .f32⟩
  | 95 => ⟨S8192, .i32⟩
  | 96 => ⟨S_, .i32⟩
  | 97 => ⟨S8192, .i32⟩
  | 98 => ⟨S8192, .i32⟩
  | 99 => ⟨S_, .i32⟩
  | 100 => ⟨S_, .i32⟩
  | 101 => ⟨S_, .i32⟩
  | 102 => ⟨S8192, .i32⟩
  | 103 => ⟨S8192, .i32⟩
  | 104 => ⟨S_, .i32⟩
  | 105 => ⟨S8192, .i32⟩
  | 106 => ⟨S8192, .i32⟩
  | 107 => ⟨S_, .i32⟩
  | 108 => ⟨S8192, .i32⟩
  | 109 => ⟨S8192, .i32⟩
  | 110 => ⟨S_, .i32⟩
  | 111 => ⟨S8192, .i32⟩
  | 112 => ⟨S8192, .i32⟩
  | 113 => ⟨S_, .i32⟩
  | 114 => ⟨S_, .i32⟩
  | 115 => ⟨S_, .i32⟩
  | 116 => ⟨S8192, .i32⟩
  | 117 => ⟨S8192, .i32⟩
  | 118 => ⟨S_, .i32⟩
  | 119 => ⟨S8192, .i32⟩
  | 120 => ⟨S8192, .i32⟩
  | 121 => ⟨S_, .i32⟩
  | 122 => ⟨S8192, .i32⟩
  | 123 => ⟨S8192, .i1⟩
  | 124 => ⟨S_, .i32⟩
  | 125 => ⟨S8192, .i32⟩
  | 126 => ⟨S8192, .i32⟩
  | 127 => ⟨S8192, .i32⟩
  | _ => ⟨S8192x512, .f32⟩

abbrev hbmTy0_1 (i : Nat) : BufTy := match i % 128 with
  | 0 => ⟨S_, .i32⟩
  | 1 => ⟨S8192, .i32⟩
  | 2 => ⟨S8192, .i32⟩
  | 3 => ⟨S8192x1, .i32⟩
  | 4 => ⟨S8192x1, .i32⟩
  | 5 => ⟨S8192x2, .i32⟩
  | 6 => ⟨S8192x128, .f32⟩
  | 7 => ⟨S_, .i32⟩
  | 8 => ⟨S8192, .i32⟩
  | 9 => ⟨S8192, .i1⟩
  | 10 => ⟨S_, .i32⟩
  | 11 => ⟨S8192, .i32⟩
  | 12 => ⟨S8192, .i32⟩
  | 13 => ⟨S8192, .i32⟩
  | 14 => ⟨S_, .i32⟩
  | 15 => ⟨S8192, .i32⟩
  | 16 => ⟨S8192, .i32⟩
  | 17 => ⟨S8192x1, .i32⟩
  | 18 => ⟨S8192x1, .i32⟩
  | 19 => ⟨S8192x2, .i32⟩
  | 20 => ⟨S8192x128, .f32⟩
  | 21 => ⟨S8192x128, .f32⟩
  | 22 => ⟨S8192, .i32⟩
  | 23 => ⟨S_, .i32⟩
  | 24 => ⟨S8192, .i32⟩
  | 25 => ⟨S8192, .i32⟩
  | 26 => ⟨S_, .i32⟩
  | 27 => ⟨S_, .i32⟩
  | 28 => ⟨S_, .i32⟩
  | 29 => ⟨S8192, .i32⟩
  | 30 => ⟨S8192, .i32⟩
  | 31 => ⟨S_, .i32⟩
  | 32 => ⟨S8192, .i32⟩
  | 33 => ⟨S8192, .i32⟩
  | 34 => ⟨S_, .i32⟩
  | 35 => ⟨S8192, .i32⟩
  | 36 => ⟨S8192, .i32⟩
  | 37 => ⟨S_, .i32⟩
  | 38 => ⟨S8192, .i32⟩
  | 39 => ⟨S8192, .i32⟩
  | 40 => ⟨S_, .i32⟩
  | 41 => ⟨S_, .i32⟩
  | 42 => ⟨S_, .i32⟩
  | 43 => ⟨S8192, .i32⟩
  | 44 => ⟨S8192, .i32⟩
  | 45 => ⟨S_, .i32⟩
  | 46 => ⟨S8192, .i32⟩
  | 47 => ⟨S8192, .i32⟩
  | 48 => ⟨S8192, .i32⟩
  | 49 => ⟨S8192, .f32⟩
  | 50 => ⟨S8192x1, .f32⟩
  | 51 => ⟨S8192, .i32⟩
  | 52 => ⟨S_, .i32⟩
  | 53 => ⟨S8192, .i32⟩
  | 54 => ⟨S8192, .i32⟩
  | 55 => ⟨S_, .i32⟩
  | 56 => ⟨S_, .i32⟩
  | 57 => ⟨S_, .i32⟩
  | 58 => ⟨S8192, .i32⟩
  | 59 => ⟨S8192, .i32⟩
  | 60 => ⟨S_, .i32⟩
  | 61 => ⟨S8192, .i32⟩
  | 62 => ⟨S8192, .i32⟩
  | 63 => ⟨S_, .i32⟩
  | 64 => ⟨S8192, .i32⟩
  | 65 => ⟨S8192, .i32⟩
  | 66 => ⟨S_, .i32⟩
  | 67 => ⟨S8192, .i32⟩
  | 68 => ⟨S8192, .i32⟩
  | 69 => ⟨S_, .i32⟩
  | 70 => ⟨S_, .i32⟩
  | 71 => ⟨S_, .i32⟩
  | 72 => ⟨S8192, .i32⟩
  | 73 => ⟨S8192, .i32⟩
  | 74 => ⟨S_, .i32⟩
  | 75 => ⟨S8192, .i32⟩
  | 76 => ⟨S8192, .i32⟩
  | 77 => ⟨S_, .i32⟩
  | 78 => ⟨S8192, .i32⟩
  | 79 => ⟨S8192, .i1⟩
  | 80 => ⟨S_, .i32⟩
  | 81 => ⟨S8192, .i32⟩
  | 82 => ⟨S8192, .i32⟩
  | 83 => ⟨S8192, .i32⟩
  | 84 => ⟨S_, .i32⟩
  | 85 => ⟨S8192, .i32⟩
  | 86 => ⟨S8192, .i32⟩
  | 87 => ⟨S8192x1, .i32⟩
  | 88 => ⟨S8192x1, .i32⟩
  | 89 => ⟨S8192x2, .i32⟩
  | 90 => ⟨S8192x128, .f32⟩
  | 91 => ⟨S_, .i32⟩
  | 92 => ⟨S8192, .i32⟩
  | 93 => ⟨S8192, .i1⟩
  | 94 => ⟨S_, .i32⟩
  | 95 => ⟨S8192, .i32⟩
  | 96 => ⟨S8192, .i32⟩
  | 97 => ⟨S8192, .i32⟩
  | 98 => ⟨S_, .i32⟩
  | 99 => ⟨S8192, .i32⟩
  | 100 => ⟨S8192, .i32⟩
  | 101 => ⟨S8192x1, .i32⟩
  | 102 => ⟨S8192x1, .i32⟩
  | 103 => ⟨S8192x2, .i32⟩
  | 104 => ⟨S8192x128, .f32⟩
  | 105 => ⟨S8192x128, .f32⟩
  | 106 => ⟨S8192, .i32⟩
  | 107 => ⟨S_, .i32⟩
  | 108 => ⟨S8192, .i32⟩
  | 109 => ⟨S8192, .i32⟩
  | 110 => ⟨S_, .i32⟩
  | 111 => ⟨S_, .i32⟩
  | 112 => ⟨S_, .i32⟩
  | 113 => ⟨S8192, .i32⟩
  | 114 => ⟨S8192, .i32⟩
  | 115 => ⟨S_, .i32⟩
  | 116 => ⟨S8192, .i32⟩
  | 117 => ⟨S8192, .i32⟩
  | 118 => ⟨S_, .i32⟩
  | 119 => ⟨S8192, .i32⟩
  | 120 => ⟨S8192, .i32⟩
  | 121 => ⟨S_, .i32⟩
  | 122 => ⟨S8192, .i32⟩
  | 123 => ⟨S8192, .i32⟩
  | 124 => ⟨S_, .i32⟩
  | 125 => ⟨S_, .i32⟩
  | 126 => ⟨S_, .i32⟩
  | 127 => ⟨S8192, .i32⟩
  | _ => ⟨S8192x512, .f32⟩

abbrev hbmTy0_2 (i : Nat) : BufTy := match i % 128 with
  | 0 => ⟨S8192, .i32⟩
  | 1 => ⟨S_, .i32⟩
  | 2 => ⟨S8192, .i32⟩
  | 3 => ⟨S8192, .i32⟩
  | 4 => ⟨S8192, .i32⟩
  | 5 => ⟨S8192, .f32⟩
  | 6 => ⟨S8192x1, .f32⟩
  | 7 => ⟨S8192, .i32⟩
  | 8 => ⟨S_, .i32⟩
  | 9 => ⟨S8192, .i32⟩
  | 10 => ⟨S8192, .i32⟩
  | 11 => ⟨S_, .i32⟩
  | 12 => ⟨S_, .i32⟩
  | 13 => ⟨S_, .i32⟩
  | 14 => ⟨S8192, .i32⟩
  | 15 => ⟨S8192, .i32⟩
  | 16 => ⟨S_, .i32⟩
  | 17 => ⟨S8192, .i32⟩
  | 18 => ⟨S8192, .i32⟩
  | 19 => ⟨S_, .i32⟩
  | 20 => ⟨S8192, .i32⟩
  | 21 => ⟨S8192, .i32⟩
  | 22 => ⟨S_, .i32⟩
  | 23 => ⟨S8192, .i32⟩
  | 24 => ⟨S8192, .i32⟩
  | 25 => ⟨S_, .i32⟩
  | 26 => ⟨S_, .i32⟩
  | 27 => ⟨S_, .i32⟩
  | 28 => ⟨S8192, .i32⟩
  | 29 => ⟨S8192, .i32⟩
  | 30 => ⟨S_, .i32⟩
  | 31 => ⟨S8192, .i32⟩
  | 32 => ⟨S8192, .i32⟩
  | 33 => ⟨S_, .i32⟩
  | 34 => ⟨S8192, .i32⟩
  | 35 => ⟨S8192, .i1⟩
  | 36 => ⟨S_, .i32⟩
  | 37 => ⟨S8192, .i32⟩
  | 38 => ⟨S8192, .i32⟩
  | 39 => ⟨S8192, .i32⟩
  | 40 => ⟨S_, .i32⟩
  | 41 => ⟨S8192, .i32⟩
  | 42 => ⟨S8192, .i32⟩
  | 43 => ⟨S8192x1, .i32⟩
  | 44 => ⟨S8192x1, .i32⟩
  | 45 => ⟨S8192x2, .i32⟩
  | 46 => ⟨S8192x128, .f32⟩
  | 47 => ⟨S_, .i32⟩
  | 48 => ⟨S8192, .i32⟩
  | 49 => ⟨S8192, .i1⟩
  | 50 => ⟨S_, .i32⟩
  | 51 => ⟨S8192, .i32⟩
  | 52 => ⟨S8192, .i32⟩
  | 53 => ⟨S8192, .i32⟩
  | 54 => ⟨S_, .i32⟩
  | 55 => ⟨S8192, .i32⟩
  | 56 => ⟨S8192, .i32⟩
  | 57 => ⟨S8192x1, .i32⟩
  | 58 => ⟨S8192x1, .i32⟩
  | 59 => ⟨S8192x2, .i32⟩
  | 60 => ⟨S8192x128, .f32⟩
  | 61 => ⟨S8192x128, .f32⟩
  | 62 => ⟨S8192, .i32⟩
  | 63 => ⟨S_, .i32⟩
  | 64 => ⟨S8192, .i32⟩
  | 65 => ⟨S8192, .i32⟩
  | 66 => ⟨S_, .i32⟩
  | 67 => ⟨S_, .i32⟩
  | 68 => ⟨S_, .i32⟩
  | 69 => ⟨S8192, .i32⟩
  | 70 => ⟨S8192, .i32⟩
  | 71 => ⟨S_, .i32⟩
  | 72 => ⟨S8192, .i32⟩
  | 73 => ⟨S8192, .i32⟩
  | 74 => ⟨S_, .i32⟩
  | 75 => ⟨S8192, .i32⟩
  | 76 => ⟨S8192, .i32⟩
  | 77 => ⟨S_, .i32⟩
  | 78 => ⟨S8192, .i32⟩
  | 79 => ⟨S8192, .i32⟩
  | 80 => ⟨S_, .i32⟩
  | 81 => ⟨S_, .i32⟩
  | 82 => ⟨S_, .i32⟩
  | 83 => ⟨S8192, .i32⟩
  | 84 => ⟨S8192, .i32⟩
  | 85 => ⟨S_, .i32⟩
  | 86 => ⟨S8192, .i32⟩
  | 87 => ⟨S8192, .i32⟩
  | 88 => ⟨S8192, .i32⟩
  | 89 => ⟨S8192, .f32⟩
  | 90 => ⟨S8192x1, .f32⟩
  | 91 => ⟨S8192x4x128, .f32⟩
  | 92 => ⟨S8192x128, .f32⟩
  | 93 => ⟨S8192x128, .f32⟩
  | 94 => ⟨S8192x1x128, .f32⟩
  | 95 => ⟨S8192x128, .f32⟩
  | 96 => ⟨S8192x128, .f32⟩
  | 97 => ⟨S8192x128, .f32⟩
  | 98 => ⟨S8192x128, .f32⟩
  | 99 => ⟨S8192x1x128, .f32⟩
  | 100 => ⟨S8192x128, .f32⟩
  | 101 => ⟨S8192x128, .f32⟩
  | 102 => ⟨S8192x128, .f32⟩
  | 103 => ⟨S8192x128, .f32⟩
  | 104 => ⟨S8192x1x128, .f32⟩
  | 105 => ⟨S8192x128, .f32⟩
  | 106 => ⟨S8192x128, .f32⟩
  | 107 => ⟨S8192x128, .f32⟩
  | 108 => ⟨S8192x128, .f32⟩
  | 109 => ⟨S8192x1x128, .f32⟩
  | 110 => ⟨S8192x128, .f32⟩
  | 111 => ⟨S8192x128, .f32⟩
  | 112 => ⟨S8192x1x128, .f32⟩
  | 113 => ⟨S8192x1x128, .f32⟩
  | 114 => ⟨S8192x1x128, .f32⟩
  | 115 => ⟨S8192x1x128, .f32⟩
  | 116 => ⟨S8192x4x128, .f32⟩
  | 117 => ⟨S4x128x8192, .f32⟩
  | 118 => ⟨S8192x4x128, .f32⟩
  | 119 => ⟨S8192x512, .f32⟩
  | 120 => ⟨S8192x512, .f32⟩
  | 121 => ⟨S8192x512, .f32⟩
  | 122 => ⟨S8192x512, .f32⟩
  | 123 => ⟨S_, .f32⟩
  | 124 => ⟨S512, .f32⟩
  | 125 => ⟨S1x512, .f32⟩
  | 126 => ⟨S8192x512, .f32⟩
  | 127 => ⟨S8192x512, .f32⟩
  | _ => ⟨S8192x512, .f32⟩

abbrev hbmTy0_3 (i : Nat) : BufTy := match i % 128 with
  | 0 => ⟨S8192x4x128, .f32⟩
  | 1 => ⟨S4x128x8192, .f32⟩
  | 2 => ⟨S4x8192x128, .f32⟩
  | 3 => ⟨S8192x4x128, .f32⟩
  | 4 => ⟨S4x128x128, .f32⟩
  | 5 => ⟨S4x128x128, .f32⟩
  | 6 => ⟨S8192x1x128, .f32⟩
  | 7 => ⟨S8192x128, .f32⟩
  | 8 => ⟨S8192x1x128, .f32⟩
  | 9 => ⟨S8192x128, .f32⟩
  | 10 => ⟨S8192x1x128, .f32⟩
  | 11 => ⟨S8192x128, .f32⟩
  | 12 => ⟨S8192x1x128, .f32⟩
  | 13 => ⟨S8192x128, .f32⟩
  | 14 => ⟨S8192x128, .f32⟩
  | 15 => ⟨S8192x128, .f32⟩
  | 16 => ⟨S8192x128, .f32⟩
  | 17 => ⟨S8192x128, .f32⟩
  | 18 => ⟨S8192x128, .f32⟩
  | 19 => ⟨S8192x128, .f32⟩
  | 20 => ⟨S8192x128, .f32⟩
  | 21 => ⟨S8192x128, .f32⟩
  | 22 => ⟨S8192x512, .f32⟩
  | _ => ⟨S8192x512, .f32⟩

abbrev hbmTy (i : Nat) : BufTy := match i / 128 with
  | 0 => hbmTy0_0 i
  | 1 => hbmTy0_1 i
  | 2 => hbmTy0_2 i
  | 3 => hbmTy0_3 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_c_1 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v7 : Ref sig .tc := ⟨.hbm, 22, rfl⟩
abbrev main_c_2 : Ref sig .tc := ⟨.hbm, 23, rfl⟩
abbrev main_v8 : Ref sig .tc := ⟨.hbm, 24, rfl⟩
abbrev main_v9 : Ref sig .tc := ⟨.hbm, 25, rfl⟩
abbrev main_c_3 : Ref sig .tc := ⟨.hbm, 26, rfl⟩
abbrev main_v10 : Ref sig .tc := ⟨.hbm, 27, rfl⟩
abbrev main_v11 : Ref sig .tc := ⟨.hbm, 28, rfl⟩
abbrev main_c_4 : Ref sig .tc := ⟨.hbm, 29, rfl⟩
abbrev main_c_5 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v12 : Ref sig .tc := ⟨.hbm, 36, rfl⟩
abbrev main_c_6 : Ref sig .tc := ⟨.hbm, 37, rfl⟩
abbrev main_v13 : Ref sig .tc := ⟨.hbm, 38, rfl⟩
abbrev main_v14 : Ref sig .tc := ⟨.hbm, 39, rfl⟩
abbrev main_c_7 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_8 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_9 : Ref sig .tc := ⟨.hbm, 51, rfl⟩
abbrev main_v24 : Ref sig .tc := ⟨.hbm, 52, rfl⟩
abbrev main_v25 : Ref sig .tc := ⟨.hbm, 53, rfl⟩
abbrev main_c_10 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_11 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_12 : Ref sig .tc := ⟨.hbm, 67, rfl⟩
abbrev main_v37 : Ref sig .tc := ⟨.hbm, 68, rfl⟩
abbrev main_v38 : Ref sig .tc := ⟨.hbm, 69, rfl⟩
abbrev main_c_13 : Ref sig .tc := ⟨.hbm, 70, rfl⟩
abbrev main_c_14 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_v39 : Ref sig .tc := ⟨.hbm, 77, rfl⟩
abbrev main_c_15 : Ref sig .tc := ⟨.hbm, 78, rfl⟩
abbrev main_v40 : Ref sig .tc := ⟨.hbm, 79, rfl⟩
abbrev main_v41 : Ref sig .tc := ⟨.hbm, 80, rfl⟩
abbrev main_c_16 : Ref sig .tc := ⟨.hbm, 81, rfl⟩
abbrev main_v42 : Ref sig .tc := ⟨.hbm, 82, rfl⟩
abbrev main_v43 : Ref sig .tc := ⟨.hbm, 83, rfl⟩
abbrev main_c_17 : Ref sig .tc := ⟨.hbm, 84, rfl⟩
abbrev main_c_18 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_call4_v3 : Ref sig .tc := ⟨.hbm, 89, rfl⟩
abbrev main_call4_v4 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_c_19 : Ref sig .tc := ⟨.hbm, 96, rfl⟩
abbrev main_v49 : Ref sig .tc := ⟨.hbm, 97, rfl⟩
abbrev main_v50 : Ref sig .tc := ⟨.hbm, 98, rfl⟩
abbrev main_c_20 : Ref sig .tc := ⟨.hbm, 99, rfl⟩
abbrev main_c_21 : Ref sig .tc := ⟨.hbm, 100, rfl⟩
abbrev main_call5_v0 : Ref sig .tc := ⟨.hbm, 101, rfl⟩
abbrev main_call5_v1 : Ref sig .tc := ⟨.hbm, 102, rfl⟩
abbrev main_call5_v2 : Ref sig .tc := ⟨.hbm, 103, rfl⟩
abbrev main_call5_v3 : Ref sig .tc := ⟨.hbm, 104, rfl⟩
abbrev main_call5_v4 : Ref sig .tc := ⟨.hbm, 105, rfl⟩
abbrev main_v51 : Ref sig .tc := ⟨.hbm, 106, rfl⟩
abbrev main_c_22 : Ref sig .tc := ⟨.hbm, 107, rfl⟩
abbrev main_v52 : Ref sig .tc := ⟨.hbm, 108, rfl⟩
abbrev main_v53 : Ref sig .tc := ⟨.hbm, 109, rfl⟩
abbrev main_c_23 : Ref sig .tc := ⟨.hbm, 110, rfl⟩
abbrev main_v54 : Ref sig .tc := ⟨.hbm, 111, rfl⟩
abbrev main_v55 : Ref sig .tc := ⟨.hbm, 112, rfl⟩
abbrev main_c_24 : Ref sig .tc := ⟨.hbm, 113, rfl⟩
abbrev main_c_25 : Ref sig .tc := ⟨.hbm, 114, rfl⟩
abbrev main_call6_v0 : Ref sig .tc := ⟨.hbm, 115, rfl⟩
abbrev main_call6_v1 : Ref sig .tc := ⟨.hbm, 116, rfl⟩
abbrev main_call6_v2 : Ref sig .tc := ⟨.hbm, 117, rfl⟩
abbrev main_call6_v3 : Ref sig .tc := ⟨.hbm, 118, rfl⟩
abbrev main_call6_v4 : Ref sig .tc := ⟨.hbm, 119, rfl⟩
abbrev main_v56 : Ref sig .tc := ⟨.hbm, 120, rfl⟩
abbrev main_c_26 : Ref sig .tc := ⟨.hbm, 121, rfl⟩
abbrev main_v57 : Ref sig .tc := ⟨.hbm, 122, rfl⟩
abbrev main_v58 : Ref sig .tc := ⟨.hbm, 123, rfl⟩
abbrev main_c_27 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_c_28 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_c_29 : Ref sig .tc := ⟨.hbm, 135, rfl⟩
abbrev main_v68 : Ref sig .tc := ⟨.hbm, 136, rfl⟩
abbrev main_v69 : Ref sig .tc := ⟨.hbm, 137, rfl⟩
abbrev main_c_30 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_c_31 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_c_32 : Ref sig .tc := ⟨.hbm, 151, rfl⟩
abbrev main_v81 : Ref sig .tc := ⟨.hbm, 152, rfl⟩
abbrev main_v82 : Ref sig .tc := ⟨.hbm, 153, rfl⟩
abbrev main_c_33 : Ref sig .tc := ⟨.hbm, 154, rfl⟩
abbrev main_c_34 : Ref sig .tc := ⟨.hbm, 155, rfl⟩
abbrev main_call7_v0 : Ref sig .tc := ⟨.hbm, 156, rfl⟩
abbrev main_call7_v1 : Ref sig .tc := ⟨.hbm, 157, rfl⟩
abbrev main_call7_v2 : Ref sig .tc := ⟨.hbm, 158, rfl⟩
abbrev main_call7_v3 : Ref sig .tc := ⟨.hbm, 159, rfl⟩
abbrev main_call7_v4 : Ref sig .tc := ⟨.hbm, 160, rfl⟩
abbrev main_v83 : Ref sig .tc := ⟨.hbm, 161, rfl⟩
abbrev main_c_35 : Ref sig .tc := ⟨.hbm, 162, rfl⟩
abbrev main_v84 : Ref sig .tc := ⟨.hbm, 163, rfl⟩
abbrev main_v85 : Ref sig .tc := ⟨.hbm, 164, rfl⟩
abbrev main_c_36 : Ref sig .tc := ⟨.hbm, 165, rfl⟩
abbrev main_v86 : Ref sig .tc := ⟨.hbm, 166, rfl⟩
abbrev main_v87 : Ref sig .tc := ⟨.hbm, 167, rfl⟩
abbrev main_c_37 : Ref sig .tc := ⟨.hbm, 168, rfl⟩
abbrev main_c_38 : Ref sig .tc := ⟨.hbm, 169, rfl⟩
abbrev main_call8_v0 : Ref sig .tc := ⟨.hbm, 170, rfl⟩
abbrev main_call8_v1 : Ref sig .tc := ⟨.hbm, 171, rfl⟩
abbrev main_call8_v2 : Ref sig .tc := ⟨.hbm, 172, rfl⟩
abbrev main_call8_v3 : Ref sig .tc := ⟨.hbm, 173, rfl⟩
abbrev main_call8_v4 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_c_39 : Ref sig .tc := ⟨.hbm, 180, rfl⟩
abbrev main_v93 : Ref sig .tc := ⟨.hbm, 181, rfl⟩
abbrev main_v94 : Ref sig .tc := ⟨.hbm, 182, rfl⟩
abbrev main_c_40 : Ref sig .tc := ⟨.hbm, 183, rfl⟩
abbrev main_c_41 : Ref sig .tc := ⟨.hbm, 184, rfl⟩
abbrev main_call9_v0 : Ref sig .tc := ⟨.hbm, 185, rfl⟩
abbrev main_call9_v1 : Ref sig .tc := ⟨.hbm, 186, rfl⟩
abbrev main_call9_v2 : Ref sig .tc := ⟨.hbm, 187, rfl⟩
abbrev main_call9_v3 : Ref sig .tc := ⟨.hbm, 188, rfl⟩
abbrev main_call9_v4 : Ref sig .tc := ⟨.hbm, 189, rfl⟩
abbrev main_v95 : Ref sig .tc := ⟨.hbm, 190, rfl⟩
abbrev main_c_42 : Ref sig .tc := ⟨.hbm, 191, rfl⟩
abbrev main_v96 : Ref sig .tc := ⟨.hbm, 192, rfl⟩
abbrev main_v97 : Ref sig .tc := ⟨.hbm, 193, rfl⟩
abbrev main_c_43 : Ref sig .tc := ⟨.hbm, 194, rfl⟩
abbrev main_v98 : Ref sig .tc := ⟨.hbm, 195, rfl⟩
abbrev main_v99 : Ref sig .tc := ⟨.hbm, 196, rfl⟩
abbrev main_c_44 : Ref sig .tc := ⟨.hbm, 197, rfl⟩
abbrev main_c_45 : Ref sig .tc := ⟨.hbm, 198, rfl⟩
abbrev main_call10_v0 : Ref sig .tc := ⟨.hbm, 199, rfl⟩
abbrev main_call10_v1 : Ref sig .tc := ⟨.hbm, 200, rfl⟩
abbrev main_call10_v2 : Ref sig .tc := ⟨.hbm, 201, rfl⟩
abbrev main_call10_v3 : Ref sig .tc := ⟨.hbm, 202, rfl⟩
abbrev main_call10_v4 : Ref sig .tc := ⟨.hbm, 203, rfl⟩
abbrev main_v100 : Ref sig .tc := ⟨.hbm, 204, rfl⟩
abbrev main_c_46 : Ref sig .tc := ⟨.hbm, 205, rfl⟩
abbrev main_v101 : Ref sig .tc := ⟨.hbm, 206, rfl⟩
abbrev main_v102 : Ref sig .tc := ⟨.hbm, 207, rfl⟩
abbrev main_c_47 : Ref sig .tc := ⟨.hbm, 208, rfl⟩
abbrev main_v103 : Ref sig .tc := ⟨.hbm, 209, rfl⟩
abbrev main_v104 : Ref sig .tc := ⟨.hbm, 210, rfl⟩
abbrev main_v105 : Ref sig .tc := ⟨.hbm, 211, rfl⟩
abbrev main_c_48 : Ref sig .tc := ⟨.hbm, 212, rfl⟩
abbrev main_v106 : Ref sig .tc := ⟨.hbm, 213, rfl⟩
abbrev main_v107 : Ref sig .tc := ⟨.hbm, 214, rfl⟩
abbrev main_v108 : Ref sig .tc := ⟨.hbm, 215, rfl⟩
abbrev main_v109 : Ref sig .tc := ⟨.hbm, 216, rfl⟩
abbrev main_v110 : Ref sig .tc := ⟨.hbm, 217, rfl⟩
abbrev main_v111 : Ref sig .tc := ⟨.hbm, 218, rfl⟩
abbrev main_c_49 : Ref sig .tc := ⟨.hbm, 219, rfl⟩
abbrev main_v112 : Ref sig .tc := ⟨.hbm, 220, rfl⟩
abbrev main_v113 : Ref sig .tc := ⟨.hbm, 221, rfl⟩
abbrev main_c_50 : Ref sig .tc := ⟨.hbm, 222, rfl⟩
abbrev main_v114 : Ref sig .tc := ⟨.hbm, 223, rfl⟩
abbrev main_v115 : Ref sig .tc := ⟨.hbm, 224, rfl⟩
abbrev main_v116 : Ref sig .tc := ⟨.hbm, 225, rfl⟩
abbrev main_c_51 : Ref sig .tc := ⟨.hbm, 226, rfl⟩
abbrev main_v117 : Ref sig .tc := ⟨.hbm, 227, rfl⟩
abbrev main_v118 : Ref sig .tc := ⟨.hbm, 228, rfl⟩
abbrev main_v119 : Ref sig .tc := ⟨.hbm, 229, rfl⟩
abbrev main_v120 : Ref sig .tc := ⟨.hbm, 230, rfl⟩
abbrev main_v121 : Ref sig .tc := ⟨.hbm, 231, rfl⟩
abbrev main_v122 : Ref sig .tc := ⟨.hbm, 232, rfl⟩
abbrev main_v123 : Ref sig .tc := ⟨.hbm, 233, rfl⟩
abbrev main_v124 : Ref sig .tc := ⟨.hbm, 234, rfl⟩
abbrev main_c_52 : Ref sig .tc := ⟨.hbm, 235, rfl⟩
abbrev main_v125 : Ref sig .tc := ⟨.hbm, 236, rfl⟩
abbrev main_v126 : Ref sig .tc := ⟨.hbm, 237, rfl⟩
abbrev main_c_53 : Ref sig .tc := ⟨.hbm, 238, rfl⟩
abbrev main_c_54 : Ref sig .tc := ⟨.hbm, 239, rfl⟩
abbrev main_call11_v0 : Ref sig .tc := ⟨.hbm, 240, rfl⟩
abbrev main_call11_v1 : Ref sig .tc := ⟨.hbm, 241, rfl⟩
abbrev main_call11_v2 : Ref sig .tc := ⟨.hbm, 242, rfl⟩
abbrev main_call11_v3 : Ref sig .tc := ⟨.hbm, 243, rfl⟩
abbrev main_call11_v4 : Ref sig .tc := ⟨.hbm, 244, rfl⟩
abbrev main_v127 : Ref sig .tc := ⟨.hbm, 245, rfl⟩
abbrev main_c_55 : Ref sig .tc := ⟨.hbm, 246, rfl⟩
abbrev main_v128 : Ref sig .tc := ⟨.hbm, 247, rfl⟩
abbrev main_v129 : Ref sig .tc := ⟨.hbm, 248, rfl⟩
abbrev main_c_56 : Ref sig .tc := ⟨.hbm, 249, rfl⟩
abbrev main_v130 : Ref sig .tc := ⟨.hbm, 250, rfl⟩
abbrev main_v131 : Ref sig .tc := ⟨.hbm, 251, rfl⟩
abbrev main_c_57 : Ref sig .tc := ⟨.hbm, 252, rfl⟩
abbrev main_c_58 : Ref sig .tc := ⟨.hbm, 253, rfl⟩
abbrev main_call12_v0 : Ref sig .tc := ⟨.hbm, 254, rfl⟩
abbrev main_call12_v1 : Ref sig .tc := ⟨.hbm, 255, rfl⟩
abbrev main_call12_v2 : Ref sig .tc := ⟨.hbm, 256, rfl⟩
abbrev main_call12_v3 : Ref sig .tc := ⟨.hbm, 257, rfl⟩
abbrev main_call12_v4 : Ref sig .tc := ⟨.hbm, 258, rfl⟩
abbrev main_v132 : Ref sig .tc := ⟨.hbm, 259, rfl⟩
abbrev main_v133 : Ref sig .tc := ⟨.hbm, 260, rfl⟩
abbrev main_v134 : Ref sig .tc := ⟨.hbm, 261, rfl⟩
abbrev main_v135 : Ref sig .tc := ⟨.hbm, 262, rfl⟩
abbrev main_v136 : Ref sig .tc := ⟨.hbm, 263, rfl⟩
abbrev main_c_59 : Ref sig .tc := ⟨.hbm, 264, rfl⟩
abbrev main_v137 : Ref sig .tc := ⟨.hbm, 265, rfl⟩
abbrev main_v138 : Ref sig .tc := ⟨.hbm, 266, rfl⟩
abbrev main_c_60 : Ref sig .tc := ⟨.hbm, 267, rfl⟩
abbrev main_c_61 : Ref sig .tc := ⟨.hbm, 268, rfl⟩
abbrev main_call13_v0 : Ref sig .tc := ⟨.hbm, 269, rfl⟩
abbrev main_call13_v1 : Ref sig .tc := ⟨.hbm, 270, rfl⟩
abbrev main_call13_v2 : Ref sig .tc := ⟨.hbm, 271, rfl⟩
abbrev main_call13_v3 : Ref sig .tc := ⟨.hbm, 272, rfl⟩
abbrev main_call13_v4 : Ref sig .tc := ⟨.hbm, 273, rfl⟩
abbrev main_v139 : Ref sig .tc := ⟨.hbm, 274, rfl⟩
abbrev main_c_62 : Ref sig .tc := ⟨.hbm, 275, rfl⟩
abbrev main_v140 : Ref sig .tc := ⟨.hbm, 276, rfl⟩
abbrev main_v141 : Ref sig .tc := ⟨.hbm, 277, rfl⟩
abbrev main_c_63 : Ref sig .tc := ⟨.hbm, 278, rfl⟩
abbrev main_v142 : Ref sig .tc := ⟨.hbm, 279, rfl⟩
abbrev main_v143 : Ref sig .tc := ⟨.hbm, 280, rfl⟩
abbrev main_c_64 : Ref sig .tc := ⟨.hbm, 281, rfl⟩
abbrev main_c_65 : Ref sig .tc := ⟨.hbm, 282, rfl⟩
abbrev main_call14_v0 : Ref sig .tc := ⟨.hbm, 283, rfl⟩
abbrev main_call14_v1 : Ref sig .tc := ⟨.hbm, 284, rfl⟩
abbrev main_call14_v2 : Ref sig .tc := ⟨.hbm, 285, rfl⟩
abbrev main_call14_v3 : Ref sig .tc := ⟨.hbm, 286, rfl⟩
abbrev main_call14_v4 : Ref sig .tc := ⟨.hbm, 287, rfl⟩
abbrev main_v144 : Ref sig .tc := ⟨.hbm, 288, rfl⟩
abbrev main_c_66 : Ref sig .tc := ⟨.hbm, 289, rfl⟩
abbrev main_v145 : Ref sig .tc := ⟨.hbm, 290, rfl⟩
abbrev main_v146 : Ref sig .tc := ⟨.hbm, 291, rfl⟩
abbrev main_c_67 : Ref sig .tc := ⟨.hbm, 292, rfl⟩
abbrev main_v147 : Ref sig .tc := ⟨.hbm, 293, rfl⟩
abbrev main_v148 : Ref sig .tc := ⟨.hbm, 294, rfl⟩
abbrev main_v149 : Ref sig .tc := ⟨.hbm, 295, rfl⟩
abbrev main_c_68 : Ref sig .tc := ⟨.hbm, 296, rfl⟩
abbrev main_v150 : Ref sig .tc := ⟨.hbm, 297, rfl⟩
abbrev main_v151 : Ref sig .tc := ⟨.hbm, 298, rfl⟩
abbrev main_v152 : Ref sig .tc := ⟨.hbm, 299, rfl⟩
abbrev main_v153 : Ref sig .tc := ⟨.hbm, 300, rfl⟩
abbrev main_v154 : Ref sig .tc := ⟨.hbm, 301, rfl⟩
abbrev main_v155 : Ref sig .tc := ⟨.hbm, 302, rfl⟩
abbrev main_c_69 : Ref sig .tc := ⟨.hbm, 303, rfl⟩
abbrev main_v156 : Ref sig .tc := ⟨.hbm, 304, rfl⟩
abbrev main_v157 : Ref sig .tc := ⟨.hbm, 305, rfl⟩
abbrev main_c_70 : Ref sig .tc := ⟨.hbm, 306, rfl⟩
abbrev main_v158 : Ref sig .tc := ⟨.hbm, 307, rfl⟩
abbrev main_v159 : Ref sig .tc := ⟨.hbm, 308, rfl⟩
abbrev main_v160 : Ref sig .tc := ⟨.hbm, 309, rfl⟩
abbrev main_c_71 : Ref sig .tc := ⟨.hbm, 310, rfl⟩
abbrev main_v161 : Ref sig .tc := ⟨.hbm, 311, rfl⟩
abbrev main_v162 : Ref sig .tc := ⟨.hbm, 312, rfl⟩
abbrev main_v163 : Ref sig .tc := ⟨.hbm, 313, rfl⟩
abbrev main_v164 : Ref sig .tc := ⟨.hbm, 314, rfl⟩
abbrev main_v165 : Ref sig .tc := ⟨.hbm, 315, rfl⟩
abbrev main_v166 : Ref sig .tc := ⟨.hbm, 316, rfl⟩
abbrev main_v167 : Ref sig .tc := ⟨.hbm, 317, rfl⟩
abbrev main_v168 : Ref sig .tc := ⟨.hbm, 318, rfl⟩
abbrev main_c_72 : Ref sig .tc := ⟨.hbm, 319, rfl⟩
abbrev main_v169 : Ref sig .tc := ⟨.hbm, 320, rfl⟩
abbrev main_v170 : Ref sig .tc := ⟨.hbm, 321, rfl⟩
abbrev main_c_73 : Ref sig .tc := ⟨.hbm, 322, rfl⟩
abbrev main_c_74 : Ref sig .tc := ⟨.hbm, 323, rfl⟩
abbrev main_call15_v0 : Ref sig .tc := ⟨.hbm, 324, rfl⟩
abbrev main_call15_v1 : Ref sig .tc := ⟨.hbm, 325, rfl⟩
abbrev main_call15_v2 : Ref sig .tc := ⟨.hbm, 326, rfl⟩
abbrev main_call15_v3 : Ref sig .tc := ⟨.hbm, 327, rfl⟩
abbrev main_call15_v4 : Ref sig .tc := ⟨.hbm, 328, rfl⟩
abbrev main_v171 : Ref sig .tc := ⟨.hbm, 329, rfl⟩
abbrev main_c_75 : Ref sig .tc := ⟨.hbm, 330, rfl⟩
abbrev main_v172 : Ref sig .tc := ⟨.hbm, 331, rfl⟩
abbrev main_v173 : Ref sig .tc := ⟨.hbm, 332, rfl⟩
abbrev main_c_76 : Ref sig .tc := ⟨.hbm, 333, rfl⟩
abbrev main_v174 : Ref sig .tc := ⟨.hbm, 334, rfl⟩
abbrev main_v175 : Ref sig .tc := ⟨.hbm, 335, rfl⟩
abbrev main_c_77 : Ref sig .tc := ⟨.hbm, 336, rfl⟩
abbrev main_c_78 : Ref sig .tc := ⟨.hbm, 337, rfl⟩
abbrev main_call16_v0 : Ref sig .tc := ⟨.hbm, 338, rfl⟩
abbrev main_call16_v1 : Ref sig .tc := ⟨.hbm, 339, rfl⟩
abbrev main_call16_v2 : Ref sig .tc := ⟨.hbm, 340, rfl⟩
abbrev main_call16_v3 : Ref sig .tc := ⟨.hbm, 341, rfl⟩
abbrev main_call16_v4 : Ref sig .tc := ⟨.hbm, 342, rfl⟩
abbrev main_v176 : Ref sig .tc := ⟨.hbm, 343, rfl⟩
abbrev main_v177 : Ref sig .tc := ⟨.hbm, 344, rfl⟩
abbrev main_v178 : Ref sig .tc := ⟨.hbm, 345, rfl⟩
abbrev main_v179 : Ref sig .tc := ⟨.hbm, 346, rfl⟩
abbrev main_v180 : Ref sig .tc := ⟨.hbm, 347, rfl⟩
abbrev main_v181 : Ref sig .tc := ⟨.hbm, 348, rfl⟩
abbrev main_v182 : Ref sig .tc := ⟨.hbm, 349, rfl⟩
abbrev main_v183 : Ref sig .tc := ⟨.hbm, 350, rfl⟩
abbrev main_v184 : Ref sig .tc := ⟨.hbm, 351, rfl⟩
abbrev main_v185 : Ref sig .tc := ⟨.hbm, 352, rfl⟩
abbrev main_v186 : Ref sig .tc := ⟨.hbm, 353, rfl⟩
abbrev main_v187 : Ref sig .tc := ⟨.hbm, 354, rfl⟩
abbrev main_v188 : Ref sig .tc := ⟨.hbm, 355, rfl⟩
abbrev main_v189 : Ref sig .tc := ⟨.hbm, 356, rfl⟩
abbrev main_v190 : Ref sig .tc := ⟨.hbm, 357, rfl⟩
abbrev main_v191 : Ref sig .tc := ⟨.hbm, 358, rfl⟩
abbrev main_v192 : Ref sig .tc := ⟨.hbm, 359, rfl⟩
abbrev main_v193 : Ref sig .tc := ⟨.hbm, 360, rfl⟩
abbrev main_v194 : Ref sig .tc := ⟨.hbm, 361, rfl⟩
abbrev main_v195 : Ref sig .tc := ⟨.hbm, 362, rfl⟩
abbrev main_v196 : Ref sig .tc := ⟨.hbm, 363, rfl⟩
abbrev main_v197 : Ref sig .tc := ⟨.hbm, 364, rfl⟩
abbrev main_v198 : Ref sig .tc := ⟨.hbm, 365, rfl⟩
abbrev main_v199 : Ref sig .tc := ⟨.hbm, 366, rfl⟩
abbrev main_v200 : Ref sig .tc := ⟨.hbm, 367, rfl⟩
abbrev main_v201 : Ref sig .tc := ⟨.hbm, 368, rfl⟩
abbrev main_v202 : Ref sig .tc := ⟨.hbm, 369, rfl⟩
abbrev main_v203 : Ref sig .tc := ⟨.hbm, 370, rfl⟩
abbrev main_v204 : Ref sig .tc := ⟨.hbm, 371, rfl⟩
abbrev main_v205 : Ref sig .tc := ⟨.hbm, 372, rfl⟩
abbrev main_v206 : Ref sig .tc := ⟨.hbm, 373, rfl⟩
abbrev main_v207 : Ref sig .tc := ⟨.hbm, 374, rfl⟩
abbrev main_v208 : Ref sig .tc := ⟨.hbm, 375, rfl⟩
abbrev main_v209 : Ref sig .tc := ⟨.hbm, 376, rfl⟩
abbrev main_v210 : Ref sig .tc := ⟨.hbm, 377, rfl⟩
abbrev main_v211 : Ref sig .tc := ⟨.hbm, 378, rfl⟩
abbrev main_cst_79 : Ref sig .tc := ⟨.hbm, 379, rfl⟩
abbrev main_v212 : Ref sig .tc := ⟨.hbm, 380, rfl⟩
abbrev main_v213 : Ref sig .tc := ⟨.hbm, 381, rfl⟩
abbrev main_v214 : Ref sig .tc := ⟨.hbm, 382, rfl⟩
abbrev main_v215 : Ref sig .tc := ⟨.hbm, 383, rfl⟩
abbrev main_v216 : Ref sig .tc := ⟨.hbm, 384, rfl⟩
abbrev main_v217 : Ref sig .tc := ⟨.hbm, 385, rfl⟩
abbrev main_v218 : Ref sig .tc := ⟨.hbm, 386, rfl⟩
abbrev main_v219 : Ref sig .tc := ⟨.hbm, 387, rfl⟩
abbrev main_v220 : Ref sig .tc := ⟨.hbm, 388, rfl⟩
abbrev main_v221 : Ref sig .tc := ⟨.hbm, 389, rfl⟩
abbrev main_v222 : Ref sig .tc := ⟨.hbm, 390, rfl⟩
abbrev main_v223 : Ref sig .tc := ⟨.hbm, 391, rfl⟩
abbrev main_v224 : Ref sig .tc := ⟨.hbm, 392, rfl⟩
abbrev main_v225 : Ref sig .tc := ⟨.hbm, 393, rfl⟩
abbrev main_v226 : Ref sig .tc := ⟨.hbm, 394, rfl⟩
abbrev main_v227 : Ref sig .tc := ⟨.hbm, 395, rfl⟩
abbrev main_v228 : Ref sig .tc := ⟨.hbm, 396, rfl⟩
abbrev main_v229 : Ref sig .tc := ⟨.hbm, 397, rfl⟩
abbrev main_v230 : Ref sig .tc := ⟨.hbm, 398, rfl⟩
abbrev main_v231 : Ref sig .tc := ⟨.hbm, 399, rfl⟩
abbrev main_v232 : Ref sig .tc := ⟨.hbm, 400, rfl⟩
abbrev main_v233 : Ref sig .tc := ⟨.hbm, 401, rfl⟩
abbrev main_v234 : Ref sig .tc := ⟨.hbm, 402, rfl⟩
abbrev main_v235 : Ref sig .tc := ⟨.hbm, 403, rfl⟩
abbrev main_v236 : Ref sig .tc := ⟨.hbm, 404, rfl⟩
abbrev main_v237 : Ref sig .tc := ⟨.hbm, 405, rfl⟩
abbrev main_v238 : Ref sig .tc := ⟨.hbm, 406, rfl⟩

abbrev nD : Nat := 1
abbrev τ : Topo := Topo.v7x

variable {F : FTy → Type} [FloatOps F]
-- ==== Attn.lean ====
abbrev S8192x8x64 : Shape := ⟨3, ![8192, 8, 64]⟩
abbrev S8192x2x64 : Shape := ⟨3, ![8192, 2, 64]⟩
abbrev S8192x128 : Shape := ⟨2, ![8192, 128]⟩
abbrev S8192x64 : Shape := ⟨2, ![8192, 64]⟩
abbrev S1x8192x128 : Shape := ⟨3, ![1, 8192, 128]⟩
abbrev S2x8192x128 : Shape := ⟨3, ![2, 8192, 128]⟩
abbrev S_ : Shape := ⟨0, ![]⟩
abbrev S8192x1 : Shape := ⟨2, ![8192, 1]⟩
abbrev S8192x1x64 : Shape := ⟨3, ![8192, 1, 64]⟩
abbrev S8192x2x4x64 : Shape := ⟨4, ![8192, 2, 4, 64]⟩
abbrev S2x8192x8192x4 : Shape := ⟨4, ![2, 8192, 8192, 4]⟩
abbrev S2x4x8192x8192 : Shape := ⟨4, ![2, 4, 8192, 8192]⟩
abbrev S2x4x8192 : Shape := ⟨3, ![2, 4, 8192]⟩
abbrev S2x4x8192x1 : Shape := ⟨4, ![2, 4, 8192, 1]⟩
abbrev S2x64x4x8192 : Shape := ⟨4, ![2, 64, 4, 8192]⟩
abbrev S8192x512 : Shape := ⟨2, ![8192, 512]⟩
abbrev S8192x2x4x1 : Shape := ⟨4, ![8192, 2, 4, 1]⟩
abbrev S8192x8x1 : Shape := ⟨3, ![8192, 8, 1]⟩
abbrev S256x256 : Shape := ⟨2, ![256, 256]⟩
abbrev S512x128 : Shape := ⟨2, ![512, 128]⟩
abbrev S512x1 : Shape := ⟨2, ![512, 1]⟩
abbrev S256x128 : Shape := ⟨2, ![256, 128]⟩
abbrev S256 : Shape := ⟨1, ![256]⟩
abbrev S256x1 : Shape := ⟨2, ![256, 1]⟩
abbrev S1x2048x128 : Shape := ⟨3, ![1, 2048, 128]⟩
abbrev S2048x128 : Shape := ⟨2, ![2048, 128]⟩
abbrev S512x2048 : Shape := ⟨2, ![512, 2048]⟩

abbrev nBuf : Space → Nat
  | .hbm => 80
  | .vmem => 23
  | .smem => 0
  | _ => 0

abbrev bufTy : (tb : Table) → Fin (tcTables nBuf tb) → BufTy
  | .hbm, ⟨0, _⟩ => ⟨S8192x8x64, .f32⟩
  | .hbm, ⟨1, _⟩ => ⟨S8192x2x64, .f32⟩
  | .hbm, ⟨2, _⟩ => ⟨S8192x2x64, .f32⟩
  | .hbm, ⟨3, _⟩ => ⟨S8192x8x64, .f32⟩
  | .hbm, ⟨4, _⟩ => ⟨S8192x128, .f32⟩
  | .hbm, ⟨5, _⟩ => ⟨S8192x128, .f32⟩
  | .hbm, ⟨6, _⟩ => ⟨S8192x64, .f32⟩
  | .hbm, ⟨7, _⟩ => ⟨S8192x64, .f32⟩
  | .hbm, ⟨8, _⟩ => ⟨S8192x128, .f32⟩
  | .hbm, ⟨9, _⟩ => ⟨S1x8192x128, .f32⟩
  | .hbm, ⟨10, _⟩ => ⟨S1x8192x128, .f32⟩
  | .hbm, ⟨11, _⟩ => ⟨S2x8192x128, .f32⟩
  | .hbm, ⟨12, _⟩ => ⟨S2x8192x128, .bf16⟩
  | .hbm, ⟨13, _⟩ => ⟨S_, .f32⟩
  | .hbm, ⟨14, _⟩ => ⟨S8192x1, .f32⟩
  | .hbm, ⟨15, _⟩ => ⟨S_, .i32⟩
  | .hbm, ⟨16, _⟩ => ⟨S_, .f32⟩
  | .hbm, ⟨17, _⟩ => ⟨S8192x64, .f32⟩
  | .hbm, ⟨18, _⟩ => ⟨S8192x1x64, .f32⟩
  | .hbm, ⟨19, _⟩ => ⟨S8192x64, .f32⟩
  | .hbm, ⟨20, _⟩ => ⟨S8192x128, .f32⟩
  | .hbm, ⟨21, _⟩ => ⟨S8192x1x64, .f32⟩
  | .hbm, ⟨22, _⟩ => ⟨S8192x64, .f32⟩
  | .hbm, ⟨23, _⟩ => ⟨S8192x128, .f32⟩
  | .hbm, ⟨24, _⟩ => ⟨S1x8192x128, .f32⟩
  | .hbm, ⟨25, _⟩ => ⟨S1x8192x128, .f32⟩
  | .hbm, ⟨26, _⟩ => ⟨S2x8192x128, .f32⟩
  | .hbm, ⟨27, _⟩ => ⟨S2x8192x128, .bf16⟩
  | .hbm, ⟨28, _⟩ => ⟨S8192x2x4x64, .f32⟩
  | .hbm, ⟨29, _⟩ => ⟨S2x8192x8192x4, .f32⟩
  | .hbm, ⟨30, _⟩ => ⟨S2x4x8192x8192, .f32⟩
  | .hbm, ⟨31, _⟩ => ⟨S_, .f32⟩
  | .hbm, ⟨32, _⟩ => ⟨S2x4x8192x8192, .f32⟩
  | .hbm, ⟨33, _⟩ => ⟨S2x4x8192x8192, .f32⟩
  | .hbm, ⟨34, _⟩ => ⟨S_, .f32⟩
  | .hbm, ⟨35, _⟩ => ⟨S2x4x8192, .f32⟩
  | .hbm, ⟨36, _⟩ => ⟨S_, .f32⟩
  | .hbm, ⟨37, _⟩ => ⟨S2x4x8192, .f32⟩
  | .hbm, ⟨38, _⟩ => ⟨S2x4x8192, .f32⟩
  | .hbm, ⟨39, _⟩ => ⟨S2x4x8192x1, .f32⟩
  | .hbm, ⟨40, _⟩ => ⟨S2x4x8192x8192, .f32⟩
  | .hbm, ⟨41, _⟩ => ⟨S2x4x8192x8192, .f32⟩
  | .hbm, ⟨42, _⟩ => ⟨S2x4x8192x8192, .f32⟩
  | .hbm, ⟨43, _⟩ => ⟨S_, .f32⟩
  | .hbm, ⟨44, _⟩ => ⟨S2x4x8192, .f32⟩
  | .hbm, ⟨45, _⟩ => ⟨S2x4x8192x1, .f32⟩
  | .hbm, ⟨46, _⟩ => ⟨S2x4x8192x8192, .f32⟩
  | .hbm, ⟨47, _⟩ => ⟨S2x4x8192x8192, .f32⟩
  | .hbm, ⟨48, _⟩ => ⟨S2x64x4x8192, .f32⟩
  | .hbm, ⟨49, _⟩ => ⟨S8192x2x4x64, .f32⟩
  | .hbm, ⟨50, _⟩ => ⟨S8192x8x64, .f32⟩
  | .hbm, ⟨51, _⟩ => ⟨S8192x512, .f32⟩
  | .hbm, ⟨52, _⟩ => ⟨S8192x512, .bf16⟩
  | .hbm, ⟨53, _⟩ => ⟨S8192x2x4x64, .f32⟩
  | .hbm, ⟨54, _⟩ => ⟨S2x8192x8192x4, .f32⟩
  | .hbm, ⟨55, _⟩ => ⟨S2x4x8192x8192, .f32⟩
  | .hbm, ⟨56, _⟩ => ⟨S_, .f32⟩
  | .hbm, ⟨57, _⟩ => ⟨S2x4x8192x8192, .f32⟩
  | .hbm, ⟨58, _⟩ => ⟨S2x4x8192x8192, .f32⟩
  | .hbm, ⟨59, _⟩ => ⟨S_, .f32⟩
  | .hbm, ⟨60, _⟩ => ⟨S2x4x8192, .f32⟩
  | .hbm, ⟨61, _⟩ => ⟨S2x4x8192x1, .f32⟩
  | .hbm, ⟨62, _⟩ => ⟨S2x4x8192x8192, .f32⟩
  | .hbm, ⟨63, _⟩ => ⟨S2x4x8192x8192, .f32⟩
  | .hbm, ⟨64, _⟩ => ⟨S2x4x8192x8192, .f32⟩
  | .hbm, ⟨65, _⟩ => ⟨S_, .f32⟩
  | .hbm, ⟨66, _⟩ => ⟨S2x4x8192, .f32⟩
  | .hbm, ⟨67, _⟩ => ⟨S2x4x8192x1, .f32⟩
  | .hbm, ⟨68, _⟩ => ⟨S2x4x8192x1, .f32⟩
  | .hbm, ⟨69, _⟩ => ⟨S2x4x8192x1, .f32⟩
  | .hbm, ⟨70, _⟩ => ⟨S8192x2x4x1, .f32⟩
  | .hbm, ⟨71, _⟩ => ⟨S8192x8x1, .f32⟩
  | .hbm, ⟨72, _⟩ => ⟨S8192x8x64, .f32⟩
  | .hbm, ⟨73, _⟩ => ⟨S8192x512, .f32⟩
  | .hbm, ⟨74, _⟩ => ⟨S8192x512, .f32⟩
  | .hbm, ⟨75, _⟩ => ⟨S8192x512, .bf16⟩
  | .hbm, ⟨76, _⟩ => ⟨S8192x512, .f32⟩
  | .hbm, ⟨77, _⟩ => ⟨S8192x512, .f32⟩
  | .hbm, ⟨78, _⟩ => ⟨S2x8192x128, .f32⟩
  | .hbm, ⟨79, _⟩ => ⟨S2x8192x128, .f32⟩
  | .local _ .vmem, ⟨0, _⟩ => ⟨S256x256, .bf16⟩
  | .local _ .vmem, ⟨1, _⟩ => ⟨S256x256, .bf16⟩
  | .local _ .vmem, ⟨2, _⟩ => ⟨S256x256, .f32⟩
  | .local _ .vmem, ⟨3, _⟩ => ⟨S256x256, .f32⟩
  | .local _ .vmem, ⟨4, _⟩ => ⟨S256x256, .bf16⟩
  | .local _ .vmem, ⟨5, _⟩ => ⟨S256x256, .bf16⟩
  | .local _ .vmem, ⟨6, _⟩ => ⟨S256x256, .f32⟩
  | .local _ .vmem, ⟨7, _⟩ => ⟨S256x256, .f32⟩
  | .local _ .vmem, ⟨8, _⟩ => ⟨S1x8192x128, .bf16⟩
  | .local _ .vmem, ⟨9, _⟩ => ⟨S1x8192x128, .bf16⟩
  | .local _ .vmem, ⟨10, _⟩ => ⟨S1x8192x128, .bf16⟩
  | .local _ .vmem, ⟨11, _⟩ => ⟨S1x8192x128, .bf16⟩
  | .local _ .vmem, ⟨12, _⟩ => ⟨S256x256, .f32⟩
  | .local _ .vmem, ⟨13, _⟩ => ⟨S256x256, .f32⟩
  | .local _ .vmem, ⟨14, _⟩ => ⟨S1x8192x128, .f32⟩
  | .local _ .vmem, ⟨15, _⟩ => ⟨S1x8192x128, .f32⟩
  | .local _ .vmem, ⟨16, _⟩ => ⟨S1x8192x128, .f32⟩
  | .local _ .vmem, ⟨17, _⟩ => ⟨S1x8192x128, .f32⟩
  | .local _ .vmem, ⟨18, _⟩ => ⟨S512x128, .bf16⟩
  | .local _ .vmem, ⟨19, _⟩ => ⟨S512x128, .bf16⟩
  | .local _ .vmem, ⟨20, _⟩ => ⟨S512x1, .f32⟩
  | .local _ .vmem, ⟨21, _⟩ => ⟨S512x1, .f32⟩
  | .local _ .vmem, ⟨22, _⟩ => ⟨S512x128, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61_0 : Ref sig .tc := ⟨.hbm, 77, rfl⟩
abbrev main_v61_1 : Ref sig .tc := ⟨.hbm, 78, rfl⟩
abbrev main_v61_2 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_34 : BitVec 32 := 0#32
  let c4_i32 : BitVec 32 := 4#32
  let v71 : BitVec 32 := Scalar.addi c0_i32_34 c4_i32
  let c1_i32 : BitVec 32 := 1#32
  ⟨c0_i32_34, v71, c1_i32⟩
def k0_mult1 (k0_t1 : Fin k0_t1_loop.trips) : BitVec 32 :=
  let c0_i32_34 : BitVec 32 := 0#32
  let c1_i32 : BitVec 32 := 1#32
  let arg16 : BitVec 32 := Scf.iv c0_i32_34 c1_i32 k0_t1
  let c2048_i32 : BitVec 32 := 2048#32
  let v154 : BitVec 32 := Scalar.muli arg16 c2048_i32
  v154
def k0_off1 (k0_t1 : Fin k0_t1_loop.trips) : Fin 3 → Nat :=
  let c0_86 : Index := 0#32
  let c0_i32_34 : BitVec 32 := 0#32
  let c1_i32 : BitVec 32 := 1#32
  let arg16 : BitVec 32 := Scf.iv c0_i32_34 c1_i32 k0_t1
  let c2048_i32 : BitVec 32 := 2048#32
  let v154 : BitVec 32 := Scalar.muli arg16 c2048_i32
  let v155 : BitVec 32 := v154
  let v156 : Index := Scalar.indexCast v155
  let c0_87 : Index := 0#32
  ![0, v156.toNat, 0]
@[reducible] def k0_t2_loop : Scf.Loop 32 :=
  let c0_i32_76 : BitVec 32 := 0#32
  let c4_i32_77 : BitVec 32 := 4#32
  let v145 : BitVec 32 := Scalar.addi c0_i32_76 c4_i32_77
  let c1_i32_78 : BitVec 32 := 1#32
  ⟨c0_i32_76, v145, c1_i32_78⟩
def k0_mult2 (k0_t2 : Fin k0_t2_loop.trips) : BitVec 32 :=
  let c0_i32_76 : BitVec 32 := 0#32
  let c1_i32_78 : BitVec 32 := 1#32
  let arg16 : BitVec 32 := Scf.iv c0_i32_76 c1_i32_78 k0_t2
  let c2048_i32 : BitVec 32 := 2048#32
  let v154 : BitVec 32 := Scalar.muli arg16 c2048_i32
  v154
def k0_off2 (k0_t2 : Fin k0_t2_loop.trips) : Fin 3 → Nat :=
  let c0_86 : Index := 0#32
  let c0_i32_76 : BitVec 32 := 0#32
  let c1_i32_78 : BitVec 32 := 1#32
  let arg16 : BitVec 32 := Scf.iv c0_i32_76 c1_i32_78 k0_t2
  let c2048_i32 : BitVec 32 := 2048#32
  let v154 : BitVec 32 := Scalar.muli arg16 c2048_i32
  let v155 : BitVec 32 := v154
  let v156 : Index := Scalar.indexCast v155
  let c0_87 : Index := 0#32
  ![0, v156.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== AttnIdeal.lean ====
variable {F : FTy → Type} [FloatOps F] [Named F]
def κ : String → Option EReal := fun
  | "lane" => some ⊥
  | _ => none
-- ==== AttnRefIdeal.lean ====
abbrev S8192x8x64 : Shape := ⟨3, ![8192, 8, 64]⟩
abbrev S8192x2x64 : Shape := ⟨3, ![8192, 2, 64]⟩
abbrev S8192x2x4x64 : Shape := ⟨4, ![8192, 2, 4, 64]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x64x4x8192 : Shape := ⟨4, ![2, 64, 4, 8192]⟩
abbrev S2x64x8192 : Shape := ⟨3, ![2, 64, 8192]⟩
abbrev S2x8192x4x64 : Shape := ⟨4, ![2, 8192, 4, 64]⟩
abbrev S2x8192x64 : Shape := ⟨3, ![2, 8192, 64]⟩
abbrev S8192x512 : Shape := ⟨2, ![8192, 512]⟩
abbrev S2x8192x128 : Shape := ⟨3, ![2, 8192, 128]⟩

abbrev nBuf : Space → Nat
  | .hbm => 88
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x2x64, .f32⟩
  | .hbm, ⟨2, _⟩ => ⟨S8192x2x64, .f32⟩
  | .hbm, ⟨3, _⟩ => ⟨S8192x8x64, .f32⟩
  | .hbm, ⟨4, _⟩ => ⟨S8192x2x4x64, .f32⟩
  | .hbm, ⟨5, _⟩ => ⟨S2x8192x8192x4, .f32⟩
  | .hbm, ⟨6, _⟩ => ⟨S2x4x8192x8192, .f32⟩
  | .hbm, ⟨7, _⟩ => ⟨S_, .f32⟩
  | .hbm, ⟨8, _⟩ => ⟨S2x4x8192x8192, .f32⟩
  | .hbm, ⟨9, _⟩ => ⟨S2x4x8192x8192, .f32⟩
  | .hbm, ⟨10, _⟩ => ⟨S_, .f32⟩
  | .hbm, ⟨11, _⟩ => ⟨S2x4x8192, .f32⟩
  | .hbm, ⟨12, _⟩ => ⟨S2x4x8192x1, .f32⟩
  | .hbm, ⟨13, _⟩ => ⟨S2x4x8192x8192, .f32⟩
  | .hbm, ⟨14, _⟩ => ⟨S2x4x8192x8192, .i1⟩
  | .hbm, ⟨15, _⟩ => ⟨S2x4x8192x8192, .f32⟩
  | .hbm, ⟨16, _⟩ => ⟨S_, .f32⟩
  | .hbm, ⟨17, _⟩ => ⟨S2x4x8192, .f32⟩
  | .hbm, ⟨18, _⟩ => ⟨S_, .f32⟩
  | .hbm, ⟨19, _⟩ => ⟨S2x4x8192, .f32⟩
  | .hbm, ⟨20, _⟩ => ⟨S2x4x8192, .f32⟩
  | .hbm, ⟨21, _⟩ => ⟨S_, .f32⟩
  | .hbm, ⟨22, _⟩ => ⟨S2x4x8192, .f32⟩
  | .hbm, ⟨23, _⟩ => ⟨S2x4x8192, .i1⟩
  | .hbm, ⟨24, _⟩ => ⟨S_, .f32⟩
  | .hbm, ⟨25, _⟩ => ⟨S2x4x8192, .f32⟩
  | .hbm, ⟨26, _⟩ => ⟨S2x4x8192, .i1⟩
  | .hbm, ⟨27, _⟩ => ⟨S_, .f32⟩
  | .hbm, ⟨28, _⟩ => ⟨S2x4x8192, .f32⟩
  | .hbm, ⟨29, _⟩ => ⟨S_, .f32⟩
  | .hbm, ⟨30, _⟩ => ⟨S2x4x8192, .f32⟩
  | .hbm, ⟨31, _⟩ => ⟨S_, .f32⟩
  | .hbm, ⟨32, _⟩ => ⟨S2x4x8192, .f32⟩
  | .hbm, ⟨33, _⟩ => ⟨S2x4x8192, .f32⟩
  | .hbm, ⟨34, _⟩ => ⟨S2x4x8192, .f32⟩
  | .hbm, ⟨35, _⟩ => ⟨S2x4x8192x1, .f32⟩
  | .hbm, ⟨36, _⟩ => ⟨S2x4x8192x8192, .f32⟩
  | .hbm, ⟨37, _⟩ => ⟨S2x4x8192x8192, .f32⟩
  | .hbm, ⟨38, _⟩ => ⟨S2x4x8192x8192, .f32⟩
  | .hbm, ⟨39, _⟩ => ⟨S_, .f32⟩
  | .hbm, ⟨40, _⟩ => ⟨S2x4x8192, .f32⟩
  | .hbm, ⟨41, _⟩ => ⟨S2x4x8192x1, .f32⟩
  | .hbm, ⟨42, _⟩ => ⟨S2x4x8192x8192, .f32⟩
  | .hbm, ⟨43, _⟩ => ⟨S2x4x8192x8192, .f32⟩
  | .hbm, ⟨44, _⟩ => ⟨S2x4x8192x1, .f32⟩
  | .hbm, ⟨45, _⟩ => ⟨S_, .f32⟩
  | .hbm, ⟨46, _⟩ => ⟨S2x4x8192x1, .f32⟩
  | .hbm, ⟨47, _⟩ => ⟨S2x4x8192x1, .f32⟩
  | .hbm, ⟨48, _⟩ => ⟨S2x64x4x8192, .f32⟩
  | .hbm, ⟨49, _⟩ => ⟨S8192x2x4x64, .f32⟩
  | .hbm, ⟨50, _⟩ => ⟨S8192x8x64, .f32⟩
  | .hbm, ⟨51, _⟩ => ⟨S8192x2x4x64, .f32⟩
  | .hbm, ⟨52, _⟩ => ⟨S2x64x4x8192, .f32⟩
  | .hbm, ⟨53, _⟩ => ⟨S2x4x8192x8192, .f32⟩
  | .hbm, ⟨54, _⟩ => ⟨S2x64x8192, .f32⟩
  | .hbm, ⟨55, _⟩ => ⟨S8192x2x64, .f32⟩
  | .hbm, ⟨56, _⟩ => ⟨S2x4x8192x8192, .f32⟩
  | .hbm, ⟨57, _⟩ => ⟨S2x4x8192x8192, .f32⟩
  | .hbm, ⟨58, _⟩ => ⟨S2x4x8192x8192, .f32⟩
  | .hbm, ⟨59, _⟩ => ⟨S_, .f32⟩
  | .hbm, ⟨60, _⟩ => ⟨S2x4x8192, .f32⟩
  | .hbm, ⟨61, _⟩ => ⟨S2x4x8192x1, .f32⟩
  | .hbm, ⟨62, _⟩ => ⟨S2x4x8192x1, .f32⟩
  | .hbm, ⟨63, _⟩ => ⟨S2x4x8192x8192, .f32⟩
  | .hbm, ⟨64, _⟩ => ⟨S2x4x8192x8192, .f32⟩
  | .hbm, ⟨65, _⟩ => ⟨S_, .f32⟩
  | .hbm, ⟨66, _⟩ => ⟨S2x4x8192, .f32⟩
  | .hbm, ⟨67, _⟩ => ⟨S2x4x8192x8192, .f32⟩
  | .hbm, ⟨68, _⟩ => ⟨S2x4x8192x8192, .f32⟩
  | .hbm, ⟨69, _⟩ => ⟨S2x4x8192x8192, .f32⟩
  | .hbm, ⟨70, _⟩ => ⟨S_, .f32⟩
  | .hbm, ⟨71, _⟩ => ⟨S2x4x8192x8192, .f32⟩
  | .hbm, ⟨72, _⟩ => ⟨S2x4x8192x8192, .f32⟩
  | .hbm, ⟨73, _⟩ => ⟨S2x8192x8192x4, .f32⟩
  | .hbm, ⟨74, _⟩ => ⟨S2x8192x4x64, .f32⟩
  | .hbm, ⟨75, _⟩ => ⟨S8192x2x4x64, .f32⟩
  | .hbm, ⟨76, _⟩ => ⟨S2x8192x64, .f32⟩
  | .hbm, ⟨77, _⟩ => ⟨S8192x2x64, .f32⟩
  | .hbm, ⟨78, _⟩ => ⟨S8192x8x64, .f32⟩
  | .hbm, ⟨79, _⟩ => ⟨S8192x512, .f32⟩
  | .hbm, ⟨80, _⟩ => ⟨S2x8192x64, .f32⟩
  | .hbm, ⟨81, _⟩ => ⟨S_, .i32⟩
  | .hbm, ⟨82, _⟩ => ⟨S_, .f32⟩
  | .hbm, ⟨83, _⟩ => ⟨S2x8192x128, .f32⟩
  | .hbm, ⟨84, _⟩ => ⟨S2x8192x64, .f32⟩
  | .hbm, ⟨85, _⟩ => ⟨S_, .i32⟩
  | .hbm, ⟨86, _⟩ => ⟨S_, .f32⟩
  | .hbm, ⟨87, _⟩ => ⟨S2x8192x128, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_c : Ref sig .tc := ⟨.hbm, 81, rfl⟩
abbrev main_call0_v0 : Ref sig .tc := ⟨.hbm, 82, rfl⟩
abbrev main_v63 : Ref sig .tc := ⟨.hbm, 83, rfl⟩
abbrev main_v64 : Ref sig .tc := ⟨.hbm, 84, rfl⟩
abbrev main_c_13 : Ref sig .tc := ⟨.hbm, 85, rfl⟩
abbrev main_call1_v0 : Ref sig .tc := ⟨.hbm, 86, rfl⟩
abbrev main_v65 : Ref sig .tc := ⟨.hbm, 87, rfl⟩

abbrev nD : Nat := 1
abbrev τ : Topo := Topo.v7x

variable {F : FTy → Type} [FloatOps F]

def κ : String → Option EReal := fun
  | "lane" => some ⊥
  | _ => none
-- ==== PoolB.lean ====
abbrev S8192x512 : Shape := ⟨2, ![8192, 512]⟩
abbrev S8192x4x128 : Shape := ⟨3, ![8192, 4, 128]⟩
abbrev S8192 : Shape := ⟨1, ![8192]⟩
abbrev S_ : Shape := ⟨0, ![]⟩
abbrev S8192x1 : Shape := ⟨2, ![8192, 1]⟩
abbrev S8192x1x1 : Shape := ⟨3, ![8192, 1, 1]⟩
abbrev S8192x4x1 : Shape := ⟨3, ![8192, 4, 1]⟩
abbrev S8192x6656 : Shape := ⟨2, ![8192, 6656]⟩
abbrev S8x512 : Shape := ⟨2, ![8, 512]⟩
abbrev S256x512 : Shape := ⟨2, ![256, 512]⟩
abbrev S272x512 : Shape := ⟨2, ![272, 512]⟩
abbrev S256x272 : Shape := ⟨2, ![256, 272]⟩
abbrev S272x128 : Shape := ⟨2, ![272, 128]⟩
abbrev S256x128 : Shape := ⟨2, ![256, 128]⟩
abbrev S256x1 : Shape := ⟨2, ![256, 1]⟩

abbrev nBuf : Space → Nat
  | .hbm => 130
  | .vmem => 8
  | .smem => 0
  | _ => 0

abbrev hbmTy0_0 (i : Nat) : BufTy := match i % 128 with
  | 0 => ⟨S8192x512, .f32⟩
  | 1 => ⟨S8192x512, .f32⟩
  | 2 => ⟨S8192x4x128, .f32⟩
  | 3 => ⟨S8192, .i32⟩
  | 4 => ⟨S_, .i32⟩
  | 5 => ⟨S8192, .i32⟩
  | 6 => ⟨S8192, .i32⟩
  | 7 => ⟨S_, .i32⟩
  | 8 => ⟨S_, .i32⟩
  | 9 => ⟨S_, .i32⟩
  | 10 => ⟨S8192, .i32⟩
  | 11 => ⟨S8192, .i32⟩
  | 12 => ⟨S_, .i32⟩
  | 13 => ⟨S8192, .i32⟩
  | 14 => ⟨S8192, .i32⟩
  | 15 => ⟨S_, .i32⟩
  | 16 => ⟨S8192, .i32⟩
  | 17 => ⟨S8192, .i32⟩
  | 18 => ⟨S_, .i32⟩
  | 19 => ⟨S8192, .i32⟩
  | 20 => ⟨S8192, .i32⟩
  | 21 => ⟨S_, .i32⟩
  | 22 => ⟨S_, .i32⟩
  | 23 => ⟨S_, .i32⟩
  | 24 => ⟨S8192, .i32⟩
  | 25 => ⟨S8192, .i32⟩
  | 26 => ⟨S_, .i32⟩
  | 27 => ⟨S8192, .i32⟩
  | 28 => ⟨S8192, .i32⟩
  | 29 => ⟨S8192, .i32⟩
  | 30 => ⟨S8192, .f32⟩
  | 31 => ⟨S8192x1, .f32⟩
  | 32 => ⟨S8192, .i32⟩
  | 33 => ⟨S_, .i32⟩
  | 34 => ⟨S8192, .i32⟩
  | 35 => ⟨S8192, .i32⟩
  | 36 => ⟨S_, .i32⟩
  | 37 => ⟨S_, .i32⟩
  | 38 => ⟨S_, .i32⟩
  | 39 => ⟨S8192, .i32⟩
  | 40 => ⟨S8192, .i32⟩
  | 41 => ⟨S_, .i32⟩
  | 42 => ⟨S8192, .i32⟩
  | 43 => ⟨S8192, .i32⟩
  | 44 => ⟨S_, .i32⟩
  | 45 => ⟨S8192, .i32⟩
  | 46 => ⟨S8192, .i32⟩
  | 47 => ⟨S_, .i32⟩
  | 48 => ⟨S8192, .i32⟩
  | 49 => ⟨S8192, .i32⟩
  | 50 => ⟨S_, .i32⟩
  | 51 => ⟨S_, .i32⟩
  | 52 => ⟨S_, .i32⟩
  | 53 => ⟨S8192, .i32⟩
  | 54 => ⟨S8192, .i32⟩
  | 55 => ⟨S_, .i32⟩
  | 56 => ⟨S8192, .i32⟩
  | 57 => ⟨S8192, .i32⟩
  | 58 => ⟨S8192, .i32⟩
  | 59 => ⟨S8192, .f32⟩
  | 60 => ⟨S8192x1, .f32⟩
  | 61 => ⟨S8192, .i32⟩
  | 62 => ⟨S_, .i32⟩
  | 63 => ⟨S8192, .i32⟩
  | 64 => ⟨S8192, .i32⟩
  | 65 => ⟨S_, .i32⟩
  | 66 => ⟨S_, .i32⟩
  | 67 => ⟨S_, .i32⟩
  | 68 => ⟨S8192, .i32⟩
  | 69 => ⟨S8192, .i32⟩
  | 70 => ⟨S_, .i32⟩
  | 71 => ⟨S8192, .i32⟩
  | 72 => ⟨S8192, .i32⟩
  | 73 => ⟨S_, .i32⟩
  | 74 => ⟨S8192, .i32⟩
  | 75 => ⟨S8192, .i32⟩
  | 76 => ⟨S_, .i32⟩
  | 77 => ⟨S8192, .i32⟩
  | 78 => ⟨S8192, .i32⟩
  | 79 => ⟨S_, .i32⟩
  | 80 => ⟨S_, .i32⟩
  | 81 => ⟨S_, .i32⟩
  | 82 => ⟨S8192, .i32⟩
  | 83 => ⟨S8192, .i32⟩
  | 84 => ⟨S_, .i32⟩
  | 85 => ⟨S8192, .i32⟩
  | 86 => ⟨S8192, .i32⟩
  | 87 => ⟨S8192, .i32⟩
  | 88 => ⟨S8192, .f32⟩
  | 89 => ⟨S8192x1, .f32⟩
  | 90 => ⟨S8192, .i32⟩
  | 91 => ⟨S_, .i32⟩
  | 92 => ⟨S8192, .i32⟩
  | 93 => ⟨S8192, .i32⟩
  | 94 => ⟨S_, .i32⟩
  | 95 => ⟨S_, .i32⟩
  | 96 => ⟨S_, .i32⟩
  | 97 => ⟨S8192, .i32⟩
  | 98 => ⟨S8192, .i32⟩
  | 99 => ⟨S_, .i32⟩
  | 100 => ⟨S8192, .i32⟩
  | 101 => ⟨S8192, .i32⟩
  | 102 => ⟨S_, .i32⟩
  | 103 => ⟨S8192, .i32⟩
  | 104 => ⟨S8192, .i32⟩
  | 105 => ⟨S_, .i32⟩
  | 106 => ⟨S8192, .i32⟩
  | 107 => ⟨S8192, .i32⟩
  | 108 => ⟨S_, .i32⟩
  | 109 => ⟨S_, .i32⟩
  | 110 => ⟨S_, .i32⟩
  | 111 => ⟨S8192, .i32⟩
  | 112 => ⟨S8192, .i32⟩
  | 113 => ⟨S_, .i32⟩
  | 114 => ⟨S8192, .i32⟩
  | 115 => ⟨S8192, .i32⟩
  | 116 => ⟨S8192, .i32⟩
  | 117 => ⟨S8192, .f32⟩
  | 118 => ⟨S8192x1, .f32⟩
  | 119 => ⟨S8192x1x1, .f32⟩
  | 120 => ⟨S8192x1x1, .f32⟩
  | 121 => ⟨S8192x1x1, .f32⟩
  | 122 => ⟨S8192x1x1, .f32⟩
  | 123 => ⟨S8192x4x1, .f32⟩
  | 124 => ⟨S8192x4x128, .f32⟩
  | 125 => ⟨S8192x4x128, .f32⟩
  | 126 => ⟨S8192x512, .f32⟩
  | 127 => ⟨S_, .bf16⟩
  | _ => ⟨S8192x512, .f32⟩

abbrev hbmTy0_1 (i : Nat) : BufTy := match i % 128 with
  | 0 => ⟨S8192x6656, .bf16⟩
  | 1 => ⟨S8192x6656, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S8x512, .f32⟩
  | .local _ .vmem, ⟨1, _⟩ => ⟨S8x512, .f32⟩
  | .local _ .vmem, ⟨2, _⟩ => ⟨S256x512, .f32⟩
  | .local _ .vmem, ⟨3, _⟩ => ⟨S256x512, .f32⟩
  | .local _ .vmem, ⟨4, _⟩ => ⟨S8x512, .f32⟩
  | .local _ .vmem, ⟨5, _⟩ => ⟨S8x512, .f32⟩
  | .local _ .vmem, ⟨6, _⟩ => ⟨S256x512, .bf16⟩
  | .local _ .vmem, ⟨7, _⟩ => ⟨S256x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_c_2 : Ref sig .tc := ⟨.hbm, 15, rfl⟩
abbrev main_v5 : Ref sig .tc := ⟨.hbm, 16, rfl⟩
abbrev main_v6 : Ref sig .tc := ⟨.hbm, 17, rfl⟩
abbrev main_c_3 : Ref sig .tc := ⟨.hbm, 18, rfl⟩
abbrev main_v7 : Ref sig .tc := ⟨.hbm, 19, rfl⟩
abbrev main_v8 : Ref sig .tc := ⟨.hbm, 20, rfl⟩
abbrev main_c_4 : Ref sig .tc := ⟨.hbm, 21, rfl⟩
abbrev main_c_5 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_6 : Ref sig .tc := ⟨.hbm, 33, rfl⟩
abbrev main_v14 : Ref sig .tc := ⟨.hbm, 34, rfl⟩
abbrev main_v15 : Ref sig .tc := ⟨.hbm, 35, rfl⟩
abbrev main_c_7 : Ref sig .tc := ⟨.hbm, 36, rfl⟩
abbrev main_c_8 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v16 : Ref sig .tc := ⟨.hbm, 43, rfl⟩
abbrev main_c_9 : Ref sig .tc := ⟨.hbm, 44, rfl⟩
abbrev main_v17 : Ref sig .tc := ⟨.hbm, 45, rfl⟩
abbrev main_v18 : Ref sig .tc := ⟨.hbm, 46, rfl⟩
abbrev main_c_10 : Ref sig .tc := ⟨.hbm, 47, rfl⟩
abbrev main_v19 : Ref sig .tc := ⟨.hbm, 48, rfl⟩
abbrev main_v20 : Ref sig .tc := ⟨.hbm, 49, rfl⟩
abbrev main_c_11 : Ref sig .tc := ⟨.hbm, 50, rfl⟩
abbrev main_c_12 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_c_13 : Ref sig .tc := ⟨.hbm, 62, rfl⟩
abbrev main_v26 : Ref sig .tc := ⟨.hbm, 63, rfl⟩
abbrev main_v27 : Ref sig .tc := ⟨.hbm, 64, rfl⟩
abbrev main_c_14 : Ref sig .tc := ⟨.hbm, 65, rfl⟩
abbrev main_c_15 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_call4_v3 : Ref sig .tc := ⟨.hbm, 70, rfl⟩
abbrev main_call4_v4 : Ref sig .tc := ⟨.hbm, 71, rfl⟩
abbrev main_v28 : Ref sig .tc := ⟨.hbm, 72, rfl⟩
abbrev main_c_16 : Ref sig .tc := ⟨.hbm, 73, rfl⟩
abbrev main_v29 : Ref sig .tc := ⟨.hbm, 74, rfl⟩
abbrev main_v30 : Ref sig .tc := ⟨.hbm, 75, rfl⟩
abbrev main_c_17 : Ref sig .tc := ⟨.hbm, 76, rfl⟩
abbrev main_v31 : Ref sig .tc := ⟨.hbm, 77, rfl⟩
abbrev main_v32 : Ref sig .tc := ⟨.hbm, 78, rfl⟩
abbrev main_c_18 : Ref sig .tc := ⟨.hbm, 79, rfl⟩
abbrev main_c_19 : Ref sig .tc := ⟨.hbm, 80, rfl⟩
abbrev main_call5_v0 : Ref sig .tc := ⟨.hbm, 81, rfl⟩
abbrev main_call5_v1 : Ref sig .tc := ⟨.hbm, 82, rfl⟩
abbrev main_call5_v2 : Ref sig .tc := ⟨.hbm, 83, rfl⟩
abbrev main_call5_v3 : Ref sig .tc := ⟨.hbm, 84, rfl⟩
abbrev main_call5_v4 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_c_20 : Ref sig .tc := ⟨.hbm, 91, rfl⟩
abbrev main_v38 : Ref sig .tc := ⟨.hbm, 92, rfl⟩
abbrev main_v39 : Ref sig .tc := ⟨.hbm, 93, rfl⟩
abbrev main_c_21 : Ref sig .tc := ⟨.hbm, 94, rfl⟩
abbrev main_c_22 : Ref sig .tc := ⟨.hbm, 95, rfl⟩
abbrev main_call6_v0 : Ref sig .tc := ⟨.hbm, 96, rfl⟩
abbrev main_call6_v1 : Ref sig .tc := ⟨.hbm, 97, rfl⟩
abbrev main_call6_v2 : Ref sig .tc := ⟨.hbm, 98, rfl⟩
abbrev main_call6_v3 : Ref sig .tc := ⟨.hbm, 99, rfl⟩
abbrev main_call6_v4 : Ref sig .tc := ⟨.hbm, 100, rfl⟩
abbrev main_v40 : Ref sig .tc := ⟨.hbm, 101, rfl⟩
abbrev main_c_23 : Ref sig .tc := ⟨.hbm, 102, rfl⟩
abbrev main_v41 : Ref sig .tc := ⟨.hbm, 103, rfl⟩
abbrev main_v42 : Ref sig .tc := ⟨.hbm, 104, rfl⟩
abbrev main_c_24 : Ref sig .tc := ⟨.hbm, 105, rfl⟩
abbrev main_v43 : Ref sig .tc := ⟨.hbm, 106, rfl⟩
abbrev main_v44 : Ref sig .tc := ⟨.hbm, 107, rfl⟩
abbrev main_c_25 : Ref sig .tc := ⟨.hbm, 108, rfl⟩
abbrev main_c_26 : Ref sig .tc := ⟨.hbm, 109, rfl⟩
abbrev main_call7_v0 : Ref sig .tc := ⟨.hbm, 110, rfl⟩
abbrev main_call7_v1 : Ref sig .tc := ⟨.hbm, 111, rfl⟩
abbrev main_call7_v2 : Ref sig .tc := ⟨.hbm, 112, rfl⟩
abbrev main_call7_v3 : Ref sig .tc := ⟨.hbm, 113, rfl⟩
abbrev main_call7_v4 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_cst : Ref sig .tc := ⟨.hbm, 127, rfl⟩
abbrev main_v57 : Ref sig .tc := ⟨.hbm, 128, rfl⟩
abbrev main_v58 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PoolBRefIdeal.lean ====
abbrev S8192x512 : Shape := ⟨2, ![8192, 512]⟩
abbrev S8192x4x128 : Shape := ⟨3, ![8192, 4, 128]⟩
abbrev S_ : Shape := ⟨0, ![]⟩
abbrev S1x4x128 : Shape := ⟨3, ![1, 4, 128]⟩
abbrev S8193x4x128 : Shape := ⟨3, ![8193, 4, 128]⟩
abbrev S8192 : Shape := ⟨1, ![8192]⟩
abbrev S8192x1 : Shape := ⟨2, ![8192, 1]⟩
abbrev S8192x2 : Shape := ⟨2, ![8192, 2]⟩
abbrev S8192x128 : Shape := ⟨2, ![8192, 128]⟩
abbrev S8192x1x128 : Shape := ⟨3, ![8192, 1, 128]⟩
abbrev S8192x6656 : Shape := ⟨2, ![8192, 6656]⟩

abbrev nBuf : Space → Nat
  | .hbm => 457
  | .vmem => 0
  | .smem => 0
  | _ => 0

abbrev hbmTy0_0 (i : Nat) : BufTy := match i % 128 with
  | 0 => ⟨S8192x512, .f32⟩
  | 1 => ⟨S8192x512, .f32⟩
  | 2 => ⟨S8192x4x128, .f32⟩
  | 3 => ⟨S_, .f32⟩
  | 4 => ⟨S1x4x128, .f32⟩
  | 5 => ⟨S_, .f32⟩
  | 6 => ⟨S_, .f32⟩
  | 7 => ⟨S8192x4x128, .f32⟩
  | 8 => ⟨S8193x4x128, .f32⟩
  | 9 => ⟨S_, .f32⟩
  | 10 => ⟨S1x4x128, .f32⟩
  | 11 => ⟨S8192, .i32⟩
  | 12 => ⟨S_, .i32⟩
  | 13 => ⟨S8192, .i32⟩
  | 14 => ⟨S8192, .i32⟩
  | 15 => ⟨S_, .i32⟩
  | 16 => ⟨S_, .i32⟩
  | 17 => ⟨S_, .i32⟩
  | 18 => ⟨S8192, .i32⟩
  | 19 => ⟨S8192, .i32⟩
  | 20 => ⟨S_, .i32⟩
  | 21 => ⟨S8192, .i32⟩
  | 22 => ⟨S8192, .i32⟩
  | 23 => ⟨S_, .i32⟩
  | 24 => ⟨S8192, .i32⟩
  | 25 => ⟨S8192, .i32⟩
  | 26 => ⟨S_, .i32⟩
  | 27 => ⟨S8192, .i32⟩
  | 28 => ⟨S8192, .i32⟩
  | 29 => ⟨S_, .i32⟩
  | 30 => ⟨S_, .i32⟩
  | 31 => ⟨S_, .i32⟩
  | 32 => ⟨S8192, .i32⟩
  | 33 => ⟨S8192, .i32⟩
  | 34 => ⟨S_, .i32⟩
  | 35 => ⟨S8192, .i32⟩
  | 36 => ⟨S8192, .i32⟩
  | 37 => ⟨S_, .i32⟩
  | 38 => ⟨S8192, .i32⟩
  | 39 => ⟨S8192, .i1⟩
  | 40 => ⟨S_, .i32⟩
  | 41 => ⟨S8192, .i32⟩
  | 42 => ⟨S8192, .i32⟩
  | 43 => ⟨S8192, .i32⟩
  | 44 => ⟨S_, .i32⟩
  | 45 => ⟨S8192, .i32⟩
  | 46 => ⟨S8192, .i32⟩
  | 47 => ⟨S8192x1, .i32⟩
  | 48 => ⟨S8192x1, .i32⟩
  | 49 => ⟨S8192x2, .i32⟩
  | 50 => ⟨S8192x128, .f32⟩
  | 51 => ⟨S_, .i32⟩
  | 52 => ⟨S8192, .i32⟩
  | 53 => ⟨S8192, .i1⟩
  | 54 => ⟨S_, .i32⟩
  | 55 => ⟨S8192, .i32⟩
  | 56 => ⟨S8192, .i32⟩
  | 57 => ⟨S8192, .i32⟩
  | 58 => ⟨S_, .i32⟩
  | 59 => ⟨S8192, .i32⟩
  | 60 => ⟨S8192, .i32⟩
  | 61 => ⟨S8192x1, .i32⟩
  | 62 => ⟨S8192x1, .i32⟩
  | 63 => ⟨S8192x2, .i32⟩
  | 64 => ⟨S8192x128, .f32⟩
  | 65 => ⟨S8192x128, .f32⟩
  | 66 => ⟨S8192, .i32⟩
  | 67 => ⟨S_, .i32⟩
  | 68 => ⟨S8192, .i32⟩
  | 69 => ⟨S8192, .i32⟩
  | 70 => ⟨S_, .i32⟩
  | 71 => ⟨S_, .i32⟩
  | 72 => ⟨S_, .i32⟩
  | 73 => ⟨S8192, .i32⟩
  | 74 => ⟨S8192, .i32⟩
  | 75 => ⟨S_, .i32⟩
  | 76 => ⟨S8192, .i32⟩
  | 77 => ⟨S8192, .i32⟩
  | 78 => ⟨S_, .i32⟩
  | 79 => ⟨S8192, .i32⟩
  | 80 => ⟨S8192, .i32⟩
  | 81 => ⟨S_, .i32⟩
  | 82 => ⟨S8192, .i32⟩
  | 83 => ⟨S8192, .i32⟩
  | 84 => ⟨S_, .i32⟩
  | 85 => ⟨S_, .i32⟩
  | 86 => ⟨S_, .i32⟩
  | 87 => ⟨S8192, .i32⟩
  | 88 => ⟨S8192, .i32⟩
  | 89 => ⟨S_, .i32⟩
  | 90 => ⟨S8192, .i32⟩
  | 91 => ⟨S8192, .i32⟩
  | 92 => ⟨S8192, .i32⟩
  | 93 => ⟨S8192, .f32⟩
  | 94 => ⟨S8192x1, .f32⟩
  | 95 => ⟨S8192, .i32⟩
  | 96 => ⟨S_, .i32⟩
  | 97 => ⟨S8192, .i32⟩
  | 98 => ⟨S8192, .i32⟩
  | 99 => ⟨S_, .i32⟩
  | 100 => ⟨S_, .i32⟩
  | 101 => ⟨S_, .i32⟩
  | 102 => ⟨S8192, .i32⟩
  | 103 => ⟨S8192, .i32⟩
  | 104 => ⟨S_, .i32⟩
  | 105 => ⟨S8192, .i32⟩
  | 106 => ⟨S8192, .i32⟩
  | 107 => ⟨S_, .i32⟩
  | 108 => ⟨S8192, .i32⟩
  | 109 => ⟨S8192, .i32⟩
  | 110 => ⟨S_, .i32⟩
  | 111 => ⟨S8192, .i32⟩
  | 112 => ⟨S8192, .i32⟩
  | 113 => ⟨S_, .i32⟩
  | 114 => ⟨S_, .i32⟩
  | 115 => ⟨S_, .i32⟩
  | 116 => ⟨S8192, .i32⟩
  | 117 => ⟨S8192, .i32⟩
  | 118 => ⟨S_, .i32⟩
  | 119 => ⟨S8192, .i32⟩
  | 120 => ⟨S8192, .i32⟩
  | 121 => ⟨S_, .i32⟩
  | 122 => ⟨S8192, .i32⟩
  | 123 => ⟨S8192, .i1⟩
  | 124 => ⟨S_, .i32⟩
  | 125 => ⟨S8192, .i32⟩
  | 126 => ⟨S8192, .i32⟩
  | 127 => ⟨S8192, .i32⟩
  | _ => ⟨S8192x512, .f32⟩

abbrev hbmTy0_1 (i : Nat) : BufTy := match i % 128 with
  | 0 => ⟨S_, .i32⟩
  | 1 => ⟨S8192, .i32⟩
  | 2 => ⟨S8192, .i32⟩
  | 3 => ⟨S8192x1, .i32⟩
  | 4 => ⟨S8192x1, .i32⟩
  | 5 => ⟨S8192x2, .i32⟩
  | 6 => ⟨S8192x128, .f32⟩
  | 7 => ⟨S_, .i32⟩
  | 8 => ⟨S8192, .i32⟩
  | 9 => ⟨S8192, .i1⟩
  | 10 => ⟨S_, .i32⟩
  | 11 => ⟨S8192, .i32⟩
  | 12 => ⟨S8192, .i32⟩
  | 13 => ⟨S8192, .i32⟩
  | 14 => ⟨S_, .i32⟩
  | 15 => ⟨S8192, .i32⟩
  | 16 => ⟨S8192, .i32⟩
  | 17 => ⟨S8192x1, .i32⟩
  | 18 => ⟨S8192x1, .i32⟩
  | 19 => ⟨S8192x2, .i32⟩
  | 20 => ⟨S8192x128, .f32⟩
  | 21 => ⟨S8192x128, .f32⟩
  | 22 => ⟨S8192, .i32⟩
  | 23 => ⟨S_, .i32⟩
  | 24 => ⟨S8192, .i32⟩
  | 25 => ⟨S8192, .i32⟩
  | 26 => ⟨S_, .i32⟩
  | 27 => ⟨S_, .i32⟩
  | 28 => ⟨S_, .i32⟩
  | 29 => ⟨S8192, .i32⟩
  | 30 => ⟨S8192, .i32⟩
  | 31 => ⟨S_, .i32⟩
  | 32 => ⟨S8192, .i32⟩
  | 33 => ⟨S8192, .i32⟩
  | 34 => ⟨S_, .i32⟩
  | 35 => ⟨S8192, .i32⟩
  | 36 => ⟨S8192, .i32⟩
  | 37 => ⟨S_, .i32⟩
  | 38 => ⟨S8192, .i32⟩
  | 39 => ⟨S8192, .i32⟩
  | 40 => ⟨S_, .i32⟩
  | 41 => ⟨S_, .i32⟩
  | 42 => ⟨S_, .i32⟩
  | 43 => ⟨S8192, .i32⟩
  | 44 => ⟨S8192, .i32⟩
  | 45 => ⟨S_, .i32⟩
  | 46 => ⟨S8192, .i32⟩
  | 47 => ⟨S8192, .i32⟩
  | 48 => ⟨S8192, .i32⟩
  | 49 => ⟨S8192, .f32⟩
  | 50 => ⟨S8192x1, .f32⟩
  | 51 => ⟨S8192, .i32⟩
  | 52 => ⟨S_, .i32⟩
  | 53 => ⟨S8192, .i32⟩
  | 54 => ⟨S8192, .i32⟩
  | 55 => ⟨S_, .i32⟩
  | 56 => ⟨S_, .i32⟩
  | 57 => ⟨S_, .i32⟩
  | 58 => ⟨S8192, .i32⟩
  | 59 => ⟨S8192, .i32⟩
  | 60 => ⟨S_, .i32⟩
  | 61 => ⟨S8192, .i32⟩
  | 62 => ⟨S8192, .i32⟩
  | 63 => ⟨S_, .i32⟩
  | 64 => ⟨S8192, .i32⟩
  | 65 => ⟨S8192, .i32⟩
  | 66 => ⟨S_, .i32⟩
  | 67 => ⟨S8192, .i32⟩
  | 68 => ⟨S8192, .i32⟩
  | 69 => ⟨S_, .i32⟩
  | 70 => ⟨S_, .i32⟩
  | 71 => ⟨S_, .i32⟩
  | 72 => ⟨S8192, .i32⟩
  | 73 => ⟨S8192, .i32⟩
  | 74 => ⟨S_, .i32⟩
  | 75 => ⟨S8192, .i32⟩
  | 76 => ⟨S8192, .i32⟩
  | 77 => ⟨S_, .i32⟩
  | 78 => ⟨S8192, .i32⟩
  | 79 => ⟨S8192, .i1⟩
  | 80 => ⟨S_, .i32⟩
  | 81 => ⟨S8192, .i32⟩
  | 82 => ⟨S8192, .i32⟩
  | 83 => ⟨S8192, .i32⟩
  | 84 => ⟨S_, .i32⟩
  | 85 => ⟨S8192, .i32⟩
  | 86 => ⟨S8192, .i32⟩
  | 87 => ⟨S8192x1, .i32⟩
  | 88 => ⟨S8192x1, .i32⟩
  | 89 => ⟨S8192x2, .i32⟩
  | 90 => ⟨S8192x128, .f32⟩
  | 91 => ⟨S_, .i32⟩
  | 92 => ⟨S8192, .i32⟩
  | 93 => ⟨S8192, .i1⟩
  | 94 => ⟨S_, .i32⟩
  | 95 => ⟨S8192, .i32⟩
  | 96 => ⟨S8192, .i32⟩
  | 97 => ⟨S8192, .i32⟩
  | 98 => ⟨S_, .i32⟩
  | 99 => ⟨S8192, .i32⟩
  | 100 => ⟨S8192, .i32⟩
  | 101 => ⟨S8192x1, .i32⟩
  | 102 => ⟨S8192x1, .i32⟩
  | 103 => ⟨S8192x2, .i32⟩
  | 104 => ⟨S8192x128, .f32⟩
  | 105 => ⟨S8192x128, .f32⟩
  | 106 => ⟨S8192, .i32⟩
  | 107 => ⟨S_, .i32⟩
  | 108 => ⟨S8192, .i32⟩
  | 109 => ⟨S8192, .i32⟩
  | 110 => ⟨S_, .i32⟩
  | 111 => ⟨S_, .i32⟩
  | 112 => ⟨S_, .i32⟩
  | 113 => ⟨S8192, .i32⟩
  | 114 => ⟨S8192, .i32⟩
  | 115 => ⟨S_, .i32⟩
  | 116 => ⟨S8192, .i32⟩
  | 117 => ⟨S8192, .i32⟩
  | 118 => ⟨S_, .i32⟩
  | 119 => ⟨S8192, .i32⟩
  | 120 => ⟨S8192, .i32⟩
  | 121 => ⟨S_, .i32⟩
  | 122 => ⟨S8192, .i32⟩
  | 123 => ⟨S8192, .i32⟩
  | 124 => ⟨S_, .i32⟩
  | 125 => ⟨S_, .i32⟩
  | 126 => ⟨S_, .i32⟩
  | 127 => ⟨S8192, .i32⟩
  | _ => ⟨S8192x512, .f32⟩

abbrev hbmTy0_2 (i : Nat) : BufTy := match i % 128 with
  | 0 => ⟨S8192, .i32⟩
  | 1 => ⟨S_, .i32⟩
  | 2 => ⟨S8192, .i32⟩
  | 3 => ⟨S8192, .i32⟩
  | 4 => ⟨S8192, .i32⟩
  | 5 => ⟨S8192, .f32⟩
  | 6 => ⟨S8192x1, .f32⟩
  | 7 => ⟨S8192, .i32⟩
  | 8 => ⟨S_, .i32⟩
  | 9 => ⟨S8192, .i32⟩
  | 10 => ⟨S8192, .i32⟩
  | 11 => ⟨S_, .i32⟩
  | 12 => ⟨S_, .i32⟩
  | 13 => ⟨S_, .i32⟩
  | 14 => ⟨S8192, .i32⟩
  | 15 => ⟨S8192, .i32⟩
  | 16 => ⟨S_, .i32⟩
  | 17 => ⟨S8192, .i32⟩
  | 18 => ⟨S8192, .i32⟩
  | 19 => ⟨S_, .i32⟩
  | 20 => ⟨S8192, .i32⟩
  | 21 => ⟨S8192, .i32⟩
  | 22 => ⟨S_, .i32⟩
  | 23 => ⟨S8192, .i32⟩
  | 24 => ⟨S8192, .i32⟩
  | 25 => ⟨S_, .i32⟩
  | 26 => ⟨S_, .i32⟩
  | 27 => ⟨S_, .i32⟩
  | 28 => ⟨S8192, .i32⟩
  | 29 => ⟨S8192, .i32⟩
  | 30 => ⟨S_, .i32⟩
  | 31 => ⟨S8192, .i32⟩
  | 32 => ⟨S8192, .i32⟩
  | 33 => ⟨S_, .i32⟩
  | 34 => ⟨S8192, .i32⟩
  | 35 => ⟨S8192, .i1⟩
  | 36 => ⟨S_, .i32⟩
  | 37 => ⟨S8192, .i32⟩
  | 38 => ⟨S8192, .i32⟩
  | 39 => ⟨S8192, .i32⟩
  | 40 => ⟨S_, .i32⟩
  | 41 => ⟨S8192, .i32⟩
  | 42 => ⟨S8192, .i32⟩
  | 43 => ⟨S8192x1, .i32⟩
  | 44 => ⟨S8192x1, .i32⟩
  | 45 => ⟨S8192x2, .i32⟩
  | 46 => ⟨S8192x128, .f32⟩
  | 47 => ⟨S_, .i32⟩
  | 48 => ⟨S8192, .i32⟩
  | 49 => ⟨S8192, .i1⟩
  | 50 => ⟨S_, .i32⟩
  | 51 => ⟨S8192, .i32⟩
  | 52 => ⟨S8192, .i32⟩
  | 53 => ⟨S8192, .i32⟩
  | 54 => ⟨S_, .i32⟩
  | 55 => ⟨S8192, .i32⟩
  | 56 => ⟨S8192, .i32⟩
  | 57 => ⟨S8192x1, .i32⟩
  | 58 => ⟨S8192x1, .i32⟩
  | 59 => ⟨S8192x2, .i32⟩
  | 60 => ⟨S8192x128, .f32⟩
  | 61 => ⟨S8192x128, .f32⟩
  | 62 => ⟨S8192, .i32⟩
  | 63 => ⟨S_, .i32⟩
  | 64 => ⟨S8192, .i32⟩
  | 65 => ⟨S8192, .i32⟩
  | 66 => ⟨S_, .i32⟩
  | 67 => ⟨S_, .i32⟩
  | 68 => ⟨S_, .i32⟩
  | 69 => ⟨S8192, .i32⟩
  | 70 => ⟨S8192, .i32⟩
  | 71 => ⟨S_, .i32⟩
  | 72 => ⟨S8192, .i32⟩
  | 73 => ⟨S8192, .i32⟩
  | 74 => ⟨S_, .i32⟩
  | 75 => ⟨S8192, .i32⟩
  | 76 => ⟨S8192, .i32⟩
  | 77 => ⟨S_, .i32⟩
  | 78 => ⟨S8192, .i32⟩
  | 79 => ⟨S8192, .i32⟩
  | 80 => ⟨S_, .i32⟩
  | 81 => ⟨S_, .i32⟩
  | 82 => ⟨S_, .i32⟩
  | 83 => ⟨S8192, .i32⟩
  | 84 => ⟨S8192, .i32⟩
  | 85 => ⟨S_, .i32⟩
  | 86 => ⟨S8192, .i32⟩
  | 87 => ⟨S8192, .i32⟩
  | 88 => ⟨S8192, .i32⟩
  | 89 => ⟨S8192, .f32⟩
  | 90 => ⟨S8192x1, .f32⟩
  | 91 => ⟨S8192x4x128, .f32⟩
  | 92 => ⟨S8192x128, .f32⟩
  | 93 => ⟨S8192x128, .f32⟩
  | 94 => ⟨S8192x1x128, .f32⟩
  | 95 => ⟨S8192x128, .f32⟩
  | 96 => ⟨S8192x128, .f32⟩
  | 97 => ⟨S8192x128, .f32⟩
  | 98 => ⟨S8192x128, .f32⟩
  | 99 => ⟨S8192x1x128, .f32⟩
  | 100 => ⟨S8192x128, .f32⟩
  | 101 => ⟨S8192x128, .f32⟩
  | 102 => ⟨S8192x128, .f32⟩
  | 103 => ⟨S8192x128, .f32⟩
  | 104 => ⟨S8192x1x128, .f32⟩
  | 105 => ⟨S8192x128, .f32⟩
  | 106 => ⟨S8192x128, .f32⟩
  | 107 => ⟨S8192x128, .f32⟩
  | 108 => ⟨S8192x128, .f32⟩
  | 109 => ⟨S8192x1x128, .f32⟩
  | 110 => ⟨S8192x128, .f32⟩
  | 111 => ⟨S8192x128, .f32⟩
  | 112 => ⟨S8192x1x128, .f32⟩
  | 113 => ⟨S8192x1x128, .f32⟩
  | 114 => ⟨S8192x1x128, .f32⟩
  | 115 => ⟨S8192x1x128, .f32⟩
  | 116 => ⟨S8192x4x128, .f32⟩
  | 117 => ⟨S8192x512, .f32⟩
  | 118 => ⟨S8192x4x128, .f32⟩
  | 119 => ⟨S8192x1x128, .f32⟩
  | 120 => ⟨S8192x128, .f32⟩
  | 121 => ⟨S8192x1x128, .f32⟩
  | 122 => ⟨S8192x128, .f32⟩
  | 123 => ⟨S8192x1x128, .f32⟩
  | 124 => ⟨S8192x128, .f32⟩
  | 125 => ⟨S8192x1x128, .f32⟩
  | 126 => ⟨S8192x128, .f32⟩
  | 127 => ⟨S8192x128, .f32⟩
  | _ => ⟨S8192x512, .f32⟩

abbrev hbmTy0_3 (i : Nat) : BufTy := match i % 128 with
  | 0 => ⟨S8192x1x128, .f32⟩
  | 1 => ⟨S_, .f32⟩
  | 2 => ⟨S8192x4x128, .f32⟩
  | 3 => ⟨S8192x128, .f32⟩
  | 4 => ⟨S8192x128, .f32⟩
  | 5 => ⟨S8192x128, .f32⟩
  | 6 => ⟨S8192x1x128, .f32⟩
  | 7 => ⟨S_, .f32⟩
  | 8 => ⟨S8192x4x128, .f32⟩
  | 9 => ⟨S8192x4x128, .f32⟩
  | 10 => ⟨S8192x128, .f32⟩
  | 11 => ⟨S8192x128, .f32⟩
  | 12 => ⟨S8192x128, .f32⟩
  | 13 => ⟨S8192x1x128, .f32⟩
  | 14 => ⟨S_, .f32⟩
  | 15 => ⟨S8192x4x128, .f32⟩
  | 16 => ⟨S8192x4x128, .f32⟩
  | 17 => ⟨S8192x128, .f32⟩
  | 18 => ⟨S8192x128, .f32⟩
  | 19 => ⟨S8192x128, .f32⟩
  | 20 => ⟨S8192x1x128, .f32⟩
  | 21 => ⟨S_, .f32⟩
  | 22 => ⟨S8192x4x128, .f32⟩
  | 23 => ⟨S8192x4x128, .f32⟩
  | 24 => ⟨S8192x128, .f32⟩
  | 25 => ⟨S8192x128, .f32⟩
  | 26 => ⟨S8192x512, .f32⟩
  | 27 => ⟨S8192x128, .f32⟩
  | 28 => ⟨S_, .f32⟩
  | 29 => ⟨S8193x4x128, .f32⟩
  | 30 => ⟨S8193x4x128, .f32⟩
  | 31 => ⟨S_, .f32⟩
  | 32 => ⟨S8193x4x128, .f32⟩
  | 33 => ⟨S8193x4x128, .f32⟩
  | 34 => ⟨S8193x4x128, .f32⟩
  | 35 => ⟨S8192x128, .f32⟩
  | 36 => ⟨S_, .f32⟩
  | 37 => ⟨S8193x4x128, .f32⟩
  | 38 => ⟨S8193x4x128, .f32⟩
  | 39 => ⟨S8193x4x128, .f32⟩
  | 40 => ⟨S_, .f32⟩
  | 41 => ⟨S8193x4x128, .f32⟩
  | 42 => ⟨S8193x4x128, .f32⟩
  | 43 => ⟨S8193x4x128, .f32⟩
  | 44 => ⟨S8192x128, .f32⟩
  | 45 => ⟨S_, .f32⟩
  | 46 => ⟨S8193x4x128, .f32⟩
  | 47 => ⟨S8193x4x128, .f32⟩
  | 48 => ⟨S8193x4x128, .f32⟩
  | 49 => ⟨S_, .f32⟩
  | 50 => ⟨S8193x4x128, .f32⟩
  | 51 => ⟨S8193x4x128, .f32⟩
  | 52 => ⟨S8193x4x128, .f32⟩
  | 53 => ⟨S8192x128, .f32⟩
  | 54 => ⟨S_, .f32⟩
  | 55 => ⟨S8193x4x128, .f32⟩
  | 56 => ⟨S8193x4x128, .f32⟩
  | 57 => ⟨S8193x4x128, .f32⟩
  | 58 => ⟨S_, .f32⟩
  | 59 => ⟨S8193x4x128, .f32⟩
  | 60 => ⟨S8193x4x128, .f32⟩
  | 61 => ⟨S8193x4x128, .f32⟩
  | 62 => ⟨S1x4x128, .f32⟩
  | 63 => ⟨S8192x4x128, .f32⟩
  | 64 => ⟨S_, .f32⟩
  | 65 => ⟨S_, .f32⟩
  | 66 => ⟨S8192x4x128, .f32⟩
  | 67 => ⟨S8192x512, .f32⟩
  | 68 => ⟨S8192x512, .f32⟩
  | 69 => ⟨S_, .i32⟩
  | 70 => ⟨S_, .f32⟩
  | 71 => ⟨S8192x6656, .f32⟩
  | 72 => ⟨S8192x6656, .bf16⟩
  | _ => ⟨S8192x512, .f32⟩

abbrev hbmTy (i : Nat) : BufTy := match i / 128 with
  | 0 => hbmTy0_0 i
  | 1 => hbmTy0_1 i
  | 2 => hbmTy0_2 i
  | 3 => hbmTy0_3 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_c_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v8 : Ref sig .tc := ⟨.hbm, 22, rfl⟩
abbrev main_c_3 : Ref sig .tc := ⟨.hbm, 23, rfl⟩
abbrev main_v9 : Ref sig .tc := ⟨.hbm, 24, rfl⟩
abbrev main_v10 : Ref sig .tc := ⟨.hbm, 25, rfl⟩
abbrev main_c_4 : Ref sig .tc := ⟨.hbm, 26, rfl⟩
abbrev main_v11 : Ref sig .tc := ⟨.hbm, 27, rfl⟩
abbrev main_v12 : Ref sig .tc := ⟨.hbm, 28, rfl⟩
abbrev main_c_5 : Ref sig .tc := ⟨.hbm, 29, rfl⟩
abbrev main_c_6 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v13 : Ref sig .tc := ⟨.hbm, 36, rfl⟩
abbrev main_c_7 : Ref sig .tc := ⟨.hbm, 37, rfl⟩
abbrev main_v14 : Ref sig .tc := ⟨.hbm, 38, rfl⟩
abbrev main_v15 : Ref sig .tc := ⟨.hbm, 39, rfl⟩
abbrev main_c_8 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_9 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_10 : Ref sig .tc := ⟨.hbm, 51, rfl⟩
abbrev main_v25 : Ref sig .tc := ⟨.hbm, 52, rfl⟩
abbrev main_v26 : Ref sig .tc := ⟨.hbm, 53, rfl⟩
abbrev main_c_11 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_c_12 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_c_13 : Ref sig .tc := ⟨.hbm, 67, rfl⟩
abbrev main_v38 : Ref sig .tc := ⟨.hbm, 68, rfl⟩
abbrev main_v39 : Ref sig .tc := ⟨.hbm, 69, rfl⟩
abbrev main_c_14 : Ref sig .tc := ⟨.hbm, 70, rfl⟩
abbrev main_c_15 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_v40 : Ref sig .tc := ⟨.hbm, 77, rfl⟩
abbrev main_c_16 : Ref sig .tc := ⟨.hbm, 78, rfl⟩
abbrev main_v41 : Ref sig .tc := ⟨.hbm, 79, rfl⟩
abbrev main_v42 : Ref sig .tc := ⟨.hbm, 80, rfl⟩
abbrev main_c_17 : Ref sig .tc := ⟨.hbm, 81, rfl⟩
abbrev main_v43 : Ref sig .tc := ⟨.hbm, 82, rfl⟩
abbrev main_v44 : Ref sig .tc := ⟨.hbm, 83, rfl⟩
abbrev main_c_18 : Ref sig .tc := ⟨.hbm, 84, rfl⟩
abbrev main_c_19 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_call4_v3 : Ref sig .tc := ⟨.hbm, 89, rfl⟩
abbrev main_call4_v4 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_c_20 : Ref sig .tc := ⟨.hbm, 96, rfl⟩
abbrev main_v50 : Ref sig .tc := ⟨.hbm, 97, rfl⟩
abbrev main_v51 : Ref sig .tc := ⟨.hbm, 98, rfl⟩
abbrev main_c_21 : Ref sig .tc := ⟨.hbm, 99, rfl⟩
abbrev main_c_22 : Ref sig .tc := ⟨.hbm, 100, rfl⟩
abbrev main_call5_v0 : Ref sig .tc := ⟨.hbm, 101, rfl⟩
abbrev main_call5_v1 : Ref sig .tc := ⟨.hbm, 102, rfl⟩
abbrev main_call5_v2 : Ref sig .tc := ⟨.hbm, 103, rfl⟩
abbrev main_call5_v3 : Ref sig .tc := ⟨.hbm, 104, rfl⟩
abbrev main_call5_v4 : Ref sig .tc := ⟨.hbm, 105, rfl⟩
abbrev main_v52 : Ref sig .tc := ⟨.hbm, 106, rfl⟩
abbrev main_c_23 : Ref sig .tc := ⟨.hbm, 107, rfl⟩
abbrev main_v53 : Ref sig .tc := ⟨.hbm, 108, rfl⟩
abbrev main_v54 : Ref sig .tc := ⟨.hbm, 109, rfl⟩
abbrev main_c_24 : Ref sig .tc := ⟨.hbm, 110, rfl⟩
abbrev main_v55 : Ref sig .tc := ⟨.hbm, 111, rfl⟩
abbrev main_v56 : Ref sig .tc := ⟨.hbm, 112, rfl⟩
abbrev main_c_25 : Ref sig .tc := ⟨.hbm, 113, rfl⟩
abbrev main_c_26 : Ref sig .tc := ⟨.hbm, 114, rfl⟩
abbrev main_call6_v0 : Ref sig .tc := ⟨.hbm, 115, rfl⟩
abbrev main_call6_v1 : Ref sig .tc := ⟨.hbm, 116, rfl⟩
abbrev main_call6_v2 : Ref sig .tc := ⟨.hbm, 117, rfl⟩
abbrev main_call6_v3 : Ref sig .tc := ⟨.hbm, 118, rfl⟩
abbrev main_call6_v4 : Ref sig .tc := ⟨.hbm, 119, rfl⟩
abbrev main_v57 : Ref sig .tc := ⟨.hbm, 120, rfl⟩
abbrev main_c_27 : Ref sig .tc := ⟨.hbm, 121, rfl⟩
abbrev main_v58 : Ref sig .tc := ⟨.hbm, 122, rfl⟩
abbrev main_v59 : Ref sig .tc := ⟨.hbm, 123, rfl⟩
abbrev main_c_28 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_c_29 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_c_30 : Ref sig .tc := ⟨.hbm, 135, rfl⟩
abbrev main_v69 : Ref sig .tc := ⟨.hbm, 136, rfl⟩
abbrev main_v70 : Ref sig .tc := ⟨.hbm, 137, rfl⟩
abbrev main_c_31 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_c_32 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_c_33 : Ref sig .tc := ⟨.hbm, 151, rfl⟩
abbrev main_v82 : Ref sig .tc := ⟨.hbm, 152, rfl⟩
abbrev main_v83 : Ref sig .tc := ⟨.hbm, 153, rfl⟩
abbrev main_c_34 : Ref sig .tc := ⟨.hbm, 154, rfl⟩
abbrev main_c_35 : Ref sig .tc := ⟨.hbm, 155, rfl⟩
abbrev main_call7_v0 : Ref sig .tc := ⟨.hbm, 156, rfl⟩
abbrev main_call7_v1 : Ref sig .tc := ⟨.hbm, 157, rfl⟩
abbrev main_call7_v2 : Ref sig .tc := ⟨.hbm, 158, rfl⟩
abbrev main_call7_v3 : Ref sig .tc := ⟨.hbm, 159, rfl⟩
abbrev main_call7_v4 : Ref sig .tc := ⟨.hbm, 160, rfl⟩
abbrev main_v84 : Ref sig .tc := ⟨.hbm, 161, rfl⟩
abbrev main_c_36 : Ref sig .tc := ⟨.hbm, 162, rfl⟩
abbrev main_v85 : Ref sig .tc := ⟨.hbm, 163, rfl⟩
abbrev main_v86 : Ref sig .tc := ⟨.hbm, 164, rfl⟩
abbrev main_c_37 : Ref sig .tc := ⟨.hbm, 165, rfl⟩
abbrev main_v87 : Ref sig .tc := ⟨.hbm, 166, rfl⟩
abbrev main_v88 : Ref sig .tc := ⟨.hbm, 167, rfl⟩
abbrev main_c_38 : Ref sig .tc := ⟨.hbm, 168, rfl⟩
abbrev main_c_39 : Ref sig .tc := ⟨.hbm, 169, rfl⟩
abbrev main_call8_v0 : Ref sig .tc := ⟨.hbm, 170, rfl⟩
abbrev main_call8_v1 : Ref sig .tc := ⟨.hbm, 171, rfl⟩
abbrev main_call8_v2 : Ref sig .tc := ⟨.hbm, 172, rfl⟩
abbrev main_call8_v3 : Ref sig .tc := ⟨.hbm, 173, rfl⟩
abbrev main_call8_v4 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_c_40 : Ref sig .tc := ⟨.hbm, 180, rfl⟩
abbrev main_v94 : Ref sig .tc := ⟨.hbm, 181, rfl⟩
abbrev main_v95 : Ref sig .tc := ⟨.hbm, 182, rfl⟩
abbrev main_c_41 : Ref sig .tc := ⟨.hbm, 183, rfl⟩
abbrev main_c_42 : Ref sig .tc := ⟨.hbm, 184, rfl⟩
abbrev main_call9_v0 : Ref sig .tc := ⟨.hbm, 185, rfl⟩
abbrev main_call9_v1 : Ref sig .tc := ⟨.hbm, 186, rfl⟩
abbrev main_call9_v2 : Ref sig .tc := ⟨.hbm, 187, rfl⟩
abbrev main_call9_v3 : Ref sig .tc := ⟨.hbm, 188, rfl⟩
abbrev main_call9_v4 : Ref sig .tc := ⟨.hbm, 189, rfl⟩
abbrev main_v96 : Ref sig .tc := ⟨.hbm, 190, rfl⟩
abbrev main_c_43 : Ref sig .tc := ⟨.hbm, 191, rfl⟩
abbrev main_v97 : Ref sig .tc := ⟨.hbm, 192, rfl⟩
abbrev main_v98 : Ref sig .tc := ⟨.hbm, 193, rfl⟩
abbrev main_c_44 : Ref sig .tc := ⟨.hbm, 194, rfl⟩
abbrev main_v99 : Ref sig .tc := ⟨.hbm, 195, rfl⟩
abbrev main_v100 : Ref sig .tc := ⟨.hbm, 196, rfl⟩
abbrev main_c_45 : Ref sig .tc := ⟨.hbm, 197, rfl⟩
abbrev main_c_46 : Ref sig .tc := ⟨.hbm, 198, rfl⟩
abbrev main_call10_v0 : Ref sig .tc := ⟨.hbm, 199, rfl⟩
abbrev main_call10_v1 : Ref sig .tc := ⟨.hbm, 200, rfl⟩
abbrev main_call10_v2 : Ref sig .tc := ⟨.hbm, 201, rfl⟩
abbrev main_call10_v3 : Ref sig .tc := ⟨.hbm, 202, rfl⟩
abbrev main_call10_v4 : Ref sig .tc := ⟨.hbm, 203, rfl⟩
abbrev main_v101 : Ref sig .tc := ⟨.hbm, 204, rfl⟩
abbrev main_c_47 : Ref sig .tc := ⟨.hbm, 205, rfl⟩
abbrev main_v102 : Ref sig .tc := ⟨.hbm, 206, rfl⟩
abbrev main_v103 : Ref sig .tc := ⟨.hbm, 207, rfl⟩
abbrev main_c_48 : Ref sig .tc := ⟨.hbm, 208, rfl⟩
abbrev main_v104 : Ref sig .tc := ⟨.hbm, 209, rfl⟩
abbrev main_v105 : Ref sig .tc := ⟨.hbm, 210, rfl⟩
abbrev main_v106 : Ref sig .tc := ⟨.hbm, 211, rfl⟩
abbrev main_c_49 : Ref sig .tc := ⟨.hbm, 212, rfl⟩
abbrev main_v107 : Ref sig .tc := ⟨.hbm, 213, rfl⟩
abbrev main_v108 : Ref sig .tc := ⟨.hbm, 214, rfl⟩
abbrev main_v109 : Ref sig .tc := ⟨.hbm, 215, rfl⟩
abbrev main_v110 : Ref sig .tc := ⟨.hbm, 216, rfl⟩
abbrev main_v111 : Ref sig .tc := ⟨.hbm, 217, rfl⟩
abbrev main_v112 : Ref sig .tc := ⟨.hbm, 218, rfl⟩
abbrev main_c_50 : Ref sig .tc := ⟨.hbm, 219, rfl⟩
abbrev main_v113 : Ref sig .tc := ⟨.hbm, 220, rfl⟩
abbrev main_v114 : Ref sig .tc := ⟨.hbm, 221, rfl⟩
abbrev main_c_51 : Ref sig .tc := ⟨.hbm, 222, rfl⟩
abbrev main_v115 : Ref sig .tc := ⟨.hbm, 223, rfl⟩
abbrev main_v116 : Ref sig .tc := ⟨.hbm, 224, rfl⟩
abbrev main_v117 : Ref sig .tc := ⟨.hbm, 225, rfl⟩
abbrev main_c_52 : Ref sig .tc := ⟨.hbm, 226, rfl⟩
abbrev main_v118 : Ref sig .tc := ⟨.hbm, 227, rfl⟩
abbrev main_v119 : Ref sig .tc := ⟨.hbm, 228, rfl⟩
abbrev main_v120 : Ref sig .tc := ⟨.hbm, 229, rfl⟩
abbrev main_v121 : Ref sig .tc := ⟨.hbm, 230, rfl⟩
abbrev main_v122 : Ref sig .tc := ⟨.hbm, 231, rfl⟩
abbrev main_v123 : Ref sig .tc := ⟨.hbm, 232, rfl⟩
abbrev main_v124 : Ref sig .tc := ⟨.hbm, 233, rfl⟩
abbrev main_v125 : Ref sig .tc := ⟨.hbm, 234, rfl⟩
abbrev main_c_53 : Ref sig .tc := ⟨.hbm, 235, rfl⟩
abbrev main_v126 : Ref sig .tc := ⟨.hbm, 236, rfl⟩
abbrev main_v127 : Ref sig .tc := ⟨.hbm, 237, rfl⟩
abbrev main_c_54 : Ref sig .tc := ⟨.hbm, 238, rfl⟩
abbrev main_c_55 : Ref sig .tc := ⟨.hbm, 239, rfl⟩
abbrev main_call11_v0 : Ref sig .tc := ⟨.hbm, 240, rfl⟩
abbrev main_call11_v1 : Ref sig .tc := ⟨.hbm, 241, rfl⟩
abbrev main_call11_v2 : Ref sig .tc := ⟨.hbm, 242, rfl⟩
abbrev main_call11_v3 : Ref sig .tc := ⟨.hbm, 243, rfl⟩
abbrev main_call11_v4 : Ref sig .tc := ⟨.hbm, 244, rfl⟩
abbrev main_v128 : Ref sig .tc := ⟨.hbm, 245, rfl⟩
abbrev main_c_56 : Ref sig .tc := ⟨.hbm, 246, rfl⟩
abbrev main_v129 : Ref sig .tc := ⟨.hbm, 247, rfl⟩
abbrev main_v130 : Ref sig .tc := ⟨.hbm, 248, rfl⟩
abbrev main_c_57 : Ref sig .tc := ⟨.hbm, 249, rfl⟩
abbrev main_v131 : Ref sig .tc := ⟨.hbm, 250, rfl⟩
abbrev main_v132 : Ref sig .tc := ⟨.hbm, 251, rfl⟩
abbrev main_c_58 : Ref sig .tc := ⟨.hbm, 252, rfl⟩
abbrev main_c_59 : Ref sig .tc := ⟨.hbm, 253, rfl⟩
abbrev main_call12_v0 : Ref sig .tc := ⟨.hbm, 254, rfl⟩
abbrev main_call12_v1 : Ref sig .tc := ⟨.hbm, 255, rfl⟩
abbrev main_call12_v2 : Ref sig .tc := ⟨.hbm, 256, rfl⟩
abbrev main_call12_v3 : Ref sig .tc := ⟨.hbm, 257, rfl⟩
abbrev main_call12_v4 : Ref sig .tc := ⟨.hbm, 258, rfl⟩
abbrev main_v133 : Ref sig .tc := ⟨.hbm, 259, rfl⟩
abbrev main_v134 : Ref sig .tc := ⟨.hbm, 260, rfl⟩
abbrev main_v135 : Ref sig .tc := ⟨.hbm, 261, rfl⟩
abbrev main_v136 : Ref sig .tc := ⟨.hbm, 262, rfl⟩
abbrev main_v137 : Ref sig .tc := ⟨.hbm, 263, rfl⟩
abbrev main_c_60 : Ref sig .tc := ⟨.hbm, 264, rfl⟩
abbrev main_v138 : Ref sig .tc := ⟨.hbm, 265, rfl⟩
abbrev main_v139 : Ref sig .tc := ⟨.hbm, 266, rfl⟩
abbrev main_c_61 : Ref sig .tc := ⟨.hbm, 267, rfl⟩
abbrev main_c_62 : Ref sig .tc := ⟨.hbm, 268, rfl⟩
abbrev main_call13_v0 : Ref sig .tc := ⟨.hbm, 269, rfl⟩
abbrev main_call13_v1 : Ref sig .tc := ⟨.hbm, 270, rfl⟩
abbrev main_call13_v2 : Ref sig .tc := ⟨.hbm, 271, rfl⟩
abbrev main_call13_v3 : Ref sig .tc := ⟨.hbm, 272, rfl⟩
abbrev main_call13_v4 : Ref sig .tc := ⟨.hbm, 273, rfl⟩
abbrev main_v140 : Ref sig .tc := ⟨.hbm, 274, rfl⟩
abbrev main_c_63 : Ref sig .tc := ⟨.hbm, 275, rfl⟩
abbrev main_v141 : Ref sig .tc := ⟨.hbm, 276, rfl⟩
abbrev main_v142 : Ref sig .tc := ⟨.hbm, 277, rfl⟩
abbrev main_c_64 : Ref sig .tc := ⟨.hbm, 278, rfl⟩
abbrev main_v143 : Ref sig .tc := ⟨.hbm, 279, rfl⟩
abbrev main_v144 : Ref sig .tc := ⟨.hbm, 280, rfl⟩
abbrev main_c_65 : Ref sig .tc := ⟨.hbm, 281, rfl⟩
abbrev main_c_66 : Ref sig .tc := ⟨.hbm, 282, rfl⟩
abbrev main_call14_v0 : Ref sig .tc := ⟨.hbm, 283, rfl⟩
abbrev main_call14_v1 : Ref sig .tc := ⟨.hbm, 284, rfl⟩
abbrev main_call14_v2 : Ref sig .tc := ⟨.hbm, 285, rfl⟩
abbrev main_call14_v3 : Ref sig .tc := ⟨.hbm, 286, rfl⟩
abbrev main_call14_v4 : Ref sig .tc := ⟨.hbm, 287, rfl⟩
abbrev main_v145 : Ref sig .tc := ⟨.hbm, 288, rfl⟩
abbrev main_c_67 : Ref sig .tc := ⟨.hbm, 289, rfl⟩
abbrev main_v146 : Ref sig .tc := ⟨.hbm, 290, rfl⟩
abbrev main_v147 : Ref sig .tc := ⟨.hbm, 291, rfl⟩
abbrev main_c_68 : Ref sig .tc := ⟨.hbm, 292, rfl⟩
abbrev main_v148 : Ref sig .tc := ⟨.hbm, 293, rfl⟩
abbrev main_v149 : Ref sig .tc := ⟨.hbm, 294, rfl⟩
abbrev main_v150 : Ref sig .tc := ⟨.hbm, 295, rfl⟩
abbrev main_c_69 : Ref sig .tc := ⟨.hbm, 296, rfl⟩
abbrev main_v151 : Ref sig .tc := ⟨.hbm, 297, rfl⟩
abbrev main_v152 : Ref sig .tc := ⟨.hbm, 298, rfl⟩
abbrev main_v153 : Ref sig .tc := ⟨.hbm, 299, rfl⟩
abbrev main_v154 : Ref sig .tc := ⟨.hbm, 300, rfl⟩
abbrev main_v155 : Ref sig .tc := ⟨.hbm, 301, rfl⟩
abbrev main_v156 : Ref sig .tc := ⟨.hbm, 302, rfl⟩
abbrev main_c_70 : Ref sig .tc := ⟨.hbm, 303, rfl⟩
abbrev main_v157 : Ref sig .tc := ⟨.hbm, 304, rfl⟩
abbrev main_v158 : Ref sig .tc := ⟨.hbm, 305, rfl⟩
abbrev main_c_71 : Ref sig .tc := ⟨.hbm, 306, rfl⟩
abbrev main_v159 : Ref sig .tc := ⟨.hbm, 307, rfl⟩
abbrev main_v160 : Ref sig .tc := ⟨.hbm, 308, rfl⟩
abbrev main_v161 : Ref sig .tc := ⟨.hbm, 309, rfl⟩
abbrev main_c_72 : Ref sig .tc := ⟨.hbm, 310, rfl⟩
abbrev main_v162 : Ref sig .tc := ⟨.hbm, 311, rfl⟩
abbrev main_v163 : Ref sig .tc := ⟨.hbm, 312, rfl⟩
abbrev main_v164 : Ref sig .tc := ⟨.hbm, 313, rfl⟩
abbrev main_v165 : Ref sig .tc := ⟨.hbm, 314, rfl⟩
abbrev main_v166 : Ref sig .tc := ⟨.hbm, 315, rfl⟩
abbrev main_v167 : Ref sig .tc := ⟨.hbm, 316, rfl⟩
abbrev main_v168 : Ref sig .tc := ⟨.hbm, 317, rfl⟩
abbrev main_v169 : Ref sig .tc := ⟨.hbm, 318, rfl⟩
abbrev main_c_73 : Ref sig .tc := ⟨.hbm, 319, rfl⟩
abbrev main_v170 : Ref sig .tc := ⟨.hbm, 320, rfl⟩
abbrev main_v171 : Ref sig .tc := ⟨.hbm, 321, rfl⟩
abbrev main_c_74 : Ref sig .tc := ⟨.hbm, 322, rfl⟩
abbrev main_c_75 : Ref sig .tc := ⟨.hbm, 323, rfl⟩
abbrev main_call15_v0 : Ref sig .tc := ⟨.hbm, 324, rfl⟩
abbrev main_call15_v1 : Ref sig .tc := ⟨.hbm, 325, rfl⟩
abbrev main_call15_v2 : Ref sig .tc := ⟨.hbm, 326, rfl⟩
abbrev main_call15_v3 : Ref sig .tc := ⟨.hbm, 327, rfl⟩
abbrev main_call15_v4 : Ref sig .tc := ⟨.hbm, 328, rfl⟩
abbrev main_v172 : Ref sig .tc := ⟨.hbm, 329, rfl⟩
abbrev main_c_76 : Ref sig .tc := ⟨.hbm, 330, rfl⟩
abbrev main_v173 : Ref sig .tc := ⟨.hbm, 331, rfl⟩
abbrev main_v174 : Ref sig .tc := ⟨.hbm, 332, rfl⟩
abbrev main_c_77 : Ref sig .tc := ⟨.hbm, 333, rfl⟩
abbrev main_v175 : Ref sig .tc := ⟨.hbm, 334, rfl⟩
abbrev main_v176 : Ref sig .tc := ⟨.hbm, 335, rfl⟩
abbrev main_c_78 : Ref sig .tc := ⟨.hbm, 336, rfl⟩
abbrev main_c_79 : Ref sig .tc := ⟨.hbm, 337, rfl⟩
abbrev main_call16_v0 : Ref sig .tc := ⟨.hbm, 338, rfl⟩
abbrev main_call16_v1 : Ref sig .tc := ⟨.hbm, 339, rfl⟩
abbrev main_call16_v2 : Ref sig .tc := ⟨.hbm, 340, rfl⟩
abbrev main_call16_v3 : Ref sig .tc := ⟨.hbm, 341, rfl⟩
abbrev main_call16_v4 : Ref sig .tc := ⟨.hbm, 342, rfl⟩
abbrev main_v177 : Ref sig .tc := ⟨.hbm, 343, rfl⟩
abbrev main_v178 : Ref sig .tc := ⟨.hbm, 344, rfl⟩
abbrev main_v179 : Ref sig .tc := ⟨.hbm, 345, rfl⟩
abbrev main_v180 : Ref sig .tc := ⟨.hbm, 346, rfl⟩
abbrev main_v181 : Ref sig .tc := ⟨.hbm, 347, rfl⟩
abbrev main_v182 : Ref sig .tc := ⟨.hbm, 348, rfl⟩
abbrev main_v183 : Ref sig .tc := ⟨.hbm, 349, rfl⟩
abbrev main_v184 : Ref sig .tc := ⟨.hbm, 350, rfl⟩
abbrev main_v185 : Ref sig .tc := ⟨.hbm, 351, rfl⟩
abbrev main_v186 : Ref sig .tc := ⟨.hbm, 352, rfl⟩
abbrev main_v187 : Ref sig .tc := ⟨.hbm, 353, rfl⟩
abbrev main_v188 : Ref sig .tc := ⟨.hbm, 354, rfl⟩
abbrev main_v189 : Ref sig .tc := ⟨.hbm, 355, rfl⟩
abbrev main_v190 : Ref sig .tc := ⟨.hbm, 356, rfl⟩
abbrev main_v191 : Ref sig .tc := ⟨.hbm, 357, rfl⟩
abbrev main_v192 : Ref sig .tc := ⟨.hbm, 358, rfl⟩
abbrev main_v193 : Ref sig .tc := ⟨.hbm, 359, rfl⟩
abbrev main_v194 : Ref sig .tc := ⟨.hbm, 360, rfl⟩
abbrev main_v195 : Ref sig .tc := ⟨.hbm, 361, rfl⟩
abbrev main_v196 : Ref sig .tc := ⟨.hbm, 362, rfl⟩
abbrev main_v197 : Ref sig .tc := ⟨.hbm, 363, rfl⟩
abbrev main_v198 : Ref sig .tc := ⟨.hbm, 364, rfl⟩
abbrev main_v199 : Ref sig .tc := ⟨.hbm, 365, rfl⟩
abbrev main_v200 : Ref sig .tc := ⟨.hbm, 366, rfl⟩
abbrev main_v201 : Ref sig .tc := ⟨.hbm, 367, rfl⟩
abbrev main_v202 : Ref sig .tc := ⟨.hbm, 368, rfl⟩
abbrev main_v203 : Ref sig .tc := ⟨.hbm, 369, rfl⟩
abbrev main_v204 : Ref sig .tc := ⟨.hbm, 370, rfl⟩
abbrev main_v205 : Ref sig .tc := ⟨.hbm, 371, rfl⟩
abbrev main_v206 : Ref sig .tc := ⟨.hbm, 372, rfl⟩
abbrev main_v207 : Ref sig .tc := ⟨.hbm, 373, rfl⟩
abbrev main_v208 : Ref sig .tc := ⟨.hbm, 374, rfl⟩
abbrev main_v209 : Ref sig .tc := ⟨.hbm, 375, rfl⟩
abbrev main_v210 : Ref sig .tc := ⟨.hbm, 376, rfl⟩
abbrev main_v211 : Ref sig .tc := ⟨.hbm, 377, rfl⟩
abbrev main_v212 : Ref sig .tc := ⟨.hbm, 378, rfl⟩
abbrev main_v213 : Ref sig .tc := ⟨.hbm, 379, rfl⟩
abbrev main_v214 : Ref sig .tc := ⟨.hbm, 380, rfl⟩
abbrev main_v215 : Ref sig .tc := ⟨.hbm, 381, rfl⟩
abbrev main_v216 : Ref sig .tc := ⟨.hbm, 382, rfl⟩
abbrev main_v217 : Ref sig .tc := ⟨.hbm, 383, rfl⟩
abbrev main_v218 : Ref sig .tc := ⟨.hbm, 384, rfl⟩
abbrev main_cst_80 : Ref sig .tc := ⟨.hbm, 385, rfl⟩
abbrev main_v219 : Ref sig .tc := ⟨.hbm, 386, rfl⟩
abbrev main_v220 : Ref sig .tc := ⟨.hbm, 387, rfl⟩
abbrev main_v221 : Ref sig .tc := ⟨.hbm, 388, rfl⟩
abbrev main_v222 : Ref sig .tc := ⟨.hbm, 389, rfl⟩
abbrev main_v223 : Ref sig .tc := ⟨.hbm, 390, rfl⟩
abbrev main_cst_81 : Ref sig .tc := ⟨.hbm, 391, rfl⟩
abbrev main_v224 : Ref sig .tc := ⟨.hbm, 392, rfl⟩
abbrev main_v225 : Ref sig .tc := ⟨.hbm, 393, rfl⟩
abbrev main_v226 : Ref sig .tc := ⟨.hbm, 394, rfl⟩
abbrev main_v227 : Ref sig .tc := ⟨.hbm, 395, rfl⟩
abbrev main_v228 : Ref sig .tc := ⟨.hbm, 396, rfl⟩
abbrev main_v229 : Ref sig .tc := ⟨.hbm, 397, rfl⟩
abbrev main_cst_82 : Ref sig .tc := ⟨.hbm, 398, rfl⟩
abbrev main_v230 : Ref sig .tc := ⟨.hbm, 399, rfl⟩
abbrev main_v231 : Ref sig .tc := ⟨.hbm, 400, rfl⟩
abbrev main_v232 : Ref sig .tc := ⟨.hbm, 401, rfl⟩
abbrev main_v233 : Ref sig .tc := ⟨.hbm, 402, rfl⟩
abbrev main_v234 : Ref sig .tc := ⟨.hbm, 403, rfl⟩
abbrev main_v235 : Ref sig .tc := ⟨.hbm, 404, rfl⟩
abbrev main_cst_83 : Ref sig .tc := ⟨.hbm, 405, rfl⟩
abbrev main_v236 : Ref sig .tc := ⟨.hbm, 406, rfl⟩
abbrev main_v237 : Ref sig .tc := ⟨.hbm, 407, rfl⟩
abbrev main_v238 : Ref sig .tc := ⟨.hbm, 408, rfl⟩
abbrev main_v239 : Ref sig .tc := ⟨.hbm, 409, rfl⟩
abbrev main_v240 : Ref sig .tc := ⟨.hbm, 410, rfl⟩
abbrev main_v241 : Ref sig .tc := ⟨.hbm, 411, rfl⟩
abbrev main_cst_84 : Ref sig .tc := ⟨.hbm, 412, rfl⟩
abbrev main_v242 : Ref sig .tc := ⟨.hbm, 413, rfl⟩
abbrev main_v243 : Ref sig .tc := ⟨.hbm, 414, rfl⟩
abbrev main_cst_85 : Ref sig .tc := ⟨.hbm, 415, rfl⟩
abbrev main_v244 : Ref sig .tc := ⟨.hbm, 416, rfl⟩
abbrev main_v245 : Ref sig .tc := ⟨.hbm, 417, rfl⟩
abbrev main_v246 : Ref sig .tc := ⟨.hbm, 418, rfl⟩
abbrev main_v247 : Ref sig .tc := ⟨.hbm, 419, rfl⟩
abbrev main_cst_86 : Ref sig .tc := ⟨.hbm, 420, rfl⟩
abbrev main_v248 : Ref sig .tc := ⟨.hbm, 421, rfl⟩
abbrev main_v249 : Ref sig .tc := ⟨.hbm, 422, rfl⟩
abbrev main_v250 : Ref sig .tc := ⟨.hbm, 423, rfl⟩
abbrev main_cst_87 : Ref sig .tc := ⟨.hbm, 424, rfl⟩
abbrev main_v251 : Ref sig .tc := ⟨.hbm, 425, rfl⟩
abbrev main_v252 : Ref sig .tc := ⟨.hbm, 426, rfl⟩
abbrev main_v253 : Ref sig .tc := ⟨.hbm, 427, rfl⟩
abbrev main_v254 : Ref sig .tc := ⟨.hbm, 428, rfl⟩
abbrev main_cst_88 : Ref sig .tc := ⟨.hbm, 429, rfl⟩
abbrev main_v255 : Ref sig .tc := ⟨.hbm, 430, rfl⟩
abbrev main_v256 : Ref sig .tc := ⟨.hbm, 431, rfl⟩
abbrev main_v257 : Ref sig .tc := ⟨.hbm, 432, rfl⟩
abbrev main_cst_89 : Ref sig .tc := ⟨.hbm, 433, rfl⟩
abbrev main_v258 : Ref sig .tc := ⟨.hbm, 434, rfl⟩
abbrev main_v259 : Ref sig .tc := ⟨.hbm, 435, rfl⟩
abbrev main_v260 : Ref sig .tc := ⟨.hbm, 436, rfl⟩
abbrev main_v261 : Ref sig .tc := ⟨.hbm, 437, rfl⟩
abbrev main_cst_90 : Ref sig .tc := ⟨.hbm, 438, rfl⟩
abbrev main_v262 : Ref sig .tc := ⟨.hbm, 439, rfl⟩
abbrev main_v263 : Ref sig .tc := ⟨.hbm, 440, rfl⟩
abbrev main_v264 : Ref sig .tc := ⟨.hbm, 441, rfl⟩
abbrev main_cst_91 : Ref sig .tc := ⟨.hbm, 442, rfl⟩
abbrev main_v265 : Ref sig .tc := ⟨.hbm, 443, rfl⟩
abbrev main_v266 : Ref sig .tc := ⟨.hbm, 444, rfl⟩
abbrev main_v267 : Ref sig .tc := ⟨.hbm, 445, rfl⟩
abbrev main_v268 : Ref sig .tc := ⟨.hbm, 446, rfl⟩
abbrev main_v269 : Ref sig .tc := ⟨.hbm, 447, rfl⟩
abbrev main_call17_cst : Ref sig .tc := ⟨.hbm, 448, rfl⟩
abbrev main_call17_v0 : Ref sig .tc := ⟨.hbm, 449, rfl⟩
abbrev main_v270 : Ref sig .tc := ⟨.hbm, 450, rfl⟩
abbrev main_v271 : Ref sig .tc := ⟨.hbm, 451, rfl⟩
abbrev main_v272 : Ref sig .tc := ⟨.hbm, 452, rfl⟩
abbrev main_c_92 : Ref sig .tc := ⟨.hbm, 453, rfl⟩
abbrev main_call18_v0 : Ref sig .tc := ⟨.hbm, 454, rfl⟩
abbrev main_v273 : Ref sig .tc := ⟨.hbm, 455, rfl⟩
abbrev main_v274 : Ref sig .tc := ⟨.hbm, 456, rfl⟩

abbrev nD : Nat := 1
abbrev τ : Topo := Topo.v7x

variable {F : FTy → Type} [FloatOps F]
-- ==== NormIn.lean ====
abbrev S8192x1024 : Shape := ⟨2, ![8192, 1024]⟩
abbrev S1x1024 : Shape := ⟨2, ![1, 1024]⟩
abbrev S1024x6656 : Shape := ⟨2, ![1024, 6656]⟩
abbrev S8192x6656 : Shape := ⟨2, ![8192, 6656]⟩
abbrev S1024x4x1664 : Shape := ⟨3, ![1024, 4, 1664]⟩
abbrev S4x1024x1664 : Shape := ⟨3, ![4, 1024, 1664]⟩
abbrev S256x6656 : Shape := ⟨2, ![256, 6656]⟩
abbrev S256x1024 : Shape := ⟨2, ![256, 1024]⟩
abbrev S256x1664 : Shape := ⟨2, ![256, 1664]⟩
abbrev S1x1024x1664 : Shape := ⟨3, ![1, 1024, 1664]⟩
abbrev S1024x1664 : Shape := ⟨2, ![1024, 1664]⟩
abbrev S256 : Shape := ⟨1, ![256]⟩
abbrev S256x1 : Shape := ⟨2, ![256, 1]⟩
abbrev S1024 : Shape := ⟨1, ![1024]⟩

abbrev nBuf : Space → Nat
  | .hbm => 11
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x6656, .f32⟩
  | .hbm, ⟨3, _⟩ => ⟨S8192x6656, .f32⟩
  | .hbm, ⟨4, _⟩ => ⟨S8192x1024, .f32⟩
  | .hbm, ⟨5, _⟩ => ⟨S1024x4x1664, .f32⟩
  | .hbm, ⟨6, _⟩ => ⟨S4x1024x1664, .f32⟩
  | .hbm, ⟨7, _⟩ => ⟨S4x1024x1664, .bf16⟩
  | .hbm, ⟨8, _⟩ => ⟨S8192x6656, .bf16⟩
  | .hbm, ⟨9, _⟩ => ⟨S8192x1024, .f32⟩
  | .hbm, ⟨10, _⟩ => ⟨S1x1024, .f32⟩
  | .local _ .vmem, ⟨0, _⟩ => ⟨S256x6656, .bf16⟩
  | .local _ .vmem, ⟨1, _⟩ => ⟨S256x6656, .bf16⟩
  | .local _ .vmem, ⟨2, _⟩ => ⟨S4x1024x1664, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let v54 : BitVec 32 := Scalar.extui v53
  let c0_i32_30 : BitVec 32 := 0#32
  let v55 : BitVec 1 := Scalar.cmpi .ne v54 c0_i32_30
  v55

def k0_cond2 (i : grid0.Coords) : BitVec 1 :=
  let arg0 : BitVec 32 := BitVec.ofNat 32 (i 0).val
  let c0_i32_31 : BitVec 32 := 0#32
  let v56 : BitVec 1 := Scalar.cmpi .sgt arg0 c0_i32_31
  let v57 : BitVec 32 := Scalar.extui v56
  let c0_i32_32 : BitVec 32 := 0#32
  let v58 : BitVec 1 := Scalar.cmpi .ne v57 c0_i32_32
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6656 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormInRefIdeal.lean ====
abbrev S8192x1024 : Shape := ⟨2, ![8192, 1024]⟩
abbrev S1x1024 : Shape := ⟨2, ![1, 1024]⟩
abbrev S1024x6656 : Shape := ⟨2, ![1024, 6656]⟩
abbrev S8192x6656 : Shape := ⟨2, ![8192, 6656]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x6656, .f32⟩
  | .hbm, ⟨3, _⟩ => ⟨S8192x6656, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x6656, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Ffn.lean ====
abbrev S8192x1024 : Shape := ⟨2, ![8192, 1024]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩
abbrev S4x8192x704 : Shape := ⟨3, ![4, 8192, 704]⟩
abbrev S512x1024 : Shape := ⟨2, ![512, 1024]⟩
abbrev S1x1024x704 : Shape := ⟨3, ![1, 1024, 704]⟩
abbrev S1x512x704 : Shape := ⟨3, ![1, 512, 704]⟩
abbrev S1024x704 : Shape := ⟨2, ![1024, 704]⟩
abbrev S512x704 : Shape := ⟨2, ![512, 704]⟩
abbrev S4x704x1024 : Shape := ⟨3, ![4, 704, 1024]⟩
abbrev S4x512x704 : Shape := ⟨3, ![4, 512, 704]⟩
abbrev S1x704x1024 : Shape := ⟨3, ![1, 704, 1024]⟩
abbrev S704x1024 : Shape := ⟨2, ![704, 1024]⟩

abbrev nBuf : Space → Nat
  | .hbm => 19
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8192x1024, .f32⟩
  | .hbm, ⟨5, _⟩ => ⟨S8192x1024, .bf16⟩
  | .hbm, ⟨6, _⟩ => ⟨S1024x4x704, .f32⟩
  | .hbm, ⟨7, _⟩ => ⟨S4x1024x704, .f32⟩
  | .hbm, ⟨8, _⟩ => ⟨S4x1024x704, .bf16⟩
  | .hbm, ⟨9, _⟩ => ⟨S1024x4x704, .f32⟩
  | .hbm, ⟨10, _⟩ => ⟨S4x1024x704, .f32⟩
  | .hbm, ⟨11, _⟩ => ⟨S4x1024x704, .bf16⟩
  | .hbm, ⟨12, _⟩ => ⟨S4x8192x704, .bf16⟩
  | .hbm, ⟨13, _⟩ => ⟨S4x8192x704, .bf16⟩
  | .hbm, ⟨14, _⟩ => ⟨S4x8192x704, .bf16⟩
  | .hbm, ⟨15, _⟩ => ⟨S4x704x1024, .f32⟩
  | .hbm, ⟨16, _⟩ => ⟨S4x704x1024, .bf16⟩
  | .hbm, ⟨17, _⟩ => ⟨S4x8192x704, .bf16⟩
  | .hbm, ⟨18, _⟩ => ⟨S4x8192x704, .bf16⟩
  | .local _ .vmem, ⟨0, _⟩ => ⟨S512x1024, .bf16⟩
  | .local _ .vmem, ⟨1, _⟩ => ⟨S512x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | .local _ .vmem, ⟨12, _⟩ => ⟨S512x1024, .f32⟩
  | .local _ .vmem, ⟨13, _⟩ => ⟨S512x1024, .f32⟩
  | .local _ .vmem, ⟨14, _⟩ => ⟨S4x704x1024, .bf16⟩
  | .local _ .vmem, ⟨15, _⟩ => ⟨S4x512x704, .bf16⟩
  | .local _ .vmem, ⟨16, _⟩ => ⟨S4x512x704, .bf16⟩
  | .local _ .vmem, ⟨17, _⟩ => ⟨S4x512x704, .bf16⟩
  | .local _ .vmem, ⟨18, _⟩ => ⟨S4x512x704, .bf16⟩
  | .local _ .vmem, ⟨19, _⟩ => ⟨S4x512x704, .bf16⟩
  | .local _ .vmem, ⟨20, _⟩ => ⟨S4x512x704, .bf16⟩
  | .local _ .vmem, ⟨21, _⟩ => ⟨S4x512x704, .bf16⟩
  | .local _ .vmem, ⟨22, _⟩ => ⟨S4x512x704, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x704x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4x512x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x512x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x512x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4x512x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== FfnRefIdeal.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩
abbrev S8192x4x704 : Shape := ⟨3, ![8192, 4, 704]⟩
abbrev S4x8192x704 : Shape := ⟨3, ![4, 8192, 704]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x4x704, .f32⟩
  | .hbm, ⟨30, _⟩ => ⟨S4x8192x704, .f32⟩
  | .hbm, ⟨31, _⟩ => ⟨S4x8192x704, .bf16⟩
  | .hbm, ⟨32, _⟩ => ⟨S8192x4x704, .f32⟩
  | .hbm, ⟨33, _⟩ => ⟨S4x8192x704, .f32⟩
  | .hbm, ⟨34, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== Norm.lean ====
abbrev S8192x1024 : Shape := ⟨2, ![8192, 1024]⟩
abbrev S1x1024 : Shape := ⟨2, ![1, 1024]⟩
abbrev S1024x2816 : Shape := ⟨2, ![1024, 2816]⟩
abbrev S8192x2816 : Shape := ⟨2, ![8192, 2816]⟩
abbrev S8192x4x704 : Shape := ⟨3, ![8192, 4, 704]⟩
abbrev S4x8192x704 : Shape := ⟨3, ![4, 8192, 704]⟩
abbrev S1024x4x704 : Shape := ⟨3, ![1024, 4, 704]⟩
abbrev S4x1024x704 : Shape := ⟨3, ![4, 1024, 704]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x1024x704 : Shape := ⟨3, ![1, 1024, 704]⟩
abbrev S1024x704 : Shape := ⟨2, ![1024, 704]⟩
abbrev S512 : Shape := ⟨1, ![512]⟩
abbrev S512x1 : Shape := ⟨2, ![512, 1]⟩
abbrev S1024 : Shape := ⟨1, ![1024]⟩

abbrev nBuf : Space → Nat
  | .hbm => 21
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S8192x2816, .f32⟩
  | .hbm, ⟨5, _⟩ => ⟨S8192x2816, .f32⟩
  | .hbm, ⟨6, _⟩ => ⟨S8192x1024, .f32⟩
  | .hbm, ⟨7, _⟩ => ⟨S8192x4x704, .f32⟩
  | .hbm, ⟨8, _⟩ => ⟨S4x8192x704, .f32⟩
  | .hbm, ⟨9, _⟩ => ⟨S4x8192x704, .bf16⟩
  | .hbm, ⟨10, _⟩ => ⟨S1024x4x704, .f32⟩
  | .hbm, ⟨11, _⟩ => ⟨S4x1024x704, .f32⟩
  | .hbm, ⟨12, _⟩ => ⟨S4x1024x704, .bf16⟩
  | .hbm, ⟨13, _⟩ => ⟨S8192x4x704, .f32⟩
  | .hbm, ⟨14, _⟩ => ⟨S4x8192x704, .f32⟩
  | .hbm, ⟨15, _⟩ => ⟨S4x8192x704, .bf16⟩
  | .hbm, ⟨16, _⟩ => ⟨S1024x4x704, .f32⟩
  | .hbm, ⟨17, _⟩ => ⟨S4x1024x704, .f32⟩
  | .hbm, ⟨18, _⟩ => ⟨S4x1024x704, .bf16⟩
  | .hbm, ⟨19, _⟩ => ⟨S8192x1024, .f32⟩
  | .hbm, ⟨20, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S4x1024x704, .bf16⟩
  | .local _ .vmem, ⟨5, _⟩ => ⟨S4x1024x704, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v77 : BitVec 1 := Scalar.cmpi .eq arg0 c0_i32
  let v78 : BitVec 32 := Scalar.extui v77
  let c0_i32_65 : BitVec 32 := 0#32
  let v79 : BitVec 1 := Scalar.cmpi .ne v78 c0_i32_65
  v79

def k0_cond2 (i : grid0.Coords) : BitVec 1 :=
  let arg0 : BitVec 32 := BitVec.ofNat 32 (i 0).val
  let c0_i32_66 : BitVec 32 := 0#32
  let v80 : BitVec 1 := Scalar.cmpi .sgt arg0 c0_i32_66
  let v81 : BitVec 32 := Scalar.extui v80
  let c0_i32_67 : BitVec 32 := 0#32
  let v82 : BitVec 1 := Scalar.cmpi .ne v81 c0_i32_67
  v82

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormRefIdeal.lean ====
abbrev S8192x1024 : Shape := ⟨2, ![8192, 1024]⟩
abbrev S1x1024 : Shape := ⟨2, ![1, 1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S8192x2816, .f32⟩
  | .hbm, ⟨5, _⟩ => ⟨S8192x2816, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x2816, .f32⟩
  | .hbm, ⟨27, _⟩ => ⟨S8192x2816, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Rope.lean ====
abbrev S8192x6656 : Shape := ⟨2, ![8192, 6656]⟩
abbrev S64 : Shape := ⟨1, ![64]⟩
abbrev S8192x8x64 : Shape := ⟨3, ![8192, 8, 64]⟩
abbrev S8192x2x64 : Shape := ⟨3, ![8192, 2, 64]⟩
abbrev S8192x3x4x64 : Shape := ⟨4, ![8192, 3, 4, 64]⟩
abbrev S128 : Shape := ⟨1, ![128]⟩
abbrev S1x128 : Shape := ⟨2, ![1, 128]⟩
abbrev S4x128 : Shape := ⟨2, ![4, 128]⟩
abbrev S8192 : Shape := ⟨1, ![8192]⟩
abbrev S16 : Shape := ⟨1, ![16]⟩
abbrev S_ : Shape := ⟨0, ![]⟩
abbrev S32 : Shape := ⟨1, ![32]⟩
abbrev S8192x1 : Shape := ⟨2, ![8192, 1]⟩
abbrev S1x16 : Shape := ⟨2, ![1, 16]⟩
abbrev S8192x16 : Shape := ⟨2, ![8192, 16]⟩
abbrev S1x32 : Shape := ⟨2, ![1, 32]⟩
abbrev S8192x32 : Shape := ⟨2, ![8192, 32]⟩
abbrev S8192x64 : Shape := ⟨2, ![8192, 64]⟩
abbrev S8192x128 : Shape := ⟨2, ![8192, 128]⟩
abbrev S1x64 : Shape := ⟨2, ![1, 64]⟩
abbrev S8192x512 : Shape := ⟨2, ![8192, 512]⟩
abbrev S2x8192x64 : Shape := ⟨3, ![2, 8192, 64]⟩
abbrev S2x8192x128 : Shape := ⟨3, ![2, 8192, 128]⟩
abbrev S8192x1x4x64 : Shape := ⟨4, ![8192, 1, 4, 64]⟩
abbrev S8192x4x64 : Shape := ⟨3, ![8192, 4, 64]⟩
abbrev S8192x256 : Shape := ⟨2, ![8192, 256]⟩
abbrev S8x128 : Shape := ⟨2, ![8, 128]⟩
abbrev S256x768 : Shape := ⟨2, ![256, 768]⟩
abbrev S256x128 : Shape := ⟨2, ![256, 128]⟩
abbrev S256x512 : Shape := ⟨2, ![256, 512]⟩
abbrev S2x256x128 : Shape := ⟨3, ![2, 256, 128]⟩
abbrev S256x256 : Shape := ⟨2, ![256, 256]⟩
abbrev S256x3072 : Shape := ⟨2, ![256, 3072]⟩
abbrev S128x128 : Shape := ⟨2, ![128, 128]⟩
abbrev S1x256x128 : Shape := ⟨3, ![1, 256, 128]⟩

abbrev nBuf : Space → Nat
  | .hbm => 180
  | .vmem => 42
  | .smem => 0
  | _ => 0

abbrev hbmTy0_0 (i : Nat) : BufTy := match i % 128 with
  | 0 => ⟨S8192x6656, .f32⟩
  | 1 => ⟨S64, .f32⟩
  | 2 => ⟨S64, .f32⟩
  | 3 => ⟨S64, .f32⟩
  | 4 => ⟨S64, .f32⟩
  | 5 => ⟨S8192x8x64, .f32⟩
  | 6 => ⟨S8192x2x64, .f32⟩
  | 7 => ⟨S8192x2x64, .f32⟩
  | 8 => ⟨S8192x3x4x64, .f32⟩
  | 9 => ⟨S8192x3x4x64, .f32⟩
  | 10 => ⟨S8192x3x4x64, .f32⟩
  | 11 => ⟨S128, .f32⟩
  | 12 => ⟨S128, .f32⟩
  | 13 => ⟨S128, .f32⟩
  | 14 => ⟨S128, .f32⟩
  | 15 => ⟨S1x128, .f32⟩
  | 16 => ⟨S1x128, .f32⟩
  | 17 => ⟨S1x128, .f32⟩
  | 18 => ⟨S1x128, .f32⟩
  | 19 => ⟨S4x128, .f32⟩
  | 20 => ⟨S8192, .i32⟩
  | 21 => ⟨S16, .f32⟩
  | 22 => ⟨S_, .f32⟩
  | 23 => ⟨S16, .f32⟩
  | 24 => ⟨S16, .f32⟩
  | 25 => ⟨S_, .f32⟩
  | 26 => ⟨S16, .f32⟩
  | 27 => ⟨S16, .f32⟩
  | 28 => ⟨S16, .f32⟩
  | 29 => ⟨S_, .f32⟩
  | 30 => ⟨S16, .f32⟩
  | 31 => ⟨S16, .f32⟩
  | 32 => ⟨S_, .f32⟩
  | 33 => ⟨S16, .f32⟩
  | 34 => ⟨S16, .f32⟩
  | 35 => ⟨S32, .f32⟩
  | 36 => ⟨S_, .f32⟩
  | 37 => ⟨S32, .f32⟩
  | 38 => ⟨S32, .f32⟩
  | 39 => ⟨S_, .f32⟩
  | 40 => ⟨S32, .f32⟩
  | 41 => ⟨S32, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S_, .i32⟩
  | 50 => ⟨S_, .i32⟩
  | 51 => ⟨S8192, .i32⟩
  | 52 => ⟨S8192, .i32⟩
  | 53 => ⟨S8192, .i32⟩
  | 54 => ⟨S_, .i32⟩
  | 55 => ⟨S8192, .i32⟩
  | 56 => ⟨S8192, .i1⟩
  | 57 => ⟨S8192, .i32⟩
  | 58 => ⟨S8192, .i32⟩
  | 59 => ⟨S_, .i32⟩
  | 60 => ⟨S8192, .i32⟩
  | 61 => ⟨S8192, .i1⟩
  | 62 => ⟨S8192, .i1⟩
  | 63 => ⟨S_, .i32⟩
  | 64 => ⟨S8192, .i32⟩
  | 65 => ⟨S8192, .i32⟩
  | 66 => ⟨S8192, .i32⟩
  | 67 => ⟨S8192, .f32⟩
  | 68 => ⟨S8192x1, .f32⟩
  | 69 => ⟨S1x16, .f32⟩
  | 70 => ⟨S8192x16, .f32⟩
  | 71 => ⟨S8192x16, .f32⟩
  | 72 => ⟨S8192x16, .f32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S8192, .i32⟩
  | 80 => ⟨S8192, .i32⟩
  | 81 => ⟨S_, .i32⟩
  | 82 => ⟨S8192, .i32⟩
  | 83 => ⟨S8192, .i1⟩
  | 84 => ⟨S_, .i32⟩
  | 85 => ⟨S8192, .i32⟩
  | 86 => ⟨S8192, .i1⟩
  | 87 => ⟨S_, .i32⟩
  | 88 => ⟨S_, .i1⟩
  | 89 => ⟨S8192, .i1⟩
  | 90 => ⟨S8192, .i1⟩
  | 91 => ⟨S8192, .i1⟩
  | 92 => ⟨S8192, .i32⟩
  | 93 => ⟨S8192, .i32⟩
  | 94 => ⟨S8192, .i32⟩
  | 95 => ⟨S8192, .f32⟩
  | 96 => ⟨S8192x1, .f32⟩
  | 97 => ⟨S1x16, .f32⟩
  | 98 => ⟨S8192x16, .f32⟩
  | 99 => ⟨S8192x16, .f32⟩
  | 100 => ⟨S8192x16, .f32⟩
  | 101 => ⟨S8192, .f32⟩
  | 102 => ⟨S8192x1, .f32⟩
  | 103 => ⟨S1x32, .f32⟩
  | 104 => ⟨S8192x32, .f32⟩
  | 105 => ⟨S8192x32, .f32⟩
  | 106 => ⟨S8192x32, .f32⟩
  | 107 => ⟨S8192x64, .f32⟩
  | 108 => ⟨S_, .f32⟩
  | 109 => ⟨S16, .f32⟩
  | 110 => ⟨S16, .f32⟩
  | 111 => ⟨S_, .f32⟩
  | 112 => ⟨S16, .f32⟩
  | 113 => ⟨S_, .f32⟩
  | 114 => ⟨S16, .f32⟩
  | 115 => ⟨S16, .f32⟩
  | 116 => ⟨S_, .f32⟩
  | 117 => ⟨S16, .f32⟩
  | 118 => ⟨S64, .f32⟩
  | 119 => ⟨S8192x64, .f32⟩
  | 120 => ⟨S_, .f32⟩
  | 121 => ⟨S32, .f32⟩
  | 122 => ⟨S32, .f32⟩
  | 123 => ⟨S_, .f32⟩
  | 124 => ⟨S32, .f32⟩
  | 125 => ⟨S64, .f32⟩
  | 126 => ⟨S8192x64, .f32⟩
  | 127 => ⟨S8192x128, .f32⟩
  | _ => ⟨S8192x6656, .f32⟩

abbrev hbmTy0_1 (i : Nat) : BufTy := match i % 128 with
  | 0 => ⟨S8192x64, .f32⟩
  | 1 => ⟨S1x64, .f32⟩
  | 2 => ⟨S8192x64, .f32⟩
  | 3 => ⟨S8192x64, .f32⟩
  | 4 => ⟨S8192x128, .f32⟩
  | 5 => ⟨S8192x64, .f32⟩
  | 6 => ⟨S8192x128, .f32⟩
  | 7 => ⟨S8192x64, .f32⟩
  | 8 => ⟨S1x64, .f32⟩
  | 9 => ⟨S8192x64, .f32⟩
  | 10 => ⟨S8192x64, .f32⟩
  | 11 => ⟨S8192x128, .f32⟩
  | 12 => ⟨S8192x512, .f32⟩
  | 13 => ⟨S2x8192x64, .f32⟩
  | 14 => ⟨S_, .i32⟩
  | 15 => ⟨S_, .f32⟩
  | 16 => ⟨S2x8192x128, .f32⟩
  | 17 => ⟨S2x8192x64, .f32⟩
  | 18 => ⟨S_, .i32⟩
  | 19 => ⟨S_, .f32⟩
  | 20 => ⟨S2x8192x128, .f32⟩
  | 21 => ⟨S8192x1x4x64, .f32⟩
  | 22 => ⟨S8192x4x64, .f32⟩
  | 23 => ⟨S8192x256, .f32⟩
  | 24 => ⟨S8192x1x4x64, .f32⟩
  | 25 => ⟨S8192x4x64, .f32⟩
  | 26 => ⟨S8192x256, .f32⟩
  | 27 => ⟨S8192x1x4x64, .f32⟩
  | 28 => ⟨S8192x4x64, .f32⟩
  | 29 => ⟨S8192x256, .f32⟩
  | 30 => ⟨S8192x1x4x64, .f32⟩
  | 31 => ⟨S8192x4x64, .f32⟩
  | 32 => ⟨S8192x256, .f32⟩
  | 33 => ⟨S8192x1x4x64, .f32⟩
  | 34 => ⟨S8192x4x64, .f32⟩
  | 35 => ⟨S8192x256, .f32⟩
  | 36 => ⟨S8192x1x4x64, .f32⟩
  | 37 => ⟨S8192x4x64, .f32⟩
  | 38 => ⟨S8192x256, .f32⟩
  | 39 => ⟨S8192x1x4x64, .f32⟩
  | 40 => ⟨S8192x4x64, .f32⟩
  | 41 => ⟨S8192x256, .f32⟩
  | 42 => ⟨S8192x1x4x64, .f32⟩
  | 43 => ⟨S8192x4x64, .f32⟩
  | 44 => ⟨S8192x256, .f32⟩
  | 45 => ⟨S8192x1x4x64, .f32⟩
  | 46 => ⟨S8192x4x64, .f32⟩
  | 47 => ⟨S8192x256, .f32⟩
  | 48 => ⟨S_, .bf16⟩
  | 49 => ⟨S8192x6656, .bf16⟩
  | 50 => ⟨S8192x6656, .bf16⟩
  | 51 => ⟨S8x128, .f32⟩
  | _ => ⟨S8192x6656, .f32⟩

abbrev hbmTy (i : Nat) : BufTy := match i / 128 with
  | 0 => hbmTy0_0 i
  | 1 => hbmTy0_1 i
  | _ => ⟨S8192x6656, .f32⟩

abbrev bufTy : (tb : Table) → Fin (tcTables nBuf tb) → BufTy
  | .hbm, ⟨i, _⟩ => hbmTy i
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S4x128, .f32⟩
  | .local _ .vmem, ⟨15, _⟩ => ⟨S256x512, .f32⟩
  | .local _ .vmem, ⟨16, _⟩ => ⟨S256x512, .f32⟩
  | .local _ .vmem, ⟨17, _⟩ => ⟨S2x256x128, .f32⟩
  | .local _ .vmem, ⟨18, _⟩ => ⟨S2x256x128, .f32⟩
  | .local _ .vmem, ⟨19, _⟩ => ⟨S2x256x128, .f32⟩
  | .local _ .vmem, ⟨20, _⟩ => ⟨S2x256x128, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x256, .f32⟩
  | .local _ .vmem, ⟨28, _⟩ => ⟨S256x256, .f32⟩
  | .local _ .vmem, ⟨29, _⟩ => ⟨S256x256, .f32⟩
  | .local _ .vmem, ⟨30, _⟩ => ⟨S256x256, .f32⟩
  | .local _ .vmem, ⟨31, _⟩ => ⟨S256x256, .f32⟩
  | .local _ .vmem, ⟨32, _⟩ => ⟨S256x256, .f32⟩
  | .local _ .vmem, ⟨33, _⟩ => ⟨S256x256, .f32⟩
  | .local _ .vmem, ⟨34, _⟩ => ⟨S256x256, .f32⟩
  | .local _ .vmem, ⟨35, _⟩ => ⟨S256x256, .f32⟩
  | .local _ .vmem, ⟨36, _⟩ => ⟨S256x256, .f32⟩
  | .local _ .vmem, ⟨37, _⟩ => ⟨S256x256, .f32⟩
  | .local _ .vmem, ⟨38, _⟩ => ⟨S256x256, .f32⟩
  | .local _ .vmem, ⟨39, _⟩ => ⟨S256x3072, .bf16⟩
  | .local _ .vmem, ⟨40, _⟩ => ⟨S256x3072, .bf16⟩
  | .local _ .vmem, ⟨41, _⟩ => ⟨S8x128, .f32⟩
  | _, _ => ⟨S8192x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_c : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_c : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_c_0 : Ref sig .tc := ⟨.hbm, 63, rfl⟩
abbrev main_call0_v12 : Ref sig .tc := ⟨.hbm, 64, rfl⟩
abbrev main_call0_v13 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_c_7 : Ref sig .tc := ⟨.hbm, 73, rfl⟩
abbrev main_call1_v0 : Ref sig .tc := ⟨.hbm, 74, rfl⟩
abbrev main_call1_c : Ref sig .tc := ⟨.hbm, 75, rfl⟩
abbrev main_call1_v1 : Ref sig .tc := ⟨.hbm, 76, rfl⟩
abbrev main_call1_c_0 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_c_1 : Ref sig .tc := ⟨.hbm, 81, rfl⟩
abbrev main_call1_v5 : Ref sig .tc := ⟨.hbm, 82, rfl⟩
abbrev main_call1_v6 : Ref sig .tc := ⟨.hbm, 83, rfl⟩
abbrev main_call1_c_2 : Ref sig .tc := ⟨.hbm, 84, rfl⟩
abbrev main_call1_v7 : Ref sig .tc := ⟨.hbm, 85, rfl⟩
abbrev main_call1_v8 : Ref sig .tc := ⟨.hbm, 86, rfl⟩
abbrev main_call1_c_3 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_v12 : Ref sig .tc := ⟨.hbm, 91, rfl⟩
abbrev main_call1_v13 : Ref sig .tc := ⟨.hbm, 92, rfl⟩
abbrev main_call1_v14 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_cst_8 : Ref sig .tc := ⟨.hbm, 108, rfl⟩
abbrev main_v51 : Ref sig .tc := ⟨.hbm, 109, rfl⟩
abbrev main_v52 : Ref sig .tc := ⟨.hbm, 110, rfl⟩
abbrev main_cst_9 : Ref sig .tc := ⟨.hbm, 111, rfl⟩
abbrev main_v53 : Ref sig .tc := ⟨.hbm, 112, rfl⟩
abbrev main_cst_10 : Ref sig .tc := ⟨.hbm, 113, rfl⟩
abbrev main_v54 : Ref sig .tc := ⟨.hbm, 114, rfl⟩
abbrev main_v55 : Ref sig .tc := ⟨.hbm, 115, rfl⟩
abbrev main_cst_11 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_cst_12 : Ref sig .tc := ⟨.hbm, 120, rfl⟩
abbrev main_v59 : Ref sig .tc := ⟨.hbm, 121, rfl⟩
abbrev main_v60 : Ref sig .tc := ⟨.hbm, 122, rfl⟩
abbrev main_cst_13 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_c_14 : Ref sig .tc := ⟨.hbm, 142, rfl⟩
abbrev main_call2_v0 : Ref sig .tc := ⟨.hbm, 143, rfl⟩
abbrev main_v79 : Ref sig .tc := ⟨.hbm, 144, rfl⟩
abbrev main_v80 : Ref sig .tc := ⟨.hbm, 145, rfl⟩
abbrev main_c_15 : Ref sig .tc := ⟨.hbm, 146, rfl⟩
abbrev main_call3_v0 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_cst_16 : Ref sig .tc := ⟨.hbm, 176, rfl⟩
abbrev main_v109 : Ref sig .tc := ⟨.hbm, 177, rfl⟩
abbrev main_v110_0 : Ref sig .tc := ⟨.hbm, 178, rfl⟩
abbrev main_v110_1 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_stg21_0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40
abbrev cc0_sem21_0 : DmaSem sig := 41

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v1041 : BitVec 1 := Scalar.cmpi .eq arg0 c0_i32
  let v1042 : BitVec 32 := Scalar.extui v1041
  let c0_i32_395 : BitVec 32 := 0#32
  let v1043 : BitVec 1 := Scalar.cmpi .ne v1042 c0_i32_395
  v1043

def k0_cond2 (i : grid0.Coords) : BitVec 1 :=
  let arg0 : BitVec 32 := BitVec.ofNat 32 (i 0).val
  let c0_i32_396 : BitVec 32 := 0#32
  let v1044 : BitVec 1 := Scalar.cmpi .sgt arg0 c0_i32_396
  let v1045 : BitVec 32 := Scalar.extui v1044
  let c0_i32_397 : BitVec 32 := 0#32
  let v1046 : BitVec 1 := Scalar.cmpi .ne v1045 c0_i32_397
  v1046

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x3072 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S8x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== RopeRefIdeal.lean ====
abbrev S8192x6656 : Shape := ⟨2, ![8192, 6656]⟩
abbrev S64 : Shape := ⟨1, ![64]⟩
abbrev S8192x8x64 : Shape := ⟨3, ![8192, 8, 64]⟩
abbrev S8192x2x64 : Shape := ⟨3, ![8192, 2, 64]⟩
abbrev S8192x3x4x64 : Shape := ⟨4, ![8192, 3, 4, 64]⟩
abbrev S128 : Shape := ⟨1, ![128]⟩
abbrev S128x64 : Shape := ⟨2, ![128, 64]⟩
abbrev S8192 : Shape := ⟨1, ![8192]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S32 : Shape := ⟨1, ![32]⟩
abbrev S1x32 : Shape := ⟨2, ![1, 32]⟩
abbrev S8192x32 : Shape := ⟨2, ![8192, 32]⟩
abbrev S8192x512 : Shape := ⟨2, ![8192, 512]⟩
abbrev S8192x128 : Shape := ⟨2, ![8192, 128]⟩
abbrev S8192x768 : Shape := ⟨2, ![8192, 768]⟩
abbrev S8192x3584 : Shape := ⟨2, ![8192, 3584]⟩
abbrev S8192x8 : Shape := ⟨2, ![8192, 8]⟩
abbrev S8192x8x1 : Shape := ⟨3, ![8192, 8, 1]⟩
abbrev S1x1x64 : Shape := ⟨3, ![1, 1, 64]⟩
abbrev S8192x8x32 : Shape := ⟨3, ![8192, 8, 32]⟩
abbrev S8192x8x16 : Shape := ⟨3, ![8192, 8, 16]⟩
abbrev S8192x1x16 : Shape := ⟨3, ![8192, 1, 16]⟩
abbrev S8192x2 : Shape := ⟨2, ![8192, 2]⟩
abbrev S8192x2x1 : Shape := ⟨3, ![8192, 2, 1]⟩
abbrev S8192x2x32 : Shape := ⟨3, ![8192, 2, 32]⟩
abbrev S8192x2x16 : Shape := ⟨3, ![8192, 2, 16]⟩
abbrev S8192x12x64 : Shape := ⟨3, ![8192, 12, 64]⟩
abbrev S8192x12 : Shape := ⟨2, ![8192, 12]⟩
abbrev S8192x12x1 : Shape := ⟨3, ![8192, 12, 1]⟩
abbrev S8192x12x32 : Shape := ⟨3, ![8192, 12, 32]⟩
abbrev S8192x1x32 : Shape := ⟨3, ![8192, 1, 32]⟩
abbrev S4x64 : Shape := ⟨2, ![4, 64]⟩

abbrev nBuf : Space → Nat
  | .hbm => 489
  | .vmem => 0
  | .smem => 0
  | _ => 0

abbrev hbmTy0_0 (i : Nat) : BufTy := match i % 128 with
  | 0 => ⟨S8192x6656, .f32⟩
  | 1 => ⟨S64, .f32⟩
  | 2 => ⟨S64, .f32⟩
  | 3 => ⟨S64, .f32⟩
  | 4 => ⟨S64, .f32⟩
  | 5 => ⟨S8192x8x64, .f32⟩
  | 6 => ⟨S8192x2x64, .f32⟩
  | 7 => ⟨S8192x2x64, .f32⟩
  | 8 => ⟨S8192x3x4x64, .f32⟩
  | 9 => ⟨S8192x3x4x64, .f32⟩
  | 10 => ⟨S8192x3x4x64, .f32⟩
  | 11 => ⟨S128, .i32⟩
  | 12 => ⟨S128x64, .i32⟩
  | 13 => ⟨S8192, .i32⟩
  | 14 => ⟨S64, .i32⟩
  | 15 => ⟨S1x64, .i32⟩
  | 16 => ⟨S128x64, .i32⟩
  | 17 => ⟨S8192, .i32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S16, .f32⟩
  | 26 => ⟨S_, .f32⟩
  | 27 => ⟨S16, .f32⟩
  | 28 => ⟨S16, .f32⟩
  | 29 => ⟨S_, .f32⟩
  | 30 => ⟨S16, .f32⟩
  | 31 => ⟨S16, .f32⟩
  | 32 => ⟨S8192, .f32⟩
  | 33 => ⟨S8192x1, .f32⟩
  | 34 => ⟨S1x16, .f32⟩
  | 35 => ⟨S8192x16, .f32⟩
  | 36 => ⟨S8192x16, .f32⟩
  | 37 => ⟨S8192x16, .f32⟩
  | 38 => ⟨S16, .f32⟩
  | 39 => ⟨S_, .f32⟩
  | 40 => ⟨S16, .f32⟩
  | 41 => ⟨S16, .f32⟩
  | 42 => ⟨S_, .f32⟩
  | 43 => ⟨S16, .f32⟩
  | 44 => ⟨S16, .f32⟩
  | 45 => ⟨S16, .f32⟩
  | 46 => ⟨S_, .f32⟩
  | 47 => ⟨S16, .f32⟩
  | 48 => ⟨S16, .f32⟩
  | 49 => ⟨S_, .f32⟩
  | 50 => ⟨S16, .f32⟩
  | 51 => ⟨S16, .f32⟩
  | 52 => ⟨S8192, .f32⟩
  | 53 => ⟨S8192x1, .f32⟩
  | 54 => ⟨S1x16, .f32⟩
  | 55 => ⟨S8192x16, .f32⟩
  | 56 => ⟨S8192x16, .f32⟩
  | 57 => ⟨S8192x16, .f32⟩
  | 58 => ⟨S8192, .i32⟩
  | 59 => ⟨S32, .f32⟩
  | 60 => ⟨S_, .f32⟩
  | 61 => ⟨S32, .f32⟩
  | 62 => ⟨S32, .f32⟩
  | 63 => ⟨S_, .f32⟩
  | 64 => ⟨S32, .f32⟩
  | 65 => ⟨S32, .f32⟩
  | 66 => ⟨S32, .f32⟩
  | 67 => ⟨S_, .f32⟩
  | 68 => ⟨S32, .f32⟩
  | 69 => ⟨S32, .f32⟩
  | 70 => ⟨S_, .f32⟩
  | 71 => ⟨S32, .f32⟩
  | 72 => ⟨S32, .f32⟩
  | 73 => ⟨S8192, .f32⟩
  | 74 => ⟨S8192x1, .f32⟩
  | 75 => ⟨S1x32, .f32⟩
  | 76 => ⟨S8192x32, .f32⟩
  | 77 => ⟨S8192x32, .f32⟩
  | 78 => ⟨S8192x32, .f32⟩
  | 79 => ⟨S8192x512, .f32⟩
  | 80 => ⟨S8192x128, .f32⟩
  | 81 => ⟨S8192x128, .f32⟩
  | 82 => ⟨S8192x768, .f32⟩
  | 83 => ⟨S8192x768, .f32⟩
  | 84 => ⟨S8192x768, .f32⟩
  | 85 => ⟨S8192x3584, .f32⟩
  | 86 => ⟨S8192x8x64, .f32⟩
  | 87 => ⟨S8192x8x64, .f32⟩
  | 88 => ⟨S_, .f32⟩
  | 89 => ⟨S8192x8, .f32⟩
  | 90 => ⟨S8192x8x1, .f32⟩
  | 91 => ⟨S_, .f32⟩
  | 92 => ⟨S8192x8x1, .f32⟩
  | 93 => ⟨S8192x8x1, .f32⟩
  | 94 => ⟨S_, .f32⟩
  | 95 => ⟨S8192x8x1, .f32⟩
  | 96 => ⟨S8192x8x1, .f32⟩
  | 97 => ⟨S8192x8x1, .f32⟩
  | 98 => ⟨S8192x8x1, .f32⟩
  | 99 => ⟨S_, .f32⟩
  | 100 => ⟨S8192x8x1, .f32⟩
  | 101 => ⟨S8192x8x1, .f32⟩
  | 102 => ⟨S8192x8x64, .f32⟩
  | 103 => ⟨S8192x8x64, .f32⟩
  | 104 => ⟨S1x1x64, .f32⟩
  | 105 => ⟨S8192x8x64, .f32⟩
  | 106 => ⟨S8192x8x64, .f32⟩
  | 107 => ⟨S8192x8x32, .f32⟩
  | 108 => ⟨S8192x8x32, .f32⟩
  | 109 => ⟨S8192x8x16, .f32⟩
  | 110 => ⟨S8192x8x16, .f32⟩
  | 111 => ⟨S8192x16, .f32⟩
  | 112 => ⟨S8192x1x16, .f32⟩
  | 113 => ⟨S8192x16, .f32⟩
  | 114 => ⟨S8192x1x16, .f32⟩
  | 115 => ⟨S8192x8x16, .f32⟩
  | 116 => ⟨S8192x8x16, .f32⟩
  | 117 => ⟨S8192x8x16, .f32⟩
  | 118 => ⟨S8192x8x16, .f32⟩
  | 119 => ⟨S8192x8x16, .f32⟩
  | 120 => ⟨S8192x8x16, .f32⟩
  | 121 => ⟨S8192x8x16, .f32⟩
  | 122 => ⟨S8192x8x16, .f32⟩
  | 123 => ⟨S8192x8x16, .f32⟩
  | 124 => ⟨S8192x8x16, .f32⟩
  | 125 => ⟨S8192x8x32, .f32⟩
  | 126 => ⟨S8192x8x16, .f32⟩
  | 127 => ⟨S8192x8x16, .f32⟩
  | _ => ⟨S8192x6656, .f32⟩

abbrev hbmTy0_1 (i : Nat) : BufTy := match i % 128 with
  | 0 => ⟨S8192x16, .f32⟩
  | 1 => ⟨S8192x1x16, .f32⟩
  | 2 => ⟨S8192x16, .f32⟩
  | 3 => ⟨S8192x1x16, .f32⟩
  | 4 => ⟨S8192x8x16, .f32⟩
  | 5 => ⟨S8192x8x16, .f32⟩
  | 6 => ⟨S8192x8x16, .f32⟩
  | 7 => ⟨S8192x8x16, .f32⟩
  | 8 => ⟨S8192x8x16, .f32⟩
  | 9 => ⟨S8192x8x16, .f32⟩
  | 10 => ⟨S8192x8x16, .f32⟩
  | 11 => ⟨S8192x8x16, .f32⟩
  | 12 => ⟨S8192x8x16, .f32⟩
  | 13 => ⟨S8192x8x16, .f32⟩
  | 14 => ⟨S8192x8x32, .f32⟩
  | 15 => ⟨S8192x8x64, .f32⟩
  | 16 => ⟨S8192x2x64, .f32⟩
  | 17 => ⟨S8192x2x64, .f32⟩
  | 18 => ⟨S_, .f32⟩
  | 19 => ⟨S8192x2, .f32⟩
  | 20 => ⟨S8192x2x1, .f32⟩
  | 21 => ⟨S_, .f32⟩
  | 22 => ⟨S8192x2x1, .f32⟩
  | 23 => ⟨S8192x2x1, .f32⟩
  | 24 => ⟨S_, .f32⟩
  | 25 => ⟨S8192x2x1, .f32⟩
  | 26 => ⟨S8192x2x1, .f32⟩
  | 27 => ⟨S8192x2x1, .f32⟩
  | 28 => ⟨S8192x2x1, .f32⟩
  | 29 => ⟨S_, .f32⟩
  | 30 => ⟨S8192x2x1, .f32⟩
  | 31 => ⟨S8192x2x1, .f32⟩
  | 32 => ⟨S8192x2x64, .f32⟩
  | 33 => ⟨S8192x2x64, .f32⟩
  | 34 => ⟨S1x1x64, .f32⟩
  | 35 => ⟨S8192x2x64, .f32⟩
  | 36 => ⟨S8192x2x64, .f32⟩
  | 37 => ⟨S8192x2x32, .f32⟩
  | 38 => ⟨S8192x2x32, .f32⟩
  | 39 => ⟨S8192x2x16, .f32⟩
  | 40 => ⟨S8192x2x16, .f32⟩
  | 41 => ⟨S8192x16, .f32⟩
  | 42 => ⟨S8192x1x16, .f32⟩
  | 43 => ⟨S8192x16, .f32⟩
  | 44 => ⟨S8192x1x16, .f32⟩
  | 45 => ⟨S8192x2x16, .f32⟩
  | 46 => ⟨S8192x2x16, .f32⟩
  | 47 => ⟨S8192x2x16, .f32⟩
  | 48 => ⟨S8192x2x16, .f32⟩
  | 49 => ⟨S8192x2x16, .f32⟩
  | 50 => ⟨S8192x2x16, .f32⟩
  | 51 => ⟨S8192x2x16, .f32⟩
  | 52 => ⟨S8192x2x16, .f32⟩
  | 53 => ⟨S8192x2x16, .f32⟩
  | 54 => ⟨S8192x2x16, .f32⟩
  | 55 => ⟨S8192x2x32, .f32⟩
  | 56 => ⟨S8192x2x16, .f32⟩
  | 57 => ⟨S8192x2x16, .f32⟩
  | 58 => ⟨S8192x16, .f32⟩
  | 59 => ⟨S8192x1x16, .f32⟩
  | 60 => ⟨S8192x16, .f32⟩
  | 61 => ⟨S8192x1x16, .f32⟩
  | 62 => ⟨S8192x2x16, .f32⟩
  | 63 => ⟨S8192x2x16, .f32⟩
  | 64 => ⟨S8192x2x16, .f32⟩
  | 65 => ⟨S8192x2x16, .f32⟩
  | 66 => ⟨S8192x2x16, .f32⟩
  | 67 => ⟨S8192x2x16, .f32⟩
  | 68 => ⟨S8192x2x16, .f32⟩
  | 69 => ⟨S8192x2x16, .f32⟩
  | 70 => ⟨S8192x2x16, .f32⟩
  | 71 => ⟨S8192x2x16, .f32⟩
  | 72 => ⟨S8192x2x32, .f32⟩
  | 73 => ⟨S8192x2x64, .f32⟩
  | 74 => ⟨S8192x2x64, .f32⟩
  | 75 => ⟨S8192x12x64, .f32⟩
  | 76 => ⟨S8192x12x64, .f32⟩
  | 77 => ⟨S_, .f32⟩
  | 78 => ⟨S8192x12, .f32⟩
  | 79 => ⟨S8192x12x1, .f32⟩
  | 80 => ⟨S_, .f32⟩
  | 81 => ⟨S8192x12x1, .f32⟩
  | 82 => ⟨S8192x12x1, .f32⟩
  | 83 => ⟨S_, .f32⟩
  | 84 => ⟨S8192x12x1, .f32⟩
  | 85 => ⟨S8192x12x1, .f32⟩
  | 86 => ⟨S8192x12x1, .f32⟩
  | 87 => ⟨S8192x12x1, .f32⟩
  | 88 => ⟨S_, .f32⟩
  | 89 => ⟨S8192x12x1, .f32⟩
  | 90 => ⟨S8192x12x1, .f32⟩
  | 91 => ⟨S8192x12x64, .f32⟩
  | 92 => ⟨S8192x12x64, .f32⟩
  | 93 => ⟨S1x1x64, .f32⟩
  | 94 => ⟨S8192x12x64, .f32⟩
  | 95 => ⟨S8192x12x64, .f32⟩
  | 96 => ⟨S8192x12x32, .f32⟩
  | 97 => ⟨S8192x12x32, .f32⟩
  | 98 => ⟨S8192x32, .f32⟩
  | 99 => ⟨S8192x1x32, .f32⟩
  | 100 => ⟨S8192x32, .f32⟩
  | 101 => ⟨S8192x1x32, .f32⟩
  | 102 => ⟨S8192x12x32, .f32⟩
  | 103 => ⟨S8192x12x32, .f32⟩
  | 104 => ⟨S8192x12x32, .f32⟩
  | 105 => ⟨S8192x12x32, .f32⟩
  | 106 => ⟨S8192x12x32, .f32⟩
  | 107 => ⟨S8192x12x32, .f32⟩
  | 108 => ⟨S8192x12x32, .f32⟩
  | 109 => ⟨S8192x12x32, .f32⟩
  | 110 => ⟨S8192x12x32, .f32⟩
  | 111 => ⟨S8192x12x32, .f32⟩
  | 112 => ⟨S8192x12x64, .f32⟩
  | 113 => ⟨S8192x12x64, .f32⟩
  | 114 => ⟨S8192x12x64, .f32⟩
  | 115 => ⟨S_, .f32⟩
  | 116 => ⟨S8192x12, .f32⟩
  | 117 => ⟨S8192x12x1, .f32⟩
  | 118 => ⟨S_, .f32⟩
  | 119 => ⟨S8192x12x1, .f32⟩
  | 120 => ⟨S8192x12x1, .f32⟩
  | 121 => ⟨S_, .f32⟩
  | 122 => ⟨S8192x12x1, .f32⟩
  | 123 => ⟨S8192x12x1, .f32⟩
  | 124 => ⟨S8192x12x1, .f32⟩
  | 125 => ⟨S8192x12x1, .f32⟩
  | 126 => ⟨S_, .f32⟩
  | 127 => ⟨S8192x12x1, .f32⟩
  | _ => ⟨S8192x6656, .f32⟩

abbrev hbmTy0_2 (i : Nat) : BufTy := match i % 128 with
  | 0 => ⟨S8192x12x1, .f32⟩
  | 1 => ⟨S8192x12x64, .f32⟩
  | 2 => ⟨S8192x12x64, .f32⟩
  | 3 => ⟨S1x1x64, .f32⟩
  | 4 => ⟨S8192x12x64, .f32⟩
  | 5 => ⟨S8192x12x64, .f32⟩
  | 6 => ⟨S8192x12x32, .f32⟩
  | 7 => ⟨S8192x12x32, .f32⟩
  | 8 => ⟨S8192x32, .f32⟩
  | 9 => ⟨S8192x1x32, .f32⟩
  | 10 => ⟨S8192x32, .f32⟩
  | 11 => ⟨S8192x1x32, .f32⟩
  | 12 => ⟨S8192x12x32, .f32⟩
  | 13 => ⟨S8192x12x32, .f32⟩
  | 14 => ⟨S8192x12x32, .f32⟩
  | 15 => ⟨S8192x12x32, .f32⟩
  | 16 => ⟨S8192x12x32, .f32⟩
  | 17 => ⟨S8192x12x32, .f32⟩
  | 18 => ⟨S8192x12x32, .f32⟩
  | 19 => ⟨S8192x12x32, .f32⟩
  | 20 => ⟨S8192x12x32, .f32⟩
  | 21 => ⟨S8192x12x32, .f32⟩
  | 22 => ⟨S8192x12x64, .f32⟩
  | 23 => ⟨S8192x3x4x64, .f32⟩
  | 24 => ⟨S8192x3x4x64, .f32⟩
  | 25 => ⟨S8192x3x4x64, .f32⟩
  | 26 => ⟨S8192x768, .f32⟩
  | 27 => ⟨S8192x12x64, .f32⟩
  | 28 => ⟨S8192x12x64, .f32⟩
  | 29 => ⟨S8192x12x32, .f32⟩
  | 30 => ⟨S8192x12x32, .f32⟩
  | 31 => ⟨S8192x12x32, .f32⟩
  | 32 => ⟨S8192x12x32, .f32⟩
  | 33 => ⟨S8192x12x32, .f32⟩
  | 34 => ⟨S8192x12x32, .f32⟩
  | 35 => ⟨S8192x12x32, .f32⟩
  | 36 => ⟨S8192x12x32, .f32⟩
  | 37 => ⟨S8192x12x32, .f32⟩
  | 38 => ⟨S8192x12x32, .f32⟩
  | 39 => ⟨S8192x12x32, .f32⟩
  | 40 => ⟨S8192x12x32, .f32⟩
  | 41 => ⟨S8192x12x32, .f32⟩
  | 42 => ⟨S8192x12x64, .f32⟩
  | 43 => ⟨S8192x12x64, .f32⟩
  | 44 => ⟨S_, .f32⟩
  | 45 => ⟨S64, .f32⟩
  | 46 => ⟨S1x1x64, .f32⟩
  | 47 => ⟨S8192x12x64, .f32⟩
  | 48 => ⟨S8192x12x64, .f32⟩
  | 49 => ⟨S_, .f32⟩
  | 50 => ⟨S64, .f32⟩
  | 51 => ⟨S8192x12x64, .f32⟩
  | 52 => ⟨S_, .f32⟩
  | 53 => ⟨S8192x12, .f32⟩
  | 54 => ⟨S8192x12x1, .f32⟩
  | 55 => ⟨S8192x12x64, .f32⟩
  | 56 => ⟨S8192x12x64, .f32⟩
  | 57 => ⟨S8192x12x1, .f32⟩
  | 58 => ⟨S_, .f32⟩
  | 59 => ⟨S8192x12x1, .f32⟩
  | 60 => ⟨S8192x12x1, .f32⟩
  | 61 => ⟨S_, .f32⟩
  | 62 => ⟨S8192x12, .f32⟩
  | 63 => ⟨S8192x12x64, .f32⟩
  | 64 => ⟨S8192x12x64, .f32⟩
  | 65 => ⟨S8192x12x64, .f32⟩
  | 66 => ⟨S8192x12x64, .f32⟩
  | 67 => ⟨S8192x12x64, .f32⟩
  | 68 => ⟨S8192x768, .f32⟩
  | 69 => ⟨S8192x12x32, .f32⟩
  | 70 => ⟨S8192x12x32, .f32⟩
  | 71 => ⟨S8192x12x32, .f32⟩
  | 72 => ⟨S8192x12x32, .f32⟩
  | 73 => ⟨S8192x12x32, .f32⟩
  | 74 => ⟨S8192x12x32, .f32⟩
  | 75 => ⟨S8192x12x32, .f32⟩
  | 76 => ⟨S8192x12x32, .f32⟩
  | 77 => ⟨S8192x12x32, .f32⟩
  | 78 => ⟨S8192x12x32, .f32⟩
  | 79 => ⟨S8192x12x32, .f32⟩
  | 80 => ⟨S8192x12x32, .f32⟩
  | 81 => ⟨S8192x12x32, .f32⟩
  | 82 => ⟨S8192x12x64, .f32⟩
  | 83 => ⟨S8192x12x64, .f32⟩
  | 84 => ⟨S_, .f32⟩
  | 85 => ⟨S64, .f32⟩
  | 86 => ⟨S1x1x64, .f32⟩
  | 87 => ⟨S8192x12x64, .f32⟩
  | 88 => ⟨S8192x12x64, .f32⟩
  | 89 => ⟨S_, .f32⟩
  | 90 => ⟨S64, .f32⟩
  | 91 => ⟨S8192x12x64, .f32⟩
  | 92 => ⟨S_, .f32⟩
  | 93 => ⟨S8192x12, .f32⟩
  | 94 => ⟨S8192x12x1, .f32⟩
  | 95 => ⟨S8192x12x64, .f32⟩
  | 96 => ⟨S8192x12x64, .f32⟩
  | 97 => ⟨S8192x12x1, .f32⟩
  | 98 => ⟨S_, .f32⟩
  | 99 => ⟨S8192x12x1, .f32⟩
  | 100 => ⟨S8192x12x1, .f32⟩
  | 101 => ⟨S_, .f32⟩
  | 102 => ⟨S8192x12, .f32⟩
  | 103 => ⟨S8192x12x64, .f32⟩
  | 104 => ⟨S8192x12x64, .f32⟩
  | 105 => ⟨S8192x12x64, .f32⟩
  | 106 => ⟨S8192x12x64, .f32⟩
  | 107 => ⟨S8192x12x64, .f32⟩
  | 108 => ⟨S8192x768, .f32⟩
  | 109 => ⟨S8192x128, .f32⟩
  | 110 => ⟨S8192x2x32, .f32⟩
  | 111 => ⟨S8192x2x32, .f32⟩
  | 112 => ⟨S8192x2x16, .f32⟩
  | 113 => ⟨S8192x2x16, .f32⟩
  | 114 => ⟨S8192x2x16, .f32⟩
  | 115 => ⟨S8192x2x16, .f32⟩
  | 116 => ⟨S8192x2x16, .f32⟩
  | 117 => ⟨S8192x2x16, .f32⟩
  | 118 => ⟨S8192x2x16, .f32⟩
  | 119 => ⟨S8192x2x16, .f32⟩
  | 120 => ⟨S8192x2x16, .f32⟩
  | 121 => ⟨S8192x2x16, .f32⟩
  | 122 => ⟨S8192x2x16, .f32⟩
  | 123 => ⟨S8192x2x16, .f32⟩
  | 124 => ⟨S8192x2x16, .f32⟩
  | 125 => ⟨S8192x2x32, .f32⟩
  | 126 => ⟨S8192x2x16, .f32⟩
  | 127 => ⟨S8192x2x16, .f32⟩
  | _ => ⟨S8192x6656, .f32⟩

abbrev hbmTy0_3 (i : Nat) : BufTy := match i % 128 with
  | 0 => ⟨S8192x2x16, .f32⟩
  | 1 => ⟨S8192x2x16, .f32⟩
  | 2 => ⟨S8192x2x16, .f32⟩
  | 3 => ⟨S8192x2x16, .f32⟩
  | 4 => ⟨S8192x2x16, .f32⟩
  | 5 => ⟨S8192x2x16, .f32⟩
  | 6 => ⟨S8192x2x16, .f32⟩
  | 7 => ⟨S8192x2x16, .f32⟩
  | 8 => ⟨S8192x2x16, .f32⟩
  | 9 => ⟨S8192x2x16, .f32⟩
  | 10 => ⟨S8192x2x16, .f32⟩
  | 11 => ⟨S8192x2x32, .f32⟩
  | 12 => ⟨S8192x2x64, .f32⟩
  | 13 => ⟨S8192x2x64, .f32⟩
  | 14 => ⟨S_, .f32⟩
  | 15 => ⟨S64, .f32⟩
  | 16 => ⟨S1x1x64, .f32⟩
  | 17 => ⟨S8192x2x64, .f32⟩
  | 18 => ⟨S8192x2x64, .f32⟩
  | 19 => ⟨S_, .f32⟩
  | 20 => ⟨S64, .f32⟩
  | 21 => ⟨S8192x2x64, .f32⟩
  | 22 => ⟨S_, .f32⟩
  | 23 => ⟨S8192x2, .f32⟩
  | 24 => ⟨S8192x2x1, .f32⟩
  | 25 => ⟨S8192x2x64, .f32⟩
  | 26 => ⟨S8192x2x64, .f32⟩
  | 27 => ⟨S8192x2x1, .f32⟩
  | 28 => ⟨S_, .f32⟩
  | 29 => ⟨S8192x2x1, .f32⟩
  | 30 => ⟨S8192x2x1, .f32⟩
  | 31 => ⟨S_, .f32⟩
  | 32 => ⟨S8192x2, .f32⟩
  | 33 => ⟨S8192x2x64, .f32⟩
  | 34 => ⟨S8192x2x64, .f32⟩
  | 35 => ⟨S8192x2x64, .f32⟩
  | 36 => ⟨S8192x2x64, .f32⟩
  | 37 => ⟨S8192x2x64, .f32⟩
  | 38 => ⟨S8192x128, .f32⟩
  | 39 => ⟨S8192x8x32, .f32⟩
  | 40 => ⟨S8192x8x32, .f32⟩
  | 41 => ⟨S8192x8x16, .f32⟩
  | 42 => ⟨S8192x8x16, .f32⟩
  | 43 => ⟨S8192x8x16, .f32⟩
  | 44 => ⟨S8192x8x16, .f32⟩
  | 45 => ⟨S8192x8x16, .f32⟩
  | 46 => ⟨S8192x8x16, .f32⟩
  | 47 => ⟨S8192x8x16, .f32⟩
  | 48 => ⟨S8192x8x16, .f32⟩
  | 49 => ⟨S8192x8x16, .f32⟩
  | 50 => ⟨S8192x8x16, .f32⟩
  | 51 => ⟨S8192x8x16, .f32⟩
  | 52 => ⟨S8192x8x16, .f32⟩
  | 53 => ⟨S8192x8x16, .f32⟩
  | 54 => ⟨S8192x8x32, .f32⟩
  | 55 => ⟨S8192x8x16, .f32⟩
  | 56 => ⟨S8192x8x16, .f32⟩
  | 57 => ⟨S8192x8x16, .f32⟩
  | 58 => ⟨S8192x8x16, .f32⟩
  | 59 => ⟨S8192x8x16, .f32⟩
  | 60 => ⟨S8192x8x16, .f32⟩
  | 61 => ⟨S8192x8x16, .f32⟩
  | 62 => ⟨S8192x8x16, .f32⟩
  | 63 => ⟨S8192x8x16, .f32⟩
  | 64 => ⟨S8192x8x16, .f32⟩
  | 65 => ⟨S8192x8x16, .f32⟩
  | 66 => ⟨S8192x8x16, .f32⟩
  | 67 => ⟨S8192x8x16, .f32⟩
  | 68 => ⟨S8192x8x32, .f32⟩
  | 69 => ⟨S8192x8x64, .f32⟩
  | 70 => ⟨S8192x8x64, .f32⟩
  | 71 => ⟨S_, .f32⟩
  | 72 => ⟨S64, .f32⟩
  | 73 => ⟨S1x1x64, .f32⟩
  | 74 => ⟨S8192x8x64, .f32⟩
  | 75 => ⟨S8192x8x64, .f32⟩
  | 76 => ⟨S_, .f32⟩
  | 77 => ⟨S64, .f32⟩
  | 78 => ⟨S8192x8x64, .f32⟩
  | 79 => ⟨S_, .f32⟩
  | 80 => ⟨S8192x8, .f32⟩
  | 81 => ⟨S8192x8x1, .f32⟩
  | 82 => ⟨S8192x8x64, .f32⟩
  | 83 => ⟨S8192x8x64, .f32⟩
  | 84 => ⟨S8192x8x1, .f32⟩
  | 85 => ⟨S_, .f32⟩
  | 86 => ⟨S8192x8x1, .f32⟩
  | 87 => ⟨S8192x8x1, .f32⟩
  | 88 => ⟨S_, .f32⟩
  | 89 => ⟨S8192x8, .f32⟩
  | 90 => ⟨S8192x8x64, .f32⟩
  | 91 => ⟨S8192x8x64, .f32⟩
  | 92 => ⟨S8192x8x64, .f32⟩
  | 93 => ⟨S8192x8x64, .f32⟩
  | 94 => ⟨S8192x8x64, .f32⟩
  | 95 => ⟨S8192x512, .f32⟩
  | 96 => ⟨S_, .f32⟩
  | 97 => ⟨S8192x3584, .f32⟩
  | 98 => ⟨S8192x6656, .f32⟩
  | 99 => ⟨S8192x6656, .bf16⟩
  | 100 => ⟨S1x64, .f32⟩
  | 101 => ⟨S1x64, .f32⟩
  | 102 => ⟨S1x64, .f32⟩
  | 103 => ⟨S1x64, .f32⟩
  | 104 => ⟨S4x64, .f32⟩
  | _ => ⟨S8192x6656, .f32⟩

abbrev hbmTy (i : Nat) : BufTy := match i / 128 with
  | 0 => hbmTy0_0 i
  | 1 => hbmTy0_1 i
  | 2 => hbmTy0_2 i
  | 3 => hbmTy0_3 i
  | _ => ⟨S8192x6656, .f32⟩

abbrev bufTy : (tb : Table) → Fin (tcTables nBuf tb) → BufTy
  | .hbm, ⟨i, _⟩ => hbmTy i
  | _, _ => ⟨S8192x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_11 : Ref sig .tc := ⟨.hbm, 88, rfl⟩
abbrev main_v65 : Ref sig .tc := ⟨.hbm, 89, rfl⟩
abbrev main_v66 : Ref sig .tc := ⟨.hbm, 90, rfl⟩
abbrev main_cst_12 : Ref sig .tc := ⟨.hbm, 91, rfl⟩
abbrev main_v67 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_cst_15 : Ref sig .tc := ⟨.hbm, 146, rfl⟩
abbrev main_v119 : Ref sig .tc := ⟨.hbm, 147, rfl⟩
abbrev main_v120 : Ref sig .tc := ⟨.hbm, 148, rfl⟩
abbrev main_cst_16 : Ref sig .tc := ⟨.hbm, 149, rfl⟩
abbrev main_v121 : Ref sig .tc := ⟨.hbm, 150, rfl⟩
abbrev main_v122 : Ref sig .tc := ⟨.hbm, 151, rfl⟩
abbrev main_cst_17 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_cst_18 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_cst_19 : Ref sig .tc := ⟨.hbm, 205, rfl⟩
abbrev main_v174 : Ref sig .tc := ⟨.hbm, 206, rfl⟩
abbrev main_v175 : Ref sig .tc := ⟨.hbm, 207, rfl⟩
abbrev main_cst_20 : Ref sig .tc := ⟨.hbm, 208, rfl⟩
abbrev main_v176 : Ref sig .tc := ⟨.hbm, 209, rfl⟩
abbrev main_v177 : Ref sig .tc := ⟨.hbm, 210, rfl⟩
abbrev main_cst_21 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_cst_22 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_v206 : Ref sig .tc := ⟨.hbm, 241, rfl⟩
abbrev main_v207 : Ref sig .tc := ⟨.hbm, 242, rfl⟩
abbrev main_cst_23 : Ref sig .tc := ⟨.hbm, 243, rfl⟩
abbrev main_v208 : Ref sig .tc := ⟨.hbm, 244, rfl⟩
abbrev main_v209 : Ref sig .tc := ⟨.hbm, 245, rfl⟩
abbrev main_cst_24 : Ref sig .tc := ⟨.hbm, 246, rfl⟩
abbrev main_v210 : Ref sig .tc := ⟨.hbm, 247, rfl⟩
abbrev main_v211 : Ref sig .tc := ⟨.hbm, 248, rfl⟩
abbrev main_cst_25 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_cst_26 : Ref sig .tc := ⟨.hbm, 254, rfl⟩
abbrev main_v216 : Ref sig .tc := ⟨.hbm, 255, rfl⟩
abbrev main_v217 : Ref sig .tc := ⟨.hbm, 256, rfl⟩
abbrev main_v218 : Ref sig .tc := ⟨.hbm, 257, rfl⟩
abbrev main_v219 : Ref sig .tc := ⟨.hbm, 258, rfl⟩
abbrev main_v220 : Ref sig .tc := ⟨.hbm, 259, rfl⟩
abbrev main_v221 : Ref sig .tc := ⟨.hbm, 260, rfl⟩
abbrev main_v222 : Ref sig .tc := ⟨.hbm, 261, rfl⟩
abbrev main_v223 : Ref sig .tc := ⟨.hbm, 262, rfl⟩
abbrev main_v224 : Ref sig .tc := ⟨.hbm, 263, rfl⟩
abbrev main_v225 : Ref sig .tc := ⟨.hbm, 264, rfl⟩
abbrev main_v226 : Ref sig .tc := ⟨.hbm, 265, rfl⟩
abbrev main_v227 : Ref sig .tc := ⟨.hbm, 266, rfl⟩
abbrev main_v228 : Ref sig .tc := ⟨.hbm, 267, rfl⟩
abbrev main_v229 : Ref sig .tc := ⟨.hbm, 268, rfl⟩
abbrev main_v230 : Ref sig .tc := ⟨.hbm, 269, rfl⟩
abbrev main_v231 : Ref sig .tc := ⟨.hbm, 270, rfl⟩
abbrev main_v232 : Ref sig .tc := ⟨.hbm, 271, rfl⟩
abbrev main_v233 : Ref sig .tc := ⟨.hbm, 272, rfl⟩
abbrev main_v234 : Ref sig .tc := ⟨.hbm, 273, rfl⟩
abbrev main_v235 : Ref sig .tc := ⟨.hbm, 274, rfl⟩
abbrev main_v236 : Ref sig .tc := ⟨.hbm, 275, rfl⟩
abbrev main_v237 : Ref sig .tc := ⟨.hbm, 276, rfl⟩
abbrev main_v238 : Ref sig .tc := ⟨.hbm, 277, rfl⟩
abbrev main_v239 : Ref sig .tc := ⟨.hbm, 278, rfl⟩
abbrev main_v240 : Ref sig .tc := ⟨.hbm, 279, rfl⟩
abbrev main_v241 : Ref sig .tc := ⟨.hbm, 280, rfl⟩
abbrev main_v242 : Ref sig .tc := ⟨.hbm, 281, rfl⟩
abbrev main_v243 : Ref sig .tc := ⟨.hbm, 282, rfl⟩
abbrev main_v244 : Ref sig .tc := ⟨.hbm, 283, rfl⟩
abbrev main_v245 : Ref sig .tc := ⟨.hbm, 284, rfl⟩
abbrev main_v246 : Ref sig .tc := ⟨.hbm, 285, rfl⟩
abbrev main_v247 : Ref sig .tc := ⟨.hbm, 286, rfl⟩
abbrev main_v248 : Ref sig .tc := ⟨.hbm, 287, rfl⟩
abbrev main_v249 : Ref sig .tc := ⟨.hbm, 288, rfl⟩
abbrev main_v250 : Ref sig .tc := ⟨.hbm, 289, rfl⟩
abbrev main_v251 : Ref sig .tc := ⟨.hbm, 290, rfl⟩
abbrev main_v252 : Ref sig .tc := ⟨.hbm, 291, rfl⟩
abbrev main_v253 : Ref sig .tc := ⟨.hbm, 292, rfl⟩
abbrev main_v254 : Ref sig .tc := ⟨.hbm, 293, rfl⟩
abbrev main_v255 : Ref sig .tc := ⟨.hbm, 294, rfl⟩
abbrev main_v256 : Ref sig .tc := ⟨.hbm, 295, rfl⟩
abbrev main_v257 : Ref sig .tc := ⟨.hbm, 296, rfl⟩
abbrev main_v258 : Ref sig .tc := ⟨.hbm, 297, rfl⟩
abbrev main_v259 : Ref sig .tc := ⟨.hbm, 298, rfl⟩
abbrev main_v260 : Ref sig .tc := ⟨.hbm, 299, rfl⟩
abbrev main_cst_27 : Ref sig .tc := ⟨.hbm, 300, rfl⟩
abbrev main_v261 : Ref sig .tc := ⟨.hbm, 301, rfl⟩
abbrev main_v262 : Ref sig .tc := ⟨.hbm, 302, rfl⟩
abbrev main_v263 : Ref sig .tc := ⟨.hbm, 303, rfl⟩
abbrev main_v264 : Ref sig .tc := ⟨.hbm, 304, rfl⟩
abbrev main_cst_28 : Ref sig .tc := ⟨.hbm, 305, rfl⟩
abbrev main_v265 : Ref sig .tc := ⟨.hbm, 306, rfl⟩
abbrev main_v266 : Ref sig .tc := ⟨.hbm, 307, rfl⟩
abbrev main_cst_29 : Ref sig .tc := ⟨.hbm, 308, rfl⟩
abbrev main_v267 : Ref sig .tc := ⟨.hbm, 309, rfl⟩
abbrev main_v268 : Ref sig .tc := ⟨.hbm, 310, rfl⟩
abbrev main_v269 : Ref sig .tc := ⟨.hbm, 311, rfl⟩
abbrev main_v270 : Ref sig .tc := ⟨.hbm, 312, rfl⟩
abbrev main_v271 : Ref sig .tc := ⟨.hbm, 313, rfl⟩
abbrev main_cst_30 : Ref sig .tc := ⟨.hbm, 314, rfl⟩
abbrev main_v272 : Ref sig .tc := ⟨.hbm, 315, rfl⟩
abbrev main_v273 : Ref sig .tc := ⟨.hbm, 316, rfl⟩
abbrev main_cst_31 : Ref sig .tc := ⟨.hbm, 317, rfl⟩
abbrev main_v274 : Ref sig .tc := ⟨.hbm, 318, rfl⟩
abbrev main_v275 : Ref sig .tc := ⟨.hbm, 319, rfl⟩
abbrev main_v276 : Ref sig .tc := ⟨.hbm, 320, rfl⟩
abbrev main_v277 : Ref sig .tc := ⟨.hbm, 321, rfl⟩
abbrev main_v278 : Ref sig .tc := ⟨.hbm, 322, rfl⟩
abbrev main_v279 : Ref sig .tc := ⟨.hbm, 323, rfl⟩
abbrev main_v280 : Ref sig .tc := ⟨.hbm, 324, rfl⟩
abbrev main_v281 : Ref sig .tc := ⟨.hbm, 325, rfl⟩
abbrev main_v282 : Ref sig .tc := ⟨.hbm, 326, rfl⟩
abbrev main_v283 : Ref sig .tc := ⟨.hbm, 327, rfl⟩
abbrev main_v284 : Ref sig .tc := ⟨.hbm, 328, rfl⟩
abbrev main_v285 : Ref sig .tc := ⟨.hbm, 329, rfl⟩
abbrev main_v286 : Ref sig .tc := ⟨.hbm, 330, rfl⟩
abbrev main_v287 : Ref sig .tc := ⟨.hbm, 331, rfl⟩
abbrev main_v288 : Ref sig .tc := ⟨.hbm, 332, rfl⟩
abbrev main_v289 : Ref sig .tc := ⟨.hbm, 333, rfl⟩
abbrev main_v290 : Ref sig .tc := ⟨.hbm, 334, rfl⟩
abbrev main_v291 : Ref sig .tc := ⟨.hbm, 335, rfl⟩
abbrev main_v292 : Ref sig .tc := ⟨.hbm, 336, rfl⟩
abbrev main_v293 : Ref sig .tc := ⟨.hbm, 337, rfl⟩
abbrev main_v294 : Ref sig .tc := ⟨.hbm, 338, rfl⟩
abbrev main_v295 : Ref sig .tc := ⟨.hbm, 339, rfl⟩
abbrev main_cst_32 : Ref sig .tc := ⟨.hbm, 340, rfl⟩
abbrev main_v296 : Ref sig .tc := ⟨.hbm, 341, rfl⟩
abbrev main_v297 : Ref sig .tc := ⟨.hbm, 342, rfl⟩
abbrev main_v298 : Ref sig .tc := ⟨.hbm, 343, rfl⟩
abbrev main_v299 : Ref sig .tc := ⟨.hbm, 344, rfl⟩
abbrev main_cst_33 : Ref sig .tc := ⟨.hbm, 345, rfl⟩
abbrev main_v300 : Ref sig .tc := ⟨.hbm, 346, rfl⟩
abbrev main_v301 : Ref sig .tc := ⟨.hbm, 347, rfl⟩
abbrev main_cst_34 : Ref sig .tc := ⟨.hbm, 348, rfl⟩
abbrev main_v302 : Ref sig .tc := ⟨.hbm, 349, rfl⟩
abbrev main_v303 : Ref sig .tc := ⟨.hbm, 350, rfl⟩
abbrev main_v304 : Ref sig .tc := ⟨.hbm, 351, rfl⟩
abbrev main_v305 : Ref sig .tc := ⟨.hbm, 352, rfl⟩
abbrev main_v306 : Ref sig .tc := ⟨.hbm, 353, rfl⟩
abbrev main_cst_35 : Ref sig .tc := ⟨.hbm, 354, rfl⟩
abbrev main_v307 : Ref sig .tc := ⟨.hbm, 355, rfl⟩
abbrev main_v308 : Ref sig .tc := ⟨.hbm, 356, rfl⟩
abbrev main_cst_36 : Ref sig .tc := ⟨.hbm, 357, rfl⟩
abbrev main_v309 : Ref sig .tc := ⟨.hbm, 358, rfl⟩
abbrev main_v310 : Ref sig .tc := ⟨.hbm, 359, rfl⟩
abbrev main_v311 : Ref sig .tc := ⟨.hbm, 360, rfl⟩
abbrev main_v312 : Ref sig .tc := ⟨.hbm, 361, rfl⟩
abbrev main_v313 : Ref sig .tc := ⟨.hbm, 362, rfl⟩
abbrev main_v314 : Ref sig .tc := ⟨.hbm, 363, rfl⟩
abbrev main_v315 : Ref sig .tc := ⟨.hbm, 364, rfl⟩
abbrev main_v316 : Ref sig .tc := ⟨.hbm, 365, rfl⟩
abbrev main_v317 : Ref sig .tc := ⟨.hbm, 366, rfl⟩
abbrev main_v318 : Ref sig .tc := ⟨.hbm, 367, rfl⟩
abbrev main_v319 : Ref sig .tc := ⟨.hbm, 368, rfl⟩
abbrev main_v320 : Ref sig .tc := ⟨.hbm, 369, rfl⟩
abbrev main_v321 : Ref sig .tc := ⟨.hbm, 370, rfl⟩
abbrev main_v322 : Ref sig .tc := ⟨.hbm, 371, rfl⟩
abbrev main_v323 : Ref sig .tc := ⟨.hbm, 372, rfl⟩
abbrev main_v324 : Ref sig .tc := ⟨.hbm, 373, rfl⟩
abbrev main_v325 : Ref sig .tc := ⟨.hbm, 374, rfl⟩
abbrev main_v326 : Ref sig .tc := ⟨.hbm, 375, rfl⟩
abbrev main_v327 : Ref sig .tc := ⟨.hbm, 376, rfl⟩
abbrev main_v328 : Ref sig .tc := ⟨.hbm, 377, rfl⟩
abbrev main_v329 : Ref sig .tc := ⟨.hbm, 378, rfl⟩
abbrev main_v330 : Ref sig .tc := ⟨.hbm, 379, rfl⟩
abbrev main_v331 : Ref sig .tc := ⟨.hbm, 380, rfl⟩
abbrev main_v332 : Ref sig .tc := ⟨.hbm, 381, rfl⟩
abbrev main_v333 : Ref sig .tc := ⟨.hbm, 382, rfl⟩
abbrev main_v334 : Ref sig .tc := ⟨.hbm, 383, rfl⟩
abbrev main_v335 : Ref sig .tc := ⟨.hbm, 384, rfl⟩
abbrev main_v336 : Ref sig .tc := ⟨.hbm, 385, rfl⟩
abbrev main_v337 : Ref sig .tc := ⟨.hbm, 386, rfl⟩
abbrev main_v338 : Ref sig .tc := ⟨.hbm, 387, rfl⟩
abbrev main_v339 : Ref sig .tc := ⟨.hbm, 388, rfl⟩
abbrev main_v340 : Ref sig .tc := ⟨.hbm, 389, rfl⟩
abbrev main_v341 : Ref sig .tc := ⟨.hbm, 390, rfl⟩
abbrev main_v342 : Ref sig .tc := ⟨.hbm, 391, rfl⟩
abbrev main_v343 : Ref sig .tc := ⟨.hbm, 392, rfl⟩
abbrev main_v344 : Ref sig .tc := ⟨.hbm, 393, rfl⟩
abbrev main_v345 : Ref sig .tc := ⟨.hbm, 394, rfl⟩
abbrev main_v346 : Ref sig .tc := ⟨.hbm, 395, rfl⟩
abbrev main_v347 : Ref sig .tc := ⟨.hbm, 396, rfl⟩
abbrev main_v348 : Ref sig .tc := ⟨.hbm, 397, rfl⟩
abbrev main_cst_37 : Ref sig .tc := ⟨.hbm, 398, rfl⟩
abbrev main_v349 : Ref sig .tc := ⟨.hbm, 399, rfl⟩
abbrev main_v350 : Ref sig .tc := ⟨.hbm, 400, rfl⟩
abbrev main_v351 : Ref sig .tc := ⟨.hbm, 401, rfl⟩
abbrev main_v352 : Ref sig .tc := ⟨.hbm, 402, rfl⟩
abbrev main_cst_38 : Ref sig .tc := ⟨.hbm, 403, rfl⟩
abbrev main_v353 : Ref sig .tc := ⟨.hbm, 404, rfl⟩
abbrev main_v354 : Ref sig .tc := ⟨.hbm, 405, rfl⟩
abbrev main_cst_39 : Ref sig .tc := ⟨.hbm, 406, rfl⟩
abbrev main_v355 : Ref sig .tc := ⟨.hbm, 407, rfl⟩
abbrev main_v356 : Ref sig .tc := ⟨.hbm, 408, rfl⟩
abbrev main_v357 : Ref sig .tc := ⟨.hbm, 409, rfl⟩
abbrev main_v358 : Ref sig .tc := ⟨.hbm, 410, rfl⟩
abbrev main_v359 : Ref sig .tc := ⟨.hbm, 411, rfl⟩
abbrev main_cst_40 : Ref sig .tc := ⟨.hbm, 412, rfl⟩
abbrev main_v360 : Ref sig .tc := ⟨.hbm, 413, rfl⟩
abbrev main_v361 : Ref sig .tc := ⟨.hbm, 414, rfl⟩
abbrev main_cst_41 : Ref sig .tc := ⟨.hbm, 415, rfl⟩
abbrev main_v362 : Ref sig .tc := ⟨.hbm, 416, rfl⟩
abbrev main_v363 : Ref sig .tc := ⟨.hbm, 417, rfl⟩
abbrev main_v364 : Ref sig .tc := ⟨.hbm, 418, rfl⟩
abbrev main_v365 : Ref sig .tc := ⟨.hbm, 419, rfl⟩
abbrev main_v366 : Ref sig .tc := ⟨.hbm, 420, rfl⟩
abbrev main_v367 : Ref sig .tc := ⟨.hbm, 421, rfl⟩
abbrev main_v368 : Ref sig .tc := ⟨.hbm, 422, rfl⟩
abbrev main_v369 : Ref sig .tc := ⟨.hbm, 423, rfl⟩
abbrev main_v370 : Ref sig .tc := ⟨.hbm, 424, rfl⟩
abbrev main_v371 : Ref sig .tc := ⟨.hbm, 425, rfl⟩
abbrev main_v372 : Ref sig .tc := ⟨.hbm, 426, rfl⟩
abbrev main_v373 : Ref sig .tc := ⟨.hbm, 427, rfl⟩
abbrev main_v374 : Ref sig .tc := ⟨.hbm, 428, rfl⟩
abbrev main_v375 : Ref sig .tc := ⟨.hbm, 429, rfl⟩
abbrev main_v376 : Ref sig .tc := ⟨.hbm, 430, rfl⟩
abbrev main_v377 : Ref sig .tc := ⟨.hbm, 431, rfl⟩
abbrev main_v378 : Ref sig .tc := ⟨.hbm, 432, rfl⟩
abbrev main_v379 : Ref sig .tc := ⟨.hbm, 433, rfl⟩
abbrev main_v380 : Ref sig .tc := ⟨.hbm, 434, rfl⟩
abbrev main_v381 : Ref sig .tc := ⟨.hbm, 435, rfl⟩
abbrev main_v382 : Ref sig .tc := ⟨.hbm, 436, rfl⟩
abbrev main_v383 : Ref sig .tc := ⟨.hbm, 437, rfl⟩
abbrev main_v384 : Ref sig .tc := ⟨.hbm, 438, rfl⟩
abbrev main_v385 : Ref sig .tc := ⟨.hbm, 439, rfl⟩
abbrev main_v386 : Ref sig .tc := ⟨.hbm, 440, rfl⟩
abbrev main_v387 : Ref sig .tc := ⟨.hbm, 441, rfl⟩
abbrev main_v388 : Ref sig .tc := ⟨.hbm, 442, rfl⟩
abbrev main_v389 : Ref sig .tc := ⟨.hbm, 443, rfl⟩
abbrev main_v390 : Ref sig .tc := ⟨.hbm, 444, rfl⟩
abbrev main_v391 : Ref sig .tc := ⟨.hbm, 445, rfl⟩
abbrev main_v392 : Ref sig .tc := ⟨.hbm, 446, rfl⟩
abbrev main_v393 : Ref sig .tc := ⟨.hbm, 447, rfl⟩
abbrev main_v394 : Ref sig .tc := ⟨.hbm, 448, rfl⟩
abbrev main_v395 : Ref sig .tc := ⟨.hbm, 449, rfl⟩
abbrev main_v396 : Ref sig .tc := ⟨.hbm, 450, rfl⟩
abbrev main_v397 : Ref sig .tc := ⟨.hbm, 451, rfl⟩
abbrev main_v398 : Ref sig .tc := ⟨.hbm, 452, rfl⟩
abbrev main_v399 : Ref sig .tc := ⟨.hbm, 453, rfl⟩
abbrev main_v400 : Ref sig .tc := ⟨.hbm, 454, rfl⟩
abbrev main_cst_42 : Ref sig .tc := ⟨.hbm, 455, rfl⟩
abbrev main_v401 : Ref sig .tc := ⟨.hbm, 456, rfl⟩
abbrev main_v402 : Ref sig .tc := ⟨.hbm, 457, rfl⟩
abbrev main_v403 : Ref sig .tc := ⟨.hbm, 458, rfl⟩
abbrev main_v404 : Ref sig .tc := ⟨.hbm, 459, rfl⟩
abbrev main_cst_43 : Ref sig .tc := ⟨.hbm, 460, rfl⟩
abbrev main_v405 : Ref sig .tc := ⟨.hbm, 461, rfl⟩
abbrev main_v406 : Ref sig .tc := ⟨.hbm, 462, rfl⟩
abbrev main_cst_44 : Ref sig .tc := ⟨.hbm, 463, rfl⟩
abbrev main_v407 : Ref sig .tc := ⟨.hbm, 464, rfl⟩
abbrev main_v408 : Ref sig .tc := ⟨.hbm, 465, rfl⟩
abbrev main_v409 : Ref sig .tc := ⟨.hbm, 466, rfl⟩
abbrev main_v410 : Ref sig .tc := ⟨.hbm, 467, rfl⟩
abbrev main_v411 : Ref sig .tc := ⟨.hbm, 468, rfl⟩
abbrev main_cst_45 : Ref sig .tc := ⟨.hbm, 469, rfl⟩
abbrev main_v412 : Ref sig .tc := ⟨.hbm, 470, rfl⟩
abbrev main_v413 : Ref sig .tc := ⟨.hbm, 471, rfl⟩
abbrev main_cst_46 : Ref sig .tc := ⟨.hbm, 472, rfl⟩
abbrev main_v414 : Ref sig .tc := ⟨.hbm, 473, rfl⟩
abbrev main_v415 : Ref sig .tc := ⟨.hbm, 474, rfl⟩
abbrev main_v416 : Ref sig .tc := ⟨.hbm, 475, rfl⟩
abbrev main_v417 : Ref sig .tc := ⟨.hbm, 476, rfl⟩
abbrev main_v418 : Ref sig .tc := ⟨.hbm, 477, rfl⟩
abbrev main_v419 : Ref sig .tc := ⟨.hbm, 478, rfl⟩
abbrev main_v420 : Ref sig .tc := ⟨.hbm, 479, rfl⟩
abbrev main_cst_47 : Ref sig .tc := ⟨.hbm, 480, rfl⟩
abbrev main_v421 : Ref sig .tc := ⟨.hbm, 481, rfl⟩
abbrev main_v422 : Ref sig .tc := ⟨.hbm, 482, rfl⟩
abbrev main_v423 : Ref sig .tc := ⟨.hbm, 483, rfl⟩
abbrev main_v424 : Ref sig .tc := ⟨.hbm, 484, rfl⟩
abbrev main_v425 : Ref sig .tc := ⟨.hbm, 485, rfl⟩
abbrev main_v426 : Ref sig .tc := ⟨.hbm, 486, rfl⟩
abbrev main_v427 : Ref sig .tc := ⟨.hbm, 487, rfl⟩
abbrev main_v428 : Ref sig .tc := ⟨.hbm, 488, rfl⟩

abbrev nD : Nat := 1
abbrev τ : Topo := Topo.v7x

variable {F : FTy → Type} [FloatOps F]
-- ==== AttnF.lean ====
abbrev S8192x8x64 : Shape := ⟨3, ![8192, 8, 64]⟩
abbrev S8192x2x64 : Shape := ⟨3, ![8192, 2, 64]⟩
abbrev S8192x128 : Shape := ⟨2, ![8192, 128]⟩
abbrev S8192x64 : Shape := ⟨2, ![8192, 64]⟩
abbrev S1x8192x128 : Shape := ⟨3, ![1, 8192, 128]⟩
abbrev S2x8192x128 : Shape := ⟨3, ![2, 8192, 128]⟩
abbrev S_ : Shape := ⟨0, ![]⟩
abbrev S8192x1 : Shape := ⟨2, ![8192, 1]⟩
abbrev S8192x1x64 : Shape := ⟨3, ![8192, 1, 64]⟩
abbrev S8192x512 : Shape := ⟨2, ![8192, 512]⟩
abbrev S256x256 : Shape := ⟨2, ![256, 256]⟩
abbrev S2x512x128 : Shape := ⟨3, ![2, 512, 128]⟩
abbrev S2x512x1 : Shape := ⟨3, ![2, 512, 1]⟩
abbrev S256x128 : Shape := ⟨2, ![256, 128]⟩
abbrev S512x128 : Shape := ⟨2, ![512, 128]⟩
abbrev S1x512x128 : Shape := ⟨3, ![1, 512, 128]⟩
abbrev S1x4096x128 : Shape := ⟨3, ![1, 4096, 128]⟩
abbrev S4096x128 : Shape := ⟨2, ![4096, 128]⟩
abbrev S512x4096 : Shape := ⟨2, ![512, 4096]⟩
abbrev S1x512x1 : Shape := ⟨3, ![1, 512, 1]⟩
abbrev S512x1 : Shape := ⟨2, ![512, 1]⟩
abbrev S512 : Shape := ⟨1, ![512]⟩
abbrev S256x1 : Shape := ⟨2, ![256, 1]⟩

abbrev nBuf : Space → Nat
  | .hbm => 30
  | .vmem => 13
  | .smem => 0
  | _ => 0

abbrev bufTy : (tb : Table) → Fin (tcTables nBuf tb) → BufTy
  | .hbm, ⟨0, _⟩ => ⟨S8192x8x64, .f32⟩
  | .hbm, ⟨1, _⟩ => ⟨S8192x2x64, .f32⟩
  | .hbm, ⟨2, _⟩ => ⟨S8192x2x64, .f32⟩
  | .hbm, ⟨3, _⟩ => ⟨S8192x128, .f32⟩
  | .hbm, ⟨4, _⟩ => ⟨S8192x64, .f32⟩
  | .hbm, ⟨5, _⟩ => ⟨S8192x64, .f32⟩
  | .hbm, ⟨6, _⟩ => ⟨S8192x128, .f32⟩
  | .hbm, ⟨7, _⟩ => ⟨S1x8192x128, .f32⟩
  | .hbm, ⟨8, _⟩ => ⟨S1x8192x128, .f32⟩
  | .hbm, ⟨9, _⟩ => ⟨S2x8192x128, .f32⟩
  | .hbm, ⟨10, _⟩ => ⟨S2x8192x128, .bf16⟩
  | .hbm, ⟨11, _⟩ => ⟨S_, .f32⟩
  | .hbm, ⟨12, _⟩ => ⟨S8192x1, .f32⟩
  | .hbm, ⟨13, _⟩ => ⟨S_, .i32⟩
  | .hbm, ⟨14, _⟩ => ⟨S_, .f32⟩
  | .hbm, ⟨15, _⟩ => ⟨S8192x64, .f32⟩
  | .hbm, ⟨16, _⟩ => ⟨S8192x1x64, .f32⟩
  | .hbm, ⟨17, _⟩ => ⟨S8192x64, .f32⟩
  | .hbm, ⟨18, _⟩ => ⟨S8192x128, .f32⟩
  | .hbm, ⟨19, _⟩ => ⟨S8192x1x64, .f32⟩
  | .hbm, ⟨20, _⟩ => ⟨S8192x64, .f32⟩
  | .hbm, ⟨21, _⟩ => ⟨S8192x128, .f32⟩
  | .hbm, ⟨22, _⟩ => ⟨S1x8192x128, .f32⟩
  | .hbm, ⟨23, _⟩ => ⟨S1x8192x128, .f32⟩
  | .hbm, ⟨24, _⟩ => ⟨S2x8192x128, .f32⟩
  | .hbm, ⟨25, _⟩ => ⟨S2x8192x128, .bf16⟩
  | .hbm, ⟨26, _⟩ => ⟨S8192x512, .f32⟩
  | .hbm, ⟨27, _⟩ => ⟨S8192x512, .bf16⟩
  | .hbm, ⟨28, _⟩ => ⟨S8192x512, .bf16⟩
  | .hbm, ⟨29, _⟩ => ⟨S8192x512, .f32⟩
  | .local _ .vmem, ⟨0, _⟩ => ⟨S256x256, .bf16⟩
  | .local _ .vmem, ⟨1, _⟩ => ⟨S256x256, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S256x256, .bf16⟩
  | .local _ .vmem, ⟨7, _⟩ => ⟨S256x256, .bf16⟩
  | .local _ .vmem, ⟨8, _⟩ => ⟨S256x256, .f32⟩
  | .local _ .vmem, ⟨9, _⟩ => ⟨S256x256, .f32⟩
  | .local _ .vmem, ⟨10, _⟩ => ⟨S2x512x128, .bf16⟩
  | .local _ .vmem, ⟨11, _⟩ => ⟨S2x512x1, .f32⟩
  | .local _ .vmem, ⟨12, _⟩ => ⟨S2x512x128, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_c : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32 : BitVec 32 := 0#32
  let c2_i32 : BitVec 32 := 2#32
  let v39 : BitVec 32 := Scalar.addi c0_i32 c2_i32
  let c1_i32 : BitVec 32 := 1#32
  ⟨c0_i32, v39, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c4096_i32 : BitVec 32 := 4096#32
  let v98 : BitVec 32 := Scalar.muli arg10 c4096_i32
  v98
def k0_off1 (k0_t1 : Fin k0_t1_loop.trips) : Fin 3 → Nat :=
  let c0_49 : Index := 0#32
  let c0_i32 : BitVec 32 := 0#32
  let c1_i32 : BitVec 32 := 1#32
  let arg10 : BitVec 32 := Scf.iv c0_i32 c1_i32 k0_t1
  let c4096_i32 : BitVec 32 := 4096#32
  let v98 : BitVec 32 := Scalar.muli arg10 c4096_i32
  let v99 : BitVec 32 := v98
  let v100 : Index := Scalar.indexCast v99
  let c0_50 : Index := 0#32
  ![0, v100.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnFRefIdeal.lean ====
abbrev S8192x8x64 : Shape := ⟨3, ![8192, 8, 64]⟩
abbrev S8192x2x64 : Shape := ⟨3, ![8192, 2, 64]⟩
abbrev S8192x2x4x64 : Shape := ⟨4, ![8192, 2, 4, 64]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x64x4x8192 : Shape := ⟨4, ![2, 64, 4, 8192]⟩
abbrev S8192x512 : Shape := ⟨2, ![8192, 512]⟩
abbrev S8192x2x4x1 : Shape := ⟨4, ![8192, 2, 4, 1]⟩
abbrev S8192x8x1 : Shape := ⟨3, ![8192, 8, 1]⟩

abbrev nBuf : Space → Nat
  | .hbm => 49
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x2x64, .f32⟩
  | .hbm, ⟨2, _⟩ => ⟨S8192x2x64, .f32⟩
  | .hbm, ⟨3, _⟩ => ⟨S8192x2x4x64, .f32⟩
  | .hbm, ⟨4, _⟩ => ⟨S2x8192x8192x4, .f32⟩
  | .hbm, ⟨5, _⟩ => ⟨S2x4x8192x8192, .f32⟩
  | .hbm, ⟨6, _⟩ => ⟨S_, .f32⟩
  | .hbm, ⟨7, _⟩ => ⟨S2x4x8192x8192, .f32⟩
  | .hbm, ⟨8, _⟩ => ⟨S2x4x8192x8192, .f32⟩
  | .hbm, ⟨9, _⟩ => ⟨S_, .f32⟩
  | .hbm, ⟨10, _⟩ => ⟨S2x4x8192, .f32⟩
  | .hbm, ⟨11, _⟩ => ⟨S_, .f32⟩
  | .hbm, ⟨12, _⟩ => ⟨S2x4x8192, .f32⟩
  | .hbm, ⟨13, _⟩ => ⟨S2x4x8192, .f32⟩
  | .hbm, ⟨14, _⟩ => ⟨S2x4x8192x1, .f32⟩
  | .hbm, ⟨15, _⟩ => ⟨S2x4x8192x8192, .f32⟩
  | .hbm, ⟨16, _⟩ => ⟨S2x4x8192x8192, .f32⟩
  | .hbm, ⟨17, _⟩ => ⟨S2x4x8192x8192, .f32⟩
  | .hbm, ⟨18, _⟩ => ⟨S_, .f32⟩
  | .hbm, ⟨19, _⟩ => ⟨S2x4x8192, .f32⟩
  | .hbm, ⟨20, _⟩ => ⟨S2x4x8192x1, .f32⟩
  | .hbm, ⟨21, _⟩ => ⟨S2x4x8192x8192, .f32⟩
  | .hbm, ⟨22, _⟩ => ⟨S2x4x8192x8192, .f32⟩
  | .hbm, ⟨23, _⟩ => ⟨S2x64x4x8192, .f32⟩
  | .hbm, ⟨24, _⟩ => ⟨S8192x2x4x64, .f32⟩
  | .hbm, ⟨25, _⟩ => ⟨S8192x8x64, .f32⟩
  | .hbm, ⟨26, _⟩ => ⟨S8192x512, .f32⟩
  | .hbm, ⟨27, _⟩ => ⟨S8192x512, .bf16⟩
  | .hbm, ⟨28, _⟩ => ⟨S8192x2x4x64, .f32⟩
  | .hbm, ⟨29, _⟩ => ⟨S2x8192x8192x4, .f32⟩
  | .hbm, ⟨30, _⟩ => ⟨S2x4x8192x8192, .f32⟩
  | .hbm, ⟨31, _⟩ => ⟨S_, .f32⟩
  | .hbm, ⟨32, _⟩ => ⟨S2x4x8192x8192, .f32⟩
  | .hbm, ⟨33, _⟩ => ⟨S2x4x8192x8192, .f32⟩
  | .hbm, ⟨34, _⟩ => ⟨S_, .f32⟩
  | .hbm, ⟨35, _⟩ => ⟨S2x4x8192, .f32⟩
  | .hbm, ⟨36, _⟩ => ⟨S2x4x8192x1, .f32⟩
  | .hbm, ⟨37, _⟩ => ⟨S2x4x8192x8192, .f32⟩
  | .hbm, ⟨38, _⟩ => ⟨S2x4x8192x8192, .f32⟩
  | .hbm, ⟨39, _⟩ => ⟨S2x4x8192x8192, .f32⟩
  | .hbm, ⟨40, _⟩ => ⟨S_, .f32⟩
  | .hbm, ⟨41, _⟩ => ⟨S2x4x8192, .f32⟩
  | .hbm, ⟨42, _⟩ => ⟨S2x4x8192x1, .f32⟩
  | .hbm, ⟨43, _⟩ => ⟨S2x4x8192x1, .f32⟩
  | .hbm, ⟨44, _⟩ => ⟨S2x4x8192x1, .f32⟩
  | .hbm, ⟨45, _⟩ => ⟨S8192x2x4x1, .f32⟩
  | .hbm, ⟨46, _⟩ => ⟨S8192x8x1, .f32⟩
  | .hbm, ⟨47, _⟩ => ⟨S8192x8x64, .f32⟩
  | .hbm, ⟨48, _⟩ => ⟨S8192x512, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== Proof.Loss.Value.lean ====
/- What the loss kernel leaves in its two result arrays, as functions of the prediction `y` and the target `t`:
   the gradient `(y - t) / 1024`, and for every column the sum over the rows of `(y - t)² / 2048`. -/
module

public import proofs.«01_k».proof.Proof.Gen.LossIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.LossIdeal.Value

open Cert.LossIdeal Cert.LossIdeal.Gen

variable (m : (ℓ : Loc nD τ sig) → Buf (Elt Ideal) ℓ)

/-- The gradient of the loss at one entry. -/
def grad (Y T : FVec Ideal S8192x1024 .f32) : FVec Ideal S8192x1024 .f32 :=
  fun j => (Y j - T j) * Ideal.ofBits .f32 0x3A800000#32

/-- One column of the loss before its last sum: the kernel adds the rows in 32 tiles of 256. -/
def rows (Y T : FVec Ideal S8192x1024 .f32) : FVec Ideal S1x1024 .f32 := fun j =>
  ∑ s : Fin 32, (∑ k : Fin 256, (Y (ix2 ⟨s * 256 + k, by omega⟩ (j 1)) - T (ix2 ⟨s * 256 + k, by omega⟩ (j 1)))
    * (Y (ix2 ⟨s * 256 + k, by omega⟩ (j 1)) - T (ix2 ⟨s * 256 + k, by omega⟩ (j 1)))) * Ideal.ofBits .f32 0x3A000000#32

/-- Every window but the last walks the rows in tiles; the last stays on the one row of sums. -/
theorem idx : ∀ t : Fin cfg0.N, win0_0.index t = ![t.val, 0] ∧ win0_1.index t = ![t.val, 0] ∧ win0_2.index t = ![t.val, 0]
    ∧ win0_3.index t = ![0, 0] := (by decide +kernel : ∀ t : Fin grid0.N, _)

/-- The gradient array after the run. -/
theorem final_grad (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  blk_simp
  rw [after0_2]
  by_cases h0 : t.val % 32 = 0
  · have h1 : ¬ 1 ≤ t.val := by have := lt_of_lt_of_eq t.isLt N_0; omega
    rw [outsAt0_A m c t h0 h1]; frame_out
    pointwise [k0_pay2, k0_pay1, grad]
    blk_point [iblk, V, idx t]
  · have h1 : 1 ≤ t.val := by omega
    rw [outsAt0_B m c t h0 h1]; frame_out
    pointwise [k0_pay2, k0_pay1, grad]
    blk_point [iblk, V, idx t]

/-- What a point adds to the row of sums. -/
theorem part (x y : FVec Ideal S256x1024 .f32) (j : S1x1024.Idx) : k0_pay3 (F := Ideal) x y j
    = (∑ k : Fin 256, (x (ix2 k (j 1)) - y (ix2 k (j 1))) * (x (ix2 k (j 1)) - y (ix2 k (j 1)))) * Ideal.ofBits .f32 0x3A000000#32 := by
  pointwise [k0_pay3, k0_pay1]

/-- The row of sums after the run. -/
theorem final_rows (c : Dev nD) : (dats m 0 c).arrAt 3 (cfgs 0).N
    = rows (m ((c : Thread nD τ).loc main_arg0)) (m ((c : Thread nD τ).loc main_arg1)) := by
  refine (dats m 0 c).arrAt_eq_of_covers 3 _ (by decide +kernel) fun t hf y => ?_
  blk_simp
  rw [after0_3, Pipeline.eq_sum_fin_of_reset_step_apply_of_flush (fun n h => (outsAt0 m c n h).2) 32 (fun _ => 0) _
    (fun t h j => by
      rw [outsAt0_A m c t h (by have := lt_of_lt_of_eq t.isLt N_0; omega)]; frame_out; rw [part, zero_add])
    (fun t h j => by
      rw [outsAt0_B m c t h (by omega)]; frame_out; pointwise [k0_pay4]; rw [part])
    t ((flush0_3 t).mp hf) _, zero_add]
  unfold rows
  blk_point [iblk, V, idx t, idx ⟨_, Pipeline.run_point_lt_of_flush t ((flush0_3 t).mp hf) _⟩]

end Cert.LossIdeal.Value

end
-- ==== Proof.Reals.lean ====
/- Facts about sums of extended reals that every pair uses: a real factor that is not negative moves through a sum,
   and a sum of real numbers, with any real factor, is computed among the real numbers. -/
module

public import Idealize.ShloMosaic.Lib.Pointwise
public import Idealize.ShloMosaic.Lib.IdealHost

@[expose] public section

noncomputable section

namespace Cert.Reals

open Idealize.ShloMosaic

/-- A real factor that is not negative moves through a sum of any extended reals. -/
theorem sum_mul_nonneg {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

/-- A sum of real numbers read among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Reals

end
-- ==== Proof.Loss.Ref.lean ====
/- The loss kernel and the reference's derivative of the loss leave the same two arrays. -/
module

public import proofs.«01_k».proof.Defs
public import proofs.«01_k».proof.Proof.Loss.Value
public import proofs.«01_k».proof.Proof.Reals
public import proofs.«01_k».proof.Proof.Gen.LossRefIdeal
public import Idealize.ShloMosaic.Lib.Claim
public import Idealize.ShloMosaic.Lib.StableHlo.Run
public import Idealize.ShloMosaic.Lib.Quiescent

@[expose] public section

set_option maxRecDepth 16384

noncomputable section

namespace Cert.Loss

open Idealize.ShloMosaic Idealize.ShloMosaic.TcCoe Idealize.SL.Sem

/-- The float words of the two programs as numbers. -/
theorem lit_half : Ideal.ofBits .f32 0x3F000000#32 = ((1 / 2 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_width : Ideal.ofBits .f32 0x44800000#32 = ((1024 : ℝ) : EReal) := by
  simp [Ideal.ofBits, Ideal.ieee, -EReal.coe_mul]; norm_num

theorem lit_inv_width : Ideal.ofBits .f32 0x3A800000#32 = ((1 / 1024 : ℝ) : EReal) := by
  simp [Ideal.ofBits, Ideal.ieee, -EReal.coe_mul]; norm_num

theorem lit_half_inv_width : Ideal.ofBits .f32 0x3A000000#32 = ((1 / 2048 : ℝ) : EReal) := by
  simp [Ideal.ofBits, Ideal.ieee, -EReal.coe_mul]; norm_num

/-- The derivative's factors `(1/2)/1024` and `2` are the kernel's `1/1024`. -/
theorem grad_eq (e : EReal) : Ideal.div (Ideal.ofBits .f32 0x3F000000#32) (Ideal.ofBits .f32 0x44800000#32)
    * (Ideal.ofBits .f32 0x40000000#32 * e) = e * Ideal.ofBits .f32 0x3A800000#32 := by
  rw [lit_half, lit_two, lit_width, lit_inv_width, Ideal.div_coe (by norm_num), ← mul_assoc, mul_comm e, ← EReal.coe_mul, ← EReal.coe_mul]
  norm_num

/-- Half a square divided by the width is the square times `1/2048`. -/
theorem term_eq (e : EReal) : Ideal.div (Ideal.ofBits .f32 0x3F000000#32 * e) (Ideal.ofBits .f32 0x44800000#32)
    = e * ((1 / 2048 : ℝ) : EReal) := by
  rw [lit_half, lit_width, Ideal.div_coe (by norm_num), mul_comm _ e, mul_assoc, ← EReal.coe_mul]
  norm_num

/-- The reference of the loss ends with its arguments as they were. -/
theorem frame_ref : Cert.quiescent_LossRefIdeal (hLossRefIdeal := Cert.LossRefIdeal.Gen.facts) := by
  intro m g _; hlo_run
  · simp
  · exact sem_eq_zero_of_no_sems (sig := Cert.LossRefIdeal.sig) (by decide) _

/-- From memories that agree on the prediction and the target, both programs end with the same gradient and the same row. -/
theorem algebraic : Cert.algebraic_LossIdeal_LossRefIdeal (hLossIdeal := Cert.LossIdeal.Gen.facts) (hLossRefIdeal := Cert.LossRefIdeal.Gen.facts) := by
  pair_intro
  · run_from Cert.LossIdeal.Gen.run_main m g
  · hlo_run
    · rw [Cert.LossIdeal.Value.final_grad]
      funext j
      pointwise [Cert.LossIdeal.Value.grad]
      exact grad_eq _
    · rw [Cert.LossIdeal.Value.final_rows]
      funext j
      pointwise [Cert.LossIdeal.Value.rows]
      simp only [term_eq, lit_half_inv_width]
      rw [Fin.sum_univ_tiles 32 256 rfl]
      refine Finset.sum_congr rfl fun s _ => ?_
      rw [Reals.sum_mul_nonneg _ _ (by norm_num)]

end Cert.Loss

end
-- ==== Proof.Mix.Blocks.lean ====
/- The gated merge, going back: what one row block holds, as functions of the arrays the call is given. -/
module

public import proofs.«01_k».proof.Proof.Gen.MixIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixIdeal.Blocks

open Cert.MixIdeal Cert.MixIdeal.Gen

variable (m : (ℓ : Loc nD τ sig) → Buf (Elt Ideal) ℓ)

/-- The windows' block indices: rows of 256, the six gate columns of 512 side by side, and the weights whole. -/
theorem idx : ∀ t : Fin cfg0.N, win0_0.index t = ![t.val, 0] ∧ win0_1.index t = ![0, t.val, 0] ∧ win0_2.index t = ![t.val, 7]
    ∧ win0_3.index t = ![t.val, 8] ∧ win0_4.index t = ![t.val, 9] ∧ win0_5.index t = ![t.val, 10] ∧ win0_6.index t = ![t.val, 11]
    ∧ win0_7.index t = ![t.val, 12] ∧ win0_8.index t = ![0, 0] ∧ win0_9.index t = ![0, 0, 0] ∧ win0_10.index t = ![0, 0, 0]
    ∧ win0_11.index t = ![0, 0, 0] ∧ win0_12.index t = ![0, 0, 0]
    ∧ win0_13.index t = ![0, t.val, 0] ∧ win0_14.index t = ![t.val, 0] ∧ win0_15.index t = ![0, 0] ∧ win0_16.index t = ![t.val, 0]
    ∧ win0_17.index t = ![t.val, 0] ∧ win0_18.index t = ![t.val, 0] := (by decide +kernel : ∀ t : Fin grid0.N, _)

/-- The gradient of the merged rows, one block: the cotangent's rows against the output weight. -/
def dmBlk (x0 : Vec Ideal S256x1024 .f32) (x12 : Vec Ideal S4x256x1024 .bf16) : Vec Ideal S256x1024 .f32 := fun y =>
  ∑ k : Fin 1024, x0 (ix2 (y 0) k) * x12 (ix3 ⟨(y 1 : ℕ) / 256, by have h : (y 1 : ℕ) < 1024 := (y 1).isLt; omega⟩ ⟨(y 1 : ℕ) % 256, by omega⟩ k)

/-- The four column shards the body stores into its scratch are that block. -/
theorem dm_canon (x0 : Vec Ideal S256x1024 .f32) (x12 : Vec Ideal S4x256x1024 .bf16) : View.canon (Val := Elt Ideal) (e := .f32)
    [⟨Rect.unit ![0, 768] ![256, 256] inb_S256x1024_S256x256_0_768,
        k0_pay6 x0 (View.ld x12 (Rect.unit ![3, 0, 0] ![1, 256, 1024] inb_S4x256x1024_S1x256x1024_3_0_0))⟩,
      ⟨Rect.unit ![0, 512] ![256, 256] inb_S256x1024_S256x256_0_512,
        k0_pay5 x0 (View.ld x12 (Rect.unit ![2, 0, 0] ![1, 256, 1024] inb_S4x256x1024_S1x256x1024_2_0_0))⟩,
      ⟨Rect.unit ![0, 256] ![256, 256] inb_S256x1024_S256x256_0_256,
        k0_pay4 x0 (View.ld x12 (Rect.unit ![1, 0, 0] ![1, 256, 1024] inb_S4x256x1024_S1x256x1024_1_0_0))⟩,
      ⟨Rect.unit ![0, 0] ![256, 256] inb_S256x1024_S256x256_0_0,
        k0_pay3 x0 (View.ld x12 (Rect.unit ![0, 0, 0] ![1, 256, 1024] inb_S4x256x1024_S1x256x1024_0_0_0))⟩]
    = dmBlk x0 x12 := by
  funext y
  canon_tiles x h
  all_goals (pointwise [k0_pay3, k0_pay4, k0_pay5, k0_pay6, k0_pay2, dmBlk]; blk_point [])

/-- The gate of row `r` at gate column `q`. -/
def gate (Z : FVec Ideal S8192x6656 .f32) (B : FVec Ideal S1x3072 .f32) (r : Fin 8192) (q : Fin 3072) : EReal :=
  Ideal.logistic (Z (ix2 r ⟨3584 + (q : ℕ), by omega⟩) + B (ix2 0 q))

/-- The arguments the body's blocks are cut from, as the region finds them. -/
abbrev aX (c : Dev nD) : FVec Ideal S8192x1024 .f32 := V m c main_arg9
abbrev aY (c : Dev nD) : FVec Ideal S3x8192x1024 .bf16 := V m c main_v18
abbrev aZ (c : Dev nD) : FVec Ideal S8192x6656 .f32 := V m c main_arg3
abbrev aB (c : Dev nD) : FVec Ideal S1x3072 .f32 := V m c main_arg4
abbrev aO (c : Dev nD) : FVec Ideal S4x256x1024 .bf16 := V m c main_v10

/-- The gradient of the merged rows: the cotangent against the output weight's four shards. -/
def dm (X : FVec Ideal S8192x1024 .f32) (O : FVec Ideal S4x256x1024 .bf16) (r : Fin 8192) (d : Fin 1024) : EReal :=
  ∑ k : Fin 1024, X (ix2 r k) * O (ix3 ⟨(d : ℕ) / 256, by omega⟩ ⟨(d : ℕ) % 256, by omega⟩ k)

/-- The gradient of branch `b`'s output. -/
def dyG (X : FVec Ideal S8192x1024 .f32) (O : FVec Ideal S4x256x1024 .bf16) (Z : FVec Ideal S8192x6656 .f32) (B : FVec Ideal S1x3072 .f32) :
    FVec Ideal S3x8192x1024 .bf16 := fun y => dm X O (y 1) (y 2) * gate Z B (y 1) ⟨(y 0 : ℕ) * 1024 + (y 2 : ℕ), by
      have h0 : (y 0 : ℕ) < 3 := (y 0).isLt
      have h2 : (y 2 : ℕ) < 1024 := (y 2).isLt
      omega⟩

/-- Row `k` of block `t`. -/
def row (t : Fin cfg0.N) (k : Fin 256) : Fin 8192 := ⟨t.val * 256 + (k : ℕ), by have := lt_of_lt_of_eq t.isLt N_0; omega⟩

/-- One block of it. -/
def dyBlk (c : Dev nD) (t : Fin cfg0.N) : Vec Ideal S3x256x1024 .bf16 := fun y =>
  dyG (aX m c) (aO m c) (aZ m c) (aB m c) (ix3 (y 0) (row t (y 1)) (y 2))

/-- The gradient of the gate's logits at row `r`, gate column `q`. -/
def dgate (X : FVec Ideal S8192x1024 .f32) (O : FVec Ideal S4x256x1024 .bf16) (Y : FVec Ideal S3x8192x1024 .bf16)
    (Z : FVec Ideal S8192x6656 .f32) (B : FVec Ideal S1x3072 .f32) (r : Fin 8192) (q : Fin 3072) : EReal :=
  dm X O r ⟨(q : ℕ) % 1024, by omega⟩ * Y (ix3 ⟨(q : ℕ) / 1024, by omega⟩ r ⟨(q : ℕ) % 1024, by omega⟩) * gate Z B r q
    * (1 - gate Z B r q)

/-- The gradient of the projected rows: nothing before column 3584, the gate logits' gradient from there on. -/
def dzG (X : FVec Ideal S8192x1024 .f32) (O : FVec Ideal S4x256x1024 .bf16) (Y : FVec Ideal S3x8192x1024 .bf16)
    (Z : FVec Ideal S8192x6656 .f32) (B : FVec Ideal S1x3072 .f32) : FVec Ideal S8192x6656 .bf16 := fun y =>
  if h : (y 1 : ℕ) < 3584 then 0 else dgate X O Y Z B (y 0) ⟨(y 1 : ℕ) - 3584, by
    have h1 : (y 1 : ℕ) < 6656 := (y 1).isLt
    omega⟩

/-- The gradient of the gate's bias: the kernel adds the rows in 32 tiles of 256. -/
def dbG (X : FVec Ideal S8192x1024 .f32) (O : FVec Ideal S4x256x1024 .bf16) (Y : FVec Ideal S3x8192x1024 .bf16)
    (Z : FVec Ideal S8192x6656 .f32) (B : FVec Ideal S1x3072 .f32) : FVec Ideal S1x3072 .f32 := fun y =>
  ∑ s : Fin 32, ∑ k : Fin 256, dgate X O Y Z B ⟨s * 256 + k, by omega⟩ (y 1)

/-- The gradient of a branch's input: the branch output's gradient against the branch weight's four shards. -/
def dinG {n : ℕ} (dy : FVec Ideal S3x8192x1024 .bf16) (b : Fin 3) (W : FVec Ideal ⟨3, ![4, n, 256]⟩ .bf16) (r : Fin 8192) (a : Fin n) : EReal :=
  ((∑ k : Fin 256, dy (ix3 b r ⟨k, by omega⟩) * W (ix3 0 a k)) + (∑ k : Fin 256, dy (ix3 b r ⟨256 + k, by omega⟩) * W (ix3 1 a k))
    + (∑ k : Fin 256, dy (ix3 b r ⟨512 + k, by omega⟩) * W (ix3 2 a k))) + (∑ k : Fin 256, dy (ix3 b r ⟨768 + k, by omega⟩) * W (ix3 3 a k))

/-- What a point adds to the bias' gradient. -/
def dbBlk (c : Dev nD) (t : Fin cfg0.N) : Vec Ideal S1x3072 .f32 := fun y =>
  ∑ k : Fin 256, dgate (aX m c) (aO m c) (aY m c) (aZ m c) (aB m c) (row t k) (y 1)

/-- The gradient of a branch's input, whole and one block of it. -/
def dinArr {n : ℕ} (dy : FVec Ideal S3x8192x1024 .bf16) (b : Fin 3) (W : FVec Ideal ⟨3, ![4, n, 256]⟩ .bf16) : FVec Ideal ⟨2, ![8192, n]⟩ .f32 :=
  fun j => dinG dy b W (j 0) (j 1)

def dinBlk {n : ℕ} (dy : FVec Ideal S3x8192x1024 .bf16) (b : Fin 3) (W : FVec Ideal ⟨3, ![4, n, 256]⟩ .bf16) (t : Fin cfg0.N) :
    FVec Ideal ⟨2, ![256, n]⟩ .f32 := fun j => dinArr dy b W (ix2 (row t (j 0)) (j 1))

theorem dm_iblk (c : Dev nD) (t : Fin cfg0.N) (k : Fin 256) (d : Fin 1024) :
    dmBlk (iblk m c 0 t) (iblk m c 12 t) (ix2 k d) = dm (aX m c) (aO m c) (row t k) d := by
  unfold dmBlk dm row
  blk_point [iblk, V, idx t]

theorem y_iblk (c : Dev nD) (t : Fin cfg0.N) (b : Fin 3) (k : Fin 256) (d : Fin 1024) :
    iblk m c 1 t (ix3 b k d) = aY m c (ix3 b (row t k) d) := by
  unfold row
  blk_point [iblk, V, idx t]

theorem b_iblk (c : Dev nD) (t : Fin cfg0.N) (q : Fin 3072) : iblk m c 8 t (ix2 0 q) = aB m c (ix2 0 q) := by
  blk_point [iblk, V, idx t]

theorem z2_iblk (c : Dev nD) (t : Fin cfg0.N) (k : Fin 256) (d : Fin 512) :
    iblk m c 2 t (ix2 k d) = aZ m c (ix2 (row t k) ⟨3584 + (d : ℕ), by omega⟩) := by
  unfold row
  blk_point [iblk, V, idx t]

theorem z3_iblk (c : Dev nD) (t : Fin cfg0.N) (k : Fin 256) (d : Fin 512) :
    iblk m c 3 t (ix2 k d) = aZ m c (ix2 (row t k) ⟨4096 + (d : ℕ), by omega⟩) := by
  unfold row
  blk_point [iblk, V, idx t]

theorem z4_iblk (c : Dev nD) (t : Fin cfg0.N) (k : Fin 256) (d : Fin 512) :
    iblk m c 4 t (ix2 k d) = aZ m c (ix2 (row t k) ⟨4608 + (d : ℕ), by omega⟩) := by
  unfold row
  blk_point [iblk, V, idx t]

theorem z5_iblk (c : Dev nD) (t : Fin cfg0.N) (k : Fin 256) (d : Fin 512) :
    iblk m c 5 t (ix2 k d) = aZ m c (ix2 (row t k) ⟨5120 + (d : ℕ), by omega⟩) := by
  unfold row
  blk_point [iblk, V, idx t]

theorem z6_iblk (c : Dev nD) (t : Fin cfg0.N) (k : Fin 256) (d : Fin 512) :
    iblk m c 6 t (ix2 k d) = aZ m c (ix2 (row t k) ⟨5632 + (d : ℕ), by omega⟩) := by
  unfold row
  blk_point [iblk, V, idx t]

theorem z7_iblk (c : Dev nD) (t : Fin cfg0.N) (k : Fin 256) (d : Fin 512) :
    iblk m c 7 t (ix2 k d) = aZ m c (ix2 (row t k) ⟨6144 + (d : ℕ), by omega⟩) := by
  unfold row
  blk_point [iblk, V, idx t]

/-- The gate's gradient with its column split into branch and feature. -/
theorem dgate_pt (X : FVec Ideal S8192x1024 .f32) (O : FVec Ideal S4x256x1024 .bf16) (Y : FVec Ideal S3x8192x1024 .bf16)
    (Z : FVec Ideal S8192x6656 .f32) (B : FVec Ideal S1x3072 .f32) (r : Fin 8192) (b : Fin 3) (d : Fin 1024) (zc : Fin 6656)
    (q p : Fin 3072) (hq : (q : ℕ) = (b : ℕ) * 1024 + (d : ℕ)) (hz : (zc : ℕ) = 3584 + (q : ℕ)) (hp : (p : ℕ) = (q : ℕ)) :
    dm X O r d * Y (ix3 b r d) * Ideal.logistic (Z (ix2 r zc) + B (ix2 0 p)) * (1 - Ideal.logistic (Z (ix2 r zc) + B (ix2 0 p)))
      = dgate X O Y Z B r q := by
  obtain rfl : p = q := Fin.ext hp
  have ez : zc = ⟨3584 + (p : ℕ), by omega⟩ := Fin.ext hz
  have e1 : (⟨(p : ℕ) / 1024, by omega⟩ : Fin 3) = b := Fin.ext (by simp only []; omega)
  have e2 : (⟨(p : ℕ) % 1024, by omega⟩ : Fin 1024) = d := Fin.ext (by simp only []; omega)
  unfold dgate gate
  rw [ez, e1, e2]

end Cert.MixIdeal.Blocks

end
-- ==== Proof.Mix.Dy.lean ====
/- The gated merge, going back: the six pieces of one block of the branches' gradient. -/
module

public import proofs.«01_k».proof.Proof.Mix.Blocks

@[expose] public section

set_option maxRecDepth 16384

noncomputable section

open Idealize.ShloMosaic Idealize.ShloMosaic.TcCoe Idealize.SL.Sem
open Idealize.ShloMosaic.Pipeline (Dat)

namespace Cert.MixIdeal.Dy

open Cert.MixIdeal Cert.MixIdeal.Gen Cert.MixIdeal.Blocks

variable (m : (ℓ : Loc nD τ sig) → Buf (Elt Ideal) ℓ)

/-- The six pieces the body stores into the branches' gradient are that block. -/
theorem dy_canon (c : Dev nD) (t : Fin cfg0.N) : View.canon (Val := Elt Ideal) (e := .bf16)
    [⟨Rect.unit ![2, 0, 512] ![1, 256, 512] inb_S3x256x1024_S1x256x512_2_0_512,
        k0_pay36 (iblk m c 7 t) (View.ld (iblk m c 8 t) (Rect.unit ![0, 2560] ![1, 512] inb_S1x3072_S1x512_0_2560))  (View.ld (dmBlk (iblk m c 0 t) (iblk m c 12 t)) (Rect.unit ![0, 512] ![256, 512] inb_S256x1024_S256x512_0_512))⟩,
      ⟨Rect.unit ![2, 0, 0] ![1, 256, 512] inb_S3x256x1024_S1x256x512_2_0_0,
        k0_pay31 (k0_pay30 (iblk m c 6 t) (View.ld (iblk m c 8 t) (Rect.unit ![0, 2048] ![1, 512] inb_S1x3072_S1x512_0_2048))  (View.ld (dmBlk (iblk m c 0 t) (iblk m c 12 t)) (Rect.unit ![0, 0] ![256, 512] inb_S256x1024_S256x512_0_0)))⟩,
      ⟨Rect.unit ![1, 0, 512] ![1, 256, 512] inb_S3x256x1024_S1x256x512_1_0_512,
        k0_pay25 (iblk m c 5 t) (View.ld (iblk m c 8 t) (Rect.unit ![0, 1536] ![1, 512] inb_S1x3072_S1x512_0_1536))  (View.ld (dmBlk (iblk m c 0 t) (iblk m c 12 t)) (Rect.unit ![0, 512] ![256, 512] inb_S256x1024_S256x512_0_512))⟩,
      ⟨Rect.unit ![1, 0, 0] ![1, 256, 512] inb_S3x256x1024_S1x256x512_1_0_0,
        k0_pay20 (iblk m c 4 t) (View.ld (iblk m c 8 t) (Rect.unit ![0, 1024] ![1, 512] inb_S1x3072_S1x512_0_1024))  (View.ld (dmBlk (iblk m c 0 t) (iblk m c 12 t)) (Rect.unit ![0, 0] ![256, 512] inb_S256x1024_S256x512_0_0))⟩,
      ⟨Rect.unit ![0, 0, 512] ![1, 256, 512] inb_S3x256x1024_S1x256x512_0_0_512,
        k0_pay15 (k0_pay14 (iblk m c 3 t) (View.ld (iblk m c 8 t) (Rect.unit ![0, 512] ![1, 512] inb_S1x3072_S1x512_0_512))  (View.ld (dmBlk (iblk m c 0 t) (iblk m c 12 t)) (Rect.unit ![0, 512] ![256, 512] inb_S256x1024_S256x512_0_512)))⟩,
      ⟨Rect.unit ![0, 0, 0] ![1, 256, 512] inb_S3x256x1024_S1x256x512_0_0_0,
        k0_pay9 (iblk m c 2 t) (View.ld (iblk m c 8 t) (Rect.unit ![0, 0] ![1, 512] inb_S1x3072_S1x512_0_0))  (View.ld (dmBlk (iblk m c 0 t) (iblk m c 12 t)) (Rect.unit ![0, 0] ![256, 512] inb_S256x1024_S256x512_0_0))⟩]
    = dyBlk m c t := by
  funext y
  canon_tiles x h
  all_goals
    (pointwise [k0_pay36, k0_pay35, k0_pay31, k0_pay30, k0_pay29, k0_pay25, k0_pay24, k0_pay20, k0_pay19, k0_pay15, k0_pay14, k0_pay13, k0_pay9, k0_pay8, dyBlk, dyG, gate, dmBlk, dm, row]
     blk_point [iblk, V, idx t])

end Cert.MixIdeal.Dy

end
-- ==== Proof.Mix.Dz.lean ====
/- The gated merge, going back: the seven pieces of one block of the projected rows' gradient. -/
module

public import proofs.«01_k».proof.Proof.Mix.Blocks

@[expose] public section

set_option maxRecDepth 16384

noncomputable section

open Idealize.ShloMosaic Idealize.ShloMosaic.TcCoe Idealize.SL.Sem
open Idealize.ShloMosaic.Pipeline (Dat)

namespace Cert.MixIdeal.Dz

open Cert.MixIdeal Cert.MixIdeal.Gen Cert.MixIdeal.Blocks

variable (m : (ℓ : Loc nD τ sig) → Buf (Elt Ideal) ℓ)

/-- One block of the projected rows' gradient. -/
def dzBlk (c : Dev nD) (t : Fin cfg0.N) : Vec Ideal S256x6656 .bf16 := fun y =>
  dzG (aX m c) (aO m c) (aY m c) (aZ m c) (aB m c) (ix2 (row t (y 0)) (y 1))

theorem dzBlk_lt (c : Dev nD) (t : Fin cfg0.N) (k : Fin 256) (q : Fin 6656) (h : (q : ℕ) < 3584) : dzBlk m c t (ix2 k q) = 0 :=
  dif_pos h

theorem dzBlk_ge (c : Dev nD) (t : Fin cfg0.N) (k : Fin 256) (q : Fin 6656) (h : ¬ (q : ℕ) < 3584) :
    dzBlk m c t (ix2 k q) = dgate (aX m c) (aO m c) (aY m c) (aZ m c) (aB m c) (row t k) ⟨(q : ℕ) - 3584, by omega⟩ :=
  dif_neg h

set_option maxHeartbeats 1600000 in
/-- The zeros before the gate columns and the six pieces of the gate columns are that block. -/
theorem dz_canon (c : Dev nD) (t : Fin cfg0.N) : View.canon (Val := Elt Ideal) (e := .bf16)
    [⟨Rect.unit ![0, 6144] ![256, 512] inb_S256x6656_S256x512_0_6144,
        k0_pay40 (k0_pay37 (iblk m c 7 t) (View.ld (iblk m c 8 t) (Rect.unit ![0, 2560] ![1, 512] inb_S1x3072_S1x512_0_2560)) (View.ld (dmBlk (iblk m c 0 t) (iblk m c 12 t)) (Rect.unit ![0, 512] ![256, 512] inb_S256x1024_S256x512_0_512)) (View.ld (iblk m c 1 t) (Rect.unit ![2, 0, 512] ![1, 256, 512] inb_S3x256x1024_S1x256x512_2_0_512))) (k0_pay38 (iblk m c 7 t) (View.ld (iblk m c 8 t) (Rect.unit ![0, 2560] ![1, 512] inb_S1x3072_S1x512_0_2560)))⟩,
      ⟨Rect.unit ![0, 5632] ![256, 512] inb_S256x6656_S256x512_0_5632,
        k0_pay33 (k0_pay29 (iblk m c 6 t) (View.ld (iblk m c 8 t) (Rect.unit ![0, 2048] ![1, 512] inb_S1x3072_S1x512_0_2048))) (View.ld (dmBlk (iblk m c 0 t) (iblk m c 12 t)) (Rect.unit ![0, 0] ![256, 512] inb_S256x1024_S256x512_0_0)) (View.ld (iblk m c 1 t) (Rect.unit ![2, 0, 0] ![1, 256, 512] inb_S3x256x1024_S1x256x512_2_0_0))⟩,
      ⟨Rect.unit ![0, 5120] ![256, 512] inb_S256x6656_S256x512_0_5120,
        k0_pay27 (iblk m c 5 t) (View.ld (iblk m c 8 t) (Rect.unit ![0, 1536] ![1, 512] inb_S1x3072_S1x512_0_1536)) (View.ld (dmBlk (iblk m c 0 t) (iblk m c 12 t)) (Rect.unit ![0, 512] ![256, 512] inb_S256x1024_S256x512_0_512)) (View.ld (iblk m c 1 t) (Rect.unit ![1, 0, 512] ![1, 256, 512] inb_S3x256x1024_S1x256x512_1_0_512))⟩,
      ⟨Rect.unit ![0, 4608] ![256, 512] inb_S256x6656_S256x512_0_4608,
        k0_pay22 (iblk m c 4 t) (View.ld (iblk m c 8 t) (Rect.unit ![0, 1024] ![1, 512] inb_S1x3072_S1x512_0_1024)) (View.ld (dmBlk (iblk m c 0 t) (iblk m c 12 t)) (Rect.unit ![0, 0] ![256, 512] inb_S256x1024_S256x512_0_0)) (View.ld (iblk m c 1 t) (Rect.unit ![1, 0, 0] ![1, 256, 512] inb_S3x256x1024_S1x256x512_1_0_0))⟩,
      ⟨Rect.unit ![0, 4096] ![256, 512] inb_S256x6656_S256x512_0_4096,
        k0_pay17 (k0_pay13 (iblk m c 3 t) (View.ld (iblk m c 8 t) (Rect.unit ![0, 512] ![1, 512] inb_S1x3072_S1x512_0_512))) (View.ld (dmBlk (iblk m c 0 t) (iblk m c 12 t)) (Rect.unit ![0, 512] ![256, 512] inb_S256x1024_S256x512_0_512)) (View.ld (iblk m c 1 t) (Rect.unit ![0, 0, 512] ![1, 256, 512] inb_S3x256x1024_S1x256x512_0_0_512))⟩,
      ⟨Rect.unit ![0, 3584] ![256, 512] inb_S256x6656_S256x512_0_3584,
        k0_pay11 (iblk m c 2 t) (View.ld (iblk m c 8 t) (Rect.unit ![0, 0] ![1, 512] inb_S1x3072_S1x512_0_0)) (View.ld (dmBlk (iblk m c 0 t) (iblk m c 12 t)) (Rect.unit ![0, 0] ![256, 512] inb_S256x1024_S256x512_0_0)) (View.ld (iblk m c 1 t) (Rect.unit ![0, 0, 0] ![1, 256, 512] inb_S3x256x1024_S1x256x512_0_0_0))⟩,
      ⟨Rect.unit ![0, 0] ![256, 3584] inb_S256x6656_S256x3584_0_0, k0_pay7 (F := Ideal)⟩]
    = dzBlk m c t := by
  funext y
  canon_tiles x h using View.cover_of_tiledBy _ ![256, 512] (by sl_kernel_rfl) y
  all_goals
    pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42]
  all_goals (idx_vars x; idx_vars y)
  case piece6 => exact (dzBlk_lt m c t y0 y1 (by omega)).symm
  all_goals
    (simp only [dm_iblk, y_iblk, b_iblk, z2_iblk, z3_iblk, z4_iblk, z5_iblk, z6_iblk, z7_iblk]
     rw [dzBlk_ge m c t y0 y1 (by omega)]
     obtain rfl : y0 = x0 := Fin.ext h0)
  all_goals first | (refine dgate_pt _ _ _ _ _ _ _ _ _ _ _ ?_ ?_ ?_ <;> (simp; done)) | (refine dgate_pt _ _ _ _ _ _ _ _ _ _ _ ?_ ?_ ?_ <;> (simp; omega))

end Cert.MixIdeal.Dz

end
-- ==== Proof.Mix.Db.lean ====
/- The gated merge, going back: what one row block adds to the gradient of the gate's bias. -/
module

public import proofs.«01_k».proof.Proof.Mix.Blocks

@[expose] public section

set_option maxRecDepth 16384

noncomputable section

open Idealize.ShloMosaic Idealize.ShloMosaic.TcCoe Idealize.SL.Sem
open Idealize.ShloMosaic.Pipeline (Dat)

namespace Cert.MixIdeal.Db

open Cert.MixIdeal Cert.MixIdeal.Gen Cert.MixIdeal.Blocks

variable (m : (ℓ : Loc nD τ sig) → Buf (Elt Ideal) ℓ)

theorem dbBlk_ix (c : Dev nD) (t : Fin cfg0.N) (a : Fin 1) (q : Fin 3072) : dbBlk m c t (ix2 a q)
    = ∑ k : Fin 256, dgate (aX m c) (aO m c) (aY m c) (aZ m c) (aB m c) (row t k) q := rfl

set_option maxHeartbeats 1600000 in
/-- The six column pieces, side by side, are what the block adds. -/
theorem part_db (c : Dev nD) (t : Fin cfg0.N) (q : Fin 3072) : k0_pay41
      (k0_pay12 (iblk m c 2 t) (View.ld (iblk m c 8 t) (Rect.unit ![0, 0] ![1, 512] inb_S1x3072_S1x512_0_0))
        (View.ld (dmBlk (iblk m c 0 t) (iblk m c 12 t)) (Rect.unit ![0, 0] ![256, 512] inb_S256x1024_S256x512_0_0))
        (View.ld (iblk m c 1 t) (Rect.unit ![0, 0, 0] ![1, 256, 512] inb_S3x256x1024_S1x256x512_0_0_0)))
      (k0_pay18
        (k0_pay13 (iblk m c 3 t) (View.ld (iblk m c 8 t) (Rect.unit ![0, 512] ![1, 512] inb_S1x3072_S1x512_0_512)))
        (View.ld (dmBlk (iblk m c 0 t) (iblk m c 12 t)) (Rect.unit ![0, 512] ![256, 512] inb_S256x1024_S256x512_0_512))
        (View.ld (iblk m c 1 t) (Rect.unit ![0, 0, 512] ![1, 256, 512] inb_S3x256x1024_S1x256x512_0_0_512)))
      (k0_pay23
        (k0_pay21 (iblk m c 4 t) (View.ld (iblk m c 8 t) (Rect.unit ![0, 1024] ![1, 512] inb_S1x3072_S1x512_0_1024))
          (View.ld (dmBlk (iblk m c 0 t) (iblk m c 12 t)) (Rect.unit ![0, 0] ![256, 512] inb_S256x1024_S256x512_0_0))
          (View.ld (iblk m c 1 t) (Rect.unit ![1, 0, 0] ![1, 256, 512] inb_S3x256x1024_S1x256x512_1_0_0))))
      (k0_pay28 (iblk m c 5 t) (View.ld (iblk m c 8 t) (Rect.unit ![0, 1536] ![1, 512] inb_S1x3072_S1x512_0_1536))
        (View.ld (dmBlk (iblk m c 0 t) (iblk m c 12 t)) (Rect.unit ![0, 512] ![256, 512] inb_S256x1024_S256x512_0_512))
        (View.ld (iblk m c 1 t) (Rect.unit ![1, 0, 512] ![1, 256, 512] inb_S3x256x1024_S1x256x512_1_0_512)))
      (k0_pay34
        (k0_pay29 (iblk m c 6 t) (View.ld (iblk m c 8 t) (Rect.unit ![0, 2048] ![1, 512] inb_S1x3072_S1x512_0_2048)))
        (View.ld (dmBlk (iblk m c 0 t) (iblk m c 12 t)) (Rect.unit ![0, 0] ![256, 512] inb_S256x1024_S256x512_0_0))
        (View.ld (iblk m c 1 t) (Rect.unit ![2, 0, 0] ![1, 256, 512] inb_S3x256x1024_S1x256x512_2_0_0)))
      (k0_pay37 (iblk m c 7 t) (View.ld (iblk m c 8 t) (Rect.unit ![0, 2560] ![1, 512] inb_S1x3072_S1x512_0_2560))
        (View.ld (dmBlk (iblk m c 0 t) (iblk m c 12 t)) (Rect.unit ![0, 512] ![256, 512] inb_S256x1024_S256x512_0_512))
        (View.ld (iblk m c 1 t) (Rect.unit ![2, 0, 512] ![1, 256, 512] inb_S3x256x1024_S1x256x512_2_0_512)))
      (k0_pay38 (iblk m c 7 t) (View.ld (iblk m c 8 t) (Rect.unit ![0, 2560] ![1, 512] inb_S1x3072_S1x512_0_2560))) (ix2 0 q) = dbBlk m c t (ix2 0 q) := by
  refine Eq.trans ?_ (dbBlk_ix m c t 0 q).symm
  pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42]
  split_ifs
  all_goals
    (refine Finset.sum_congr rfl fun k _ => ?_
     simp only [dm_iblk, y_iblk, b_iblk, z2_iblk, z3_iblk, z4_iblk, z5_iblk, z6_iblk, z7_iblk]
     refine dgate_pt _ _ _ _ _ _ _ _ _ _ _ ?_ ?_ ?_ <;> first | (simp; done) | (simp at * <;> omega))

theorem part_db' (c : Dev nD) (t : Fin cfg0.N) (y : S1x3072.Idx) : k0_pay41
      (k0_pay12 (iblk m c 2 t) (View.ld (iblk m c 8 t) (Rect.unit ![0, 0] ![1, 512] inb_S1x3072_S1x512_0_0))
        (View.ld (dmBlk (iblk m c 0 t) (iblk m c 12 t)) (Rect.unit ![0, 0] ![256, 512] inb_S256x1024_S256x512_0_0))
        (View.ld (iblk m c 1 t) (Rect.unit ![0, 0, 0] ![1, 256, 512] inb_S3x256x1024_S1x256x512_0_0_0)))
      (k0_pay18
        (k0_pay13 (iblk m c 3 t) (View.ld (iblk m c 8 t) (Rect.unit ![0, 512] ![1, 512] inb_S1x3072_S1x512_0_512)))
        (View.ld (dmBlk (iblk m c 0 t) (iblk m c 12 t)) (Rect.unit ![0, 512] ![256, 512] inb_S256x1024_S256x512_0_512))
        (View.ld (iblk m c 1 t) (Rect.unit ![0, 0, 512] ![1, 256, 512] inb_S3x256x1024_S1x256x512_0_0_512)))
      (k0_pay23
        (k0_pay21 (iblk m c 4 t) (View.ld (iblk m c 8 t) (Rect.unit ![0, 1024] ![1, 512] inb_S1x3072_S1x512_0_1024))
          (View.ld (dmBlk (iblk m c 0 t) (iblk m c 12 t)) (Rect.unit ![0, 0] ![256, 512] inb_S256x1024_S256x512_0_0))
          (View.ld (iblk m c 1 t) (Rect.unit ![1, 0, 0] ![1, 256, 512] inb_S3x256x1024_S1x256x512_1_0_0))))
      (k0_pay28 (iblk m c 5 t) (View.ld (iblk m c 8 t) (Rect.unit ![0, 1536] ![1, 512] inb_S1x3072_S1x512_0_1536))
        (View.ld (dmBlk (iblk m c 0 t) (iblk m c 12 t)) (Rect.unit ![0, 512] ![256, 512] inb_S256x1024_S256x512_0_512))
        (View.ld (iblk m c 1 t) (Rect.unit ![1, 0, 512] ![1, 256, 512] inb_S3x256x1024_S1x256x512_1_0_512)))
      (k0_pay34
        (k0_pay29 (iblk m c 6 t) (View.ld (iblk m c 8 t) (Rect.unit ![0, 2048] ![1, 512] inb_S1x3072_S1x512_0_2048)))
        (View.ld (dmBlk (iblk m c 0 t) (iblk m c 12 t)) (Rect.unit ![0, 0] ![256, 512] inb_S256x1024_S256x512_0_0))
        (View.ld (iblk m c 1 t) (Rect.unit ![2, 0, 0] ![1, 256, 512] inb_S3x256x1024_S1x256x512_2_0_0)))
      (k0_pay37 (iblk m c 7 t) (View.ld (iblk m c 8 t) (Rect.unit ![0, 2560] ![1, 512] inb_S1x3072_S1x512_0_2560))
        (View.ld (dmBlk (iblk m c 0 t) (iblk m c 12 t)) (Rect.unit ![0, 512] ![256, 512] inb_S256x1024_S256x512_0_512))
        (View.ld (iblk m c 1 t) (Rect.unit ![2, 0, 512] ![1, 256, 512] inb_S3x256x1024_S1x256x512_2_0_512)))
      (k0_pay38 (iblk m c 7 t) (View.ld (iblk m c 8 t) (Rect.unit ![0, 2560] ![1, 512] inb_S1x3072_S1x512_0_2560))) y = dbBlk m c t y := by
  have e : y = ix2 (n0 := 1) (n1 := 3072) 0 (y 1) := by
    rw [eq_ix2 y]; congr 1; exact Subsingleton.elim _ _
  rw [e]; exact part_db m c t (y 1)

end Cert.MixIdeal.Db

end
-- ==== Proof.Mix.Value.lean ====
/- The gated merge, going back: what the call leaves in its six result arrays. -/
module

public import proofs.«01_k».proof.Proof.Mix.Dy
public import proofs.«01_k».proof.Proof.Mix.Dz
public import proofs.«01_k».proof.Proof.Mix.Db

@[expose] public section

set_option maxRecDepth 16384

noncomputable section

open Idealize.ShloMosaic Idealize.ShloMosaic.TcCoe Idealize.SL.Sem
open Idealize.ShloMosaic.Pipeline (Dat)

namespace Cert.MixIdeal.Value

open Cert.MixIdeal Cert.MixIdeal.Gen Cert.MixIdeal.Blocks Cert.MixIdeal.Dy Cert.MixIdeal.Dz Cert.MixIdeal.Db

variable (m : (ℓ : Loc nD τ sig) → Buf (Elt Ideal) ℓ)

theorem out_dy (c : Dev nD) (t : Fin cfg0.N) : (outsAt0 m c t.val t.isLt).1 = dyBlk m c t := by
  funext y
  by_cases h0 : t.val % 32 = 0
  · have h1 : ¬ 1 ≤ t.val := by have := lt_of_lt_of_eq t.isLt N_0; omega
    rw [outsAt0_A m c t h0 h1]; frame_out
    simp only [View.readCov_eq_canon', dm_canon]
    exact congrFun (dy_canon m c t) y
  · have h1 : 1 ≤ t.val := by omega
    rw [outsAt0_B m c t h0 h1]; frame_out
    simp only [View.readCov_eq_canon', dm_canon]
    exact congrFun (dy_canon m c t) y

theorem final_dy (c : Dev nD) : (dats m 0 c).arrAt 13 (cfgs 0).N = dyG (aX m c) (aO m c) (aZ m c) (aB m c) := by
  refine (dats m 0 c).arrAt_eq_of_covers 13 _ (by decide +kernel) fun t hf y => ?_
  blk_simp
  rw [after0_13, out_dy]
  unfold dyBlk row
  refine congrArg _ ?_
  blk_point [idx t]

/-- The branch weights' shards, as the region finds them. -/
abbrev aWa (c : Dev nD) : FVec Ideal S4x512x256 .bf16 := V m c main_v2
abbrev aWb (c : Dev nD) : FVec Ideal S4x256x256 .bf16 := V m c main_v5
abbrev aWc (c : Dev nD) : FVec Ideal S4x512x256 .bf16 := V m c main_v8

theorem out_doa (c : Dev nD) (t : Fin cfg0.N) : (outsAt0 m c t.val t.isLt).2.2.2.1
    = dinBlk (dyG (aX m c) (aO m c) (aZ m c) (aB m c)) 0 (aWa m c) t := by
  funext y
  by_cases h0 : t.val % 32 = 0
  · have h1 : ¬ 1 ≤ t.val := by have := lt_of_lt_of_eq t.isLt N_0; omega
    rw [outsAt0_A m c t h0 h1]; frame_out
    simp only [View.readCov_eq_canon', dm_canon]
    erw [dy_canon]
    pointwise [k0_pay44, k0_pay43, dinBlk, dinArr, dinG, dyBlk, row, aWa]
    blk_point [iblk, V, idx t]
  · have h1 : 1 ≤ t.val := by omega
    rw [outsAt0_B m c t h0 h1]; frame_out
    simp only [View.readCov_eq_canon', dm_canon]
    erw [dy_canon]
    pointwise [k0_pay44, k0_pay43, dinBlk, dinArr, dinG, dyBlk, row, aWa]
    blk_point [iblk, V, idx t]

theorem final_doa (c : Dev nD) : (dats m 0 c).arrAt 16 (cfgs 0).N
    = dinArr (dyG (aX m c) (aO m c) (aZ m c) (aB m c)) 0 (aWa m c) := by
  refine (dats m 0 c).arrAt_eq_of_covers 16 _ (by decide +kernel) fun t hf y => ?_
  blk_simp
  rw [after0_16, out_doa]
  unfold dinBlk row
  refine congrArg _ ?_
  blk_point [idx t]

theorem out_dob (c : Dev nD) (t : Fin cfg0.N) : (outsAt0 m c t.val t.isLt).2.2.2.2.1
    = dinBlk (dyG (aX m c) (aO m c) (aZ m c) (aB m c)) 1 (aWb m c) t := by
  funext y
  by_cases h0 : t.val % 32 = 0
  · have h1 : ¬ 1 ≤ t.val := by have := lt_of_lt_of_eq t.isLt N_0; omega
    rw [outsAt0_A m c t h0 h1]; frame_out
    simp only [View.readCov_eq_canon', dm_canon]
    erw [dy_canon]
    pointwise [k0_pay47, k0_pay46, k0_pay45, dinBlk, dinArr, dinG, dyBlk, row, aWb]
    blk_point [iblk, V, idx t]
  · have h1 : 1 ≤ t.val := by omega
    rw [outsAt0_B m c t h0 h1]; frame_out
    simp only [View.readCov_eq_canon', dm_canon]
    erw [dy_canon]
    pointwise [k0_pay47, k0_pay46, k0_pay45, dinBlk, dinArr, dinG, dyBlk, row, aWb]
    blk_point [iblk, V, idx t]

theorem final_dob (c : Dev nD) : (dats m 0 c).arrAt 17 (cfgs 0).N
    = dinArr (dyG (aX m c) (aO m c) (aZ m c) (aB m c)) 1 (aWb m c) := by
  refine (dats m 0 c).arrAt_eq_of_covers 17 _ (by decide +kernel) fun t hf y => ?_
  blk_simp
  rw [after0_17, out_dob]
  unfold dinBlk row
  refine congrArg _ ?_
  blk_point [idx t]

theorem out_dpc (c : Dev nD) (t : Fin cfg0.N) : (outsAt0 m c t.val t.isLt).2.2.2.2.2
    = dinBlk (dyG (aX m c) (aO m c) (aZ m c) (aB m c)) 2 (aWc m c) t := by
  funext y
  by_cases h0 : t.val % 32 = 0
  · have h1 : ¬ 1 ≤ t.val := by have := lt_of_lt_of_eq t.isLt N_0; omega
    rw [outsAt0_A m c t h0 h1]; frame_out
    simp only [View.readCov_eq_canon', dm_canon]
    erw [dy_canon]
    pointwise [k0_pay1, k0_pay50, k0_pay49, k0_pay48, dinBlk, dinArr, dinG, dyBlk, row, aWc]
    blk_point [iblk, V, idx t]
  · have h1 : 1 ≤ t.val := by omega
    rw [outsAt0_B m c t h0 h1]; frame_out
    simp only [View.readCov_eq_canon', dm_canon]
    erw [dy_canon]
    pointwise [k0_pay1, k0_pay50, k0_pay49, k0_pay48, dinBlk, dinArr, dinG, dyBlk, row, aWc]
    blk_point [iblk, V, idx t]

theorem final_dpc (c : Dev nD) : (dats m 0 c).arrAt 18 (cfgs 0).N
    = dinArr (dyG (aX m c) (aO m c) (aZ m c) (aB m c)) 2 (aWc m c) := by
  refine (dats m 0 c).arrAt_eq_of_covers 18 _ (by decide +kernel) fun t hf y => ?_
  blk_simp
  rw [after0_18, out_dpc]
  unfold dinBlk row
  refine congrArg _ ?_
  blk_point [idx t]

theorem out_dz (c : Dev nD) (t : Fin cfg0.N) : (outsAt0 m c t.val t.isLt).2.1 = dzBlk m c t := by
  funext y
  by_cases h0 : t.val % 32 = 0
  · have h1 : ¬ 1 ≤ t.val := by have := lt_of_lt_of_eq t.isLt N_0; omega
    rw [outsAt0_A m c t h0 h1]; frame_out
    simp only [View.readCov_eq_canon', dm_canon]
    exact congrFun (dz_canon m c t) y
  · have h1 : 1 ≤ t.val := by omega
    rw [outsAt0_B m c t h0 h1]; frame_out
    simp only [View.readCov_eq_canon', dm_canon]
    exact congrFun (dz_canon m c t) y

theorem final_dz (c : Dev nD) : (dats m 0 c).arrAt 14 (cfgs 0).N = dzG (aX m c) (aO m c) (aY m c) (aZ m c) (aB m c) := by
  refine (dats m 0 c).arrAt_eq_of_covers 14 _ (by decide +kernel) fun t hf y => ?_
  blk_simp
  rw [after0_14, out_dz]
  unfold dzBlk row
  refine congrArg _ ?_
  blk_point [idx t]

theorem pay42 (a b c d e : FVec Ideal S1x512 .f32) (f g : FVec Ideal S256x512 .f32) (v : FVec Ideal S1x3072 .f32) (y : S1x3072.Idx) :
    k0_pay42 a b c d e f g v y = v y + k0_pay41 a b c d e f g y := by
  pointwise [k0_pay42]

theorem final_db (c : Dev nD) : (dats m 0 c).arrAt 15 (cfgs 0).N = dbG (aX m c) (aO m c) (aY m c) (aZ m c) (aB m c) := by
  refine (dats m 0 c).arrAt_eq_of_covers 15 _ (by decide +kernel) fun t hf y => ?_
  blk_simp
  rw [after0_15, Pipeline.eq_sum_fin_of_reset_step_apply_of_flush (fun n h => (outsAt0 m c n h).2.2.1) 32 (fun _ => 0) (dbBlk m c)
    (fun t h0 j => by
      rw [outsAt0_A m c t h0 (by have := lt_of_lt_of_eq t.isLt N_0; omega)]; frame_out
      simp only [View.readCov_eq_canon', dm_canon]
      rw [zero_add]
      exact part_db' m c t j)
    (fun t h0 j => by
      rw [outsAt0_B m c t h0 (by omega)]; frame_out
      simp only [View.readCov_eq_canon', dm_canon]
      rw [pay42]
      exact congrArg _ (part_db' m c t j))
    t ((flush0_15 t).mp hf) _, zero_add]
  unfold dbG dbBlk row
  blk_point [idx t, idx ⟨_, Pipeline.run_point_lt_of_flush t ((flush0_15 t).mp hf) _⟩]
  exact Fin.ext (by simp only []; omega)

end Cert.MixIdeal.Value

end
-- ==== Proof.Mix.Host.lean ====
/- The gated merge, going back: the operands the host lays out for the call, read at an index of the call's arguments. -/
module

public import proofs.«01_k».proof.Proof.Mix.Value

@[expose] public section

set_option maxRecDepth 16384

noncomputable section

open Idealize.ShloMosaic Idealize.ShloMosaic.TcCoe Idealize.SL.Sem

namespace Cert.MixIdeal.Host

open Cert.MixIdeal Cert.MixIdeal.Gen Cert.MixIdeal.Blocks Cert.MixIdeal.Value

variable (m : (ℓ : Loc nD τ sig) → Buf (Elt Ideal) ℓ)

/-- The call's arguments: the three branches, their weights, the output weight and the cotangent. -/
abbrev arg0 (c : Dev nD) : FVec Ideal S8192x512 .f32 := m ((c.tc : Thread nD τ).loc main_arg0)
abbrev arg1 (c : Dev nD) : FVec Ideal S8192x256 .f32 := m ((c.tc : Thread nD τ).loc main_arg1)
abbrev arg2 (c : Dev nD) : FVec Ideal S8192x512 .f32 := m ((c.tc : Thread nD τ).loc main_arg2)
abbrev arg5 (c : Dev nD) : FVec Ideal S512x1024 .f32 := m ((c.tc : Thread nD τ).loc main_arg5)
abbrev arg6 (c : Dev nD) : FVec Ideal S256x1024 .f32 := m ((c.tc : Thread nD τ).loc main_arg6)
abbrev arg7 (c : Dev nD) : FVec Ideal S512x1024 .f32 := m ((c.tc : Thread nD τ).loc main_arg7)
abbrev arg8 (c : Dev nD) : FVec Ideal S1024x1024 .f32 := m ((c.tc : Thread nD τ).loc main_arg8)
abbrev arg9 (c : Dev nD) : FVec Ideal S8192x1024 .f32 := m ((c.tc : Thread nD τ).loc main_arg9)

/-- The output weight's shard `s`, row `k`, is row `256 s + k` of the weight. -/
theorem aO_apply (c : Dev nD) (s : Fin 4) (k : Fin 256) (d : Fin 1024) :
    V m c main_v10 (ix3 s k d) = arg8 m c (ix2 ⟨s * 256 + k, by omega⟩ d) := by
  entry_read; pointwise

/-- The gradient of the merged rows, over the call's own arguments. -/
theorem dm_eq (c : Dev nD) (r : Fin 8192) (d : Fin 1024) :
    dm (aX m c) (aO m c) r d = ∑ k : Fin 1024, arg9 m c (ix2 r k) * arg8 m c (ix2 d k) := by
  unfold dm
  refine Finset.sum_congr rfl fun k _ => ?_
  rw [show aO m c _ = _ from aO_apply m c _ _ k]
  blk_point []

/-- Shard `s` of a branch weight is its columns from `256 s`. -/
theorem aWa_apply (c : Dev nD) (s : Fin 4) (a : Fin 512) (k : Fin 256) :
    V m c main_v2 (ix3 s a k) = arg5 m c (ix2 a ⟨s * 256 + k, by omega⟩) := by
  entry_read; pointwise

theorem aWb_apply (c : Dev nD) (s : Fin 4) (a : Fin 256) (k : Fin 256) :
    V m c main_v5 (ix3 s a k) = arg6 m c (ix2 a ⟨s * 256 + k, by omega⟩) := by
  entry_read; pointwise

theorem aWc_apply (c : Dev nD) (s : Fin 4) (a : Fin 512) (k : Fin 256) :
    V m c main_v8 (ix3 s a k) = arg7 m c (ix2 a ⟨s * 256 + k, by omega⟩) := by
  entry_read; pointwise

/-- The three branch outputs, stacked. -/
theorem aY_eq (c : Dev nD) : V m c main_v18 = truncf (F := Ideal) .bf16 (concatenate S3x8192x1024 0
    [⟨S1x8192x1024, broadcastInDim S1x8192x1024 ![1, 2] bcast_S8192x1024_S1x8192x1024_1_2
        (Host.dotGeneral dot_S8192x512_S512x1024_S8192x1024_1_0_0_1_n_n none (arg0 m c) (arg5 m c))⟩,
      ⟨S1x8192x1024, broadcastInDim S1x8192x1024 ![1, 2] bcast_S8192x1024_S1x8192x1024_1_2
        (Host.dotGeneral dot_S8192x256_S256x1024_S8192x1024_1_0_0_1_n_n none (arg1 m c) (arg6 m c))⟩,
      ⟨S1x8192x1024, broadcastInDim S1x8192x1024 ![1, 2] bcast_S8192x1024_S1x8192x1024_1_2
        (Host.dotGeneral dot_S8192x512_S512x1024_S8192x1024_1_0_0_1_n_n none (arg2 m c) (arg7 m c))⟩]
    concatenates_S1x8192x1024_S1x8192x1024_S1x8192x1024_S3x8192x1024_d0) bitsLt_bf16_f32 := by
  sl_kernel_rfl

theorem aY_0 (c : Dev nD) (r : Fin 8192) (d : Fin 1024) :
    aY m c (ix3 0 r d) = ∑ k : Fin 512, arg0 m c (ix2 r k) * arg5 m c (ix2 k d) := by
  unfold aY; rw [aY_eq]; pointwise

theorem aY_1 (c : Dev nD) (r : Fin 8192) (d : Fin 1024) :
    aY m c (ix3 1 r d) = ∑ k : Fin 256, arg1 m c (ix2 r k) * arg6 m c (ix2 k d) := by
  unfold aY; rw [aY_eq]; pointwise

theorem aY_2 (c : Dev nD) (r : Fin 8192) (d : Fin 1024) :
    aY m c (ix3 2 r d) = ∑ k : Fin 512, arg2 m c (ix2 r k) * arg7 m c (ix2 k d) := by
  unfold aY; rw [aY_eq]; pointwise

end Cert.MixIdeal.Host

end
-- ==== Proof.Mix.Plain.lean ====
/- The plain merge's derivative: its pieces named, and each read at an index. -/
module

public import proofs.«01_k».proof.Proof.Mix.Blocks
public import proofs.«01_k».proof.Proof.Gen.MixRefIdeal.Run

@[expose] public section

set_option maxRecDepth 16384

noncomputable section

open Idealize.ShloMosaic Idealize.ShloMosaic.TcCoe Idealize.SL.Sem

namespace Cert.MixRefIdeal.Plain

open Cert.MixRefIdeal Cert.MixRefIdeal.Gen
open Cert.MixIdeal.Blocks (gate)

/-- The gates, `1 / (1 + exp (-(z + b)))`. -/
def gates (Z : FVec Ideal S8192x6656 .f32) (B : FVec Ideal S1x3072 .f32) : FVec Ideal S8192x3072 .f32 :=
  Host.divf (broadcastInDim S8192x3072 ![] bcast_S_S8192x3072 (constant S_ .f32 0x3F800000#32))
    (addf (broadcastInDim S8192x3072 ![] bcast_S_S8192x3072 (constant S_ .f32 0x3F800000#32))
      (Host.exp (Host.negf (addf (extractStridedSlice S8192x3072 ![0, 3584] Z slices_S8192x6656_S8192x3072_0_3584)
        (broadcastInDim S8192x3072 ![0, 1] bcast_S1x3072_S8192x3072_0_1 B)))))

theorem gates_apply (Z : FVec Ideal S8192x6656 .f32) (B : FVec Ideal S1x3072 .f32) (r : Fin 8192) (q : Fin 3072) :
    gates Z B (ix2 r q) = gate Z B r q := by
  pointwise [gates, gate, Ideal.logistic]

/-- Branch `b`'s gates. -/
def gates0 (G : FVec Ideal S8192x3072 .f32) : FVec Ideal S8192x1024 .f32 :=
  shapeCast S8192x1024 (extractStridedSlice S8192x1x1024 ![0, 0, 0] (shapeCast S8192x3x1024 G shapeCasts_S8192x3072_S8192x3x1024)
    slices_S8192x3x1024_S8192x1x1024_0_0_0) shapeCasts_S8192x1x1024_S8192x1024

def gates1 (G : FVec Ideal S8192x3072 .f32) : FVec Ideal S8192x1024 .f32 :=
  shapeCast S8192x1024 (extractStridedSlice S8192x1x1024 ![0, 1, 0] (shapeCast S8192x3x1024 G shapeCasts_S8192x3072_S8192x3x1024)
    slices_S8192x3x1024_S8192x1x1024_0_1_0) shapeCasts_S8192x1x1024_S8192x1024

def gates2 (G : FVec Ideal S8192x3072 .f32) : FVec Ideal S8192x1024 .f32 :=
  shapeCast S8192x1024 (extractStridedSlice S8192x1x1024 ![0, 2, 0] (shapeCast S8192x3x1024 G shapeCasts_S8192x3072_S8192x3x1024)
    slices_S8192x3x1024_S8192x1x1024_0_2_0) shapeCasts_S8192x1x1024_S8192x1024

theorem gates0_apply (G : FVec Ideal S8192x3072 .f32) (r : Fin 8192) (d : Fin 1024) :
    gates0 G (ix2 r d) = G (ix2 r ⟨d, by omega⟩) := by
  pointwise [gates0]

theorem gates1_apply (G : FVec Ideal S8192x3072 .f32) (r : Fin 8192) (d : Fin 1024) :
    gates1 G (ix2 r d) = G (ix2 r ⟨1024 + d, by omega⟩) := by
  pointwise [gates1]

theorem gates2_apply (G : FVec Ideal S8192x3072 .f32) (r : Fin 8192) (d : Fin 1024) :
    gates2 G (ix2 r d) = G (ix2 r ⟨2048 + d, by omega⟩) := by
  pointwise [gates2]

/-- The gradient of the merged rows. -/
def dm (X : FVec Ideal S8192x1024 .f32) (O : FVec Ideal S1024x1024 .f32) : FVec Ideal S8192x1024 .f32 :=
  Host.dotGeneral dot_S8192x1024_S1024x1024_S8192x1024_1_1_0_0_n_n none X O

theorem dm_apply (X : FVec Ideal S8192x1024 .f32) (O : FVec Ideal S1024x1024 .f32) (r : Fin 8192) (d : Fin 1024) :
    dm X O (ix2 r d) = ∑ k : Fin 1024, X (ix2 r k) * O (ix2 d k) := by
  pointwise [dm]

/-- The branch outputs, recomputed. -/
def wide (X : FVec Ideal S8192x512 .f32) (W : FVec Ideal S512x1024 .f32) : FVec Ideal S8192x1024 .f32 :=
  Host.dotGeneral dot_S8192x512_S512x1024_S8192x1024_1_0_0_1_n_n none X W

def narrow (X : FVec Ideal S8192x256 .f32) (W : FVec Ideal S256x1024 .f32) : FVec Ideal S8192x1024 .f32 :=
  Host.dotGeneral dot_S8192x256_S256x1024_S8192x1024_1_0_0_1_n_n none X W

theorem wide_apply (X : FVec Ideal S8192x512 .f32) (W : FVec Ideal S512x1024 .f32) (r : Fin 8192) (d : Fin 1024) :
    wide X W (ix2 r d) = ∑ k : Fin 512, X (ix2 r k) * W (ix2 k d) := by
  pointwise [wide]

theorem narrow_apply (X : FVec Ideal S8192x256 .f32) (W : FVec Ideal S256x1024 .f32) (r : Fin 8192) (d : Fin 1024) :
    narrow X W (ix2 r d) = ∑ k : Fin 256, X (ix2 r k) * W (ix2 k d) := by
  pointwise [narrow]

/-- The gradients of the three branch outputs, stacked. -/
def dy (D0 D1 D2 : FVec Ideal S8192x1024 .f32) : FVec Ideal S3x8192x1024 .bf16 :=
  truncf (F := Ideal) .bf16 (concatenate S3x8192x1024 0
    [⟨S1x8192x1024, broadcastInDim S1x8192x1024 ![1, 2] bcast_S8192x1024_S1x8192x1024_1_2 D0⟩,
      ⟨S1x8192x1024, broadcastInDim S1x8192x1024 ![1, 2] bcast_S8192x1024_S1x8192x1024_1_2 D1⟩,
      ⟨S1x8192x1024, broadcastInDim S1x8192x1024 ![1, 2] bcast_S8192x1024_S1x8192x1024_1_2 D2⟩]
    concatenates_S1x8192x1024_S1x8192x1024_S1x8192x1024_S3x8192x1024_d0) bitsLt_bf16_f32

theorem dy_apply (D0 D1 D2 : FVec Ideal S8192x1024 .f32) (b : Fin 3) (r : Fin 8192) (d : Fin 1024) :
    dy D0 D1 D2 (ix3 b r d) = if (b : ℕ) < 1 then D0 (ix2 r d) else if (b : ℕ) < 2 then D1 (ix2 r d) else D2 (ix2 r d) := by
  fin_cases b <;> pointwise [dy]

/-- The gradient of the gates' logits: the three branches' products side by side, times `g (1 - g)`. -/
def dlogit (E0 E1 E2 : FVec Ideal S8192x1024 .f32) (G : FVec Ideal S8192x3072 .f32) : FVec Ideal S8192x3072 .f32 :=
  mulf (shapeCast S8192x3072 (addf (addf
      (pad S8192x3x1024 ![0, 2, 0] ![0, 0, 0] ![0, 0, 0] (broadcastInDim S8192x1x1024 ![0, 2] bcast_S8192x1024_S8192x1x1024_0_2 E2)
        (constant S_ .f32 0x00000000#32) pads_S8192x1x1024_S8192x3x1024_000_200_000 h_S_)
      (pad S8192x3x1024 ![0, 1, 0] ![0, 1, 0] ![0, 0, 0] (broadcastInDim S8192x1x1024 ![0, 2] bcast_S8192x1024_S8192x1x1024_0_2 E1)
        (constant S_ .f32 0x00000000#32) pads_S8192x1x1024_S8192x3x1024_000_110_000 h_S_))
      (pad S8192x3x1024 ![0, 0, 0] ![0, 2, 0] ![0, 0, 0] (broadcastInDim S8192x1x1024 ![0, 2] bcast_S8192x1024_S8192x1x1024_0_2 E0)
        (constant S_ .f32 0x00000000#32) pads_S8192x1x1024_S8192x3x1024_000_020_000 h_S_)) shapeCasts_S8192x3x1024_S8192x3072)
    (mulf G (subf (broadcastInDim S8192x3072 ![] bcast_S_S8192x3072 (constant S_ .f32 0x3F800000#32)) G))

/-- Of three padded summands one is not the padding. -/
theorem pick {b k : ℕ} (hb : b < 3) (hk : k < 1024) (x0 x1 x2 : Ideal .f32) :
    ((if h : (2 ≤ b ∧ b - 2 < 1) ∧ k < 1024 then x2 else 0) + (if h : (1 ≤ b ∧ b - 1 < 1) ∧ k < 1024 then x1 else 0))
      + (if h : b < 1 ∧ k < 1024 then x0 else 0) = if b < 1 then x0 else if b < 2 then x1 else x2 := by
  by_cases h0 : b < 1
  · rw [dif_neg (by omega), dif_neg (by omega), dif_pos ⟨h0, hk⟩, if_pos h0, zero_add, zero_add]
  · by_cases h1 : b < 2
    · rw [dif_neg (by omega), dif_pos (by omega), dif_neg (by omega), if_neg h0, if_pos h1, zero_add, add_zero]
    · rw [dif_pos (by omega), dif_neg (by omega), dif_neg (by omega), if_neg h0, if_neg h1, add_zero, add_zero]

theorem dlogit_apply (E0 E1 E2 : FVec Ideal S8192x1024 .f32) (G : FVec Ideal S8192x3072 .f32) (r : Fin 8192) (q : Fin 3072) :
    dlogit E0 E1 E2 G (ix2 r q) = (if (q : ℕ) / 1024 < 1 then E0 (ix2 r ⟨(q : ℕ) % 1024, by omega⟩)
      else if (q : ℕ) / 1024 < 2 then E1 (ix2 r ⟨(q : ℕ) % 1024, by omega⟩) else E2 (ix2 r ⟨(q : ℕ) % 1024, by omega⟩))
        * (G (ix2 r q) * (1 - G (ix2 r q))) := by
  pointwise [dlogit]
  have hq : (q : ℕ) / 1024 < 3 := by have := q.isLt; omega
  exact congrArg₂ HMul.hMul (pick (k := (q : ℕ) % 1024) hq (Nat.mod_lt _ (by norm_num)) (E0 (ix2 r ⟨(q : ℕ) % 1024, by omega⟩))
    (E1 (ix2 r ⟨(q : ℕ) % 1024, by omega⟩)) (E2 (ix2 r ⟨(q : ℕ) % 1024, by omega⟩))) rfl

/-- The gradient of the projected rows, of the gate's bias, and of a branch's input. -/
def dz (D : FVec Ideal S8192x3072 .f32) : FVec Ideal S8192x6656 .bf16 :=
  truncf (F := Ideal) .bf16 (pad S8192x6656 ![0, 3584] ![0, 0] ![0, 0] D (constant S_ .f32 0x00000000#32)
    pads_S8192x3072_S8192x6656_000_358400 h_S_) bitsLt_bf16_f32

theorem dz_apply (D : FVec Ideal S8192x3072 .f32) (r : Fin 8192) (q : Fin 6656) :
    dz D (ix2 r q) = if h : (q : ℕ) < 3584 then 0 else D (ix2 r ⟨(q : ℕ) - 3584, by omega⟩) := by
  pointwise [dz]
  by_cases h : (q : ℕ) < 3584
  · rw [dif_pos h, dif_neg (by omega)]
  · rw [dif_neg h, dif_pos (by omega)]

def db (D : FVec Ideal S8192x3072 .f32) : FVec Ideal S1x3072 .f32 :=
  shapeCast S1x3072 (Host.reduceAdd D (constant S_ .f32 0x00000000#32) reducesTo_S8192x3072_S3072_d0 h_S_) shapeCasts_S3072_S1x3072

theorem db_apply (D : FVec Ideal S8192x3072 .f32) (q : Fin 3072) : db D (ix2 0 q) = ∑ r : Fin 8192, D (ix2 r q) := by
  pointwise [db]

def dwide (D : FVec Ideal S8192x1024 .f32) (W : FVec Ideal S512x1024 .f32) : FVec Ideal S8192x512 .f32 :=
  Host.dotGeneral dot_S8192x1024_S512x1024_S8192x512_1_1_0_0_n_n none D W

def dnarrow (D : FVec Ideal S8192x1024 .f32) (W : FVec Ideal S256x1024 .f32) : FVec Ideal S8192x256 .f32 :=
  Host.dotGeneral dot_S8192x1024_S256x1024_S8192x256_1_1_0_0_n_n none D W

theorem dwide_apply (D : FVec Ideal S8192x1024 .f32) (W : FVec Ideal S512x1024 .f32) (r : Fin 8192) (a : Fin 512) :
    dwide D W (ix2 r a) = ∑ k : Fin 1024, D (ix2 r k) * W (ix2 a k) := by
  pointwise [dwide]

theorem dnarrow_apply (D : FVec Ideal S8192x1024 .f32) (W : FVec Ideal S256x1024 .f32) (r : Fin 8192) (a : Fin 256) :
    dnarrow D W (ix2 r a) = ∑ k : Fin 1024, D (ix2 r k) * W (ix2 a k) := by
  pointwise [dnarrow]

end Cert.MixRefIdeal.Plain

end
-- ==== Proof.Mix.Ref.lean ====
/- The gated merge, going back: the call and the derivative of the plain merge leave the same six arrays. -/
module

public import proofs.«01_k».proof.Defs
public import proofs.«01_k».proof.Proof.Mix.Host
public import proofs.«01_k».proof.Proof.Mix.Plain
public import proofs.«01_k».proof.Proof.Gen.MixIdeal.Value
public import Idealize.ShloMosaic.Lib.Claim
public import Idealize.ShloMosaic.Lib.Quiescent

@[expose] public section

set_option maxRecDepth 16384

noncomputable section

namespace Cert.Mix

open Idealize.ShloMosaic Idealize.ShloMosaic.TcCoe Idealize.SL.Sem
open Cert.MixIdeal.Value Cert.MixIdeal.Host Cert.MixIdeal.Blocks Cert.MixRefIdeal.Plain

section Results

variable (m : (ℓ : Loc Cert.MixIdeal.nD Cert.MixIdeal.τ Cert.MixIdeal.sig) → Buf (Elt Ideal) ℓ) (c : Dev Cert.MixIdeal.nD)

/-- The gate's two arguments. -/
abbrev arg3 : FVec Ideal Cert.MixIdeal.S8192x6656 .f32 := m ((c.tc : Thread Cert.MixIdeal.nD Cert.MixIdeal.τ).loc Cert.MixIdeal.main_arg3)
abbrev arg4 : FVec Ideal Cert.MixIdeal.S1x3072 .f32 := m ((c.tc : Thread Cert.MixIdeal.nD Cert.MixIdeal.τ).loc Cert.MixIdeal.main_arg4)

/-- The plain derivative's pieces over the call's arguments. -/
def G : FVec Ideal Cert.MixRefIdeal.S8192x3072 .f32 := gates (arg3 m c) (arg4 m c)
def D : FVec Ideal Cert.MixIdeal.S8192x1024 .f32 := Cert.MixRefIdeal.Plain.dm (arg9 m c) (arg8 m c)
def D0 : FVec Ideal Cert.MixIdeal.S8192x1024 .f32 := mulf (gates0 (G m c)) (D m c)
def D1 : FVec Ideal Cert.MixIdeal.S8192x1024 .f32 := mulf (gates1 (G m c)) (D m c)
def D2 : FVec Ideal Cert.MixIdeal.S8192x1024 .f32 := mulf (gates2 (G m c)) (D m c)
def L : FVec Ideal Cert.MixRefIdeal.S8192x3072 .f32 := dlogit (mulf (D m c) (wide (arg0 m c) (arg5 m c)))
  (mulf (D m c) (narrow (arg1 m c) (arg6 m c))) (mulf (D m c) (wide (arg2 m c) (arg7 m c))) (G m c)

theorem G_apply (r : Fin 8192) (q : Fin 3072) : G m c (ix2 r q) = gate (aZ m c) (aB m c) r q := gates_apply _ _ r q

theorem D_apply (r : Fin 8192) (d : Fin 1024) : D m c (ix2 r d) = dm (aX m c) (aO m c) r d := by
  rw [dm_eq]; exact dm_apply _ _ r d

theorem D0_apply (r : Fin 8192) (d : Fin 1024) :
    D0 m c (ix2 r d) = dyG (aX m c) (aO m c) (aZ m c) (aB m c) (ix3 0 r d) := by
  unfold D0
  pointwise [dyG, gates0_apply, G_apply, D_apply]
  rw [mul_comm]

theorem D1_apply (r : Fin 8192) (d : Fin 1024) :
    D1 m c (ix2 r d) = dyG (aX m c) (aO m c) (aZ m c) (aB m c) (ix3 1 r d) := by
  unfold D1
  pointwise [dyG, gates1_apply, G_apply, D_apply]
  rw [mul_comm]

theorem D2_apply (r : Fin 8192) (d : Fin 1024) :
    D2 m c (ix2 r d) = dyG (aX m c) (aO m c) (aZ m c) (aB m c) (ix3 2 r d) := by
  unfold D2
  pointwise [dyG, gates2_apply, G_apply, D_apply]
  rw [mul_comm]

theorem L_apply (r : Fin 8192) (q : Fin 3072) :
    L m c (ix2 r q) = dgate (aX m c) (aO m c) (aY m c) (aZ m c) (aB m c) r q := by
  unfold L
  rw [dlogit_apply]
  unfold dgate
  rw [G_apply, mul_assoc]
  refine congrArg₂ HMul.hMul ?_ rfl
  have hq : (q : ℕ) / 1024 < 3 := by omega
  generalize hd : (⟨(q : ℕ) % 1024, by omega⟩ : Fin 1024) = d
  generalize hb : (⟨(q : ℕ) / 1024, by omega⟩ : Fin 3) = b
  have e : (q : ℕ) / 1024 = (b : ℕ) := congrArg Fin.val hb
  rw [e]
  fin_cases b
  · pointwise [D_apply, wide_apply, show aY m c _ = _ from aY_0 m c r d]
  · pointwise [D_apply, narrow_apply, show aY m c _ = _ from aY_1 m c r d]
  · pointwise [D_apply, wide_apply, show aY m c _ = _ from aY_2 m c r d]

theorem dy_eq : dy (D0 m c) (D1 m c) (D2 m c) = dyG (aX m c) (aO m c) (aZ m c) (aB m c) := by
  funext y
  obtain ⟨b, r, d, rfl⟩ : ∃ (b : Fin 3) (r : Fin 8192) (d : Fin 1024), y = ix3 b r d := ⟨y 0, y 1, y 2, eq_ix3 y⟩
  rw [dy_apply, D0_apply, D1_apply, D2_apply]
  fin_cases b <;> rfl

theorem dz_eq : dz (L m c) = dzG (aX m c) (aO m c) (aY m c) (aZ m c) (aB m c) := by
  funext y
  obtain ⟨r, q, rfl⟩ : ∃ (r : Fin 8192) (q : Fin 6656), y = ix2 r q := ⟨y 0, y 1, eq_ix2 y⟩
  rw [dz_apply]
  simp only [L_apply]
  rfl

theorem db_eq : db (L m c) = dbG (aX m c) (aO m c) (aY m c) (aZ m c) (aB m c) := by
  funext y
  obtain ⟨r, q, rfl⟩ : ∃ (r : Fin 1) (q : Fin 3072), y = ix2 r q := ⟨y 0, y 1, eq_ix2 y⟩
  rw [Subsingleton.elim r 0, db_apply]
  simp only [L_apply]
  rw [Fin.sum_univ_tiles 32 256 rfl]
  rfl

/-- A product over 1024 columns, cut into the four shards of 256. -/
theorem shards {n : ℕ} (dy : FVec Ideal Cert.MixIdeal.S3x8192x1024 .bf16) (b : Fin 3) (W : FVec Ideal ⟨3, ![4, n, 256]⟩ .bf16)
    (D : FVec Ideal Cert.MixIdeal.S8192x1024 .f32) (V : FVec Ideal ⟨2, ![n, 1024]⟩ .f32)
    (hD : ∀ (r : Fin 8192) (d : Fin 1024), D (ix2 r d) = dy (ix3 b r d))
    (hV : ∀ (s : Fin 4) (a : Fin n) (k : Fin 256), W (ix3 s a k) = V (ix2 a ⟨s * 256 + k, by omega⟩)) (r : Fin 8192) (a : Fin n) :
    ∑ k : Fin 1024, D (ix2 r k) * V (ix2 a k) = dinG dy b W r a := by
  unfold dinG
  rw [Fin.sum_univ_tiles 4 256 rfl, Fin.sum_univ_four]
  simp only [hD, hV]
  blk_point []

theorem doa_eq : dwide (D0 m c) (arg5 m c) = dinArr (dyG (aX m c) (aO m c) (aZ m c) (aB m c)) 0 (aWa m c) := by
  funext y
  obtain ⟨r, a, rfl⟩ : ∃ (r : Fin 8192) (a : Fin 512), y = ix2 r a := ⟨y 0, y 1, eq_ix2 y⟩
  rw [dwide_apply]
  exact shards _ 0 (aWa m c) (D0 m c) (arg5 m c) (D0_apply m c) (aWa_apply m c) _ _

theorem dob_eq : dnarrow (D1 m c) (arg6 m c) = dinArr (dyG (aX m c) (aO m c) (aZ m c) (aB m c)) 1 (aWb m c) := by
  funext y
  obtain ⟨r, a, rfl⟩ : ∃ (r : Fin 8192) (a : Fin 256), y = ix2 r a := ⟨y 0, y 1, eq_ix2 y⟩
  rw [dnarrow_apply]
  exact shards _ 1 (aWb m c) (D1 m c) (arg6 m c) (D1_apply m c) (aWb_apply m c) _ _

theorem dpc_eq : dwide (D2 m c) (arg7 m c) = dinArr (dyG (aX m c) (aO m c) (aZ m c) (aB m c)) 2 (aWc m c) := by
  funext y
  obtain ⟨r, a, rfl⟩ : ∃ (r : Fin 8192) (a : Fin 512), y = ix2 r a := ⟨y 0, y 1, eq_ix2 y⟩
  rw [dwide_apply]
  exact shards _ 2 (aWc m c) (D2 m c) (arg7 m c) (D2_apply m c) (aWc_apply m c) _ _

end Results

/-- The reference launches no kernel: it runs to its end with its arguments unchanged and every counter at zero. -/
theorem frame_ref : Cert.quiescent_MixRefIdeal (hMixRefIdeal := Cert.MixRefIdeal.Gen.facts) := by
  intro m g _
  refine (θ_run _ _ _).mono (fun r h => ?_) (Cert.MixRefIdeal.Value.run m g)
  exact ⟨fun c => (h c).2.2.2.2.2.2, sem_eq_zero_of_no_sems (sig := Cert.MixRefIdeal.sig) (by decide) _⟩

/-- From memories that agree on the arguments, both programs end with the same six arrays. -/
theorem algebraic : Cert.algebraic_MixIdeal_MixRefIdeal (hMixIdeal := Cert.MixIdeal.Gen.facts) (hMixRefIdeal := Cert.MixRefIdeal.Gen.facts) := by
  pair_intro
  · run_from Cert.MixIdeal.Value.run_blocks m g
  · run_from Cert.MixRefIdeal.Value.run m' g'
    · rw [final_dy, ← dy_eq m c]
      obtain ⟨h0, h1, h2, h3, h4, h5, h6, h7, h8, h9⟩ := hagree c
      clear hagree
      rw [h3, h4, h8, h9]; rfl
    · rw [final_dz, ← dz_eq m c]; rfl
    · rw [final_db, ← db_eq m c]; rfl
    · rw [final_doa, ← doa_eq m c]; rfl
    · rw [final_dob, ← dob_eq m c]; rfl
    · rw [final_dpc, ← dpc_eq m c]; rfl

end Cert.Mix

end
-- ==== Proof.PoolA.Blocks.lean ====
/- The pool's channel mixing, going back: what one row block holds, as functions of the arrays the call is given. -/
module

public import proofs.«01_k».proof.Proof.Gen.PoolAIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.PoolAIdeal.Blocks

open Cert.PoolAIdeal Cert.PoolAIdeal.Gen

variable (m : (ℓ : Loc nD τ sig) → Buf (Elt Ideal) ℓ)

/-- The windows' block indices: rows of 256, the mixing and the scale whole. -/
theorem idx : ∀ t : Fin cfg0.N, win0_0.index t = ![t.val, 0] ∧ win0_1.index t = ![t.val, 0] ∧ win0_2.index t = ![0, 0, 0]
    ∧ win0_3.index t = ![0, 0] ∧ win0_4.index t = ![t.val, 0] ∧ win0_5.index t = ![0, 0, 0] ∧ win0_6.index t = ![0, 0]
    ∧ (grid0.coords t 0).val = t.val := (by decide +kernel : ∀ t : Fin grid0.N, _)

/-- The arguments the body's blocks are cut from, as the region finds them. -/
abbrev aX (c : Dev nD) : FVec Ideal S8192x512 .f32 := V m c main_arg3
abbrev aP (c : Dev nD) : FVec Ideal S8192x512 .bf16 := V m c main_v207
abbrev aL (c : Dev nD) : FVec Ideal S4x128x128 .f32 := V m c main_arg1
abbrev aC (c : Dev nD) : FVec Ideal S1x512 .f32 := V m c main_arg2

/-- Row `k` of block `t`. -/
def row (t : Fin cfg0.N) (k : Fin 256) : Fin 8192 := ⟨t.val * 256 + (k : ℕ), by have := lt_of_lt_of_eq t.isLt N_0; omega⟩

/-- Column `d` of channel group `g`. -/
def col (g : Fin 4) (d : Fin 128) : Fin 512 := ⟨g * 128 + d, by omega⟩

theorem col_zero (d : Fin 128) : col 0 d = ⟨d, by omega⟩ := Fin.ext (by simp [col])

/-- How many tokens a window of width `a`, reaching `b` back, holds at row `r`, counted in words. -/
def len (a b : BitVec 32) (r : BitVec 32) : Ideal .f32 :=
  FloatOps.sitofp .f32 (IntOp.subi (IntOp.minsi 8192#32 (IntOp.maxsi 0#32 (IntOp.subi (IntOp.addi r a) b)))
    (IntOp.minsi 8192#32 (IntOp.maxsi 0#32 (IntOp.subi r b))))

def lenG (g : Fin 4) (r : Fin 8192) : Ideal .f32 :=
  len (![2#32, 4#32, 8#32, 16#32] g) (![1#32, 2#32, 4#32, 8#32] g) (BitVec.ofNat 32 r)

theorem word (t k : ℕ) : IntOp.addi (Scalar.muli (BitVec.ofNat 32 t) 256#32) (BitVec.ofNat 32 k) = BitVec.ofNat 32 (t * 256 + k) := by
  simp [Scalar.muli, IntOp.muli, IntOp.addi, BitVec.ofNat_add, BitVec.ofNat_mul]

theorem lenG_row (t : Fin cfg0.N) (k : Fin 256) (g : Fin 4) : lenG g (row t k)
    = len (![2#32, 4#32, 8#32, 16#32] g) (![1#32, 2#32, 4#32, 8#32] g)
        (IntOp.addi (Scalar.muli (BitVec.ofNat 32 t) 256#32) (BitVec.ofNat 32 k)) := by
  rw [word]; rfl

/-- The gradient of the window sums: the cotangent's scaled rows against the mixing, divided by the window's length. -/
def dsAt (X : FVec Ideal S8192x512 .f32) (L : FVec Ideal S4x128x128 .f32) (C : FVec Ideal S1x512 .f32) (r : Fin 8192) (g : Fin 4) (d : Fin 128) :
    Ideal .f32 :=
  Ideal.div (∑ e : Fin 128, X (ix2 r (col g e)) * C (ix2 0 (col g e)) * L (ix3 g d e)) (lenG g r)

def dsG (X : FVec Ideal S8192x512 .f32) (L : FVec Ideal S4x128x128 .f32) (C : FVec Ideal S1x512 .f32) : FVec Ideal S8192x512 .f32 := fun y =>
  dsAt X L C (y 0) ⟨(y 1 : ℕ) / 128, by have h : (y 1 : ℕ) < 512 := (y 1).isLt; omega⟩ ⟨(y 1 : ℕ) % 128, by omega⟩

/-- What row `r` adds to the gradient of the mixing, and of the scale. -/
def dlinAt (X : FVec Ideal S8192x512 .f32) (P : FVec Ideal S8192x512 .bf16) (C : FVec Ideal S1x512 .f32) (r : Fin 8192) (g : Fin 4)
    (d e : Fin 128) : Ideal .f32 := P (ix2 r (col g d)) * (X (ix2 r (col g e)) * C (ix2 0 (col g e)))

def dscAt (X : FVec Ideal S8192x512 .f32) (P : FVec Ideal S8192x512 .bf16) (L : FVec Ideal S4x128x128 .f32) (r : Fin 8192) (g : Fin 4)
    (e : Fin 128) : Ideal .f32 := X (ix2 r (col g e)) * ∑ d : Fin 128, P (ix2 r (col g d)) * L (ix3 g d e)

theorem x_iblk (c : Dev nD) (t : Fin cfg0.N) (k : Fin 256) (d : Fin 512) : iblk m c 0 t (ix2 k d) = aX m c (ix2 (row t k) d) := by
  unfold row; blk_point [iblk, V, idx t]

theorem p_iblk (c : Dev nD) (t : Fin cfg0.N) (k : Fin 256) (d : Fin 512) : iblk m c 1 t (ix2 k d) = aP m c (ix2 (row t k) d) := by
  unfold row; blk_point [iblk, V, idx t]

theorem l_iblk (c : Dev nD) (t : Fin cfg0.N) (g : Fin 4) (d e : Fin 128) : iblk m c 2 t (ix3 g d e) = aL m c (ix3 g d e) := by
  blk_point [iblk, V, idx t]

theorem c_iblk (c : Dev nD) (t : Fin cfg0.N) (d : Fin 512) : iblk m c 3 t (ix2 0 d) = aC m c (ix2 0 d) := by
  blk_point [iblk, V, idx t]

/-- One block of the window sums' gradient. -/
def dsBlk (c : Dev nD) (t : Fin cfg0.N) : Vec Ideal S256x512 .f32 := fun y => dsG (aX m c) (aL m c) (aC m c) (ix2 (row t (y 0)) (y 1))

/-- What a point adds to the other two. -/
def dlinBlk (c : Dev nD) (t : Fin cfg0.N) : Vec Ideal S4x128x128 .f32 := fun y =>
  ∑ k : Fin 256, dlinAt (aX m c) (aP m c) (aC m c) (row t k) (y 0) (y 1) (y 2)

def dscBlk (c : Dev nD) (t : Fin cfg0.N) : Vec Ideal S1x512 .f32 := fun y =>
  ∑ k : Fin 256, dscAt (aX m c) (aP m c) (aL m c) (row t k) ⟨(y 1 : ℕ) / 128, by have h : (y 1 : ℕ) < 512 := (y 1).isLt; omega⟩
    ⟨(y 1 : ℕ) % 128, by omega⟩

theorem dsBlk_at (c : Dev nD) (t : Fin cfg0.N) (k : Fin 256) (g : Fin 4) (d : Fin 128) (q : Fin 512) (hq : (q : ℕ) = g * 128 + d) :
    dsBlk m c t (ix2 k q) = Ideal.div (∑ e : Fin 128, aX m c (ix2 (row t k) (col g e)) * aC m c (ix2 0 (col g e)) * aL m c (ix3 g d e))
      (len (![2#32, 4#32, 8#32, 16#32] g) (![1#32, 2#32, 4#32, 8#32] g)
        (IntOp.addi (Scalar.muli (BitVec.ofNat 32 t) 256#32) (BitVec.ofNat 32 k))) := by
  have e1 : (⟨(q : ℕ) / 128, by omega⟩ : Fin 4) = g := Fin.ext (by simp only []; omega)
  have e2 : (⟨(q : ℕ) % 128, by omega⟩ : Fin 128) = d := Fin.ext (by simp only []; omega)
  rw [← lenG_row, show dsBlk m c t (ix2 k q) = dsAt (aX m c) (aL m c) (aC m c) (row t k) ⟨(q : ℕ) / 128, by omega⟩ ⟨(q : ℕ) % 128, by omega⟩ from rfl,
    e1, e2]
  rfl

theorem ds_canon (c : Dev nD) (t : Fin cfg0.N) : View.canon (Val := Elt Ideal) (e := .f32)
      [⟨Rect.unit ![0, 384] ![256, 128] inb_S256x512_S256x128_0_384,
          k0_pay37 (BitVec.ofNat 32 ↑(grid0.coords t 0))
            (k0_pay33 (View.ld (iblk m c 2 t) (Rect.unit ![3, 0, 0] ![1, 128, 128] inb_S4x128x128_S1x128x128_3_0_0)))
            (View.ld (iblk m c 0 t) (Rect.unit ![0, 384] ![256, 128] inb_S256x512_S256x128_0_384))
            (View.ld (iblk m c 3 t) (Rect.unit ![0, 384] ![1, 128] inb_S1x512_S1x128_0_384))⟩,
        ⟨Rect.unit ![0, 256] ![256, 128] inb_S256x512_S256x128_0_256,
          k0_pay28
            (k0_pay27 (View.ld (iblk m c 2 t) (Rect.unit ![2, 0, 0] ![1, 128, 128] inb_S4x128x128_S1x128x128_2_0_0))
              (View.ld (iblk m c 0 t) (Rect.unit ![0, 256] ![256, 128] inb_S256x512_S256x128_0_256))
              (View.ld (iblk m c 3 t) (Rect.unit ![0, 256] ![1, 128] inb_S1x512_S1x128_0_256)))
            (Scalar.muli (BitVec.ofNat 32 ↑(grid0.coords t 0)) 256#32)⟩,
        ⟨Rect.unit ![0, 128] ![256, 128] inb_S256x512_S256x128_0_128,
          k0_pay19
            (k0_pay16 (View.ld (iblk m c 2 t) (Rect.unit ![1, 0, 0] ![1, 128, 128] inb_S4x128x128_S1x128x128_1_0_0))
              (View.ld (iblk m c 0 t) (Rect.unit ![0, 128] ![256, 128] inb_S256x512_S256x128_0_128))
              (View.ld (iblk m c 3 t) (Rect.unit ![0, 128] ![1, 128] inb_S1x512_S1x128_0_128)))
            (k0_pay17 (BitVec.ofNat 32 ↑(grid0.coords t 0))) (k0_pay18 (BitVec.ofNat 32 ↑(grid0.coords t 0)))⟩,
        ⟨Rect.unit ![0, 0] ![256, 128] inb_S256x512_S256x128_0_0,
          k0_pay8 (grid0.coords t)
            (View.ld (iblk m c 2 t) (Rect.unit ![0, 0, 0] ![1, 128, 128] inb_S4x128x128_S1x128x128_0_0_0))
            (View.ld (iblk m c 0 t) (Rect.unit ![0, 0] ![256, 128] inb_S256x512_S256x128_0_0))
            (View.ld (iblk m c 3 t) (Rect.unit ![0, 0] ![1, 128] inb_S1x512_S1x128_0_0))⟩]
    = dsBlk m c t := by
  funext y
  canon_tiles x h
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, idx t]
  all_goals (idx_vars x; idx_vars y)
  all_goals obtain rfl : y0 = x0 := Fin.ext h0
  all_goals simp only [x_iblk, l_iblk, c_iblk]
  case piece0 => rw [dsBlk_at m c t y0 3 x1 y1 (by simp; omega)]; rfl
  case piece1 => rw [dsBlk_at m c t y0 2 x1 y1 (by simp; omega)]; rfl
  case piece2 => rw [dsBlk_at m c t y0 1 x1 y1 (by simp; omega)]; rfl
  case piece3 => rw [dsBlk_at m c t y0 0 x1 y1 (by simp; omega)]; simp only [col_zero]; rfl

/-- The mixing's gradient over one block, and the scale's, laid out as the body stores them. -/
theorem dlin_at (c : Dev nD) (t : Fin cfg0.N) (g : Fin 4) (d e : Fin 128) : dlinBlk m c t (ix3 g d e)
    = ∑ k : Fin 256, aP m c (ix2 (row t k) (col g d)) * (aX m c (ix2 (row t k) (col g e)) * aC m c (ix2 0 (col g e))) := rfl

theorem dsc_at (c : Dev nD) (t : Fin cfg0.N) (g : Fin 4) (e : Fin 128) (q : Fin 512) (hq : (q : ℕ) = g * 128 + e) : dscBlk m c t (ix2 0 q)
    = ∑ k : Fin 256, aX m c (ix2 (row t k) (col g e)) * ∑ d : Fin 128, aP m c (ix2 (row t k) (col g d)) * aL m c (ix3 g d e) := by
  have e1 : (⟨(q : ℕ) / 128, by omega⟩ : Fin 4) = g := Fin.ext (by simp only []; omega)
  have e2 : (⟨(q : ℕ) % 128, by omega⟩ : Fin 128) = e := Fin.ext (by simp only []; omega)
  rw [show dscBlk m c t (ix2 0 q) = ∑ k : Fin 256, dscAt (aX m c) (aP m c) (aL m c) (row t k) ⟨(q : ℕ) / 128, by omega⟩ ⟨(q : ℕ) % 128, by omega⟩ from rfl,
    e1, e2]
  rfl

end Cert.PoolAIdeal.Blocks

end
-- ==== Proof.PoolA.Value.lean ====
/- The pool's channel mixing, going back: what the call leaves in its three result arrays. -/
module

public import proofs.«01_k».proof.Proof.PoolA.Blocks

@[expose] public section

set_option maxRecDepth 16384

noncomputable section

open Idealize.ShloMosaic Idealize.ShloMosaic.TcCoe Idealize.SL.Sem
open Idealize.ShloMosaic.Pipeline (Dat)

namespace Cert.PoolAIdeal.Value

open Cert.PoolAIdeal Cert.PoolAIdeal.Gen Cert.PoolAIdeal.Blocks

variable (m : (ℓ : Loc nD τ sig) → Buf (Elt Ideal) ℓ)

theorem out_ds (c : Dev nD) (t : Fin cfg0.N) : (outsAt0 m c t.val t.isLt).1 = dsBlk m c t := by
  funext y
  by_cases h0 : t.val % 32 = 0
  · have h1 : ¬ 1 ≤ t.val := by have := lt_of_lt_of_eq t.isLt N_0; omega
    rw [outsAt0_A m c t h0 h1 h0 h1 h0 h1 h0 h1 h0 h1]; frame_out
    exact congrFun (ds_canon m c t) y
  · have h1 : 1 ≤ t.val := by omega
    rw [outsAt0_B m c t h0 h1 h0 h1 h0 h1 h0 h1 h0 h1]; frame_out
    exact congrFun (ds_canon m c t) y

theorem final_ds (c : Dev nD) : (dats m 0 c).arrAt 4 (cfgs 0).N = dsG (aX m c) (aL m c) (aC m c) := by
  refine (dats m 0 c).arrAt_eq_of_covers 4 _ (by decide +kernel) fun t hf y => ?_
  blk_simp
  rw [after0_4, out_ds]
  unfold dsBlk row
  refine congrArg _ ?_
  blk_point [idx t]

/-- The gradient of the mixing and of the scale: the kernel adds the rows in 32 tiles of 256. -/
def dlinG (X : FVec Ideal S8192x512 .f32) (P : FVec Ideal S8192x512 .bf16) (C : FVec Ideal S1x512 .f32) : FVec Ideal S4x128x128 .f32 := fun y =>
  ∑ s : Fin 32, ∑ k : Fin 256, dlinAt X P C ⟨s * 256 + k, by omega⟩ (y 0) (y 1) (y 2)

def dscG (X : FVec Ideal S8192x512 .f32) (P : FVec Ideal S8192x512 .bf16) (L : FVec Ideal S4x128x128 .f32) : FVec Ideal S1x512 .f32 := fun y =>
  ∑ s : Fin 32, ∑ k : Fin 256, dscAt X P L ⟨s * 256 + k, by omega⟩
    ⟨(y 1 : ℕ) / 128, by have h : (y 1 : ℕ) < 512 := (y 1).isLt; omega⟩ ⟨(y 1 : ℕ) % 128, by omega⟩

theorem dlin_first (c : Dev nD) (t : Fin cfg0.N) (h0 : t.val % 32 = 0) (y : S4x128x128.Idx) :
    (outsAt0 m c t.val t.isLt).2.1 y = dlinBlk m c t y := by
  have h1 : ¬ 1 ≤ t.val := by have := lt_of_lt_of_eq t.isLt N_0; omega
  rw [outsAt0_A m c t h0 h1 h0 h1 h0 h1 h0 h1 h0 h1]; frame_out
  clear h0 h1
  canon_tiles x h
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39]
  all_goals (idx_vars x; idx_vars y)
  all_goals (simp only [x_iblk, p_iblk, c_iblk])
  case piece0 =>
    obtain rfl : y0 = 3 := Fin.ext (by simp at *; omega)
    obtain rfl : y1 = x1 := Fin.ext h1
    obtain rfl : y2 = x2 := Fin.ext h2
    obtain rfl : x0 = 0 := Subsingleton.elim _ _
    rw [dlin_at]; rfl
  case piece1 =>
    obtain rfl : y0 = 2 := Fin.ext (by simp at *; omega)
    obtain rfl : y1 = x1 := Fin.ext h1
    obtain rfl : y2 = x2 := Fin.ext h2
    obtain rfl : x0 = 0 := Subsingleton.elim _ _
    rw [dlin_at]; rfl
  case piece2 =>
    obtain rfl : y0 = 1 := Fin.ext (by simp at *; omega)
    obtain rfl : y1 = x1 := Fin.ext h1
    obtain rfl : y2 = x2 := Fin.ext h2
    obtain rfl : x0 = 0 := Subsingleton.elim _ _
    rw [dlin_at]; rfl
  case piece3 =>
    obtain rfl : y0 = 0 := Fin.ext (by simp at *; omega)
    obtain rfl : y1 = x1 := Fin.ext h1
    obtain rfl : y2 = x2 := Fin.ext h2
    obtain rfl : x0 = 0 := Subsingleton.elim _ _
    rw [dlin_at]; simp only [col_zero]

theorem dlin_next (c : Dev nD) (t : Fin cfg0.N) (h0 : ¬ t.val % 32 = 0) (y : S4x128x128.Idx) :
    (outsAt0 m c t.val t.isLt).2.1 y = (outsAt0 m c (t.val - 1) (by have := t.isLt; omega)).2.1 y + dlinBlk m c t y := by
  have h1 : 1 ≤ t.val := by omega
  rw [outsAt0_B m c t h0 h1 h0 h1 h0 h1 h0 h1 h0 h1]; frame_out
  generalize (outsAt0 m c (t.val - 1) _).2.1 = prev
  clear h0 h1
  canon_tiles x h
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39]
  all_goals (idx_vars x; idx_vars y)
  all_goals (simp only [x_iblk, p_iblk, c_iblk])
  case piece0 =>
    obtain rfl : y0 = 3 := Fin.ext (by simp at *; omega)
    obtain rfl : y1 = x1 := Fin.ext h1
    obtain rfl : y2 = x2 := Fin.ext h2
    obtain rfl : x0 = 0 := Subsingleton.elim _ _
    rw [dlin_at]; rfl
  case piece1 =>
    obtain rfl : y0 = 2 := Fin.ext (by simp at *; omega)
    obtain rfl : y1 = x1 := Fin.ext h1
    obtain rfl : y2 = x2 := Fin.ext h2
    obtain rfl : x0 = 0 := Subsingleton.elim _ _
    rw [dlin_at]; rfl
  case piece2 =>
    obtain rfl : y0 = 1 := Fin.ext (by simp at *; omega)
    obtain rfl : y1 = x1 := Fin.ext h1
    obtain rfl : y2 = x2 := Fin.ext h2
    obtain rfl : x0 = 0 := Subsingleton.elim _ _
    rw [dlin_at]; rfl
  case piece3 =>
    obtain rfl : y0 = 0 := Fin.ext (by simp at *; omega)
    obtain rfl : y1 = x1 := Fin.ext h1
    obtain rfl : y2 = x2 := Fin.ext h2
    obtain rfl : x0 = 0 := Subsingleton.elim _ _
    rw [dlin_at]; simp only [col_zero]

theorem final_dlin (c : Dev nD) : (dats m 0 c).arrAt 5 (cfgs 0).N = dlinG (aX m c) (aP m c) (aC m c) := by
  refine (dats m 0 c).arrAt_eq_of_covers 5 _ (by decide +kernel) fun t hf y => ?_
  blk_simp
  rw [after0_5, Pipeline.eq_sum_fin_of_reset_step_apply_of_flush (fun n h => (outsAt0 m c n h).2.1) 32 (fun _ => 0) (dlinBlk m c)
    (fun t h0 j => by rw [dlin_first m c t h0 j, zero_add])
    (fun t h0 j => dlin_next m c t h0 j)
    t ((flush0_5 t).mp hf) _, zero_add]
  unfold dlinG dlinBlk dlinAt row col
  blk_point [idx t, idx ⟨_, Pipeline.run_point_lt_of_flush t ((flush0_5 t).mp hf) _⟩]
  all_goals exact Fin.ext (by first | omega | (simp only []; omega))

/-- Each channel group's part of the scale's gradient. -/
theorem dsc_part0 (c : Dev nD) (t : Fin cfg0.N) (e : Fin 128) : k0_pay6 (View.ld (iblk m c 1 t) (Rect.unit ![0, 0] ![256, 128] inb_S256x512_S256x128_0_0))
      (View.ld (iblk m c 2 t) (Rect.unit ![0, 0, 0] ![1, 128, 128] inb_S4x128x128_S1x128x128_0_0_0))
      (View.ld (iblk m c 0 t) (Rect.unit ![0, 0] ![256, 128] inb_S256x512_S256x128_0_0)) (ix2 0 e)
    = ∑ k : Fin 256, aX m c (ix2 (row t k) (col 0 e)) * ∑ d : Fin 128, aP m c (ix2 (row t k) (col 0 d)) * aL m c (ix3 0 d e) := by
  pointwise [k0_pay4, k0_pay5, k0_pay6, k0_pay12, k0_pay13, k0_pay14, k0_pay23, k0_pay24, k0_pay25, k0_pay32, k0_pay33, k0_pay34, k0_pay35]
  simp only [x_iblk, p_iblk, l_iblk]
  simp only [col_zero]

theorem dsc_part1 (c : Dev nD) (t : Fin cfg0.N) (e : Fin 128) : k0_pay14 (View.ld (iblk m c 1 t) (Rect.unit ![0, 128] ![256, 128] inb_S256x512_S256x128_0_128))
      (View.ld (iblk m c 2 t) (Rect.unit ![1, 0, 0] ![1, 128, 128] inb_S4x128x128_S1x128x128_1_0_0))
      (View.ld (iblk m c 0 t) (Rect.unit ![0, 128] ![256, 128] inb_S256x512_S256x128_0_128)) (ix2 0 e)
    = ∑ k : Fin 256, aX m c (ix2 (row t k) (col 1 e)) * ∑ d : Fin 128, aP m c (ix2 (row t k) (col 1 d)) * aL m c (ix3 1 d e) := by
  pointwise [k0_pay4, k0_pay5, k0_pay6, k0_pay12, k0_pay13, k0_pay14, k0_pay23, k0_pay24, k0_pay25, k0_pay32, k0_pay33, k0_pay34, k0_pay35]
  simp only [x_iblk, p_iblk, l_iblk]
  rfl

theorem dsc_part2 (c : Dev nD) (t : Fin cfg0.N) (e : Fin 128) : k0_pay25 (View.ld (iblk m c 1 t) (Rect.unit ![0, 256] ![256, 128] inb_S256x512_S256x128_0_256))
      (View.ld (iblk m c 2 t) (Rect.unit ![2, 0, 0] ![1, 128, 128] inb_S4x128x128_S1x128x128_2_0_0))
      (View.ld (iblk m c 0 t) (Rect.unit ![0, 256] ![256, 128] inb_S256x512_S256x128_0_256)) (ix2 0 e)
    = ∑ k : Fin 256, aX m c (ix2 (row t k) (col 2 e)) * ∑ d : Fin 128, aP m c (ix2 (row t k) (col 2 d)) * aL m c (ix3 2 d e) := by
  pointwise [k0_pay4, k0_pay5, k0_pay6, k0_pay12, k0_pay13, k0_pay14, k0_pay23, k0_pay24, k0_pay25, k0_pay32, k0_pay33, k0_pay34, k0_pay35]
  simp only [x_iblk, p_iblk, l_iblk]
  rfl

theorem dsc_part3 (c : Dev nD) (t : Fin cfg0.N) (e : Fin 128) : k0_pay35 (k0_pay34 (View.ld (iblk m c 1 t) (Rect.unit ![0, 384] ![256, 128] inb_S256x512_S256x128_0_384))
      (View.ld (iblk m c 2 t) (Rect.unit ![3, 0, 0] ![1, 128, 128] inb_S4x128x128_S1x128x128_3_0_0)))
      (View.ld (iblk m c 0 t) (Rect.unit ![0, 384] ![256, 128] inb_S256x512_S256x128_0_384)) (ix2 0 e)
    = ∑ k : Fin 256, aX m c (ix2 (row t k) (col 3 e)) * ∑ d : Fin 128, aP m c (ix2 (row t k) (col 3 d)) * aL m c (ix3 3 d e) := by
  pointwise [k0_pay4, k0_pay5, k0_pay6, k0_pay12, k0_pay13, k0_pay14, k0_pay23, k0_pay24, k0_pay25, k0_pay32, k0_pay33, k0_pay34, k0_pay35]
  simp only [x_iblk, p_iblk, l_iblk]
  rfl

theorem pay2 (a b d e : FVec Ideal S1x128 .f32) (q : Fin 512) : k0_pay2 a b d e (ix2 0 q)
    = if h : (q : ℕ) < 128 then a (ix2 0 ⟨q, h⟩) else if h1 : (q : ℕ) - 128 < 128 then b (ix2 0 ⟨(q : ℕ) - 128, h1⟩)
      else if h2 : (q : ℕ) - 128 - 128 < 128 then d (ix2 0 ⟨(q : ℕ) - 128 - 128, h2⟩) else e (ix2 0 ⟨(q : ℕ) - 128 - 128 - 128, by omega⟩) := by
  pointwise [k0_pay2]

/-- The four groups' parts side by side are what a point adds to the scale's gradient. -/
theorem dsc_part (c : Dev nD) (t : Fin cfg0.N) (y : S1x512.Idx) : k0_pay2
      (k0_pay6 (View.ld (iblk m c 1 t) (Rect.unit ![0, 0] ![256, 128] inb_S256x512_S256x128_0_0))
        (View.ld (iblk m c 2 t) (Rect.unit ![0, 0, 0] ![1, 128, 128] inb_S4x128x128_S1x128x128_0_0_0))
        (View.ld (iblk m c 0 t) (Rect.unit ![0, 0] ![256, 128] inb_S256x512_S256x128_0_0)))
      (k0_pay14 (View.ld (iblk m c 1 t) (Rect.unit ![0, 128] ![256, 128] inb_S256x512_S256x128_0_128))
        (View.ld (iblk m c 2 t) (Rect.unit ![1, 0, 0] ![1, 128, 128] inb_S4x128x128_S1x128x128_1_0_0))
        (View.ld (iblk m c 0 t) (Rect.unit ![0, 128] ![256, 128] inb_S256x512_S256x128_0_128)))
      (k0_pay25 (View.ld (iblk m c 1 t) (Rect.unit ![0, 256] ![256, 128] inb_S256x512_S256x128_0_256))
        (View.ld (iblk m c 2 t) (Rect.unit ![2, 0, 0] ![1, 128, 128] inb_S4x128x128_S1x128x128_2_0_0))
        (View.ld (iblk m c 0 t) (Rect.unit ![0, 256] ![256, 128] inb_S256x512_S256x128_0_256)))
      (k0_pay35
        (k0_pay34 (View.ld (iblk m c 1 t) (Rect.unit ![0, 384] ![256, 128] inb_S256x512_S256x128_0_384))
          (View.ld (iblk m c 2 t) (Rect.unit ![3, 0, 0] ![1, 128, 128] inb_S4x128x128_S1x128x128_3_0_0)))
        (View.ld (iblk m c 0 t) (Rect.unit ![0, 384] ![256, 128] inb_S256x512_S256x128_0_384))) y = dscBlk m c t y := by
  obtain ⟨a, q, rfl⟩ : ∃ (a : Fin 1) (q : Fin 512), y = ix2 a q := ⟨y 0, y 1, eq_ix2 y⟩
  rw [Subsingleton.elim a 0, pay2]
  split_ifs with h0 h1 h2
  · rw [dsc_part0, dsc_at m c t 0 ⟨q, h0⟩ q (by simp)]
  · rw [dsc_part1, dsc_at m c t 1 ⟨(q : ℕ) - 128, by omega⟩ q (by simp; omega)]
  · rw [dsc_part2, dsc_at m c t 2 ⟨(q : ℕ) - 128 - 128, by omega⟩ q (by simp; omega)]
  · rw [dsc_part3, dsc_at m c t 3 ⟨(q : ℕ) - 128 - 128 - 128, by omega⟩ q (by simp; omega)]

theorem pay3 (a b d e : FVec Ideal S1x128 .f32) (v : FVec Ideal S1x512 .f32) (y : S1x512.Idx) :
    k0_pay3 a b d e v y = v y + k0_pay2 a b d e y := by
  pointwise [k0_pay3]

theorem final_dsc (c : Dev nD) : (dats m 0 c).arrAt 6 (cfgs 0).N = dscG (aX m c) (aP m c) (aL m c) := by
  refine (dats m 0 c).arrAt_eq_of_covers 6 _ (by decide +kernel) fun t hf y => ?_
  blk_simp
  rw [after0_6, Pipeline.eq_sum_fin_of_reset_step_apply_of_flush (fun n h => (outsAt0 m c n h).2.2) 32 (fun _ => 0) (dscBlk m c)
    (fun t h0 j => by
      have h1 : ¬ 1 ≤ t.val := by have := lt_of_lt_of_eq t.isLt N_0; omega
      rw [outsAt0_A m c t h0 h1 h0 h1 h0 h1 h0 h1 h0 h1]; frame_out
      rw [zero_add]
      exact dsc_part m c t j)
    (fun t h0 j => by
      have h1 : 1 ≤ t.val := by omega
      rw [outsAt0_B m c t h0 h1 h0 h1 h0 h1 h0 h1 h0 h1]; frame_out
      rw [pay3]
      exact congrArg _ (dsc_part m c t j))
    t ((flush0_6 t).mp hf) _, zero_add]
  unfold dscG dscBlk row
  blk_point [idx t, idx ⟨_, Pipeline.run_point_lt_of_flush t ((flush0_6 t).mp hf) _⟩]
  all_goals exact Fin.ext (by first | omega | (simp only []; omega))

end Cert.PoolAIdeal.Value

end
-- ==== Proof.PoolA.Plain.lean ====
/- The pool's derivative, plain: its pieces named, and each read at an index. -/
module

public import proofs.«01_k».proof.Proof.PoolA.Value
public import proofs.«01_k».proof.Proof.Gen.PoolARefIdeal.Run

@[expose] public section

set_option maxRecDepth 16384

noncomputable section

open Idealize.ShloMosaic Idealize.ShloMosaic.TcCoe Idealize.SL.Sem

namespace Cert.PoolARefIdeal.Plain

open Cert.PoolARefIdeal Cert.PoolARefIdeal.Gen
open Cert.PoolAIdeal.Blocks (col lenG len dsAt dsG dlinAt dscAt)
open Cert.PoolAIdeal.Value (dlinG dscG)

/-- The cumulative sums of the tokens, a zero in front. -/
def csum (U : FVec Ideal S8192x512 .f32) : FVec Ideal S8193x4x128 .f32 :=
  concatenate S8193x4x128 0 [⟨S1x4x128, (broadcastInDim S1x4x128 ![] bcast_S_S1x4x128 (constant S_ .f32 0x00000000#32))⟩,
    ⟨S8192x4x128, (Host.reduceWindowAdd ![8192, 1, 1] ![1, 1, 1] ![8191, 0, 0] ![0, 0, 0] (shapeCast _ U shapeCasts_S8192x512_S8192x4x128)
      (broadcastInDim S_ ![] bcast_S_S_ (constant S_ .f32 0x00000000#32))
      reduceWindows_S8192x4x128_S8192x4x128_w8192s1p8191_0_w1s1p0_0_w1s1p0_0 h_S_)⟩] concatenates_S1x4x128_S8192x4x128_S8193x4x128_d0

/-- A word held between 0 and the number of tokens. -/
def held (x : IVec S8192 32) : IVec S8192 32 :=
  minsi (broadcastInDim S8192 ![] bcast_S_S8192 (id (constantI S_ 32 8192#32)))
    (maxsi (broadcastInDim S8192 ![] bcast_S_S8192 (id (constantI S_ 32 0#32))) x)

/-- A window's two ends at every token, and its length. -/
def lo (b : BitVec 32) : IVec S8192 32 :=
  held (subi (iotaInDim S8192 32 0) (broadcastInDim S8192 ![] bcast_S_S8192 (constantI S_ 32 b)))

def hi (a b : BitVec 32) : IVec S8192 32 :=
  held (subi (addi (iotaInDim S8192 32 0) (broadcastInDim S8192 ![] bcast_S_S8192 (constantI S_ 32 a)))
    (broadcastInDim S8192 ![] bcast_S_S8192 (constantI S_ 32 b)))

def count (a b : BitVec 32) : FVec Ideal S8192x1 .f32 :=
  broadcastInDim S8192x1 ![0] bcast_S8192_S8192x1_0 (sitofp .f32 (subi (hi a b) (lo b)))

/-- The rows `i` of channel group `g`. -/
def rows (T : FVec Ideal S8193x4x128 .f32) (g : BitVec 32) (i : IVec S8192 32) : FVec Ideal S8192x128 .f32 :=
  Host.gather gather_S8193x4x128_S8192x2_S8192x128_1_01_n_n_01_1_11128 T
    (concatenate S8192x2 1 [⟨S8192x1, (broadcastInDim S8192x1 ![0] bcast_S8192_S8192x1_0
        (select (cmpi .slt i (broadcastInDim S8192 ![] bcast_S_S8192 (constantI S_ 32 0#32)))
          (addi i (broadcastInDim S8192 ![] bcast_S_S8192 (constantI S_ 32 8193#32))) i))⟩,
      ⟨S8192x1, (broadcastInDim S8192x1 ![0] bcast_S8192_S8192x1_0 (id (broadcastInDim S8192 ![] bcast_S_S8192 (constantI S_ 32 g))))⟩]
      concatenates_S8192x1_S8192x1_S8192x2_d1)

/-- A window's mean. -/
def mean (T : FVec Ideal S8193x4x128 .f32) (g a b : BitVec 32) : FVec Ideal S8192x128 .f32 :=
  Host.divf (subf (rows T g (hi a b)) (rows T g (lo b))) (broadcastInDim S8192x128 ![0, 1] bcast_S8192x1_S8192x128_0_1 (count a b))

/-- The pooled tokens: each group's mean less the token. -/
def pooled (U : FVec Ideal S8192x512 .f32) : FVec Ideal S8192x4x128 .f32 :=
  concatenate S8192x4x128 1 [
    ⟨S8192x1x128, ((broadcastInDim S8192x1x128 ![0, 2] bcast_S8192x128_S8192x1x128_0_2 (subf (mean (csum U) 0#32 2#32 1#32)
      (shapeCast _ (extractStridedSlice S8192x1x128 ![0, 0, 0] (shapeCast _ U shapeCasts_S8192x512_S8192x4x128)
        slices_S8192x4x128_S8192x1x128_0_0_0) shapeCasts_S8192x1x128_S8192x128))) : (⟨S8192x1x128, .f32⟩ : BufTy).Contents (Elt Ideal))⟩,
    ⟨S8192x1x128, ((broadcastInDim S8192x1x128 ![0, 2] bcast_S8192x128_S8192x1x128_0_2 (subf (mean (csum U) 1#32 4#32 2#32)
      (shapeCast _ (extractStridedSlice S8192x1x128 ![0, 1, 0] (shapeCast _ U shapeCasts_S8192x512_S8192x4x128)
        slices_S8192x4x128_S8192x1x128_0_1_0) shapeCasts_S8192x1x128_S8192x128))) : (⟨S8192x1x128, .f32⟩ : BufTy).Contents (Elt Ideal))⟩,
    ⟨S8192x1x128, ((broadcastInDim S8192x1x128 ![0, 2] bcast_S8192x128_S8192x1x128_0_2 (subf (mean (csum U) 2#32 8#32 4#32)
      (shapeCast _ (extractStridedSlice S8192x1x128 ![0, 2, 0] (shapeCast _ U shapeCasts_S8192x512_S8192x4x128)
        slices_S8192x4x128_S8192x1x128_0_2_0) shapeCasts_S8192x1x128_S8192x128))) : (⟨S8192x1x128, .f32⟩ : BufTy).Contents (Elt Ideal))⟩,
    ⟨S8192x1x128, ((broadcastInDim S8192x1x128 ![0, 2] bcast_S8192x128_S8192x1x128_0_2 (subf (mean (csum U) 3#32 16#32 8#32)
      (shapeCast _ (extractStridedSlice S8192x1x128 ![0, 3, 0] (shapeCast _ U shapeCasts_S8192x512_S8192x4x128)
        slices_S8192x4x128_S8192x1x128_0_3_0) shapeCasts_S8192x1x128_S8192x128))) : (⟨S8192x1x128, .f32⟩ : BufTy).Contents (Elt Ideal))⟩]
    concatenates_S8192x1x128_S8192x1x128_S8192x1x128_S8192x1x128_S8192x4x128_d1

/-- The mixed tokens before the scale. -/
def mixed (L : FVec Ideal S4x128x128 .f32) (P : FVec Ideal S8192x4x128 .f32) : FVec Ideal S8192x512 .f32 :=
  shapeCast _ (transpose S8192x4x128 [2, 0, 1] (Host.dotGeneral dot_S4x128x128_S8192x4x128_S4x128x8192_1_2_2_0_0_1 none L P)
    transposes_S4x128x8192_S8192x4x128_2_0_1) shapeCasts_S8192x4x128_S8192x512

/-- Their gradient, group by group. -/
def dmixed (X : FVec Ideal S8192x512 .f32) (C : FVec Ideal S1x512 .f32) : FVec Ideal S4x128x8192 .f32 :=
  transpose S4x128x8192 [1, 2, 0] (shapeCast _ (mulf X (broadcastInDim S8192x512 ![0, 1] bcast_S1x512_S8192x512_0_1 C))
    shapeCasts_S8192x512_S8192x4x128) transposes_S8192x4x128_S4x128x8192_1_2_0

/-- The pooled tokens' gradient. -/
def dpooled (L : FVec Ideal S4x128x128 .f32) (D : FVec Ideal S4x128x8192 .f32) : FVec Ideal S8192x4x128 .f32 :=
  transpose S8192x4x128 [1, 0, 2] (Host.dotGeneral dot_S4x128x8192_S4x128x128_S4x8192x128_1_2_2_1_0_0 none D L)
    transposes_S4x8192x128_S8192x4x128_1_0_2

/-- The three results. -/
def ds (D : FVec Ideal S8192x4x128 .f32) : FVec Ideal S8192x512 .f32 :=
  concatenate S8192x512 1 [
    ⟨S8192x128, ((Host.divf (shapeCast _ (extractStridedSlice S8192x1x128 ![0, 0, 0] D slices_S8192x4x128_S8192x1x128_0_0_0)
      shapeCasts_S8192x1x128_S8192x128) (broadcastInDim S8192x128 ![0, 1] bcast_S8192x1_S8192x128_0_1 (count 2#32 1#32)))
        : (⟨S8192x128, .f32⟩ : BufTy).Contents (Elt Ideal))⟩,
    ⟨S8192x128, ((Host.divf (shapeCast _ (extractStridedSlice S8192x1x128 ![0, 1, 0] D slices_S8192x4x128_S8192x1x128_0_1_0)
      shapeCasts_S8192x1x128_S8192x128) (broadcastInDim S8192x128 ![0, 1] bcast_S8192x1_S8192x128_0_1 (count 4#32 2#32)))
        : (⟨S8192x128, .f32⟩ : BufTy).Contents (Elt Ideal))⟩,
    ⟨S8192x128, ((Host.divf (shapeCast _ (extractStridedSlice S8192x1x128 ![0, 2, 0] D slices_S8192x4x128_S8192x1x128_0_2_0)
      shapeCasts_S8192x1x128_S8192x128) (broadcastInDim S8192x128 ![0, 1] bcast_S8192x1_S8192x128_0_1 (count 8#32 4#32)))
        : (⟨S8192x128, .f32⟩ : BufTy).Contents (Elt Ideal))⟩,
    ⟨S8192x128, ((Host.divf (shapeCast _ (extractStridedSlice S8192x1x128 ![0, 3, 0] D slices_S8192x4x128_S8192x1x128_0_3_0)
      shapeCasts_S8192x1x128_S8192x128) (broadcastInDim S8192x128 ![0, 1] bcast_S8192x1_S8192x128_0_1 (count 16#32 8#32)))
        : (⟨S8192x128, .f32⟩ : BufTy).Contents (Elt Ideal))⟩]
    concatenates_S8192x128_S8192x128_S8192x128_S8192x128_S8192x512_d1

def dlin (D : FVec Ideal S4x128x8192 .f32) (P : FVec Ideal S8192x4x128 .f32) : FVec Ideal S4x128x128 .f32 :=
  transpose S4x128x128 [0, 2, 1] (Host.dotGeneral dot_S4x128x8192_S8192x4x128_S4x128x128_2_0_1_2_0_1 none D P) transposes_S4x128x128_S4x128x128_0_2_1

def dsc (M X : FVec Ideal S8192x512 .f32) : FVec Ideal S1x512 .f32 :=
  shapeCast _ (Host.reduceAdd (mulf M X) (constant S_ .f32 0x00000000#32) reducesTo_S8192x512_S512_d0 h_S_) shapeCasts_S512_S1x512

theorem count_apply (a b : BitVec 32) (r : Fin 8192) : count a b (ix2 r 0) = len a b (BitVec.ofNat 32 r) := by
  pointwise [count, hi, lo, held, len]
  rfl

theorem mixed_apply (L : FVec Ideal S4x128x128 .f32) (P : FVec Ideal S8192x4x128 .f32) (r : Fin 8192) (q : Fin 512) :
    mixed L P (ix2 r q) = ∑ d : Fin 128, L (ix3 ⟨(q : ℕ) / 128, by omega⟩ d ⟨(q : ℕ) % 128, by omega⟩) * P (ix3 r ⟨(q : ℕ) / 128, by omega⟩ d) := by
  pointwise [mixed]

theorem dmixed_apply (X : FVec Ideal S8192x512 .f32) (C : FVec Ideal S1x512 .f32) (g : Fin 4) (e : Fin 128) (r : Fin 8192) :
    dmixed X C (ix3 g e r) = X (ix2 r (col g e)) * C (ix2 0 (col g e)) := by
  pointwise [dmixed]; rfl

theorem dpooled_apply (L : FVec Ideal S4x128x128 .f32) (D : FVec Ideal S4x128x8192 .f32) (r : Fin 8192) (g : Fin 4) (d : Fin 128) :
    dpooled L D (ix3 r g d) = ∑ e : Fin 128, D (ix3 g e r) * L (ix3 g d e) := by
  pointwise [dpooled]

theorem ds_apply (D : FVec Ideal S8192x4x128 .f32) (r : Fin 8192) (q : Fin 512) :
    ds D (ix2 r q) = Ideal.div (D (ix3 r ⟨(q : ℕ) / 128, by omega⟩ ⟨(q : ℕ) % 128, by omega⟩)) (lenG ⟨(q : ℕ) / 128, by omega⟩ r) := by
  obtain ⟨g, d, rfl⟩ : ∃ (g : Fin 4) (d : Fin 128), q = col g d :=
    ⟨⟨(q : ℕ) / 128, by omega⟩, ⟨(q : ℕ) % 128, by omega⟩, Fin.ext (by simp only [col]; omega)⟩
  have e1 : (⟨(col g d : ℕ) / 128, by omega⟩ : Fin 4) = g := Fin.ext (by simp only [col]; omega)
  have e2 : (⟨(col g d : ℕ) % 128, by omega⟩ : Fin 128) = d := Fin.ext (by simp only [col]; omega)
  rw [e1, e2]
  unfold col
  fin_cases g <;> pointwise [ds, count_apply, lenG]
  · rw [dif_neg (by omega), dif_neg (by omega), dif_pos (by omega), show (⟨256 + (d : ℕ) - 128 - 128, by omega⟩ : Fin 128) = d from Fin.ext (by simp only []; omega)]
  · rw [dif_neg (by omega), dif_neg (by omega), dif_neg (by omega), show (⟨384 + (d : ℕ) - 128 - 128 - 128, by omega⟩ : Fin 128) = d from Fin.ext (by simp only []; omega)]

theorem dlin_apply (D : FVec Ideal S4x128x8192 .f32) (P : FVec Ideal S8192x4x128 .f32) (g : Fin 4) (d e : Fin 128) :
    dlin D P (ix3 g d e) = ∑ r : Fin 8192, D (ix3 g e r) * P (ix3 r g d) := by
  pointwise [dlin]

theorem dsc_apply (M X : FVec Ideal S8192x512 .f32) (q : Fin 512) : dsc M X (ix2 0 q) = ∑ r : Fin 8192, M (ix2 r q) * X (ix2 r q) := by
  pointwise [dsc]

end Cert.PoolARefIdeal.Plain

end
-- ==== Proof.PoolA.Ref.lean ====
/- The pool's channel mixing, going back: the call and the plain derivative leave the same three arrays. -/
module

public import proofs.«01_k».proof.Defs
public import proofs.«01_k».proof.Proof.PoolA.Plain
public import proofs.«01_k».proof.Proof.Gen.PoolAIdeal.Value
public import Idealize.ShloMosaic.Lib.Claim
public import Idealize.ShloMosaic.Lib.Quiescent

@[expose] public section

set_option maxRecDepth 16384

noncomputable section

namespace Cert.PoolARefIdeal.Pieces

open Idealize.ShloMosaic Idealize.ShloMosaic.TcCoe Idealize.SL.Sem
open Cert.PoolARefIdeal Cert.PoolARefIdeal.Value Cert.PoolARefIdeal.Plain

variable (m' : (ℓ : Loc nD τ sig) → Buf (Elt Ideal) ℓ) (c : Dev nD)

/-- The pieces of the reference's run are the named ones. -/
theorem run_pooled : res_main_v205 (F := Ideal) (StableHlo.launchContents m' c) = pooled (m' ((c.tc : Thread nD τ).loc main_arg0)) := by
  sl_kernel_rfl

theorem run_mixed : res_main_v208 (F := Ideal) (StableHlo.launchContents m' c) = mixed (m' ((c.tc : Thread nD τ).loc main_arg1)) (pooled (m' ((c.tc : Thread nD τ).loc main_arg0))) := by
  sl_kernel_rfl

theorem run_dmixed : res_main_v217 (F := Ideal) (StableHlo.launchContents m' c) = dmixed (m' ((c.tc : Thread nD τ).loc main_arg3)) (m' ((c.tc : Thread nD τ).loc main_arg2)) := by
  sl_kernel_rfl

theorem run_dpooled : res_main_v219 (F := Ideal) (StableHlo.launchContents m' c) = dpooled (m' ((c.tc : Thread nD τ).loc main_arg1)) (dmixed (m' ((c.tc : Thread nD τ).loc main_arg3)) (m' ((c.tc : Thread nD τ).loc main_arg2))) := by
  sl_kernel_rfl

end Cert.PoolARefIdeal.Pieces

namespace Cert.PoolA

open Idealize.ShloMosaic Idealize.ShloMosaic.TcCoe Idealize.SL.Sem
open Cert.PoolAIdeal.Value Cert.PoolAIdeal.Blocks Cert.PoolARefIdeal.Plain Cert.PoolARefIdeal.Pieces

section Results

variable (m : (ℓ : Loc Cert.PoolAIdeal.nD Cert.PoolAIdeal.τ Cert.PoolAIdeal.sig) → Buf (Elt Ideal) ℓ) (c : Dev Cert.PoolAIdeal.nD)

/-- The tokens, and the pooled tokens in the call's layout. -/
abbrev U : FVec Ideal Cert.PoolAIdeal.S8192x512 .f32 := m ((c.tc : Thread Cert.PoolAIdeal.nD Cert.PoolAIdeal.τ).loc Cert.PoolAIdeal.main_arg0)

theorem aP_eq : aP m c = truncf (F := Ideal) .bf16 (shapeCast Cert.PoolAIdeal.S8192x512 (pooled (U m c))
    Cert.PoolAIdeal.Gen.shapeCasts_S8192x4x128_S8192x512) Cert.PoolAIdeal.Gen.bitsLt_bf16_f32 := by
  sl_kernel_rfl

theorem aP_apply (r : Fin 8192) (g : Fin 4) (d : Fin 128) : aP m c (ix2 r (col g d)) = pooled (U m c) (ix3 r g d) := by
  rw [aP_eq]
  unfold col
  pointwise

theorem ds_eq : ds (dpooled (aL m c) (dmixed (aX m c) (aC m c))) = dsG (aX m c) (aL m c) (aC m c) := by
  funext y
  obtain ⟨r, q, rfl⟩ : ∃ (r : Fin 8192) (q : Fin 512), y = ix2 r q := ⟨y 0, y 1, eq_ix2 y⟩
  rw [ds_apply, dpooled_apply]
  simp only [dmixed_apply]
  rfl

theorem dlin_eq : dlin (dmixed (aX m c) (aC m c)) (pooled (U m c)) = dlinG (aX m c) (aP m c) (aC m c) := by
  funext y
  obtain ⟨g, d, e, rfl⟩ : ∃ (g : Fin 4) (d e : Fin 128), y = ix3 g d e := ⟨y 0, y 1, y 2, eq_ix3 y⟩
  rw [dlin_apply, Fin.sum_univ_tiles 32 256 rfl]
  refine Finset.sum_congr rfl fun s _ => Finset.sum_congr rfl fun k _ => ?_
  rw [dmixed_apply, ← aP_apply, mul_comm]
  rfl

theorem dsc_eq : dsc (mixed (aL m c) (pooled (U m c))) (aX m c) = dscG (aX m c) (aP m c) (aL m c) := by
  funext y
  obtain ⟨a, q, rfl⟩ : ∃ (a : Fin 1) (q : Fin 512), y = ix2 a q := ⟨y 0, y 1, eq_ix2 y⟩
  rw [Subsingleton.elim a 0, dsc_apply, Fin.sum_univ_tiles 32 256 rfl]
  refine Finset.sum_congr rfl fun s _ => Finset.sum_congr rfl fun k _ => ?_
  rw [mixed_apply, mul_comm]
  unfold dscAt
  have e : col ⟨(q : ℕ) / 128, by omega⟩ ⟨(q : ℕ) % 128, by omega⟩ = q := Fin.ext (by simp only [col]; omega)
  refine congrArg₂ HMul.hMul (congrArg _ (congrArg _ e.symm)) (Finset.sum_congr rfl fun d _ => ?_)
  rw [← aP_apply, mul_comm]
  rfl

end Results

/-- The reference launches no kernel: it runs to its end with its arguments unchanged and every counter at zero. -/
theorem frame_ref : Cert.quiescent_PoolARefIdeal (hPoolARefIdeal := Cert.PoolARefIdeal.Gen.facts) := by
  intro m g _
  refine (θ_run _ _ _).mono (fun r h => ?_) (Cert.PoolARefIdeal.Value.run m g)
  exact ⟨fun c => (h c).2.2.2, sem_eq_zero_of_no_sems (sig := Cert.PoolARefIdeal.sig) (by decide) _⟩

/-- From memories that agree on the arguments, both programs end with the same three arrays. -/
theorem algebraic : Cert.algebraic_PoolAIdeal_PoolARefIdeal (hPoolAIdeal := Cert.PoolAIdeal.Gen.facts)
    (hPoolARefIdeal := Cert.PoolARefIdeal.Gen.facts) := by
  pair_intro
  · run_from Cert.PoolAIdeal.Value.run_blocks m g
  · run_from Cert.PoolARefIdeal.Value.run m' g'
    · obtain ⟨h0, h1, h2, h3⟩ := hagree c
      refine Eq.trans ?_ ((ds_eq m c).trans (final_ds m c).symm)
      rw [run_dpooled, h1, h2, h3]; sl_kernel_rfl
    · obtain ⟨h0, h1, h2, h3⟩ := hagree c
      refine Eq.trans ?_ ((dlin_eq m c).trans (final_dlin m c).symm)
      rw [run_dmixed, run_pooled, h0, h2, h3]; sl_kernel_rfl
    · obtain ⟨h0, h1, h2, h3⟩ := hagree c
      refine Eq.trans ?_ ((dsc_eq m c).trans (final_dsc m c).symm)
      rw [run_mixed, h0, h1]; sl_kernel_rfl

end Cert.PoolA

end
-- ==== Proof.Attn.Trip.lean ====
/- One pass of the attention gradient over the keys: the four trips of the kernel's inner loop, each adding one block of
keys, as three sums over all the keys. -/
module

public import proofs.«01_k».proof.Proof.Gen.AttnIdeal.Frame
public import Idealize.ShloMosaic.Lib.Pipeline.ValueKit
public import Idealize.ShloMosaic.Lib.Pointwise
public import Idealize.ShloMosaic.Lib.WritesUnit

@[expose] public section

set_option maxRecDepth 16384

noncomputable section

open Idealize.ShloMosaic Idealize.ShloMosaic.TcCoe Idealize.SL.Sem

namespace Cert.AttnIdeal.Trip

open Cert.AttnIdeal Cert.AttnIdeal.Gen

/-- The rows of one key block. -/
abbrev slab (k : Fin k0_t1_loop.trips) : Rect S1x8192x128 :=
  Rect.unit (s := S1x8192x128) (k0_off1 k) S1x2048x128.size (k0_off1_inb k)

/-- The whole of the query gradient's running sum. -/
abbrev wide : Rect S512x128 := Rect.unit (s := S512x128) ![0, 0] ![512, 128] inb_S512x128_S512x128_0_0

theorem zero2 : (![0, 0] : Fin 2 → ℕ) = fun _ => 0 := by funext a; fin_cases a <;> rfl

/-- What a pass reads: keys, values, stacked queries, stacked cotangents, the log denominators and the row sums of
cotangent times output. -/
structure Given where
  key : FVec Ideal S1x8192x128 .bf16
  val : FVec Ideal S1x8192x128 .bf16
  query : FVec Ideal S512x128 .bf16
  cot : FVec Ideal S512x128 .bf16
  lse : FVec Ideal S512x1 .f32
  dl : FVec Ideal S512x1 .f32

/-- The pieces one trip stores, as functions of what it finds in the three running sums. -/
def stores (g : Given) (k : Fin k0_t1_loop.trips) (a9 a10 : FVec Ideal S1x8192x128 .f32) (a15 : FVec Ideal S512x128 .f32) :
    List (View.Piece (Elt Ideal) S1x8192x128 .f32) × List (View.Piece (Elt Ideal) S1x8192x128 .f32)
      × List (View.Piece (Elt Ideal) S512x128 .f32) :=
  ([⟨slab k, k0_pay28 (F := Ideal) (k0_pay9 (F := Ideal) (View.ld a9 (slab k)))
      (k0_pay10 (F := Ideal) (View.ld g.key (slab k)) (View.ld g.val (slab k))
        g.query g.cot g.lse g.dl)⟩],
   [⟨slab k, k0_pay8 (F := Ideal) (View.ld g.key (slab k)) g.query g.cot g.lse
      (View.ld a10 (slab k))⟩],
   [⟨wide, k0_pay29 (F := Ideal) (k0_pay5 (F := Ideal) (View.ld g.key (slab k)))
      (k0_pay7 (F := Ideal) (View.ld g.key (slab k)) (View.ld g.val (slab k))
        g.query g.cot g.lse g.dl) a15⟩])

section

variable (𝒱 : Variants) (c : Dev nD) (bd : Option 𝒱.V) (i : grid0.Coords) (arg2 : Memref sig .tc .vmem S256x256 .bf16) (harg2 : arg2.IsWhole) (arg3 : Memref sig .tc .vmem S256x256 .f32) (harg3 : arg3.IsWhole) (arg4 : Memref sig .tc .vmem S256x256 .bf16) (harg4 : arg4.IsWhole) (arg5 : Memref sig .tc .vmem S256x256 .f32) (harg5 : arg5.IsWhole) (arg6 : Memref sig .tc .vmem S1x8192x128 .bf16) (harg6 : arg6.IsWhole) (arg7 : Memref sig .tc .vmem S1x8192x128 .bf16) (harg7 : arg7.IsWhole) (arg8 : Memref sig .tc .vmem S256x256 .f32) (harg8 : arg8.IsWhole) (arg9 : Memref sig .tc .vmem S1x8192x128 .f32) (harg9 : arg9.IsWhole) (arg10 : Memref sig .tc .vmem S1x8192x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S512x1 .f32) (harg13 : arg13.IsWhole) (arg14 : Memref sig .tc .vmem S512x1 .f32) (harg14 : arg14.IsWhole) (arg15 : Memref sig .tc .vmem S512x128 .f32) (harg15 : arg15.IsWhole) (X_arg6 : BufTy.Contents (Elt Ideal) arg6.view.ty) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (f_arg9 : BufTy.Contents (Elt Ideal) arg9.view.ty) (f_arg10 : BufTy.Contents (Elt Ideal) arg10.view.ty) (f_arg15 : BufTy.Contents (Elt Ideal) arg15.view.ty)

/-- A trip of the second head pair stores these pieces. -/
theorem trip2 (k : Fin k0_t2_loop.trips) : tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg6 X_arg7 X_arg11 X_arg12 X_arg13 X_arg14 k f_arg9 f_arg10 f_arg15
    = stores ⟨arg6.view.read (Elt Ideal) X_arg6, arg7.view.read (Elt Ideal) X_arg7, arg11.view.read (Elt Ideal) X_arg11,
        arg12.view.read (Elt Ideal) X_arg12, arg13.view.read (Elt Ideal) X_arg13, arg14.view.read (Elt Ideal) X_arg14⟩ k
      (arg9.view.read (Elt Ideal) f_arg9) (arg10.view.read (Elt Ideal) f_arg10) (arg15.view.read (Elt Ideal) f_arg15) := by
  unfold tripL_k0_t2 trip_k0_t2 stores
  dsimp only
  sl_unfold_words
  simp only [View.readAt_eq_ld]
  repeat rw [View.ld_unit_zero (S := S512x128) zero2]
  repeat rw [View.ld_unit_zero (S := S512x1) zero2]
  sl_kernel_rfl

end

section

variable (𝒱 : Variants) (c : Dev nD) (bd : Option 𝒱.V) (i : grid0.Coords) (arg2 : Memref sig .tc .vmem S256x256 .bf16) (harg2 : arg2.IsWhole) (arg3 : Memref sig .tc .vmem S256x256 .f32) (harg3 : arg3.IsWhole) (arg4 : Memref sig .tc .vmem S256x256 .bf16) (harg4 : arg4.IsWhole) (arg5 : Memref sig .tc .vmem S256x256 .f32) (harg5 : arg5.IsWhole) (arg6 : Memref sig .tc .vmem S1x8192x128 .bf16) (harg6 : arg6.IsWhole) (arg7 : Memref sig .tc .vmem S1x8192x128 .bf16) (harg7 : arg7.IsWhole) (arg8 : Memref sig .tc .vmem S256x256 .f32) (harg8 : arg8.IsWhole) (arg9 : Memref sig .tc .vmem S1x8192x128 .f32) (harg9 : arg9.IsWhole) (arg10 : Memref sig .tc .vmem S1x8192x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S512x1 .f32) (harg13 : arg13.IsWhole) (arg14 : Memref sig .tc .vmem S512x1 .f32) (harg14 : arg14.IsWhole) (arg15 : Memref sig .tc .vmem S512x128 .f32) (harg15 : arg15.IsWhole) (v2 : IVec S256x128 1) (c0_i32_34 : BitVec 32) (X_arg6 : BufTy.Contents (Elt Ideal) arg6.view.ty) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (f_arg9 : BufTy.Contents (Elt Ideal) arg9.view.ty) (f_arg10 : BufTy.Contents (Elt Ideal) arg10.view.ty) (f_arg15 : BufTy.Contents (Elt Ideal) arg15.view.ty)

/-- A trip of the first head pair stores these pieces. -/
theorem trip1 (k : Fin k0_t1_loop.trips) : tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v2 c0_i32_34 X_arg6 X_arg7 X_arg11 X_arg12 X_arg13 X_arg14 k f_arg9 f_arg10 f_arg15
    = stores ⟨arg6.view.read (Elt Ideal) X_arg6, arg7.view.read (Elt Ideal) X_arg7, arg11.view.read (Elt Ideal) X_arg11,
        arg12.view.read (Elt Ideal) X_arg12, arg13.view.read (Elt Ideal) X_arg13, arg14.view.read (Elt Ideal) X_arg14⟩ k
      (arg9.view.read (Elt Ideal) f_arg9) (arg10.view.read (Elt Ideal) f_arg10) (arg15.view.read (Elt Ideal) f_arg15) := by
  unfold tripL_k0_t1 trip_k0_t1 stores
  dsimp only
  sl_unfold_words
  simp only [View.readAt_eq_ld]
  repeat rw [View.ld_unit_zero (S := S512x128) zero2]
  repeat rw [View.ld_unit_zero (S := S512x1) zero2]
  sl_kernel_rfl

end

end Cert.AttnIdeal.Trip

end
-- ==== Proof.Attn.Pass.lean ====
/- One pass of the attention gradient over the keys, added up: what the three running sums hold after any number of trips. -/
module

public import proofs.«01_k».proof.Proof.Attn.Trip

@[expose] public section

set_option maxRecDepth 16384

noncomputable section

open Idealize.ShloMosaic Idealize.ShloMosaic.TcCoe Idealize.SL.Sem

namespace Cert.AttnIdeal.Trip

open Cert.AttnIdeal Cert.AttnIdeal.Gen

/-- The weight query row `r` gives key `s`. -/
def prob (g : Given) (r : Fin 512) (s : Fin 8192) : Ideal .f32 :=
  FloatOps.exp (FloatOps.subf (∑ l : Fin 128, g.query (ix2 r l) * g.key (ix3 0 s l)) (g.lse (ix2 r 0)))

/-- The gradient of that pair's score. -/
def slope (g : Given) (r : Fin 512) (s : Fin 8192) : Ideal .f32 :=
  prob g r s * FloatOps.subf (∑ l : Fin 128, g.cot (ix2 r l) * g.val (ix3 0 s l)) (g.dl (ix2 r 0))

/-- What a pass adds to the gradients of the keys and of the values, and one block of keys to the gradient of the queries. -/
def keyAt (g : Given) (s : Fin 8192) (l : Fin 128) : Ideal .f32 := ∑ r : Fin 512, slope g r s * g.query (ix2 r l)

def valAt (g : Given) (s : Fin 8192) (l : Fin 128) : Ideal .f32 := ∑ r : Fin 512, prob g r s * g.cot (ix2 r l)

/-- Key `s` of block `k`. -/
def keyRow (k : Fin 4) (s : Fin 2048) : Fin 8192 := ⟨k * 2048 + s, by omega⟩

def queryPart (g : Given) (r : Fin 512) (l : Fin 128) (k : Fin 4) : Ideal .f32 :=
  ∑ s : Fin 2048, slope g r (keyRow k s) * g.key (ix3 0 (keyRow k s) l)

theorem off_eq : ∀ k : Fin k0_t1_loop.trips, k0_off1 k = ![0, k.val * 2048, 0] := by decide +kernel

theorem slab_ix (k : Fin k0_t1_loop.trips) (s : Fin 2048) (l : Fin 128) (h0 : k0_off1 k 0 < 1) (h1 : k0_off1 k 1 + (s : ℕ) < 8192)
    (h2 : k0_off1 k 2 + (l : ℕ) < 128) :
    ix3 (⟨k0_off1 k 0, h0⟩ : Fin 1) (⟨k0_off1 k 1 + s, h1⟩ : Fin 8192) (⟨k0_off1 k 2 + l, h2⟩ : Fin 128) = ix3 0 (keyRow k s) l := by
  have h := off_eq k
  congr 1 <;> refine Fin.ext ?_ <;> simp [h, keyRow]

theorem prob_pay (g : Given) (k : Fin k0_t1_loop.trips) (r : Fin 512) (s : Fin 2048) :
    k0_pay6 (F := Ideal) (View.ld (Val := Elt Ideal) g.key (slab k)) g.query g.lse (ix2 r s) = prob g r (keyRow k s) := by
  unfold prob
  pointwise [k0_pay5, k0_pay6]
  simp only [slab_ix]

theorem slope_pay (g : Given) (k : Fin k0_t1_loop.trips) (r : Fin 512) (s : Fin 2048) :
    k0_pay7 (F := Ideal) (View.ld (Val := Elt Ideal) g.key (slab k)) (View.ld (Val := Elt Ideal) g.val (slab k)) g.query g.cot g.lse g.dl (ix2 r s)
      = slope g r (keyRow k s) := by
  unfold slope
  pointwise [k0_pay7]
  simp only [slab_ix, prob_pay]

theorem key_pay (g : Given) (k : Fin k0_t1_loop.trips) (a9 : FVec Ideal S1x8192x128 .f32) (s : Fin 2048) (l : Fin 128) :
    k0_pay28 (F := Ideal) (k0_pay9 (F := Ideal) (View.ld (Val := Elt Ideal) a9 (slab k)))
        (k0_pay10 (F := Ideal) (View.ld (Val := Elt Ideal) g.key (slab k)) (View.ld (Val := Elt Ideal) g.val (slab k)) g.query g.cot g.lse g.dl)
        (ix3 0 s l)
      = a9 (ix3 0 (keyRow k s) l) + keyAt g (keyRow k s) l := by
  unfold keyAt
  pointwise [k0_pay28, k0_pay9, k0_pay10]
  simp only [slab_ix, slope_pay]

theorem val_pay (g : Given) (k : Fin k0_t1_loop.trips) (a10 : FVec Ideal S1x8192x128 .f32) (s : Fin 2048) (l : Fin 128) :
    k0_pay8 (F := Ideal) (View.ld (Val := Elt Ideal) g.key (slab k)) g.query g.cot g.lse (View.ld (Val := Elt Ideal) a10 (slab k)) (ix3 0 s l)
      = a10 (ix3 0 (keyRow k s) l) + valAt g (keyRow k s) l := by
  unfold valAt
  pointwise [k0_pay8]
  simp only [slab_ix, prob_pay]

theorem query_pay (g : Given) (k : Fin k0_t1_loop.trips) (a15 : FVec Ideal S512x128 .f32) (r : Fin 512) (l : Fin 128) :
    k0_pay29 (F := Ideal) (k0_pay5 (F := Ideal) (View.ld (Val := Elt Ideal) g.key (slab k)))
        (k0_pay7 (F := Ideal) (View.ld (Val := Elt Ideal) g.key (slab k)) (View.ld (Val := Elt Ideal) g.val (slab k)) g.query g.cot g.lse g.dl)
        a15 (ix2 r l)
      = a15 (ix2 r l) + queryPart g r l k := by
  unfold queryPart
  pointwise [k0_pay29, k0_pay5]
  simp only [slab_ix, slope_pay]

section lists

variable (g : Given) (b9 b10 : Memref sig .tc .vmem S1x8192x128 .f32) (b15 : Memref sig .tc .vmem S512x128 .f32)
  (f9 : BufTy.Contents (Elt Ideal) b9.view.ty) (f10 : BufTy.Contents (Elt Ideal) b10.view.ty) (f15 : BufTy.Contents (Elt Ideal) b15.view.ty)

/-- The pieces of the first `k` trips, newest first. -/
def lists : ℕ → List (View.Piece (Elt Ideal) S1x8192x128 .f32) × List (View.Piece (Elt Ideal) S1x8192x128 .f32)
      × List (View.Piece (Elt Ideal) S512x128 .f32)
  | 0 => ([], [], [])
  | k + 1 =>
    let prev := lists k
    if h : k < k0_t1_loop.trips then
      let new := stores g ⟨k, h⟩ (b9.view.read (Elt Ideal) (b9.view.writes (Elt Ideal) f9 prev.1))
        (b10.view.read (Elt Ideal) (b10.view.writes (Elt Ideal) f10 prev.2.1))
        (b15.view.read (Elt Ideal) (b15.view.writes (Elt Ideal) f15 prev.2.2))
      (new.1 ++ prev.1, new.2.1 ++ prev.2.1, new.2.2 ++ prev.2.2)
    else prev

theorem lists_succ (k : Fin k0_t1_loop.trips) : lists g b9 b10 b15 f9 f10 f15 (k.val + 1)
    = let prev := lists g b9 b10 b15 f9 f10 f15 k.val
      let new := stores g k (b9.view.read (Elt Ideal) (b9.view.writes (Elt Ideal) f9 prev.1))
        (b10.view.read (Elt Ideal) (b10.view.writes (Elt Ideal) f10 prev.2.1))
        (b15.view.read (Elt Ideal) (b15.view.writes (Elt Ideal) f15 prev.2.2))
      (new.1 ++ prev.1, new.2.1 ++ prev.2.1, new.2.2 ++ prev.2.2) := by
  rw [lists]; exact dif_pos k.isLt

/-- A key before the trip's block, in it, or behind it. -/
theorem slab_cases (k : Fin k0_t1_loop.trips) (s : Fin 8192) :
    (∃ x : Fin 2048, s = keyRow k x) ∨ (s : ℕ) < k.val * 2048 ∨ k.val * 2048 + 2048 ≤ (s : ℕ) := by
  by_cases h : (s : ℕ) < k.val * 2048
  · exact .inr (.inl h)
  · by_cases h' : k.val * 2048 + 2048 ≤ (s : ℕ)
    · exact .inr (.inr h')
    · exact .inl ⟨⟨(s : ℕ) - k.val * 2048, by omega⟩, Fin.ext (by simp [keyRow]; omega)⟩

/-- Reading an array of sums after a trip: the trip's block anew, the rest as it was. -/
theorem read_slab (b : Memref sig .tc .vmem S1x8192x128 .f32) (f : BufTy.Contents (Elt Ideal) b.view.ty) (k : Fin k0_t1_loop.trips)
    (w : FVec Ideal S1x2048x128 .f32) (P : List (View.Piece (Elt Ideal) S1x8192x128 .f32)) (s : Fin 8192) (l : Fin 128) (after : Ideal .f32)
    (hin : ∀ x : Fin 2048, s = keyRow k x → w (ix3 0 x l) = after)
    (hout : (s : ℕ) < k.val * 2048 ∨ k.val * 2048 + 2048 ≤ (s : ℕ) → b.view.read (Elt Ideal) (b.view.writes (Elt Ideal) f P) (ix3 0 s l) = after) :
    b.view.read (Elt Ideal) (b.view.writes (Elt Ideal) f (⟨slab k, w⟩ :: P)) (ix3 0 s l) = after := by
  rcases slab_cases k s with ⟨x, rfl⟩ | h
  · refine (View.read_writes_cons_unit_of_mem b.view f (k0_off1_inb k) w P _ (ix3 0 x l) (off_eq k) fun a => ?_).trans (hin x rfl)
    fin_cases a <;> simp [keyRow]
  · refine (View.read_writes_cons_unit_of_not_mem b.view f (k0_off1_inb k) w P _ (off_eq k) 1 ?_).trans (hout h)
    simpa using h

/-- The keys' sums before trip `k`: the blocks so far have been added to. -/
theorem read_keys (k : ℕ) (hk : k ≤ 4) (s : Fin 8192) (l : Fin 128) :
    b9.view.read (Elt Ideal) (b9.view.writes (Elt Ideal) f9 (lists g b9 b10 b15 f9 f10 f15 k).1) (ix3 0 s l)
      = if (s : ℕ) < k * 2048 then b9.view.read (Elt Ideal) f9 (ix3 0 s l) + keyAt g s l else b9.view.read (Elt Ideal) f9 (ix3 0 s l) := by
  induction k with
  | zero => simp [lists]
  | succ k ih =>
    have hk' : k < k0_t1_loop.trips := hk
    rw [lists_succ g b9 b10 b15 f9 f10 f15 ⟨k, hk'⟩]
    refine read_slab b9 f9 ⟨k, hk'⟩ _ _ s l _ (fun x hx => ?_) (fun h => ?_)
    · rw [key_pay, ← hx, ih (by omega), if_neg (by subst hx; simp [keyRow]), if_pos (by subst hx; simp [keyRow]; omega)]
    · refine (ih (by omega)).trans ?_
      simp only [] at h
      split_ifs <;> first | rfl | omega

theorem read_vals (k : ℕ) (hk : k ≤ 4) (s : Fin 8192) (l : Fin 128) :
    b10.view.read (Elt Ideal) (b10.view.writes (Elt Ideal) f10 (lists g b9 b10 b15 f9 f10 f15 k).2.1) (ix3 0 s l)
      = if (s : ℕ) < k * 2048 then b10.view.read (Elt Ideal) f10 (ix3 0 s l) + valAt g s l else b10.view.read (Elt Ideal) f10 (ix3 0 s l) := by
  induction k with
  | zero => simp [lists]
  | succ k ih =>
    have hk' : k < k0_t1_loop.trips := hk
    rw [lists_succ g b9 b10 b15 f9 f10 f15 ⟨k, hk'⟩]
    refine read_slab b10 f10 ⟨k, hk'⟩ _ _ s l _ (fun x hx => ?_) (fun h => ?_)
    · rw [val_pay, ← hx, ih (by omega), if_neg (by subst hx; simp [keyRow]), if_pos (by subst hx; simp [keyRow]; omega)]
    · refine (ih (by omega)).trans ?_
      simp only [] at h
      split_ifs <;> first | rfl | omega

/-- The queries' sums before trip `k`: one part per block so far. -/
theorem read_queries (k : ℕ) (hk : k ≤ 4) (r : Fin 512) (l : Fin 128) :
    b15.view.read (Elt Ideal) (b15.view.writes (Elt Ideal) f15 (lists g b9 b10 b15 f9 f10 f15 k).2.2) (ix2 r l)
      = b15.view.read (Elt Ideal) f15 (ix2 r l) + ∑ j : Fin k, queryPart g r l ⟨j, by omega⟩ := by
  induction k with
  | zero => simp [lists]
  | succ k ih =>
    have hk' : k < k0_t1_loop.trips := hk
    rw [lists_succ g b9 b10 b15 f9 f10 f15 ⟨k, hk'⟩, Fin.sum_univ_castSucc, ← add_assoc]
    refine (View.read_writes_cons_unit_of_mem b15.view f15 inb_S512x128_S512x128_0_0 _ _ _ (ix2 r l) zero2 fun a => by simp).trans ?_
    rw [query_pay, ih (by omega)]
    rfl

/-- After all four trips every key's row has been stored. -/
theorem mem_keys (k : ℕ) (hk : k ≤ 4) (s : Fin 8192) (l : Fin 128) (hs : (s : ℕ) < k * 2048) :
    (∃ p ∈ (lists g b9 b10 b15 f9 f10 f15 k).1, (ix3 0 s l : S1x8192x128.Idx) ∈ p.1.set)
      ∧ ∃ p ∈ (lists g b9 b10 b15 f9 f10 f15 k).2.1, (ix3 0 s l : S1x8192x128.Idx) ∈ p.1.set := by
  induction k with
  | zero => omega
  | succ k ih =>
    have hk' : k < k0_t1_loop.trips := hk
    rw [lists_succ g b9 b10 b15 f9 f10 f15 ⟨k, hk'⟩]
    rcases slab_cases ⟨k, hk'⟩ s with ⟨x, rfl⟩ | h | h
    · have hx : (ix3 0 (keyRow ⟨k, hk'⟩ x) l : S1x8192x128.Idx) ∈ (slab ⟨k, hk'⟩).set := by
        refine (LoadRect.mem_set _).mpr fun a => ?_
        have h := off_eq ⟨k, hk'⟩
        fin_cases a
        · exact ⟨0, Nat.one_pos, by simp [slab, Rect.unit, h]⟩
        · exact ⟨x, x.isLt, by simp [slab, Rect.unit, h, keyRow]⟩
        · exact ⟨l, l.isLt, by simp [slab, Rect.unit, h]⟩
      exact ⟨⟨_, List.mem_cons_self, hx⟩, ⟨_, List.mem_cons_self, hx⟩⟩
    · obtain ⟨⟨p, hp, hp'⟩, ⟨q, hq, hq'⟩⟩ := ih (by omega) h
      exact ⟨⟨p, List.mem_append_right _ hp, hp'⟩, ⟨q, List.mem_append_right _ hq, hq'⟩⟩
    · simp only [] at h; omega

/-- So what the four trips leave is what they found plus what the pass adds. -/
theorem canon_keys (rest : List (View.Piece (Elt Ideal) S1x8192x128 .f32)) (s : Fin 8192) (l : Fin 128) :
    View.canon ((lists g b9 b10 b15 f9 f10 f15 4).1 ++ rest) (ix3 0 s l) = b9.view.read (Elt Ideal) f9 (ix3 0 s l) + keyAt g s l := by
  obtain ⟨p, hp, hp'⟩ := (mem_keys g b9 b10 b15 f9 f10 f15 4 le_rfl s l (by omega)).1
  rw [← View.read_writes_junk_apply_eq_canon b9.view, View.writes_append, View.read_writes_apply_eq_canon b9.view _ _ _ ⟨p, hp, hp'⟩,
    ← View.read_writes_apply_eq_canon b9.view f9 _ _ ⟨p, hp, hp'⟩,
    read_keys g b9 b10 b15 f9 f10 f15 4 le_rfl s l, if_pos (by omega)]

theorem canon_vals (rest : List (View.Piece (Elt Ideal) S1x8192x128 .f32)) (s : Fin 8192) (l : Fin 128) :
    View.canon ((lists g b9 b10 b15 f9 f10 f15 4).2.1 ++ rest) (ix3 0 s l) = b10.view.read (Elt Ideal) f10 (ix3 0 s l) + valAt g s l := by
  obtain ⟨p, hp, hp'⟩ := (mem_keys g b9 b10 b15 f9 f10 f15 4 le_rfl s l (by omega)).2
  rw [← View.read_writes_junk_apply_eq_canon b10.view, View.writes_append, View.read_writes_apply_eq_canon b10.view _ _ _ ⟨p, hp, hp'⟩,
    ← View.read_writes_apply_eq_canon b10.view f10 _ _ ⟨p, hp, hp'⟩,
    read_vals g b9 b10 b15 f9 f10 f15 4 le_rfl s l, if_pos (by omega)]

/-- And what they leave of the queries' sums, begun with whatever `rest` left there. -/
theorem canon_queries (rest : List (View.Piece (Elt Ideal) S512x128 .f32)) (r : Fin 512) (l : Fin 128) :
    View.canon ((lists g b9 b10 b15 f9 f10 (b15.view.writes (Elt Ideal) b15.view.junk rest) 4).2.2 ++ rest) (ix2 r l)
      = View.canon rest (ix2 r l) + ∑ j : Fin 4, queryPart g r l j := by
  rw [← View.read_writes_junk_apply_eq_canon b15.view, View.writes_append, read_queries g b9 b10 b15 f9 f10 _ 4 le_rfl r l,
    View.read_writes_junk_apply_eq_canon]

end lists

section

variable (𝒱 : Variants) (c : Dev nD) (bd : Option 𝒱.V) (i : grid0.Coords) (arg2 : Memref sig .tc .vmem S256x256 .bf16) (harg2 : arg2.IsWhole) (arg3 : Memref sig .tc .vmem S256x256 .f32) (harg3 : arg3.IsWhole) (arg4 : Memref sig .tc .vmem S256x256 .bf16) (harg4 : arg4.IsWhole) (arg5 : Memref sig .tc .vmem S256x256 .f32) (harg5 : arg5.IsWhole) (arg6 : Memref sig .tc .vmem S1x8192x128 .bf16) (harg6 : arg6.IsWhole) (arg7 : Memref sig .tc .vmem S1x8192x128 .bf16) (harg7 : arg7.IsWhole) (arg8 : Memref sig .tc .vmem S256x256 .f32) (harg8 : arg8.IsWhole) (arg9 : Memref sig .tc .vmem S1x8192x128 .f32) (harg9 : arg9.IsWhole) (arg10 : Memref sig .tc .vmem S1x8192x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S512x1 .f32) (harg13 : arg13.IsWhole) (arg14 : Memref sig .tc .vmem S512x1 .f32) (harg14 : arg14.IsWhole) (arg15 : Memref sig .tc .vmem S512x128 .f32) (harg15 : arg15.IsWhole) (v2 : IVec S256x128 1) (c0_i32_34 : BitVec 32) (X_arg6 : BufTy.Contents (Elt Ideal) arg6.view.ty) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (G_arg9 : BufTy.Contents (Elt Ideal) arg9.view.ty) (G_arg10 : BufTy.Contents (Elt Ideal) arg10.view.ty) (G_arg15 : BufTy.Contents (Elt Ideal) arg15.view.ty)

/-- The first head pair's pieces are these. -/
theorem pass1 (k : ℕ) : pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v2 c0_i32_34 X_arg6 X_arg7 X_arg11 X_arg12 X_arg13 X_arg14 G_arg9 G_arg10 G_arg15 k
    = lists ⟨arg6.view.read (Elt Ideal) X_arg6, arg7.view.read (Elt Ideal) X_arg7, arg11.view.read (Elt Ideal) X_arg11,
        arg12.view.read (Elt Ideal) X_arg12, arg13.view.read (Elt Ideal) X_arg13, arg14.view.read (Elt Ideal) X_arg14⟩
      arg9 arg10 arg15 G_arg9 G_arg10 G_arg15 k := by
  induction k with
  | zero => rfl
  | succ k ih =>
    rw [pb_k0_t1, ih, lists]
    unfold pb_k0_t1Step
    by_cases h : k < k0_t1_loop.trips
    · rw [dif_pos h, dif_pos h, trip1]
    · rw [dif_neg h, dif_neg h]

end

section

variable (𝒱 : Variants) (c : Dev nD) (bd : Option 𝒱.V) (i : grid0.Coords) (arg2 : Memref sig .tc .vmem S256x256 .bf16) (harg2 : arg2.IsWhole) (arg3 : Memref sig .tc .vmem S256x256 .f32) (harg3 : arg3.IsWhole) (arg4 : Memref sig .tc .vmem S256x256 .bf16) (harg4 : arg4.IsWhole) (arg5 : Memref sig .tc .vmem S256x256 .f32) (harg5 : arg5.IsWhole) (arg6 : Memref sig .tc .vmem S1x8192x128 .bf16) (harg6 : arg6.IsWhole) (arg7 : Memref sig .tc .vmem S1x8192x128 .bf16) (harg7 : arg7.IsWhole) (arg8 : Memref sig .tc .vmem S256x256 .f32) (harg8 : arg8.IsWhole) (arg9 : Memref sig .tc .vmem S1x8192x128 .f32) (harg9 : arg9.IsWhole) (arg10 : Memref sig .tc .vmem S1x8192x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S512x1 .f32) (harg13 : arg13.IsWhole) (arg14 : Memref sig .tc .vmem S512x1 .f32) (harg14 : arg14.IsWhole) (arg15 : Memref sig .tc .vmem S512x128 .f32) (harg15 : arg15.IsWhole) (X_arg6 : BufTy.Contents (Elt Ideal) arg6.view.ty) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (G_arg9 : BufTy.Contents (Elt Ideal) arg9.view.ty) (G_arg10 : BufTy.Contents (Elt Ideal) arg10.view.ty) (G_arg15 : BufTy.Contents (Elt Ideal) arg15.view.ty)

/-- The second head pair's pieces are these. -/
theorem pass2 (k : ℕ) : pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 X_arg6 X_arg7 X_arg11 X_arg12 X_arg13 X_arg14 G_arg9 G_arg10 G_arg15 k
    = lists ⟨arg6.view.read (Elt Ideal) X_arg6, arg7.view.read (Elt Ideal) X_arg7, arg11.view.read (Elt Ideal) X_arg11,
        arg12.view.read (Elt Ideal) X_arg12, arg13.view.read (Elt Ideal) X_arg13, arg14.view.read (Elt Ideal) X_arg14⟩
      arg9 arg10 arg15 G_arg9 G_arg10 G_arg15 k := by
  induction k with
  | zero => rfl
  | succ k ih =>
    rw [pb_k0_t2, ih, lists]
    unfold pb_k0_t2Step
    by_cases h : k < k0_t1_loop.trips
    · rw [dif_pos h, dif_pos h, trip2]
    · rw [dif_neg h, dif_neg h]

end

end Cert.AttnIdeal.Trip

end
-- ==== Proof.Attn.Stack.lean ====
/- How the attention gradient stacks two heads: the low half of the lanes of each, one head's rows above the other's. -/
module

public import proofs.«01_k».proof.Proof.Attn.Pass

@[expose] public section

set_option maxRecDepth 16384

noncomputable section

open Idealize.ShloMosaic Idealize.ShloMosaic.TcCoe Idealize.SL.Sem

namespace Cert.AttnIdeal.Stack

open Cert.AttnIdeal Cert.AttnIdeal.Gen

/-- Row `r` of head `h` of the two. -/
def up (h : Fin 2) (r : Fin 256) : Fin 512 := ⟨h * 256 + r, by omega⟩

/-- Lane `l` of head `h` of the two. -/
def lane (h : Fin 2) (l : Fin 64) : Fin 128 := ⟨h * 64 + l, by omega⟩

theorem low : ∀ l : Fin 128, IntOp.cmpi .slt (BitVec.ofNat 32 l) 64#32 = if (l : ℕ) < 64 then 1#1 else 0#1 := by decide +kernel

theorem pick_low {α : Type} (l : Fin 128) (a b : α) :
    Scalar.select (IntOp.cmpi .slt (BitVec.ofNat 32 l) 64#32) a b = if (l : ℕ) < 64 then a else b := by
  rw [low]; split_ifs <;> rfl

theorem pick_lane0 {α : Type} (l : Fin 64) (a b : α) :
    Scalar.select (IntOp.cmpi .slt (BitVec.ofNat 32 (lane 0 l)) 64#32) a b = a := by
  rw [pick_low, if_pos (by simp [lane])]

theorem pick_lane1 {α : Type} (l : Fin 64) (a b : α) :
    Scalar.select (IntOp.cmpi .slt (BitVec.ofNat 32 (lane 1 l)) 64#32) a b = b := by
  rw [pick_low, if_neg (by simp [lane])]

/-- An eighth, a sixty-fourth and sixty-four, as the program writes them. -/
abbrev w8 : Ideal .f32 := Ideal.ofBits .f32 0x3E000000#32
abbrev w64 : Ideal .f32 := Ideal.ofBits .f32 0x3C800000#32
abbrev wHead : Ideal .f32 := Ideal.ofBits .f32 0x42800000#32

theorem query_low (x : FVec Ideal S256x128 .bf16) (h : Fin 2) (r : Fin 256) (l : Fin 64) :
    k0_pay21 (F := Ideal) x (ix2 (up h r) (lane 0 l)) = x (ix2 r (lane h l)) * w8 := by
  pointwise [k0_pay21, k0_pay17]
  simp only [pick_lane0]
  fin_cases h
  · rw [dif_pos (by simp [up])]
    refine congrArg (fun i => x i * w8) ?_
    congr 1; exact Fin.ext (by simp [up])
  · rw [dif_neg (by simp [up])]
    refine congrArg (fun i => x i * w8) ?_
    congr 1 <;> refine Fin.ext ?_ <;> simp [up, lane]; omega

theorem query_high (x : FVec Ideal S256x128 .bf16) (r : Fin 512) (l : Fin 64) : k0_pay21 (F := Ideal) x (ix2 r (lane 1 l)) = 0 := by
  pointwise [k0_pay21, k0_pay17]
  simp only [pick_lane1]
  split_ifs <;> rfl

theorem cot_low (x : FVec Ideal S256x128 .f32) (h : Fin 2) (r : Fin 256) (l : Fin 64) :
    k0_pay22 (F := Ideal) x (ix2 (up h r) (lane 0 l)) = x (ix2 r (lane h l)) := by
  pointwise [k0_pay22, k0_pay20, k0_pay17]
  simp only [pick_lane0]
  fin_cases h
  · rw [dif_pos (by simp [up])]
    refine congrArg x ?_
    congr 1; exact Fin.ext (by simp [up])
  · rw [dif_neg (by simp [up])]
    refine congrArg x ?_
    congr 1 <;> refine Fin.ext ?_ <;> simp [up, lane]; omega

theorem cot_high (x : FVec Ideal S256x128 .f32) (r : Fin 512) (l : Fin 64) : k0_pay22 (F := Ideal) x (ix2 r (lane 1 l)) = 0 := by
  pointwise [k0_pay22, k0_pay20, k0_pay17]
  simp only [pick_lane1]
  split_ifs <;> rfl

/-- A sum over both heads' lanes. -/
theorem sum_lanes (f : Fin 128 → EReal) : ∑ l, f l = ∑ l : Fin 64, f (lane 0 l) + ∑ l : Fin 64, f (lane 1 l) := by
  rw [Fin.sum_univ_tiles 2 64 rfl, Fin.sum_univ_two]
  rfl

theorem dl_at (x : FVec Ideal S256x128 .f32) (o : FVec Ideal S256x128 .bf16) (h : Fin 2) (r : Fin 256) :
    k0_pay25 (F := Ideal) k0_pay17 (k0_pay23 x o) k0_pay24 (ix2 (up h r) 0)
      = (∑ l : Fin 64, x (ix2 r (lane h l)) * o (ix2 r (lane h l))) * w64 * wHead := by
  pointwise [k0_pay25, k0_pay23, k0_pay24, k0_pay20, k0_pay17]
  fin_cases h
  · rw [dif_pos (by simp [up])]
    refine congrArg (fun z => z * w64 * wHead) ((sum_lanes _).trans ?_)
    have e : (⟨(up 0 r : ℕ), by simp [up]⟩ : Fin 256) = r := Fin.ext (by simp [up])
    simp only [pick_lane0, pick_lane1, Finset.sum_const_zero, add_zero, Fin.zero_eta, e]
  · rw [dif_neg (by simp [up])]
    refine congrArg (fun z => z * w64 * wHead) ((sum_lanes _).trans ?_)
    have e : (⟨(up 1 r : ℕ) - 256, by simp [up]⟩ : Fin 256) = r := Fin.ext (by simp [up])
    simp only [pick_lane0, pick_lane1, Finset.sum_const_zero, zero_add, Fin.mk_one, e]

/-- Where a head's lanes all hold one number, the row's entry is that number. -/
theorem lse_at (x : FVec Ideal S256x128 .f32) (h : Fin 2) (r : Fin 256) (v : Ideal .f32) (hv : ∀ l : Fin 64, x (ix2 r (lane h l)) = v) :
    k0_pay26 (F := Ideal) k0_pay17 x (ix2 (up h r) 0) = v := by
  pointwise [k0_pay26, k0_pay17]
  have bot : (Named.named κ "lane" 0xF2FC6F7C#32 : Ideal .f32) = ⊥ := rfl
  have bot' : Ideal.ofBits .f32 0xFF800000#32 = ⊥ := by simp [Ideal.ofBits, Ideal.ieee]
  have up_lane : ∀ l : Fin 128, ∃ l' : Fin 64, l = lane 0 l' ∨ l = lane 1 l' := fun l =>
    ⟨⟨(l : ℕ) % 64, by omega⟩, by
      by_cases hl : (l : ℕ) < 64
      · exact .inl (Fin.ext (by simp [lane]; omega))
      · exact .inr (Fin.ext (by simp [lane]; omega))⟩
  rw [bot, bot']
  have fold : ∀ f : Fin 128 → EReal, (∀ l, f l ≤ v) → (∃ l, f l = v) → Finset.fold max ⊥ f Finset.univ = v := fun f h1 h2 => by
    refine le_antisymm (Finset.fold_max_le _ |>.mpr ⟨bot_le, fun l _ => h1 l⟩) ?_
    obtain ⟨l, rfl⟩ := h2
    exact Finset.le_fold_max _ |>.mpr (.inr ⟨l, Finset.mem_univ _, le_rfl⟩)
  fin_cases h
  · rw [dif_pos (by simp [up])]
    have e : (⟨(up 0 r : ℕ), by simp [up]⟩ : Fin 256) = r := Fin.ext (by simp [up])
    refine fold _ (fun l => ?_) ⟨lane 0 0, ?_⟩
    · obtain ⟨l', rfl | rfl⟩ := up_lane l
      · rw [pick_lane0]; simp only [Fin.zero_eta, e]; exact (hv l').le
      · rw [pick_lane1]; exact bot_le
    · rw [pick_lane0]; simp only [Fin.zero_eta, e]; exact hv 0
  · rw [dif_neg (by simp [up])]
    have e : (⟨(up 1 r : ℕ) - 256, by simp [up]⟩ : Fin 256) = r := Fin.ext (by simp [up])
    refine fold _ (fun l => ?_) ⟨lane 1 0, ?_⟩
    · obtain ⟨l', rfl | rfl⟩ := up_lane l
      · rw [pick_lane0]; exact bot_le
      · rw [pick_lane1]; simp only [Fin.mk_one, e]; exact (hv l').le
    · rw [pick_lane1]; simp only [Fin.mk_one, e]; exact hv 0

theorem unstack (x : FVec Ideal S512x128 .f32) (h : Fin 2) (r : Fin 256) (l : Fin 64) :
    k0_pay30 (F := Ideal) k0_pay17 x (ix2 r (lane h l)) = x (ix2 (up h r) (lane 0 l)) * w8 := by
  pointwise [k0_pay30, k0_pay17]
  fin_cases h
  · simp only [Fin.zero_eta, pick_lane0]
    refine congrArg (fun i => x i * w8) ?_
    congr 1; exact Fin.ext (by simp [up])
  · simp only [Fin.mk_one, pick_lane1]
    refine congrArg (fun i => x i * w8) ?_
    congr 1 <;> refine Fin.ext ?_ <;> simp [up, lane] <;> omega

end Cert.AttnIdeal.Stack

end
-- ==== Proof.Attn.Blocks.lean ====
/- The attention gradient, block by block: what a grid point leaves in its three windows, as functions of the arrays the call is given. -/
module

public import proofs.«01_k».proof.Proof.Attn.Stack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnIdeal.Blocks

open Cert.AttnIdeal Cert.AttnIdeal.Gen Cert.AttnIdeal.Trip Cert.AttnIdeal.Stack

variable (m : (ℓ : Loc nD τ sig) → Buf (Elt Ideal) ℓ)

theorem trips : Scf.trips (0#32) (Scalar.addi 0#32 4#32) 1#32 = 4 := by decide

/-- The lanes of head pair `p` of a block of four heads. -/
def half {e : EltTy} (p : Fin 2) (x : Vec Ideal S256x256 e) : Vec Ideal S256x128 e :=
  fun y => x (ix2 (y 0) ⟨p * 128 + y 1, by have : (y 1 : ℕ) < 128 := (y 1).isLt; omega⟩)

theorem half_zero {e : EltTy} (x : Vec Ideal S256x256 e) (h) :
    View.ld (Val := Elt Ideal) x (Rect.unit ![0, 0] ![256, 128] h) = half 0 x := by
  funext y
  obtain ⟨r, l, rfl⟩ : ∃ (r : Fin 256) (l : Fin 128), y = ix2 r l := ⟨y 0, y 1, eq_ix2 y⟩
  refine congrArg x (funext fun a => Fin.ext ?_)
  fin_cases a <;> simp [LoadRect.idx, Rect.unit, ix2]

theorem half_one {e : EltTy} (x : Vec Ideal S256x256 e) (h) :
    View.ld (Val := Elt Ideal) x (Rect.unit ![0, 128] ![256, 128] h) = half 1 x := by
  funext y
  obtain ⟨r, l, rfl⟩ : ∃ (r : Fin 256) (l : Fin 128), y = ix2 r l := ⟨y 0, y 1, eq_ix2 y⟩
  refine congrArg x (funext fun a => Fin.ext ?_)
  fin_cases a <;> simp [LoadRect.idx, Rect.unit, ix2]

/-- What the pass of head pair `p` reads, from the blocks of queries, cotangents, outputs, log denominators, keys and values. -/
def given (p : Fin 2) (q : FVec Ideal S256x256 .bf16) (x : FVec Ideal S256x256 .f32) (o : FVec Ideal S256x256 .bf16)
    (lse : FVec Ideal S256x256 .f32) (k v : FVec Ideal S1x8192x128 .bf16) : Given where
  key := k
  val := v
  query := k0_pay21 (F := Ideal) (half p q)
  cot := k0_pay22 (F := Ideal) (half p x)
  lse := k0_pay26 (F := Ideal) k0_pay17 (half p lse)
  dl := k0_pay25 (F := Ideal) k0_pay17 (k0_pay23 (half p x) (half p o)) k0_pay24

/-- That of grid point `t`. -/
abbrev at_ (c : Dev nD) (t : Fin cfg0.N) (p : Fin 2) : Given :=
  given p (iblk m c 0 t) (iblk m c 1 t) (iblk m c 2 t) (iblk m c 3 t) (iblk m c 4 t) (iblk m c 5 t)

theorem key_zero (s : Fin 8192) (l : Fin 128) : k0_pay18 (F := Ideal) (ix3 0 s l) = 0 := by
  pointwise [k0_pay18]

theorem val_zero (s : Fin 8192) (l : Fin 128) : k0_pay19 (F := Ideal) (ix3 0 s l) = 0 := by
  pointwise [k0_pay19]

theorem query_zero (r : Fin 512) (l : Fin 128) : k0_pay27 (F := Ideal) (ix2 r l) = 0 := by
  pointwise [k0_pay27]

theorem query_zero' (r : Fin 512) (l : Fin 128) : k0_pay1 (F := Ideal) k0_pay36 (ix2 r l) = 0 := by
  pointwise [k0_pay1, k0_pay36]

theorem key_next (c : Dev nD) (t : Fin cfg0.N) (h0 : ¬ t.val % 32 = 0) (s : Fin 8192) (l : Fin 128) :
    (outsAt0 m c t.val t.isLt).2.1 (ix3 0 s l)
      = (outsAt0 m c (t.val - 1) (Nat.lt_of_le_of_lt (Nat.sub_le _ _) t.isLt)).2.1 (ix3 0 s l)
        + keyAt (at_ m c t 0) s l + keyAt (at_ m c t 1) s l := by
  rw [outsAt0_B m c t h0]; frame_out
  simp only [pass1, pass2, trips]
  refine (canon_keys _ _ _ _ _ _ _ _ s l).trans ?_
  rw [read_keys _ _ _ _ _ _ _ 4 le_rfl, if_pos (by omega)]
  simp only [View.read_writes_junk_eq_canon, Memref.IsWhole.read_unread, half_zero, half_one]
  simp only [View.canon_cons_unit_zero (S := S512x128) zero2, View.canon_cons_unit_zero (S := S512x1) zero2]
  rfl

theorem val_next (c : Dev nD) (t : Fin cfg0.N) (h0 : ¬ t.val % 32 = 0) (s : Fin 8192) (l : Fin 128) :
    (outsAt0 m c t.val t.isLt).2.2 (ix3 0 s l)
      = (outsAt0 m c (t.val - 1) (Nat.lt_of_le_of_lt (Nat.sub_le _ _) t.isLt)).2.2 (ix3 0 s l)
        + valAt (at_ m c t 0) s l + valAt (at_ m c t 1) s l := by
  rw [outsAt0_B m c t h0]; frame_out
  simp only [pass1, pass2, trips]
  refine (canon_vals _ _ _ _ _ _ _ _ s l).trans ?_
  rw [read_vals _ _ _ _ _ _ _ 4 le_rfl, if_pos (by omega)]
  simp only [View.read_writes_junk_eq_canon, Memref.IsWhole.read_unread, half_zero, half_one]
  simp only [View.canon_cons_unit_zero (S := S512x128) zero2, View.canon_cons_unit_zero (S := S512x1) zero2]
  rfl

theorem zero3 : (![0, 0, 0] : Fin 3 → ℕ) = fun _ => 0 := by funext a; fin_cases a <;> rfl

theorem key_first (c : Dev nD) (t : Fin cfg0.N) (h0 : t.val % 32 = 0) (s : Fin 8192) (l : Fin 128) :
    (outsAt0 m c t.val t.isLt).2.1 (ix3 0 s l) = 0 + keyAt (at_ m c t 0) s l + keyAt (at_ m c t 1) s l := by
  rw [outsAt0_A m c t h0]; frame_out
  simp only [pass1, pass2, trips]
  refine (canon_keys _ _ _ _ _ _ _ _ s l).trans ?_
  rw [View.writes_append, read_keys _ _ _ _ _ _ _ 4 le_rfl, if_pos (by omega)]
  simp only [View.read_writes_junk_eq_canon, Memref.IsWhole.read_unread, half_zero, half_one]
  simp only [View.canon_cons_unit_zero (S := S512x128) zero2, View.canon_cons_unit_zero (S := S512x1) zero2, View.canon_cons_unit_zero (S := S1x8192x128) zero3, key_zero, val_zero]
  rfl

theorem val_first (c : Dev nD) (t : Fin cfg0.N) (h0 : t.val % 32 = 0) (s : Fin 8192) (l : Fin 128) :
    (outsAt0 m c t.val t.isLt).2.2 (ix3 0 s l) = 0 + valAt (at_ m c t 0) s l + valAt (at_ m c t 1) s l := by
  rw [outsAt0_A m c t h0]; frame_out
  simp only [pass1, pass2, trips]
  refine (canon_vals _ _ _ _ _ _ _ _ s l).trans ?_
  rw [View.writes_append, read_vals _ _ _ _ _ _ _ 4 le_rfl, if_pos (by omega)]
  simp only [View.read_writes_junk_eq_canon, Memref.IsWhole.read_unread, half_zero, half_one]
  simp only [View.canon_cons_unit_zero (S := S512x128) zero2, View.canon_cons_unit_zero (S := S512x1) zero2, View.canon_cons_unit_zero (S := S1x8192x128) zero3, key_zero, val_zero]
  rfl

/-- Two pieces side by side, read at a lane of either. -/
theorem out_high (h1) (r : Fin 256) (l : Fin 128) (hl : 0 * 128 + (l : ℕ) < 256) :
    (ix2 r ⟨0 * 128 + l, hl⟩ : S256x256.Idx) ∉ (Rect.unit (s := S256x256) ![0, 128] ![256, 128] h1).set := fun h => by
  obtain ⟨j, _, hj⟩ := (LoadRect.mem_set _).mp h 1
  have hj' : 0 * 128 + (l : ℕ) = 128 + 1 * j := hj
  omega

theorem read_low (b : Memref sig .tc .vmem S256x256 .f32) (h0 h1) (x y : FVec Ideal S256x128 .f32) (r : Fin 256) (l : Fin 128)
    (hl : 0 * 128 + (l : ℕ) < 256) :
    View.canon (Val := Elt Ideal) (e := .f32) [⟨Rect.unit (s := S256x256) ![0, 128] ![256, 128] h1, y⟩,
      ⟨Rect.unit (s := S256x256) ![0, 0] ![256, 128] h0, x⟩] (ix2 r ⟨0 * 128 + l, hl⟩) = x (ix2 r l) := by
  refine (View.canon_cons_of_not_mem (Val := Elt Ideal) (e := .f32) ⟨Rect.unit (s := S256x256) ![0, 128] ![256, 128] h1, y⟩ _ (out_high h1 r l hl)).trans ?_
  rw [← View.read_writes_junk_apply_eq_canon b.view]
  refine View.read_writes_cons_unit_of_mem (Val := Elt Ideal) b.view b.view.junk h0 x [] (ix2 r ⟨0 * 128 + l, hl⟩) (ix2 r l) rfl (Fin.forall_fin_two.mpr ⟨?_, ?_⟩)
  · show (r : ℕ) = 0 + r; omega
  · show 0 * 128 + (l : ℕ) = 0 + l; omega

theorem read_high (b : Memref sig .tc .vmem S256x256 .f32) (h1) (y : FVec Ideal S256x128 .f32) (L) (r : Fin 256) (l : Fin 128)
    (hl : 1 * 128 + (l : ℕ) < 256) :
    View.canon (Val := Elt Ideal) (e := .f32) (⟨Rect.unit (s := S256x256) ![0, 128] ![256, 128] h1, y⟩ :: L) (ix2 r ⟨1 * 128 + l, hl⟩)
      = y (ix2 r l) := by
  rw [← View.read_writes_junk_apply_eq_canon b.view]
  exact View.read_writes_cons_unit_of_mem b.view b.view.junk h1 y L (ix2 r ⟨1 * 128 + l, hl⟩) (ix2 r l) rfl fun a => by fin_cases a <;> simp

theorem query_first (h) (r : Fin 512) (l : Fin 128) :
    View.canon (Val := Elt Ideal) (e := .f32) [⟨Rect.unit (s := S512x128) ![0, 0] ![512, 128] h, k0_pay27 (F := Ideal)⟩] (ix2 r l) = 0 := by
  rw [View.canon_cons_unit_zero (S := S512x128) zero2, query_zero]

theorem query_again (h) (L) (r : Fin 512) (l : Fin 128) :
    View.canon (Val := Elt Ideal) (e := .f32) (⟨Rect.unit (s := S512x128) ![0, 0] ![512, 128] h, k0_pay1 (F := Ideal) k0_pay36⟩ :: L) (ix2 r l) = 0 := by
  rw [View.canon_cons_unit_zero (S := S512x128) zero2, query_zero']

theorem read_wide (v : View sig .tc .vmem S512x128 .f32) (L : List (View.Piece (Elt Ideal) S512x128 .f32)) :
    v.readCov L wide.toLoadRect = View.canon L := by
  rw [View.readCov_eq_canon']
  funext j
  refine congrArg _ (funext fun a => Fin.ext ?_)
  fin_cases a <;> simp [LoadRect.idx]

theorem query_B (c : Dev nD) (t : Fin cfg0.N) (h0 : ¬ t.val % 32 = 0) (p : Fin 2) (r : Fin 256) (h : Fin 2) (l : Fin 64) :
    (outsAt0 m c t.val t.isLt).1 (ix2 r ⟨p * 128 + lane h l, by omega⟩)
      = (∑ j : Fin 4, queryPart (at_ m c t p) (up h r) (lane 0 l) j) * w8 := by
  rw [outsAt0_B m c t h0]; frame_out
  simp only [pass1, pass2, trips]
  obtain rfl | rfl : p = 0 ∨ p = 1 := by omega
  · refine (read_low (ms0_6 t) _ _ _ _ r (lane h l) _).trans ?_
    refine (unstack _ h r l).trans (congrArg (fun z => z * w8) ?_)
    rw [read_wide]
    refine (canon_queries _ _ _ scM0_4 _ _ _ _ _).trans ?_
    rw [query_first, zero_add]
    simp only [View.read_writes_junk_eq_canon, Memref.IsWhole.read_unread, half_zero, half_one]
    simp only [View.canon_cons_unit_zero (S := S512x128) zero2, View.canon_cons_unit_zero (S := S512x1) zero2]
    rfl
  · refine (read_high (ms0_6 t) _ _ _ r (lane h l) _).trans ?_
    refine (unstack _ h r l).trans (congrArg (fun z => z * w8) ?_)
    rw [read_wide]
    refine (canon_queries _ _ _ scM0_4 _ _ _ _ _).trans ?_
    rw [query_again, zero_add]
    simp only [View.read_writes_junk_eq_canon, Memref.IsWhole.read_unread, half_zero, half_one]
    simp only [View.canon_cons_unit_zero (S := S512x128) zero2, View.canon_cons_unit_zero (S := S512x1) zero2]
    rfl

theorem query_A (c : Dev nD) (t : Fin cfg0.N) (h0 : t.val % 32 = 0) (p : Fin 2) (r : Fin 256) (h : Fin 2) (l : Fin 64) :
    (outsAt0 m c t.val t.isLt).1 (ix2 r ⟨p * 128 + lane h l, by omega⟩)
      = (∑ j : Fin 4, queryPart (at_ m c t p) (up h r) (lane 0 l) j) * w8 := by
  rw [outsAt0_A m c t h0]; frame_out
  simp only [pass1, pass2, trips]
  obtain rfl | rfl : p = 0 ∨ p = 1 := by omega
  · refine (read_low (ms0_6 t) _ _ _ _ r (lane h l) _).trans ?_
    refine (unstack _ h r l).trans (congrArg (fun z => z * w8) ?_)
    rw [read_wide]
    refine (canon_queries _ _ _ scM0_4 _ _ _ _ _).trans ?_
    rw [query_first, zero_add]
    simp only [View.read_writes_junk_eq_canon, Memref.IsWhole.read_unread, half_zero, half_one]
    simp only [View.canon_cons_unit_zero (S := S512x128) zero2, View.canon_cons_unit_zero (S := S512x1) zero2]
    rfl
  · refine (read_high (ms0_6 t) _ _ _ r (lane h l) _).trans ?_
    refine (unstack _ h r l).trans (congrArg (fun z => z * w8) ?_)
    rw [read_wide]
    refine (canon_queries _ _ _ scM0_4 _ _ _ _ _).trans ?_
    rw [query_again, zero_add]
    simp only [View.read_writes_junk_eq_canon, Memref.IsWhole.read_unread, half_zero, half_one]
    simp only [View.canon_cons_unit_zero (S := S512x128) zero2, View.canon_cons_unit_zero (S := S512x1) zero2]
    rfl

end Cert.AttnIdeal.Blocks

end
-- ==== Proof.Attn.Arrays.lean ====
/- The attention gradient, block by block, over the whole arrays: what a grid point's pass of one head pair reads, weighs and adds. -/
module

public import proofs.«01_k».proof.Proof.Attn.Blocks

@[expose] public section

set_option maxRecDepth 16384

noncomputable section

open Idealize.ShloMosaic Idealize.ShloMosaic.TcCoe Idealize.SL.Sem

namespace Cert.AttnIdeal.Arrays

open Cert.AttnIdeal Cert.AttnIdeal.Gen Cert.AttnIdeal.Trip Cert.AttnIdeal.Stack Cert.AttnIdeal.Blocks

/-- The arrays the call is given. -/
structure Arrays where
  q : FVec Ideal S8192x512 .bf16
  x : FVec Ideal S8192x512 .f32
  o : FVec Ideal S8192x512 .bf16
  lse : FVec Ideal S8192x512 .f32
  k : FVec Ideal S2x8192x128 .bf16
  v : FVec Ideal S2x8192x128 .bf16

/-- Lane `l` of head `h` of pair `p` of the four heads sharing keys `c`. -/
def col (c p h : Fin 2) (l : Fin 64) : Fin 512 := ⟨c * 256 + (p * 128 + lane h l), by omega⟩

/-- The weight row `R` of a head gives key `s`. -/
def probG (A : Arrays) (R : Fin 8192) (c p h : Fin 2) (s : Fin 8192) : Ideal .f32 :=
  FloatOps.exp (FloatOps.subf (∑ l : Fin 64, A.q (ix2 R (col c p h l)) * w8 * A.k (ix3 c s (lane 0 l))) (A.lse (ix2 R (col c p h 0))))

/-- The gradient of that pair's score. -/
def slopeG (A : Arrays) (R : Fin 8192) (c p h : Fin 2) (s : Fin 8192) : Ideal .f32 :=
  probG A R c p h s * FloatOps.subf (∑ l : Fin 64, A.x (ix2 R (col c p h l)) * A.v (ix3 c s (lane 0 l)))
    ((∑ l : Fin 64, A.x (ix2 R (col c p h l)) * A.o (ix2 R (col c p h l))) * w64 * wHead)

/-- The log denominators stand over all lanes of their head. -/
def Spread (A : Arrays) : Prop := ∀ R c p h l, A.lse (ix2 R (col c p h l)) = A.lse (ix2 R (col c p h 0))

/-- The windows' block indices: rows of 256, the heads sharing one pair of keys and values. -/
theorem idx : ∀ t : Fin cfg0.N, win0_0.index t = ![t.val % 32, t.val / 32] ∧ win0_1.index t = ![t.val % 32, t.val / 32]
    ∧ win0_2.index t = ![t.val % 32, t.val / 32] ∧ win0_3.index t = ![t.val % 32, t.val / 32] ∧ win0_4.index t = ![t.val / 32, 0, 0]
    ∧ win0_5.index t = ![t.val / 32, 0, 0] ∧ win0_6.index t = ![t.val % 32, t.val / 32] ∧ win0_7.index t = ![t.val / 32, 0, 0]
    ∧ win0_8.index t = ![t.val / 32, 0, 0] := (by decide +kernel : ∀ t : Fin grid0.N, _)

/-- Row `r` of point `t`'s block, and the keys it reads. -/
def row (t : Fin cfg0.N) (r : Fin 256) : Fin 8192 := ⟨t.val % 32 * 256 + (r : ℕ), by omega⟩
def pair (t : Fin cfg0.N) : Fin 2 := ⟨t.val / 32, by have := lt_of_lt_of_eq t.isLt N_0; omega⟩

/- A window's block read at one of its cells, of whatever array it is cut from. -/

theorem q_read (a : FVec Ideal S8192x512 .bf16) (t : Fin cfg0.N) (p h : Fin 2) (r : Fin 256) (l : Fin 64) (hb) :
    View.read (Elt Ideal) ((cfg0.win 0).blk t).view a (ix2 r ⟨p * 128 + lane h l, hb⟩) = a (ix2 (row t r) (col (pair t) p h l)) := by
  unfold row pair col; blk_point [idx t]

theorem x_read (a : FVec Ideal S8192x512 .f32) (t : Fin cfg0.N) (p h : Fin 2) (r : Fin 256) (l : Fin 64) (hb) :
    View.read (Elt Ideal) ((cfg0.win 1).blk t).view a (ix2 r ⟨p * 128 + lane h l, hb⟩) = a (ix2 (row t r) (col (pair t) p h l)) := by
  unfold row pair col; blk_point [idx t]

theorem o_read (a : FVec Ideal S8192x512 .bf16) (t : Fin cfg0.N) (p h : Fin 2) (r : Fin 256) (l : Fin 64) (hb) :
    View.read (Elt Ideal) ((cfg0.win 2).blk t).view a (ix2 r ⟨p * 128 + lane h l, hb⟩) = a (ix2 (row t r) (col (pair t) p h l)) := by
  unfold row pair col; blk_point [idx t]

theorem lse_read (a : FVec Ideal S8192x512 .f32) (t : Fin cfg0.N) (p h : Fin 2) (r : Fin 256) (l : Fin 64) (hb) :
    View.read (Elt Ideal) ((cfg0.win 3).blk t).view a (ix2 r ⟨p * 128 + lane h l, hb⟩) = a (ix2 (row t r) (col (pair t) p h l)) := by
  unfold row pair col; blk_point [idx t]

theorem k_read (a : FVec Ideal S2x8192x128 .bf16) (t : Fin cfg0.N) (s : Fin 8192) (l : Fin 128) :
    View.read (Elt Ideal) ((cfg0.win 4).blk t).view a (ix3 0 s l) = a (ix3 (pair t) s l) := by
  unfold pair; blk_point [idx t]

theorem v_read (a : FVec Ideal S2x8192x128 .bf16) (t : Fin cfg0.N) (s : Fin 8192) (l : Fin 128) :
    View.read (Elt Ideal) ((cfg0.win 5).blk t).view a (ix3 0 s l) = a (ix3 (pair t) s l) := by
  unfold pair; blk_point [idx t]

section

variable (m : (ℓ : Loc nD τ sig) → Buf (Elt Ideal) ℓ)

/-- As the region finds them. -/
def given_ (c : Dev nD) : Arrays where
  q := V m c main_v59
  x := V m c main_v60
  o := V m c main_v39
  lse := V m c main_v57
  k := V m c main_v6
  v := V m c main_v18

theorem q_iblk (c : Dev nD) (t : Fin cfg0.N) (p h : Fin 2) (r : Fin 256) (l : Fin 64) (hb) :
    iblk m c 0 t (ix2 r ⟨p * 128 + lane h l, hb⟩) = (given_ m c).q (ix2 (row t r) (col (pair t) p h l)) :=
  q_read _ t p h r l hb

theorem x_iblk (c : Dev nD) (t : Fin cfg0.N) (p h : Fin 2) (r : Fin 256) (l : Fin 64) (hb) :
    iblk m c 1 t (ix2 r ⟨p * 128 + lane h l, hb⟩) = (given_ m c).x (ix2 (row t r) (col (pair t) p h l)) :=
  x_read _ t p h r l hb

theorem o_iblk (c : Dev nD) (t : Fin cfg0.N) (p h : Fin 2) (r : Fin 256) (l : Fin 64) (hb) :
    iblk m c 2 t (ix2 r ⟨p * 128 + lane h l, hb⟩) = (given_ m c).o (ix2 (row t r) (col (pair t) p h l)) :=
  o_read _ t p h r l hb

theorem lse_iblk (c : Dev nD) (t : Fin cfg0.N) (p h : Fin 2) (r : Fin 256) (l : Fin 64) (hb) :
    iblk m c 3 t (ix2 r ⟨p * 128 + lane h l, hb⟩) = (given_ m c).lse (ix2 (row t r) (col (pair t) p h l)) :=
  lse_read _ t p h r l hb

theorem k_iblk (c : Dev nD) (t : Fin cfg0.N) (s : Fin 8192) (l : Fin 128) :
    iblk m c 4 t (ix3 0 s l) = (given_ m c).k (ix3 (pair t) s l) :=
  k_read _ t s l

theorem v_iblk (c : Dev nD) (t : Fin cfg0.N) (s : Fin 8192) (l : Fin 128) :
    iblk m c 5 t (ix3 0 s l) = (given_ m c).v (ix3 (pair t) s l) :=
  v_read _ t s l

variable (c : Dev nD) (t : Fin cfg0.N) (p : Fin 2)

theorem query_at (h : Fin 2) (r : Fin 256) (l : Fin 64) :
    (at_ m c t p).query (ix2 (up h r) (lane 0 l)) = (given_ m c).q (ix2 (row t r) (col (pair t) p h l)) * w8 :=
  (query_low _ h r l).trans (congrArg (fun z => z * w8) (q_iblk m c t p h r l _))

theorem query_none (r : Fin 512) (l : Fin 64) : (at_ m c t p).query (ix2 r (lane 1 l)) = 0 := query_high _ r l

theorem cot_at (h : Fin 2) (r : Fin 256) (l : Fin 64) :
    (at_ m c t p).cot (ix2 (up h r) (lane 0 l)) = (given_ m c).x (ix2 (row t r) (col (pair t) p h l)) :=
  (cot_low _ h r l).trans (x_iblk m c t p h r l _)

theorem cot_none (r : Fin 512) (l : Fin 64) : (at_ m c t p).cot (ix2 r (lane 1 l)) = 0 := cot_high _ r l

theorem dl_row (h : Fin 2) (r : Fin 256) : (at_ m c t p).dl (ix2 (up h r) 0)
    = (∑ l : Fin 64, (given_ m c).x (ix2 (row t r) (col (pair t) p h l)) * (given_ m c).o (ix2 (row t r) (col (pair t) p h l))) * w64 * wHead := by
  refine (dl_at _ _ h r).trans (congrArg (fun z => z * w64 * wHead) (Finset.sum_congr rfl fun l _ => ?_))
  exact congrArg₂ HMul.hMul (x_iblk m c t p h r l _) (o_iblk m c t p h r l _)

theorem lse_row (hs : Spread (given_ m c)) (h : Fin 2) (r : Fin 256) :
    (at_ m c t p).lse (ix2 (up h r) 0) = (given_ m c).lse (ix2 (row t r) (col (pair t) p h 0)) :=
  lse_at _ h r _ fun l => (lse_iblk m c t p h r l _).trans (hs _ _ _ _ l)

theorem key_at (s : Fin 8192) (l : Fin 128) : (at_ m c t p).key (ix3 0 s l) = (given_ m c).k (ix3 (pair t) s l) := k_iblk m c t s l

theorem val_at (s : Fin 8192) (l : Fin 128) : (at_ m c t p).val (ix3 0 s l) = (given_ m c).v (ix3 (pair t) s l) := v_iblk m c t s l

theorem prob_at (hs : Spread (given_ m c)) (h : Fin 2) (r : Fin 256) (s : Fin 8192) :
    prob (at_ m c t p) (up h r) s = probG (given_ m c) (row t r) (pair t) p h s := by
  unfold prob probG
  rw [sum_lanes, lse_row m c t p hs]
  simp only [query_at, query_none, key_at, zero_mul, Finset.sum_const_zero, add_zero]

theorem slope_at (hs : Spread (given_ m c)) (h : Fin 2) (r : Fin 256) (s : Fin 8192) :
    Trip.slope (at_ m c t p) (up h r) s = slopeG (given_ m c) (row t r) (pair t) p h s := by
  unfold Trip.slope slopeG
  rw [sum_lanes, prob_at m c t p hs, dl_row]
  simp only [cot_at, cot_none, val_at, zero_mul, Finset.sum_const_zero, add_zero]
  rfl

theorem sum_up (f : Fin 512 → EReal) : ∑ r, f r = ∑ h : Fin 2, ∑ r : Fin 256, f (up h r) := Fin.sum_univ_tiles 2 256 rfl f

theorem key_low (hs : Spread (given_ m c)) (s : Fin 8192) (l : Fin 64) : keyAt (at_ m c t p) s (lane 0 l)
    = ∑ h : Fin 2, ∑ r : Fin 256, slopeG (given_ m c) (row t r) (pair t) p h s * ((given_ m c).q (ix2 (row t r) (col (pair t) p h l)) * w8) := by
  unfold keyAt
  rw [sum_up]
  simp only [slope_at m c t p hs, query_at]

theorem key_high (s : Fin 8192) (l : Fin 64) : keyAt (at_ m c t p) s (lane 1 l) = 0 := by
  unfold keyAt
  simp only [query_none, mul_zero, Finset.sum_const_zero]

theorem val_low (hs : Spread (given_ m c)) (s : Fin 8192) (l : Fin 64) : valAt (at_ m c t p) s (lane 0 l)
    = ∑ h : Fin 2, ∑ r : Fin 256, probG (given_ m c) (row t r) (pair t) p h s * (given_ m c).x (ix2 (row t r) (col (pair t) p h l)) := by
  unfold valAt
  rw [sum_up]
  simp only [prob_at m c t p hs, cot_at]

theorem val_high (s : Fin 8192) (l : Fin 64) : valAt (at_ m c t p) s (lane 1 l) = 0 := by
  unfold valAt
  simp only [cot_none, mul_zero, Finset.sum_const_zero]

theorem query_sum (hs : Spread (given_ m c)) (h : Fin 2) (r : Fin 256) (l : Fin 64) :
    ∑ j : Fin 4, queryPart (at_ m c t p) (up h r) (lane 0 l) j
      = ∑ s : Fin 8192, slopeG (given_ m c) (row t r) (pair t) p h s * (given_ m c).k (ix3 (pair t) s (lane 0 l)) := by
  rw [Fin.sum_univ_tiles 4 2048 rfl]
  unfold queryPart
  simp only [slope_at m c t p hs, key_at]
  rfl

end

end Cert.AttnIdeal.Arrays

end
-- ==== Proof.Attn.Value.lean ====
/- What the attention gradient's call leaves in its three arrays. -/
module

public import proofs.«01_k».proof.Proof.Gen.AttnIdeal.Value
public import proofs.«01_k».proof.Proof.Attn.Arrays

@[expose] public section

set_option maxRecDepth 16384

noncomputable section

open Idealize.ShloMosaic Idealize.ShloMosaic.TcCoe Idealize.SL.Sem

namespace Cert.AttnIdeal.Arrays

open Cert.AttnIdeal Cert.AttnIdeal.Gen Cert.AttnIdeal.Trip Cert.AttnIdeal.Stack Cert.AttnIdeal.Blocks

/-- The queries' gradient at a head's lane. -/
def dqAt (A : Arrays) (R : Fin 8192) (c p h : Fin 2) (l : Fin 64) : Ideal .f32 :=
  (∑ s : Fin 8192, slopeG A R c p h s * A.k (ix3 c s (lane 0 l))) * w8

/-- The keys' and the values' gradients at a lane. -/
def dkAt (A : Arrays) (c : Fin 2) (s : Fin 8192) (l : Fin 64) : Ideal .f32 :=
  ∑ R : Fin 8192, ∑ p : Fin 2, ∑ h : Fin 2, slopeG A R c p h s * (A.q (ix2 R (col c p h l)) * w8)
def dvAt (A : Arrays) (c : Fin 2) (s : Fin 8192) (l : Fin 64) : Ideal .f32 :=
  ∑ R : Fin 8192, ∑ p : Fin 2, ∑ h : Fin 2, probG A R c p h s * A.x (ix2 R (col c p h l))

/-- The three arrays. The lanes above a head's 64 carry zero. -/
def dqG (A : Arrays) : FVec Ideal S8192x512 .f32 := fun i =>
  dqAt A (i 0) ⟨(i 1).val / 256, by have : (i 1).val < 512 := (i 1).isLt; omega⟩ ⟨(i 1).val % 256 / 128, by omega⟩ ⟨(i 1).val % 128 / 64, by omega⟩
    ⟨(i 1).val % 64, by omega⟩
def padded (f : Fin 2 → Fin 8192 → Fin 64 → Ideal .f32) : FVec Ideal S2x8192x128 .f32 := fun i =>
  if h : (i 2).val < 64 then f (i 0) (i 1) ⟨(i 2).val, h⟩ else 0

theorem dqG_at (A : Arrays) (R : Fin 8192) (c p h : Fin 2) (l : Fin 64) : dqG A (ix2 R (col c p h l)) = dqAt A R c p h l := by
  have h1 : (⟨(col c p h l).val / 256, by have := (col c p h l).isLt; omega⟩ : Fin 2) = c := Fin.ext (by simp only [col, lane]; omega)
  have h2 : (⟨(col c p h l).val % 256 / 128, by omega⟩ : Fin 2) = p := Fin.ext (by simp only [col, lane]; omega)
  have h3 : (⟨(col c p h l).val % 128 / 64, by omega⟩ : Fin 2) = h := Fin.ext (by simp only [col, lane]; omega)
  have h4 : (⟨(col c p h l).val % 64, by omega⟩ : Fin 64) = l := Fin.ext (by simp only [col, lane]; omega)
  show dqAt A R _ _ _ _ = _
  exact congr (congr (congr (congrArg (dqAt A R) h1) h2) h3) h4

theorem padded_low (f : Fin 2 → Fin 8192 → Fin 64 → Ideal .f32) (c : Fin 2) (s : Fin 8192) (l : Fin 64) :
    padded f (ix3 c s (lane 0 l)) = f c s l := by
  refine (dif_pos (show (lane 0 l).val < 64 by simp [lane])).trans (congrArg (f c s) (Fin.ext ?_))
  show (lane 0 l).val = l.val
  simp [lane]

theorem padded_high (f : Fin 2 → Fin 8192 → Fin 64 → Ideal .f32) (c : Fin 2) (s : Fin 8192) (l : Fin 64) :
    padded f (ix3 c s (lane 1 l)) = 0 := dif_neg (show ¬ (lane 1 l).val < 64 by simp [lane])

variable (m : (ℓ : Loc nD τ sig) → Buf (Elt Ideal) ℓ) (c : Dev nD)

theorem query_block (hs : Spread (given_ m c)) (t : Fin cfg0.N) (p h : Fin 2) (r : Fin 256) (l : Fin 64) (hb) :
    (outsAt0 m c t.val t.isLt).1 (ix2 r ⟨p * 128 + lane h l, hb⟩) = dqG (given_ m c) (ix2 (row t r) (col (pair t) p h l)) := by
  rw [dqG_at]
  unfold dqAt
  rw [← query_sum m c t p hs]
  by_cases h0 : t.val % 32 = 0
  · exact query_A m c t h0 p r h l
  · exact query_B m c t h0 p r h l

theorem final_dq (hs : Spread (given_ m c)) : (dats m 0 c).arrAt 6 (cfgs 0).N = dqG (given_ m c) := by
  refine (dats m 0 c).arrAt_eq_of_covers 6 _ (by decide +kernel) fun t hf y => ?_
  blk_simp
  rw [after0_6]
  obtain ⟨r, C, rfl⟩ : ∃ (r : Fin 256) (C : Fin 256), y = ix2 r C := ⟨y 0, y 1, eq_ix2 y⟩
  obtain ⟨p, h, l, rfl⟩ : ∃ (p h : Fin 2) (l : Fin 64), C = ⟨p * 128 + lane h l, by omega⟩ :=
    ⟨⟨C.val / 128, by omega⟩, ⟨C.val % 128 / 64, by omega⟩, ⟨C.val % 64, by omega⟩, Fin.ext (by simp only [lane]; omega)⟩
  refine (query_block m c hs t p h r l _).trans ?_
  refine congrArg (dqG (given_ m c)) ?_
  unfold row pair col
  blk_point [idx t]

/-- What a grid point adds to the keys' and to the values' gradients. -/
def keyBlk (t : Fin cfg0.N) : S1x8192x128.Idx → Ideal .f32 := fun y => keyAt (at_ m c t 0) (y 1) (y 2) + keyAt (at_ m c t 1) (y 1) (y 2)
def valBlk (t : Fin cfg0.N) : S1x8192x128.Idx → Ideal .f32 := fun y => valAt (at_ m c t 0) (y 1) (y 2) + valAt (at_ m c t 1) (y 1) (y 2)

/-- Point `i` of the 32 of head group `g`. -/
def at32 (g : Fin 2) (i : Fin 32) : Fin cfg0.N := ⟨32 * g + i, by have := N_0; show _ < grid0.N; omega⟩

theorem pair_at32 (g : Fin 2) (i : Fin 32) : pair (at32 g i) = g := Fin.ext (by simp only [pair, at32]; omega)
theorem row_at32 (g : Fin 2) (i : Fin 32) (r : Fin 256) : row (at32 g i) r = ⟨i * 256 + r, by omega⟩ :=
  Fin.ext (by simp only [row, at32]; omega)

theorem sum_rows (f : Fin 8192 → EReal) : ∑ R, f R = ∑ i : Fin 32, ∑ r : Fin 256, f ⟨i * 256 + r, by omega⟩ := Fin.sum_univ_tiles 32 256 rfl f

/-- A head group's points together: all rows, all four heads. -/
theorem collect (f : Fin 8192 → Fin 2 → Fin 2 → EReal) :
    (∑ i : Fin 32, ((∑ h : Fin 2, ∑ r : Fin 256, f ⟨i * 256 + r, by omega⟩ 0 h) + ∑ h : Fin 2, ∑ r : Fin 256, f ⟨i * 256 + r, by omega⟩ 1 h))
      = ∑ R : Fin 8192, ∑ p : Fin 2, ∑ h : Fin 2, f R p h := by
  rw [sum_rows]
  refine Finset.sum_congr rfl fun i _ => ?_
  simp only [Fin.sum_univ_two, Finset.sum_add_distrib]
  exact add_add_add_comm _ _ _ _

theorem key_sum (hs : Spread (given_ m c)) (g : Fin 2) (s : Fin 8192) (l : Fin 128) :
    ∑ i : Fin 32, keyBlk m c (at32 g i) (ix3 0 s l) = padded (dkAt (given_ m c)) (ix3 g s l) := by
  obtain ⟨h, l, rfl⟩ : ∃ (h : Fin 2) (l' : Fin 64), l = lane h l' :=
    ⟨⟨l.val / 64, by omega⟩, ⟨l.val % 64, by omega⟩, Fin.ext (by simp only [lane]; omega)⟩
  obtain rfl | rfl : h = 0 ∨ h = 1 := by omega
  · rw [padded_low]
    refine Eq.trans ?_ (collect fun R p h => slopeG (given_ m c) R g p h s * ((given_ m c).q (ix2 R (col g p h l)) * w8))
    refine Finset.sum_congr rfl fun i _ => ?_
    show keyAt (at_ m c (at32 g i) 0) s (lane 0 l) + keyAt (at_ m c (at32 g i) 1) s (lane 0 l) = _
    rw [key_low m c _ _ hs, key_low m c _ _ hs]
    simp only [pair_at32, row_at32]
  · rw [padded_high]
    refine Finset.sum_eq_zero fun i _ => ?_
    show keyAt (at_ m c (at32 g i) 0) s (lane 1 l) + keyAt (at_ m c (at32 g i) 1) s (lane 1 l) = _
    rw [key_high, key_high, add_zero]

theorem val_sum (hs : Spread (given_ m c)) (g : Fin 2) (s : Fin 8192) (l : Fin 128) :
    ∑ i : Fin 32, valBlk m c (at32 g i) (ix3 0 s l) = padded (dvAt (given_ m c)) (ix3 g s l) := by
  obtain ⟨h, l, rfl⟩ : ∃ (h : Fin 2) (l' : Fin 64), l = lane h l' :=
    ⟨⟨l.val / 64, by omega⟩, ⟨l.val % 64, by omega⟩, Fin.ext (by simp only [lane]; omega)⟩
  obtain rfl | rfl : h = 0 ∨ h = 1 := by omega
  · rw [padded_low]
    refine Eq.trans ?_ (collect fun R p h => probG (given_ m c) R g p h s * (given_ m c).x (ix2 R (col g p h l)))
    refine Finset.sum_congr rfl fun i _ => ?_
    show valAt (at_ m c (at32 g i) 0) s (lane 0 l) + valAt (at_ m c (at32 g i) 1) s (lane 0 l) = _
    rw [val_low m c _ _ hs, val_low m c _ _ hs]
    simp only [pair_at32, row_at32]
  · rw [padded_high]
    refine Finset.sum_eq_zero fun i _ => ?_
    show valAt (at_ m c (at32 g i) 0) s (lane 1 l) + valAt (at_ m c (at32 g i) 1) s (lane 1 l) = _
    rw [val_high, val_high, add_zero]

theorem split_y (y : S1x8192x128.Idx) : ∃ (s : Fin 8192) (l : Fin 128), y = ix3 0 s l :=
  ⟨y 1, y 2, (eq_ix3 y).trans (congrArg (fun z : Fin 1 => ix3 z (y 1) (y 2)) (Subsingleton.elim _ _))⟩

theorem final_dk (hs : Spread (given_ m c)) : (dats m 0 c).arrAt 7 (cfgs 0).N = padded (dkAt (given_ m c)) := by
  refine (dats m 0 c).arrAt_eq_of_covers 7 _ (by decide +kernel) fun t hf y => ?_
  blk_simp
  rw [after0_7, Pipeline.eq_sum_fin_of_reset_step_apply_of_flush (fun n h => (outsAt0 m c n h).2.1) 32 (fun _ => 0) (keyBlk m c)
    (fun t h0 j => by obtain ⟨s, l, rfl⟩ := split_y j; exact (key_first m c t h0 s l).trans (add_assoc _ _ _))
    (fun t h0 j => by obtain ⟨s, l, rfl⟩ := split_y j; exact (key_next m c t h0 s l).trans (add_assoc _ _ _))
    t ((flush0_7 t).mp hf) _, zero_add]
  obtain ⟨s, l, rfl⟩ := split_y y
  refine (key_sum m c hs (pair t) s l).trans ?_
  refine congrArg (padded (dkAt (given_ m c))) ?_
  unfold pair
  blk_point [idx t]

theorem final_dv (hs : Spread (given_ m c)) : (dats m 0 c).arrAt 8 (cfgs 0).N = padded (dvAt (given_ m c)) := by
  refine (dats m 0 c).arrAt_eq_of_covers 8 _ (by decide +kernel) fun t hf y => ?_
  blk_simp
  rw [after0_8, Pipeline.eq_sum_fin_of_reset_step_apply_of_flush (fun n h => (outsAt0 m c n h).2.2) 32 (fun _ => 0) (valBlk m c)
    (fun t h0 j => by obtain ⟨s, l, rfl⟩ := split_y j; exact (val_first m c t h0 s l).trans (add_assoc _ _ _))
    (fun t h0 j => by obtain ⟨s, l, rfl⟩ := split_y j; exact (val_next m c t h0 s l).trans (add_assoc _ _ _))
    t ((flush0_8 t).mp hf) _, zero_add]
  obtain ⟨s, l, rfl⟩ := split_y y
  refine (val_sum m c hs (pair t) s l).trans ?_
  refine congrArg (padded (dvAt (given_ m c))) ?_
  unfold pair
  blk_point [idx t]

end Cert.AttnIdeal.Arrays

end
-- ==== Proof.Attn.Plain.lean ====
/- The attention gradient, plain: its pieces named, and each read at an index. -/
module

public import proofs.«01_k».proof.Proof.Attn.Value
public import proofs.«01_k».proof.Proof.Gen.AttnRefIdeal.Run

@[expose] public section

set_option maxRecDepth 16384

noncomputable section

open Idealize.ShloMosaic Idealize.ShloMosaic.TcCoe Idealize.SL.Sem

namespace Cert.AttnRefIdeal.Plain

open Cert.AttnRefIdeal Cert.AttnRefIdeal.Gen
open Cert.AttnIdeal.Stack (w8 lane)
open Cert.AttnIdeal.Arrays (col)

/-- The scores. -/
def sc (Q : FVec Ideal S8192x8x64 .f32) (K : FVec Ideal S8192x2x64 .f32) : FVec Ideal S2x4x8192x8192 .f32 :=
  mulf (transpose S2x4x8192x8192 [0, 3, 2, 1] (Host.dotGeneral dot_S8192x2x64_S8192x2x4x64_S2x8192x8192x4_2_3_0_02_1_1 none K
    (shapeCast _ Q shapeCasts_S8192x8x64_S8192x2x4x64)) transposes_S2x8192x8192x4_S2x4x8192x8192_0_3_2_1)
    (broadcastInDim S2x4x8192x8192 ![] bcast_S_S2x4x8192x8192 (constant S_ .f32 0x3E000000#32))

/-- Their largest in a row. -/
def top (SC : FVec Ideal S2x4x8192x8192 .f32) : FVec Ideal S2x4x8192 .f32 :=
  Host.reduce FloatOps.maximumf SC (constant S_ .f32 0xFF800000#32) reducesTo_S2x4x8192x8192_S2x4x8192_d3 h_S_

def mx (T : FVec Ideal S2x4x8192 .f32) : FVec Ideal S2x4x8192 .f32 :=
  maximumf (broadcastInDim S2x4x8192 ![] bcast_S_S2x4x8192 (constant S_ .f32 0xFF800000#32)) T

/-- The exponentials, their sum, the weights. -/
def ex (SC : FVec Ideal S2x4x8192x8192 .f32) (M : FVec Ideal S2x4x8192 .f32) : FVec Ideal S2x4x8192x8192 .f32 :=
  Host.exp (subf SC (broadcastInDim S2x4x8192x8192 ![0, 1, 2, 3] bcast_S2x4x8192x1_S2x4x8192x8192_0_1_2_3
    (broadcastInDim S2x4x8192x1 ![0, 1, 2] bcast_S2x4x8192_S2x4x8192x1_0_1_2 M)))

def den (E : FVec Ideal S2x4x8192x8192 .f32) : FVec Ideal S2x4x8192x1 .f32 :=
  broadcastInDim S2x4x8192x1 ![0, 1, 2] bcast_S2x4x8192_S2x4x8192x1_0_1_2
    (Host.reduceAdd E (constant S_ .f32 0x00000000#32) reducesTo_S2x4x8192x8192_S2x4x8192_d3 h_S_)

def wt (E : FVec Ideal S2x4x8192x8192 .f32) (N : FVec Ideal S2x4x8192x1 .f32) : FVec Ideal S2x4x8192x8192 .f32 :=
  Host.divf E (broadcastInDim S2x4x8192x8192 ![0, 1, 2, 3] bcast_S2x4x8192x1_S2x4x8192x8192_0_1_2_3 N)

/-- The cotangent by heads; the weights' cotangent. -/
def ct (D : FVec Ideal S8192x8x64 .f32) : FVec Ideal S2x64x4x8192 .f32 :=
  transpose S2x64x4x8192 [1, 3, 2, 0] (shapeCast _ D shapeCasts_S8192x8x64_S8192x2x4x64) transposes_S8192x2x4x64_S2x64x4x8192_1_3_2_0

def dwt (T : FVec Ideal S2x64x4x8192 .f32) (W : FVec Ideal S8192x2x64 .f32) : FVec Ideal S2x4x8192x8192 .f32 :=
  Host.dotGeneral dot_S2x64x4x8192_S8192x2x64_S2x4x8192x8192_1_2_23_0_0_1 none T W

/-- What a row's sum of exponentials receives. -/
def dden (P E : FVec Ideal S2x4x8192x8192 .f32) (N : FVec Ideal S2x4x8192x1 .f32) : FVec Ideal S2x4x8192 .f32 :=
  Host.reduceAdd (Host.negf (shapeCast S2x4x8192x1 (Host.reduceAdd (mulf (mulf P (broadcastInDim S2x4x8192x8192 ![0, 1, 2, 3]
      bcast_S2x4x8192x1_S2x4x8192x8192_0_1_2_3 (Host.divf (broadcastInDim S2x4x8192x1 ![] bcast_S_S2x4x8192x1 (constant S_ .f32 0x3F800000#32)) (mulf N N)))) E)
    (constant S_ .f32 0x00000000#32) reducesTo_S2x4x8192x8192_S2x4x8192_d3 h_S_) shapeCasts_S2x4x8192_S2x4x8192x1))
    (constant S_ .f32 0x00000000#32) reducesTo_S2x4x8192x1_S2x4x8192_d3 h_S_

/-- The scores' gradient. -/
def dsc (P E : FVec Ideal S2x4x8192x8192 .f32) (N : FVec Ideal S2x4x8192x1 .f32) (G : FVec Ideal S2x4x8192 .f32) : FVec Ideal S2x8192x8192x4 .f32 :=
  transpose S2x8192x8192x4 [0, 3, 2, 1] (mulf (mulf (addf
      (Host.divf P (broadcastInDim S2x4x8192x8192 ![0, 1, 2, 3] bcast_S2x4x8192x1_S2x4x8192x8192_0_1_2_3 N))
      (broadcastInDim S2x4x8192x8192 ![0, 1, 2] bcast_S2x4x8192_S2x4x8192x8192_0_1_2 G)) E)
    (broadcastInDim S2x4x8192x8192 ![] bcast_S_S2x4x8192x8192 (constant S_ .f32 0x3E000000#32))) transposes_S2x4x8192x8192_S2x8192x8192x4_0_3_2_1

/-- The three gradients. -/
def dq (L : FVec Ideal S2x8192x8192x4 .f32) (K : FVec Ideal S8192x2x64 .f32) : FVec Ideal S8192x512 .f32 :=
  shapeCast _ (shapeCast S8192x8x64 (transpose S8192x2x4x64 [1, 0, 2, 3] (Host.dotGeneral dot_S2x8192x8192x4_S8192x2x64_S2x8192x4x64_1_0_23_2_0_1 none L K)
    transposes_S2x8192x4x64_S8192x2x4x64_1_0_2_3) shapeCasts_S8192x2x4x64_S8192x8x64) shapeCasts_S8192x8x64_S8192x512

def dk (L : FVec Ideal S2x8192x8192x4 .f32) (Q : FVec Ideal S8192x8x64 .f32) : FVec Ideal S2x8192x128 .f32 :=
  pad S2x8192x128 ![0, 0, 0] ![0, 0, 64] ![0, 0, 0] (transpose S2x8192x64 [1, 0, 2] (transpose S8192x2x64 [1, 0, 2]
    (Host.dotGeneral dot_S2x8192x8192x4_S8192x2x4x64_S2x8192x64_23_02_1_3_0_1 none L (shapeCast _ Q shapeCasts_S8192x8x64_S8192x2x4x64))
    transposes_S2x8192x64_S8192x2x64_1_0_2) transposes_S8192x2x64_S2x8192x64_1_0_2) (sitofp .f32 (constantI S_ 32 0#32))
    pads_S2x8192x64_S2x8192x128_000_000_0640 h_S_

def dv (T : FVec Ideal S2x64x4x8192 .f32) (P : FVec Ideal S2x4x8192x8192 .f32) : FVec Ideal S2x8192x128 .f32 :=
  pad S2x8192x128 ![0, 0, 0] ![0, 0, 64] ![0, 0, 0] (transpose S2x8192x64 [1, 0, 2] (transpose S8192x2x64 [2, 0, 1]
    (Host.dotGeneral dot_S2x64x4x8192_S2x4x8192x8192_S2x64x8192_23_12_1_3_0_0 none T P) transposes_S2x64x8192_S8192x2x64_2_0_1)
    transposes_S8192x2x64_S2x8192x64_1_0_2) (sitofp .f32 (constantI S_ 32 0#32)) pads_S2x8192x64_S2x8192x128_000_000_0640 h_S_

/-- Head `h` of pair `p` of the heads sharing keys `c`, among the four and among the eight. -/
def quad (p h : Fin 2) : Fin 4 := ⟨p * 2 + h, by omega⟩
def head (c p h : Fin 2) : Fin 8 := ⟨c * 4 + (p * 2 + h), by omega⟩

variable (c p h : Fin 2) (R s : Fin 8192) (l : Fin 64)

theorem zero_int : FloatOps.sitofp (F := Ideal) .f32 (0#32 : BitVec 32) = 0 := by
  simp [FloatOps.sitofp]

theorem sc_apply (Q : FVec Ideal S8192x8x64 .f32) (K : FVec Ideal S8192x2x64 .f32) : sc Q K (ix4 c (quad p h) R s)
    = (∑ l : Fin 64, K (ix3 s c l) * Q (ix3 R (head c p h) l)) * w8 := by
  pointwise [sc]
  unfold quad head w8
  rfl

theorem lowest : Ideal.ofBits FTy.f32 4286578688#32 = ⊥ := by simp [Ideal.ofBits, Ideal.ieee]

theorem top_apply (SC : FVec Ideal S2x4x8192x8192 .f32) (g : Fin 4) :
    top SC (ix3 c g R) = Finset.fold max ⊥ (fun s => SC (ix4 c g R s)) Finset.univ := by
  pointwise [top]
  rw [lowest]

theorem mx_apply (T : FVec Ideal S2x4x8192 .f32) (g : Fin 4) : mx T (ix3 c g R) = T (ix3 c g R) := by
  pointwise [mx]
  rw [lowest]
  exact max_eq_right bot_le

theorem ex_apply (SC : FVec Ideal S2x4x8192x8192 .f32) (M : FVec Ideal S2x4x8192 .f32) (g : Fin 4) :
    ex SC M (ix4 c g R s) = FloatOps.exp (FloatOps.subf (SC (ix4 c g R s)) (M (ix3 c g R))) := by
  pointwise [ex]

theorem den_apply (E : FVec Ideal S2x4x8192x8192 .f32) (g : Fin 4) : den E (ix4 c g R 0) = ∑ s : Fin 8192, E (ix4 c g R s) := by
  pointwise [den]

theorem wt_apply (E : FVec Ideal S2x4x8192x8192 .f32) (N : FVec Ideal S2x4x8192x1 .f32) (g : Fin 4) :
    wt E N (ix4 c g R s) = FloatOps.divf (E (ix4 c g R s)) (N (ix4 c g R 0)) := by
  pointwise [wt]

theorem ct_apply (D : FVec Ideal S8192x8x64 .f32) : ct D (ix4 c l (quad p h) R) = D (ix3 R (head c p h) l) := by
  unfold quad head
  pointwise [ct]

theorem dwt_apply (T : FVec Ideal S2x64x4x8192 .f32) (W : FVec Ideal S8192x2x64 .f32) (g : Fin 4) :
    dwt T W (ix4 c g R s) = ∑ l : Fin 64, T (ix4 c l g R) * W (ix3 s c l) := by
  pointwise [dwt]

theorem dden_apply (P E : FVec Ideal S2x4x8192x8192 .f32) (N : FVec Ideal S2x4x8192x1 .f32) (g : Fin 4) :
    dden P E N (ix3 c g R) = - ∑ s : Fin 8192, P (ix4 c g R s) * FloatOps.divf 1 (N (ix4 c g R 0) * N (ix4 c g R 0)) * E (ix4 c g R s) := by
  pointwise [dden]
  exact Fin.sum_univ_one _

theorem dsc_apply (P E : FVec Ideal S2x4x8192x8192 .f32) (N : FVec Ideal S2x4x8192x1 .f32) (G : FVec Ideal S2x4x8192 .f32) (g : Fin 4) :
    dsc P E N G (ix4 c s R g) = (FloatOps.divf (P (ix4 c g R s)) (N (ix4 c g R 0)) + G (ix3 c g R)) * E (ix4 c g R s) * w8 := by
  unfold w8
  pointwise [dsc]

theorem dq_apply (L : FVec Ideal S2x8192x8192x4 .f32) (K : FVec Ideal S8192x2x64 .f32) : dq L K (ix2 R (col c p h l))
    = ∑ s : Fin 8192, L (ix4 c s R (quad p h)) * K (ix3 s c l) := by
  unfold quad col
  pointwise [dq]
  refine Finset.sum_congr rfl fun x _ => congrArg₂ HMul.hMul (congrArg (fun z => L (ix4 c x R z)) (Fin.ext ?_)) (congrArg (fun z => K (ix3 x c z)) (Fin.ext ?_))
  · simp only [lane]; omega
  · simp only [lane]; omega

theorem dk_low (L : FVec Ideal S2x8192x8192x4 .f32) (Q : FVec Ideal S8192x8x64 .f32) : dk L Q (ix3 c s (lane 0 l))
    = ∑ R : Fin 8192, ∑ p : Fin 2, ∑ h : Fin 2, L (ix4 c s R (quad p h)) * Q (ix3 R (head c p h) l) := by
  unfold lane
  pointwise [dk]
  refine Finset.sum_congr rfl fun R _ => ?_
  rw [Fin.sum_univ_tiles 2 2 rfl]
  rfl

theorem dk_high (L : FVec Ideal S2x8192x8192x4 .f32) (Q : FVec Ideal S8192x8x64 .f32) : dk L Q (ix3 c s (lane 1 l)) = 0 := by
  unfold lane
  pointwise [dk]
  exact zero_int

theorem dv_low (T : FVec Ideal S2x64x4x8192 .f32) (P : FVec Ideal S2x4x8192x8192 .f32) : dv T P (ix3 c s (lane 0 l))
    = ∑ R : Fin 8192, ∑ p : Fin 2, ∑ h : Fin 2, T (ix4 c l (quad p h) R) * P (ix4 c (quad p h) R s) := by
  unfold lane
  pointwise [dv]
  rw [Finset.sum_comm]
  refine Finset.sum_congr rfl fun R _ => ?_
  rw [Fin.sum_univ_tiles 2 2 rfl]
  rfl

theorem dv_high (T : FVec Ideal S2x64x4x8192 .f32) (P : FVec Ideal S2x4x8192x8192 .f32) : dv T P (ix3 c s (lane 1 l)) = 0 := by
  unfold lane
  pointwise [dv]
  exact zero_int

end Cert.AttnRefIdeal.Plain

end
-- ==== Proof.Attn.Reals.lean ====
/- A softmax row and its derivative over the reals: the two ways of writing them agree. -/
module

public import proofs.«01_k».proof.Proof.Attn.Plain

@[expose] public section

noncomputable section

open Idealize.ShloMosaic

namespace Cert.Attn.Reals

open Cert.AttnIdeal.Stack (w8 w64 wHead)

theorem sum_coe {n : ℕ} (f : Fin n → ℝ) : ∑ i, ((f i : ℝ) : EReal) = ((∑ i, f i : ℝ) : EReal) :=
  (map_sum (⟨⟨Real.toEReal, EReal.coe_zero⟩, EReal.coe_add⟩ : ℝ →+ EReal) f Finset.univ).symm

/-- The three literal factors. -/
theorem w8_eq : w8 = ((1 / 8 : ℝ) : EReal) := by simp [w8, Ideal.ofBits, Ideal.ieee, -EReal.coe_mul]; norm_num
theorem w64_eq : w64 = ((1 / 64 : ℝ) : EReal) := by simp [w64, Ideal.ofBits, Ideal.ieee, -EReal.coe_mul]; norm_num
theorem wHead_eq : wHead = ((64 : ℝ) : EReal) := by simp [wHead, Ideal.ofBits, Ideal.ieee, -EReal.coe_mul]; norm_num

/-- The largest of finitely many reals is a real. -/
theorem top_real {n : ℕ} [NeZero n] (f : Fin n → ℝ) : ∃ M : ℝ, Finset.fold max ⊥ (fun s => (f s : EReal)) Finset.univ = (M : EReal) := by
  obtain ⟨i, _, h⟩ := Finset.exists_mem_eq_sup (Finset.univ : Finset (Fin n)) ⟨0, Finset.mem_univ 0⟩ (fun s => (f s : EReal))
  exact ⟨f i, h⟩

def largest {n : ℕ} (f : Fin n → ℝ) : ℝ := (Finset.fold max ⊥ (fun s => (f s : EReal)) Finset.univ).toReal

theorem largest_eq {n : ℕ} [NeZero n] (f : Fin n → ℝ) : Finset.fold max ⊥ (fun s => (f s : EReal)) Finset.univ = (largest f : EReal) := by
  obtain ⟨M, h⟩ := top_real f
  unfold largest
  rw [h, EReal.toReal_coe]

section Row

variable {n : ℕ} [NeZero n] (f g : Fin n → ℝ)

/-- A row's exponentials, their sum, its weights. -/
def ex (s : Fin n) : ℝ := Real.exp (f s - largest f)
def den : ℝ := ∑ s, ex f s
def wt (s : Fin n) : ℝ := ex f s / den f

theorem den_pos : 0 < den f := Finset.sum_pos (fun s _ => Real.exp_pos _) ⟨0, Finset.mem_univ 0⟩

/-- A score's gradient where the weights receive `g`. -/
def slope (s : Fin n) : ℝ := wt f s * (g s - ∑ s', g s' * wt f s')

/-- The weight, written by the row's log denominator. -/
theorem wt_by_log (s : Fin n) : Ideal.exp ((f s : EReal) - ((largest f : EReal) + Ideal.log (den f : EReal))) = (wt f s : EReal) := by
  have hp := den_pos f
  rw [Ideal.log_coe, if_neg (not_le.mpr hp), ← EReal.coe_add, ← EReal.coe_sub, Ideal.exp_coe]
  refine congrArg _ ?_
  rw [wt, ex, ← sub_sub, Real.exp_sub _ (Real.log _), Real.exp_log hp]

theorem wt_by_div (s : Fin n) : Ideal.div (ex f s : EReal) (den f : EReal) = (wt f s : EReal) := by
  rw [Ideal.div_coe (den_pos f).ne', ← EReal.coe_mul, wt, mul_one_div]

/-- The score's gradient, written by the quotient's derivative. -/
theorem slope_by_parts (s : Fin n) : (Ideal.div (g s : EReal) (den f : EReal)
      + -(∑ s', (g s' : EReal) * Ideal.div 1 ((den f : EReal) * (den f : EReal)) * (ex f s' : EReal))) * (ex f s : EReal) * w8
    = ((slope f g s * (1 / 8) : ℝ) : EReal) := by
  have hp := (den_pos f).ne'
  rw [Ideal.div_coe hp, ← EReal.coe_mul (den f), Ideal.div_coe (mul_ne_zero hp hp), one_mul, w8_eq]
  simp only [← EReal.coe_mul, sum_coe, ← EReal.coe_neg, ← EReal.coe_add]
  refine congrArg _ (congrArg (fun z => z * (1 / 8)) ?_)
  have e : ∑ s', g s' * (1 / (den f * den f)) * ex f s' = (∑ s', g s' * wt f s') / den f := by
    rw [Finset.sum_div]
    refine Finset.sum_congr rfl fun s' _ => ?_
    rw [wt]; field_simp
  rw [e, slope, wt]
  field_simp
  ring

/-- The mean is the product of the cotangent with the row's result. -/
theorem mean_by_result {w : ℕ} (d : Fin w → ℝ) (v : Fin n → Fin w → ℝ) :
    ∑ l, d l * (∑ s, v s l * wt f s) = ∑ s, (∑ l, d l * v s l) * wt f s := by
  simp only [Finset.mul_sum, Finset.sum_mul]
  rw [Finset.sum_comm]
  exact Finset.sum_congr rfl fun s _ => Finset.sum_congr rfl fun l _ => (mul_assoc _ _ _).symm

theorem slope_by_result {w : ℕ} (d : Fin w → ℝ) (v : Fin n → Fin w → ℝ) (s : Fin n) :
    (wt f s : EReal) * ((∑ l, (d l : EReal) * (v s l : EReal)) - (∑ l, (d l : EReal) * ((∑ s', v s' l * wt f s' : ℝ) : EReal)) * w64 * wHead)
      = ((slope f (fun s => ∑ l, d l * v s l) s : ℝ) : EReal) := by
  rw [w64_eq, wHead_eq]
  simp only [← EReal.coe_mul, sum_coe, ← EReal.coe_sub]
  refine congrArg _ ?_
  rw [mean_by_result, slope, mul_assoc _ (1 / 64 : ℝ) 64]
  norm_num

end Row

end Cert.Attn.Reals

end
-- ==== Proof.Attn.Host.lean ====
/- The arrays the attention gradient's call is given, as the host lines before it make them of the arguments. -/
module

public import proofs.«01_k».proof.Proof.Attn.Plain

@[expose] public section

set_option maxRecDepth 16384

noncomputable section

open Idealize.ShloMosaic Idealize.ShloMosaic.TcCoe Idealize.SL.Sem

namespace Cert.AttnIdeal.Host

open Cert.AttnIdeal Cert.AttnIdeal.Gen
open Cert.AttnIdeal.Stack (lane)
open Cert.AttnIdeal.Arrays (col given_ Arrays)
open Cert.AttnRefIdeal.Plain (sc top mx ex den wt head quad)

/-- Both orders of the two key heads, side by side. -/
def swapped (x : FVec Ideal S8192x128 .f32) : FVec Ideal S8192x128 .f32 :=
  concatenate S8192x128 1 [⟨S8192x64, extractStridedSlice S8192x64 ![0, 64] x slices_S8192x128_S8192x64_0_64⟩,
    ⟨S8192x64, extractStridedSlice S8192x64 ![0, 0] x slices_S8192x128_S8192x64_0_0⟩] concatenates_S8192x64_S8192x64_S8192x128_d1

def stacked (a b : FVec Ideal S8192x128 .f32) : FVec Ideal S2x8192x128 .bf16 :=
  truncf .bf16 (concatenate S2x8192x128 0 [⟨S1x8192x128, broadcastInDim S1x8192x128 ![1, 2] bcast_S8192x128_S1x8192x128_1_2 a⟩,
    ⟨S1x8192x128, broadcastInDim S1x8192x128 ![1, 2] bcast_S8192x128_S1x8192x128_1_2 b⟩] concatenates_S1x8192x128_S1x8192x128_S2x8192x128_d0) bitsLt_bf16_f32

def joined (K : FVec Ideal S8192x2x64 .f32) : FVec Ideal S8192x128 .f32 := shapeCast S8192x128 K shapeCasts_S8192x2x64_S8192x128

/-- A value head, a one and zeros behind it. -/
def ones : FVec Ideal S8192x64 .f32 :=
  pad S8192x64 ![0, 0] ![0, 63] ![0, 0] (broadcastInDim S8192x1 ![] bcast_S_S8192x1 (constant S_ .f32 0x3F800000#32))
    (sitofp .f32 (constantI S_ 32 0#32)) pads_S8192x1_S8192x64_000_0630 h_S_

def beside (x : FVec Ideal S8192x64 .f32) : FVec Ideal S8192x128 .f32 :=
  concatenate S8192x128 1 [⟨S8192x64, x⟩, ⟨S8192x64, ones⟩] concatenates_S8192x64_S8192x64_S8192x128_d1

def first (W : FVec Ideal S8192x2x64 .f32) : FVec Ideal S8192x64 .f32 :=
  shapeCast S8192x64 (extractStridedSlice S8192x1x64 ![0, 0, 0] W slices_S8192x2x64_S8192x1x64_0_0_0) shapeCasts_S8192x1x64_S8192x64
def second (W : FVec Ideal S8192x2x64 .f32) : FVec Ideal S8192x64 .f32 :=
  shapeCast S8192x64 (extractStridedSlice S8192x1x64 ![0, 1, 0] W slices_S8192x2x64_S8192x1x64_0_1_0) shapeCasts_S8192x1x64_S8192x64

/-- The attention's result, and the log denominators. -/
def mixed (W : FVec Ideal S8192x2x64 .f32) (P : FVec Ideal S2x4x8192x8192 .f32) : FVec Ideal S8192x512 .bf16 :=
  truncf .bf16 (shapeCast S8192x512 (shapeCast S8192x8x64 (transpose S8192x2x4x64 [3, 0, 2, 1]
    (Host.dotGeneral dot_S8192x2x64_S2x4x8192x8192_S2x64x4x8192_0_3_2_12_1_0 none W P) transposes_S2x64x4x8192_S8192x2x4x64_3_0_2_1)
    shapeCasts_S8192x2x4x64_S8192x8x64) shapeCasts_S8192x8x64_S8192x512) bitsLt_bf16_f32

def logs (M : FVec Ideal S2x4x8192 .f32) (N : FVec Ideal S2x4x8192x1 .f32) : FVec Ideal S8192x512 .f32 :=
  shapeCast S8192x512 (broadcastInDim S8192x8x64 ![0, 1, 2] bcast_S8192x8x1_S8192x8x64_0_1_2 (shapeCast S8192x8x1
    (transpose S8192x2x4x1 [2, 0, 1, 3] (addf (broadcastInDim S2x4x8192x1 ![0, 1, 2] bcast_S2x4x8192_S2x4x8192x1_0_1_2 M) (Host.log N))
      transposes_S2x4x8192x1_S8192x2x4x1_2_0_1_3) shapeCasts_S8192x2x4x1_S8192x8x1)) shapeCasts_S8192x8x64_S8192x512

def flat (Q : FVec Ideal S8192x8x64 .f32) : FVec Ideal S8192x512 .f32 := shapeCast S8192x512 Q shapeCasts_S8192x8x64_S8192x512

theorem flat_apply (Q : FVec Ideal S8192x8x64 .f32) (R : Fin 8192) (c p h : Fin 2) (l : Fin 64) :
    flat Q (ix2 R (col c p h l)) = Q (ix3 R (head c p h) l) := by
  pointwise [flat]
  refine congrArg₂ (fun y z => Q (ix3 R y z)) (Fin.ext ?_) (Fin.ext ?_)
  · simp only [head, col, lane]; omega
  · simp only [col, lane]; omega

theorem keys_apply (K : FVec Ideal S8192x2x64 .f32) (c : Fin 2) (s : Fin 8192) (l : Fin 64) :
    stacked (joined K) (swapped (joined K)) (ix3 c s (lane 0 l)) = K (ix3 s c l) := by
  obtain rfl | rfl : c = 0 ∨ c = 1 := by omega
  · unfold lane
    pointwise [stacked, joined]
    exact congrArg₂ (fun y z => K (ix3 s y z)) (Fin.ext (by show (l : ℕ) / 64 = 0; omega)) (Fin.ext (by show (l : ℕ) % 64 = l; omega))
  · unfold lane
    pointwise [stacked, joined, swapped]
    exact congrArg (fun y => K (ix3 s y l)) (Fin.ext (by show (64 + (l : ℕ)) / 64 = 1; omega))

theorem vals_apply (W : FVec Ideal S8192x2x64 .f32) (c : Fin 2) (s : Fin 8192) (l : Fin 64) :
    stacked (beside (first W)) (beside (second W)) (ix3 c s (lane 0 l)) = W (ix3 s c l) := by
  obtain rfl | rfl : c = 0 ∨ c = 1 := by omega
  · unfold lane
    pointwise [stacked, beside, first]
  · unfold lane
    pointwise [stacked, beside, second]

theorem mixed_apply (W : FVec Ideal S8192x2x64 .f32) (P : FVec Ideal S2x4x8192x8192 .f32) (R : Fin 8192) (c p h : Fin 2) (l : Fin 64) :
    mixed W P (ix2 R (col c p h l)) = ∑ s : Fin 8192, W (ix3 s c l) * P (ix4 c (quad p h) R s) := by
  unfold quad col
  pointwise [mixed]
  refine Finset.sum_congr rfl fun x _ => congrArg₂ HMul.hMul (congrArg (fun z => W (ix3 x c z)) (Fin.ext ?_)) (congrArg (fun z => P (ix4 c z R x)) (Fin.ext ?_))
  · simp only [lane]; omega
  · simp only [lane]; omega

theorem logs_apply (M : FVec Ideal S2x4x8192 .f32) (N : FVec Ideal S2x4x8192x1 .f32) (R : Fin 8192) (c p h : Fin 2) (l : Fin 64) :
    logs M N (ix2 R (col c p h l)) = M (ix3 c (quad p h) R) + FloatOps.log (N (ix4 c (quad p h) R 0)) := by
  unfold quad col
  pointwise [logs]
  have e : ((c : ℕ) * 256 + ((p : ℕ) * 128 + (lane h l : ℕ))) / 64 % 4 = (p : ℕ) * 2 + h := by simp only [lane]; omega
  simp only [e]

variable (m : (ℓ : Loc nD τ sig) → Buf (Elt Ideal) ℓ) (c : Dev nD)

/-- The call's arguments. -/
abbrev Q : FVec Ideal S8192x8x64 .f32 := m ((c.tc : Thread nD τ).loc main_arg0)
abbrev K : FVec Ideal S8192x2x64 .f32 := m ((c.tc : Thread nD τ).loc main_arg1)
abbrev W : FVec Ideal S8192x2x64 .f32 := m ((c.tc : Thread nD τ).loc main_arg2)
abbrev D : FVec Ideal S8192x8x64 .f32 := m ((c.tc : Thread nD τ).loc main_arg3)

/-- The scores and the exponentials of the host lines. -/
abbrev SC : FVec Ideal S2x4x8192x8192 .f32 := sc (Q m c) (K m c)
abbrev EX : FVec Ideal S2x4x8192x8192 .f32 := ex (SC m c) (mx (top (SC m c)))
abbrev EL : FVec Ideal S2x4x8192x8192 .f32 := ex (SC m c) (top (SC m c))

theorem q_eq : (given_ m c).q = truncf (F := Ideal) .bf16 (flat (Q m c)) bitsLt_bf16_f32 := by
  show V m c main_v59 = _
  sl_kernel_rfl

theorem x_eq : (given_ m c).x = flat (D m c) := by
  show V m c main_v60 = _
  sl_kernel_rfl

theorem k_eq : (given_ m c).k = stacked (joined (K m c)) (swapped (joined (K m c))) := by
  show V m c main_v6 = _
  sl_kernel_rfl

theorem v_eq : (given_ m c).v = stacked (beside (first (W m c))) (beside (second (W m c))) := by
  show V m c main_v18 = _
  sl_kernel_rfl

theorem o_eq : (given_ m c).o = mixed (W m c) (wt (EX m c) (den (EX m c))) := by
  show V m c main_v39 = _
  unfold mixed wt EX den ex mx top SC sc
  simp only [V, hostOps0, hostOps0_1, hostOps0_2, hostOps0_3, hostOps0_4, List.flatten_cons, List.flatten_nil, List.cons_append, List.nil_append, List.append_nil,
    StableHlo.TRef.binary, StableHlo.TRef.unary, StableHlo.TRef.toBuf, StableHlo.TRef.ofBuf, cast_eq]
  after_results_simp
  rfl

theorem lse_eq : (given_ m c).lse = logs (top (SC m c)) (den (EL m c)) := by
  show V m c main_v57 = _
  unfold logs EL den ex top SC sc
  simp only [V, hostOps0, hostOps0_1, hostOps0_2, hostOps0_3, hostOps0_4, List.flatten_cons, List.flatten_nil, List.cons_append, List.nil_append, List.append_nil,
    StableHlo.TRef.binary, StableHlo.TRef.unary, StableHlo.TRef.toBuf, StableHlo.TRef.ofBuf, cast_eq]
  after_results_simp
  rfl

end Cert.AttnIdeal.Host

end
-- ==== Proof.Attn.Equal.lean ====
/- The attention gradient over finite arguments: what the call leaves and what the plain derivative is, as the same reals. -/
module

public import proofs.«01_k».proof.Proof.Attn.Reals
public import proofs.«01_k».proof.Proof.Attn.Host

@[expose] public section

set_option maxRecDepth 16384

noncomputable section

open Idealize.ShloMosaic Idealize.ShloMosaic.TcCoe Idealize.SL.Sem

namespace Cert.Attn.Equal

open Cert.AttnIdeal (S8192x512 S8192x8x64 S8192x2x64 S2x4x8192x8192 S2x4x8192 S2x4x8192x1 S2x8192x128)
open Cert.AttnIdeal.Stack (w8 w64 wHead lane)
open Cert.AttnIdeal.Arrays (col Arrays probG slopeG dqAt dkAt dvAt dqG padded dqG_at padded_low padded_high)
open Cert.AttnRefIdeal.Plain
open Cert.Attn.Reals (sum_coe w8_eq largest largest_eq slope wt_by_log wt_by_div slope_by_parts slope_by_result)

variable (q d : Fin 8192 → Fin 8 → Fin 64 → ℝ) (k v : Fin 8192 → Fin 2 → Fin 64 → ℝ)

/-- A row's scores, and what its weights receive. -/
def score (c p h : Fin 2) (R s : Fin 8192) : ℝ := (∑ l : Fin 64, k s c l * q R (head c p h) l) * (1 / 8)
def back (c p h : Fin 2) (R s : Fin 8192) : ℝ := ∑ l : Fin 64, d R (head c p h) l * v s c l
def dscore (c p h : Fin 2) (R s : Fin 8192) : ℝ := slope (score q k c p h R) (back d v c p h R) s

/-- The three gradients. -/
def dqR (R : Fin 8192) (c p h : Fin 2) (l : Fin 64) : EReal := ((∑ s : Fin 8192, dscore q d k v c p h R s * (1 / 8) * k s c l : ℝ) : EReal)
def dkR (c : Fin 2) (s : Fin 8192) (l : Fin 64) : EReal :=
  ∑ R : Fin 8192, ∑ p : Fin 2, ∑ h : Fin 2, ((dscore q d k v c p h R s * (1 / 8) * q R (head c p h) l : ℝ) : EReal)
def dvR (c : Fin 2) (s : Fin 8192) (l : Fin 64) : EReal :=
  ∑ R : Fin 8192, ∑ p : Fin 2, ∑ h : Fin 2, ((d R (head c p h) l * Reals.wt (score q k c p h R) s : ℝ) : EReal)

/-- The arrays hold these reals. -/
structure Holds (Q D : FVec Ideal S8192x8x64 .f32) (K W : FVec Ideal S8192x2x64 .f32) : Prop where
  hQ : ∀ R a l, Q (ix3 R a l) = ((q R a l : ℝ) : EReal)
  hK : ∀ s c l, K (ix3 s c l) = ((k s c l : ℝ) : EReal)
  hW : ∀ s c l, W (ix3 s c l) = ((v s c l : ℝ) : EReal)
  hD : ∀ R a l, D (ix3 R a l) = ((d R a l : ℝ) : EReal)

section Plain

variable {q d k v} {Q D : FVec Ideal S8192x8x64 .f32} {K W : FVec Ideal S8192x2x64 .f32} (H : Holds q d k v Q D K W)
  (c p h : Fin 2) (R s : Fin 8192) (l : Fin 64)

include H

theorem sc_real : sc Q K (ix4 c (quad p h) R s) = ((score q k c p h R s : ℝ) : EReal) := by
  rw [sc_apply, w8_eq]
  simp only [H.hQ, H.hK, ← EReal.coe_mul, sum_coe]
  rfl

theorem top_real : top (sc Q K) (ix3 c (quad p h) R) = ((largest (score q k c p h R) : ℝ) : EReal) := by
  rw [top_apply, ← largest_eq]
  simp only [sc_real H]

theorem ex_real (M : FVec Ideal S2x4x8192 .f32) (hM : M (ix3 c (quad p h) R) = ((largest (score q k c p h R) : ℝ) : EReal)) :
    ex (sc Q K) M (ix4 c (quad p h) R s) = ((Reals.ex (score q k c p h R) s : ℝ) : EReal) := by
  rw [ex_apply, sc_real H, hM]
  show Ideal.exp (_ - _) = _
  rw [← EReal.coe_sub, Ideal.exp_coe]
  rfl

theorem den_real (M : FVec Ideal S2x4x8192 .f32) (hM : M (ix3 c (quad p h) R) = ((largest (score q k c p h R) : ℝ) : EReal)) :
    den (ex (sc Q K) M) (ix4 c (quad p h) R 0) = ((Reals.den (score q k c p h R) : ℝ) : EReal) := by
  rw [den_apply]
  simp only [ex_real H c p h R _ M hM, sum_coe]
  rfl

theorem mx_real : mx (top (sc Q K)) (ix3 c (quad p h) R) = ((largest (score q k c p h R) : ℝ) : EReal) := by
  rw [mx_apply, top_real H]

theorem wt_real : wt (ex (sc Q K) (mx (top (sc Q K)))) (den (ex (sc Q K) (mx (top (sc Q K))))) (ix4 c (quad p h) R s)
    = ((Reals.wt (score q k c p h R) s : ℝ) : EReal) := by
  rw [wt_apply, ex_real H c p h R s _ (mx_real H c p h R), den_real H c p h R _ (mx_real H c p h R)]
  exact wt_by_div _ _

theorem back_real : dwt (ct D) W (ix4 c (quad p h) R s) = ((back d v c p h R s : ℝ) : EReal) := by
  rw [dwt_apply]
  simp only [ct_apply, H.hD, H.hW, ← EReal.coe_mul, sum_coe]
  rfl

end Plain

/-- The plain derivative's pieces, of its arguments. -/
def exs (Q : FVec Ideal S8192x8x64 .f32) (K : FVec Ideal S8192x2x64 .f32) : FVec Ideal S2x4x8192x8192 .f32 := ex (sc Q K) (mx (top (sc Q K)))
def scores' (Q D : FVec Ideal S8192x8x64 .f32) (K W : FVec Ideal S8192x2x64 .f32) : FVec Ideal Cert.AttnRefIdeal.S2x8192x8192x4 .f32 :=
  dsc (dwt (ct D) W) (exs Q K) (den (exs Q K)) (dden (dwt (ct D) W) (exs Q K) (den (exs Q K)))

section Plain

variable {q d k v} {Q D : FVec Ideal S8192x8x64 .f32} {K W : FVec Ideal S8192x2x64 .f32} (H : Holds q d k v Q D K W)
  (c p h : Fin 2) (R s : Fin 8192) (l : Fin 64)

include H

theorem dscore_real : scores' Q D K W (ix4 c s R (quad p h)) = ((dscore q d k v c p h R s * (1 / 8) : ℝ) : EReal) := by
  unfold scores' exs
  rw [dsc_apply, dden_apply]
  simp only [back_real H, ex_real H c p h R _ _ (mx_real H c p h R), den_real H c p h R _ (mx_real H c p h R)]
  exact slope_by_parts _ _ _

theorem dq_plain : dq (scores' Q D K W) K (ix2 R (col c p h l)) = dqR q d k v R c p h l := by
  rw [dq_apply]
  simp only [dscore_real H, H.hK, ← EReal.coe_mul, sum_coe]
  rfl

theorem dk_plain : dk (scores' Q D K W) Q (ix3 c s (lane 0 l)) = dkR q d k v c s l := by
  rw [dk_low]
  simp only [dscore_real H, H.hQ, ← EReal.coe_mul]
  rfl

theorem dv_plain : dv (ct D) (wt (exs Q K) (den (exs Q K))) (ix3 c s (lane 0 l)) = dvR q d k c s l := by
  rw [dv_low]
  unfold exs
  simp only [wt_real H, ct_apply, H.hD, ← EReal.coe_mul]
  rfl

end Plain

/-- What the call is given, in these reals. -/
structure Given (A : Arrays) : Prop where
  hq : ∀ R c p h l, A.q (ix2 R (col c p h l)) = ((q R (head c p h) l : ℝ) : EReal)
  hx : ∀ R c p h l, A.x (ix2 R (col c p h l)) = ((d R (head c p h) l : ℝ) : EReal)
  hk : ∀ c s l, A.k (ix3 c s (lane 0 l)) = ((k s c l : ℝ) : EReal)
  hv : ∀ c s l, A.v (ix3 c s (lane 0 l)) = ((v s c l : ℝ) : EReal)
  ho : ∀ R c p h l, A.o (ix2 R (col c p h l)) = ((∑ s, v s c l * Reals.wt (score q k c p h R) s : ℝ) : EReal)
  hl : ∀ R c p h l, A.lse (ix2 R (col c p h l)) = ((largest (score q k c p h R) : ℝ) : EReal) + Ideal.log (Reals.den (score q k c p h R) : ℝ)

section Call

variable {q d k v} {A : Arrays} (G : Given q d k v A) (c p h : Fin 2) (R s : Fin 8192) (l : Fin 64)

include G

theorem spread : Cert.AttnIdeal.Arrays.Spread A := fun R c p h l => (G.hl R c p h l).trans (G.hl R c p h 0).symm

theorem prob_real : probG A R c p h s = ((Reals.wt (score q k c p h R) s : ℝ) : EReal) := by
  unfold probG
  rw [G.hl, w8_eq]
  simp only [G.hq, G.hk, ← EReal.coe_mul, sum_coe]
  refine Eq.trans ?_ (wt_by_log (score q k c p h R) s)
  show Ideal.exp (_ - _) = _
  refine congrArg (fun z : ℝ => Ideal.exp ((z : EReal) - _)) ?_
  unfold score
  rw [Finset.sum_mul]
  exact Finset.sum_congr rfl fun l _ => by ring

theorem slope_real : slopeG A R c p h s = ((dscore q d k v c p h R s : ℝ) : EReal) := by
  unfold slopeG
  rw [prob_real G]
  simp only [G.hx, G.hv, G.ho]
  exact slope_by_result (score q k c p h R) (fun l => d R (head c p h) l) (fun s l => v s c l) s

theorem dq_call : dqAt A R c p h l = dqR q d k v R c p h l := by
  unfold dqAt dqR
  rw [w8_eq]
  simp only [slope_real G, G.hk, ← EReal.coe_mul, sum_coe]
  refine congrArg _ ?_
  rw [Finset.sum_mul]
  exact Finset.sum_congr rfl fun s _ => by ring

theorem dk_call : dkAt A c s l = dkR q d k v c s l := by
  unfold dkAt dkR
  rw [w8_eq]
  simp only [slope_real G, G.hq, ← EReal.coe_mul]
  refine Finset.sum_congr rfl fun R _ => Finset.sum_congr rfl fun p _ => Finset.sum_congr rfl fun h _ => congrArg _ (by ring)

theorem dv_call : dvAt A c s l = dvR q d k c s l := by
  unfold dvAt dvR
  simp only [prob_real G, G.hx, ← EReal.coe_mul]
  refine Finset.sum_congr rfl fun R _ => Finset.sum_congr rfl fun p _ => Finset.sum_congr rfl fun h _ => congrArg _ (by ring)

end Call

section Arrays

variable {q d k v} {Q D : FVec Ideal S8192x8x64 .f32} {K W : FVec Ideal S8192x2x64 .f32} (H : Holds q d k v Q D K W)
  {A : Cert.AttnIdeal.Arrays.Arrays} (G : Given q d k v A)

include H G

theorem dq_eq : dq (scores' Q D K W) K = dqG A := by
  funext y
  obtain ⟨R, C, rfl⟩ : ∃ (R : Fin 8192) (C : Fin 512), y = ix2 R C := ⟨y 0, y 1, eq_ix2 y⟩
  obtain ⟨c, p, h, l, rfl⟩ : ∃ (c p h : Fin 2) (l : Fin 64), C = col c p h l :=
    ⟨⟨C.val / 256, by omega⟩, ⟨C.val % 256 / 128, by omega⟩, ⟨C.val % 128 / 64, by omega⟩, ⟨C.val % 64, by omega⟩,
      Fin.ext (by simp only [col, lane]; omega)⟩
  rw [dqG_at, dq_call G]
  exact dq_plain H c p h R l

omit H G in
theorem split3 (y : S2x8192x128.Idx) : ∃ (c : Fin 2) (s : Fin 8192) (h : Fin 2) (l : Fin 64), y = ix3 c s (lane h l) := by
  have hb : (y 2).val < 128 := (y 2).isLt
  refine ⟨y 0, y 1, ⟨(y 2).val / 64, by omega⟩, ⟨(y 2).val % 64, by omega⟩, (eq_ix3 y).trans (congrArg (ix3 (y 0) (y 1)) (Fin.ext ?_))⟩
  simp only [lane]; omega

theorem dk_eq : dk (scores' Q D K W) Q = padded (dkAt A) := by
  funext y
  obtain ⟨c, s, h, l, rfl⟩ := split3 y
  obtain rfl | rfl : h = 0 ∨ h = 1 := by omega
  · rw [padded_low, dk_call G]
    exact dk_plain H c s l
  · rw [padded_high]
    exact dk_high c s l _ _

theorem dv_eq : dv (ct D) (wt (exs Q K) (den (exs Q K))) = padded (dvAt A) := by
  funext y
  obtain ⟨c, s, h, l, rfl⟩ := split3 y
  obtain rfl | rfl : h = 0 ∨ h = 1 := by omega
  · rw [padded_low, dv_call G]
    exact dv_plain H c s l
  · rw [padded_high]
    exact dv_high c s l _ _

end Arrays

end Cert.Attn.Equal

end
-- ==== Proof.Attn.Ref.lean ====
/- The attention gradient: over finite arguments the call and the plain derivative leave the same three arrays. -/
module

public import proofs.«01_k».proof.Defs
public import proofs.«01_k».proof.Proof.Gen.Pre_all_finite
public import proofs.«01_k».proof.Proof.Attn.Equal
public import Idealize.ShloMosaic.Lib.Claim
public import Idealize.ShloMosaic.Lib.Quiescent

@[expose] public section

set_option maxRecDepth 16384

noncomputable section

namespace Cert.AttnRefIdeal.Pieces

open Idealize.ShloMosaic Idealize.ShloMosaic.TcCoe Idealize.SL.Sem
open Cert.AttnRefIdeal Cert.AttnRefIdeal.Value Cert.AttnRefIdeal.Plain
open Cert.Attn.Equal (exs scores')

variable (m' : (ℓ : Loc nD τ sig) → Buf (Elt Ideal) ℓ) (g' : Dev nD → PrngReg) (c : Dev nD)

/-- The reference's arguments. -/
abbrev q : FVec Ideal S8192x8x64 .f32 := m' ((c.tc : Thread nD τ).loc main_arg0)
abbrev k : FVec Ideal S8192x2x64 .f32 := m' ((c.tc : Thread nD τ).loc main_arg1)
abbrev v : FVec Ideal S8192x2x64 .f32 := m' ((c.tc : Thread nD τ).loc main_arg2)
abbrev d : FVec Ideal S8192x8x64 .f32 := m' ((c.tc : Thread nD τ).loc main_arg3)

/-- The reference's run leaves the named pieces. -/
theorem run_dq : res_main_v61 (F := Ideal) m' c = dq (scores' (q m' c) (d m' c) (k m' c) (v m' c)) (k m' c) := by
  unfold res_main_v61 dq scores' dsc dden exs den ex mx top sc dwt ct
  rfl

theorem run_dk : res_main_v63 (F := Ideal) m' c = dk (scores' (q m' c) (d m' c) (k m' c) (v m' c)) (q m' c) := by
  unfold res_main_v63 dk scores' dsc dden exs den ex mx top sc dwt ct
  rfl

/-- The reference ends with the pieces' three arrays. -/
theorem run : θ_run (defs (F := Ideal)) (onTc (τ := τ) (main (F := Ideal))) ⟨m', fun _ => 0, g'⟩ fun r => ∀ c : Dev nD,
    r.2.mem ((c.tc : Thread nD τ).loc main_v61) = dq (scores' (q m' c) (d m' c) (k m' c) (v m' c)) (k m' c)
    ∧ r.2.mem ((c.tc : Thread nD τ).loc main_v63) = dk (scores' (q m' c) (d m' c) (k m' c) (v m' c)) (q m' c)
    ∧ r.2.mem ((c.tc : Thread nD τ).loc main_v65) = dv (ct (d m' c)) (wt (exs (q m' c) (k m' c)) (den (exs (q m' c) (k m' c))))
    ∧ r.2.mem ((c.tc : Thread nD τ).loc main_arg0) = m' ((c.tc : Thread nD τ).loc main_arg0)
    ∧ r.2.mem ((c.tc : Thread nD τ).loc main_arg1) = m' ((c.tc : Thread nD τ).loc main_arg1)
    ∧ r.2.mem ((c.tc : Thread nD τ).loc main_arg2) = m' ((c.tc : Thread nD τ).loc main_arg2)
    ∧ r.2.mem ((c.tc : Thread nD τ).loc main_arg3) = m' ((c.tc : Thread nD τ).loc main_arg3) := by
  refine (θ_run _ _ _).mono (fun r h c => ?_) (Cert.AttnRefIdeal.Value.run m' g')
  obtain ⟨h0, h1, h2, h3⟩ := h c
  refine ⟨h0.trans (run_dq m' c), h1.trans (run_dk m' c), h2.trans ?_, h3⟩
  unfold dv ct exs wt den ex mx top sc
  rfl

end Cert.AttnRefIdeal.Pieces

namespace Cert.Attn

open Idealize.ShloMosaic Idealize.ShloMosaic.TcCoe Idealize.SL.Sem
open Cert.AttnIdeal.Host (Q K W D q_eq x_eq k_eq v_eq o_eq lse_eq flat_apply keys_apply vals_apply mixed_apply logs_apply SC EX EL)
open Cert.AttnIdeal.Arrays (given_ final_dq final_dk final_dv)
open Cert.Attn.Equal Cert.AttnRefIdeal.Pieces

/-- A number smaller in size than plus infinity is a real. -/
theorem real_of_finite (x : Ideal .f32) (h : FloatOps.cmpf .olt (FloatOps.absf x) (FloatOps.ofBits .f32 0x7F800000#32) = 1#1) :
    x = ((x.toReal : ℝ) : EReal) := by
  have e : (FloatOps.ofBits .f32 0x7F800000#32 : Ideal .f32) = (⊤ : EReal) := by
    show Ideal.ofBits .f32 0x7F800000#32 = _
    simp [Ideal.ofBits, Ideal.ieee]
  have h' : max (x : EReal) (-x) < ⊤ := by
    rw [e] at h
    by_contra hn
    have : (FloatOps.cmpf .olt (FloatOps.absf x) (⊤ : EReal) : BitVec 1) = 0#1 := by
      show BitVec.ofBool (decide (max (x : EReal) (-x) < ⊤)) = _
      rw [decide_eq_false hn]; rfl
    exact absurd (this.symm.trans h) (by decide)
  refine (EReal.coe_toReal ?_ ?_).symm
  · rintro rfl
    exact absurd h' (by simp)
  · rintro rfl
    exact absurd h' (by simp)

section Finite

variable (x0 : FVec Ideal Cert.Pre_all_finite.S8192x8x64 .f32) (x1 x2 : FVec Ideal Cert.Pre_all_finite.S8192x2x64 .f32)
  (x3 : FVec Ideal Cert.Pre_all_finite.S8192x8x64 .f32) (H : Cert.Pre_all_finite.fn (F := Ideal) x0 x1 x2 x3 = fun _ => 1#1)

include H

/-- The precondition read at one place: each of the four arrays holds reals. -/
theorem real_q (R : Fin 8192) (a : Fin 8) (l : Fin 64) : x0 (ix3 R a l) = (((x0 (ix3 R a l)).toReal : ℝ) : EReal) := by
  refine real_of_finite _ (Eq.trans ?_ (congrFun H (ix3 R ⟨a, by omega⟩ l)))
  pointwise [Cert.Pre_all_finite.fn]

theorem real_k (R : Fin 8192) (a : Fin 2) (l : Fin 64) : x1 (ix3 R a l) = (((x1 (ix3 R a l)).toReal : ℝ) : EReal) := by
  refine real_of_finite _ (Eq.trans ?_ (congrFun H (ix3 R ⟨8 + a, by omega⟩ l)))
  pointwise [Cert.Pre_all_finite.fn]

theorem real_v (R : Fin 8192) (a : Fin 2) (l : Fin 64) : x2 (ix3 R a l) = (((x2 (ix3 R a l)).toReal : ℝ) : EReal) := by
  refine real_of_finite _ (Eq.trans ?_ (congrFun H (ix3 R ⟨10 + a, by omega⟩ l)))
  pointwise [Cert.Pre_all_finite.fn]
  rw [dif_neg (by omega), dif_neg (by omega), dif_pos (by omega)]
  have e : (⟨10 + (a : ℕ) - 8 - 2, by omega⟩ : Fin 2) = a := Fin.ext (by show 10 + (a : ℕ) - 8 - 2 = a; omega)
  rw [e]

theorem real_d (R : Fin 8192) (a : Fin 8) (l : Fin 64) : x3 (ix3 R a l) = (((x3 (ix3 R a l)).toReal : ℝ) : EReal) := by
  refine real_of_finite _ (Eq.trans ?_ (congrFun H (ix3 R ⟨12 + a, by omega⟩ l)))
  pointwise [Cert.Pre_all_finite.fn]
  rw [dif_neg (by omega), dif_neg (by omega), dif_neg (by omega)]
  have e : (⟨12 + (a : ℕ) - 8 - 2 - 2, by omega⟩ : Fin 8) = a := Fin.ext (by show 12 + (a : ℕ) - 8 - 2 - 2 = a; omega)
  rw [e]

end Finite

section Given

variable (m : (ℓ : Loc Cert.AttnIdeal.nD Cert.AttnIdeal.τ Cert.AttnIdeal.sig) → Buf (Elt Ideal) ℓ) (c : Dev Cert.AttnIdeal.nD)

/-- The reals the arguments hold. -/
def qR (R : Fin 8192) (a : Fin 8) (l : Fin 64) : ℝ := (Q m c (ix3 R a l)).toReal
def kR (R : Fin 8192) (a : Fin 2) (l : Fin 64) : ℝ := (K m c (ix3 R a l)).toReal
def vR (R : Fin 8192) (a : Fin 2) (l : Fin 64) : ℝ := (W m c (ix3 R a l)).toReal
def dR (R : Fin 8192) (a : Fin 8) (l : Fin 64) : ℝ := (D m c (ix3 R a l)).toReal

theorem holds (h : Cert.Pre_AttnIdeal_all_finite (hPre_all_finite := Cert.Pre_all_finite.Gen.facts) m) :
    Holds (qR m c) (dR m c) (kR m c) (vR m c) (Q m c) (D m c) (K m c) (W m c) :=
  letI := Cert.Pre_all_finite.Gen.facts
  ⟨real_q _ _ _ _ (h c), real_k _ _ _ _ (h c), real_v _ _ _ _ (h c), real_d _ _ _ _ (h c)⟩

/-- What the host hands to the call, in these reals. -/
theorem given (H : Holds (qR m c) (dR m c) (kR m c) (vR m c) (Q m c) (D m c) (K m c) (W m c)) :
    Given (qR m c) (dR m c) (kR m c) (vR m c) (given_ m c) where
  hq R c' p h l := by
    rw [q_eq]
    exact (flat_apply _ R c' p h l).trans (H.hQ _ _ _)
  hx R c' p h l := by
    rw [x_eq]
    exact (flat_apply _ R c' p h l).trans (H.hD _ _ _)
  hk c' s l := by
    rw [k_eq]
    exact (keys_apply _ c' s l).trans (H.hK _ _ _)
  hv c' s l := by
    rw [v_eq]
    exact (vals_apply _ c' s l).trans (H.hW _ _ _)
  ho R c' p h l := by
    rw [o_eq, mixed_apply]
    simp only [wt_real H, H.hW, ← EReal.coe_mul, Reals.sum_coe]
  hl R c' p h l := by
    rw [lse_eq, logs_apply, top_real H, den_real H c' p h R _ (top_real H c' p h R)]
    rfl

end Given

/-- The reference launches no kernel: it runs to its end with its arguments unchanged and every counter at zero. -/
theorem frame_ref : Cert.quiescent_AttnRefIdeal (hAttnRefIdeal := Cert.AttnRefIdeal.Gen.facts) := by
  intro m g _
  refine (θ_run _ _ _).mono (fun r h => ?_) (Cert.AttnRefIdeal.Value.run m g)
  exact ⟨fun c => (h c).2.2.2, sem_eq_zero_of_no_sems (sig := Cert.AttnRefIdeal.sig) (by decide) _⟩

/-- From memories that agree on finite arguments, both programs end with the same three arrays. -/
theorem algebraic : Cert.algebraic_AttnIdeal_AttnRefIdeal_pre_all_finite (hAttnIdeal := Cert.AttnIdeal.Gen.facts)
    (hAttnRefIdeal := Cert.AttnRefIdeal.Gen.facts) (hPre_all_finite := Cert.Pre_all_finite.Gen.facts) := by
  pair_intro
  · run_from Cert.AttnIdeal.Value.run_blocks m g
  · run_from Cert.AttnRefIdeal.Pieces.run m' g'
    · exact (dq_eq (holds m c hpre) (given m c (holds m c hpre))).trans (final_dq m c (spread (given m c (holds m c hpre)))).symm
    · exact (dk_eq (holds m c hpre) (given m c (holds m c hpre))).trans (final_dk m c (spread (given m c (holds m c hpre)))).symm
    · exact (dv_eq (holds m c hpre) (given m c (holds m c hpre))).trans (final_dv m c (spread (given m c (holds m c hpre)))).symm

end Cert.Attn

end
-- ==== Proof.PoolB.Words.lean ====
/- Words that count tokens: within the range of 32 bits, signed, they follow the integers. -/
module

public import Idealize.ShloMosaic.Lib.Pointwise
public import Idealize.ShloMosaic.Lib.IdealHost

@[expose] public section

noncomputable section

open Idealize.ShloMosaic

namespace Cert.PoolB.Words

/-- An integer that fits is read back from its word. -/
def Fits (z : ℤ) : Prop := -2147483648 ≤ z ∧ z < 2147483648

theorem toInt_of (z : ℤ) (h : Fits z) : (BitVec.ofInt 32 z).toInt = z := by
  obtain ⟨h1, h2⟩ := h
  rw [BitVec.toInt_ofInt, Int.bmod_def]
  split <;> omega

theorem add_of (x y : ℤ) : IntOp.addi (BitVec.ofInt 32 x) (BitVec.ofInt 32 y) = BitVec.ofInt 32 (x + y) := (BitVec.ofInt_add x y).symm

theorem sub_of (x y : ℤ) : IntOp.subi (BitVec.ofInt 32 x) (BitVec.ofInt 32 y) = BitVec.ofInt 32 (x - y) := by
  show BitVec.ofInt 32 x - BitVec.ofInt 32 y = _
  rw [BitVec.sub_eq_add_neg, ← BitVec.ofInt_neg, ← BitVec.ofInt_add, sub_eq_add_neg]

theorem max_of (x y : ℤ) (hx : Fits x) (hy : Fits y) : IntOp.maxsi (BitVec.ofInt 32 x) (BitVec.ofInt 32 y) = BitVec.ofInt 32 (max x y) := by
  unfold IntOp.maxsi
  simp only [BitVec.slt, BitVec.sle, toInt_of x hx, toInt_of y hy, decide_eq_true_eq]
  split <;> congr 1 <;> omega

theorem min_of (x y : ℤ) (hx : Fits x) (hy : Fits y) : IntOp.minsi (BitVec.ofInt 32 x) (BitVec.ofInt 32 y) = BitVec.ofInt 32 (min x y) := by
  unfold IntOp.minsi
  simp only [BitVec.slt, BitVec.sle, toInt_of x hx, toInt_of y hy, decide_eq_true_eq]
  split <;> congr 1 <;> omega

/-- A place held between 0 and the number of tokens. -/
def hold (z : ℤ) : ℤ := min 8192 (max 0 z)

theorem hold_of (z : ℤ) (hz : Fits z) : IntOp.minsi 8192#32 (IntOp.maxsi 0#32 (BitVec.ofInt 32 z)) = BitVec.ofInt 32 (hold z) := by
  have e0 : (0#32 : BitVec 32) = BitVec.ofInt 32 0 := rfl
  have e1 : (8192#32 : BitVec 32) = BitVec.ofInt 32 8192 := rfl
  rw [e0, e1, max_of 0 z (by constructor <;> omega) hz, min_of _ _ (by constructor <;> omega) (by obtain ⟨a, b⟩ := hz; constructor <;> omega)]
  rfl

theorem one_of : (FloatOps.sitofp .f32 (1#32) : Ideal .f32) = (1 : EReal) := by
  show (((1#32 : BitVec 32).toInt : ℝ) : EReal) = 1
  norm_num

theorem zero_of : (FloatOps.sitofp .f32 (0#32) : Ideal .f32) = (0 : EReal) := by
  show (((0#32 : BitVec 32).toInt : ℝ) : EReal) = 0
  norm_num

/-- Whether a place lies between two ends, as the number 1 or 0. -/
def inside (l h u : BitVec 32) : Ideal .f32 :=
  FloatOps.sitofp .f32 (BitVec.setWidth 32 (IntOp.andi (IntOp.cmpi .sge u l) (IntOp.cmpi .slt u h)))

theorem inside_of (l h u : ℤ) (hl : Fits l) (hh : Fits h) (hu : Fits u) :
    inside (BitVec.ofInt 32 l) (BitVec.ofInt 32 h) (BitVec.ofInt 32 u) = if l ≤ u ∧ u < h then (1 : EReal) else 0 := by
  unfold inside
  simp only [IntOp.cmpi, IntOp.andi, BitVec.slt, BitVec.sle, toInt_of _ hl, toInt_of _ hh, toInt_of _ hu]
  by_cases h1 : l ≤ u <;> by_cases h2 : u < h <;> simp [h1, h2, one_of, zero_of]

/-- A count of tokens as a number. -/
theorem number_of (z : ℤ) (hz : Fits z) : (FloatOps.sitofp .f32 (BitVec.ofInt 32 z) : Ideal .f32) = ((z : ℝ) : EReal) := by
  show (((BitVec.ofInt 32 z).toInt : ℝ) : EReal) = _
  rw [toInt_of z hz]

theorem nat_of (n : ℕ) : BitVec.ofNat 32 n = BitVec.ofInt 32 (n : ℤ) := (BitVec.ofInt_natCast 32 n).symm

/-- How far a window of each channel group reaches. -/
def half : Fin 4 → ℕ := ![1, 2, 4, 8]

theorem half_bounds (g : Fin 4) : 1 ≤ half g ∧ half g ≤ 8 := by
  fin_cases g <;> simp [half]

/-- Token `r` is in the window of token `v`. -/
def near (g : Fin 4) (r v : ℕ) : Prop := r + 1 ≤ v + half g ∧ v ≤ r + half g

instance (g : Fin 4) (r v : ℕ) : Decidable (near g r v) := by unfold near; infer_instance

/-- How many tokens the window of token `r` holds. -/
def cnt (g : Fin 4) (r : ℕ) : ℤ := hold (r + half g) - hold (r - half g)

theorem cnt_pos (g : Fin 4) (r : ℕ) (hr : r < 8192) : 0 < cnt g r := by
  have := half_bounds g
  unfold cnt hold; omega

theorem cnt_fits (g : Fin 4) (r : ℕ) : Fits (cnt g r) := by
  unfold cnt hold Fits; omega

/-- Row `k` of block `t`, as a word. -/
theorem row_word (t k : ℕ) : IntOp.addi (Scalar.muli (BitVec.ofNat 32 t) 256#32) (BitVec.ofNat 32 k) = BitVec.ofInt 32 (t * 256 + k) := by
  have : IntOp.addi (Scalar.muli (BitVec.ofNat 32 t) 256#32) (BitVec.ofNat 32 k) = BitVec.ofNat 32 (t * 256 + k) := by
    simp [Scalar.muli, IntOp.muli, IntOp.addi, BitVec.ofNat_add, BitVec.ofNat_mul]
  rw [this, nat_of]; push_cast; rfl

/-- Row `x` of the block and its surroundings, as a word. -/
theorem ext_word (t x : ℕ) : IntOp.addi (Scalar.subi (Scalar.muli (BitVec.ofNat 32 t) 256#32) 8#32) (BitVec.ofNat 32 x)
    = BitVec.ofInt 32 (t * 256 - 8 + x) := by
  have h : Scalar.muli (BitVec.ofNat 32 t) 256#32 = BitVec.ofInt 32 ((t : ℤ) * 256) := by
    have : Scalar.muli (BitVec.ofNat 32 t) 256#32 = BitVec.ofNat 32 (t * 256) := by simp [Scalar.muli, IntOp.muli, BitVec.ofNat_mul]
    rw [this, nat_of]; push_cast; rfl
  rw [h, nat_of x]
  have e : Scalar.subi (BitVec.ofInt 32 ((t : ℤ) * 256)) 8#32 = BitVec.ofInt 32 ((t : ℤ) * 256 - 8) := sub_of _ 8
  rw [e, add_of]

/-- The band's entry at row `k` of block `t` and row `x` of its surroundings. -/
theorem band_word (g : Fin 4) (t k x : ℕ) (ht : t < 32) (hk : k < 256) (hx : x < 272) :
    inside (IntOp.minsi 8192#32 (IntOp.maxsi 0#32 (IntOp.addi (IntOp.subi (IntOp.addi (Scalar.muli (BitVec.ofNat 32 t) 256#32) (BitVec.ofNat 32 k))
        (BitVec.ofNat 32 (half g))) 1#32)))
      (IntOp.minsi 8192#32 (IntOp.maxsi 0#32 (IntOp.addi (IntOp.addi (IntOp.addi (Scalar.muli (BitVec.ofNat 32 t) 256#32) (BitVec.ofNat 32 k))
        (BitVec.ofNat 32 (half g))) 1#32)))
      (IntOp.addi (Scalar.subi (Scalar.muli (BitVec.ofNat 32 t) 256#32) 8#32) (BitVec.ofNat 32 x))
    = if hold (t * 256 + k - half g + 1) ≤ (t * 256 - 8 + x : ℤ) ∧ (t * 256 - 8 + x : ℤ) < hold (t * 256 + k + half g + 1) then (1 : EReal) else 0 := by
  have hb := half_bounds g
  rw [row_word, ext_word, nat_of (half g), nat_of 1, sub_of, add_of, add_of, add_of,
    hold_of _ (by unfold Fits; push_cast; omega), hold_of _ (by unfold Fits; push_cast; omega),
    inside_of _ _ _ (by unfold Fits hold; push_cast; omega) (by unfold Fits hold; push_cast; omega) (by unfold Fits; omega)]
  rfl

/-- A window's length from the words of its ends. -/
theorem len_word (g : Fin 4) (r : ℤ) (h0 : 0 ≤ r) (h1 : r < 8192) :
    (FloatOps.sitofp .f32 (IntOp.subi
      (IntOp.minsi 8192#32 (IntOp.maxsi 0#32 (IntOp.subi (IntOp.addi (BitVec.ofInt 32 r) (BitVec.ofNat 32 (2 * half g))) (BitVec.ofNat 32 (half g)))))
      (IntOp.minsi 8192#32 (IntOp.maxsi 0#32 (IntOp.subi (BitVec.ofInt 32 r) (BitVec.ofNat 32 (half g)))))) : Ideal .f32)
    = ((cnt g r.toNat : ℝ) : EReal) := by
  have hb := half_bounds g
  rw [nat_of (half g), nat_of (2 * half g), add_of, sub_of, sub_of, hold_of _ (by unfold Fits; push_cast; omega), hold_of _ (by unfold Fits; push_cast; omega),
    sub_of, number_of _ (by unfold Fits hold; push_cast; omega)]
  have e : (hold (r + (2 * half g : ℕ) - half g) - hold (r - half g) : ℤ) = cnt g r.toNat := by
    unfold cnt hold; push_cast; omega
  rw [e]

end Cert.PoolB.Words

end
-- ==== Proof.PoolB.Blocks.lean ====
/- The pool's window, going back: what one row block holds, as functions of the array the call is given. -/
module

public import proofs.«01_k».proof.Proof.Gen.PoolBIdeal.Value
public import proofs.«01_k».proof.Proof.PoolB.Words
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.PoolBIdeal.Blocks

open Cert.PoolBIdeal Cert.PoolBIdeal.Gen Cert.PoolB.Words

variable (m : (ℓ : Loc nD τ sig) → Buf (Elt Ideal) ℓ)

/-- The windows' block indices: 8 rows before, 256 rows, 8 rows after, all held inside the array; and the result's columns. -/
theorem idx : ∀ t : Fin cfg0.N, win0_0.index t = ![t.val * 32 - 1, 0] ∧ win0_1.index t = ![t.val, 0]
    ∧ win0_2.index t = ![min ((t.val + 1) * 32) 1023, 0] ∧ win0_3.index t = ![t.val, 6]
    ∧ (grid0.coords t 0).val = t.val := (by decide +kernel : ∀ t : Fin grid0.N, _)

/-- The window sums' gradient, as the region finds it. -/
abbrev aN (c : Dev nD) : FVec Ideal S8192x512 .f32 := V m c main_v56

/-- Row `k` of block `t`, and of the rows before and after it. -/
def row (t : Fin cfg0.N) (k : Fin 256) : Fin 8192 := ⟨t.val * 256 + (k : ℕ), by have := lt_of_lt_of_eq t.isLt N_0; omega⟩
def rowP (t : Fin cfg0.N) (k : Fin 8) : Fin 8192 := ⟨(t.val * 32 - 1) * 8 + (k : ℕ), by have := lt_of_lt_of_eq t.isLt N_0; omega⟩
def rowN (t : Fin cfg0.N) (k : Fin 8) : Fin 8192 := ⟨min ((t.val + 1) * 32) 1023 * 8 + (k : ℕ), by have := lt_of_lt_of_eq t.isLt N_0; omega⟩

/-- Row `k` of the three together. -/
def src (t : Fin cfg0.N) (k : Fin 272) : Fin 8192 :=
  if h : (k : ℕ) < 8 then rowP t ⟨k, h⟩ else if h2 : (k : ℕ) < 264 then row t ⟨(k : ℕ) - 8, by omega⟩ else rowN t ⟨(k : ℕ) - 264, by omega⟩

/-- Column `d` of channel group `g`. -/
def col (g : Fin 4) (d : Fin 128) : Fin 512 := ⟨g * 128 + d, by omega⟩

theorem col_zero (d : Fin 128) : col 0 d = ⟨d, by omega⟩ := Fin.ext (by simp [col])

theorem p_iblk (c : Dev nD) (t : Fin cfg0.N) (k : Fin 8) (d : Fin 512) : iblk m c 0 t (ix2 k d) = aN m c (ix2 (rowP t k) d) := by
  unfold rowP; blk_point [iblk, V, idx t]

theorem c_iblk (c : Dev nD) (t : Fin cfg0.N) (k : Fin 256) (d : Fin 512) : iblk m c 1 t (ix2 k d) = aN m c (ix2 (row t k) d) := by
  unfold row; blk_point [iblk, V, idx t]

theorem n_iblk (c : Dev nD) (t : Fin cfg0.N) (k : Fin 8) (d : Fin 512) : iblk m c 2 t (ix2 k d) = aN m c (ix2 (rowN t k) d) := by
  unfold rowN; blk_point [iblk, V, idx t]

/-- The rows before, of, and after the block, one below the other. -/
theorem ext_at (c : Dev nD) (t : Fin cfg0.N) (k : Fin 272) (d : Fin 512) :
    k0_pay2 (iblk m c 0 t) (iblk m c 1 t) (iblk m c 2 t) (ix2 k d) = aN m c (ix2 (src t k) d) := by
  unfold src
  pointwise [k0_pay2]
  have hk := k.isLt
  by_cases h1 : (k : ℕ) < 8
  · rw [dif_pos h1, dif_pos h1, p_iblk]
  · rw [dif_neg h1, dif_neg h1]
    by_cases h2 : (k : ℕ) < 264
    · rw [dif_pos (by omega), dif_pos h2, c_iblk]
    · rw [dif_neg (by omega), dif_neg h2, n_iblk, show (⟨(k : ℕ) - 8 - 256, by omega⟩ : Fin 8) = ⟨(k : ℕ) - 264, by omega⟩ from Fin.ext (by simp only []; omega)]

/-- The rows a band reaches, summed, are the tokens whose windows hold the row. -/
theorem band_sum (A : Fin 8192 → EReal) (t : Fin cfg0.N) (k : Fin 256) (g : Fin 4) :
    (∑ x : Fin 272, (if hold (t.val * 256 + (k : ℕ) - half g + 1) ≤ (t.val * 256 - 8 + (x : ℕ) : ℤ)
        ∧ (t.val * 256 - 8 + (x : ℕ) : ℤ) < hold (t.val * 256 + (k : ℕ) + half g + 1) then (1 : EReal) else 0) * A (src t x))
      = ∑ v : Fin 8192, if near g (row t k) v then A v else 0 := by
  have hb := half_bounds g
  have hN := lt_of_lt_of_eq t.isLt N_0
  have hk := k.isLt
  simp only [ite_mul, one_mul, zero_mul]
  rw [← Finset.sum_filter, ← Finset.sum_filter]
  have key : ∀ x : Fin 272, (hold (t.val * 256 + (k : ℕ) - half g + 1) ≤ (t.val * 256 - 8 + (x : ℕ) : ℤ)
        ∧ (t.val * 256 - 8 + (x : ℕ) : ℤ) < hold (t.val * 256 + (k : ℕ) + half g + 1)) →
      ((src t x : ℕ) : ℤ) = t.val * 256 - 8 + (x : ℕ) := by
    intro x hx
    have hx' := x.isLt
    unfold hold at hx
    unfold src rowP row rowN
    split_ifs <;> simp only [] <;> push_cast <;> omega
  refine Finset.sum_bij (fun x _ => src t x) ?_ ?_ ?_ ?_
  · intro x hx
    rw [Finset.mem_filter] at hx ⊢
    have e := key x hx.2
    have h2 := hx.2
    refine ⟨Finset.mem_univ _, ?_⟩
    unfold hold at h2
    unfold near row
    simp only []
    omega
  · intro x hx y hy h
    rw [Finset.mem_filter] at hx hy
    have e1 := key x hx.2
    have e2 := key y hy.2
    rw [h] at e1
    exact Fin.ext (by omega)
  · intro v hv
    rw [Finset.mem_filter] at hv
    have h2 := hv.2
    have hv' := v.isLt
    unfold near row at h2
    simp only [] at h2
    refine ⟨⟨(v : ℕ) + 8 - t.val * 256, by omega⟩, ?_, ?_⟩
    · rw [Finset.mem_filter]
      refine ⟨Finset.mem_univ _, ?_⟩
      unfold hold
      simp only []
      omega
    · refine Fin.ext ?_
      have := key ⟨(v : ℕ) + 8 - t.val * 256, by omega⟩ (by unfold hold; simp only []; omega)
      simp only [] at this
      omega
  · intro x hx; rfl

/-- What a token gets back: its windows' gradients, less its own window's gradient times that window's length. -/
def poolAt (N : FVec Ideal S8192x512 .f32) (r : Fin 8192) (g : Fin 4) (d : Fin 128) : EReal :=
  (∑ v : Fin 8192, if near g r v then N (ix2 v (col g d)) else 0) - N (ix2 r (col g d)) * ((cnt g r : ℝ) : EReal)

def poolG (N : FVec Ideal S8192x512 .f32) (r : Fin 8192) (q : Fin 512) : EReal :=
  poolAt N r ⟨(q : ℕ) / 128, by omega⟩ ⟨(q : ℕ) % 128, by omega⟩

theorem poolG_at (N : FVec Ideal S8192x512 .f32) (r : Fin 8192) (g : Fin 4) (d : Fin 128) (q : Fin 512) (hq : (q : ℕ) = g * 128 + d) :
    poolG N r q = poolAt N r g d := by
  have e1 : (⟨(q : ℕ) / 128, by omega⟩ : Fin 4) = g := Fin.ext (by simp only []; omega)
  have e2 : (⟨(q : ℕ) % 128, by omega⟩ : Fin 128) = d := Fin.ext (by simp only []; omega)
  rw [show poolG N r q = poolAt N r ⟨(q : ℕ) / 128, by omega⟩ ⟨(q : ℕ) % 128, by omega⟩ from rfl, e1, e2]

/-- One block of the result. -/
def blk (c : Dev nD) (t : Fin cfg0.N) : Vec Ideal S256x512 .bf16 := fun y => poolG (aN m c) (row t (y 0)) (y 1)

/-- One group's part of a block, in the words the body computes it with. -/
theorem piece (c : Dev nD) (t : Fin cfg0.N) (k : Fin 256) (g : Fin 4) (d : Fin 128) :
    (∑ x : Fin 272, inside (IntOp.minsi 8192#32 (IntOp.maxsi 0#32 (IntOp.addi (IntOp.subi
          (IntOp.addi (Scalar.muli (BitVec.ofNat 32 t) 256#32) (BitVec.ofNat 32 k)) (BitVec.ofNat 32 (half g))) 1#32)))
        (IntOp.minsi 8192#32 (IntOp.maxsi 0#32 (IntOp.addi (IntOp.addi
          (IntOp.addi (Scalar.muli (BitVec.ofNat 32 t) 256#32) (BitVec.ofNat 32 k)) (BitVec.ofNat 32 (half g))) 1#32)))
        (IntOp.addi (Scalar.subi (Scalar.muli (BitVec.ofNat 32 t) 256#32) 8#32) (BitVec.ofNat 32 x)) * aN m c (ix2 (src t x) (col g d)))
      - aN m c (ix2 (row t k) (col g d)) * (FloatOps.sitofp .f32 (IntOp.subi
          (IntOp.minsi 8192#32 (IntOp.maxsi 0#32 (IntOp.subi (IntOp.addi
            (IntOp.addi (Scalar.muli (BitVec.ofNat 32 t) 256#32) (BitVec.ofNat 32 k)) (BitVec.ofNat 32 (2 * half g))) (BitVec.ofNat 32 (half g)))))
          (IntOp.minsi 8192#32 (IntOp.maxsi 0#32 (IntOp.subi
            (IntOp.addi (Scalar.muli (BitVec.ofNat 32 t) 256#32) (BitVec.ofNat 32 k)) (BitVec.ofNat 32 (half g)))))) : Ideal .f32)
    = poolAt (aN m c) (row t k) g d := by
  have hN := lt_of_lt_of_eq t.isLt N_0
  rw [Finset.sum_congr rfl fun x _ => by rw [band_word g t k x hN k.isLt x.isLt], row_word, len_word g _ (by omega) (by have := k.isLt; omega),
    band_sum (fun v => aN m c (ix2 v (col g d)))]
  rfl

theorem out_blk (c : Dev nD) (t : Fin cfg0.N) : outsAt0 m c t = blk m c t := by
  unfold outsAt0
  frame_out
  funext y
  canon_tiles x h
  all_goals
    pointwise [k0_pay1, k0_pay3, k0_pay4, k0_pay5, k0_pay6, k0_pay7, k0_pay8, k0_pay9, k0_pay10, k0_pay11, k0_pay12, k0_pay13, k0_pay14, k0_pay15, k0_pay16, k0_pay17, k0_pay18, idx t]
  all_goals (idx_vars x; idx_vars y)
  all_goals obtain rfl : y0 = x0 := Fin.ext h0
  all_goals simp only [ext_at, c_iblk]
  case piece0 => exact (piece m c t y0 3 x1).trans (poolG_at _ _ 3 x1 y1 (by simp; omega)).symm
  case piece1 => exact (piece m c t y0 2 x1).trans (poolG_at _ _ 2 x1 y1 (by simp; omega)).symm
  case piece2 => exact (piece m c t y0 1 x1).trans (poolG_at _ _ 1 x1 y1 (by simp; omega)).symm
  case piece3 =>
    have e := (piece m c t y0 0 x1).trans (poolG_at (aN m c) (row t y0) 0 x1 y1 (by simp; omega)).symm
    simp only [col_zero] at e
    exact e

end Cert.PoolBIdeal.Blocks

end
-- ==== Proof.PoolB.Value.lean ====
/- The pool's window, going back: what the call leaves in its result array. -/
module

public import proofs.«01_k».proof.Proof.PoolB.Blocks
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.PoolBIdeal.Value

open Cert.PoolBIdeal Cert.PoolBIdeal.Gen Cert.PoolBIdeal.Blocks Cert.PoolB.Words

variable (m : (ℓ : Loc nD τ sig) → Buf (Elt Ideal) ℓ)

/-- A word held between 0 and the number of tokens. -/
def held (x : IVec S8192 32) : IVec S8192 32 :=
  minsi (broadcastInDim S8192 ![] bcast_S_S8192 (id (constantI S_ 32 8192#32)))
    (maxsi (broadcastInDim S8192 ![] bcast_S_S8192 (id (constantI S_ 32 0#32))) x)

/-- A window's two ends at every token, and its length: the width `a`, the reach back `b`. -/
def lo (b : BitVec 32) : IVec S8192 32 :=
  held (subi (iotaInDim S8192 32 0) (broadcastInDim S8192 ![] bcast_S_S8192 (constantI S_ 32 b)))

def hi (a b : BitVec 32) : IVec S8192 32 :=
  held (subi (addi (iotaInDim S8192 32 0) (broadcastInDim S8192 ![] bcast_S_S8192 (constantI S_ 32 a)))
    (broadcastInDim S8192 ![] bcast_S_S8192 (constantI S_ 32 b)))

def count (a b : BitVec 32) : FVec Ideal S8192x1 .f32 :=
  broadcastInDim S8192x1 ![0] bcast_S8192_S8192x1_0 (sitofp .f32 (subi (hi a b) (lo b)))

theorem lo_at (g : Fin 4) (r : Fin 8192) : lo (BitVec.ofNat 32 (half g)) (ix1 r) = BitVec.ofInt 32 (hold (r - half g)) := by
  have hb := half_bounds g
  have hr := r.isLt
  pointwise [lo, held]
  show IntOp.minsi 8192#32 (IntOp.maxsi 0#32 _) = _
  rw [nat_of r, nat_of (half g), sub_of, hold_of _ (by unfold Fits; push_cast; omega)]

theorem hi_at (g : Fin 4) (r : Fin 8192) : hi (BitVec.ofNat 32 (2 * half g)) (BitVec.ofNat 32 (half g)) (ix1 r)
    = BitVec.ofInt 32 (hold (r + half g)) := by
  have hb := half_bounds g
  have hr := r.isLt
  pointwise [hi, held]
  show IntOp.minsi 8192#32 (IntOp.maxsi 0#32 _) = _
  rw [nat_of r, nat_of (half g), nat_of (2 * half g), add_of, sub_of, hold_of _ (by unfold Fits; push_cast; omega)]
  congr 2
  push_cast; ring

theorem count_at (g : Fin 4) (r : Fin 8192) : count (BitVec.ofNat 32 (2 * half g)) (BitVec.ofNat 32 (half g)) (ix2 r 0)
    = ((cnt g r : ℝ) : EReal) := by
  pointwise [count]
  rw [hi_at, lo_at, sub_of]
  exact number_of _ (cnt_fits g r)

/-- The gradient the call is given, divided by the windows' lengths, as the program writes it. -/
def shares (D : FVec Ideal S8192x512 .f32) : FVec Ideal S8192x512 .f32 :=
  shapeCast _ (Host.divf (shapeCast _ D shapeCasts_S8192x512_S8192x4x128)
    (broadcastInDim S8192x4x128 ![0, 1, 2] bcast_S8192x4x1_S8192x4x128_0_1_2
      (concatenate S8192x4x1 1 [⟨S8192x1x1, (broadcastInDim S8192x1x1 ![0, 2] bcast_S8192x1_S8192x1x1_0_2 (count 2#32 1#32) : (⟨S8192x1x1, .f32⟩ : BufTy).Contents (Elt Ideal))⟩,
        ⟨S8192x1x1, (broadcastInDim S8192x1x1 ![0, 2] bcast_S8192x1_S8192x1x1_0_2 (count 4#32 2#32) : (⟨S8192x1x1, .f32⟩ : BufTy).Contents (Elt Ideal))⟩,
        ⟨S8192x1x1, (broadcastInDim S8192x1x1 ![0, 2] bcast_S8192x1_S8192x1x1_0_2 (count 8#32 4#32) : (⟨S8192x1x1, .f32⟩ : BufTy).Contents (Elt Ideal))⟩,
        ⟨S8192x1x1, (broadcastInDim S8192x1x1 ![0, 2] bcast_S8192x1_S8192x1x1_0_2 (count 16#32 8#32) : (⟨S8192x1x1, .f32⟩ : BufTy).Contents (Elt Ideal))⟩]
        concatenates_S8192x1x1_S8192x1x1_S8192x1x1_S8192x1x1_S8192x4x1_d1))) shapeCasts_S8192x4x128_S8192x512

theorem shares_eq (c : Dev nD) : aN m c = shares (m ((c.tc : Thread nD τ).loc main_arg1)) := by
  sl_kernel_rfl

theorem shares_at (D : FVec Ideal S8192x512 .f32) (r : Fin 8192) (g : Fin 4) (d : Fin 128) :
    shares D (ix2 r (col g d)) = Ideal.div (D (ix2 r (col g d))) ((cnt g r : ℝ) : EReal) := by
  rw [← count_at]
  unfold col
  fin_cases g <;> pointwise [shares]
  all_goals refine congrArg₂ Ideal.div (congrArg D (congrArg (ix2 r) (Fin.ext (by simp only []; omega)))) ?_
  · rw [dif_pos (by omega)]; rfl
  · rw [dif_neg (by omega), dif_pos (by omega)]; rfl
  · rw [dif_neg (by omega), dif_neg (by omega), dif_pos (by omega)]; rfl
  · rw [dif_neg (by omega), dif_neg (by omega), dif_neg (by omega)]; rfl

/-- The array the call writes its columns into is zero. -/
theorem rest_eq (c : Dev nD) : V m c main_v58 = (broadcastInDim S8192x6656 ![] bcast_S_S8192x6656 (constant S_ .bf16 0x0000#16) : FVec Ideal S8192x6656 .bf16) := by
  sl_kernel_rfl

theorem rest_zero (c : Dev nD) (r : Fin 8192) (q : Fin 6656) : V m c main_v58 (ix2 r q) = (0 : EReal) := by
  rw [rest_eq]
  pointwise

/-- The result: the gradient in the columns 3072 to 3583, zero elsewhere. -/
def resG (N : FVec Ideal S8192x512 .f32) : FVec Ideal S8192x6656 .bf16 := fun i =>
  if h : 3072 ≤ (i 1 : ℕ) ∧ (i 1 : ℕ) < 3584 then poolG N (i 0) ⟨(i 1 : ℕ) - 3072, by omega⟩ else 0

/-- The gradient at every column, the columns counted in groups of 512. -/
def allG (N : FVec Ideal S8192x512 .f32) : FVec Ideal S8192x6656 .bf16 := fun i => poolG N (i 0) ⟨(i 1 : ℕ) % 512, by omega⟩

theorem final_where (c : Dev nD) : (dats m 0 c).arrAt 3 cfg0.N = fun i => if (i 1 : ℕ) / 512 = 6 then allG (aN m c) i else (dats m 0 c).A 3 i := by
  refine (dats m 0 c).arrAt_eq_of_coversWhere 3 (allG (aN m c)) (fun β => β 1 = 6) (by decide +kernel) (fun t hf y => ?_) (fun j => Iff.rfl)
  blk_simp
  rw [after0_3, out_blk]
  unfold blk row
  unfold allG
  refine congrArg₂ (poolG (aN m c)) (Fin.ext ?_) (Fin.ext ?_)
  · blk_point [idx t]
  · have e : (((win0_3.blk t).view.emb y) 1 : ℕ) = 3072 + (y 1 : ℕ) := by
      blk_point [idx t]
    have hy : (y 1 : ℕ) < 512 := (y 1).isLt
    show (y 1 : ℕ) = (((win0_3.blk t).view.emb y) 1 : ℕ) % 512
    rw [e]; omega

theorem final (c : Dev nD) : (dats m 0 c).arrAt 3 cfg0.N = resG (aN m c) := by
  rw [final_where]
  funext y
  obtain ⟨r, q, rfl⟩ : ∃ (r : Fin 8192) (q : Fin 6656), y = ix2 r q := ⟨y 0, y 1, eq_ix2 y⟩
  show (if (q : ℕ) / 512 = 6 then poolG (aN m c) r ⟨(q : ℕ) % 512, by omega⟩ else (dats m 0 c).A 3 (ix2 r q))
    = if h : 3072 ≤ (q : ℕ) ∧ (q : ℕ) < 3584 then poolG (aN m c) r ⟨(q : ℕ) - 3072, by omega⟩ else 0
  by_cases h : 3072 ≤ (q : ℕ) ∧ (q : ℕ) < 3584
  · rw [if_pos (by omega), dif_pos h]
    exact congrArg _ (Fin.ext (by simp only []; omega))
  · rw [if_neg (by omega), dif_neg h, A_eq]
    exact rest_zero m c r q

end Cert.PoolBIdeal.Value

end
-- ==== Proof.PoolB.Sums.lean ====
/- The plain derivative's two sums, read at an index: rows added at places an index array names, and sums from a row to the last. -/
module

public import proofs.«01_k».proof.Proof.PoolB.Words
public import proofs.«01_k».proof.Proof.Gen.PoolBRefIdeal.Run

@[expose] public section

set_option maxRecDepth 16384

noncomputable section

open Idealize.ShloMosaic Idealize.ShloMosaic.TcCoe Idealize.SL.Sem

namespace Cert.PoolBRefIdeal.Sums

open Cert.PoolBRefIdeal Cert.PoolBRefIdeal.Gen

/-- The places the rows are added at. -/
abbrev Sc := scatter_S8193x4x128_S8192x2_S8192x128_1_01_01_1

/-- Row `v` goes to the place and the group its two words name. -/
theorem place_iff (idx : IVec S8192x2 32) (v : Fin 8192) (l : Fin 128) (k : Fin 8193) (g : Fin 4) (d : Fin 128) :
    Sc.resultIdx? (ix2 v l) idx = some (ix3 k g d)
      ↔ (idx (ix2 v 0)).toInt = (k : ℕ) ∧ (idx (ix2 v 1)).toInt = (g : ℕ) ∧ l = d := by
  have i0 : Sc.siIdx (ix2 v l) ⟨0, by decide⟩ = ix2 v 0 := by
    funext b; fin_cases b <;> rfl
  have i1 : Sc.siIdx (ix2 v l) ⟨1, by decide⟩ = ix2 v 1 := by
    funext b; fin_cases b <;> rfl
  have s0 : Sc.start (ix2 v l) idx 0 = (idx (ix2 v 0)).toInt := by
    rw [← i0]; rfl
  have s1 : Sc.start (ix2 v l) idx 1 = (idx (ix2 v 1)).toInt := by
    rw [← i1]; rfl
  have s2 : Sc.start (ix2 v l) idx 2 = 0 := rfl
  have w0 : Sc.window (ix2 v l) 0 = 0 := rfl
  have w1 : Sc.window (ix2 v l) 1 = 0 := rfl
  have w2 : Sc.window (ix2 v l) 2 = (l : ℕ) := rfl
  have hk := k.isLt
  have hg := g.isLt
  have hl := l.isLt
  unfold ScatterDims.resultIdx?
  constructor
  · intro h
    split_ifs at h with hin
    have e := Option.some.inj h
    have a0 := congrArg Fin.val (congrFun e 0)
    have a1 := congrArg Fin.val (congrFun e 1)
    have a2 := congrArg Fin.val (congrFun e 2)
    have b0 := hin 0
    have b1 := hin 1
    simp only [s0, s1, s2, w0, w1, w2] at a0 a1 a2 b0 b1
    have c0 : ((idx (ix2 v 0)).toInt + (0 : ℕ)).toNat = (k : ℕ) := a0
    have c1 : ((idx (ix2 v 1)).toInt + (0 : ℕ)).toNat = (g : ℕ) := a1
    have c2 : ((0 : ℤ) + (l : ℕ)).toNat = (d : ℕ) := a2
    refine ⟨by omega, by omega, Fin.ext (by omega)⟩
  · rintro ⟨e0, e1, rfl⟩
    rw [dif_pos]
    · refine congrArg some ?_
      funext a
      fin_cases a
      · refine Fin.ext ?_
        show (Sc.start (ix2 v l) idx 0 + (Sc.window (ix2 v l) 0 : ℕ)).toNat = (k : ℕ)
        rw [s0, w0, e0]; omega
      · refine Fin.ext ?_
        show (Sc.start (ix2 v l) idx 1 + (Sc.window (ix2 v l) 1 : ℕ)).toNat = (g : ℕ)
        rw [s1, w1, e1]; omega
      · refine Fin.ext ?_
        show (Sc.start (ix2 v l) idx 2 + (Sc.window (ix2 v l) 2 : ℕ)).toNat = (l : ℕ)
        rw [s2, w2]; omega
    · intro a
      fin_cases a
      · show 0 ≤ Sc.start (ix2 v l) idx 0 + (Sc.window (ix2 v l) 0 : ℕ) ∧ Sc.start (ix2 v l) idx 0 + (Sc.window (ix2 v l) 0 : ℕ) < (8193 : ℕ)
        rw [s0, w0, e0]; omega
      · show 0 ≤ Sc.start (ix2 v l) idx 1 + (Sc.window (ix2 v l) 1 : ℕ) ∧ Sc.start (ix2 v l) idx 1 + (Sc.window (ix2 v l) 1 : ℕ) < (4 : ℕ)
        rw [s1, w1, e1]; omega
      · show 0 ≤ Sc.start (ix2 v l) idx 2 + (Sc.window (ix2 v l) 2 : ℕ) ∧ Sc.start (ix2 v l) idx 2 + (Sc.window (ix2 v l) 2 : ℕ) < (128 : ℕ)
        rw [s2, w2]; omega

/-- The rows added at place `k` of group `g`. -/
theorem added_at (Z : FVec Ideal S8193x4x128 .f32) (idx : IVec S8192x2 32) (y : FVec Ideal S8192x128 .f32) (k : Fin 8193) (g : Fin 4) (d : Fin 128) :
    Host.scatterAdd Sc Z idx y (ix3 k g d)
      = Z (ix3 k g d) + ∑ v : Fin 8192, if (idx (ix2 v 0)).toInt = (k : ℕ) ∧ (idx (ix2 v 1)).toInt = (g : ℕ) then y (ix2 v d) else (0 : EReal) := by
  show Z (ix3 k g d) + ∑ j ∈ Finset.univ.filter (fun j => Sc.resultIdx? j idx = some (ix3 k g d)), y j = _
  refine congrArg (fun s : EReal => Z (ix3 k g d) + s) ?_
  rw [Finset.sum_filter, sum_idx2]
  refine Finset.sum_congr rfl fun v _ => ?_
  simp only [place_iff]
  rw [Finset.sum_eq_single d]
  · simp
  · intro l _ hl
    rw [if_neg (fun h => hl h.2.2)]
  · intro h; exact absurd (Finset.mem_univ d) h

/-- A fold of additions is the sum. -/
theorem fold_sum {n : ℕ} (f : Fin n → EReal) : (List.finRange n).foldl (fun r k => r + f k) 0 = ∑ k, f k := by
  rw [Fin.sum_univ_def, List.sum_eq_foldl, List.foldl_map]

/-- The sum of the rows from `r` on. -/
theorem from_at (x : FVec Ideal S8192x4x128 .f32) (z : FVec Ideal S_ .f32) (hz : ∀ i, z i = (0 : EReal)) (r : Fin 8192) (g : Fin 4) (d : Fin 128) :
    Host.reduceWindowAdd ![8192, 1, 1] ![1, 1, 1] ![0, 0, 0] ![8191, 0, 0] x z
        reduceWindows_S8192x4x128_S8192x4x128_w8192s1p0_8191_w1s1p0_0_w1s1p0_0 h_S_ (ix3 r g d)
      = ∑ n : Fin 8192, if h : (r : ℕ) + (n : ℕ) < 8192 then x (ix3 ⟨(r : ℕ) + (n : ℕ), h⟩ g d) else (0 : EReal) := by
  unfold Host.reduceWindowAdd
  rw [hz]
  show Ideal.hostReduceWindowAdd _ _ _ _ _ x 0 (ix3 r g d) = _
  unfold Ideal.hostReduceWindowAdd Host.reduceWindow
  simp only []
  rw [fold_sum]
  symm
  refine Finset.sum_bij (fun n _ => (⟨3, ![8192, 1, 1]⟩ : Shape).rowMajor (ix3 n 0 0)) (fun _ _ => Finset.mem_univ _) ?_ ?_ ?_
  · intro a _ b _ h
    exact congrFun ((⟨3, ![8192, 1, 1]⟩ : Shape).rowMajor.injective h) 0
  · intro k _
    refine ⟨(⟨3, ![8192, 1, 1]⟩ : Shape).rowMajor.symm k 0, Finset.mem_univ _, ?_⟩
    rw [← Equiv.eq_symm_apply]
    funext a
    fin_cases a
    · rfl
    · exact Subsingleton.elim (α := Fin 1) _ _
    · exact Subsingleton.elim (α := Fin 1) _ _
  · intro n _
    simp only [Equiv.symm_apply_apply]
    have hg := g.isLt
    have hd := d.isLt
    by_cases h : (r : ℕ) + (n : ℕ) < 8192
    · rw [dif_pos h, dif_pos]
      · refine congrArg x ?_
        funext a
        fin_cases a <;> refine Fin.ext ?_
        · show (r : ℕ) + (n : ℕ) = (r : ℕ) * 1 + (n : ℕ) - 0
          omega
        · show (g : ℕ) = (g : ℕ) * 1 + 0 - 0
          omega
        · show (d : ℕ) = (d : ℕ) * 1 + 0 - 0
          omega
      · intro a
        fin_cases a
        · show 0 ≤ (r : ℕ) * 1 + (n : ℕ) ∧ (r : ℕ) * 1 + (n : ℕ) - 0 < 8192
          omega
        · show 0 ≤ (g : ℕ) * 1 + 0 ∧ (g : ℕ) * 1 + 0 - 0 < 4
          omega
        · show 0 ≤ (d : ℕ) * 1 + 0 ∧ (d : ℕ) * 1 + 0 - 0 < 128
          omega
    · rw [dif_neg h, dif_neg]
      intro hin
      have h0 : 0 ≤ (r : ℕ) * 1 + (n : ℕ) ∧ (r : ℕ) * 1 + (n : ℕ) - 0 < 8192 := hin 0
      omega

end Cert.PoolBRefIdeal.Sums

end
-- ==== Proof.PoolB.Plain.lean ====
/- The derivative of the pool's window, plain: its pieces named, and each read at an index. -/
module

public import proofs.«01_k».proof.Proof.PoolB.Value
public import proofs.«01_k».proof.Proof.PoolB.Sums

@[expose] public section

set_option maxRecDepth 16384

noncomputable section

open Idealize.ShloMosaic Idealize.ShloMosaic.TcCoe Idealize.SL.Sem

namespace Cert.PoolBRefIdeal.Plain

open Cert.PoolBRefIdeal Cert.PoolBRefIdeal.Gen Cert.PoolBRefIdeal.Sums Cert.PoolB.Words
open Cert.PoolBIdeal.Value (lo hi count lo_at hi_at count_at)
open Cert.PoolBIdeal.Blocks (col)

/-- Every token's place and its group. -/
def places (i : IVec S8192 32) (g : BitVec 32) : IVec S8192x2 32 :=
  concatenate S8192x2 1 [⟨S8192x1, (broadcastInDim S8192x1 ![0] bcast_S8192_S8192x1_0
        (select (cmpi .slt i (broadcastInDim S8192 ![] bcast_S_S8192 (constantI S_ 32 0#32)))
          (addi i (broadcastInDim S8192 ![] bcast_S_S8192 (constantI S_ 32 8193#32))) i))⟩,
      ⟨S8192x1, (broadcastInDim S8192x1 ![0] bcast_S8192_S8192x1_0 (id (broadcastInDim S8192 ![] bcast_S_S8192 (constantI S_ 32 g))))⟩]
      concatenates_S8192x1_S8192x1_S8192x2_d1

/-- The cotangent's rows of one group, and those divided by the windows' lengths. -/
def rows0 (D : FVec Ideal S8192x512 .f32) : FVec Ideal S8192x128 .f32 :=
  shapeCast _ (extractStridedSlice S8192x1x128 ![0, 0, 0] (shapeCast _ D shapeCasts_S8192x512_S8192x4x128) slices_S8192x4x128_S8192x1x128_0_0_0) shapeCasts_S8192x1x128_S8192x128
def rows1 (D : FVec Ideal S8192x512 .f32) : FVec Ideal S8192x128 .f32 :=
  shapeCast _ (extractStridedSlice S8192x1x128 ![0, 1, 0] (shapeCast _ D shapeCasts_S8192x512_S8192x4x128) slices_S8192x4x128_S8192x1x128_0_1_0) shapeCasts_S8192x1x128_S8192x128
def rows2 (D : FVec Ideal S8192x512 .f32) : FVec Ideal S8192x128 .f32 :=
  shapeCast _ (extractStridedSlice S8192x1x128 ![0, 2, 0] (shapeCast _ D shapeCasts_S8192x512_S8192x4x128) slices_S8192x4x128_S8192x1x128_0_2_0) shapeCasts_S8192x1x128_S8192x128
def rows3 (D : FVec Ideal S8192x512 .f32) : FVec Ideal S8192x128 .f32 :=
  shapeCast _ (extractStridedSlice S8192x1x128 ![0, 3, 0] (shapeCast _ D shapeCasts_S8192x512_S8192x4x128) slices_S8192x4x128_S8192x1x128_0_3_0) shapeCasts_S8192x1x128_S8192x128

def share (R : FVec Ideal S8192x128 .f32) (a b : BitVec 32) : FVec Ideal S8192x128 .f32 :=
  Host.divf R (broadcastInDim S8192x128 ![0, 1] bcast_S8192x1_S8192x128_0_1 (count a b))

/-- Rows added at their places into an array of zeros. -/
def added (i : IVec S8192 32) (g : BitVec 32) (y : FVec Ideal S8192x128 .f32) : FVec Ideal S8193x4x128 .f32 :=
  Host.scatterAdd Sc (broadcastInDim S8193x4x128 ![] bcast_S_S8193x4x128 (constant S_ .f32 0x00000000#32)) (places i g) y

/-- The gradient of the cumulative sums: each share is added at its window's end and taken away at its start. -/
def dcsum (D : FVec Ideal S8192x512 .f32) : FVec Ideal S8193x4x128 .f32 :=
  addf (addf (addf (addf (addf (addf (addf
    (added (lo 8#32) 3#32 (Host.negf (share (rows3 D) 16#32 8#32))) (added (hi 16#32 8#32) 3#32 (share (rows3 D) 16#32 8#32)))
    (added (lo 4#32) 2#32 (Host.negf (share (rows2 D) 8#32 4#32)))) (added (hi 8#32 4#32) 2#32 (share (rows2 D) 8#32 4#32)))
    (added (lo 2#32) 1#32 (Host.negf (share (rows1 D) 4#32 2#32)))) (added (hi 4#32 2#32) 1#32 (share (rows1 D) 4#32 2#32)))
    (added (lo 1#32) 0#32 (Host.negf (share (rows0 D) 2#32 1#32)))) (added (hi 2#32 1#32) 0#32 (share (rows0 D) 2#32 1#32))

/-- The gradient of the tokens through the cumulative sums. -/
def dsum (D : FVec Ideal S8192x512 .f32) : FVec Ideal S8192x4x128 .f32 :=
  Host.reduceWindowAdd ![8192, 1, 1] ![1, 1, 1] ![0, 0, 0] ![8191, 0, 0]
    (extractStridedSlice S8192x4x128 ![1, 0, 0] (dcsum D) slices_S8193x4x128_S8192x4x128_1_0_0)
    (broadcastInDim S_ ![] bcast_S_S_ (constant S_ .f32 0x00000000#32))
    reduceWindows_S8192x4x128_S8192x4x128_w8192s1p0_8191_w1s1p0_0_w1s1p0_0 h_S_

/-- The gradient of the tokens taken away from the means. -/
def dself (D : FVec Ideal S8192x512 .f32) : FVec Ideal S8192x4x128 .f32 :=
  addf (addf (addf
    (pad S8192x4x128 ![0, 3, 0] ![0, 0, 0] ![0, 0, 0] (broadcastInDim S8192x1x128 ![0, 2] bcast_S8192x128_S8192x1x128_0_2 (Host.negf (rows3 D))) (constant (F := Ideal) S_ .f32 0x00000000#32) pads_S8192x1x128_S8192x4x128_000_300_000 h_S_)
    (pad S8192x4x128 ![0, 2, 0] ![0, 1, 0] ![0, 0, 0] (broadcastInDim S8192x1x128 ![0, 2] bcast_S8192x128_S8192x1x128_0_2 (Host.negf (rows2 D))) (constant (F := Ideal) S_ .f32 0x00000000#32) pads_S8192x1x128_S8192x4x128_000_210_000 h_S_))
    (pad S8192x4x128 ![0, 1, 0] ![0, 2, 0] ![0, 0, 0] (broadcastInDim S8192x1x128 ![0, 2] bcast_S8192x128_S8192x1x128_0_2 (Host.negf (rows1 D))) (constant (F := Ideal) S_ .f32 0x00000000#32) pads_S8192x1x128_S8192x4x128_000_120_000 h_S_))
    (pad S8192x4x128 ![0, 0, 0] ![0, 3, 0] ![0, 0, 0] (broadcastInDim S8192x1x128 ![0, 2] bcast_S8192x128_S8192x1x128_0_2 (Host.negf (rows0 D))) (constant (F := Ideal) S_ .f32 0x00000000#32) pads_S8192x1x128_S8192x4x128_000_030_000 h_S_)

/-- The result. -/
def res (D : FVec Ideal S8192x512 .f32) : FVec Ideal S8192x6656 .bf16 :=
  truncf .bf16 (pad S8192x6656 ![0, 3072] ![0, 3072] ![0, 0] (addf (shapeCast _ (dself D) shapeCasts_S8192x4x128_S8192x512)
    (shapeCast _ (dsum D) shapeCasts_S8192x4x128_S8192x512)) (sitofp (F := Ideal) .f32 (constantI S_ 32 0#32)) pads_S8192x512_S8192x6656_000_307230720 h_S_) bitsLt_bf16_f32

theorem places_word (i : IVec S8192 32) (g : BitVec 32) (v : Fin 8192) (z : ℤ) (hz : 0 ≤ z ∧ z ≤ 8192) (h : i (ix1 v) = BitVec.ofInt 32 z) :
    (places i g (ix2 v 0)).toInt = z ∧ (places i g (ix2 v 1)).toInt = g.toInt := by
  constructor
  · pointwise [places]
    rw [h]
    have e : IntOp.cmpi CmpIPredicate.slt (BitVec.ofInt 32 z) 0#32 = 0#1 := by
      rw [nat_of 0]
      simp only [IntOp.cmpi, BitVec.slt, toInt_of z (by unfold Fits; omega), toInt_of ((0 : ℕ) : ℤ) (by unfold Fits; omega)]
      rw [decide_eq_false (by push_cast; omega)]
      rfl
    rw [e]
    show (BitVec.ofInt 32 z).toInt = z
    exact toInt_of z (by unfold Fits; omega)
  · pointwise [places]
    rfl

/-- What rows of group `h`, added at the places `z`, leave at place `k` of group `g`. -/
theorem added_group (i : IVec S8192 32) (h : Fin 4) (z : Fin 8192 → ℤ) (hz : ∀ v, 0 ≤ z v ∧ z v ≤ 8192) (hi : ∀ v, i (ix1 v) = BitVec.ofInt 32 (z v))
    (y : FVec Ideal S8192x128 .f32) (k : Fin 8193) (g : Fin 4) (d : Fin 128) :
    added i (BitVec.ofNat 32 h) y (ix3 k g d) = if h = g then ∑ v : Fin 8192, (if z v = (k : ℕ) then y (ix2 v d) else (0 : EReal)) else (0 : EReal) := by
  unfold added
  rw [added_at]
  have e0 : (broadcastInDim S8193x4x128 ![] bcast_S_S8193x4x128 (constant (F := Ideal) S_ .f32 0x00000000#32)) (ix3 k g d) = (0 : EReal) := by
    pointwise
  have eh : (BitVec.ofNat 32 (h : ℕ)).toInt = (h : ℕ) := by
    rw [nat_of, toInt_of _ (by have := h.isLt; unfold Fits; omega)]
  rw [e0, zero_add]
  have ep : ∀ v : Fin 8192, ((places i (BitVec.ofNat 32 h) (ix2 v 0)).toInt = (k : ℕ) ∧ (places i (BitVec.ofNat 32 h) (ix2 v 1)).toInt = (g : ℕ)) ↔ (z v = (k : ℕ) ∧ h = g) := by
    intro v
    obtain ⟨p0, p1⟩ := places_word i (BitVec.ofNat 32 h) v (z v) (hz v) (hi v)
    rw [p0, p1, eh]
    constructor
    · rintro ⟨a, b⟩; exact ⟨a, Fin.ext (by omega)⟩
    · rintro ⟨a, rfl⟩; exact ⟨a, rfl⟩
  simp only [ep]
  by_cases e : h = g
  · rw [if_pos e]; simp only [e, and_true]
  · rw [if_neg e]
    exact Finset.sum_eq_zero fun v _ => if_neg fun q => e q.2

/-- A token's gradient divided by its window's length. -/
def sh (D : FVec Ideal S8192x512 .f32) (g : Fin 4) (d : Fin 128) (v : Fin 8192) : EReal :=
  Ideal.div (D (ix2 v (col g d))) ((cnt g v : ℝ) : EReal)

theorem share0_at (D : FVec Ideal S8192x512 .f32) (v : Fin 8192) (d : Fin 128) : share (rows0 D) 2#32 1#32 (ix2 v d) = sh D 0 d v := by
  unfold sh
  rw [← count_at]
  unfold col
  pointwise [share, rows0]
  rfl

theorem share1_at (D : FVec Ideal S8192x512 .f32) (v : Fin 8192) (d : Fin 128) : share (rows1 D) 4#32 2#32 (ix2 v d) = sh D 1 d v := by
  unfold sh
  rw [← count_at]
  unfold col
  pointwise [share, rows1]
  rfl

theorem share2_at (D : FVec Ideal S8192x512 .f32) (v : Fin 8192) (d : Fin 128) : share (rows2 D) 8#32 4#32 (ix2 v d) = sh D 2 d v := by
  unfold sh
  rw [← count_at]
  unfold col
  pointwise [share, rows2]
  rfl

theorem share3_at (D : FVec Ideal S8192x512 .f32) (v : Fin 8192) (d : Fin 128) : share (rows3 D) 16#32 8#32 (ix2 v d) = sh D 3 d v := by
  unfold sh
  rw [← count_at]
  unfold col
  pointwise [share, rows3]
  rfl

theorem hold_bounds (z : ℤ) : 0 ≤ hold z ∧ hold z ≤ 8192 := by unfold hold; omega

theorem at_lo (g : Fin 4) (y : FVec Ideal S8192x128 .f32) (k : Fin 8193) (g' : Fin 4) (d : Fin 128) :
    added (lo (BitVec.ofNat 32 (half g))) (BitVec.ofNat 32 g) y (ix3 k g' d)
      = if g = g' then ∑ v : Fin 8192, (if hold ((v : ℕ) - half g) = (k : ℕ) then y (ix2 v d) else (0 : EReal)) else (0 : EReal) :=
  added_group _ g (fun v => hold ((v : ℕ) - half g)) (fun v => hold_bounds _) (fun v => lo_at g v) y k g' d

theorem at_hi (g : Fin 4) (y : FVec Ideal S8192x128 .f32) (k : Fin 8193) (g' : Fin 4) (d : Fin 128) :
    added (hi (BitVec.ofNat 32 (2 * half g)) (BitVec.ofNat 32 (half g))) (BitVec.ofNat 32 g) y (ix3 k g' d)
      = if g = g' then ∑ v : Fin 8192, (if hold ((v : ℕ) + half g) = (k : ℕ) then y (ix2 v d) else (0 : EReal)) else (0 : EReal) :=
  added_group _ g (fun v => hold ((v : ℕ) + half g)) (fun v => hold_bounds _) (fun v => hi_at g v) y k g' d

theorem dcsum_at (D : FVec Ideal S8192x512 .f32) (k : Fin 8193) (g : Fin 4) (d : Fin 128) : dcsum D (ix3 k g d)
    = (∑ v : Fin 8192, if hold ((v : ℕ) - half g) = (k : ℕ) then -sh D g d v else (0 : EReal))
      + ∑ v : Fin 8192, if hold ((v : ℕ) + half g) = (k : ℕ) then sh D g d v else (0 : EReal) := by
  have l0 := at_lo 0 (Host.negf (share (rows0 D) 2#32 1#32)) k g d
  have l1 := at_lo 1 (Host.negf (share (rows1 D) 4#32 2#32)) k g d
  have l2 := at_lo 2 (Host.negf (share (rows2 D) 8#32 4#32)) k g d
  have l3 := at_lo 3 (Host.negf (share (rows3 D) 16#32 8#32)) k g d
  have h0 := at_hi 0 (share (rows0 D) 2#32 1#32) k g d
  have h1 := at_hi 1 (share (rows1 D) 4#32 2#32) k g d
  have h2 := at_hi 2 (share (rows2 D) 8#32 4#32) k g d
  have h3 := at_hi 3 (share (rows3 D) 16#32 8#32) k g d
  have n0 : ∀ v, (Host.negf (share (rows0 D) 2#32 1#32)) (ix2 v d) = -sh D 0 d v := fun v => congrArg (fun x : EReal => -x) (share0_at D v d)
  have n1 : ∀ v, (Host.negf (share (rows1 D) 4#32 2#32)) (ix2 v d) = -sh D 1 d v := fun v => congrArg (fun x : EReal => -x) (share1_at D v d)
  have n2 : ∀ v, (Host.negf (share (rows2 D) 8#32 4#32)) (ix2 v d) = -sh D 2 d v := fun v => congrArg (fun x : EReal => -x) (share2_at D v d)
  have n3 : ∀ v, (Host.negf (share (rows3 D) 16#32 8#32)) (ix2 v d) = -sh D 3 d v := fun v => congrArg (fun x : EReal => -x) (share3_at D v d)
  simp only [n0, n1, n2, n3, share0_at, share1_at, share2_at, share3_at] at l0 l1 l2 l3 h0 h1 h2 h3
  refine (congrArg₂ (· + ·) (congrArg₂ (· + ·) (congrArg₂ (· + ·) (congrArg₂ (· + ·) (congrArg₂ (· + ·) (congrArg₂ (· + ·) (congrArg₂ (· + ·)
    l3 h3) l2) h2) l1) h1) l0) h0 : (_ : EReal) = _).trans ?_
  fin_cases g <;> simp

theorem dself_at (D : FVec Ideal S8192x512 .f32) (r : Fin 8192) (g : Fin 4) (d : Fin 128) : dself D (ix3 r g d) = -(D (ix2 r (col g d)) : EReal) := by
  unfold col
  fin_cases g <;> pointwise [dself, rows0, rows1, rows2, rows3]

theorem dsum_at (D : FVec Ideal S8192x512 .f32) (r : Fin 8192) (g : Fin 4) (d : Fin 128) : dsum D (ix3 r g d)
    = ∑ n : Fin 8192, if h : (r : ℕ) + (n : ℕ) < 8192 then dcsum D (ix3 ⟨(r : ℕ) + (n : ℕ) + 1, by omega⟩ g d) else (0 : EReal) := by
  unfold dsum
  rw [from_at _ _ (by intro i; pointwise)]
  refine Finset.sum_congr rfl fun n _ => ?_
  by_cases h : (r : ℕ) + (n : ℕ) < 8192
  · rw [dif_pos h, dif_pos h]
    pointwise
    exact congrArg (fun q => dcsum D (ix3 q g d)) (Fin.ext (by simp only []; omega))
  · rw [dif_neg h, dif_neg h]

/-- The sum from a row on of what was added at one place: all of it where the place lies further on. -/
theorem later (r : Fin 8192) (z : ℤ) (hz : z ≤ 8192) (y : ℝ) :
    (∑ n : Fin 8192, if (r : ℕ) + (n : ℕ) < 8192 ∧ z = (((r : ℕ) + (n : ℕ) + 1 : ℕ) : ℤ) then y else 0) = if ((r : ℕ) : ℤ) < z then y else 0 := by
  have hr := r.isLt
  by_cases h : ((r : ℕ) : ℤ) < z
  · rw [if_pos h, Finset.sum_eq_single ⟨(z - (r : ℕ) - 1).toNat, by omega⟩]
    · rw [if_pos]; simp only []; push_cast; omega
    · intro n _ hn
      rw [if_neg]
      intro q
      exact hn (Fin.ext (by simp only []; omega))
    · intro q; exact absurd (Finset.mem_univ _) q
  · rw [if_neg h]
    refine Finset.sum_eq_zero fun n _ => if_neg fun q => ?_
    omega

/-- The running sums' gradient is the sum over the windows that hold the token. -/
theorem windows (g : Fin 4) (y : Fin 8192 → ℝ) (r : Fin 8192) :
    (∑ n : Fin 8192, if (r : ℕ) + (n : ℕ) < 8192 then
        (∑ v : Fin 8192, if hold ((v : ℕ) - half g) = (((r : ℕ) + (n : ℕ) + 1 : ℕ) : ℤ) then -y v else 0)
          + ∑ v : Fin 8192, if hold ((v : ℕ) + half g) = (((r : ℕ) + (n : ℕ) + 1 : ℕ) : ℤ) then y v else 0 else 0)
      = ∑ v : Fin 8192, if near g r v then y v else 0 := by
  have e : ∀ n : Fin 8192, (if (r : ℕ) + (n : ℕ) < 8192 then
        (∑ v : Fin 8192, if hold ((v : ℕ) - half g) = (((r : ℕ) + (n : ℕ) + 1 : ℕ) : ℤ) then -y v else 0)
          + ∑ v : Fin 8192, if hold ((v : ℕ) + half g) = (((r : ℕ) + (n : ℕ) + 1 : ℕ) : ℤ) then y v else 0 else 0)
      = ∑ v : Fin 8192, ((if (r : ℕ) + (n : ℕ) < 8192 ∧ hold ((v : ℕ) - half g) = (((r : ℕ) + (n : ℕ) + 1 : ℕ) : ℤ) then -y v else 0)
          + if (r : ℕ) + (n : ℕ) < 8192 ∧ hold ((v : ℕ) + half g) = (((r : ℕ) + (n : ℕ) + 1 : ℕ) : ℤ) then y v else 0) := by
    intro n
    by_cases h : (r : ℕ) + (n : ℕ) < 8192
    · simp only [h, true_and, if_true]
      rw [Finset.sum_add_distrib]
    · simp only [h, false_and, if_false, add_zero]
      simp
  rw [Finset.sum_congr rfl fun n _ => e n, Finset.sum_comm]
  refine Finset.sum_congr rfl fun v _ => ?_
  rw [Finset.sum_add_distrib, later r _ (hold_bounds _).2, later r _ (hold_bounds _).2]
  have hb := half_bounds g
  have hr := r.isLt
  have hv := v.isLt
  by_cases h1 : ((r : ℕ) : ℤ) < hold ((v : ℕ) - half g)
  · rw [if_pos h1, if_pos (by unfold hold at *; omega), if_neg (by unfold near hold at *; omega)]; ring
  · rw [if_neg h1]
    by_cases h2 : ((r : ℕ) : ℤ) < hold ((v : ℕ) + half g)
    · rw [if_pos h2, if_pos (by unfold near hold at *; omega)]; ring
    · rw [if_neg h2, if_neg (by unfold near hold at *; omega)]; ring

theorem run (m' : (ℓ : Loc nD τ sig) → Buf (Elt Ideal) ℓ) (ρ : Dev nD → PrngReg) :
    θ_run defs (onTc (τ := τ) (main (F := Ideal))) ⟨m', fun _ => 0, ρ⟩ fun r => ∀ c : Dev nD,
      r.2.mem ((c.tc : Thread nD τ).loc main_v274) = res (m' ((c.tc : Thread nD τ).loc main_arg1))
      ∧ r.2.mem ((c.tc : Thread nD τ).loc main_arg0) = m' ((c.tc : Thread nD τ).loc main_arg0)
      ∧ r.2.mem ((c.tc : Thread nD τ).loc main_arg1) = m' ((c.tc : Thread nD τ).loc main_arg1) := by
  refine (θ_run defs _ _).mono (fun r h c => ⟨(h c).1.trans ?_, (h c).2⟩) (Cert.PoolBRefIdeal.Value.run m' ρ)
  sl_kernel_rfl

end Cert.PoolBRefIdeal.Plain

end
-- ==== Proof.PoolB.Ref.lean ====
/- The pool's window, going back: the call and the plain derivative leave the same array where the gradient given is finite. -/
module

public import proofs.«01_k».proof.Defs
public import proofs.«01_k».proof.Proof.PoolB.Plain
public import proofs.«01_k».proof.Proof.Reals
public import proofs.«01_k».proof.Proof.Attn.Ref
public import proofs.«01_k».proof.Proof.Gen.Pre_pool_finite
public import Idealize.ShloMosaic.Lib.Claim
public import Idealize.ShloMosaic.Lib.Quiescent

@[expose] public section

set_option maxRecDepth 16384

noncomputable section

namespace Cert.PoolB

open Idealize.ShloMosaic Idealize.ShloMosaic.TcCoe Idealize.SL.Sem
open Cert.PoolBIdeal.Value Cert.PoolBIdeal.Blocks Cert.PoolBRefIdeal.Plain Cert.PoolB.Words

/-- A finite gradient's elements are real numbers. -/
theorem real_of (U D : FVec Ideal Cert.PoolBIdeal.S8192x512 .f32) (H : Cert.Pre_pool_finite.fn (F := Ideal) U D = (fun _ => 1#1)) (r : Fin 8192) (q : Fin 512) :
    D (ix2 r q) = (((D (ix2 r q) : EReal).toReal : ℝ) : EReal) := by
  refine Cert.Attn.real_of_finite _ (Eq.trans ?_ (congrFun H (ix2 r q)))
  pointwise [Cert.Pre_pool_finite.fn]

section Given

variable (D : FVec Ideal Cert.PoolBIdeal.S8192x512 .f32) (g : Fin 4) (d : Fin 128) (x : Fin 8192 → ℝ)

/-- A token's share, a real number. -/
def part (v : Fin 8192) : ℝ := x v * (1 / (cnt g v : ℝ))

theorem cnt_ne (v : Fin 8192) : (cnt g v : ℝ) ≠ 0 := by
  have := cnt_pos g v v.isLt
  exact_mod_cast this.ne'

theorem sh_real (hx : ∀ v, D (ix2 v (col g d)) = ((x v : ℝ) : EReal)) (v : Fin 8192) : sh D g d v = ((part g x v : ℝ) : EReal) := by
  unfold sh part
  rw [hx, Ideal.div_coe (cnt_ne g v), EReal.coe_mul]

theorem coe_ite (p : Prop) [Decidable p] (a : ℝ) : (if p then (a : EReal) else 0) = ((if p then a else 0 : ℝ) : EReal) := by
  split_ifs <;> simp

/-- The derivative through the running sums, where the gradient is real: the shares of the windows that hold the token. -/
theorem dsum_real (hx : ∀ v, D (ix2 v (col g d)) = ((x v : ℝ) : EReal)) (r : Fin 8192) :
    dsum D (ix3 r g d) = ∑ v : Fin 8192, if near g r v then sh D g d v else (0 : EReal) := by
  rw [dsum_at]
  simp only [dcsum_at, sh_real D g d x hx, ← EReal.coe_neg, coe_ite, ← Cert.Reals.coe_sum, ← EReal.coe_add]
  rw [← windows g (part g x) r, Cert.Reals.coe_sum]
  refine Finset.sum_congr rfl fun n _ => ?_
  by_cases h : (r : ℕ) + (n : ℕ) < 8192
  · rw [dif_pos h, if_pos h]
  · rw [dif_neg h, if_neg h]; rfl

/-- The call's element and the plain derivative's. -/
theorem at_eq (hx : ∀ v, D (ix2 v (col g d)) = ((x v : ℝ) : EReal)) (r : Fin 8192) :
    dself D (ix3 r g d) + dsum D (ix3 r g d) = poolAt (shares D) r g d := by
  rw [dself_at, dsum_real D g d x hx]
  unfold poolAt
  have e : ∀ v, shares D (ix2 v (col g d)) = sh D g d v := fun v => shares_at D v g d
  simp only [e]
  have f : sh D g d r * ((cnt g r : ℝ) : EReal) = D (ix2 r (col g d)) := by
    rw [sh_real D g d x hx, hx, ← EReal.coe_mul]
    unfold part
    rw [mul_assoc, one_div_mul_cancel (cnt_ne g r), mul_one]
  rw [f, add_comm, sub_eq_add_neg]

end Given

/-- The results of the two programs, on a finite gradient. -/
theorem res_eq (U D : FVec Ideal Cert.PoolBIdeal.S8192x512 .f32) (H : Cert.Pre_pool_finite.fn (F := Ideal) U D = (fun _ => 1#1)) :
    res D = resG (shares D) := by
  funext y
  obtain ⟨r, q, rfl⟩ : ∃ (r : Fin 8192) (q : Fin 6656), y = ix2 r q := ⟨y 0, y 1, eq_ix2 y⟩
  show _ = if h : 3072 ≤ (q : ℕ) ∧ (q : ℕ) < 3584 then poolG (shares D) r ⟨(q : ℕ) - 3072, by omega⟩ else 0
  pointwise [res]
  by_cases h : 3072 ≤ (q : ℕ) ∧ (q : ℕ) < 3584
  · rw [dif_pos h, dif_pos (by omega)]
    exact at_eq D _ _ (fun v => (D (ix2 v (col _ _)) : EReal).toReal) (fun v => real_of U D H v _) r
  · rw [dif_neg h, dif_neg (by omega)]
    exact zero_of

/-- The reference launches no kernel: it runs to its end with its arguments unchanged and every counter at zero. -/
theorem frame_ref : Cert.quiescent_PoolBRefIdeal (hPoolBRefIdeal := Cert.PoolBRefIdeal.Gen.facts) := by
  intro m g _
  refine (θ_run _ _ _).mono (fun r h => ?_) (Cert.PoolBRefIdeal.Value.run m g)
  exact ⟨fun c => (h c).2, sem_eq_zero_of_no_sems (sig := Cert.PoolBRefIdeal.sig) (by decide) _⟩

/-- From memories that agree on the arguments, the gradient finite, both programs end with the same array. -/
theorem algebraic : Cert.algebraic_PoolBIdeal_PoolBRefIdeal_pre_pool_finite (hPoolBIdeal := Cert.PoolBIdeal.Gen.facts)
    (hPoolBRefIdeal := Cert.PoolBRefIdeal.Gen.facts) (hPre_pool_finite := Cert.Pre_pool_finite.Gen.facts) := by
  pair_intro
  · run_from Cert.PoolBIdeal.Value.run_blocks m g
  · run_from Cert.PoolBRefIdeal.Plain.run m' g'
    · exact (res_eq _ _ (hpre c)).trans ((congrArg resG (shares_eq m c)).symm.trans (final m c).symm)

end Cert.PoolB

end
-- ==== Proof.Norm.Row.lean ====
/- One row of the gradient through an RMS norm: the form a block computes and the form the chain rule gives are the
   same extended real, whatever the row holds. With `x` the row, `h` the gradient of the norm's output, `g` the gain
   and `r = 1 / sqrt (mean x² + ε)`, the block computes `r (h g - x r mean (h g x r))`; the chain rule gives
   `h g r` and twice `x · (Σ x h g) · (-1/2) · (r / (mean x² + ε)) / 1024`, once for each factor of the square. -/
module

public import proofs.«01_k».proof.Proof.Reals

@[expose] public section

noncomputable section

namespace Cert.NormRow

open Idealize.ShloMosaic

/-- The mean of the row's squares, plus ε. -/
def var (x : Fin 1024 → EReal) : EReal :=
  Ideal.div (∑ k, x k * x k) (Ideal.ofBits .f32 0x44800000#32) + Ideal.ofBits .f32 0x358637BD#32

/-- The reciprocal root of it. -/
def inv (x : Fin 1024 → EReal) : EReal := Ideal.rsqrt (var x)

/-- The gradient of the row as the block computes it, added to `p`. -/
def blockRow (x h g : Fin 1024 → EReal) (p : EReal) (d : Fin 1024) : EReal :=
  p + inv x * (h d * g d - x d * inv x * Ideal.div (∑ k, h k * g k * (x k * inv x)) (Ideal.ofBits .f32 0x44800000#32))

/-- What the chain rule sends back through the mean of squares, for one factor of the square. -/
def through (x h g : Fin 1024 → EReal) : EReal :=
  Ideal.div ((∑ k, x k * (h k * g k)) * (Ideal.ofBits .f32 0xBF000000#32 * Ideal.div (inv x) (var x))) (Ideal.ofBits .f32 0x44800000#32)

/-- The gradient of the row by the chain rule, added to `p`. -/
def plainRow (x h g : Fin 1024 → EReal) (p : EReal) (d : Fin 1024) : EReal :=
  p + h d * g d * inv x + x d * through x h g + through x h g * x d

theorem lit_width : Ideal.ofBits .f32 0x44800000#32 = ((1024 : ℝ) : EReal) := by
  simp [Ideal.ofBits, Ideal.ieee, -EReal.coe_mul]; norm_num

theorem lit_half : Ideal.ofBits .f32 0xBF000000#32 = ((-(1 / 2) : ℝ) : EReal) := by
  simp [Ideal.ofBits, Ideal.ieee, -EReal.coe_mul]; norm_num

/-- ε is a positive real number. -/
theorem lit_eps : ∃ e : ℝ, 0 < e ∧ Ideal.ofBits .f32 0x358637BD#32 = (e : EReal) := by
  refine ⟨_, ?_, by simp [Ideal.ofBits, Ideal.ieee, -EReal.coe_mul]; rfl⟩
  norm_num

theorem sq_nonneg' (a : EReal) : 0 ≤ a * a := by
  rcases le_total 0 a with h | h
  · exact mul_nonneg h h
  · rw [← neg_mul_neg]; exact mul_nonneg (by simpa using h) (by simpa using h)

/-- The mean of squares plus ε is infinite, or a positive real number. -/
theorem var_cases (x : Fin 1024 → EReal) : var x = ⊤ ∨ ∃ v : ℝ, 0 < v ∧ var x = (v : EReal) := by
  obtain ⟨e, he, hl⟩ := lit_eps
  have h0 : 0 ≤ ∑ k, x k * x k := Finset.sum_nonneg fun k _ => sq_nonneg' _
  unfold var
  rw [hl, lit_width, Ideal.div_coe (by norm_num)]
  generalize ∑ k, x k * x k = s at h0
  induction s with
  | bot => exact absurd h0 (by simp)
  | top => left; rw [EReal.top_mul_coe_of_pos (by norm_num), EReal.top_add_coe]
  | coe s =>
    right
    refine ⟨s * (1 / 1024) + e, ?_, by rw [← EReal.coe_mul, ← EReal.coe_add]⟩
    have : 0 ≤ s := by exact_mod_cast h0
    positivity

theorem add_self (y : EReal) : y + y = y * ((2 : ℝ) : EReal) := by
  induction y with
  | bot => rw [EReal.bot_mul_coe_of_pos (by norm_num)]; rfl
  | top => rw [EReal.top_mul_coe_of_pos (by norm_num)]; rfl
  | coe y => rw [← EReal.coe_add, ← EReal.coe_mul]; congr 1; ring

/-- The two forms of the row's gradient agree. -/
theorem row_eq (x h g : Fin 1024 → EReal) (p : EReal) (d : Fin 1024) : blockRow x h g p d = plainRow x h g p d := by
  unfold blockRow plainRow through inv
  rcases var_cases x with hv | ⟨v, hv0, hv⟩
  · rw [hv, show Ideal.rsqrt ⊤ = 0 from rfl, show Ideal.div 0 ⊤ = 0 by simp [Ideal.div]]
    simp [lit_width, Ideal.div_coe]
  · rw [hv, Ideal.rsqrt_coe, if_neg (not_lt.mpr hv0.le), if_neg hv0.ne']
    have hr : 0 < (Real.sqrt v)⁻¹ := inv_pos.mpr (Real.sqrt_pos.mpr hv0)
    have hrv : (Real.sqrt v)⁻¹ * (Real.sqrt v)⁻¹ = 1 / v := by
      rw [← mul_inv, Real.mul_self_sqrt hv0.le, one_div]
    generalize (Real.sqrt v)⁻¹ = r at hr hrv
    have hs : ∑ k, h k * g k * (x k * (r : EReal)) = (∑ k, x k * (h k * g k)) * (r : EReal) := by
      rw [Reals.sum_mul_nonneg _ _ hr.le]
      exact Finset.sum_congr rfl fun k _ => by rw [← mul_assoc, mul_comm (h k * g k)]
    rw [hs, lit_width, lit_half, Ideal.div_coe (by norm_num), Ideal.div_coe (by norm_num), Ideal.div_coe hv0.ne']
    generalize ∑ k, x k * (h k * g k) = s
    generalize h d * g d = t
    generalize x d = y
    have e1 : y * (r : EReal) * (s * (r : EReal) * ((1 / 1024 : ℝ) : EReal)) = y * s * ((r * r * (1 / 1024) : ℝ) : EReal) := by
      rw [EReal.coe_mul, EReal.coe_mul]; ac_rfl
    have e2 : y * (s * (((-(1 / 2) : ℝ) : EReal) * ((r : EReal) * ((1 / v : ℝ) : EReal))) * ((1 / 1024 : ℝ) : EReal))
        = y * s * ((-(1 / 2) * (r * (1 / v)) * (1 / 1024) : ℝ) : EReal) := by
      rw [EReal.coe_mul, EReal.coe_mul, EReal.coe_mul]; ac_rfl
    rw [mul_comm (s * _ * _) y, e1, e2, add_assoc (p + _), add_self, mul_assoc (y * s), ← EReal.coe_mul, sub_eq_add_neg,
      EReal.left_distrib_of_nonneg_of_ne_top (by exact_mod_cast hr.le) (EReal.coe_ne_top r), add_assoc, mul_comm t]
    congr 2
    rw [← mul_neg, ← EReal.coe_neg, mul_comm, mul_assoc, ← EReal.coe_mul]
    congr 2
    rw [hrv]; ring

end Cert.NormRow

end
-- ==== Proof.NormIn.Value.lean ====
/- The gradient through the input projection and its norm: what the call leaves in its two result arrays. -/
module

public import proofs.«01_k».proof.Proof.Gen.NormInIdeal.Frame
public import proofs.«01_k».proof.Proof.Norm.Row
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NormInIdeal.Value

open Cert.NormInIdeal Cert.NormInIdeal.Gen

variable (m : (ℓ : Loc nD τ sig) → Buf (Elt Ideal) ℓ)

/-- The windows' block indices: rows of 256, the weight and the gain whole. -/
theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- The arrays the body's blocks are cut from: cotangent of the projection, its weight in four shards of columns, the
    norm's input, its gain and the cotangent that passes the norm by. -/
abbrev aZ (c : Dev nD) : FVec Ideal S8192x6656 .bf16 := V m c main_v3
abbrev aW (c : Dev nD) : FVec Ideal S4x1024x1664 .bf16 := V m c main_v2
abbrev aX (c : Dev nD) : FVec Ideal S8192x1024 .f32 := V m c main_arg0
abbrev aG (c : Dev nD) : FVec Ideal S1x1024 .f32 := V m c main_arg1
abbrev aP (c : Dev nD) : FVec Ideal S8192x1024 .f32 := V m c main_arg4

/-- Row `k` of block `t`. -/
def row (t : Fin cfg0.N) (k : Fin 256) : Fin 8192 := ⟨t.val * 256 + (k : ℕ), by have := lt_of_lt_of_eq t.isLt N_0; omega⟩

/-- Column `k` of shard `s`. -/
def col (s : Fin 4) (k : Fin 1664) : Fin 6656 := ⟨s * 1664 + k, by omega⟩

/-- One shard's part of the gradient of the norm's output. -/
def part (Z : FVec Ideal S8192x6656 .bf16) (W : FVec Ideal S4x1024x1664 .bf16) (s : Fin 4) (r : Fin 8192) (d : Fin 1024) : EReal :=
  ∑ k : Fin 1664, Z (ix2 r (col s k)) * W (ix3 s d k)

/-- The gradient of the norm's output, shard after shard. -/
def dh (Z : FVec Ideal S8192x6656 .bf16) (W : FVec Ideal S4x1024x1664 .bf16) (r : Fin 8192) (d : Fin 1024) : EReal :=
  part Z W 0 r d + part Z W 1 r d + part Z W 2 r d + part Z W 3 r d

/-- The gradient of the norm's input. -/
def dxG (Z : FVec Ideal S8192x6656 .bf16) (W : FVec Ideal S4x1024x1664 .bf16) (X : FVec Ideal S8192x1024 .f32) (G : FVec Ideal S1x1024 .f32)
    (P : FVec Ideal S8192x1024 .f32) : FVec Ideal S8192x1024 .f32 := fun y =>
  NormRow.blockRow (fun k => X (ix2 (y 0) k)) (fun k => dh Z W (y 0) k) (fun k => G (ix2 0 k)) (P (ix2 (y 0) (y 1))) (y 1)

/-- What row `r` adds to the gradient of the gain. -/
def gainAt (Z : FVec Ideal S8192x6656 .bf16) (W : FVec Ideal S4x1024x1664 .bf16) (X : FVec Ideal S8192x1024 .f32) (r : Fin 8192)
    (d : Fin 1024) : EReal := dh Z W r d * (X (ix2 r d) * NormRow.inv fun k => X (ix2 r k))

/-- The gradient of the gain: the rows are added in 32 tiles of 256. -/
def gainG (Z : FVec Ideal S8192x6656 .bf16) (W : FVec Ideal S4x1024x1664 .bf16) (X : FVec Ideal S8192x1024 .f32) : FVec Ideal S1x1024 .f32 :=
  fun y => ∑ s : Fin 32, ∑ k : Fin 256, gainAt Z W X ⟨s * 256 + k, by omega⟩ (y 1)

theorem x_iblk (c : Dev nD) (t : Fin cfg0.N) (k : Fin 256) (d : Fin 1024) : iblk m c 2 t (ix2 k d) = aX m c (ix2 (row t k) d) := by
  unfold row; blk_point [iblk, V, idx t]

theorem g_iblk (c : Dev nD) (t : Fin cfg0.N) (d : Fin 1024) : iblk m c 3 t (ix2 0 d) = aG m c (ix2 0 d) := by
  blk_point [iblk, V, idx t]

theorem p_iblk (c : Dev nD) (t : Fin cfg0.N) (k : Fin 256) (d : Fin 1024) : iblk m c 4 t (ix2 k d) = aP m c (ix2 (row t k) d) := by
  unfold row; blk_point [iblk, V, idx t]

theorem z_iblk (c : Dev nD) (t : Fin cfg0.N) (k : Fin 256) (d : Fin 6656) : iblk m c 0 t (ix2 k d) = aZ m c (ix2 (row t k) d) := by
  unfold row; blk_point [iblk, V, idx t]

theorem w_iblk (c : Dev nD) (t : Fin cfg0.N) (s : Fin 4) (d : Fin 1024) (k : Fin 1664) : iblk m c 1 t (ix3 s d k) = aW m c (ix3 s d k) := by
  blk_point [iblk, V, idx t]

/-- The block's gradient of the norm's output, from the pieces the body loads. -/
def dhBlk (c : Dev nD) (t : Fin cfg0.N) : FVec Ideal S256x1024 .f32 := k0_pay6 (F := Ideal)
  (View.ld (iblk m c 0 t) (Rect.unit ![0, 0] ![256, 1664] inb_S256x6656_S256x1664_0_0))
  (View.ld (iblk m c 1 t) (Rect.unit ![0, 0, 0] ![1, 1024, 1664] inb_S4x1024x1664_S1x1024x1664_0_0_0))
  (View.ld (iblk m c 0 t) (Rect.unit ![0, 1664] ![256, 1664] inb_S256x6656_S256x1664_0_1664))
  (View.ld (iblk m c 1 t) (Rect.unit ![1, 0, 0] ![1, 1024, 1664] inb_S4x1024x1664_S1x1024x1664_1_0_0))
  (View.ld (iblk m c 0 t) (Rect.unit ![0, 3328] ![256, 1664] inb_S256x6656_S256x1664_0_3328))
  (View.ld (iblk m c 1 t) (Rect.unit ![2, 0, 0] ![1, 1024, 1664] inb_S4x1024x1664_S1x1024x1664_2_0_0))
  (View.ld (iblk m c 0 t) (Rect.unit ![0, 4992] ![256, 1664] inb_S256x6656_S256x1664_0_4992))
  (View.ld (iblk m c 1 t) (Rect.unit ![3, 0, 0] ![1, 1024, 1664] inb_S4x1024x1664_S1x1024x1664_3_0_0))

theorem dhBlk_at (c : Dev nD) (t : Fin cfg0.N) (k : Fin 256) (d : Fin 1024) :
    dhBlk m c t (ix2 k d) = dh (aZ m c) (aW m c) (row t k) d := by
  unfold dhBlk
  pointwise [k0_pay6]
  simp only [z_iblk, w_iblk]
  unfold dh part col
  blk_point []

/-- One block of the input's gradient, and what it adds to the gain's. -/
theorem pay3_at (H X : FVec Ideal S256x1024 .f32) (G : FVec Ideal S1x1024 .f32) (P : FVec Ideal S256x1024 .f32) (k : Fin 256) (d : Fin 1024) :
    k0_pay3 H X (k0_pay7 X) (k0_pay8 (F := Ideal)) G P (ix2 k d)
      = NormRow.blockRow (fun j => X (ix2 k j)) (fun j => H (ix2 k j)) (fun j => G (ix2 0 j)) (P (ix2 k d)) d := by
  pointwise [k0_pay3, k0_pay2, k0_pay1, k0_pay7, k0_pay8]
  rfl

theorem pay4_at (H X : FVec Ideal S256x1024 .f32) (d : Fin 1024) : k0_pay4 H X (k0_pay7 X) (k0_pay8 (F := Ideal)) (ix2 0 d)
      = ∑ k : Fin 256, H (ix2 k d) * (X (ix2 k d) * NormRow.inv fun j => X (ix2 k j)) := by
  pointwise [k0_pay4, k0_pay2, k0_pay1, k0_pay7, k0_pay8]
  rfl

theorem pay5_at (H X : FVec Ideal S256x1024 .f32) (v : FVec Ideal S1x1024 .f32) (y : S1x1024.Idx) :
    k0_pay5 H X (k0_pay7 X) (k0_pay8 (F := Ideal)) v y = v y + k0_pay4 H X (k0_pay7 X) (k0_pay8 (F := Ideal)) y := by
  pointwise [k0_pay5]

/-- The input's gradient, one block. -/
def dxBlk (c : Dev nD) (t : Fin cfg0.N) : Vec Ideal S256x1024 .f32 := fun y =>
  dxG (aZ m c) (aW m c) (aX m c) (aG m c) (aP m c) (ix2 (row t (y 0)) (y 1))

/-- What a point adds to the gain's gradient. -/
def gainBlk (c : Dev nD) (t : Fin cfg0.N) : Vec Ideal S1x1024 .f32 := fun y =>
  ∑ k : Fin 256, gainAt (aZ m c) (aW m c) (aX m c) (row t k) (y 1)

theorem dx_part (c : Dev nD) (t : Fin cfg0.N) (y : S256x1024.Idx) :
    k0_pay3 (dhBlk m c t) (iblk m c 2 t) (k0_pay7 (iblk m c 2 t)) (k0_pay8 (F := Ideal)) (iblk m c 3 t) (iblk m c 4 t) y = dxBlk m c t y := by
  obtain ⟨k, d, rfl⟩ : ∃ (k : Fin 256) (d : Fin 1024), y = ix2 k d := ⟨y 0, y 1, eq_ix2 y⟩
  rw [pay3_at]
  simp only [x_iblk, g_iblk, p_iblk, dhBlk_at]
  rfl

theorem gain_part (c : Dev nD) (t : Fin cfg0.N) (y : S1x1024.Idx) :
    k0_pay4 (dhBlk m c t) (iblk m c 2 t) (k0_pay7 (iblk m c 2 t)) (k0_pay8 (F := Ideal)) y = gainBlk m c t y := by
  obtain ⟨k, d, rfl⟩ : ∃ (k : Fin 1) (d : Fin 1024), y = ix2 k d := ⟨y 0, y 1, eq_ix2 y⟩
  rw [Subsingleton.elim k 0, pay4_at]
  simp only [x_iblk, dhBlk_at]
  rfl

theorem out_dx (c : Dev nD) (t : Fin cfg0.N) : (outsAt0 m c t.val t.isLt).1 = dxBlk m c t := by
  funext y
  by_cases h0 : t.val % 32 = 0
  · have h1 : ¬ 1 ≤ t.val := by have := lt_of_lt_of_eq t.isLt N_0; omega
    rw [outsAt0_A m c t h0 h1]; frame_out
    exact dx_part m c t y
  · have h1 : 1 ≤ t.val := by omega
    rw [outsAt0_B m c t h0 h1]; frame_out
    exact dx_part m c t y

theorem final_dx (c : Dev nD) : (dats m 0 c).arrAt 5 (cfgs 0).N = dxG (aZ m c) (aW m c) (aX m c) (aG m c) (aP m c) := by
  refine (dats m 0 c).arrAt_eq_of_covers 5 _ (by decide +kernel) fun t hf y => ?_
  blk_simp
  rw [after0_5, out_dx]
  unfold dxBlk row
  refine congrArg _ ?_
  blk_point [idx t]

theorem final_gain (c : Dev nD) : (dats m 0 c).arrAt 6 (cfgs 0).N = gainG (aZ m c) (aW m c) (aX m c) := by
  refine (dats m 0 c).arrAt_eq_of_covers 6 _ (by decide +kernel) fun t hf y => ?_
  blk_simp
  rw [after0_6, Pipeline.eq_sum_fin_of_reset_step_apply_of_flush (fun n h => (outsAt0 m c n h).2) 32 (fun _ => 0) (gainBlk m c)
    (fun t h0 j => by
      rw [outsAt0_A m c t h0 (by have := lt_of_lt_of_eq t.isLt N_0; omega)]; frame_out
      rw [zero_add]
      exact gain_part m c t j)
    (fun t h0 j => by
      rw [outsAt0_B m c t h0 (by omega)]; frame_out
      rw [pay5_at]
      exact congrArg _ (gain_part m c t j))
    t ((flush0_6 t).mp hf) _, zero_add]
  unfold gainG gainBlk row
  blk_point [idx t, idx ⟨_, Pipeline.run_point_lt_of_flush t ((flush0_6 t).mp hf) _⟩]
  exact Fin.ext (by simp only []; omega)

end Cert.NormInIdeal.Value

end
-- ==== Proof.NormIn.Ref.lean ====
/- The gradient through the input projection and its norm: the call and the derivative of the plain lines leave the same two arrays. -/
module

public import proofs.«01_k».proof.Defs
public import proofs.«01_k».proof.Proof.NormIn.Value
public import proofs.«01_k».proof.Proof.Gen.NormInRefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.NormInIdeal.Host

open Cert.NormInIdeal Cert.NormInIdeal.Gen Cert.NormInIdeal.Value

variable (m : (ℓ : Loc nD τ sig) → Buf (Elt Ideal) ℓ)

/-- The call's arguments: the norm's input, its gain, the projection's weight, its cotangent and the other cotangent. -/
abbrev arg0 (c : Dev nD) : FVec Ideal S8192x1024 .f32 := m ((c.tc : Thread nD τ).loc main_arg0)
abbrev arg1 (c : Dev nD) : FVec Ideal S1x1024 .f32 := m ((c.tc : Thread nD τ).loc main_arg1)
abbrev arg2 (c : Dev nD) : FVec Ideal S1024x6656 .f32 := m ((c.tc : Thread nD τ).loc main_arg2)
abbrev arg3 (c : Dev nD) : FVec Ideal S8192x6656 .f32 := m ((c.tc : Thread nD τ).loc main_arg3)
abbrev arg4 (c : Dev nD) : FVec Ideal S8192x1024 .f32 := m ((c.tc : Thread nD τ).loc main_arg4)

/-- Shard `s` of the weight is its columns from `1664 s`. -/
theorem aW_apply (c : Dev nD) (s : Fin 4) (d : Fin 1024) (k : Fin 1664) :
    V m c main_v2 (ix3 s d k) = arg2 m c (ix2 d (col s k)) := by
  unfold col; entry_read; pointwise

theorem aZ_apply (c : Dev nD) (r : Fin 8192) (k : Fin 6656) : V m c main_v3 (ix2 r k) = arg3 m c (ix2 r k) := by
  entry_read; pointwise

/-- The gradient of the norm's output is the plain product with the transposed weight. -/
theorem dh_eq (c : Dev nD) (r : Fin 8192) (d : Fin 1024) :
    dh (aZ m c) (aW m c) r d = ∑ k : Fin 6656, arg3 m c (ix2 r k) * arg2 m c (ix2 d k) := by
  rw [Fin.sum_univ_tiles 4 1664 rfl, Fin.sum_univ_four]
  unfold dh part
  have e : ∀ s : Fin 4, ∑ k : Fin 1664, aZ m c (ix2 r (col s k)) * aW m c (ix3 s d k)
      = ∑ k : Fin 1664, arg3 m c (ix2 r (col s k)) * arg2 m c (ix2 d (col s k)) := fun s =>
    Finset.sum_congr rfl fun k _ => congrArg₂ HMul.hMul (aZ_apply m c r _) (aW_apply m c s d k)
  rw [e, e, e, e]
  rfl

end Cert.NormInIdeal.Host

namespace Cert.NormInRefIdeal.Plain

open Cert.NormInRefIdeal Cert.NormInRefIdeal.Gen

variable (m : (ℓ : Loc nD τ sig) → Buf (Elt Ideal) ℓ)

/-- The reference's arguments. -/
abbrev arg0 (c : Dev nD) : FVec Ideal S8192x1024 .f32 := m ((c.tc : Thread nD τ).loc main_arg0)
abbrev arg1 (c : Dev nD) : FVec Ideal S1x1024 .f32 := m ((c.tc : Thread nD τ).loc main_arg1)
abbrev arg2 (c : Dev nD) : FVec Ideal S1024x6656 .f32 := m ((c.tc : Thread nD τ).loc main_arg2)
abbrev arg3 (c : Dev nD) : FVec Ideal S8192x6656 .f32 := m ((c.tc : Thread nD τ).loc main_arg3)
abbrev arg4 (c : Dev nD) : FVec Ideal S8192x1024 .f32 := m ((c.tc : Thread nD τ).loc main_arg4)

/-- The gradient of the norm's output. -/
def dh (Z : FVec Ideal S8192x6656 .f32) (W : FVec Ideal S1024x6656 .f32) (r : Fin 8192) (d : Fin 1024) : EReal :=
  ∑ k : Fin 6656, Z (ix2 r k) * W (ix2 d k)

/-- The two results, entry by entry. -/
def dx (X : FVec Ideal S8192x1024 .f32) (G : FVec Ideal S1x1024 .f32) (W : FVec Ideal S1024x6656 .f32) (Z : FVec Ideal S8192x6656 .f32)
    (P : FVec Ideal S8192x1024 .f32) : FVec Ideal S8192x1024 .f32 := fun y =>
  NormRow.plainRow (fun k => X (ix2 (y 0) k)) (fun k => dh Z W (y 0) k) (fun k => G (ix2 0 k)) (P (ix2 (y 0) (y 1))) (y 1)

def dgain (X : FVec Ideal S8192x1024 .f32) (W : FVec Ideal S1024x6656 .f32) (Z : FVec Ideal S8192x6656 .f32) : FVec Ideal S1x1024 .f32 :=
  fun y => ∑ r : Fin 8192, X (ix2 r (y 1)) * NormRow.inv (fun k => X (ix2 r k)) * dh Z W r (y 1)

theorem dx_eq (c : Dev nD) : Value.res_out0 m c = dx (arg0 m c) (arg1 m c) (arg2 m c) (arg3 m c) (arg4 m c) := by
  funext y
  obtain ⟨r, d, rfl⟩ : ∃ (r : Fin 8192) (d : Fin 1024), y = ix2 r d := ⟨y 0, y 1, eq_ix2 y⟩
  unfold Value.res_out0 Value.res_main_v36
  pointwise [dx, NormRow.plainRow, NormRow.through, NormRow.inv, NormRow.var, dh]
  simp only [Finset.univ_unique, Finset.sum_singleton]

theorem dgain_eq (c : Dev nD) : shapeCast _ (Host.reduceAdd (mulf (mulf (arg0 m c) (broadcastInDim S8192x1024 ![0, 1] bcast_S8192x1_S8192x1024_0_1
      (Host.rsqrt (addf (Host.divf (broadcastInDim S8192x1 ![0] bcast_S8192_S8192x1_0 (Host.reduceAdd (mulf (arg0 m c) (arg0 m c))
        (constant S_ .f32 0x00000000#32) reducesTo_S8192x1024_S8192_d1 h_S_)) (broadcastInDim S8192x1 ![] bcast_S_S8192x1 (constant S_ .f32 0x44800000#32)))
        (broadcastInDim S8192x1 ![] bcast_S_S8192x1 (constant S_ .f32 0x358637BD#32))))))
      (Host.dotGeneral dot_S8192x6656_S1024x6656_S8192x1024_1_1_0_0_n_n none (arg3 m c) (arg2 m c)))
      (constant S_ .f32 0x00000000#32) reducesTo_S8192x1024_S1024_d0 h_S_) shapeCasts_S1024_S1x1024
    = dgain (arg0 m c) (arg2 m c) (arg3 m c) := by
  funext y
  obtain ⟨r, d, rfl⟩ : ∃ (r : Fin 1) (d : Fin 1024), y = ix2 r d := ⟨y 0, y 1, eq_ix2 y⟩
  pointwise [dgain, NormRow.inv, NormRow.var, dh]

/-- The reference launches no kernel: it runs to its end with these two results, its arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v36) = dx (arg0 m c) (arg1 m c) (arg2 m c) (arg3 m c) (arg4 m c)
      ∧ r.2.mem ((c.tc : Thread nD τ).loc main_v19) = dgain (arg0 m c) (arg2 m c) (arg3 m c)
      ∧ r.2.mem ((c.tc : Thread nD τ).loc main_arg0) = arg0 m c
      ∧ r.2.mem ((c.tc : Thread nD τ).loc main_arg1) = arg1 m c
      ∧ r.2.mem ((c.tc : Thread nD τ).loc main_arg2) = arg2 m c
      ∧ r.2.mem ((c.tc : Thread nD τ).loc main_arg3) = arg3 m c
      ∧ r.2.mem ((c.tc : Thread nD τ).loc main_arg4) = arg4 m c :=
  (θ_run defs _ _).mono (fun r h c => ⟨(h c).1.trans (dx_eq m c), (h c).2.1.trans (dgain_eq m c), (h c).2.2⟩) (Value.run m ρ)

end Cert.NormInRefIdeal.Plain

namespace Cert.NormIn

open Cert.NormInIdeal.Value Cert.NormInIdeal.Host

variable (m : (ℓ : Loc Cert.NormInIdeal.nD Cert.NormInIdeal.τ Cert.NormInIdeal.sig) → Buf (Elt Ideal) ℓ) (c : Dev Cert.NormInIdeal.nD)

/-- The region finds the norm's input, the gain and the other cotangent as launched. -/
theorem aX_eq : aX m c = arg0 m c := Cert.NormInIdeal.Gen.V_main_arg0 m c
theorem aG_eq : aG m c = arg1 m c := Cert.NormInIdeal.Gen.V_main_arg1 m c
theorem aP_eq : aP m c = arg4 m c := Cert.NormInIdeal.Gen.V_main_arg4 m c

section Equation

variable (Z : FVec Ideal Cert.NormInIdeal.S8192x6656 .bf16) (W : FVec Ideal Cert.NormInIdeal.S4x1024x1664 .bf16)
  (X P : FVec Ideal Cert.NormInIdeal.S8192x1024 .f32) (G : FVec Ideal Cert.NormInIdeal.S1x1024 .f32)
  (Z' : FVec Ideal Cert.NormInIdeal.S8192x6656 .f32) (W' : FVec Ideal Cert.NormInIdeal.S1024x6656 .f32)
  (h : ∀ r d, dh Z W r d = Cert.NormInRefIdeal.Plain.dh Z' W' r d)

include h

/-- The input's gradient: block by block as by the chain rule. -/
theorem dx_form : Cert.NormInRefIdeal.Plain.dx X G W' Z' P = dxG Z W X G P := by
  have h' : dh Z W = Cert.NormInRefIdeal.Plain.dh Z' W' := funext fun r => funext fun d => h r d
  funext y
  unfold dxG Cert.NormInRefIdeal.Plain.dx
  rw [h']
  exact (NormRow.row_eq _ _ _ _ _).symm

/-- The gain's gradient: the tiles' sums are the sum over the rows. -/
theorem dgain_form : Cert.NormInRefIdeal.Plain.dgain X W' Z' = gainG Z W X := by
  have h' : dh Z W = Cert.NormInRefIdeal.Plain.dh Z' W' := funext fun r => funext fun d => h r d
  funext y
  unfold gainG Cert.NormInRefIdeal.Plain.dgain gainAt
  rw [h', Fin.sum_univ_tiles 32 256 rfl]
  exact Finset.sum_congr rfl fun s _ => Finset.sum_congr rfl fun k _ => mul_comm _ _

end Equation

theorem dx_eq : Cert.NormInRefIdeal.Plain.dx (arg0 m c) (arg1 m c) (arg2 m c) (arg3 m c) (arg4 m c)
    = dxG (aZ m c) (aW m c) (aX m c) (aG m c) (aP m c) :=
  (dx_form (aZ m c) (aW m c) (arg0 m c) (arg4 m c) (arg1 m c) (arg3 m c) (arg2 m c) (dh_eq m c)).trans
    (congr (congr (congrArg (dxG (aZ m c) (aW m c)) (aX_eq m c).symm) (aG_eq m c).symm) (aP_eq m c).symm)

theorem dgain_eq : Cert.NormInRefIdeal.Plain.dgain (arg0 m c) (arg2 m c) (arg3 m c) = gainG (aZ m c) (aW m c) (aX m c) :=
  (dgain_form (aZ m c) (aW m c) (arg0 m c) (arg3 m c) (arg2 m c) (dh_eq m c)).trans
    (congrArg (gainG (aZ m c) (aW m c)) (aX_eq m c).symm)

/-- The reference runs to its end with its arguments unchanged and every counter at zero. -/
theorem frame_ref : Cert.quiescent_NormInRefIdeal (hNormInRefIdeal := Cert.NormInRefIdeal.Gen.facts) := by
  intro m g _
  refine (θ_run _ _ _).mono (fun r h => ?_) (Cert.NormInRefIdeal.Plain.run m g)
  exact ⟨fun c => (h c).2.2, sem_eq_zero_of_no_sems (sig := Cert.NormInRefIdeal.sig) (by decide) _⟩

/-- From memories that agree on the arguments, both programs end with the same two arrays. -/
theorem algebraic : Cert.algebraic_NormInIdeal_NormInRefIdeal (hNormInIdeal := Cert.NormInIdeal.Gen.facts)
    (hNormInRefIdeal := Cert.NormInRefIdeal.Gen.facts) := by
  pair_intro
  · run_from Cert.NormInIdeal.Gen.run_main m g
  · run_from Cert.NormInRefIdeal.Plain.run m' g'
    · exact (dx_eq m c).trans (final_dx m c).symm
    · exact (dgain_eq m c).trans (final_gain m c).symm

end Cert.NormIn

end
-- ==== Proof.Ffn.Run.lean ====
/- The feed-forward net's calls: the run of the program with its two result arrays named. -/
module

public import proofs.«01_k».proof.Proof.Gen.FfnIdeal.Frame

@[expose] public section

set_option maxRecDepth 16384

noncomputable section

namespace Cert.FfnIdeal.Value

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch's implicit arguments are found by unifying its conclusion with this one
set_option backward.isDefEq.respectTransparency.types false in
/-- The program runs to its end with the second call's two result arrays holding what that call's points leave there, and
    with its arguments unchanged. -/
theorem run : θ_run defs (onTc (τ := τ) (main (F := F))) ⟨m, fun _ => 0, ρ⟩ (fun r => ∀ c : Dev nD,
      r.2.mem ((c.tc : Thread nD τ).loc main_v10_0) = (dat1 (V3 m ρ) c).arrAt 4 cfg1.N
      ∧ r.2.mem ((c.tc : Thread nD τ).loc main_v10_1) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v10_0 (by decide))).trans (W4_arr m ρ c 4), (h c _ (mem_uc main_v10_1 (by decide))).trans (W4_arr m ρ c 5),
       (h c _ (mem_uc main_arg0 (by decide))).trans (W4_main_arg0 m ρ c), (h c _ (mem_uc main_arg1 (by decide))).trans (W4_main_arg1 m ρ c),
       (h c _ (mem_uc main_arg2 (by decide))).trans (W4_main_arg2 m ρ c), (h c _ (mem_uc main_arg3 (by decide))).trans (W4_main_arg3 m ρ c),
       (h c _ (mem_uc main_arg4 (by decide))).trans (W4_main_arg4 m ρ c)⟩)

end Cert.FfnIdeal.Value

end
-- ==== Proof.Ffn.Blocks.lean ====
/- The feed-forward net's two calls, block by block: the products of a forward block, the gradients of a backward block, and
   the arrays the blocks make up. -/
module

public import proofs.«01_k».proof.Proof.Gen.FfnIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen

variable (V : (c : Dev nD) → (b : Ref sig .tc) → Buf (Elt Ideal) ((c : Thread nD τ).loc b))

/-- The block indices of the forward call: shard by shard, and in each shard rows of 512. -/
theorem idx0 : ∀ t : Fin cfg0.N, win0_0.index t = ![t.val % 16, 0] ∧ win0_1.index t = ![t.val / 16, 0, 0] ∧ win0_2.index t = ![t.val / 16, 0, 0]
    ∧ win0_3.index t = ![t.val / 16, t.val % 16, 0] ∧ win0_4.index t = ![t.val / 16, t.val % 16, 0] :=
  (by decide +kernel : ∀ t : Fin grid0.N, _)

/-- The block indices of the backward call: rows of 512 in every shard, the weight whole. -/
theorem idx1 : ∀ t : Fin cfg1.N, win1_0.index t = ![t.val, 0] ∧ win1_1.index t = ![0, 0, 0] ∧ win1_2.index t = ![0, t.val, 0]
    ∧ win1_3.index t = ![0, t.val, 0] ∧ win1_4.index t = ![0, t.val, 0] ∧ win1_5.index t = ![0, t.val, 0] :=
  (by decide +kernel : ∀ t : Fin grid1.N, _)

/-- What the forward call is given: the rows and the two weights in shards. -/
abbrev aH (c : Dev nD) : FVec Ideal S8192x1024 .bf16 := V c main_v0
abbrev aG (c : Dev nD) : FVec Ideal S4x1024x704 .bf16 := V c main_v3
abbrev aU (c : Dev nD) : FVec Ideal S4x1024x704 .bf16 := V c main_v6

/-- What the backward call is given: the rows' gradient, the last weight in shards and the two forward products. -/
abbrev bX (c : Dev nD) : FVec Ideal S8192x1024 .f32 := V c main_arg4
abbrev bW (c : Dev nD) : FVec Ideal S4x704x1024 .bf16 := V c main_v9
abbrev bG (c : Dev nD) : FVec Ideal S4x8192x704 .bf16 := V c main_v7_0
abbrev bU (c : Dev nD) : FVec Ideal S4x8192x704 .bf16 := V c main_v7_1

/-- A forward product: rows by a shard of a weight. -/
def up (H : FVec Ideal S8192x1024 .bf16) (W : FVec Ideal S4x1024x704 .bf16) : FVec Ideal S4x8192x704 .bf16 := fun y =>
  ∑ d : Fin 1024, H (ix2 (y 1) d) * W (ix3 (y 0) d (y 2))

/-- The gradient behind the last weight: rows by the weight transposed. -/
def da (X : FVec Ideal S8192x1024 .f32) (W : FVec Ideal S4x704x1024 .bf16) (s : Fin 4) (r : Fin 8192) (f : Fin 704) : EReal :=
  ∑ d : Fin 1024, X (ix2 r d) * W (ix3 s f d)

/-- The gate's gradient and the other product's, from the gradient `a` behind the weight. -/
def dgOf (a g u : EReal) : EReal := a * u * Ideal.logistic g * (1 + g * (1 - Ideal.logistic g))
def duOf (a g : EReal) : EReal := a * g * Ideal.logistic g

/-- The two arrays of gradients. -/
def dgA (X : FVec Ideal S8192x1024 .f32) (W : FVec Ideal S4x704x1024 .bf16) (G U : FVec Ideal S4x8192x704 .bf16) : FVec Ideal S4x8192x704 .bf16 :=
  fun y => dgOf (da X W (y 0) (y 1) (y 2)) (G y) (U y)
def duA (X : FVec Ideal S8192x1024 .f32) (W : FVec Ideal S4x704x1024 .bf16) (G : FVec Ideal S4x8192x704 .bf16) : FVec Ideal S4x8192x704 .bf16 :=
  fun y => duOf (da X W (y 0) (y 1) (y 2)) (G y)

/-! ## The forward call -/

/-- Row `k` of the block at point `t`, and its shard. -/
def row0 (t : Fin cfg0.N) (k : Fin 512) : Fin 8192 := ⟨t.val % 16 * 512 + (k : ℕ), by omega⟩
def shard0 (t : Fin cfg0.N) : Fin 4 := ⟨t.val / 16, by have : t.val < 64 := lt_of_lt_of_eq t.isLt (by decide +kernel); omega⟩

theorem h_iblk (c : Dev nD) (t : Fin cfg0.N) (k : Fin 512) (d : Fin 1024) : iblk0 V c 0 t (ix2 k d) = aH V c (ix2 (row0 t k) d) := by
  unfold row0; blk_point [iblk0, idx0 t]

theorem g_iblk (c : Dev nD) (t : Fin cfg0.N) (d : Fin 1024) (f : Fin 704) : iblk0 V c 1 t (ix3 0 d f) = aG V c (ix3 (shard0 t) d f) := by
  unfold shard0; blk_point [iblk0, idx0 t]

theorem u_iblk (c : Dev nD) (t : Fin cfg0.N) (d : Fin 1024) (f : Fin 704) : iblk0 V c 2 t (ix3 0 d f) = aU V c (ix3 (shard0 t) d f) := by
  unfold shard0; blk_point [iblk0, idx0 t]

/-- A block of a forward product. -/
def upBlk (H : FVec Ideal S8192x1024 .bf16) (W : FVec Ideal S4x1024x704 .bf16) (t : Fin cfg0.N) : Vec Ideal S1x512x704 .bf16 := fun y =>
  up H W (ix3 (shard0 t) (row0 t (y 1)) (y 2))

theorem out_g (c : Dev nD) (t : Fin cfg0.N) : out0_3 (iblk0 V c 0 t) (iblk0 V c 1 t) (iblk0 V c 2 t) = upBlk (aH V c) (aG V c) t := by
  funext y
  frame_out
  obtain ⟨s, k, f, rfl⟩ : ∃ (s : Fin 1) (k : Fin 512) (f : Fin 704), y = ix3 s k f := ⟨y 0, y 1, y 2, eq_ix3 y⟩
  rw [Subsingleton.elim s 0]
  pointwise [k0_pay4, k0_pay2, k0_pay1]
  simp only [h_iblk, g_iblk]
  rfl

theorem out_u (c : Dev nD) (t : Fin cfg0.N) : out0_4 (iblk0 V c 0 t) (iblk0 V c 1 t) (iblk0 V c 2 t) = upBlk (aH V c) (aU V c) t := by
  funext y
  frame_out
  obtain ⟨s, k, f, rfl⟩ : ∃ (s : Fin 1) (k : Fin 512) (f : Fin 704), y = ix3 s k f := ⟨y 0, y 1, y 2, eq_ix3 y⟩
  rw [Subsingleton.elim s 0]
  pointwise [k0_pay5, k0_pay3, k0_pay1]
  simp only [h_iblk, u_iblk]
  rfl

theorem final_g (c : Dev nD) : (dat0 V c).arrAt 3 cfg0.N = up (aH V c) (aG V c) := by
  refine (dat0 V c).arrAt_eq_of_covers 3 _ (by decide +kernel) fun t hf y => ?_
  blk_simp
  rw [after0_3, out_g]
  unfold upBlk row0 shard0
  refine congrArg _ ?_
  blk_point [idx0 t]

theorem final_u (c : Dev nD) : (dat0 V c).arrAt 4 cfg0.N = up (aH V c) (aU V c) := by
  refine (dat0 V c).arrAt_eq_of_covers 4 _ (by decide +kernel) fun t hf y => ?_
  blk_simp
  rw [after0_4, out_u]
  unfold upBlk row0 shard0
  refine congrArg _ ?_
  blk_point [idx0 t]

/-! ## The backward call -/

/-- Row `k` of the block at point `t`. -/
def row1 (t : Fin cfg1.N) (k : Fin 512) : Fin 8192 := ⟨t.val * 512 + (k : ℕ), by have : t.val < 16 := lt_of_lt_of_eq t.isLt (by decide +kernel); omega⟩

theorem x_iblk1 (c : Dev nD) (t : Fin cfg1.N) (k : Fin 512) (d : Fin 1024) : iblk1 V c 0 t (ix2 k d) = bX V c (ix2 (row1 t k) d) := by
  unfold row1; blk_point [iblk1, idx1 t]

theorem w_iblk1 (c : Dev nD) (t : Fin cfg1.N) (s : Fin 4) (f : Fin 704) (d : Fin 1024) : iblk1 V c 1 t (ix3 s f d) = bW V c (ix3 s f d) := by
  blk_point [iblk1, idx1 t]

theorem g_iblk1 (c : Dev nD) (t : Fin cfg1.N) (s : Fin 4) (k : Fin 512) (f : Fin 704) :
    iblk1 V c 2 t (ix3 s k f) = bG V c (ix3 s (row1 t k) f) := by
  unfold row1; blk_point [iblk1, idx1 t]

theorem u_iblk1 (c : Dev nD) (t : Fin cfg1.N) (s : Fin 4) (k : Fin 512) (f : Fin 704) :
    iblk1 V c 3 t (ix3 s k f) = bU V c (ix3 s (row1 t k) f) := by
  unfold row1; blk_point [iblk1, idx1 t]

/-- A shard's piece of a result's block holds that shard's entries, -/
theorem piece_in (o : ℕ) (h) (p : FVec Ideal S1x512x704 .bf16) (L) (s : Fin 4) (k : Fin 512) (f : Fin 704) (hs : (s : ℕ) = o) :
    View.canon (Val := Elt Ideal) (e := .bf16) (⟨Rect.unit (s := S4x512x704) ![o, 0, 0] ![1, 512, 704] h, p⟩ :: L) (ix3 s k f) = p (ix3 0 k f) := by
  have e : (ix3 s k f : S4x512x704.Idx) = (Rect.unit (s := S4x512x704) ![o, 0, 0] ![1, 512, 704] h).emb (ix3 0 k f) := by
    funext a; fin_cases a <;> refine Fin.ext ?_
    · show (s : ℕ) = o + 1 * 0; omega
    · show (k : ℕ) = 0 + 1 * k; omega
    · show (f : ℕ) = 0 + 1 * f; omega
  rw [e]
  exact View.canon_cons_emb (Val := Elt Ideal) (e := .bf16) (Rect.unit (s := S4x512x704) ![o, 0, 0] ![1, 512, 704] h) p L (ix3 0 k f)

/-- and no other's. -/
theorem not_in (o : ℕ) (h) (s : Fin 4) (k : Fin 512) (f : Fin 704) (hs : (s : ℕ) ≠ o) :
    (ix3 s k f : S4x512x704.Idx) ∉ (Rect.unit (s := S4x512x704) ![o, 0, 0] ![1, 512, 704] h).set := by
  rw [Rect.mem_set_unit]
  intro hm
  have h0 := hm 0
  have a : o ≤ (s : ℕ) := h0.1
  have b : (s : ℕ) < o + 1 := h0.2
  omega

theorem piece_out (o : ℕ) (h) (p : FVec Ideal S1x512x704 .bf16) (L) (s : Fin 4) (k : Fin 512) (f : Fin 704) (hs : (s : ℕ) ≠ o) :
    View.canon (Val := Elt Ideal) (e := .bf16) (⟨Rect.unit (s := S4x512x704) ![o, 0, 0] ![1, 512, 704] h, p⟩ :: L) (ix3 s k f)
      = View.canon (Val := Elt Ideal) (e := .bf16) L (ix3 s k f) :=
  View.canon_cons_of_not_mem (Val := Elt Ideal) (e := .bf16) ⟨Rect.unit (s := S4x512x704) ![o, 0, 0] ![1, 512, 704] h, p⟩ L (not_in o h s k f hs)

/-- Four shards' pieces, read at an entry. -/
theorem pieces (h0 h1 h2 h3) (p : Fin 4 → FVec Ideal S1x512x704 .bf16) (s : Fin 4) (k : Fin 512) (f : Fin 704) :
    View.canon (Val := Elt Ideal) (e := .bf16) [⟨Rect.unit (s := S4x512x704) ![3, 0, 0] ![1, 512, 704] h3, p 3⟩,
      ⟨Rect.unit (s := S4x512x704) ![2, 0, 0] ![1, 512, 704] h2, p 2⟩, ⟨Rect.unit (s := S4x512x704) ![1, 0, 0] ![1, 512, 704] h1, p 1⟩,
      ⟨Rect.unit (s := S4x512x704) ![0, 0, 0] ![1, 512, 704] h0, p 0⟩] (ix3 s k f) = p s (ix3 0 k f) := by
  fin_cases s
  · rw [piece_out 3 _ _ _ _ _ _ (by decide), piece_out 2 _ _ _ _ _ _ (by decide), piece_out 1 _ _ _ _ _ _ (by decide), piece_in 0 _ _ _ _ _ _ rfl]; rfl
  · rw [piece_out 3 _ _ _ _ _ _ (by decide), piece_out 2 _ _ _ _ _ _ (by decide), piece_in 1 _ _ _ _ _ _ rfl]; rfl
  · rw [piece_out 3 _ _ _ _ _ _ (by decide), piece_in 2 _ _ _ _ _ _ rfl]; rfl
  · rw [piece_in 3 _ _ _ _ _ _ rfl]; rfl

/-- The four pieces the body stores of the gate's gradient, from the blocks it reads, and the other product's. -/
def dgPiece (X : FVec Ideal S512x1024 .f32) (W : FVec Ideal S4x704x1024 .bf16) (G U : FVec Ideal S4x512x704 .bf16) :
    Fin 4 → FVec Ideal S1x512x704 .bf16
  | 0 => k1_pay7 (View.ld X r1_0) (View.ld W r1_1) (View.ld G r1_2) (View.ld U r1_2)
  | 1 => k1_pay12 (k1_pay9 (View.ld X r1_0) (View.ld W r1_3)) (View.ld G r1_4) (View.ld U r1_4)
  | 2 => k1_pay18 (k1_pay14 (k1_pay3 (View.ld X r1_0)) (View.ld W r1_5)) (k1_pay15 (View.ld G r1_6)) (k1_pay16 (View.ld U r1_6))
  | 3 => k1_pay1 (k1_pay23 (k1_pay3 (View.ld X r1_0)) (View.ld W r1_7) (View.ld G r1_8) (View.ld U r1_8))

def duPiece (X : FVec Ideal S512x1024 .f32) (W : FVec Ideal S4x704x1024 .bf16) (G : FVec Ideal S4x512x704 .bf16) :
    Fin 4 → FVec Ideal S1x512x704 .bf16
  | 0 => k1_pay8 (View.ld X r1_0) (View.ld W r1_1) (View.ld G r1_2)
  | 1 => k1_pay13 (k1_pay9 (View.ld X r1_0) (View.ld W r1_3)) (View.ld G r1_4)
  | 2 => k1_pay19 (k1_pay14 (k1_pay3 (View.ld X r1_0)) (View.ld W r1_5)) (k1_pay15 (View.ld G r1_6))
  | 3 => k1_pay2 (k1_pay20 (k1_pay3 (View.ld X r1_0)) (View.ld W r1_7)) (k1_pay21 (View.ld G r1_8)) (k1_pay22 (View.ld G r1_8))

/-- Each piece holds its shard's gradients. -/
theorem dgPiece_at (X : FVec Ideal S512x1024 .f32) (W : FVec Ideal S4x704x1024 .bf16) (G U : FVec Ideal S4x512x704 .bf16) (s : Fin 4) (k : Fin 512)
    (f : Fin 704) : dgPiece X W G U s (ix3 0 k f) = dgOf (∑ d : Fin 1024, X (ix2 k d) * W (ix3 s f d)) (G (ix3 s k f)) (U (ix3 s k f)) := by
  unfold dgOf
  fin_cases s <;> simp only [dgPiece] <;>
    pointwise [k1_pay1, k1_pay3, k1_pay4, k1_pay5, k1_pay6, k1_pay7, k1_pay9, k1_pay10, k1_pay11, k1_pay12, k1_pay14, k1_pay15, k1_pay16, k1_pay17,
      k1_pay18, k1_pay20, k1_pay21, k1_pay22, k1_pay23]

theorem duPiece_at (X : FVec Ideal S512x1024 .f32) (W : FVec Ideal S4x704x1024 .bf16) (G : FVec Ideal S4x512x704 .bf16) (s : Fin 4) (k : Fin 512)
    (f : Fin 704) : duPiece X W G s (ix3 0 k f) = duOf (∑ d : Fin 1024, X (ix2 k d) * W (ix3 s f d)) (G (ix3 s k f)) := by
  unfold duOf
  fin_cases s <;> simp only [duPiece] <;>
    pointwise [k1_pay2, k1_pay3, k1_pay4, k1_pay5, k1_pay6, k1_pay8, k1_pay9, k1_pay10, k1_pay11, k1_pay13, k1_pay14, k1_pay15, k1_pay17,
      k1_pay19, k1_pay20, k1_pay21, k1_pay22]

theorem out_dg (c : Dev nD) (t : Fin cfg1.N) (s : Fin 4) (k : Fin 512) (f : Fin 704) :
    out1_4 (iblk1 V c 0 t) (iblk1 V c 1 t) (iblk1 V c 2 t) (iblk1 V c 3 t) (ix3 s k f)
      = dgA (bX V c) (bW V c) (bG V c) (bU V c) (ix3 s (row1 t k) f) := by
  unfold_out out1_4
  refine (pieces _ _ _ _ (dgPiece (iblk1 V c 0 t) (iblk1 V c 1 t) (iblk1 V c 2 t) (iblk1 V c 3 t)) s k f).trans ?_
  rw [dgPiece_at]
  simp only [x_iblk1, w_iblk1, g_iblk1, u_iblk1]
  rfl

theorem out_du (c : Dev nD) (t : Fin cfg1.N) (s : Fin 4) (k : Fin 512) (f : Fin 704) :
    out1_5 (iblk1 V c 0 t) (iblk1 V c 1 t) (iblk1 V c 2 t) (iblk1 V c 3 t) (ix3 s k f)
      = duA (bX V c) (bW V c) (bG V c) (ix3 s (row1 t k) f) := by
  unfold_out out1_5
  refine (pieces _ _ _ _ (duPiece (iblk1 V c 0 t) (iblk1 V c 1 t) (iblk1 V c 2 t)) s k f).trans ?_
  rw [duPiece_at]
  simp only [x_iblk1, w_iblk1, g_iblk1]
  rfl

theorem final_dg (c : Dev nD) : (dat1 V c).arrAt 4 cfg1.N = dgA (bX V c) (bW V c) (bG V c) (bU V c) := by
  refine (dat1 V c).arrAt_eq_of_covers 4 _ (by decide +kernel) fun t hf y => ?_
  blk_simp
  rw [after1_4]
  obtain ⟨s, k, f, rfl⟩ : ∃ (s : Fin 4) (k : Fin 512) (f : Fin 704), y = ix3 s k f := ⟨y 0, y 1, y 2, eq_ix3 y⟩
  rw [out_dg]
  unfold row1
  refine congrArg _ ?_
  blk_point [idx1 t]

theorem final_du (c : Dev nD) : (dat1 V c).arrAt 5 cfg1.N = duA (bX V c) (bW V c) (bG V c) := by
  refine (dat1 V c).arrAt_eq_of_covers 5 _ (by decide +kernel) fun t hf y => ?_
  blk_simp
  rw [after1_5]
  obtain ⟨s, k, f, rfl⟩ : ∃ (s : Fin 4) (k : Fin 512) (f : Fin 704), y = ix3 s k f := ⟨y 0, y 1, y 2, eq_ix3 y⟩
  rw [out_du]
  unfold row1
  refine congrArg _ ?_
  blk_point [idx1 t]

end Cert.FfnIdeal.Value

end
-- ==== Proof.Ffn.Ref.lean ====
/- The feed-forward net's gate: over finite arguments the calls and the derivative of the plain lines leave the same two arrays. -/
module

public import proofs.«01_k».proof.Defs
public import proofs.«01_k».proof.Proof.Gen.Pre_ffn_finite
public import proofs.«01_k».proof.Proof.Ffn.Run
public import proofs.«01_k».proof.Proof.Ffn.Blocks
public import proofs.«01_k».proof.Proof.Attn.Ref
public import proofs.«01_k».proof.Proof.Reals
public import proofs.«01_k».proof.Proof.Gen.FfnRefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.FfnIdeal.Host

open Cert.FfnIdeal Cert.FfnIdeal.Gen Cert.FfnIdeal.Value

variable (m : (ℓ : Loc nD τ sig) → Buf (Elt Ideal) ℓ) (ρ : Dev nD → PrngReg)

/-- The calls' arguments: the rows, the three weights and the cotangent. -/
abbrev arg0 (c : Dev nD) : FVec Ideal S8192x1024 .f32 := m ((c.tc : Thread nD τ).loc main_arg0)
abbrev arg1 (c : Dev nD) : FVec Ideal S1024x2816 .f32 := m ((c.tc : Thread nD τ).loc main_arg1)
abbrev arg2 (c : Dev nD) : FVec Ideal S1024x2816 .f32 := m ((c.tc : Thread nD τ).loc main_arg2)
abbrev arg3 (c : Dev nD) : FVec Ideal S2816x1024 .f32 := m ((c.tc : Thread nD τ).loc main_arg3)
abbrev arg4 (c : Dev nD) : FVec Ideal S8192x1024 .f32 := m ((c.tc : Thread nD τ).loc main_arg4)

/-- Column `k` of shard `s`. -/
def col (s : Fin 4) (k : Fin 704) : Fin 2816 := ⟨s * 704 + k, by omega⟩

/-- The forward call finds the rows and, shard by shard, the columns of the two weights. -/
theorem h_apply (c : Dev nD) (r : Fin 8192) (d : Fin 1024) : aH (V1 m ρ) c (ix2 r d) = arg0 m c (ix2 r d) := by
  show StableHlo.after hostOps0 (W0 m ρ c) main_v0 (ix2 r d) = _
  entry_read; pointwise

theorem g_apply (c : Dev nD) (s : Fin 4) (d : Fin 1024) (k : Fin 704) : aG (V1 m ρ) c (ix3 s d k) = arg1 m c (ix2 d (col s k)) := by
  show StableHlo.after hostOps0 (W0 m ρ c) main_v3 (ix3 s d k) = _
  unfold col; entry_read; pointwise

theorem u_apply (c : Dev nD) (s : Fin 4) (d : Fin 1024) (k : Fin 704) : aU (V1 m ρ) c (ix3 s d k) = arg2 m c (ix2 d (col s k)) := by
  show StableHlo.after hostOps0 (W0 m ρ c) main_v6 (ix3 s d k) = _
  unfold col; entry_read; pointwise

/-- The backward call finds the forward products, the last weight's rows shard by shard, and the cotangent. -/
theorem bG_eq (c : Dev nD) : bG (V3 m ρ) c = up (aH (V1 m ρ) c) (aG (V1 m ρ) c) :=
  (W3_of m ρ c main_v7_0 (by decide)).trans ((W2_arr m ρ c 3).trans (final_g (V1 m ρ) c))

theorem bU_eq (c : Dev nD) : bU (V3 m ρ) c = up (aH (V1 m ρ) c) (aU (V1 m ρ) c) :=
  (W3_of m ρ c main_v7_1 (by decide)).trans ((W2_arr m ρ c 4).trans (final_u (V1 m ρ) c))

theorem bX_eq (c : Dev nD) : bX (V3 m ρ) c = arg4 m c := W3_args m ρ c main_arg4 (by decide)

theorem w_apply (c : Dev nD) (s : Fin 4) (k : Fin 704) (d : Fin 1024) : bW (V3 m ρ) c (ix3 s k d) = arg3 m c (ix2 (col s k) d) := by
  have e : W2 m ρ c (Proc.devRef .tc main_arg3) = arg3 m c := W2_args m ρ c main_arg3 (by decide)
  show StableHlo.after hostOps1 (W2 m ρ c) main_v9 (ix3 s k d) = _
  unfold col; entry_read
  rw [e]
  pointwise

end Cert.FfnIdeal.Host

namespace Cert.FfnRefIdeal.Plain

open Cert.FfnRefIdeal Cert.FfnRefIdeal.Gen

variable (m : (ℓ : Loc nD τ sig) → Buf (Elt Ideal) ℓ)

/-- The reference's arguments. -/
abbrev arg0 (c : Dev nD) : FVec Ideal S8192x1024 .f32 := m ((c.tc : Thread nD τ).loc main_arg0)
abbrev arg1 (c : Dev nD) : FVec Ideal S1024x2816 .f32 := m ((c.tc : Thread nD τ).loc main_arg1)
abbrev arg2 (c : Dev nD) : FVec Ideal S1024x2816 .f32 := m ((c.tc : Thread nD τ).loc main_arg2)
abbrev arg3 (c : Dev nD) : FVec Ideal S2816x1024 .f32 := m ((c.tc : Thread nD τ).loc main_arg3)
abbrev arg4 (c : Dev nD) : FVec Ideal S8192x1024 .f32 := m ((c.tc : Thread nD τ).loc main_arg4)

/-- Column `k` of shard `s`. -/
def col (s : Fin 4) (k : Fin 704) : Fin 2816 := ⟨s * 704 + k, by omega⟩

/-- A plain product, and the product with a transposed weight. -/
def prod (H : FVec Ideal S8192x1024 .f32) (W : FVec Ideal S1024x2816 .f32) (r : Fin 8192) (f : Fin 2816) : EReal :=
  ∑ d : Fin 1024, H (ix2 r d) * W (ix2 d f)
def back (X : FVec Ideal S8192x1024 .f32) (W : FVec Ideal S2816x1024 .f32) (r : Fin 8192) (f : Fin 2816) : EReal :=
  ∑ d : Fin 1024, X (ix2 r d) * W (ix2 f d)

/-- The derivative of `u · g σ(g)` for the gate `g` and for `u`. -/
def dgOf (a g u : EReal) : EReal := a * u * Ideal.logistic g + g * (a * u) * (Ideal.logistic g * (1 - Ideal.logistic g))
def duOf (a g : EReal) : EReal := g * Ideal.logistic g * a

/-- The two results, entry by entry. -/
def dg (H : FVec Ideal S8192x1024 .f32) (W Y : FVec Ideal S1024x2816 .f32) (D : FVec Ideal S2816x1024 .f32) (X : FVec Ideal S8192x1024 .f32) :
    FVec Ideal S4x8192x704 .bf16 := fun y => dgOf (back X D (y 1) (col (y 0) (y 2))) (prod H W (y 1) (col (y 0) (y 2))) (prod H Y (y 1) (col (y 0) (y 2)))
def du (H : FVec Ideal S8192x1024 .f32) (W : FVec Ideal S1024x2816 .f32) (D : FVec Ideal S2816x1024 .f32) (X : FVec Ideal S8192x1024 .f32) :
    FVec Ideal S4x8192x704 .bf16 := fun y => duOf (back X D (y 1) (col (y 0) (y 2))) (prod H W (y 1) (col (y 0) (y 2)))

/-- The reference launches no kernel: it runs to its end with these two results, its arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v11) = dg (arg0 m c) (arg1 m c) (arg2 m c) (arg3 m c) (arg4 m c)
      ∧ r.2.mem ((c.tc : Thread nD τ).loc main_v14) = du (arg0 m c) (arg1 m c) (arg3 m c) (arg4 m c)
      ∧ r.2.mem ((c.tc : Thread nD τ).loc main_arg0) = arg0 m c
      ∧ r.2.mem ((c.tc : Thread nD τ).loc main_arg1) = arg1 m c
      ∧ r.2.mem ((c.tc : Thread nD τ).loc main_arg2) = arg2 m c
      ∧ r.2.mem ((c.tc : Thread nD τ).loc main_arg3) = arg3 m c
      ∧ r.2.mem ((c.tc : Thread nD τ).loc main_arg4) = arg4 m c := by
  refine (θ_run defs _ _).mono (fun r h c => ⟨(h c).1.trans ?_, (h c).2.1.trans ?_, (h c).2.2⟩) (Value.run m ρ)
  · funext y
    obtain ⟨s, r, k, rfl⟩ : ∃ (s : Fin 4) (r : Fin 8192) (k : Fin 704), y = ix3 s r k := ⟨y 0, y 1, y 2, eq_ix3 y⟩
    pointwise [dg, dgOf, prod, back, col, Ideal.logistic]
  · funext y
    obtain ⟨s, r, k, rfl⟩ : ∃ (s : Fin 4) (r : Fin 8192) (k : Fin 704), y = ix3 s r k := ⟨y 0, y 1, y 2, eq_ix3 y⟩
    pointwise [du, duOf, prod, back, col, Ideal.logistic]

end Cert.FfnRefIdeal.Plain

namespace Cert.Ffn

/-- The gate's gradient: the kernel's one product is the derivative's two terms, where the gradient times the other product is real. -/
theorem gate_eq (b g : EReal) (x : ℝ) (hb : b = (x : EReal)) : b * Ideal.logistic g + g * b * (Ideal.logistic g * (1 - Ideal.logistic g))
    = b * Ideal.logistic g * (1 + g * (1 - Ideal.logistic g)) := by
  subst hb
  induction g with
  | bot =>
    simp only [Ideal.logistic_bot, zero_mul, mul_zero, add_zero]
  | top =>
    have e : (1 : EReal) - 1 = 0 := by rw [← EReal.coe_one, ← EReal.coe_sub, sub_self, EReal.coe_zero]
    simp only [Ideal.logistic_top, e, mul_zero, add_zero, mul_one]
  | coe g =>
    simp only [Ideal.logistic_coe, ← EReal.coe_one, ← EReal.coe_sub, ← EReal.coe_mul, ← EReal.coe_add]
    exact congrArg _ (by ring)

/-- A product of sums is real where the entries summed are. -/
theorem sum_real {n : ℕ} (p q : Fin n → EReal) (hp : ∀ i, p i = ((p i).toReal : EReal)) (hq : ∀ i, q i = ((q i).toReal : EReal)) :
    ∃ x : ℝ, ∑ i, p i * q i = (x : EReal) :=
  ⟨∑ i, (p i).toReal * (q i).toReal, (Finset.sum_congr rfl fun i _ => by
    rw [hp i, hq i, ← EReal.coe_mul, EReal.toReal_coe, EReal.toReal_coe]).trans (Cert.Reals.coe_sum Finset.univ _).symm⟩

section Finite

open Cert.Pre_ffn_finite Cert.Attn

variable (x0 : FVec Ideal S8192x1024 .f32) (x1 x2 : FVec Ideal S1024x2816 .f32) (x3 : FVec Ideal S2816x1024 .f32) (x4 : FVec Ideal S8192x1024 .f32)
  (H : Cert.Pre_ffn_finite.fn (F := Ideal) x0 x1 x2 x3 x4 = (fun _ => 1#1))

include H

/-- Finite rows, weights and cotangent hold reals; the gate's weight is not asked for. -/
theorem real_h (r : Fin 8192) (d : Fin 1024) : x0 (ix2 r d) = (((x0 (ix2 r d)).toReal : ℝ) : EReal) := by
  refine real_of_finite _ (Eq.trans ?_ (congrFun H (ix2 ⟨r, by omega⟩ d)))
  pointwise [Cert.Pre_ffn_finite.fn]

theorem real_u (d : Fin 1024) (f : Fin 2816) : x2 (ix2 d f) = (((x2 (ix2 d f)).toReal : ℝ) : EReal) := by
  refine real_of_finite _ (Eq.trans ?_ (congrFun H (ix2 ⟨8192 + f, by omega⟩ d)))
  pointwise [Cert.Pre_ffn_finite.fn]

theorem real_w (f : Fin 2816) (d : Fin 1024) : x3 (ix2 f d) = (((x3 (ix2 f d)).toReal : ℝ) : EReal) := by
  refine real_of_finite _ (Eq.trans ?_ (congrFun H (ix2 ⟨11008 + f, by omega⟩ d)))
  pointwise [Cert.Pre_ffn_finite.fn]
  rw [dif_neg (by omega), dif_neg (by omega), dif_pos (by omega)]
  have e : (⟨11008 + (f : ℕ) - 8192 - 2816, by omega⟩ : Fin 2816) = f := Fin.ext (by show 11008 + (f : ℕ) - 8192 - 2816 = f; omega)
  rw [e]

theorem real_x (r : Fin 8192) (d : Fin 1024) : x4 (ix2 r d) = (((x4 (ix2 r d)).toReal : ℝ) : EReal) := by
  refine real_of_finite _ (Eq.trans ?_ (congrFun H (ix2 ⟨13824 + r, by omega⟩ d)))
  pointwise [Cert.Pre_ffn_finite.fn]
  rw [dif_neg (by omega), dif_neg (by omega), dif_neg (by omega)]
  have e : (⟨13824 + (r : ℕ) - 8192 - 2816 - 2816, by omega⟩ : Fin 8192) = r :=
    Fin.ext (by show 13824 + (r : ℕ) - 8192 - 2816 - 2816 = r; omega)
  rw [e]

/-- The cotangent through the last weight, times the other product, is real. -/
theorem real_b (r : Fin 8192) (f : Fin 2816) :
    ∃ x : ℝ, Cert.FfnRefIdeal.Plain.back x4 x3 r f * Cert.FfnRefIdeal.Plain.prod x0 x2 r f = (x : EReal) := by
  obtain ⟨a, ha⟩ := sum_real (fun d : Fin 1024 => x4 (ix2 r d)) (fun d => x3 (ix2 f d)) (fun d => real_x x0 x1 x2 x3 x4 H r d)
    (fun d => real_w x0 x1 x2 x3 x4 H f d)
  obtain ⟨b, hb⟩ := sum_real (fun d : Fin 1024 => x0 (ix2 r d)) (fun d => x2 (ix2 d f)) (fun d => real_h x0 x1 x2 x3 x4 H r d)
    (fun d => real_u x0 x1 x2 x3 x4 H d f)
  refine ⟨a * b, ?_⟩
  unfold Cert.FfnRefIdeal.Plain.back Cert.FfnRefIdeal.Plain.prod
  rw [EReal.coe_mul]
  exact congrArg₂ (· * ·) ha hb

end Finite

section Given

open Cert.FfnIdeal.Value Cert.FfnIdeal.Host

variable (m : (ℓ : Loc Cert.FfnIdeal.nD Cert.FfnIdeal.τ Cert.FfnIdeal.sig) → Buf (Elt Ideal) ℓ) (ρ : Dev Cert.FfnIdeal.nD → PrngReg) (c : Dev Cert.FfnIdeal.nD)

/-- The three products the backward call works with are the plain ones. -/
theorem g_plain (s : Fin 4) (r : Fin 8192) (k : Fin 704) : bG (Cert.FfnIdeal.Gen.V3 m ρ) c (ix3 s r k) = Cert.FfnRefIdeal.Plain.prod (arg0 m c) (arg1 m c) r (Cert.FfnRefIdeal.Plain.col s k) := by
  rw [bG_eq]
  exact Finset.sum_congr rfl fun d _ => congrArg₂ (· * ·) (h_apply m ρ c r d) (g_apply m ρ c s d k)

theorem u_plain (s : Fin 4) (r : Fin 8192) (k : Fin 704) : bU (Cert.FfnIdeal.Gen.V3 m ρ) c (ix3 s r k) = Cert.FfnRefIdeal.Plain.prod (arg0 m c) (arg2 m c) r (Cert.FfnRefIdeal.Plain.col s k) := by
  rw [bU_eq]
  exact Finset.sum_congr rfl fun d _ => congrArg₂ (· * ·) (h_apply m ρ c r d) (u_apply m ρ c s d k)

theorem a_plain (s : Fin 4) (r : Fin 8192) (k : Fin 704) : da (bX (Cert.FfnIdeal.Gen.V3 m ρ) c) (bW (Cert.FfnIdeal.Gen.V3 m ρ) c) s r k
    = Cert.FfnRefIdeal.Plain.back (arg4 m c) (arg3 m c) r (Cert.FfnRefIdeal.Plain.col s k) := by
  rw [bX_eq]
  exact Finset.sum_congr rfl fun d _ => congrArg₂ (· * ·) rfl (w_apply m ρ c s k d)

/-- The backward call's two results are the plain derivative's, the first where the arguments are finite. -/
theorem dg_eq (H : Cert.Pre_ffn_finite.fn (F := Ideal) (arg0 m c) (arg1 m c) (arg2 m c) (arg3 m c) (arg4 m c) = (fun _ => 1#1)) :
    Cert.FfnRefIdeal.Plain.dg (arg0 m c) (arg1 m c) (arg2 m c) (arg3 m c) (arg4 m c)
      = (Cert.FfnIdeal.Gen.dat1 (Cert.FfnIdeal.Gen.V3 m ρ) c).arrAt 4 Cert.FfnIdeal.cfg1.N := by
  refine Eq.trans ?_ (final_dg (Cert.FfnIdeal.Gen.V3 m ρ) c).symm
  funext y
  obtain ⟨s, r, k, rfl⟩ : ∃ (s : Fin 4) (r : Fin 8192) (k : Fin 704), y = ix3 s r k := ⟨y 0, y 1, y 2, eq_ix3 y⟩
  obtain ⟨x, hx⟩ := real_b _ _ _ _ _ H r (Cert.FfnRefIdeal.Plain.col s k)
  refine (gate_eq _ (Cert.FfnRefIdeal.Plain.prod (arg0 m c) (arg1 m c) r (Cert.FfnRefIdeal.Plain.col s k)) x hx).trans ?_
  show _ = dgOf (da (bX (Cert.FfnIdeal.Gen.V3 m ρ) c) (bW (Cert.FfnIdeal.Gen.V3 m ρ) c) s r k) (bG (Cert.FfnIdeal.Gen.V3 m ρ) c (ix3 s r k))
    (bU (Cert.FfnIdeal.Gen.V3 m ρ) c (ix3 s r k))
  rw [a_plain, g_plain, u_plain]
  rfl

theorem du_eq : Cert.FfnRefIdeal.Plain.du (arg0 m c) (arg1 m c) (arg3 m c) (arg4 m c)
      = (Cert.FfnIdeal.Gen.dat1 (Cert.FfnIdeal.Gen.V3 m ρ) c).arrAt 5 Cert.FfnIdeal.cfg1.N := by
  refine Eq.trans ?_ (final_du (Cert.FfnIdeal.Gen.V3 m ρ) c).symm
  funext y
  obtain ⟨s, r, k, rfl⟩ : ∃ (s : Fin 4) (r : Fin 8192) (k : Fin 704), y = ix3 s r k := ⟨y 0, y 1, y 2, eq_ix3 y⟩
  show _ = duOf (da (bX (Cert.FfnIdeal.Gen.V3 m ρ) c) (bW (Cert.FfnIdeal.Gen.V3 m ρ) c) s r k) (bG (Cert.FfnIdeal.Gen.V3 m ρ) c (ix3 s r k))
  rw [a_plain, g_plain]
  show Cert.FfnRefIdeal.Plain.duOf _ _ = _
  unfold Cert.FfnRefIdeal.Plain.duOf Cert.FfnIdeal.Value.duOf
  rw [mul_comm, mul_assoc]
  rfl

end Given

/-- The reference runs to its end and leaves its arguments as they were. -/
theorem frame_ref : Cert.quiescent_FfnRefIdeal (hFfnRefIdeal := Cert.FfnRefIdeal.Gen.facts) := by
  intro m g _
  refine (θ_run _ _ _).mono (fun r h => ?_) (Cert.FfnRefIdeal.Value.run m g)
  exact ⟨fun c => (h c).2.2, sem_eq_zero_of_no_sems (sig := Cert.FfnRefIdeal.sig) (by decide) _⟩

/-- From memories that agree on finite arguments, both programs end with the same two arrays. -/
theorem algebraic : Cert.algebraic_FfnIdeal_FfnRefIdeal_pre_ffn_finite (hFfnIdeal := Cert.FfnIdeal.Gen.facts)
    (hFfnRefIdeal := Cert.FfnRefIdeal.Gen.facts) (hPre_ffn_finite := Cert.Pre_ffn_finite.Gen.facts) := by
  pair_intro
  · run_from Cert.FfnIdeal.Value.run m g
  · run_from Cert.FfnRefIdeal.Plain.run m' g'
    · exact dg_eq m g c (hpre c)
    · exact du_eq m g c

end Cert.Ffn

end
-- ==== Proof.Norm.Value.lean ====
/- The gradient through the feed-forward net's two first projections and their norm: what the call leaves in its two result arrays. -/
module

public import proofs.«01_k».proof.Proof.Gen.NormIdeal.Frame
public import proofs.«01_k».proof.Proof.Norm.Row
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NormIdeal.Value

open Cert.NormIdeal Cert.NormIdeal.Gen

variable (m : (ℓ : Loc nD τ sig) → Buf (Elt Ideal) ℓ)

/-- The windows' block indices: rows of 512 in every shard, the weights and the gain whole. -/
theorem idx : ∀ t : Fin cfg0.N, win0_0.index t = ![0, t.val, 0] ∧ win0_1.index t = ![0, t.val, 0] ∧ win0_2.index t = ![0, 0, 0]
    ∧ win0_3.index t = ![0, 0, 0] ∧ win0_4.index t = ![t.val, 0] ∧ win0_5.index t = ![0, 0] ∧ win0_6.index t = ![t.val, 0]
    ∧ win0_7.index t = ![t.val, 0] ∧ win0_8.index t = ![0, 0] :=
  (by decide +kernel : ∀ t : Fin grid0.N, _)

/-- The arrays the body's blocks are cut from: the two projections' cotangents and weights, in four shards of columns,
    the norm's input, its gain and the cotangent that passes the norm by. -/
abbrev aZ (c : Dev nD) : FVec Ideal S4x8192x704 .bf16 := V m c main_v2
abbrev aU (c : Dev nD) : FVec Ideal S4x8192x704 .bf16 := V m c main_v8
abbrev aW (c : Dev nD) : FVec Ideal S4x1024x704 .bf16 := V m c main_v5
abbrev aY (c : Dev nD) : FVec Ideal S4x1024x704 .bf16 := V m c main_v11
abbrev aX (c : Dev nD) : FVec Ideal S8192x1024 .f32 := V m c main_arg0
abbrev aG (c : Dev nD) : FVec Ideal S1x1024 .f32 := V m c main_arg1
abbrev aP (c : Dev nD) : FVec Ideal S8192x1024 .f32 := V m c main_arg6

/-- Row `k` of block `t`. -/
def row (t : Fin cfg0.N) (k : Fin 512) : Fin 8192 := ⟨t.val * 512 + (k : ℕ), by have := lt_of_lt_of_eq t.isLt N_0; omega⟩

/-- One shard's part of the gradient of the norm's output. -/
def part (Z : FVec Ideal S4x8192x704 .bf16) (W : FVec Ideal S4x1024x704 .bf16) (s : Fin 4) (r : Fin 8192) (d : Fin 1024) : EReal :=
  ∑ k : Fin 704, Z (ix3 s r k) * W (ix3 s d k)

/-- The gradient of the norm's output, shard after shard, the gate's projection first. -/
def dh (Z U : FVec Ideal S4x8192x704 .bf16) (W Y : FVec Ideal S4x1024x704 .bf16) (r : Fin 8192) (d : Fin 1024) : EReal :=
  part Z W 0 r d + part Z W 1 r d + part Z W 2 r d + part Z W 3 r d + part U Y 0 r d + part U Y 1 r d + part U Y 2 r d + part U Y 3 r d

/-- The gradient of the norm's input. -/
def dxG (Z U : FVec Ideal S4x8192x704 .bf16) (W Y : FVec Ideal S4x1024x704 .bf16) (X : FVec Ideal S8192x1024 .f32) (G : FVec Ideal S1x1024 .f32)
    (P : FVec Ideal S8192x1024 .f32) : FVec Ideal S8192x1024 .f32 := fun y =>
  NormRow.blockRow (fun k => X (ix2 (y 0) k)) (fun k => dh Z U W Y (y 0) k) (fun k => G (ix2 0 k)) (P (ix2 (y 0) (y 1))) (y 1)

/-- What row `r` adds to the gradient of the gain. -/
def gainAt (Z U : FVec Ideal S4x8192x704 .bf16) (W Y : FVec Ideal S4x1024x704 .bf16) (X : FVec Ideal S8192x1024 .f32) (r : Fin 8192)
    (d : Fin 1024) : EReal := dh Z U W Y r d * (X (ix2 r d) * NormRow.inv fun k => X (ix2 r k))

/-- The gradient of the gain: the rows are added in 16 tiles of 512. -/
def gainG (Z U : FVec Ideal S4x8192x704 .bf16) (W Y : FVec Ideal S4x1024x704 .bf16) (X : FVec Ideal S8192x1024 .f32) : FVec Ideal S1x1024 .f32 :=
  fun y => ∑ s : Fin 16, ∑ k : Fin 512, gainAt Z U W Y X ⟨s * 512 + k, by omega⟩ (y 1)

theorem x_iblk (c : Dev nD) (t : Fin cfg0.N) (k : Fin 512) (d : Fin 1024) : iblk m c 4 t (ix2 k d) = aX m c (ix2 (row t k) d) := by
  unfold row; blk_point [iblk, V, idx t]

theorem g_iblk (c : Dev nD) (t : Fin cfg0.N) (d : Fin 1024) : iblk m c 5 t (ix2 0 d) = aG m c (ix2 0 d) := by
  blk_point [iblk, V, idx t]

theorem p_iblk (c : Dev nD) (t : Fin cfg0.N) (k : Fin 512) (d : Fin 1024) : iblk m c 6 t (ix2 k d) = aP m c (ix2 (row t k) d) := by
  unfold row; blk_point [iblk, V, idx t]

theorem z_iblk (c : Dev nD) (t : Fin cfg0.N) (s : Fin 4) (k : Fin 512) (d : Fin 704) : iblk m c 0 t (ix3 s k d) = aZ m c (ix3 s (row t k) d) := by
  unfold row; blk_point [iblk, V, idx t]

theorem u_iblk (c : Dev nD) (t : Fin cfg0.N) (s : Fin 4) (k : Fin 512) (d : Fin 704) : iblk m c 1 t (ix3 s k d) = aU m c (ix3 s (row t k) d) := by
  unfold row; blk_point [iblk, V, idx t]

theorem w_iblk (c : Dev nD) (t : Fin cfg0.N) (s : Fin 4) (d : Fin 1024) (k : Fin 704) : iblk m c 2 t (ix3 s d k) = aW m c (ix3 s d k) := by
  blk_point [iblk, V, idx t]

theorem y_iblk (c : Dev nD) (t : Fin cfg0.N) (s : Fin 4) (d : Fin 1024) (k : Fin 704) : iblk m c 3 t (ix3 s d k) = aY m c (ix3 s d k) := by
  blk_point [iblk, V, idx t]

/-- The block's gradient of the norm's output, from the pieces the body loads. -/
def dhBlk (c : Dev nD) (t : Fin cfg0.N) : FVec Ideal S512x1024 .f32 := k0_pay6 (F := Ideal)
  (k0_pay4 (F := Ideal)
    (View.ld (iblk m c 0 t) (Rect.unit ![0, 0, 0] ![1, 512, 704] inb_S4x512x704_S1x512x704_0_0_0))
    (View.ld (iblk m c 2 t) (Rect.unit ![0, 0, 0] ![1, 1024, 704] inb_S4x1024x704_S1x1024x704_0_0_0))
    (View.ld (iblk m c 0 t) (Rect.unit ![1, 0, 0] ![1, 512, 704] inb_S4x512x704_S1x512x704_1_0_0))
    (View.ld (iblk m c 2 t) (Rect.unit ![1, 0, 0] ![1, 1024, 704] inb_S4x1024x704_S1x1024x704_1_0_0))
    (View.ld (iblk m c 0 t) (Rect.unit ![2, 0, 0] ![1, 512, 704] inb_S4x512x704_S1x512x704_2_0_0))
    (View.ld (iblk m c 2 t) (Rect.unit ![2, 0, 0] ![1, 1024, 704] inb_S4x1024x704_S1x1024x704_2_0_0))
    (View.ld (iblk m c 0 t) (Rect.unit ![3, 0, 0] ![1, 512, 704] inb_S4x512x704_S1x512x704_3_0_0))
    (View.ld (iblk m c 2 t) (Rect.unit ![3, 0, 0] ![1, 1024, 704] inb_S4x1024x704_S1x1024x704_3_0_0)))
  (k0_pay5 (F := Ideal) (View.ld (iblk m c 1 t) (Rect.unit ![0, 0, 0] ![1, 512, 704] inb_S4x512x704_S1x512x704_0_0_0)))
    (View.ld (iblk m c 3 t) (Rect.unit ![0, 0, 0] ![1, 1024, 704] inb_S4x1024x704_S1x1024x704_0_0_0))
  (View.ld (iblk m c 1 t) (Rect.unit ![1, 0, 0] ![1, 512, 704] inb_S4x512x704_S1x512x704_1_0_0))
    (View.ld (iblk m c 3 t) (Rect.unit ![1, 0, 0] ![1, 1024, 704] inb_S4x1024x704_S1x1024x704_1_0_0))
  (View.ld (iblk m c 1 t) (Rect.unit ![2, 0, 0] ![1, 512, 704] inb_S4x512x704_S1x512x704_2_0_0))
    (View.ld (iblk m c 3 t) (Rect.unit ![2, 0, 0] ![1, 1024, 704] inb_S4x1024x704_S1x1024x704_2_0_0))
  (View.ld (iblk m c 1 t) (Rect.unit ![3, 0, 0] ![1, 512, 704] inb_S4x512x704_S1x512x704_3_0_0))
    (View.ld (iblk m c 3 t) (Rect.unit ![3, 0, 0] ![1, 1024, 704] inb_S4x1024x704_S1x1024x704_3_0_0))

theorem dhBlk_at (c : Dev nD) (t : Fin cfg0.N) (k : Fin 512) (d : Fin 1024) :
    dhBlk m c t (ix2 k d) = dh (aZ m c) (aU m c) (aW m c) (aY m c) (row t k) d := by
  unfold dhBlk
  pointwise [k0_pay6, k0_pay4, k0_pay5]
  simp only [z_iblk, w_iblk, u_iblk, y_iblk]
  unfold dh part
  blk_point []

/-- One block of the input's gradient, and what it adds to the gain's. -/
theorem blk_at (H X : FVec Ideal S512x1024 .f32) (G : FVec Ideal S1x1024 .f32) (P : FVec Ideal S512x1024 .f32) (k : Fin 512) (d : Fin 1024) :
    k0_pay1 H (k0_pay7 X) (k0_pay8 X) G P (ix2 k d)
      = NormRow.blockRow (fun j => X (ix2 k j)) (fun j => H (ix2 k j)) (fun j => G (ix2 0 j)) (P (ix2 k d)) d := by
  pointwise [k0_pay1, k0_pay7, k0_pay8]
  rfl

theorem gain_at (H X : FVec Ideal S512x1024 .f32) (d : Fin 1024) : k0_pay2 H (k0_pay8 X) (ix2 0 d)
      = ∑ k : Fin 512, H (ix2 k d) * (X (ix2 k d) * NormRow.inv fun j => X (ix2 k j)) := by
  pointwise [k0_pay2, k0_pay7, k0_pay8]
  rfl

theorem next_at (H X : FVec Ideal S512x1024 .f32) (v : FVec Ideal S1x1024 .f32) (y : S1x1024.Idx) :
    k0_pay3 H (k0_pay8 X) v y = v y + k0_pay2 H (k0_pay8 X) y := by
  pointwise [k0_pay3]

/-- The input's gradient, one block. -/
def dxBlk (c : Dev nD) (t : Fin cfg0.N) : Vec Ideal S512x1024 .f32 := fun y =>
  dxG (aZ m c) (aU m c) (aW m c) (aY m c) (aX m c) (aG m c) (aP m c) (ix2 (row t (y 0)) (y 1))

/-- What a point adds to the gain's gradient. -/
def gainBlk (c : Dev nD) (t : Fin cfg0.N) : Vec Ideal S1x1024 .f32 := fun y =>
  ∑ k : Fin 512, gainAt (aZ m c) (aU m c) (aW m c) (aY m c) (aX m c) (row t k) (y 1)

theorem dx_part (c : Dev nD) (t : Fin cfg0.N) (y : S512x1024.Idx) :
    k0_pay1 (dhBlk m c t) (k0_pay7 (iblk m c 4 t)) (k0_pay8 (iblk m c 4 t)) (iblk m c 5 t) (iblk m c 6 t) y = dxBlk m c t y := by
  obtain ⟨k, d, rfl⟩ : ∃ (k : Fin 512) (d : Fin 1024), y = ix2 k d := ⟨y 0, y 1, eq_ix2 y⟩
  rw [blk_at]
  simp only [x_iblk, g_iblk, p_iblk, dhBlk_at]
  rfl

theorem gain_part (c : Dev nD) (t : Fin cfg0.N) (y : S1x1024.Idx) :
    k0_pay2 (dhBlk m c t) (k0_pay8 (iblk m c 4 t)) y = gainBlk m c t y := by
  obtain ⟨k, d, rfl⟩ : ∃ (k : Fin 1) (d : Fin 1024), y = ix2 k d := ⟨y 0, y 1, eq_ix2 y⟩
  rw [Subsingleton.elim k 0, gain_at]
  simp only [x_iblk, dhBlk_at]
  rfl

theorem out_dx (c : Dev nD) (t : Fin cfg0.N) : (outsAt0 m c t.val t.isLt).1 = dxBlk m c t := by
  funext y
  by_cases h0 : t.val % 16 = 0
  · have h1 : ¬ 1 ≤ t.val := by have := lt_of_lt_of_eq t.isLt N_0; omega
    rw [outsAt0_A m c t h0 h1]; frame_out
    exact dx_part m c t y
  · have h1 : 1 ≤ t.val := by omega
    rw [outsAt0_B m c t h0 h1]; frame_out
    exact dx_part m c t y

theorem final_dx (c : Dev nD) : (dats m 0 c).arrAt 7 (cfgs 0).N = dxG (aZ m c) (aU m c) (aW m c) (aY m c) (aX m c) (aG m c) (aP m c) := by
  refine (dats m 0 c).arrAt_eq_of_covers 7 _ (by decide +kernel) fun t hf y => ?_
  blk_simp
  rw [after0_7, out_dx]
  unfold dxBlk row
  refine congrArg _ ?_
  blk_point [idx t]

theorem final_gain (c : Dev nD) : (dats m 0 c).arrAt 8 (cfgs 0).N = gainG (aZ m c) (aU m c) (aW m c) (aY m c) (aX m c) := by
  refine (dats m 0 c).arrAt_eq_of_covers 8 _ (by decide +kernel) fun t hf y => ?_
  blk_simp
  rw [after0_8, Pipeline.eq_sum_fin_of_reset_step_apply_of_flush (fun n h => (outsAt0 m c n h).2) 16 (fun _ => 0) (gainBlk m c)
    (fun t h0 j => by
      rw [outsAt0_A m c t h0 (by have := lt_of_lt_of_eq t.isLt N_0; omega)]; frame_out
      rw [zero_add]
      exact gain_part m c t j)
    (fun t h0 j => by
      rw [outsAt0_B m c t h0 (by omega)]; frame_out
      rw [next_at]
      exact congrArg _ (gain_part m c t j))
    t ((flush0_8 t).mp hf) _, zero_add]
  unfold gainG gainBlk row
  blk_point [idx t, idx ⟨_, Pipeline.run_point_lt_of_flush t ((flush0_8 t).mp hf) _⟩]
  exact Fin.ext (by simp only []; omega)

end Cert.NormIdeal.Value

end
-- ==== Proof.Norm.Ref.lean ====
/- The gradient through the feed-forward net's two first projections and their norm: the call and the derivative of the plain lines leave the same two arrays. -/
module

public import proofs.«01_k».proof.Defs
public import proofs.«01_k».proof.Proof.Norm.Value
public import proofs.«01_k».proof.Proof.Gen.NormRefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.NormIdeal.Host

open Cert.NormIdeal Cert.NormIdeal.Gen Cert.NormIdeal.Value

variable (m : (ℓ : Loc nD τ sig) → Buf (Elt Ideal) ℓ)

/-- The call's arguments: the norm's input, its gain, the two weights, their cotangents and the other cotangent. -/
abbrev arg0 (c : Dev nD) : FVec Ideal S8192x1024 .f32 := m ((c.tc : Thread nD τ).loc main_arg0)
abbrev arg1 (c : Dev nD) : FVec Ideal S1x1024 .f32 := m ((c.tc : Thread nD τ).loc main_arg1)
abbrev arg2 (c : Dev nD) : FVec Ideal S1024x2816 .f32 := m ((c.tc : Thread nD τ).loc main_arg2)
abbrev arg3 (c : Dev nD) : FVec Ideal S1024x2816 .f32 := m ((c.tc : Thread nD τ).loc main_arg3)
abbrev arg4 (c : Dev nD) : FVec Ideal S8192x2816 .f32 := m ((c.tc : Thread nD τ).loc main_arg4)
abbrev arg5 (c : Dev nD) : FVec Ideal S8192x2816 .f32 := m ((c.tc : Thread nD τ).loc main_arg5)
abbrev arg6 (c : Dev nD) : FVec Ideal S8192x1024 .f32 := m ((c.tc : Thread nD τ).loc main_arg6)

/-- Column `k` of shard `s`. -/
def col (s : Fin 4) (k : Fin 704) : Fin 2816 := ⟨s * 704 + k, by omega⟩

/-- Shard `s` of a weight, and of a cotangent, is its columns from `704 s`. -/
theorem aW_apply (c : Dev nD) (s : Fin 4) (d : Fin 1024) (k : Fin 704) : V m c main_v5 (ix3 s d k) = arg2 m c (ix2 d (col s k)) := by
  unfold col; entry_read; pointwise

theorem aY_apply (c : Dev nD) (s : Fin 4) (d : Fin 1024) (k : Fin 704) : V m c main_v11 (ix3 s d k) = arg3 m c (ix2 d (col s k)) := by
  unfold col; entry_read; pointwise

theorem aZ_apply (c : Dev nD) (s : Fin 4) (r : Fin 8192) (k : Fin 704) : V m c main_v2 (ix3 s r k) = arg4 m c (ix2 r (col s k)) := by
  unfold col; entry_read; pointwise

theorem aU_apply (c : Dev nD) (s : Fin 4) (r : Fin 8192) (k : Fin 704) : V m c main_v8 (ix3 s r k) = arg5 m c (ix2 r (col s k)) := by
  unfold col; entry_read; pointwise

/-- A plain product with a transposed weight is the sum of its four shards' parts. -/
theorem shards (Z : FVec Ideal S4x8192x704 .bf16) (W : FVec Ideal S4x1024x704 .bf16) (Z' : FVec Ideal S8192x2816 .f32)
    (W' : FVec Ideal S1024x2816 .f32) (hZ : ∀ s r k, Z (ix3 s r k) = Z' (ix2 r (col s k))) (hW : ∀ s d k, W (ix3 s d k) = W' (ix2 d (col s k)))
    (r : Fin 8192) (d : Fin 1024) :
    ∑ k : Fin 2816, Z' (ix2 r k) * W' (ix2 d k) = part Z W 0 r d + part Z W 1 r d + part Z W 2 r d + part Z W 3 r d := by
  rw [Fin.sum_univ_tiles 4 704 rfl, Fin.sum_univ_four]
  unfold part
  simp only [hZ, hW]
  rfl

/-- The gradient of the norm's output is the two plain products with the transposed weights. -/
theorem dh_eq (c : Dev nD) (r : Fin 8192) (d : Fin 1024) : dh (aZ m c) (aU m c) (aW m c) (aY m c) r d
    = ∑ k : Fin 2816, arg5 m c (ix2 r k) * arg3 m c (ix2 d k) + ∑ k : Fin 2816, arg4 m c (ix2 r k) * arg2 m c (ix2 d k) := by
  rw [shards (aU m c) (aY m c) (arg5 m c) (arg3 m c) (aU_apply m c) (aY_apply m c),
    shards (aZ m c) (aW m c) (arg4 m c) (arg2 m c) (aZ_apply m c) (aW_apply m c)]
  unfold dh
  abel

end Cert.NormIdeal.Host

namespace Cert.NormRefIdeal.Plain

open Cert.NormRefIdeal Cert.NormRefIdeal.Gen

variable (m : (ℓ : Loc nD τ sig) → Buf (Elt Ideal) ℓ)

/-- The reference's arguments. -/
abbrev arg0 (c : Dev nD) : FVec Ideal S8192x1024 .f32 := m ((c.tc : Thread nD τ).loc main_arg0)
abbrev arg1 (c : Dev nD) : FVec Ideal S1x1024 .f32 := m ((c.tc : Thread nD τ).loc main_arg1)
abbrev arg2 (c : Dev nD) : FVec Ideal S1024x2816 .f32 := m ((c.tc : Thread nD τ).loc main_arg2)
abbrev arg3 (c : Dev nD) : FVec Ideal S1024x2816 .f32 := m ((c.tc : Thread nD τ).loc main_arg3)
abbrev arg4 (c : Dev nD) : FVec Ideal S8192x2816 .f32 := m ((c.tc : Thread nD τ).loc main_arg4)
abbrev arg5 (c : Dev nD) : FVec Ideal S8192x2816 .f32 := m ((c.tc : Thread nD τ).loc main_arg5)
abbrev arg6 (c : Dev nD) : FVec Ideal S8192x1024 .f32 := m ((c.tc : Thread nD τ).loc main_arg6)

/-- The gradient of the norm's output. -/
def dh (Z U : FVec Ideal S8192x2816 .f32) (W Y : FVec Ideal S1024x2816 .f32) (r : Fin 8192) (d : Fin 1024) : EReal :=
  ∑ k : Fin 2816, U (ix2 r k) * Y (ix2 d k) + ∑ k : Fin 2816, Z (ix2 r k) * W (ix2 d k)

/-- The two results, entry by entry. -/
def dx (X : FVec Ideal S8192x1024 .f32) (G : FVec Ideal S1x1024 .f32) (W Y : FVec Ideal S1024x2816 .f32) (Z U : FVec Ideal S8192x2816 .f32)
    (P : FVec Ideal S8192x1024 .f32) : FVec Ideal S8192x1024 .f32 := fun y =>
  NormRow.plainRow (fun k => X (ix2 (y 0) k)) (fun k => dh Z U W Y (y 0) k) (fun k => G (ix2 0 k)) (P (ix2 (y 0) (y 1))) (y 1)

def dgain (X : FVec Ideal S8192x1024 .f32) (W Y : FVec Ideal S1024x2816 .f32) (Z U : FVec Ideal S8192x2816 .f32) : FVec Ideal S1x1024 .f32 :=
  fun y => ∑ r : Fin 8192, X (ix2 r (y 1)) * NormRow.inv (fun k => X (ix2 r k)) * dh Z U W Y r (y 1)

theorem dx_eq (c : Dev nD) : Value.res_out0 m c = dx (arg0 m c) (arg1 m c) (arg2 m c) (arg3 m c) (arg4 m c) (arg5 m c) (arg6 m c) := by
  funext y
  obtain ⟨r, d, rfl⟩ : ∃ (r : Fin 8192) (d : Fin 1024), y = ix2 r d := ⟨y 0, y 1, eq_ix2 y⟩
  unfold Value.res_out0 Value.res_main_v39
  pointwise [dx, NormRow.plainRow, NormRow.through, NormRow.inv, NormRow.var, dh]
  simp only [Finset.univ_unique, Finset.sum_singleton]

theorem dgain_eq (c : Dev nD) : shapeCast _ (Host.reduceAdd (mulf (mulf (arg0 m c) (broadcastInDim S8192x1024 ![0, 1] bcast_S8192x1_S8192x1024_0_1
      (Host.rsqrt (addf (Host.divf (broadcastInDim S8192x1 ![0] bcast_S8192_S8192x1_0 (Host.reduceAdd (mulf (arg0 m c) (arg0 m c))
        (constant S_ .f32 0x00000000#32) reducesTo_S8192x1024_S8192_d1 h_S_)) (broadcastInDim S8192x1 ![] bcast_S_S8192x1 (constant S_ .f32 0x44800000#32)))
        (broadcastInDim S8192x1 ![] bcast_S_S8192x1 (constant S_ .f32 0x358637BD#32))))))
      (addf (Host.dotGeneral dot_S8192x2816_S1024x2816_S8192x1024_1_1_0_0_n_n none (arg5 m c) (arg3 m c))
        (Host.dotGeneral dot_S8192x2816_S1024x2816_S8192x1024_1_1_0_0_n_n none (arg4 m c) (arg2 m c))))
      (constant S_ .f32 0x00000000#32) reducesTo_S8192x1024_S1024_d0 h_S_) shapeCasts_S1024_S1x1024
    = dgain (arg0 m c) (arg2 m c) (arg3 m c) (arg4 m c) (arg5 m c) := by
  funext y
  obtain ⟨r, d, rfl⟩ : ∃ (r : Fin 1) (d : Fin 1024), y = ix2 r d := ⟨y 0, y 1, eq_ix2 y⟩
  pointwise [dgain, NormRow.inv, NormRow.var, dh]

/-- The reference launches no kernel: it runs to its end with these two results, its arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v39) = dx (arg0 m c) (arg1 m c) (arg2 m c) (arg3 m c) (arg4 m c) (arg5 m c) (arg6 m c)
      ∧ r.2.mem ((c.tc : Thread nD τ).loc main_v22) = dgain (arg0 m c) (arg2 m c) (arg3 m c) (arg4 m c) (arg5 m c)
      ∧ r.2.mem ((c.tc : Thread nD τ).loc main_arg0) = arg0 m c
      ∧ r.2.mem ((c.tc : Thread nD τ).loc main_arg1) = arg1 m c
      ∧ r.2.mem ((c.tc : Thread nD τ).loc main_arg2) = arg2 m c
      ∧ r.2.mem ((c.tc : Thread nD τ).loc main_arg3) = arg3 m c
      ∧ r.2.mem ((c.tc : Thread nD τ).loc main_arg4) = arg4 m c
      ∧ r.2.mem ((c.tc : Thread nD τ).loc main_arg5) = arg5 m c
      ∧ r.2.mem ((c.tc : Thread nD τ).loc main_arg6) = arg6 m c :=
  (θ_run defs _ _).mono (fun r h c => ⟨(h c).1.trans (dx_eq m c), (h c).2.1.trans (dgain_eq m c), (h c).2.2⟩) (Value.run m ρ)

end Cert.NormRefIdeal.Plain

namespace Cert.Norm

open Cert.NormIdeal.Value Cert.NormIdeal.Host

variable (m : (ℓ : Loc Cert.NormIdeal.nD Cert.NormIdeal.τ Cert.NormIdeal.sig) → Buf (Elt Ideal) ℓ) (c : Dev Cert.NormIdeal.nD)

/-- The region finds the norm's input, the gain and the other cotangent as launched. -/
theorem aX_eq : aX m c = arg0 m c := Cert.NormIdeal.Gen.V_main_arg0 m c
theorem aG_eq : aG m c = arg1 m c := Cert.NormIdeal.Gen.V_main_arg1 m c
theorem aP_eq : aP m c = arg6 m c := Cert.NormIdeal.Gen.V_main_arg6 m c

section Equation

variable (Z U : FVec Ideal Cert.NormIdeal.S4x8192x704 .bf16) (W Y : FVec Ideal Cert.NormIdeal.S4x1024x704 .bf16)
  (X P : FVec Ideal Cert.NormIdeal.S8192x1024 .f32) (G : FVec Ideal Cert.NormIdeal.S1x1024 .f32)
  (Z' U' : FVec Ideal Cert.NormIdeal.S8192x2816 .f32) (W' Y' : FVec Ideal Cert.NormIdeal.S1024x2816 .f32)
  (h : ∀ r d, dh Z U W Y r d = Cert.NormRefIdeal.Plain.dh Z' U' W' Y' r d)

include h

/-- The input's gradient: block by block as by the chain rule. -/
theorem dx_form : Cert.NormRefIdeal.Plain.dx X G W' Y' Z' U' P = dxG Z U W Y X G P := by
  have h' : dh Z U W Y = Cert.NormRefIdeal.Plain.dh Z' U' W' Y' := funext fun r => funext fun d => h r d
  funext y
  unfold dxG Cert.NormRefIdeal.Plain.dx
  rw [h']
  exact (NormRow.row_eq _ _ _ _ _).symm

/-- The gain's gradient: the tiles' sums are the sum over the rows. -/
theorem dgain_form : Cert.NormRefIdeal.Plain.dgain X W' Y' Z' U' = gainG Z U W Y X := by
  have h' : dh Z U W Y = Cert.NormRefIdeal.Plain.dh Z' U' W' Y' := funext fun r => funext fun d => h r d
  funext y
  unfold gainG Cert.NormRefIdeal.Plain.dgain gainAt
  rw [h', Fin.sum_univ_tiles 16 512 rfl]
  exact Finset.sum_congr rfl fun s _ => Finset.sum_congr rfl fun k _ => mul_comm _ _

end Equation

theorem dx_eq : Cert.NormRefIdeal.Plain.dx (arg0 m c) (arg1 m c) (arg2 m c) (arg3 m c) (arg4 m c) (arg5 m c) (arg6 m c)
    = dxG (aZ m c) (aU m c) (aW m c) (aY m c) (aX m c) (aG m c) (aP m c) :=
  (dx_form (aZ m c) (aU m c) (aW m c) (aY m c) (arg0 m c) (arg6 m c) (arg1 m c) (arg4 m c) (arg5 m c) (arg2 m c) (arg3 m c) (dh_eq m c)).trans
    (congr (congr (congrArg (dxG (aZ m c) (aU m c) (aW m c) (aY m c)) (aX_eq m c).symm) (aG_eq m c).symm) (aP_eq m c).symm)

theorem dgain_eq : Cert.NormRefIdeal.Plain.dgain (arg0 m c) (arg2 m c) (arg3 m c) (arg4 m c) (arg5 m c) = gainG (aZ m c) (aU m c) (aW m c) (aY m c) (aX m c) :=
  (dgain_form (aZ m c) (aU m c) (aW m c) (aY m c) (arg0 m c) (arg4 m c) (arg5 m c) (arg2 m c) (arg3 m c) (dh_eq m c)).trans
    (congrArg (gainG (aZ m c) (aU m c) (aW m c) (aY m c)) (aX_eq m c).symm)

/-- The reference runs to its end with its arguments unchanged and every counter at zero. -/
theorem frame_ref : Cert.quiescent_NormRefIdeal (hNormRefIdeal := Cert.NormRefIdeal.Gen.facts) := by
  intro m g _
  refine (θ_run _ _ _).mono (fun r h => ?_) (Cert.NormRefIdeal.Plain.run m g)
  exact ⟨fun c => (h c).2.2, sem_eq_zero_of_no_sems (sig := Cert.NormRefIdeal.sig) (by decide) _⟩

/-- From memories that agree on the arguments, both programs end with the same two arrays. -/
theorem algebraic : Cert.algebraic_NormIdeal_NormRefIdeal (hNormIdeal := Cert.NormIdeal.Gen.facts)
    (hNormRefIdeal := Cert.NormRefIdeal.Gen.facts) := by
  pair_intro
  · run_from Cert.NormIdeal.Gen.run_main m g
  · run_from Cert.NormRefIdeal.Plain.run m' g'
    · exact (dx_eq m c).trans (final_dx m c).symm
    · exact (dgain_eq m c).trans (final_gain m c).symm

end Cert.Norm

end
-- ==== Proof.AttnF.Trip.lean ====
/- The forward attention's loop over the keys: what one trip stores in the running largest scores and the running sums. -/
module

public import proofs.«01_k».proof.Proof.Gen.AttnFIdeal.Frame
public import Idealize.ShloMosaic.Lib.Pipeline.ValueKit
public import Idealize.ShloMosaic.Lib.Pointwise
public import Idealize.ShloMosaic.Lib.WritesUnit

@[expose] public section

set_option maxRecDepth 16384

noncomputable section

open Idealize.ShloMosaic Idealize.ShloMosaic.TcCoe Idealize.SL.Sem

namespace Cert.AttnFIdeal.Trip

open Cert.AttnFIdeal Cert.AttnFIdeal.Gen

/-- The rows of one key block. -/
abbrev slab (k : Fin k0_t1_loop.trips) : Rect S1x8192x128 :=
  Rect.unit (s := S1x8192x128) (k0_off1 k) S1x4096x128.size (k0_off1_inb k)

/-- The two head pairs' halves of the largest scores and of the sums. -/
abbrev top0 : Rect S2x512x1 := Rect.unit (s := S2x512x1) ![0, 0, 0] S1x512x1.size inb_S2x512x1_S1x512x1_0_0_0
abbrev top1 : Rect S2x512x1 := Rect.unit (s := S2x512x1) ![1, 0, 0] S1x512x1.size inb_S2x512x1_S1x512x1_1_0_0
abbrev sum0 : Rect S2x512x128 := Rect.unit (s := S2x512x128) ![0, 0, 0] S1x512x128.size inb_S2x512x128_S1x512x128_0_0_0
abbrev sum1 : Rect S2x512x128 := Rect.unit (s := S2x512x128) ![1, 0, 0] S1x512x128.size inb_S2x512x128_S1x512x128_1_0_0

/-- What the loop reads: keys, values, stacked queries. -/
structure Given where
  key : FVec Ideal S1x8192x128 .bf16
  val : FVec Ideal S1x8192x128 .bf16
  query : FVec Ideal S2x512x128 .bf16

/-- The pieces one trip stores, as functions of what it finds in the largest scores and in the sums. -/
def stores (g : Given) (k : Fin k0_t1_loop.trips) (a8 : FVec Ideal S2x512x1 .f32) (a9 : FVec Ideal S2x512x128 .f32) :
    List (View.Piece (Elt Ideal) S2x512x1 .f32) × List (View.Piece (Elt Ideal) S2x512x128 .f32) :=
  ([⟨top1, k0_pay21 (F := Ideal) (k0_pay5 (F := Ideal) (View.ld g.key (slab k))) (View.ld g.query sum1) (View.ld a8 top1)⟩,
    ⟨top0, k0_pay11 (F := Ideal) (View.ld g.key (slab k)) (View.ld g.query sum0) (View.ld a8 top0)⟩],
   [⟨sum1, k0_pay20 (F := Ideal) (k0_pay5 (F := Ideal) (View.ld g.key (slab k))) (k0_pay6 (F := Ideal) (View.ld g.val (slab k)))
      (View.ld g.query sum1) (View.ld a8 top1) (View.ld a9 sum1)⟩,
    ⟨sum0, k0_pay10 (F := Ideal) (View.ld g.key (slab k)) (View.ld g.val (slab k)) (View.ld g.query sum0) (View.ld a8 top0)
      (View.ld a9 sum0)⟩])

section

variable (𝒱 : Variants) (c : Dev nD) (bd : Option 𝒱.V) (i : grid0.Coords) (arg2 : Memref sig .tc .vmem S256x256 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S256x256 .bf16) (harg5 : arg5.IsWhole) (arg6 : Memref sig .tc .vmem S256x256 .f32) (harg6 : arg6.IsWhole) (arg7 : Memref sig .tc .vmem S2x512x128 .bf16) (harg7 : arg7.IsWhole) (arg8 : Memref sig .tc .vmem S2x512x1 .f32) (harg8 : arg8.IsWhole) (arg9 : Memref sig .tc .vmem S2x512x128 .f32) (harg9 : arg9.IsWhole) (v2 : IVec S256x128 1) (v34 : FVec Ideal S2x512x1 .f32) (X_arg3 : BufTy.Contents (Elt Ideal) arg3.view.ty) (X_arg4 : BufTy.Contents (Elt Ideal) arg4.view.ty) (X_arg7 : BufTy.Contents (Elt Ideal) arg7.view.ty)

/-- A trip stores these pieces. -/
theorem trip1 (k : Fin k0_t1_loop.trips) (f_arg8 : BufTy.Contents (Elt Ideal) arg8.view.ty) (f_arg9 : BufTy.Contents (Elt Ideal) arg9.view.ty) :
    tripL_k0_t1 (F := Ideal) 𝒱 c bd i arg2 harg2 arg3 harg3 arg4 harg4 arg5 harg5 arg6 harg6 arg7 harg7 arg8 harg8 arg9 harg9 v2 v34 X_arg3 X_arg4 X_arg7 k f_arg8 f_arg9
    = stores ⟨arg3.view.read (Elt Ideal) X_arg3, arg4.view.read (Elt Ideal) X_arg4, arg7.view.read (Elt Ideal) X_arg7⟩ k
      (arg8.view.read (Elt Ideal) f_arg8) (arg9.view.read (Elt Ideal) f_arg9) := by
  unfold tripL_k0_t1 trip_k0_t1 stores
  dsimp only
  sl_unfold_words
  simp only [View.readAt_eq_ld]
  sl_kernel_rfl

/-- The pieces of the first `k` trips, newest first. -/
def lists (g : Given) (b8 : Memref sig .tc .vmem S2x512x1 .f32) (b9 : Memref sig .tc .vmem S2x512x128 .f32)
    (f8 : BufTy.Contents (Elt Ideal) b8.view.ty) (f9 : BufTy.Contents (Elt Ideal) b9.view.ty) :
    ℕ → List (View.Piece (Elt Ideal) S2x512x1 .f32) × List (View.Piece (Elt Ideal) S2x512x128 .f32)
  | 0 => ([], [])
  | k + 1 =>
    let prev := lists g b8 b9 f8 f9 k
    if h : k < k0_t1_loop.trips then
      let new := stores g ⟨k, h⟩ (b8.view.read (Elt Ideal) (b8.view.writes (Elt Ideal) f8 prev.1))
        (b9.view.read (Elt Ideal) (b9.view.writes (Elt Ideal) f9 prev.2))
      (new.1 ++ prev.1, new.2 ++ prev.2)
    else prev

/-- The loop's pieces are these. -/
theorem pass1 (G_arg8 : BufTy.Contents (Elt Ideal) arg8.view.ty) (G_arg9 : BufTy.Contents (Elt Ideal) arg9.view.ty) (k : ℕ) :
    pb_k0_t1 (F := Ideal) 𝒱 c bd i arg2 harg2 arg3 harg3 arg4 harg4 arg5 harg5 arg6 harg6 arg7 harg7 arg8 harg8 arg9 harg9 v2 v34 X_arg3 X_arg4 X_arg7 G_arg8 G_arg9 k
    = lists ⟨arg3.view.read (Elt Ideal) X_arg3, arg4.view.read (Elt Ideal) X_arg4, arg7.view.read (Elt Ideal) X_arg7⟩
      arg8 arg9 G_arg8 G_arg9 k := by
  induction k with
  | zero => rfl
  | succ k ih =>
    rw [pb_k0_t1, ih, lists]
    unfold pb_k0_t1Step
    by_cases h : k < k0_t1_loop.trips
    · rw [dif_pos h, dif_pos h, trip1]
    · rw [dif_neg h, dif_neg h]

end

end Cert.AttnFIdeal.Trip

end
-- ==== Proof.AttnF.Pass.lean ====
/- The forward attention's loop over the keys, added up: what the largest scores and the sums hold after a trip. -/
module

public import proofs.«01_k».proof.Proof.AttnF.Trip

@[expose] public section

set_option maxRecDepth 16384

noncomputable section

open Idealize.ShloMosaic Idealize.ShloMosaic.TcCoe Idealize.SL.Sem

namespace Cert.AttnFIdeal.Trip

open Cert.AttnFIdeal Cert.AttnFIdeal.Gen

/-- Key `s` of block `k`. -/
def keyRow (k : Fin 2) (s : Fin 4096) : Fin 8192 := ⟨k * 4096 + s, by omega⟩

/-- The score of query row `r` of pair `p` with key `s`. -/
def score (g : Given) (p : Fin 2) (r : Fin 512) (s : Fin 8192) : Ideal .f32 :=
  ∑ l : Fin 128, g.query (ix3 p r l) * g.key (ix3 0 s l)

/-- The largest score after block `k`, `M` before it. -/
def topAt (g : Given) (k p : Fin 2) (r : Fin 512) (M : Ideal .f32) : Ideal .f32 :=
  FloatOps.maximumf M (Finset.fold max ⊥ (fun s : Fin 4096 => score g p r (keyRow k s)) Finset.univ)

/-- The sum after block `k`, `S` before it. -/
def sumAt (g : Given) (k p : Fin 2) (r : Fin 512) (l : Fin 128) (M S : Ideal .f32) : Ideal .f32 :=
  S * FloatOps.exp (FloatOps.subf M (topAt g k p r M))
    + ∑ s : Fin 4096, FloatOps.exp (FloatOps.subf (score g p r (keyRow k s)) (topAt g k p r M)) * g.val (ix3 0 (keyRow k s) l)

theorem off_eq : ∀ k : Fin k0_t1_loop.trips, k0_off1 k = ![0, k.val * 4096, 0] := by decide +kernel

theorem slab_ix (k : Fin k0_t1_loop.trips) (s : Fin 4096) (l : Fin 128) (h0 : k0_off1 k 0 < 1) (h1 : k0_off1 k 1 + (s : ℕ) < 8192)
    (h2 : k0_off1 k 2 + (l : ℕ) < 128) :
    ix3 (⟨k0_off1 k 0, h0⟩ : Fin 1) (⟨k0_off1 k 1 + s, h1⟩ : Fin 8192) (⟨k0_off1 k 2 + l, h2⟩ : Fin 128) = ix3 0 (keyRow k s) l := by
  have h := off_eq k
  congr 1 <;> refine Fin.ext ?_ <;> simp [h, keyRow]

theorem lowest : Ideal.ofBits FTy.f32 4286578688#32 = ⊥ := by simp [Ideal.ofBits, Ideal.ieee]

/-- A row's largest score. -/
theorem row_max (x : FVec Ideal S512x4096 .f32) (h) (hφ) (r : Fin 512) :
    multiReduction .maximumf [1] S512 x 0xFF800000#32 h hφ rfl (ix1 r) = Finset.fold max ⊥ (fun s : Fin 4096 => x (ix2 r s)) Finset.univ := by
  pointwise
  simp only [lowest]

theorem larger_at (x : FVec Ideal S512 .f32) (a) (h) (r : Fin 512) :
    maximumf (k0_pay8 (F := Ideal) a) (shapeCast S512x1 x h) (ix2 r 0) = FloatOps.maximumf (a (ix3 0 r 0)) (x (ix1 r)) := by
  pointwise [k0_pay8]

theorem top0_at (a b c) (r : Fin 512) : k0_pay9 (F := Ideal) a b c (ix2 r 0)
    = FloatOps.maximumf (c (ix3 0 r 0)) (Finset.fold max ⊥ (fun s : Fin 4096 => k0_pay7 (F := Ideal) a b (ix2 r s)) Finset.univ) :=
  (larger_at _ c _ r).trans (congrArg (FloatOps.maximumf _) (row_max (k0_pay7 (F := Ideal) a b) _ _ r))

theorem top1_at (a b c) (r : Fin 512) : k0_pay19 (F := Ideal) a b c (ix2 r 0)
    = FloatOps.maximumf (c (ix3 0 r 0)) (Finset.fold max ⊥ (fun s : Fin 4096 => k0_pay17 (F := Ideal) a b (ix2 r s)) Finset.univ) :=
  (larger_at _ c _ r).trans (congrArg (FloatOps.maximumf _) (row_max (k0_pay17 (F := Ideal) a b) _ _ r))

theorem ld_top0 (a : FVec Ideal S2x512x1 .f32) (r : Fin 512) : View.ld (Val := Elt Ideal) (e' := .f32) a top0 (ix3 0 r 0) = a (ix3 0 r 0) := by
  refine congrArg a (funext fun j => Fin.ext ?_)
  fin_cases j <;> simp [LoadRect.idx, Rect.unit, ix3]

theorem ld_top1 (a : FVec Ideal S2x512x1 .f32) (r : Fin 512) : View.ld (Val := Elt Ideal) (e' := .f32) a top1 (ix3 0 r 0) = a (ix3 1 r 0) := by
  refine congrArg a (funext fun j => Fin.ext ?_)
  fin_cases j <;> simp [LoadRect.idx, Rect.unit, ix3]

section pays

variable (g : Given) (k : Fin k0_t1_loop.trips) (a8 : FVec Ideal S2x512x1 .f32) (a9 : FVec Ideal S2x512x128 .f32) (r : Fin 512)

theorem score0_pay (s : Fin 4096) :
    k0_pay7 (F := Ideal) (View.ld (Val := Elt Ideal) g.key (slab k)) (View.ld (Val := Elt Ideal) g.query sum0) (ix2 r s)
      = score g 0 r (keyRow k s) := by
  unfold score
  pointwise [k0_pay7, k0_pay5]
  simp only [slab_ix]

theorem score1_pay (s : Fin 4096) :
    k0_pay17 (F := Ideal) (k0_pay5 (F := Ideal) (View.ld (Val := Elt Ideal) g.key (slab k))) (View.ld (Val := Elt Ideal) g.query sum1) (ix2 r s)
      = score g 1 r (keyRow k s) := by
  unfold score
  pointwise [k0_pay17, k0_pay5]
  simp only [slab_ix]

theorem top0_pay' :
    k0_pay9 (F := Ideal) (View.ld (Val := Elt Ideal) g.key (slab k)) (View.ld (Val := Elt Ideal) g.query sum0)
      (View.ld (Val := Elt Ideal) a8 top0) (ix2 r 0) = topAt g k 0 r (a8 (ix3 0 r 0)) := by
  refine (top0_at _ _ _ r).trans (congrArg₂ FloatOps.maximumf (ld_top0 a8 r) ?_)
  exact congrArg (fun f => Finset.fold max ⊥ f Finset.univ) (funext fun s => score0_pay g k r s)

theorem top1_pay' :
    k0_pay19 (F := Ideal) (k0_pay5 (F := Ideal) (View.ld (Val := Elt Ideal) g.key (slab k))) (View.ld (Val := Elt Ideal) g.query sum1)
      (View.ld (Val := Elt Ideal) a8 top1) (ix2 r 0) = topAt g k 1 r (a8 (ix3 1 r 0)) := by
  refine (top1_at _ _ _ r).trans (congrArg₂ FloatOps.maximumf (ld_top1 a8 r) ?_)
  exact congrArg (fun f => Finset.fold max ⊥ f Finset.univ) (funext fun s => score1_pay g k r s)

theorem top0_pay :
    k0_pay11 (F := Ideal) (View.ld (Val := Elt Ideal) g.key (slab k)) (View.ld (Val := Elt Ideal) g.query sum0)
      (View.ld (Val := Elt Ideal) a8 top0) (ix3 0 r 0) = topAt g k 0 r (a8 (ix3 0 r 0)) := by
  rw [← top0_pay']
  pointwise [k0_pay11]

theorem top1_pay :
    k0_pay21 (F := Ideal) (k0_pay5 (F := Ideal) (View.ld (Val := Elt Ideal) g.key (slab k))) (View.ld (Val := Elt Ideal) g.query sum1)
      (View.ld (Val := Elt Ideal) a8 top1) (ix3 0 r 0) = topAt g k 1 r (a8 (ix3 1 r 0)) := by
  rw [← top1_pay']
  pointwise [k0_pay21]

theorem sum0_pay (l : Fin 128) :
    k0_pay10 (F := Ideal) (View.ld (Val := Elt Ideal) g.key (slab k)) (View.ld (Val := Elt Ideal) g.val (slab k))
      (View.ld (Val := Elt Ideal) g.query sum0) (View.ld (Val := Elt Ideal) a8 top0) (View.ld (Val := Elt Ideal) a9 sum0) (ix3 0 r l)
      = sumAt g k 0 r l (a8 (ix3 0 r 0)) (a9 (ix3 0 r l)) := by
  unfold sumAt
  pointwise [k0_pay10, k0_pay8, k0_pay6]
  simp only [score0_pay, top0_pay', slab_ix]

theorem sum1_pay (l : Fin 128) :
    k0_pay20 (F := Ideal) (k0_pay5 (F := Ideal) (View.ld (Val := Elt Ideal) g.key (slab k)))
      (k0_pay6 (F := Ideal) (View.ld (Val := Elt Ideal) g.val (slab k)))
      (View.ld (Val := Elt Ideal) g.query sum1) (View.ld (Val := Elt Ideal) a8 top1) (View.ld (Val := Elt Ideal) a9 sum1) (ix3 0 r l)
      = sumAt g k 1 r l (a8 (ix3 1 r 0)) (a9 (ix3 1 r l)) := by
  unfold sumAt
  pointwise [k0_pay20, k0_pay18, k0_pay6]
  simp only [score1_pay, top1_pay', slab_ix]

end pays

section reads

variable (g : Given) (b8 : Memref sig .tc .vmem S2x512x1 .f32) (b9 : Memref sig .tc .vmem S2x512x128 .f32)
  (f8 : BufTy.Contents (Elt Ideal) b8.view.ty) (f9 : BufTy.Contents (Elt Ideal) b9.view.ty)

/-- What the largest scores and the sums hold before trip `k`. -/
def tops (k : ℕ) : FVec Ideal S2x512x1 .f32 := b8.view.read (Elt Ideal) (b8.view.writes (Elt Ideal) f8 (lists g b8 b9 f8 f9 k).1)
def sums (k : ℕ) : FVec Ideal S2x512x128 .f32 := b9.view.read (Elt Ideal) (b9.view.writes (Elt Ideal) f9 (lists g b8 b9 f8 f9 k).2)

theorem lists_succ (k : Fin k0_t1_loop.trips) : lists g b8 b9 f8 f9 (k.val + 1)
    = ((stores g k (tops g b8 b9 f8 f9 k) (sums g b8 b9 f8 f9 k)).1 ++ (lists g b8 b9 f8 f9 k).1,
       (stores g k (tops g b8 b9 f8 f9 k) (sums g b8 b9 f8 f9 k)).2 ++ (lists g b8 b9 f8 f9 k).2) := by
  rw [lists]; exact dif_pos k.isLt

/-- Two pieces over an array's two halves, read in either. -/
theorem read_halves {n : ℕ} {e : EltTy} (b : Memref sig .tc .vmem ⟨3, ![2, 512, n]⟩ e) (f : BufTy.Contents (Elt Ideal) b.view.ty) (h0 h1)
    (x y : Vec Ideal ⟨3, ![1, 512, n]⟩ e) (P : List (View.Piece (Elt Ideal) ⟨3, ![2, 512, n]⟩ e)) (p : Fin 2) (r : Fin 512) (l : Fin n) :
    b.view.read (Elt Ideal) (b.view.writes (Elt Ideal) f
      (⟨Rect.unit (s := ⟨3, ![2, 512, n]⟩) ![1, 0, 0] ![1, 512, n] h1, y⟩ :: ⟨Rect.unit (s := ⟨3, ![2, 512, n]⟩) ![0, 0, 0] ![1, 512, n] h0, x⟩ :: P)) (ix3 p r l)
      = if p = 0 then x (ix3 0 r l) else y (ix3 0 r l) := by
  obtain rfl | rfl : p = 0 ∨ p = 1 := by omega
  · rw [if_pos rfl]
    refine (View.read_writes_cons_unit_of_not_mem b.view f h1 y _ _ rfl 0 (.inl ?_)).trans ?_
    · show (0 : ℕ) < 1; omega
    · refine View.read_writes_cons_unit_of_mem b.view f h0 x P _ (ix3 0 r l) rfl fun a => ?_
      fin_cases a <;> simp
  · rw [if_neg (by decide)]
    refine View.read_writes_cons_unit_of_mem b.view f h1 y _ _ (ix3 0 r l) rfl fun a => ?_
    fin_cases a <;> simp

theorem tops_succ (k : Fin k0_t1_loop.trips) (p : Fin 2) (r : Fin 512) :
    tops g b8 b9 f8 f9 (k.val + 1) (ix3 p r 0) = topAt g k p r (tops g b8 b9 f8 f9 k (ix3 p r 0)) := by
  rw [tops, lists_succ]
  refine (read_halves b8 f8 _ _ _ _ _ p r 0).trans ?_
  rw [top0_pay, top1_pay]
  obtain rfl | rfl : p = 0 ∨ p = 1 := by omega
  · exact if_pos rfl
  · exact if_neg (by decide)

theorem sums_succ (k : Fin k0_t1_loop.trips) (p : Fin 2) (r : Fin 512) (l : Fin 128) :
    sums g b8 b9 f8 f9 (k.val + 1) (ix3 p r l)
      = sumAt g k p r l (tops g b8 b9 f8 f9 k (ix3 p r 0)) (sums g b8 b9 f8 f9 k (ix3 p r l)) := by
  rw [sums, lists_succ]
  refine (read_halves b9 f9 _ _ _ _ _ p r l).trans ?_
  rw [sum0_pay, sum1_pay]
  obtain rfl | rfl : p = 0 ∨ p = 1 := by omega
  · exact if_pos rfl
  · exact if_neg (by decide)

end reads

end Cert.AttnFIdeal.Trip

end
-- ==== Proof.AttnF.Stack.lean ====
/- How the forward attention stacks two heads and brings them back side by side. -/
module

public import proofs.«01_k».proof.Proof.AttnF.Trip
public import proofs.«01_k».proof.Proof.Attn.Stack

@[expose] public section

set_option maxRecDepth 16384

noncomputable section

open Idealize.ShloMosaic Idealize.ShloMosaic.TcCoe Idealize.SL.Sem

namespace Cert.AttnFIdeal.Stack

open Cert.AttnFIdeal Cert.AttnFIdeal.Gen
open Cert.AttnIdeal.Stack (up lane pick_lane0 pick_lane1 w8)

theorem query_low (x : FVec Ideal S256x128 .bf16) (h : Fin 2) (r : Fin 256) (l : Fin 64) :
    k0_pay13 (F := Ideal) x (ix3 0 (up h r) (lane 0 l)) = x (ix2 r (lane h l)) * w8 := by
  pointwise [k0_pay13, k0_pay12]
  simp only [pick_lane0]
  fin_cases h
  · rw [dif_pos (by simp [up])]
    refine congrArg (fun i => x i * w8) ?_
    congr 1; exact Fin.ext (by simp [up])
  · rw [dif_neg (by simp [up])]
    refine congrArg (fun i => x i * w8) ?_
    congr 1 <;> refine Fin.ext ?_ <;> simp [up, lane]; omega

theorem query_high (x : FVec Ideal S256x128 .bf16) (r : Fin 512) (l : Fin 64) : k0_pay13 (F := Ideal) x (ix3 0 r (lane 1 l)) = 0 := by
  pointwise [k0_pay13, k0_pay12]
  simp only [pick_lane1]
  split_ifs <;> rfl

/-- The lane that holds the sum of the exponentials. -/
theorem at64 : ∀ l : Fin 128, IntOp.cmpi .eq (BitVec.ofNat 32 l) 64#32 = if l = lane 1 0 then 1#1 else 0#1 := by decide +kernel

theorem pick64 (l : Fin 128) (a b : EReal) :
    Scalar.select (IntOp.cmpi .eq (BitVec.ofNat 32 l) 64#32) a b = if l = lane 1 0 then a else b := by
  rw [at64]; split_ifs <;> rfl

theorem den_at (x : FVec Ideal S1x512x128 .f32) (r : Fin 512) : k0_pay23 (F := Ideal) x (ix2 r 0) = x (ix3 0 r (lane 1 0)) := by
  pointwise [k0_pay23, k0_pay22]
  simp only [pick64]
  exact (Finset.sum_ite_eq' _ _ _).trans (if_pos (Finset.mem_univ _))

theorem out_at (x : FVec Ideal S1x512x128 .f32) (h : Fin 2) (r : Fin 256) (l : Fin 64) :
    k0_pay24 (F := Ideal) k0_pay12 x (ix2 r (lane h l))
      = FloatOps.divf (x (ix3 0 (up h r) (lane 0 l))) (x (ix3 0 (up h r) (lane 1 0))) := by
  rw [← den_at x (up h r)]
  pointwise [k0_pay24, k0_pay12, k0_pay22]
  fin_cases h
  · simp only [Fin.zero_eta, pick_lane0]
    refine congrArg₂ (fun i j => FloatOps.divf (x i) (k0_pay23 x j)) ?_ ?_
    · congr 1; exact Fin.ext (by simp [up])
    · congr 1; exact Fin.ext (by simp [up])
  · simp only [Fin.mk_one, pick_lane1]
    refine congrArg₂ (fun i j => FloatOps.divf (x i) (k0_pay23 x j)) ?_ ?_
    · congr 1 <;> refine Fin.ext ?_ <;> simp [up, lane] <;> omega
    · congr 1 <;> refine Fin.ext ?_ <;> simp [up, lane] <;> omega

theorem log_at (x : FVec Ideal S1x512x128 .f32) (y : FVec Ideal S1x512x1 .f32) (h : Fin 2) (r : Fin 256) (l : Fin 64) :
    k0_pay25 (F := Ideal) k0_pay12 x y (ix2 r (lane h l))
      = y (ix3 0 (up h r) 0) + FloatOps.log (x (ix3 0 (up h r) (lane 1 0))) := by
  rw [← den_at x (up h r)]
  pointwise [k0_pay25, k0_pay12]
  fin_cases h
  · simp only [Fin.zero_eta, pick_lane0]
    simp only [show ∀ h : (r : ℕ) < 512, (⟨r, h⟩ : Fin 512) = up 0 r from fun h => Fin.ext (by simp [up])]
  · simp only [Fin.mk_one, pick_lane1]
    simp only [show ∀ h : 256 + (r : ℕ) < 512, (⟨256 + r, h⟩ : Fin 512) = up 1 r from fun h => Fin.ext (by simp [up])]

/-- The second pair is treated as the first. -/
theorem second_query : k0_pay14 (F := Ideal) = k0_pay13 := rfl
theorem second_out : k0_pay3 (F := Ideal) = k0_pay24 := rfl
theorem second_log : k0_pay4 (F := Ideal) = k0_pay25 := rfl

end Cert.AttnFIdeal.Stack

end
-- ==== Proof.AttnF.Blocks.lean ====
/- What a grid point of the forward attention leaves in its two windows, as functions of the blocks it reads. -/
module

public import proofs.«01_k».proof.Proof.AttnF.Pass
public import proofs.«01_k».proof.Proof.AttnF.Stack
public import proofs.«01_k».proof.Proof.Attn.Blocks

@[expose] public section

set_option maxRecDepth 16384

noncomputable section

open Idealize.ShloMosaic Idealize.ShloMosaic.TcCoe Idealize.SL.Sem

namespace Cert.AttnFIdeal.Blocks

open Cert.AttnFIdeal Cert.AttnFIdeal.Gen Cert.AttnFIdeal.Trip Cert.AttnFIdeal.Stack
open Cert.AttnIdeal.Blocks (half half_zero half_one out_high)
open Cert.AttnIdeal.Stack (up lane)

theorem trips : Scf.trips (0#32) (Scalar.addi 0#32 2#32) 1#32 = 2 := by decide
theorem zero3 : (![0, 0, 0] : Fin 3 → ℕ) = fun _ => 0 := by funext a; fin_cases a <;> rfl

/-- Two pieces side by side, read in either half. -/
theorem side_by_side {e : EltTy} (b : Memref sig .tc .vmem S256x256 e) (h0 h1) (x y : Vec Ideal S256x128 e) (p : Fin 2) (r : Fin 256) (l : Fin 128)
    (hb) : View.canon (Val := Elt Ideal) (e := e) [⟨Rect.unit (s := S256x256) ![0, 128] ![256, 128] h1, y⟩,
      ⟨Rect.unit (s := S256x256) ![0, 0] ![256, 128] h0, x⟩] (ix2 r ⟨p * 128 + l, hb⟩) = if p = 0 then x (ix2 r l) else y (ix2 r l) := by
  obtain rfl | rfl : p = 0 ∨ p = 1 := by omega
  · rw [if_pos rfl]
    refine (View.canon_cons_of_not_mem (Val := Elt Ideal) (e := e) ⟨Rect.unit (s := S256x256) ![0, 128] ![256, 128] h1, y⟩ _ (out_high h1 r l hb)).trans ?_
    rw [← View.read_writes_junk_apply_eq_canon b.view]
    refine View.read_writes_cons_unit_of_mem (Val := Elt Ideal) b.view b.view.junk h0 x [] (ix2 r ⟨0 * 128 + l, hb⟩) (ix2 r l) rfl (Fin.forall_fin_two.mpr ⟨?_, ?_⟩)
    · show (r : ℕ) = 0 + r; omega
    · show 0 * 128 + (l : ℕ) = 0 + l; omega
  · rw [if_neg (by decide), ← View.read_writes_junk_apply_eq_canon b.view]
    exact View.read_writes_cons_unit_of_mem b.view b.view.junk h1 y _ (ix2 r ⟨1 * 128 + l, hb⟩) (ix2 r l) rfl fun a => by fin_cases a <;> simp

/-- Both pairs' queries, stacked. -/
def queries (q : FVec Ideal S256x256 .bf16) : FVec Ideal S2x512x128 .bf16 :=
  View.canon (Val := Elt Ideal) (e := .bf16) [⟨sum1, k0_pay13 (F := Ideal) (half 1 q)⟩, ⟨sum0, k0_pay13 (F := Ideal) (half 0 q)⟩]

theorem queries_at (q : FVec Ideal S256x256 .bf16) (p : Fin 2) (r : Fin 512) (l : Fin 128) :
    queries q (ix3 p r l) = k0_pay13 (F := Ideal) (half p q) (ix3 0 r l) := by
  unfold queries
  rw [← View.read_writes_junk_eq_canon (scM0_0).view]
  refine (read_halves scM0_0 _ _ _ _ _ [] p r l).trans ?_
  obtain rfl | rfl : p = 0 ∨ p = 1 := by omega
  · exact if_pos rfl
  · exact if_neg (by decide)

/-- The number the largest score starts from. -/
def start : Ideal .f32 := Ideal.ofBits .f32 0xF149F2CA#32

section finals

variable (g : Given)

/-- What the largest scores and the sums hold before the first block and after both. -/
abbrev top_ : BufTy.Contents (Elt Ideal) (scM0_1).view.ty :=
  (scM0_1).view.writes (Elt Ideal) (scM0_1).view.junk [⟨Rect.unit (s := S2x512x1) ![0, 0, 0] ![2, 512, 1] inb_S2x512x1_S2x512x1_0_0_0, k0_pay15 (F := Ideal)⟩]
abbrev sum_ : BufTy.Contents (Elt Ideal) (scM0_2).view.ty :=
  (scM0_2).view.writes (Elt Ideal) (scM0_2).view.junk [⟨Rect.unit (s := S2x512x128) ![0, 0, 0] ![2, 512, 128] inb_S2x512x128_S2x512x128_0_0_0, k0_pay16 (F := Ideal)⟩]
abbrev tops_ (k : ℕ) : FVec Ideal S2x512x1 .f32 := tops g scM0_1 scM0_2 top_ sum_ k
abbrev sums_ (k : ℕ) : FVec Ideal S2x512x128 .f32 := sums g scM0_1 scM0_2 top_ sum_ k

theorem top_zero (p : Fin 2) (r : Fin 512) : tops_ g 0 (ix3 p r 0) = start := by
  show (scM0_1).view.read (Elt Ideal) top_ (ix3 p r 0) = _
  rw [View.read_writes_junk_eq_canon, View.canon_cons_unit_zero (S := S2x512x1) zero3]
  unfold start
  pointwise [k0_pay15]

theorem sum_zero (p : Fin 2) (r : Fin 512) (l : Fin 128) : sums_ g 0 (ix3 p r l) = 0 := by
  show (scM0_2).view.read (Elt Ideal) sum_ (ix3 p r l) = _
  rw [View.read_writes_junk_eq_canon, View.canon_cons_unit_zero (S := S2x512x128) zero3]
  pointwise [k0_pay16]

theorem top_one (p : Fin 2) (r : Fin 512) : tops_ g 1 (ix3 p r 0) = topAt g 0 p r start :=
  (tops_succ g scM0_1 scM0_2 top_ sum_ ⟨0, by decide⟩ p r).trans (congrArg (topAt g 0 p r) (top_zero g p r))

theorem top_final (p : Fin 2) (r : Fin 512) : tops_ g 2 (ix3 p r 0) = topAt g 1 p r (topAt g 0 p r start) :=
  (tops_succ g scM0_1 scM0_2 top_ sum_ ⟨1, by decide⟩ p r).trans (congrArg (topAt g 1 p r) (top_one g p r))

theorem sum_one (p : Fin 2) (r : Fin 512) (l : Fin 128) : sums_ g 1 (ix3 p r l) = sumAt g 0 p r l start 0 :=
  (sums_succ g scM0_1 scM0_2 top_ sum_ ⟨0, by decide⟩ p r l).trans (congrArg₂ (sumAt g 0 p r l) (top_zero g p r) (sum_zero g p r l))

theorem sum_final (p : Fin 2) (r : Fin 512) (l : Fin 128) :
    sums_ g 2 (ix3 p r l) = sumAt g 1 p r l (topAt g 0 p r start) (sumAt g 0 p r l start 0) :=
  (sums_succ g scM0_1 scM0_2 top_ sum_ ⟨1, by decide⟩ p r l).trans (congrArg₂ (sumAt g 1 p r l) (top_one g p r) (sum_one g p r l))

/-- A pair's half of them, as loaded after the loop. -/
def topHalf (p : Fin 2) : FVec Ideal S1x512x1 .f32 := fun y => tops_ g 2 (ix3 p (y 1) (y 2))
def sumHalf (p : Fin 2) : FVec Ideal S1x512x128 .f32 := fun y => sums_ g 2 (ix3 p (y 1) (y 2))

theorem split3 {n : ℕ} (y : Shape.Idx ⟨3, ![1, 512, n]⟩) : ∃ (r : Fin 512) (l : Fin n), y = ix3 0 r l :=
  ⟨y 1, y 2, (eq_ix3 y).trans (congrArg (fun z : Fin 1 => ix3 z (y 1) (y 2)) (Subsingleton.elim _ _))⟩

theorem load_top0 : (View.whole cc0_scratch1).readCov ((lists g scM0_1 scM0_2 top_ sum_ 2).1 ++
    [⟨Rect.unit (s := S2x512x1) ![0, 0, 0] ![2, 512, 1] inb_S2x512x1_S2x512x1_0_0_0, k0_pay15 (F := Ideal)⟩]) top0.toLoadRect = topHalf g 0 := by
  rw [View.readCov_eq_canon', ← View.read_writes_junk_eq_canon (scM0_1).view, View.writes_append]
  funext y
  obtain ⟨r, l, rfl⟩ := split3 y
  refine congrArg (tops_ g 2) (funext fun j => Fin.ext ?_)
  fin_cases j <;> simp [LoadRect.idx, Rect.unit, ix3]

theorem load_top1 : (View.whole cc0_scratch1).readCov ((lists g scM0_1 scM0_2 top_ sum_ 2).1 ++
    [⟨Rect.unit (s := S2x512x1) ![0, 0, 0] ![2, 512, 1] inb_S2x512x1_S2x512x1_0_0_0, k0_pay15 (F := Ideal)⟩]) top1.toLoadRect = topHalf g 1 := by
  rw [View.readCov_eq_canon', ← View.read_writes_junk_eq_canon (scM0_1).view, View.writes_append]
  funext y
  obtain ⟨r, l, rfl⟩ := split3 y
  refine congrArg (tops_ g 2) (funext fun j => Fin.ext ?_)
  fin_cases j <;> simp [LoadRect.idx, Rect.unit, ix3]

theorem load_sum0 : (View.whole cc0_scratch2).readCov ((lists g scM0_1 scM0_2 top_ sum_ 2).2 ++
    [⟨Rect.unit (s := S2x512x128) ![0, 0, 0] ![2, 512, 128] inb_S2x512x128_S2x512x128_0_0_0, k0_pay16 (F := Ideal)⟩]) sum0.toLoadRect = sumHalf g 0 := by
  rw [View.readCov_eq_canon', ← View.read_writes_junk_eq_canon (scM0_2).view, View.writes_append]
  funext y
  obtain ⟨r, l, rfl⟩ := split3 y
  refine congrArg (sums_ g 2) (funext fun j => Fin.ext ?_)
  fin_cases j <;> simp [LoadRect.idx, Rect.unit, ix3]

theorem load_sum1 : (View.whole cc0_scratch2).readCov ((lists g scM0_1 scM0_2 top_ sum_ 2).2 ++
    [⟨Rect.unit (s := S2x512x128) ![0, 0, 0] ![2, 512, 128] inb_S2x512x128_S2x512x128_0_0_0, k0_pay16 (F := Ideal)⟩]) sum1.toLoadRect = sumHalf g 1 := by
  rw [View.readCov_eq_canon', ← View.read_writes_junk_eq_canon (scM0_2).view, View.writes_append]
  funext y
  obtain ⟨r, l, rfl⟩ := split3 y
  refine congrArg (sums_ g 2) (funext fun j => Fin.ext ?_)
  fin_cases j <;> simp [LoadRect.idx, Rect.unit, ix3]

end finals

variable (m : (ℓ : Loc nD τ sig) → Buf (Elt Ideal) ℓ) (c : Dev nD) (t : Fin cfg0.N)

/-- What the loop reads at grid point `t`. -/
def at_ : Given := ⟨iblk m c 1 t, iblk m c 2 t, queries (iblk m c 0 t)⟩

theorem query_eq : (at_ m c t).query = queries (iblk m c 0 t) := by dsimp only [at_]

theorem out_block (p h : Fin 2) (r : Fin 256) (l : Fin 64) (hb) : (outsAt0 m c t).1 (ix2 r ⟨p * 128 + lane h l, hb⟩)
    = FloatOps.divf (sums_ (at_ m c t) 2 (ix3 p (up h r) (lane 0 l))) (sums_ (at_ m c t) 2 (ix3 p (up h r) (lane 1 0))) := by
  unfold outsAt0; frame_out
  simp only [pass1, trips]
  refine (side_by_side (ms0_3 t) _ _ _ _ p r (lane h l) hb).trans ?_
  simp only [View.read_writes_junk_eq_canon, Memref.IsWhole.read_unread, half_zero, half_one, second_query, second_out]
  obtain rfl | rfl : p = 0 ∨ p = 1 := by omega
  · rw [if_pos rfl]
    exact (congrArg (fun x => k0_pay24 (F := Ideal) k0_pay12 x (ix2 r (lane h l))) (load_sum0 (at_ m c t))).trans (out_at _ h r l)
  · rw [if_neg (by decide)]
    exact (congrArg (fun x => k0_pay24 (F := Ideal) k0_pay12 x (ix2 r (lane h l))) (load_sum1 (at_ m c t))).trans (out_at _ h r l)

theorem log_block (p h : Fin 2) (r : Fin 256) (l : Fin 64) (hb) : (outsAt0 m c t).2 (ix2 r ⟨p * 128 + lane h l, hb⟩)
    = tops_ (at_ m c t) 2 (ix3 p (up h r) 0) + FloatOps.log (sums_ (at_ m c t) 2 (ix3 p (up h r) (lane 1 0))) := by
  unfold outsAt0; frame_out
  simp only [pass1, trips]
  refine (side_by_side (ms0_4 t) _ _ _ _ p r (lane h l) hb).trans ?_
  simp only [View.read_writes_junk_eq_canon, Memref.IsWhole.read_unread, half_zero, half_one, second_query, second_log]
  obtain rfl | rfl : p = 0 ∨ p = 1 := by omega
  · rw [if_pos rfl]
    exact (congrArg₂ (fun x y => k0_pay25 (F := Ideal) k0_pay12 x y (ix2 r (lane h l))) (load_sum0 (at_ m c t)) (load_top0 (at_ m c t))).trans (log_at _ _ h r l)
  · rw [if_neg (by decide)]
    exact (congrArg₂ (fun x y => k0_pay25 (F := Ideal) k0_pay12 x y (ix2 r (lane h l))) (load_sum1 (at_ m c t)) (load_top1 (at_ m c t))).trans (log_at _ _ h r l)

end Cert.AttnFIdeal.Blocks

end
-- ==== Proof.AttnF.Running.lean ====
/- The forward attention's running largest score and running sums over real scores: after both blocks of keys a sum is that of
all keys, whatever the number subtracted from the scores, and quotient and log denominator do not depend on that number. -/
module

public import proofs.«01_k».proof.Proof.AttnF.Pass
public import proofs.«01_k».proof.Proof.Attn.Reals

@[expose] public section

set_option maxRecDepth 16384

noncomputable section

open Idealize.ShloMosaic

namespace Cert.AttnF.Running

open Cert.AttnFIdeal.Trip (Given score topAt sumAt keyRow)
open Cert.Attn.Reals (sum_coe largest largest_eq ex den wt den_pos)

/-- The largest score after block `k`, `M` before it. -/
def topR (f : Fin 8192 → ℝ) (k : Fin 2) (M : ℝ) : ℝ := max M (largest fun s : Fin 4096 => f (keyRow k s))

/-- After both blocks. -/
def last (f : Fin 8192 → ℝ) (M : ℝ) : ℝ := topR f 1 (topR f 0 M)

/-- A real factor that is not negative is drawn into a sum, whatever the terms. -/
theorem sum_scale {n : ℕ} (r : ℝ) (hr : 0 ≤ r) (f : Fin n → EReal) : (∑ s, f s) * (r : EReal) = ∑ s, f s * (r : EReal) :=
  map_sum (⟨⟨fun x => x * (r : EReal), zero_mul _⟩,
    fun x y => EReal.right_distrib_of_nonneg_of_ne_top (EReal.coe_nonneg.mpr hr) (EReal.coe_ne_top r) x y⟩ : EReal →+ EReal) f Finset.univ

section Steps

variable (g : Given) (p : Fin 2) (r : Fin 512) (f : Fin 8192 → ℝ) (hf : ∀ s, score g p r s = ((f s : ℝ) : EReal))

include hf

theorem top_step (k : Fin 2) (M : ℝ) : topAt g k p r (M : EReal) = ((topR f k M : ℝ) : EReal) := by
  unfold topAt topR
  simp only [hf]
  rw [largest_eq fun s : Fin 4096 => f (keyRow k s)]
  exact (EReal.coe_strictMono.monotone.map_max).symm

theorem sum_step (k : Fin 2) (l : Fin 128) (M : ℝ) (S : EReal) :
    sumAt g k p r l (M : EReal) S = S * (Real.exp (M - topR f k M) : ℝ)
      + ∑ s : Fin 4096, ((Real.exp (f (keyRow k s) - topR f k M) : ℝ) : EReal) * g.val (ix3 0 (keyRow k s) l) := by
  unfold sumAt
  rw [top_step g p r f hf]
  simp only [hf]
  show S * Ideal.exp ((M : EReal) - _) + ∑ s : Fin 4096, Ideal.exp ((f (keyRow k s) : EReal) - _) * _ = _
  simp only [← EReal.coe_sub, Ideal.exp_coe]

theorem top_two (M : ℝ) : topAt g 1 p r (topAt g 0 p r (M : EReal)) = ((last f M : ℝ) : EReal) := by
  rw [top_step g p r f hf, top_step g p r f hf]; rfl

theorem sum_two (l : Fin 128) (M : ℝ) :
    sumAt g 1 p r l (topAt g 0 p r (M : EReal)) (sumAt g 0 p r l (M : EReal) 0)
      = ∑ s, ((Real.exp (f s - last f M) : ℝ) : EReal) * g.val (ix3 0 s l) := by
  rw [top_step g p r f hf, sum_step g p r f hf 0 l M 0, sum_step g p r f hf 1 l]
  rw [Fin.sum_univ_tiles 2 4096 rfl (fun s => ((Real.exp (f s - last f M) : ℝ) : EReal) * g.val (ix3 0 s l)), Fin.sum_univ_two, zero_mul, zero_add,
    sum_scale _ (Real.exp_pos _).le]
  refine congrArg₂ _ (Finset.sum_congr rfl fun s _ => ?_) rfl
  rw [mul_right_comm, ← EReal.coe_mul, ← Real.exp_add, sub_add_sub_cancel]
  rfl

end Steps

variable (f : Fin 8192 → ℝ) (M : ℝ)

/-- Subtracting another number scales every exponential alike. -/
theorem shift (s : Fin 8192) : Real.exp (f s - M) = ex f s * Real.exp (largest f - M) := by
  rw [ex, ← Real.exp_add, sub_add_sub_cancel]

theorem shift_den : ∑ s, Real.exp (f s - M) * 1 = den f * Real.exp (largest f - M) := by
  simp only [shift, mul_one]
  rw [den, Finset.sum_mul]

theorem quotient (v : Fin 8192 → EReal) :
    Ideal.div (∑ s, ((Real.exp (f s - M) : ℝ) : EReal) * v s) ((∑ s, Real.exp (f s - M) * 1 : ℝ) : EReal) = ∑ s, v s * ((wt f s : ℝ) : EReal) := by
  have hd := (den_pos f).ne'
  have he := (Real.exp_pos (largest f - M)).ne'
  rw [shift_den, Ideal.div_coe (mul_ne_zero hd he), sum_scale _ (one_div_nonneg.mpr (mul_pos (den_pos f) (Real.exp_pos _)).le)]
  refine Finset.sum_congr rfl fun s _ => ?_
  rw [mul_comm _ (v s), mul_assoc, ← EReal.coe_mul]
  refine congrArg (fun z : ℝ => v s * (z : EReal)) ?_
  rw [shift, wt]
  field_simp

theorem log_den : (M : EReal) + Ideal.log ((∑ s, Real.exp (f s - M) * 1 : ℝ) : EReal)
    = (largest f : EReal) + Ideal.log ((den f : ℝ) : EReal) := by
  have hd := den_pos f
  have he := Real.exp_pos (largest f - M)
  rw [shift_den, Ideal.log_coe, Ideal.log_coe, if_neg (not_le.mpr (mul_pos hd he)), if_neg (not_le.mpr hd), ← EReal.coe_add, ← EReal.coe_add]
  refine congrArg _ ?_
  rw [Real.log_mul hd.ne' he.ne', Real.log_exp]
  ring

end Cert.AttnF.Running

end
-- ==== Proof.AttnF.Value.lean ====
/- What the forward attention's call leaves in its two arrays, where queries and keys are reals. -/
module

public import proofs.«01_k».proof.Proof.Gen.AttnFIdeal.Value
public import proofs.«01_k».proof.Proof.AttnF.Blocks
public import proofs.«01_k».proof.Proof.AttnF.Running
public import proofs.«01_k».proof.Proof.Attn.Equal

@[expose] public section

set_option maxRecDepth 16384

noncomputable section

open Idealize.ShloMosaic Idealize.ShloMosaic.TcCoe Idealize.SL.Sem

namespace Cert.AttnFIdeal.Arrays

open Cert.AttnFIdeal Cert.AttnFIdeal.Gen Cert.AttnFIdeal.Trip Cert.AttnFIdeal.Stack Cert.AttnFIdeal.Blocks
open Cert.AttnIdeal.Stack (up lane w8 sum_lanes)
open Cert.AttnIdeal.Blocks (half)
open Cert.AttnIdeal.Arrays (col)
open Cert.AttnRefIdeal.Plain (head)
open Cert.Attn.Reals (sum_coe w8_eq largest den wt)
open Cert.AttnF.Running

/-- The windows' block indices: rows of 256, the heads sharing one pair of keys and values. -/
theorem idx : ∀ t : Fin cfg0.N, win0_0.index t = ![t.val % 32, t.val / 32] ∧ win0_1.index t = ![t.val / 32, 0, 0]
    ∧ win0_2.index t = ![t.val / 32, 0, 0] ∧ win0_3.index t = ![t.val % 32, t.val / 32] ∧ win0_4.index t = ![t.val % 32, t.val / 32] :=
  (by decide +kernel : ∀ t : Fin grid0.N, _)

/-- Row `r` of point `t`'s block, and the keys it reads. -/
def row (t : Fin cfg0.N) (r : Fin 256) : Fin 8192 := ⟨t.val % 32 * 256 + (r : ℕ), by omega⟩
def pair (t : Fin cfg0.N) : Fin 2 := ⟨t.val / 32, by have := lt_of_lt_of_eq t.isLt N_0; omega⟩

theorem q_read (a : FVec Ideal S8192x512 .bf16) (t : Fin cfg0.N) (p h : Fin 2) (r : Fin 256) (l : Fin 64) (hb) :
    View.read (Elt Ideal) ((cfg0.win 0).blk t).view a (ix2 r ⟨p * 128 + lane h l, hb⟩) = a (ix2 (row t r) (col (pair t) p h l)) := by
  unfold row pair col; blk_point [idx t]

theorem k_read (a : FVec Ideal S2x8192x128 .bf16) (t : Fin cfg0.N) (s : Fin 8192) (l : Fin 128) :
    View.read (Elt Ideal) ((cfg0.win 1).blk t).view a (ix3 0 s l) = a (ix3 (pair t) s l) := by
  unfold pair; blk_point [idx t]

theorem v_read (a : FVec Ideal S2x8192x128 .bf16) (t : Fin cfg0.N) (s : Fin 8192) (l : Fin 128) :
    View.read (Elt Ideal) ((cfg0.win 2).blk t).view a (ix3 0 s l) = a (ix3 (pair t) s l) := by
  unfold pair; blk_point [idx t]

variable (m : (ℓ : Loc nD τ sig) → Buf (Elt Ideal) ℓ) (c : Dev nD)

/-- The arrays the call is given. -/
def queryA : FVec Ideal S8192x512 .bf16 := V m c main_v19
def keyA : FVec Ideal S2x8192x128 .bf16 := V m c main_v5
def valA : FVec Ideal S2x8192x128 .bf16 := V m c main_v17

theorem q_iblk (t : Fin cfg0.N) (p h : Fin 2) (r : Fin 256) (l : Fin 64) (hb) :
    iblk m c 0 t (ix2 r ⟨p * 128 + lane h l, hb⟩) = queryA m c (ix2 (row t r) (col (pair t) p h l)) := q_read _ t p h r l hb

theorem k_iblk (t : Fin cfg0.N) (s : Fin 8192) (l : Fin 128) : iblk m c 1 t (ix3 0 s l) = keyA m c (ix3 (pair t) s l) := k_read _ t s l

theorem v_iblk (t : Fin cfg0.N) (s : Fin 8192) (l : Fin 128) : iblk m c 2 t (ix3 0 s l) = valA m c (ix3 (pair t) s l) := v_read _ t s l

theorem query_at (t : Fin cfg0.N) (p h : Fin 2) (r : Fin 256) (l : Fin 64) :
    (at_ m c t).query (ix3 p (up h r) (lane 0 l)) = queryA m c (ix2 (row t r) (col (pair t) p h l)) * w8 := by
  rw [query_eq, queries_at, query_low]
  refine congrArg (fun z : EReal => z * w8) ?_
  exact q_iblk m c t p h r l (by omega)

theorem query_none (t : Fin cfg0.N) (p : Fin 2) (r : Fin 512) (l : Fin 64) : (at_ m c t).query (ix3 p r (lane 1 l)) = 0 := by
  rw [query_eq, queries_at, query_high]

theorem key_at (t : Fin cfg0.N) (s : Fin 8192) (l : Fin 128) : (at_ m c t).key (ix3 0 s l) = keyA m c (ix3 (pair t) s l) := k_iblk m c t s l

theorem val_at (t : Fin cfg0.N) (s : Fin 8192) (l : Fin 128) : (at_ m c t).val (ix3 0 s l) = valA m c (ix3 (pair t) s l) := v_iblk m c t s l

theorem start_real : start = ((-(13234890 * 2 ^ 76) : ℝ) : EReal) := by
  simp [start, Ideal.ofBits, Ideal.ieee, -EReal.coe_mul]

/-- Queries and keys hold these reals, the values anything; behind a value head stands a one. -/
structure Given (q : Fin 8192 → Fin 8 → Fin 64 → ℝ) (k : Fin 8192 → Fin 2 → Fin 64 → ℝ) (v : Fin 8192 → Fin 2 → Fin 64 → EReal) : Prop where
  hq : ∀ R a p h l, queryA m c (ix2 R (col a p h l)) = ((q R (head a p h) l : ℝ) : EReal)
  hk : ∀ a s l, keyA m c (ix3 a s (lane 0 l)) = ((k s a l : ℝ) : EReal)
  hv : ∀ a s l, valA m c (ix3 a s (lane 0 l)) = v s a l
  hone : ∀ a s, valA m c (ix3 a s (lane 1 0)) = ((1 : ℝ) : EReal)

section

variable {m c} {q : Fin 8192 → Fin 8 → Fin 64 → ℝ} {k : Fin 8192 → Fin 2 → Fin 64 → ℝ} {v : Fin 8192 → Fin 2 → Fin 64 → EReal} (G : Given m c q k v)

include G

theorem score_at (t : Fin cfg0.N) (p h : Fin 2) (r : Fin 256) (s : Fin 8192) :
    Trip.score (at_ m c t) p (up h r) s = ((Cert.Attn.Equal.score q k (pair t) p h (row t r) s : ℝ) : EReal) := by
  unfold Trip.score
  rw [sum_lanes]
  simp only [query_at, query_none, key_at, G.hq, G.hk, w8_eq, zero_mul, Finset.sum_const_zero, add_zero, ← EReal.coe_mul, sum_coe]
  refine congrArg _ ?_
  rw [Cert.Attn.Equal.score, Finset.sum_mul]
  exact Finset.sum_congr rfl fun l _ => by ring

theorem top_at (t : Fin cfg0.N) (p h : Fin 2) (r : Fin 256) : tops_ (at_ m c t) 2 (ix3 p (up h r) 0)
    = ((last (Cert.Attn.Equal.score q k (pair t) p h (row t r)) (-(13234890 * 2 ^ 76)) : ℝ) : EReal) := by
  rw [top_final, start_real]
  exact top_two _ p _ _ (score_at G t p h r) _

theorem den_at (t : Fin cfg0.N) (p h : Fin 2) (r : Fin 256) : sums_ (at_ m c t) 2 (ix3 p (up h r) (lane 1 0))
    = ((∑ s, Real.exp (Cert.Attn.Equal.score q k (pair t) p h (row t r) s
        - last (Cert.Attn.Equal.score q k (pair t) p h (row t r)) (-(13234890 * 2 ^ 76))) * 1 : ℝ) : EReal) := by
  rw [sum_final, start_real]
  refine (sum_two _ p _ _ (score_at G t p h r) _ _).trans ?_
  simp only [val_at, G.hone, ← EReal.coe_mul, sum_coe]

theorem num_at (t : Fin cfg0.N) (p h : Fin 2) (r : Fin 256) (l : Fin 64) : sums_ (at_ m c t) 2 (ix3 p (up h r) (lane 0 l))
    = ∑ s, ((Real.exp (Cert.Attn.Equal.score q k (pair t) p h (row t r) s
        - last (Cert.Attn.Equal.score q k (pair t) p h (row t r)) (-(13234890 * 2 ^ 76))) : ℝ) : EReal) * v s (pair t) l := by
  rw [sum_final, start_real]
  refine (sum_two _ p _ _ (score_at G t p h r) _ _).trans ?_
  simp only [val_at, G.hv]

/-- The first array: every row's values weighed. -/
theorem final_out (T : FVec Ideal S8192x512 .bf16) (hT : ∀ R a p h l, T (ix2 R (col a p h l))
    = ∑ s, v s a l * ((wt (Cert.Attn.Equal.score q k a p h R) s : ℝ) : EReal)) : (dats m 0 c).arrAt 3 (cfgs 0).N = T := by
  refine (dats m 0 c).arrAt_eq_of_covers 3 _ (by decide +kernel) fun t hf y => ?_
  blk_simp
  rw [after0_3]
  obtain ⟨r, C, rfl⟩ : ∃ (r : Fin 256) (C : Fin 256), y = ix2 r C := ⟨y 0, y 1, eq_ix2 y⟩
  obtain ⟨p, h, l, rfl⟩ : ∃ (p h : Fin 2) (l : Fin 64), C = ⟨p * 128 + lane h l, by omega⟩ :=
    ⟨⟨C.val / 128, by omega⟩, ⟨C.val % 128 / 64, by omega⟩, ⟨C.val % 64, by omega⟩, Fin.ext (by simp only [lane]; omega)⟩
  refine (out_block m c t p h r l _).trans ?_
  rw [num_at G, den_at G]
  refine (quotient _ _ _).trans ((hT (row t r) (pair t) p h l).symm.trans (congrArg T ?_))
  unfold row pair col
  blk_point [idx t]

/-- The second: every row's log denominator, over all lanes of its head. -/
theorem final_log (T : FVec Ideal S8192x512 .f32) (hT : ∀ R a p h l, T (ix2 R (col a p h l))
    = ((largest (Cert.Attn.Equal.score q k a p h R) : ℝ) : EReal) + Ideal.log ((den (Cert.Attn.Equal.score q k a p h R) : ℝ) : EReal)) :
    (dats m 0 c).arrAt 4 (cfgs 0).N = T := by
  refine (dats m 0 c).arrAt_eq_of_covers 4 _ (by decide +kernel) fun t hf y => ?_
  blk_simp
  rw [after0_4]
  obtain ⟨r, C, rfl⟩ : ∃ (r : Fin 256) (C : Fin 256), y = ix2 r C := ⟨y 0, y 1, eq_ix2 y⟩
  obtain ⟨p, h, l, rfl⟩ : ∃ (p h : Fin 2) (l : Fin 64), C = ⟨p * 128 + lane h l, by omega⟩ :=
    ⟨⟨C.val / 128, by omega⟩, ⟨C.val % 128 / 64, by omega⟩, ⟨C.val % 64, by omega⟩, Fin.ext (by simp only [lane]; omega)⟩
  refine (log_block m c t p h r l _).trans ?_
  rw [top_at G, den_at G]
  refine (log_den _ _).trans ((hT (row t r) (pair t) p h l).symm.trans (congrArg T ?_))
  unfold row pair col
  blk_point [idx t]

end

end Cert.AttnFIdeal.Arrays

end
-- ==== Proof.AttnF.Ref.lean ====
/- The forward attention: over finite queries and keys the call and the plain attention leave the same result and log denominators. -/
module

public import proofs.«01_k».proof.Defs
public import proofs.«01_k».proof.Proof.Gen.Pre_attn_finite
public import proofs.«01_k».proof.Proof.Gen.AttnFRefIdeal.Run
public import proofs.«01_k».proof.Proof.AttnF.Value
public import proofs.«01_k».proof.Proof.Attn.Ref
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.AttnFRefIdeal.Pieces

open Cert.AttnFRefIdeal Cert.AttnFRefIdeal.Gen
open Cert.AttnIdeal.Host (mixed logs)
open Cert.AttnRefIdeal.Plain (sc top mx ex den wt)

variable (m' : (ℓ : Loc nD τ sig) → Buf (Elt Ideal) ℓ) (g' : Dev nD → PrngReg) (c : Dev nD)

/-- The reference's arguments, and the exponentials below a row's largest score or its guarded copy. -/
abbrev q : FVec Ideal S8192x8x64 .f32 := m' ((c.tc : Thread nD τ).loc main_arg0)
abbrev k : FVec Ideal S8192x2x64 .f32 := m' ((c.tc : Thread nD τ).loc main_arg1)
abbrev v : FVec Ideal S8192x2x64 .f32 := m' ((c.tc : Thread nD τ).loc main_arg2)
def exM (Q : FVec Ideal S8192x8x64 .f32) (K : FVec Ideal S8192x2x64 .f32) : FVec Ideal S2x4x8192x8192 .f32 := ex (sc Q K) (mx (top (sc Q K)))
def exT (Q : FVec Ideal S8192x8x64 .f32) (K : FVec Ideal S8192x2x64 .f32) : FVec Ideal S2x4x8192x8192 .f32 := ex (sc Q K) (top (sc Q K))

/-- The reference ends with these pieces. -/
theorem run : θ_run (defs (F := Ideal)) (onTc (τ := τ) (main (F := Ideal))) ⟨m', fun _ => 0, g'⟩ fun r => ∀ c : Dev nD,
    r.2.mem ((c.tc : Thread nD τ).loc main_v20) = mixed (v m' c) (wt (exM (q m' c) (k m' c)) (den (exM (q m' c) (k m' c))))
    ∧ r.2.mem ((c.tc : Thread nD τ).loc main_v38) = logs (top (sc (q m' c) (k m' c))) (den (exT (q m' c) (k m' c)))
    ∧ r.2.mem ((c.tc : Thread nD τ).loc main_arg0) = m' ((c.tc : Thread nD τ).loc main_arg0)
    ∧ r.2.mem ((c.tc : Thread nD τ).loc main_arg1) = m' ((c.tc : Thread nD τ).loc main_arg1)
    ∧ r.2.mem ((c.tc : Thread nD τ).loc main_arg2) = m' ((c.tc : Thread nD τ).loc main_arg2) := by
  refine (θ_run _ _ _).mono (fun r h c => ?_) (Cert.AttnFRefIdeal.Value.run m' g')
  obtain ⟨h0, h1, h2⟩ := h c
  refine ⟨h0.trans ?_, h1.trans ?_, h2⟩
  · unfold mixed exM wt den ex mx top sc
    rfl
  · unfold logs exT den ex top sc
    rfl

end Cert.AttnFRefIdeal.Pieces

namespace Cert.AttnFIdeal.Host

open Cert.AttnIdeal.Host (flat stacked joined swapped beside first second ones mixed logs flat_apply keys_apply vals_apply mixed_apply logs_apply)
open Cert.AttnIdeal.Stack (lane)
open Cert.AttnFIdeal.Arrays (queryA keyA valA final_out final_log)
open Cert.Attn.Equal (Holds wt_real top_real den_real)
open Cert.Attn (real_of_finite)

/-- Behind a value head stands a one. -/
theorem one_behind (W : FVec Ideal Cert.AttnIdeal.S8192x2x64 .f32) (a : Fin 2) (s : Fin 8192) :
    stacked (beside (first W)) (beside (second W)) (ix3 a s (lane 1 0)) = ((1 : ℝ) : EReal) := by
  obtain rfl | rfl : a = 0 ∨ a = 1 := by omega
  · unfold lane
    pointwise [stacked, beside, ones]
    exact EReal.coe_one.symm
  · unfold lane
    pointwise [stacked, beside, ones]
    exact EReal.coe_one.symm

section Finite

variable (x0 : FVec Ideal Cert.Pre_attn_finite.S8192x8x64 .f32) (x1 x2 : FVec Ideal Cert.Pre_attn_finite.S8192x2x64 .f32)
  (H : Cert.Pre_attn_finite.fn (F := Ideal) x0 x1 x2 = fun _ => 1#1)

include H

/-- The precondition read at one place: queries and keys hold reals. -/
theorem real_q (R : Fin 8192) (a : Fin 8) (l : Fin 64) : x0 (ix3 R a l) = (((x0 (ix3 R a l)).toReal : ℝ) : EReal) := by
  refine real_of_finite _ (Eq.trans ?_ (congrFun H (ix3 R ⟨a, by omega⟩ l)))
  pointwise [Cert.Pre_attn_finite.fn]

theorem real_k (R : Fin 8192) (a : Fin 2) (l : Fin 64) : x1 (ix3 R a l) = (((x1 (ix3 R a l)).toReal : ℝ) : EReal) := by
  refine real_of_finite _ (Eq.trans ?_ (congrFun H (ix3 R ⟨8 + a, by omega⟩ l)))
  pointwise [Cert.Pre_attn_finite.fn]

end Finite

section Given

open Cert.AttnFIdeal Cert.AttnFIdeal.Gen

variable (m : (ℓ : Loc nD τ sig) → Buf (Elt Ideal) ℓ) (c : Dev nD)

/-- The call's arguments, and the reals queries and keys hold. -/
abbrev Q : FVec Ideal S8192x8x64 .f32 := m ((c.tc : Thread nD τ).loc main_arg0)
abbrev K : FVec Ideal S8192x2x64 .f32 := m ((c.tc : Thread nD τ).loc main_arg1)
abbrev W : FVec Ideal S8192x2x64 .f32 := m ((c.tc : Thread nD τ).loc main_arg2)
def qR (R : Fin 8192) (a : Fin 8) (l : Fin 64) : ℝ := (Q m c (ix3 R a l)).toReal
def kR (R : Fin 8192) (a : Fin 2) (l : Fin 64) : ℝ := (K m c (ix3 R a l)).toReal

/-- As the values need not be reals, zeros stand for them. -/
theorem holds (h : Cert.Pre_AttnFIdeal_attn_finite (hPre_attn_finite := Cert.Pre_attn_finite.Gen.facts) m) :
    Holds (qR m c) (qR m c) (kR m c) (fun _ _ _ => 0) (Q m c) (Q m c) (K m c) (fun _ => 0) :=
  letI := Cert.Pre_attn_finite.Gen.facts
  ⟨real_q _ _ _ (h c), real_k _ _ _ (h c), fun _ _ _ => EReal.coe_zero.symm, real_q _ _ _ (h c)⟩

theorem q_eq : queryA m c = truncf (F := Ideal) .bf16 (flat (Q m c)) bitsLt_bf16_f32 := by
  show V m c main_v19 = _
  sl_kernel_rfl
theorem k_eq : keyA m c = stacked (joined (K m c)) (swapped (joined (K m c))) := by
  show V m c main_v5 = _
  sl_kernel_rfl
theorem v_eq : valA m c = stacked (beside (first (W m c))) (beside (second (W m c))) := by
  show V m c main_v17 = _
  sl_kernel_rfl

/-- What the host hands to the call, in these reals. -/
theorem given (H : Holds (qR m c) (qR m c) (kR m c) (fun _ _ _ => 0) (Q m c) (Q m c) (K m c) (fun _ => 0)) :
    Cert.AttnFIdeal.Arrays.Given m c (qR m c) (kR m c) (fun s a l => W m c (ix3 s a l)) where
  hq R a p h l := by
    rw [q_eq]
    exact (flat_apply _ R a p h l).trans (H.hQ _ _ _)
  hk a s l := by
    rw [k_eq]
    exact (keys_apply _ a s l).trans (H.hK _ _ _)
  hv a s l := by
    rw [v_eq]
    exact vals_apply _ a s l
  hone a s := by
    rw [v_eq]
    exact one_behind _ a s

open Cert.AttnFRefIdeal.Pieces (exM exT)
open Cert.AttnRefIdeal.Plain (sc top den wt)

theorem out_eq (H : Holds (qR m c) (qR m c) (kR m c) (fun _ _ _ => 0) (Q m c) (Q m c) (K m c) (fun _ => 0)) :
    mixed (W m c) (wt (exM (Q m c) (K m c)) (den (exM (Q m c) (K m c)))) = (dats m 0 c).arrAt 3 (cfgs 0).N := by
  refine (final_out (given m c H) _ fun R a p h l => ?_).symm
  refine (mixed_apply _ _ R a p h l).trans ?_
  unfold exM
  simp only [wt_real H]

theorem log_eq (H : Holds (qR m c) (qR m c) (kR m c) (fun _ _ _ => 0) (Q m c) (Q m c) (K m c) (fun _ => 0)) :
    logs (top (sc (Q m c) (K m c))) (den (exT (Q m c) (K m c))) = (dats m 0 c).arrAt 4 (cfgs 0).N := by
  refine (final_log (given m c H) _ fun R a p h l => ?_).symm
  refine (logs_apply _ _ R a p h l).trans ?_
  unfold exT
  rw [top_real H, den_real H a p h R _ (top_real H a p h R)]
  rfl

end Given

end Cert.AttnFIdeal.Host

namespace Cert.AttnF

open Cert.AttnFIdeal.Host (holds out_eq log_eq)

/-- The reference launches no kernel: it runs to its end with its arguments unchanged and every counter at zero. -/
theorem frame_ref : Cert.quiescent_AttnFRefIdeal (hAttnFRefIdeal := Cert.AttnFRefIdeal.Gen.facts) := by
  intro m g _
  refine (θ_run _ _ _).mono (fun r h => ?_) (Cert.AttnFRefIdeal.Value.run m g)
  exact ⟨fun c => (h c).2.2, sem_eq_zero_of_no_sems (sig := Cert.AttnFRefIdeal.sig) (by decide) _⟩

/-- From memories that agree and hold finite queries and keys, both programs end with the same two arrays. -/
theorem algebraic : Cert.algebraic_AttnFIdeal_AttnFRefIdeal_pre_attn_finite (hAttnFIdeal := Cert.AttnFIdeal.Gen.facts)
    (hAttnFRefIdeal := Cert.AttnFRefIdeal.Gen.facts) (hPre_attn_finite := Cert.Pre_attn_finite.Gen.facts) := by
  pair_intro
  · run_from Cert.AttnFIdeal.Value.run_blocks m g
  · refine θ_run_mono (Cert.AttnFRefIdeal.Pieces.run m' g') fun r hr c => ?_
    obtain ⟨ho, hl, ha⟩ := hr c
    obtain ⟨e0, e1, e2⟩ := hagree c
    refine ⟨ho.trans ?_, hl.trans ?_, ha⟩
    · unfold Cert.AttnFRefIdeal.Pieces.q Cert.AttnFRefIdeal.Pieces.k Cert.AttnFRefIdeal.Pieces.v
      rw [e0, e1, e2]
      exact out_eq m c (holds m c hpre)
    · unfold Cert.AttnFRefIdeal.Pieces.q Cert.AttnFRefIdeal.Pieces.k
      rw [e0, e1]
      exact log_eq m c (holds m c hpre)

end Cert.AttnF

end
-- ==== Proof.lean ====
/- Every claim of the certificate, put together from the modules of the single pairs. -/
module

public import proofs.«01_k».proof.Defs
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.PoolA
public import proofs.«01_k».proof.Proof.Gen.PoolA.Skeleton
public import proofs.«01_k».proof.Proof.Gen.PoolA.Launch
public import proofs.«01_k».proof.Proof.Gen.PoolA.Points
public import proofs.«01_k».proof.Proof.Gen.PoolA.Frame
public import proofs.«01_k».proof.Proof.Gen.PoolAIdeal
public import proofs.«01_k».proof.Proof.Gen.PoolAIdeal.Skeleton
public import proofs.«01_k».proof.Proof.Gen.PoolAIdeal.Launch
public import proofs.«01_k».proof.Proof.Gen.PoolAIdeal.Points
public import proofs.«01_k».proof.Proof.Gen.PoolAIdeal.Frame
public import proofs.«01_k».proof.Proof.Gen.PoolAIdeal.Value
public import proofs.«01_k».proof.Proof.Gen.PoolARefIdeal
public import proofs.«01_k».proof.Proof.Gen.PoolARefIdeal.Run
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.PoolB
public import proofs.«01_k».proof.Proof.Gen.PoolB.Skeleton
public import proofs.«01_k».proof.Proof.Gen.PoolB.Launch
public import proofs.«01_k».proof.Proof.Gen.PoolB.Points
public import proofs.«01_k».proof.Proof.Gen.PoolB.Frame
public import proofs.«01_k».proof.Proof.Gen.PoolBIdeal
public import proofs.«01_k».proof.Proof.Gen.PoolBIdeal.Skeleton
public import proofs.«01_k».proof.Proof.Gen.PoolBIdeal.Launch
public import proofs.«01_k».proof.Proof.Gen.PoolBIdeal.Points
public import proofs.«01_k».proof.Proof.Gen.PoolBIdeal.Frame
public import proofs.«01_k».proof.Proof.Gen.PoolBIdeal.Value
public import proofs.«01_k».proof.Proof.Gen.PoolBRefIdeal
public import proofs.«01_k».proof.Proof.Gen.PoolBRefIdeal.Run
public import proofs.«01_k».proof.Proof.Gen.NormIn
public import proofs.«01_k».proof.Proof.Gen.NormIn.Skeleton
public import proofs.«01_k».proof.Proof.Gen.NormIn.Launch
public import proofs.«01_k».proof.Proof.Gen.NormIn.Points
public import proofs.«01_k».proof.Proof.Gen.NormIn.Frame
public import proofs.«01_k».proof.Proof.Gen.NormInIdeal
public import proofs.«01_k».proof.Proof.Gen.NormInIdeal.Skeleton
public import proofs.«01_k».proof.Proof.Gen.NormInIdeal.Launch
public import proofs.«01_k».proof.Proof.Gen.NormInIdeal.Points
public import proofs.«01_k».proof.Proof.Gen.NormInIdeal.Frame
public import proofs.«01_k».proof.Proof.Gen.NormInIdeal.Value
public import proofs.«01_k».proof.Proof.Gen.NormInRefIdeal
public import proofs.«01_k».proof.Proof.Gen.NormInRefIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeRefIdeal
public import proofs.«01_k».proof.Proof.Gen.RopeRefIdeal.Run
public import proofs.«01_k».proof.Proof.Gen.AttnF
public import proofs.«01_k».proof.Proof.Gen.AttnF.Skeleton
public import proofs.«01_k».proof.Proof.Gen.AttnF.Launch
public import proofs.«01_k».proof.Proof.Gen.AttnF.Points
public import proofs.«01_k».proof.Proof.Gen.AttnF.Frame
public import proofs.«01_k».proof.Proof.Gen.AttnFIdeal
public import proofs.«01_k».proof.Proof.Gen.AttnFIdeal.Skeleton
public import proofs.«01_k».proof.Proof.Gen.AttnFIdeal.Launch
public import proofs.«01_k».proof.Proof.Gen.AttnFIdeal.Points
public import proofs.«01_k».proof.Proof.Gen.AttnFIdeal.Frame
public import proofs.«01_k».proof.Proof.Gen.AttnFIdeal.Value
public import proofs.«01_k».proof.Proof.Gen.AttnFRefIdeal
public import proofs.«01_k».proof.Proof.Gen.AttnFRefIdeal.Run
public import proofs.«01_k».proof.Proof.Gen.Pre_all_finite
public import proofs.«01_k».proof.Proof.Gen.Pre_pool_finite
public import proofs.«01_k».proof.Proof.Gen.Pre_ffn_finite
public import proofs.«01_k».proof.Proof.Gen.Pre_attn_finite
public import proofs.«01_k».proof.Proof.Loss.Ref
public import proofs.«01_k».proof.Proof.Mix.Ref
public import proofs.«01_k».proof.Proof.PoolA.Ref
public import proofs.«01_k».proof.Proof.Attn.Ref
public import proofs.«01_k».proof.Proof.PoolB.Ref
public import proofs.«01_k».proof.Proof.NormIn.Ref
public import proofs.«01_k».proof.Proof.Ffn.Ref
public import proofs.«01_k».proof.Proof.Norm.Ref
public import proofs.«01_k».proof.Proof.AttnF.Ref
public import Idealize.ShloMosaic.Lib.Quiescent
public import Idealize.ShloMosaic.Init

@[expose] public section

noncomputable section

namespace Cert.Proof

open Idealize.ShloMosaic Idealize.ShloMosaic.TcCoe Idealize.SL.Sem

/-- The reference of `Rope` ends with its arguments as they were and every counter at zero. -/
theorem frame_RopeRef : Cert.quiescent_RopeRefIdeal (hRopeRefIdeal := Cert.RopeRefIdeal.Gen.facts) := by
  intro m g _
  refine (θ_run _ _ _).mono (fun r h => ?_) (Cert.RopeRefIdeal.Value.run m g)
  exact ⟨fun c => (h c).2.2, sem_eq_zero_of_no_sems (sig := Cert.RopeRefIdeal.sig) (by decide) _⟩

theorem claim : Cert.Claim := ⟨Cert.Loss.Gen.facts, Cert.LossIdeal.Gen.facts, Cert.LossRefIdeal.Gen.facts, Cert.Mix.Gen.facts, Cert.MixIdeal.Gen.facts, Cert.MixRefIdeal.Gen.facts, Cert.PoolA.Gen.facts, Cert.PoolAIdeal.Gen.facts, Cert.PoolARefIdeal.Gen.facts, Cert.Attn.Gen.facts, Cert.AttnIdeal.Gen.facts, Cert.AttnRefIdeal.Gen.facts, Cert.PoolB.Gen.facts, Cert.PoolBIdeal.Gen.facts, Cert.PoolBRefIdeal.Gen.facts, Cert.NormIn.Gen.facts, Cert.NormInIdeal.Gen.facts, Cert.NormInRefIdeal.Gen.facts, Cert.Ffn.Gen.facts, Cert.FfnIdeal.Gen.facts, Cert.FfnRefIdeal.Gen.facts, Cert.Norm.Gen.facts, Cert.NormIdeal.Gen.facts, Cert.NormRefIdeal.Gen.facts, Cert.Rope.Gen.facts, Cert.RopeIdeal.Gen.facts, Cert.RopeRefIdeal.Gen.facts, Cert.AttnF.Gen.facts, Cert.AttnFIdeal.Gen.facts, Cert.AttnFRefIdeal.Gen.facts, Cert.Pre_all_finite.Gen.facts, Cert.Pre_pool_finite.Gen.facts, Cert.Pre_ffn_finite.Gen.facts, Cert.Pre_attn_finite.Gen.facts,
  fun m ρ _ => Cert.Loss.Gen.frame m ρ, fun m ρ _ => Cert.LossIdeal.Gen.frame m ρ, Cert.Loss.frame_ref,
  fun m ρ _ => Cert.Mix.Gen.frame m ρ, fun m ρ _ => Cert.MixIdeal.Gen.frame m ρ, Cert.Mix.frame_ref,
  fun m ρ _ => Cert.PoolA.Gen.frame m ρ, fun m ρ _ => Cert.PoolAIdeal.Gen.frame m ρ, Cert.PoolA.frame_ref,
  fun m ρ _ => Cert.Attn.Gen.frame m ρ, fun m ρ _ => Cert.AttnIdeal.Gen.frame m ρ, fun m ρ _ => Cert.AttnIdeal.Gen.frame m ρ,
  Cert.Attn.frame_ref, fun m ρ _ => Cert.Attn.frame_ref m ρ trivial,
  fun m ρ _ => Cert.PoolB.Gen.frame m ρ, fun m ρ _ => Cert.PoolBIdeal.Gen.frame m ρ, fun m ρ _ => Cert.PoolBIdeal.Gen.frame m ρ,
  Cert.PoolB.frame_ref, fun m ρ _ => Cert.PoolB.frame_ref m ρ trivial,
  fun m ρ _ => Cert.NormIn.Gen.frame m ρ, fun m ρ _ => Cert.NormInIdeal.Gen.frame m ρ, Cert.NormIn.frame_ref,
  fun m ρ _ => Cert.Ffn.Gen.frame m ρ, fun m ρ _ => Cert.FfnIdeal.Gen.frame m ρ, fun m ρ _ => Cert.FfnIdeal.Gen.frame m ρ,
  Cert.Ffn.frame_ref, fun m ρ _ => Cert.Ffn.frame_ref m ρ trivial,
  fun m ρ _ => Cert.Norm.Gen.frame m ρ, fun m ρ _ => Cert.NormIdeal.Gen.frame m ρ, Cert.Norm.frame_ref,
  fun m ρ _ => Cert.Rope.Gen.frame m ρ, fun m ρ _ => Cert.RopeIdeal.Gen.frame m ρ, frame_RopeRef,
  fun m ρ _ => Cert.AttnF.Gen.frame m ρ, fun m ρ _ => Cert.AttnFIdeal.Gen.frame m ρ, fun m ρ _ => Cert.AttnFIdeal.Gen.frame m ρ,
  Cert.AttnF.frame_ref, fun m ρ _ => Cert.AttnF.frame_ref m ρ trivial,
  trivial, Cert.Loss.algebraic,
  trivial, Cert.Mix.algebraic,
  trivial, Cert.PoolA.algebraic,
  IdealRules.named_const.statement Cert.AttnIdeal.κ "lane" .f32 0xF2FC6F7C#32 ⊥ rfl, Cert.Attn.algebraic,
  trivial, Cert.PoolB.algebraic,
  trivial, Cert.NormIn.algebraic,
  trivial, Cert.Ffn.algebraic,
  trivial, Cert.Norm.algebraic,
  trivial,
  trivial, Cert.AttnF.algebraic⟩

end Cert.Proof

end
